-- ==== Defs.lean ====
def Pre_Mem (m : (ℓ : Loc Cert.Mem.nD Cert.Mem.τ Cert.Mem.sig) → Buf (Elt Bits) ℓ) : Prop :=
  True

def Pre_MemIdeal (m : (ℓ : Loc Cert.MemIdeal.nD Cert.MemIdeal.τ Cert.MemIdeal.sig) → Buf (Elt Ideal) ℓ) : Prop :=
  True

def Pre_MemIdeal_finite_queries_and_keys [hPre_finite_queries_and_keys : Cert.Pre_finite_queries_and_keys.Facts] (m : (ℓ : Loc Cert.MemIdeal.nD Cert.MemIdeal.τ Cert.MemIdeal.sig) → Buf (Elt Ideal) ℓ) : Prop :=
  ∀ c : Dev Cert.MemIdeal.nD,
    (Cert.Pre_finite_queries_and_keys.fn (F := Ideal) (m ((c.tc : Thread Cert.MemIdeal.nD Cert.MemIdeal.τ).loc Cert.MemIdeal.main_arg0)) (m ((c.tc : Thread Cert.MemIdeal.nD Cert.MemIdeal.τ).loc Cert.MemIdeal.main_arg1)) (m ((c.tc : Thread Cert.MemIdeal.nD Cert.MemIdeal.τ).loc Cert.MemIdeal.main_arg2))) = (fun _ => 1#1)

def Pre_RefMemIdeal (m : (ℓ : Loc Cert.RefMemIdeal.nD Cert.RefMemIdeal.τ Cert.RefMemIdeal.sig) → Buf (Elt Ideal) ℓ) : Prop :=
  True

def Pre_RefMemIdeal_finite_queries_and_keys [hPre_finite_queries_and_keys : Cert.Pre_finite_queries_and_keys.Facts] (m : (ℓ : Loc Cert.RefMemIdeal.nD Cert.RefMemIdeal.τ Cert.RefMemIdeal.sig) → Buf (Elt Ideal) ℓ) : Prop :=
  ∀ c : Dev Cert.RefMemIdeal.nD,
    (Cert.Pre_finite_queries_and_keys.fn (F := Ideal) (m ((c.tc : Thread Cert.RefMemIdeal.nD Cert.RefMemIdeal.τ).loc Cert.RefMemIdeal.main_arg0)) (m ((c.tc : Thread Cert.RefMemIdeal.nD Cert.RefMemIdeal.τ).loc Cert.RefMemIdeal.main_arg1)) (m ((c.tc : Thread Cert.RefMemIdeal.nD Cert.RefMemIdeal.τ).loc Cert.RefMemIdeal.main_arg2))) = (fun _ => 1#1)

def Pre_Memkv (m : (ℓ : Loc Cert.Memkv.nD Cert.Memkv.τ Cert.Memkv.sig) → Buf (Elt Bits) ℓ) : Prop :=
  True

def Pre_MemkvIdeal (m : (ℓ : Loc Cert.MemkvIdeal.nD Cert.MemkvIdeal.τ Cert.MemkvIdeal.sig) → Buf (Elt Ideal) ℓ) : Prop :=
  True

def Pre_RefMemkvIdeal (m : (ℓ : Loc Cert.RefMemkvIdeal.nD Cert.RefMemkvIdeal.τ Cert.RefMemkvIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_RefMixIdeal (m : (ℓ : Loc Cert.RefMixIdeal.nD Cert.RefMixIdeal.τ Cert.RefMixIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_RefProjIdeal (m : (ℓ : Loc Cert.RefProjIdeal.nD Cert.RefProjIdeal.τ Cert.RefProjIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_RefFfnIdeal (m : (ℓ : Loc Cert.RefFfnIdeal.nD Cert.RefFfnIdeal.τ Cert.RefFfnIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_RefAttnIdeal (m : (ℓ : Loc Cert.RefAttnIdeal.nD Cert.RefAttnIdeal.τ Cert.RefAttnIdeal.sig) → Buf (Elt Ideal) ℓ) : Prop :=
  True

def Pre_RefAttnIdeal_finite_scores [hPre_finite_scores : Cert.Pre_finite_scores.Facts] (m : (ℓ : Loc Cert.RefAttnIdeal.nD Cert.RefAttnIdeal.τ Cert.RefAttnIdeal.sig) → Buf (Elt Ideal) ℓ) : Prop :=
  ∀ c : Dev Cert.RefAttnIdeal.nD,
    (Cert.Pre_finite_scores.fn (F := Ideal) (m ((c.tc : Thread Cert.RefAttnIdeal.nD Cert.RefAttnIdeal.τ).loc Cert.RefAttnIdeal.main_arg0)) (m ((c.tc : Thread Cert.RefAttnIdeal.nD Cert.RefAttnIdeal.τ).loc Cert.RefAttnIdeal.main_arg1)) (m ((c.tc : Thread Cert.RefAttnIdeal.nD Cert.RefAttnIdeal.τ).loc Cert.RefAttnIdeal.main_arg2)) (m ((c.tc : Thread Cert.RefAttnIdeal.nD Cert.RefAttnIdeal.τ).loc Cert.RefAttnIdeal.main_arg3))) = (fun _ => 1#1)

def Pre_Projs (m : (ℓ : Loc Cert.Projs.nD Cert.Projs.τ Cert.Projs.sig) → Buf (Elt Bits) ℓ) : Prop :=
  True

def Pre_ProjsIdeal (m : (ℓ : Loc Cert.ProjsIdeal.nD Cert.ProjsIdeal.τ Cert.ProjsIdeal.sig) → Buf (Elt Ideal) ℓ) : Prop :=
  True

def Pre_RefProjsIdeal (m : (ℓ : Loc Cert.RefProjsIdeal.nD Cert.RefProjsIdeal.τ Cert.RefProjsIdeal.sig) → Buf (Elt Ideal) ℓ) : Prop :=
  True

def quiescent_Mem [hMem : Cert.Mem.Facts] : Prop :=
  ∀ (m : (ℓ : Loc Cert.Mem.nD Cert.Mem.τ Cert.Mem.sig) → Buf (Elt Bits) ℓ) (g : Dev Cert.Mem.nD → PrngReg), Pre_Mem m →
    θ_run (Cert.Mem.defs (F := Bits)) (onTc (τ := Cert.Mem.τ) (Cert.Mem.main (F := Bits))) ⟨m, fun _ => 0, g⟩ (fun r => (∀ c : Dev Cert.Mem.nD,
      r.2.mem ((c.tc : Thread Cert.Mem.nD Cert.Mem.τ).loc Cert.Mem.main_arg0) = m ((c.tc : Thread Cert.Mem.nD Cert.Mem.τ).loc Cert.Mem.main_arg0)
      ∧ r.2.mem ((c.tc : Thread Cert.Mem.nD Cert.Mem.τ).loc Cert.Mem.main_arg1) = m ((c.tc : Thread Cert.Mem.nD Cert.Mem.τ).loc Cert.Mem.main_arg1)
      ∧ r.2.mem ((c.tc : Thread Cert.Mem.nD Cert.Mem.τ).loc Cert.Mem.main_arg2) = m ((c.tc : Thread Cert.Mem.nD Cert.Mem.τ).loc Cert.Mem.main_arg2))
      ∧ r.2.sem = fun _ => 0)

def quiescent_MemIdeal [hMemIdeal : Cert.MemIdeal.Facts] : Prop :=
  ∀ (m : (ℓ : Loc Cert.MemIdeal.nD Cert.MemIdeal.τ Cert.MemIdeal.sig) → Buf (Elt Ideal) ℓ) (g : Dev Cert.MemIdeal.nD → PrngReg), Pre_MemIdeal m →
    θ_run (Cert.MemIdeal.defs (F := Ideal)) (onTc (τ := Cert.MemIdeal.τ) (Cert.MemIdeal.main (F := Ideal))) ⟨m, fun _ => 0, g⟩ (fun r => (∀ c : Dev Cert.MemIdeal.nD,
      r.2.mem ((c.tc : Thread Cert.MemIdeal.nD Cert.MemIdeal.τ).loc Cert.MemIdeal.main_arg0) = m ((c.tc : Thread Cert.MemIdeal.nD Cert.MemIdeal.τ).loc Cert.MemIdeal.main_arg0)
      ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
      ∧ r.2.mem ((c.tc : Thread Cert.MemIdeal.nD Cert.MemIdeal.τ).loc Cert.MemIdeal.main_arg2) = m ((c.tc : Thread Cert.MemIdeal.nD Cert.MemIdeal.τ).loc Cert.MemIdeal.main_arg2))
      ∧ r.2.sem = fun _ => 0)

def quiescent_MemIdeal_pre_finite_queries_and_keys [hMemIdeal : Cert.MemIdeal.Facts] [hPre_finite_queries_and_keys : Cert.Pre_finite_queries_and_keys.Facts] : Prop :=
  ∀ (m : (ℓ : Loc Cert.MemIdeal.nD Cert.MemIdeal.τ Cert.MemIdeal.sig) → Buf (Elt Ideal) ℓ) (g : Dev Cert.MemIdeal.nD → PrngReg), Pre_MemIdeal_finite_queries_and_keys m →
    θ_run (Cert.MemIdeal.defs (F := Ideal)) (onTc (τ := Cert.MemIdeal.τ) (Cert.MemIdeal.main (F := Ideal))) ⟨m, fun _ => 0, g⟩ (fun r => (∀ c : Dev Cert.MemIdeal.nD,
      r.2.mem ((c.tc : Thread Cert.MemIdeal.nD Cert.MemIdeal.τ).loc Cert.MemIdeal.main_arg0) = m ((c.tc : Thread Cert.MemIdeal.nD Cert.MemIdeal.τ).loc Cert.MemIdeal.main_arg0)
      ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
      ∧ r.2.mem ((c.tc : Thread Cert.MemIdeal.nD Cert.MemIdeal.τ).loc Cert.MemIdeal.main_arg2) = m ((c.tc : Thread Cert.MemIdeal.nD Cert.MemIdeal.τ).loc Cert.MemIdeal.main_arg2))
      ∧ r.2.sem = fun _ => 0)

def quiescent_RefMemIdeal [hRefMemIdeal : Cert.RefMemIdeal.Facts] : Prop :=
  ∀ (m : (ℓ : Loc Cert.RefMemIdeal.nD Cert.RefMemIdeal.τ Cert.RefMemIdeal.sig) → Buf (Elt Ideal) ℓ) (g : Dev Cert.RefMemIdeal.nD → PrngReg), Pre_RefMemIdeal m →
    θ_run (Cert.RefMemIdeal.defs (F := Ideal)) (onTc (τ := Cert.RefMemIdeal.τ) (Cert.RefMemIdeal.main (F := Ideal))) ⟨m, fun _ => 0, g⟩ (fun r => (∀ c : Dev Cert.RefMemIdeal.nD,
      r.2.mem ((c.tc : Thread Cert.RefMemIdeal.nD Cert.RefMemIdeal.τ).loc Cert.RefMemIdeal.main_arg0) = m ((c.tc : Thread Cert.RefMemIdeal.nD Cert.RefMemIdeal.τ).loc Cert.RefMemIdeal.main_arg0)
      ∧ r.2.mem ((c.tc : Thread Cert.RefMemIdeal.nD Cert.RefMemIdeal.τ).loc Cert.RefMemIdeal.main_arg1) = m ((c.tc : Thread Cert.RefMemIdeal.nD Cert.RefMemIdeal.τ).loc Cert.RefMemIdeal.main_arg1)
      ∧ r.2.mem ((c.tc : Thread Cert.RefMemIdeal.nD Cert.RefMemIdeal.τ).loc Cert.RefMemIdeal.main_arg2) = m ((c.tc : Thread Cert.RefMemIdeal.nD Cert.RefMemIdeal.τ).loc Cert.RefMemIdeal.main_arg2))
      ∧ r.2.sem = fun _ => 0)

def quiescent_RefMemIdeal_pre_finite_queries_and_keys [hRefMemIdeal : Cert.RefMemIdeal.Facts] [hPre_finite_queries_and_keys : Cert.Pre_finite_queries_and_keys.Facts] : Prop :=
  ∀ (m : (ℓ : Loc Cert.RefMemIdeal.nD Cert.RefMemIdeal.τ Cert.RefMemIdeal.sig) → Buf (Elt Ideal) ℓ) (g : Dev Cert.RefMemIdeal.nD → PrngReg), Pre_RefMemIdeal_finite_queries_and_keys m →
    θ_run (Cert.RefMemIdeal.defs (F := Ideal)) (onTc (τ := Cert.RefMemIdeal.τ) (Cert.RefMemIdeal.main (F := Ideal))) ⟨m, fun _ => 0, g⟩ (fun r => (∀ c : Dev Cert.RefMemIdeal.nD,
      r.2.mem ((c.tc : Thread Cert.RefMemIdeal.nD Cert.RefMemIdeal.τ).loc Cert.RefMemIdeal.main_arg0) = m ((c.tc : Thread Cert.RefMemIdeal.nD Cert.RefMemIdeal.τ).loc Cert.RefMemIdeal.main_arg0)
      ∧ r.2.mem ((c.tc : Thread Cert.RefMemIdeal.nD Cert.RefMemIdeal.τ).loc Cert.RefMemIdeal.main_arg1) = m ((c.tc : Thread Cert.RefMemIdeal.nD Cert.RefMemIdeal.τ).loc Cert.RefMemIdeal.main_arg1)
      ∧ r.2.mem ((c.tc : Thread Cert.RefMemIdeal.nD Cert.RefMemIdeal.τ).loc Cert.RefMemIdeal.main_arg2) = m ((c.tc : Thread Cert.RefMemIdeal.nD Cert.RefMemIdeal.τ).loc Cert.RefMemIdeal.main_arg2))
      ∧ r.2.sem = fun _ => 0)

def quiescent_Memkv [hMemkv : Cert.Memkv.Facts] : Prop :=
  ∀ (m : (ℓ : Loc Cert.Memkv.nD Cert.Memkv.τ Cert.Memkv.sig) → Buf (Elt Bits) ℓ) (g : Dev Cert.Memkv.nD → PrngReg), Pre_Memkv m →
    θ_run (Cert.Memkv.defs (F := Bits)) (onTc (τ := Cert.Memkv.τ) (Cert.Memkv.main (F := Bits))) ⟨m, fun _ => 0, g⟩ (fun r => (∀ c : Dev Cert.Memkv.nD,
      r.2.mem ((c.tc : Thread Cert.Memkv.nD Cert.Memkv.τ).loc Cert.Memkv.main_arg0) = m ((c.tc : Thread Cert.Memkv.nD Cert.Memkv.τ).loc Cert.Memkv.main_arg0)
      ∧ r.2.mem ((c.tc : Thread Cert.Memkv.nD Cert.Memkv.τ).loc Cert.Memkv.main_arg1) = m ((c.tc : Thread Cert.Memkv.nD Cert.Memkv.τ).loc Cert.Memkv.main_arg1)
      ∧ r.2.mem ((c.tc : Thread Cert.Memkv.nD Cert.Memkv.τ).loc Cert.Memkv.main_arg2) = m ((c.tc : Thread Cert.Memkv.nD Cert.Memkv.τ).loc Cert.Memkv.main_arg2))
      ∧ r.2.sem = fun _ => 0)

def quiescent_MemkvIdeal [hMemkvIdeal : Cert.MemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg), Pre_MemkvIdeal m →
    θ_run (Cert.MemkvIdeal.defs (F := Ideal)) (onTc (τ := Cert.MemkvIdeal.τ) (Cert.MemkvIdeal.main (F := Ideal))) ⟨m, fun _ => 0, g⟩ (fun r => (∀ c : Dev Cert.MemkvIdeal.nD,
      r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
      ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
      ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2))
      ∧ r.2.sem = fun _ => 0)

def quiescent_RefMemkvIdeal [hRefMemkvIdeal : Cert.RefMemkvIdeal.Facts] : Prop :=
  ∀ (m : (ℓ : Loc Cert.RefMemkvIdeal.nD Cert.RefMemkvIdeal.τ Cert.RefMemkvIdeal.sig) → Buf (Elt Ideal) ℓ) (g : Dev Cert.RefMemkvIdeal.nD → PrngReg), Pre_RefMemkvIdeal m →
    θ_run (Cert.RefMemkvIdeal.defs (F := Ideal)) (onTc (τ := Cert.RefMemkvIdeal.τ) (Cert.RefMemkvIdeal.main (F := Ideal))) ⟨m, fun _ => 0, g⟩ (fun r => (∀ c : Dev Cert.RefMemkvIdeal.nD,
      r.2.mem ((c.tc : Thread Cert.RefMemkvIdeal.nD Cert.RefMemkvIdeal.τ).loc Cert.RefMemkvIdeal.main_arg0) = m ((c.tc : Thread Cert.RefMemkvIdeal.nD Cert.RefMemkvIdeal.τ).loc Cert.RefMemkvIdeal.main_arg0)
      ∧ r.2.mem ((c.tc : Thread Cert.RefMemkvIdeal.nD Cert.RefMemkvIdeal.τ).loc Cert.RefMemkvIdeal.main_arg1) = m ((c.tc : Thread Cert.RefMemkvIdeal.nD Cert.RefMemkvIdeal.τ).loc Cert.RefMemkvIdeal.main_arg1)
      ∧ r.2.mem ((c.tc : Thread Cert.RefMemkvIdeal.nD Cert.RefMemkvIdeal.τ).loc Cert.RefMemkvIdeal.main_arg2) = m ((c.tc : Thread Cert.RefMemkvIdeal.nD Cert.RefMemkvIdeal.τ).loc Cert.RefMemkvIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ r.2.sem = fun _ => 0)

def quiescent_RefMixIdeal [hRefMixIdeal : Cert.RefMixIdeal.Facts] : Prop :=
  ∀ (m : (ℓ : Loc Cert.RefMixIdeal.nD Cert.RefMixIdeal.τ Cert.RefMixIdeal.sig) → Buf (Elt Ideal) ℓ) (g : Dev Cert.RefMixIdeal.nD → PrngReg), Pre_RefMixIdeal m →
    θ_run (Cert.RefMixIdeal.defs (F := Ideal)) (onTc (τ := Cert.RefMixIdeal.τ) (Cert.RefMixIdeal.main (F := Ideal))) ⟨m, fun _ => 0, g⟩ (fun r => (∀ c : Dev Cert.RefMixIdeal.nD,
      r.2.mem ((c.tc : Thread Cert.RefMixIdeal.nD Cert.RefMixIdeal.τ).loc Cert.RefMixIdeal.main_arg0) = m ((c.tc : Thread Cert.RefMixIdeal.nD Cert.RefMixIdeal.τ).loc Cert.RefMixIdeal.main_arg0)
      ∧ r.2.mem ((c.tc : Thread Cert.RefMixIdeal.nD Cert.RefMixIdeal.τ).loc Cert.RefMixIdeal.main_arg1) = m ((c.tc : Thread Cert.RefMixIdeal.nD Cert.RefMixIdeal.τ).loc Cert.RefMixIdeal.main_arg1)
      ∧ r.2.mem ((c.tc : Thread Cert.RefMixIdeal.nD Cert.RefMixIdeal.τ).loc Cert.RefMixIdeal.main_arg2) = m ((c.tc : Thread Cert.RefMixIdeal.nD Cert.RefMixIdeal.τ).loc Cert.RefMixIdeal.main_arg2)
      ∧ r.2.mem ((c.tc : Thread Cert.RefMixIdeal.nD Cert.RefMixIdeal.τ).loc Cert.RefMixIdeal.main_arg3) = m ((c.tc : Thread Cert.RefMixIdeal.nD Cert.RefMixIdeal.τ).loc Cert.RefMixIdeal.main_arg3)
      ∧ r.2.mem ((c.tc : Thread Cert.RefMixIdeal.nD Cert.RefMixIdeal.τ).loc Cert.RefMixIdeal.main_arg4) = m ((c.tc : Thread Cert.RefMixIdeal.nD Cert.RefMixIdeal.τ).loc Cert.RefMixIdeal.main_arg4)
      ∧ r.2.mem ((c.tc : Thread Cert.RefMixIdeal.nD Cert.RefMixIdeal.τ).loc Cert.RefMixIdeal.main_arg5) = m ((c.tc : Thread Cert.RefMixIdeal.nD Cert.RefMixIdeal.τ).loc Cert.RefMixIdeal.main_arg5)
      ∧ r.2.mem ((c.tc : Thread Cert.RefMixIdeal.nD Cert.RefMixIdeal.τ).loc Cert.RefMixIdeal.main_arg6) = m ((c.tc : Thread Cert.RefMixIdeal.nD Cert.RefMixIdeal.τ).loc Cert.RefMixIdeal.main_arg6)
      ∧ r.2.mem ((c.tc : Thread Cert.RefMixIdeal.nD Cert.RefMixIdeal.τ).loc Cert.RefMixIdeal.main_arg7) = m ((c.tc : Thread Cert.RefMixIdeal.nD Cert.RefMixIdeal.τ).loc Cert.RefMixIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_RefProjIdeal [hRefProjIdeal : Cert.RefProjIdeal.Facts] : Prop :=
  ∀ (m : (ℓ : Loc Cert.RefProjIdeal.nD Cert.RefProjIdeal.τ Cert.RefProjIdeal.sig) → Buf (Elt Ideal) ℓ) (g : Dev Cert.RefProjIdeal.nD → PrngReg), Pre_RefProjIdeal m →
    θ_run (Cert.RefProjIdeal.defs (F := Ideal)) (onTc (τ := Cert.RefProjIdeal.τ) (Cert.RefProjIdeal.main (F := Ideal))) ⟨m, fun _ => 0, g⟩ (fun r => (∀ c : Dev Cert.RefProjIdeal.nD,
      r.2.mem ((c.tc : Thread Cert.RefProjIdeal.nD Cert.RefProjIdeal.τ).loc Cert.RefProjIdeal.main_arg0) = m ((c.tc : Thread Cert.RefProjIdeal.nD Cert.RefProjIdeal.τ).loc Cert.RefProjIdeal.main_arg0)
      ∧ r.2.mem ((c.tc : Thread Cert.RefProjIdeal.nD Cert.RefProjIdeal.τ).loc Cert.RefProjIdeal.main_arg1) = m ((c.tc : Thread Cert.RefProjIdeal.nD Cert.RefProjIdeal.τ).loc Cert.RefProjIdeal.main_arg1)
      ∧ r.2.mem ((c.tc : Thread Cert.RefProjIdeal.nD Cert.RefProjIdeal.τ).loc Cert.RefProjIdeal.main_arg2) = m ((c.tc : Thread Cert.RefProjIdeal.nD Cert.RefProjIdeal.τ).loc Cert.RefProjIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_RefFfnIdeal [hRefFfnIdeal : Cert.RefFfnIdeal.Facts] : Prop :=
  ∀ (m : (ℓ : Loc Cert.RefFfnIdeal.nD Cert.RefFfnIdeal.τ Cert.RefFfnIdeal.sig) → Buf (Elt Ideal) ℓ) (g : Dev Cert.RefFfnIdeal.nD → PrngReg), Pre_RefFfnIdeal m →
    θ_run (Cert.RefFfnIdeal.defs (F := Ideal)) (onTc (τ := Cert.RefFfnIdeal.τ) (Cert.RefFfnIdeal.main (F := Ideal))) ⟨m, fun _ => 0, g⟩ (fun r => (∀ c : Dev Cert.RefFfnIdeal.nD,
      r.2.mem ((c.tc : Thread Cert.RefFfnIdeal.nD Cert.RefFfnIdeal.τ).loc Cert.RefFfnIdeal.main_arg0) = m ((c.tc : Thread Cert.RefFfnIdeal.nD Cert.RefFfnIdeal.τ).loc Cert.RefFfnIdeal.main_arg0)
      ∧ r.2.mem ((c.tc : Thread Cert.RefFfnIdeal.nD Cert.RefFfnIdeal.τ).loc Cert.RefFfnIdeal.main_arg1) = m ((c.tc : Thread Cert.RefFfnIdeal.nD Cert.RefFfnIdeal.τ).loc Cert.RefFfnIdeal.main_arg1)
      ∧ r.2.mem ((c.tc : Thread Cert.RefFfnIdeal.nD Cert.RefFfnIdeal.τ).loc Cert.RefFfnIdeal.main_arg2) = m ((c.tc : Thread Cert.RefFfnIdeal.nD Cert.RefFfnIdeal.τ).loc Cert.RefFfnIdeal.main_arg2)
      ∧ r.2.mem ((c.tc : Thread Cert.RefFfnIdeal.nD Cert.RefFfnIdeal.τ).loc Cert.RefFfnIdeal.main_arg3) = m ((c.tc : Thread Cert.RefFfnIdeal.nD Cert.RefFfnIdeal.τ).loc Cert.RefFfnIdeal.main_arg3)
      ∧ r.2.mem ((c.tc : Thread Cert.RefFfnIdeal.nD Cert.RefFfnIdeal.τ).loc Cert.RefFfnIdeal.main_arg4) = m ((c.tc : Thread Cert.RefFfnIdeal.nD Cert.RefFfnIdeal.τ).loc Cert.RefFfnIdeal.main_arg4)
      ∧ r.2.mem ((c.tc : Thread Cert.RefFfnIdeal.nD Cert.RefFfnIdeal.τ).loc Cert.RefFfnIdeal.main_arg5) = m ((c.tc : Thread Cert.RefFfnIdeal.nD Cert.RefFfnIdeal.τ).loc Cert.RefFfnIdeal.main_arg5)
      ∧ r.2.mem ((c.tc : Thread Cert.RefFfnIdeal.nD Cert.RefFfnIdeal.τ).loc Cert.RefFfnIdeal.main_arg6) = m ((c.tc : Thread Cert.RefFfnIdeal.nD Cert.RefFfnIdeal.τ).loc Cert.RefFfnIdeal.main_arg6))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_RefAttnIdeal [hRefAttnIdeal : Cert.RefAttnIdeal.Facts] : Prop :=
  ∀ (m : (ℓ : Loc Cert.RefAttnIdeal.nD Cert.RefAttnIdeal.τ Cert.RefAttnIdeal.sig) → Buf (Elt Ideal) ℓ) (g : Dev Cert.RefAttnIdeal.nD → PrngReg), Pre_RefAttnIdeal m →
    θ_run (Cert.RefAttnIdeal.defs (F := Ideal)) (onTc (τ := Cert.RefAttnIdeal.τ) (Cert.RefAttnIdeal.main (F := Ideal))) ⟨m, fun _ => 0, g⟩ (fun r => (∀ c : Dev Cert.RefAttnIdeal.nD,
      r.2.mem ((c.tc : Thread Cert.RefAttnIdeal.nD Cert.RefAttnIdeal.τ).loc Cert.RefAttnIdeal.main_arg0) = m ((c.tc : Thread Cert.RefAttnIdeal.nD Cert.RefAttnIdeal.τ).loc Cert.RefAttnIdeal.main_arg0)
      ∧ r.2.mem ((c.tc : Thread Cert.RefAttnIdeal.nD Cert.RefAttnIdeal.τ).loc Cert.RefAttnIdeal.main_arg1) = m ((c.tc : Thread Cert.RefAttnIdeal.nD Cert.RefAttnIdeal.τ).loc Cert.RefAttnIdeal.main_arg1)
      ∧ r.2.mem ((c.tc : Thread Cert.RefAttnIdeal.nD Cert.RefAttnIdeal.τ).loc Cert.RefAttnIdeal.main_arg2) = m ((c.tc : Thread Cert.RefAttnIdeal.nD Cert.RefAttnIdeal.τ).loc Cert.RefAttnIdeal.main_arg2)
      ∧ r.2.mem ((c.tc : Thread Cert.RefAttnIdeal.nD Cert.RefAttnIdeal.τ).loc Cert.RefAttnIdeal.main_arg3) = m ((c.tc : Thread Cert.RefAttnIdeal.nD Cert.RefAttnIdeal.τ).loc Cert.RefAttnIdeal.main_arg3))
      ∧ r.2.sem = fun _ => 0)

def quiescent_RefAttnIdeal_pre_finite_scores [hRefAttnIdeal : Cert.RefAttnIdeal.Facts] [hPre_finite_scores : Cert.Pre_finite_scores.Facts] : Prop :=
  ∀ (m : (ℓ : Loc Cert.RefAttnIdeal.nD Cert.RefAttnIdeal.τ Cert.RefAttnIdeal.sig) → Buf (Elt Ideal) ℓ) (g : Dev Cert.RefAttnIdeal.nD → PrngReg), Pre_RefAttnIdeal_finite_scores m →
    θ_run (Cert.RefAttnIdeal.defs (F := Ideal)) (onTc (τ := Cert.RefAttnIdeal.τ) (Cert.RefAttnIdeal.main (F := Ideal))) ⟨m, fun _ => 0, g⟩ (fun r => (∀ c : Dev Cert.RefAttnIdeal.nD,
      r.2.mem ((c.tc : Thread Cert.RefAttnIdeal.nD Cert.RefAttnIdeal.τ).loc Cert.RefAttnIdeal.main_arg0) = m ((c.tc : Thread Cert.RefAttnIdeal.nD Cert.RefAttnIdeal.τ).loc Cert.RefAttnIdeal.main_arg0)
      ∧ r.2.mem ((c.tc : Thread Cert.RefAttnIdeal.nD Cert.RefAttnIdeal.τ).loc Cert.RefAttnIdeal.main_arg1) = m ((c.tc : Thread Cert.RefAttnIdeal.nD Cert.RefAttnIdeal.τ).loc Cert.RefAttnIdeal.main_arg1)
      ∧ r.2.mem ((c.tc : Thread Cert.RefAttnIdeal.nD Cert.RefAttnIdeal.τ).loc Cert.RefAttnIdeal.main_arg2) = m ((c.tc : Thread Cert.RefAttnIdeal.nD Cert.RefAttnIdeal.τ).loc Cert.RefAttnIdeal.main_arg2)
      ∧ r.2.mem ((c.tc : Thread Cert.RefAttnIdeal.nD Cert.RefAttnIdeal.τ).loc Cert.RefAttnIdeal.main_arg3) = m ((c.tc : Thread Cert.RefAttnIdeal.nD Cert.RefAttnIdeal.τ).loc Cert.RefAttnIdeal.main_arg3))
      ∧ r.2.sem = fun _ => 0)

def quiescent_Projs [hProjs : Cert.Projs.Facts] : Prop :=
  ∀ (m : (ℓ : Loc Cert.Projs.nD Cert.Projs.τ Cert.Projs.sig) → Buf (Elt Bits) ℓ) (g : Dev Cert.Projs.nD → PrngReg), Pre_Projs m →
    θ_run (Cert.Projs.defs (F := Bits)) (onTc (τ := Cert.Projs.τ) (Cert.Projs.main (F := Bits))) ⟨m, fun _ => 0, g⟩ (fun r => (∀ c : Dev Cert.Projs.nD,
      r.2.mem ((c.tc : Thread Cert.Projs.nD Cert.Projs.τ).loc Cert.Projs.main_arg0) = m ((c.tc : Thread Cert.Projs.nD Cert.Projs.τ).loc Cert.Projs.main_arg0)
      ∧ r.2.mem ((c.tc : Thread Cert.Projs.nD Cert.Projs.τ).loc Cert.Projs.main_arg1) = m ((c.tc : Thread Cert.Projs.nD Cert.Projs.τ).loc Cert.Projs.main_arg1)
      ∧ r.2.mem ((c.tc : Thread Cert.Projs.nD Cert.Projs.τ).loc Cert.Projs.main_arg2) = m ((c.tc : Thread Cert.Projs.nD Cert.Projs.τ).loc Cert.Projs.main_arg2)
      ∧ r.2.mem ((c.tc : Thread Cert.Projs.nD Cert.Projs.τ).loc Cert.Projs.main_arg3) = m ((c.tc : Thread Cert.Projs.nD Cert.Projs.τ).loc Cert.Projs.main_arg3)
      ∧ r.2.mem ((c.tc : Thread Cert.Projs.nD Cert.Projs.τ).loc Cert.Projs.main_arg4) = m ((c.tc : Thread Cert.Projs.nD Cert.Projs.τ).loc Cert.Projs.main_arg4))
      ∧ r.2.sem = fun _ => 0)

def quiescent_ProjsIdeal [hProjsIdeal : Cert.ProjsIdeal.Facts] : Prop :=
  ∀ (m : (ℓ : Loc Cert.ProjsIdeal.nD Cert.ProjsIdeal.τ Cert.ProjsIdeal.sig) → Buf (Elt Ideal) ℓ) (g : Dev Cert.ProjsIdeal.nD → PrngReg), Pre_ProjsIdeal m →
    θ_run (Cert.ProjsIdeal.defs (F := Ideal)) (onTc (τ := Cert.ProjsIdeal.τ) (Cert.ProjsIdeal.main (F := Ideal))) ⟨m, fun _ => 0, g⟩ (fun r => (∀ c : Dev Cert.ProjsIdeal.nD,
      r.2.mem ((c.tc : Thread Cert.ProjsIdeal.nD Cert.ProjsIdeal.τ).loc Cert.ProjsIdeal.main_arg0) = m ((c.tc : Thread Cert.ProjsIdeal.nD Cert.ProjsIdeal.τ).loc Cert.ProjsIdeal.main_arg0)
      ∧ r.2.mem ((c.tc : Thread Cert.ProjsIdeal.nD Cert.ProjsIdeal.τ).loc Cert.ProjsIdeal.main_arg1) = m ((c.tc : Thread Cert.ProjsIdeal.nD Cert.ProjsIdeal.τ).loc Cert.ProjsIdeal.main_arg1)
      ∧ r.2.mem ((c.tc : Thread Cert.ProjsIdeal.nD Cert.ProjsIdeal.τ).loc Cert.ProjsIdeal.main_arg2) = m ((c.tc : Thread Cert.ProjsIdeal.nD Cert.ProjsIdeal.τ).loc Cert.ProjsIdeal.main_arg2)
      ∧ r.2.mem ((c.tc : Thread Cert.ProjsIdeal.nD Cert.ProjsIdeal.τ).loc Cert.ProjsIdeal.main_arg3) = m ((c.tc : Thread Cert.ProjsIdeal.nD Cert.ProjsIdeal.τ).loc Cert.ProjsIdeal.main_arg3)
      ∧ r.2.mem ((c.tc : Thread Cert.ProjsIdeal.nD Cert.ProjsIdeal.τ).loc Cert.ProjsIdeal.main_arg4) = m ((c.tc : Thread Cert.ProjsIdeal.nD Cert.ProjsIdeal.τ).loc Cert.ProjsIdeal.main_arg4))
      ∧ r.2.sem = fun _ => 0)

def quiescent_RefProjsIdeal [hRefProjsIdeal : Cert.RefProjsIdeal.Facts] : Prop :=
  ∀ (m : (ℓ : Loc Cert.RefProjsIdeal.nD Cert.RefProjsIdeal.τ Cert.RefProjsIdeal.sig) → Buf (Elt Ideal) ℓ) (g : Dev Cert.RefProjsIdeal.nD → PrngReg), Pre_RefProjsIdeal m →
    θ_run (Cert.RefProjsIdeal.defs (F := Ideal)) (onTc (τ := Cert.RefProjsIdeal.τ) (Cert.RefProjsIdeal.main (F := Ideal))) ⟨m, fun _ => 0, g⟩ (fun r => (∀ c : Dev Cert.RefProjsIdeal.nD,
      r.2.mem ((c.tc : Thread Cert.RefProjsIdeal.nD Cert.RefProjsIdeal.τ).loc Cert.RefProjsIdeal.main_arg0) = m ((c.tc : Thread Cert.RefProjsIdeal.nD Cert.RefProjsIdeal.τ).loc Cert.RefProjsIdeal.main_arg0)
      ∧ r.2.mem ((c.tc : Thread Cert.RefProjsIdeal.nD Cert.RefProjsIdeal.τ).loc Cert.RefProjsIdeal.main_arg1) = m ((c.tc : Thread Cert.RefProjsIdeal.nD Cert.RefProjsIdeal.τ).loc Cert.RefProjsIdeal.main_arg1)
      ∧ r.2.mem ((c.tc : Thread Cert.RefProjsIdeal.nD Cert.RefProjsIdeal.τ).loc Cert.RefProjsIdeal.main_arg2) = m ((c.tc : Thread Cert.RefProjsIdeal.nD Cert.RefProjsIdeal.τ).loc Cert.RefProjsIdeal.main_arg2)
      ∧ r.2.mem ((c.tc : Thread Cert.RefProjsIdeal.nD Cert.RefProjsIdeal.τ).loc Cert.RefProjsIdeal.main_arg3) = m ((c.tc : Thread Cert.RefProjsIdeal.nD Cert.RefProjsIdeal.τ).loc Cert.RefProjsIdeal.main_arg3)
      ∧ r.2.mem ((c.tc : Thread Cert.RefProjsIdeal.nD Cert.RefProjsIdeal.τ).loc Cert.RefProjsIdeal.main_arg4) = m ((c.tc : Thread Cert.RefProjsIdeal.nD Cert.RefProjsIdeal.τ).loc Cert.RefProjsIdeal.main_arg4))
      ∧ r.2.sem = fun _ => 0)

def preserves_Mem_MemIdeal : Prop :=
  True

def algebraic_MemIdeal_RefMemIdeal_pre_finite_queries_and_keys [hMemIdeal : Cert.MemIdeal.Facts] [hRefMemIdeal : Cert.RefMemIdeal.Facts] [hPre_finite_queries_and_keys : Cert.Pre_finite_queries_and_keys.Facts] : Prop :=
  ∀ (m : (ℓ : Loc Cert.MemIdeal.nD Cert.MemIdeal.τ Cert.MemIdeal.sig) → Buf (Elt Ideal) ℓ) (g : Dev Cert.MemIdeal.nD → PrngReg)
    (m' : (ℓ : Loc Cert.RefMemIdeal.nD Cert.RefMemIdeal.τ Cert.RefMemIdeal.sig) → Buf (Elt Ideal) ℓ) (g' : Dev Cert.RefMemIdeal.nD → PrngReg), Pre_MemIdeal_finite_queries_and_keys m →
    (∀ c : Dev Cert.MemIdeal.nD,
      m' ((c.tc : Thread Cert.RefMemIdeal.nD Cert.RefMemIdeal.τ).loc Cert.RefMemIdeal.main_arg0) = m ((c.tc : Thread Cert.MemIdeal.nD Cert.MemIdeal.τ).loc Cert.MemIdeal.main_arg0)
      ∧ m' ((c.tc : Thread Cert.RefMemIdeal.nD Cert.RefMemIdeal.τ).loc Cert.RefMemIdeal.main_arg1) = m ((c.tc : Thread Cert.MemIdeal.nD Cert.MemIdeal.τ).loc Cert.MemIdeal.main_arg1)
      ∧ m' ((c.tc : Thread Cert.RefMemIdeal.nD Cert.RefMemIdeal.τ).loc Cert.RefMemIdeal.main_arg2) = m ((c.tc : Thread Cert.MemIdeal.nD Cert.MemIdeal.τ).loc Cert.MemIdeal.main_arg2)) →
    ∃ (v0 : (c : Dev Cert.MemIdeal.nD) → Buf (Elt Ideal) ((c.tc : Thread Cert.MemIdeal.nD Cert.MemIdeal.τ).loc Cert.MemIdeal.main_v3)),
      θ_run (Cert.MemIdeal.defs (F := Ideal)) (onTc (τ := Cert.MemIdeal.τ) (Cert.MemIdeal.main (F := Ideal))) ⟨m, fun _ => 0, g⟩ (fun r => ∀ c : Dev Cert.MemIdeal.nD,
          r.2.mem ((c.tc : Thread Cert.MemIdeal.nD Cert.MemIdeal.τ).loc Cert.MemIdeal.main_v3) = v0 c
          ∧ r.2.mem ((c.tc : Thread Cert.MemIdeal.nD Cert.MemIdeal.τ).loc Cert.MemIdeal.main_arg0) = m ((c.tc : Thread Cert.MemIdeal.nD Cert.MemIdeal.τ).loc Cert.MemIdeal.main_arg0)
          ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
          ∧ r.2.mem ((c.tc : Thread Cert.MemIdeal.nD Cert.MemIdeal.τ).loc Cert.MemIdeal.main_arg2) = m ((c.tc : Thread Cert.MemIdeal.nD Cert.MemIdeal.τ).loc Cert.MemIdeal.main_arg2))
      ∧ θ_run (Cert.RefMemIdeal.defs (F := Ideal)) (onTc (τ := Cert.RefMemIdeal.τ) (Cert.RefMemIdeal.main (F := Ideal))) ⟨m', fun _ => 0, g'⟩ (fun r => ∀ c : Dev Cert.RefMemIdeal.nD,
          r.2.mem ((c.tc : Thread Cert.RefMemIdeal.nD Cert.RefMemIdeal.τ).loc Cert.RefMemIdeal.main_v19) = v0 c
          ∧ r.2.mem ((c.tc : Thread Cert.RefMemIdeal.nD Cert.RefMemIdeal.τ).loc Cert.RefMemIdeal.main_arg0) = m' ((c.tc : Thread Cert.RefMemIdeal.nD Cert.RefMemIdeal.τ).loc Cert.RefMemIdeal.main_arg0)
          ∧ r.2.mem ((c.tc : Thread Cert.RefMemIdeal.nD Cert.RefMemIdeal.τ).loc Cert.RefMemIdeal.main_arg1) = m' ((c.tc : Thread Cert.RefMemIdeal.nD Cert.RefMemIdeal.τ).loc Cert.RefMemIdeal.main_arg1)
          ∧ r.2.mem ((c.tc : Thread Cert.RefMemIdeal.nD Cert.RefMemIdeal.τ).loc Cert.RefMemIdeal.main_arg2) = m' ((c.tc : Thread Cert.RefMemIdeal.nD Cert.RefMemIdeal.τ).loc Cert.RefMemIdeal.main_arg2))

def preserves_Memkv_MemkvIdeal : Prop :=
  True

def algebraic_MemkvIdeal_RefMemkvIdeal [hMemkvIdeal : Cert.MemkvIdeal.Facts] [hRefMemkvIdeal : Cert.RefMemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg)
    (m' : (ℓ : Loc Cert.RefMemkvIdeal.nD Cert.RefMemkvIdeal.τ Cert.RefMemkvIdeal.sig) → Buf (Elt Ideal) ℓ) (g' : Dev Cert.RefMemkvIdeal.nD → PrngReg), Pre_MemkvIdeal m →
    (∀ c : Dev Cert.MemkvIdeal.nD,
      m' ((c.tc : Thread Cert.RefMemkvIdeal.nD Cert.RefMemkvIdeal.τ).loc Cert.RefMemkvIdeal.main_arg0) = m ((c.tc : Thread Cert.MemkvIdeal.nD Cert.MemkvIdeal.τ).loc Cert.MemkvIdeal.main_arg0)
      ∧ m' ((c.tc : Thread Cert.RefMemkvIdeal.nD Cert.RefMemkvIdeal.τ).loc Cert.RefMemkvIdeal.main_arg1) = m ((c.tc : Thread Cert.MemkvIdeal.nD Cert.MemkvIdeal.τ).loc Cert.MemkvIdeal.main_arg1)
      ∧ m' ((c.tc : Thread Cert.RefMemkvIdeal.nD Cert.RefMemkvIdeal.τ).loc Cert.RefMemkvIdeal.main_arg2) = m ((c.tc : Thread Cert.MemkvIdeal.nD Cert.MemkvIdeal.τ).loc Cert.MemkvIdeal.main_arg2)) →
    ∃ (v0 : (c : Dev Cert.MemkvIdeal.nD) → Buf (Elt Ideal) ((c.tc : Thread Cert.MemkvIdeal.nD Cert.MemkvIdeal.τ).loc Cert.MemkvIdeal.main_v3_0)) (v1 : (c : Dev Cert.MemkvIdeal.nD) → Buf (Elt Ideal) ((c.tc : Thread Cert.MemkvIdeal.nD Cert.MemkvIdeal.τ).loc Cert.MemkvIdeal.main_v3_1)),
      θ_run (Cert.MemkvIdeal.defs (F := Ideal)) (onTc (τ := Cert.MemkvIdeal.τ) (Cert.MemkvIdeal.main (F := Ideal))) ⟨m, fun _ => 0, g⟩ (fun r => ∀ c : Dev Cert.MemkvIdeal.nD,
          r.2.mem ((c.tc : Thread Cert.MemkvIdeal.nD Cert.MemkvIdeal.τ).loc Cert.MemkvIdeal.main_v3_0) = v0 c
          ∧ r.2.mem ((c.tc : Thread Cert.MemkvIdeal.nD Cert.MemkvIdeal.τ).loc Cert.MemkvIdeal.main_v3_1) = v1 c
          ∧ r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
          ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
          ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2))
      ∧ θ_run (Cert.RefMemkvIdeal.defs (F := Ideal)) (onTc (τ := Cert.RefMemkvIdeal.τ) (Cert.RefMemkvIdeal.main (F := Ideal))) ⟨m', fun _ => 0, g'⟩ (fun r => ∀ c : Dev Cert.RefMemkvIdeal.nD,
          r.2.mem ((c.tc : Thread Cert.RefMemkvIdeal.nD Cert.RefMemkvIdeal.τ).loc Cert.RefMemkvIdeal.main_v16) = v0 c
          ∧ r.2.mem ((c.tc : Thread Cert.RefMemkvIdeal.nD Cert.RefMemkvIdeal.τ).loc Cert.RefMemkvIdeal.main_v17) = v1 c
          ∧ r.2.mem ((c.tc : Thread Cert.RefMemkvIdeal.nD Cert.RefMemkvIdeal.τ).loc Cert.RefMemkvIdeal.main_arg0) = m' ((c.tc : Thread Cert.RefMemkvIdeal.nD Cert.RefMemkvIdeal.τ).loc Cert.RefMemkvIdeal.main_arg0)
          ∧ r.2.mem ((c.tc : Thread Cert.RefMemkvIdeal.nD Cert.RefMemkvIdeal.τ).loc Cert.RefMemkvIdeal.main_arg1) = m' ((c.tc : Thread Cert.RefMemkvIdeal.nD Cert.RefMemkvIdeal.τ).loc Cert.RefMemkvIdeal.main_arg1)
          ∧ r.2.mem ((c.tc : Thread Cert.RefMemkvIdeal.nD Cert.RefMemkvIdeal.τ).loc Cert.RefMemkvIdeal.main_arg2) = m' ((c.tc : Thread Cert.RefMemkvIdeal.nD Cert.RefMemkvIdeal.τ).loc Cert.RefMemkvIdeal.main_arg2))

def preserves_Mix_MixIdeal : Prop :=
  True

def algebraic_MixIdeal_RefMixIdeal [hMixIdeal : Cert.MixIdeal.Facts] [hRefMixIdeal : Cert.RefMixIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.RefMixIdeal.nD Cert.RefMixIdeal.τ Cert.RefMixIdeal.sig) → Buf (Elt Ideal) ℓ) (g' : Dev Cert.RefMixIdeal.nD → PrngReg), Pre_MixIdeal m →
    (∀ c : Dev Cert.MixIdeal.nD,
      m' ((c.tc : Thread Cert.RefMixIdeal.nD Cert.RefMixIdeal.τ).loc Cert.RefMixIdeal.main_arg0) = m ((c.tc : Thread Cert.MixIdeal.nD Cert.MixIdeal.τ).loc Cert.MixIdeal.main_arg0)
      ∧ m' ((c.tc : Thread Cert.RefMixIdeal.nD Cert.RefMixIdeal.τ).loc Cert.RefMixIdeal.main_arg1) = m ((c.tc : Thread Cert.MixIdeal.nD Cert.MixIdeal.τ).loc Cert.MixIdeal.main_arg1)
      ∧ m' ((c.tc : Thread Cert.RefMixIdeal.nD Cert.RefMixIdeal.τ).loc Cert.RefMixIdeal.main_arg2) = m ((c.tc : Thread Cert.MixIdeal.nD Cert.MixIdeal.τ).loc Cert.MixIdeal.main_arg2)
      ∧ m' ((c.tc : Thread Cert.RefMixIdeal.nD Cert.RefMixIdeal.τ).loc Cert.RefMixIdeal.main_arg3) = m ((c.tc : Thread Cert.MixIdeal.nD Cert.MixIdeal.τ).loc Cert.MixIdeal.main_arg3)
      ∧ m' ((c.tc : Thread Cert.RefMixIdeal.nD Cert.RefMixIdeal.τ).loc Cert.RefMixIdeal.main_arg4) = m ((c.tc : Thread Cert.MixIdeal.nD Cert.MixIdeal.τ).loc Cert.MixIdeal.main_arg4)
      ∧ m' ((c.tc : Thread Cert.RefMixIdeal.nD Cert.RefMixIdeal.τ).loc Cert.RefMixIdeal.main_arg5) = m ((c.tc : Thread Cert.MixIdeal.nD Cert.MixIdeal.τ).loc Cert.MixIdeal.main_arg5)
      ∧ m' ((c.tc : Thread Cert.RefMixIdeal.nD Cert.RefMixIdeal.τ).loc Cert.RefMixIdeal.main_arg6) = m ((c.tc : Thread Cert.MixIdeal.nD Cert.MixIdeal.τ).loc Cert.MixIdeal.main_arg6)
      ∧ m' ((c.tc : Thread Cert.RefMixIdeal.nD Cert.RefMixIdeal.τ).loc Cert.RefMixIdeal.main_arg7) = m ((c.tc : Thread Cert.MixIdeal.nD Cert.MixIdeal.τ).loc Cert.MixIdeal.main_arg7)) →
    ∃ (v0 : (c : Dev Cert.MixIdeal.nD) → Buf (Elt Ideal) ((c.tc : Thread Cert.MixIdeal.nD Cert.MixIdeal.τ).loc Cert.MixIdeal.main_v15)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v15) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ θ_run (Cert.RefMixIdeal.defs (F := Ideal)) (onTc (τ := Cert.RefMixIdeal.τ) (Cert.RefMixIdeal.main (F := Ideal))) ⟨m', fun _ => 0, g'⟩ (fun r => ∀ c : Dev Cert.RefMixIdeal.nD,
          r.2.mem ((c.tc : Thread Cert.RefMixIdeal.nD Cert.RefMixIdeal.τ).loc Cert.RefMixIdeal.main_v44) = v0 c
          ∧ r.2.mem ((c.tc : Thread Cert.RefMixIdeal.nD Cert.RefMixIdeal.τ).loc Cert.RefMixIdeal.main_arg0) = m' ((c.tc : Thread Cert.RefMixIdeal.nD Cert.RefMixIdeal.τ).loc Cert.RefMixIdeal.main_arg0)
          ∧ r.2.mem ((c.tc : Thread Cert.RefMixIdeal.nD Cert.RefMixIdeal.τ).loc Cert.RefMixIdeal.main_arg1) = m' ((c.tc : Thread Cert.RefMixIdeal.nD Cert.RefMixIdeal.τ).loc Cert.RefMixIdeal.main_arg1)
          ∧ r.2.mem ((c.tc : Thread Cert.RefMixIdeal.nD Cert.RefMixIdeal.τ).loc Cert.RefMixIdeal.main_arg2) = m' ((c.tc : Thread Cert.RefMixIdeal.nD Cert.RefMixIdeal.τ).loc Cert.RefMixIdeal.main_arg2)
          ∧ r.2.mem ((c.tc : Thread Cert.RefMixIdeal.nD Cert.RefMixIdeal.τ).loc Cert.RefMixIdeal.main_arg3) = m' ((c.tc : Thread Cert.RefMixIdeal.nD Cert.RefMixIdeal.τ).loc Cert.RefMixIdeal.main_arg3)
          ∧ r.2.mem ((c.tc : Thread Cert.RefMixIdeal.nD Cert.RefMixIdeal.τ).loc Cert.RefMixIdeal.main_arg4) = m' ((c.tc : Thread Cert.RefMixIdeal.nD Cert.RefMixIdeal.τ).loc Cert.RefMixIdeal.main_arg4)
          ∧ r.2.mem ((c.tc : Thread Cert.RefMixIdeal.nD Cert.RefMixIdeal.τ).loc Cert.RefMixIdeal.main_arg5) = m' ((c.tc : Thread Cert.RefMixIdeal.nD Cert.RefMixIdeal.τ).loc Cert.RefMixIdeal.main_arg5)
          ∧ r.2.mem ((c.tc : Thread Cert.RefMixIdeal.nD Cert.RefMixIdeal.τ).loc Cert.RefMixIdeal.main_arg6) = m' ((c.tc : Thread Cert.RefMixIdeal.nD Cert.RefMixIdeal.τ).loc Cert.RefMixIdeal.main_arg6)
          ∧ r.2.mem ((c.tc : Thread Cert.RefMixIdeal.nD Cert.RefMixIdeal.τ).loc Cert.RefMixIdeal.main_arg7) = m' ((c.tc : Thread Cert.RefMixIdeal.nD Cert.RefMixIdeal.τ).loc Cert.RefMixIdeal.main_arg7))

def preserves_Proj_ProjIdeal : Prop :=
  True

def algebraic_ProjIdeal_RefProjIdeal [hProjIdeal : Cert.ProjIdeal.Facts] [hRefProjIdeal : Cert.RefProjIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.RefProjIdeal.nD Cert.RefProjIdeal.τ Cert.RefProjIdeal.sig) → Buf (Elt Ideal) ℓ) (g' : Dev Cert.RefProjIdeal.nD → PrngReg), Pre_ProjIdeal m →
    (∀ c : Dev Cert.ProjIdeal.nD,
      m' ((c.tc : Thread Cert.RefProjIdeal.nD Cert.RefProjIdeal.τ).loc Cert.RefProjIdeal.main_arg0) = m ((c.tc : Thread Cert.ProjIdeal.nD Cert.ProjIdeal.τ).loc Cert.ProjIdeal.main_arg0)
      ∧ m' ((c.tc : Thread Cert.RefProjIdeal.nD Cert.RefProjIdeal.τ).loc Cert.RefProjIdeal.main_arg1) = m ((c.tc : Thread Cert.ProjIdeal.nD Cert.ProjIdeal.τ).loc Cert.ProjIdeal.main_arg1)
      ∧ m' ((c.tc : Thread Cert.RefProjIdeal.nD Cert.RefProjIdeal.τ).loc Cert.RefProjIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v7_0)) (v1 : (c : Dev Cert.ProjIdeal.nD) → Buf (Elt Ideal) ((c.tc : Thread Cert.ProjIdeal.nD Cert.ProjIdeal.τ).loc Cert.ProjIdeal.main_v7_1)) (v2 : (c : Dev Cert.ProjIdeal.nD) → Buf (Elt Ideal) ((c.tc : Thread Cert.ProjIdeal.nD Cert.ProjIdeal.τ).loc Cert.ProjIdeal.main_v7_2)) (v3 : (c : Dev Cert.ProjIdeal.nD) → Buf (Elt Ideal) ((c.tc : Thread Cert.ProjIdeal.nD Cert.ProjIdeal.τ).loc Cert.ProjIdeal.main_v7_3)) (v4 : (c : Dev Cert.ProjIdeal.nD) → Buf (Elt Ideal) ((c.tc : Thread Cert.ProjIdeal.nD Cert.ProjIdeal.τ).loc Cert.ProjIdeal.main_v7_4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v7_0) = v0 c
          ∧ r.2.mem ((c.tc : Thread Cert.ProjIdeal.nD Cert.ProjIdeal.τ).loc Cert.ProjIdeal.main_v7_1) = v1 c
          ∧ r.2.mem ((c.tc : Thread Cert.ProjIdeal.nD Cert.ProjIdeal.τ).loc Cert.ProjIdeal.main_v7_2) = v2 c
          ∧ r.2.mem ((c.tc : Thread Cert.ProjIdeal.nD Cert.ProjIdeal.τ).loc Cert.ProjIdeal.main_v7_3) = v3 c
          ∧ r.2.mem ((c.tc : Thread Cert.ProjIdeal.nD Cert.ProjIdeal.τ).loc Cert.ProjIdeal.main_v7_4) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.RefProjIdeal.defs (F := Ideal)) (onTc (τ := Cert.RefProjIdeal.τ) (Cert.RefProjIdeal.main (F := Ideal))) ⟨m', fun _ => 0, g'⟩ (fun r => ∀ c : Dev Cert.RefProjIdeal.nD,
          r.2.mem ((c.tc : Thread Cert.RefProjIdeal.nD Cert.RefProjIdeal.τ).loc Cert.RefProjIdeal.main_v23) = v0 c
          ∧ r.2.mem ((c.tc : Thread Cert.RefProjIdeal.nD Cert.RefProjIdeal.τ).loc Cert.RefProjIdeal.main_v17) = v1 c
          ∧ r.2.mem ((c.tc : Thread Cert.RefProjIdeal.nD Cert.RefProjIdeal.τ).loc Cert.RefProjIdeal.main_v18) = v2 c
          ∧ r.2.mem ((c.tc : Thread Cert.RefProjIdeal.nD Cert.RefProjIdeal.τ).loc Cert.RefProjIdeal.main_v24) = v3 c
          ∧ r.2.mem ((c.tc : Thread Cert.RefProjIdeal.nD Cert.RefProjIdeal.τ).loc Cert.RefProjIdeal.main_v25) = v4 c
          ∧ r.2.mem ((c.tc : Thread Cert.RefProjIdeal.nD Cert.RefProjIdeal.τ).loc Cert.RefProjIdeal.main_arg0) = m' ((c.tc : Thread Cert.RefProjIdeal.nD Cert.RefProjIdeal.τ).loc Cert.RefProjIdeal.main_arg0)
          ∧ r.2.mem ((c.tc : Thread Cert.RefProjIdeal.nD Cert.RefProjIdeal.τ).loc Cert.RefProjIdeal.main_arg1) = m' ((c.tc : Thread Cert.RefProjIdeal.nD Cert.RefProjIdeal.τ).loc Cert.RefProjIdeal.main_arg1)
          ∧ r.2.mem ((c.tc : Thread Cert.RefProjIdeal.nD Cert.RefProjIdeal.τ).loc Cert.RefProjIdeal.main_arg2) = m' ((c.tc : Thread Cert.RefProjIdeal.nD Cert.RefProjIdeal.τ).loc Cert.RefProjIdeal.main_arg2))

def preserves_Ffn_FfnIdeal : Prop :=
  True

def algebraic_FfnIdeal_RefFfnIdeal [hFfnIdeal : Cert.FfnIdeal.Facts] [hRefFfnIdeal : Cert.RefFfnIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.RefFfnIdeal.nD Cert.RefFfnIdeal.τ Cert.RefFfnIdeal.sig) → Buf (Elt Ideal) ℓ) (g' : Dev Cert.RefFfnIdeal.nD → PrngReg), Pre_FfnIdeal m →
    (∀ c : Dev Cert.FfnIdeal.nD,
      m' ((c.tc : Thread Cert.RefFfnIdeal.nD Cert.RefFfnIdeal.τ).loc Cert.RefFfnIdeal.main_arg0) = m ((c.tc : Thread Cert.FfnIdeal.nD Cert.FfnIdeal.τ).loc Cert.FfnIdeal.main_arg0)
      ∧ m' ((c.tc : Thread Cert.RefFfnIdeal.nD Cert.RefFfnIdeal.τ).loc Cert.RefFfnIdeal.main_arg1) = m ((c.tc : Thread Cert.FfnIdeal.nD Cert.FfnIdeal.τ).loc Cert.FfnIdeal.main_arg1)
      ∧ m' ((c.tc : Thread Cert.RefFfnIdeal.nD Cert.RefFfnIdeal.τ).loc Cert.RefFfnIdeal.main_arg2) = m ((c.tc : Thread Cert.FfnIdeal.nD Cert.FfnIdeal.τ).loc Cert.FfnIdeal.main_arg2)
      ∧ m' ((c.tc : Thread Cert.RefFfnIdeal.nD Cert.RefFfnIdeal.τ).loc Cert.RefFfnIdeal.main_arg3) = m ((c.tc : Thread Cert.FfnIdeal.nD Cert.FfnIdeal.τ).loc Cert.FfnIdeal.main_arg3)
      ∧ m' ((c.tc : Thread Cert.RefFfnIdeal.nD Cert.RefFfnIdeal.τ).loc Cert.RefFfnIdeal.main_arg4) = m ((c.tc : Thread Cert.FfnIdeal.nD Cert.FfnIdeal.τ).loc Cert.FfnIdeal.main_arg4)
      ∧ m' ((c.tc : Thread Cert.RefFfnIdeal.nD Cert.RefFfnIdeal.τ).loc Cert.RefFfnIdeal.main_arg5) = m ((c.tc : Thread Cert.FfnIdeal.nD Cert.FfnIdeal.τ).loc Cert.FfnIdeal.main_arg5)
      ∧ m' ((c.tc : Thread Cert.RefFfnIdeal.nD Cert.RefFfnIdeal.τ).loc Cert.RefFfnIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v9_0)) (v1 : (c : Dev Cert.FfnIdeal.nD) → Buf (Elt Ideal) ((c.tc : Thread Cert.FfnIdeal.nD Cert.FfnIdeal.τ).loc Cert.FfnIdeal.main_v12)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9_0) = v0 c
          ∧ r.2.mem ((c.tc : Thread Cert.FfnIdeal.nD Cert.FfnIdeal.τ).loc Cert.FfnIdeal.main_v12) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.RefFfnIdeal.defs (F := Ideal)) (onTc (τ := Cert.RefFfnIdeal.τ) (Cert.RefFfnIdeal.main (F := Ideal))) ⟨m', fun _ => 0, g'⟩ (fun r => ∀ c : Dev Cert.RefFfnIdeal.nD,
          r.2.mem ((c.tc : Thread Cert.RefFfnIdeal.nD Cert.RefFfnIdeal.τ).loc Cert.RefFfnIdeal.main_v71) = v0 c
          ∧ r.2.mem ((c.tc : Thread Cert.RefFfnIdeal.nD Cert.RefFfnIdeal.τ).loc Cert.RefFfnIdeal.main_v72) = v1 c
          ∧ r.2.mem ((c.tc : Thread Cert.RefFfnIdeal.nD Cert.RefFfnIdeal.τ).loc Cert.RefFfnIdeal.main_arg0) = m' ((c.tc : Thread Cert.RefFfnIdeal.nD Cert.RefFfnIdeal.τ).loc Cert.RefFfnIdeal.main_arg0)
          ∧ r.2.mem ((c.tc : Thread Cert.RefFfnIdeal.nD Cert.RefFfnIdeal.τ).loc Cert.RefFfnIdeal.main_arg1) = m' ((c.tc : Thread Cert.RefFfnIdeal.nD Cert.RefFfnIdeal.τ).loc Cert.RefFfnIdeal.main_arg1)
          ∧ r.2.mem ((c.tc : Thread Cert.RefFfnIdeal.nD Cert.RefFfnIdeal.τ).loc Cert.RefFfnIdeal.main_arg2) = m' ((c.tc : Thread Cert.RefFfnIdeal.nD Cert.RefFfnIdeal.τ).loc Cert.RefFfnIdeal.main_arg2)
          ∧ r.2.mem ((c.tc : Thread Cert.RefFfnIdeal.nD Cert.RefFfnIdeal.τ).loc Cert.RefFfnIdeal.main_arg3) = m' ((c.tc : Thread Cert.RefFfnIdeal.nD Cert.RefFfnIdeal.τ).loc Cert.RefFfnIdeal.main_arg3)
          ∧ r.2.mem ((c.tc : Thread Cert.RefFfnIdeal.nD Cert.RefFfnIdeal.τ).loc Cert.RefFfnIdeal.main_arg4) = m' ((c.tc : Thread Cert.RefFfnIdeal.nD Cert.RefFfnIdeal.τ).loc Cert.RefFfnIdeal.main_arg4)
          ∧ r.2.mem ((c.tc : Thread Cert.RefFfnIdeal.nD Cert.RefFfnIdeal.τ).loc Cert.RefFfnIdeal.main_arg5) = m' ((c.tc : Thread Cert.RefFfnIdeal.nD Cert.RefFfnIdeal.τ).loc Cert.RefFfnIdeal.main_arg5)
          ∧ r.2.mem ((c.tc : Thread Cert.RefFfnIdeal.nD Cert.RefFfnIdeal.τ).loc Cert.RefFfnIdeal.main_arg6) = m' ((c.tc : Thread Cert.RefFfnIdeal.nD Cert.RefFfnIdeal.τ).loc Cert.RefFfnIdeal.main_arg6))

def preserves_Attn_AttnIdeal : Prop :=
  True

def algebraic_AttnIdeal_RefAttnIdeal_pre_finite_scores [hAttnIdeal : Cert.AttnIdeal.Facts] [hRefAttnIdeal : Cert.RefAttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.RefAttnIdeal.nD Cert.RefAttnIdeal.τ Cert.RefAttnIdeal.sig) → Buf (Elt Ideal) ℓ) (g' : Dev Cert.RefAttnIdeal.nD → PrngReg), Pre_AttnIdeal_finite_scores m →
    (∀ c : Dev Cert.AttnIdeal.nD,
      m' ((c.tc : Thread Cert.RefAttnIdeal.nD Cert.RefAttnIdeal.τ).loc Cert.RefAttnIdeal.main_arg0) = m ((c.tc : Thread Cert.AttnIdeal.nD Cert.AttnIdeal.τ).loc Cert.AttnIdeal.main_arg0)
      ∧ m' ((c.tc : Thread Cert.RefAttnIdeal.nD Cert.RefAttnIdeal.τ).loc Cert.RefAttnIdeal.main_arg1) = m ((c.tc : Thread Cert.AttnIdeal.nD Cert.AttnIdeal.τ).loc Cert.AttnIdeal.main_arg1)
      ∧ m' ((c.tc : Thread Cert.RefAttnIdeal.nD Cert.RefAttnIdeal.τ).loc Cert.RefAttnIdeal.main_arg2) = m ((c.tc : Thread Cert.AttnIdeal.nD Cert.AttnIdeal.τ).loc Cert.AttnIdeal.main_arg2)
      ∧ m' ((c.tc : Thread Cert.RefAttnIdeal.nD Cert.RefAttnIdeal.τ).loc Cert.RefAttnIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v18)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v18) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.RefAttnIdeal.defs (F := Ideal)) (onTc (τ := Cert.RefAttnIdeal.τ) (Cert.RefAttnIdeal.main (F := Ideal))) ⟨m', fun _ => 0, g'⟩ (fun r => ∀ c : Dev Cert.RefAttnIdeal.nD,
          r.2.mem ((c.tc : Thread Cert.RefAttnIdeal.nD Cert.RefAttnIdeal.τ).loc Cert.RefAttnIdeal.main_v62) = v0 c
          ∧ r.2.mem ((c.tc : Thread Cert.RefAttnIdeal.nD Cert.RefAttnIdeal.τ).loc Cert.RefAttnIdeal.main_arg0) = m' ((c.tc : Thread Cert.RefAttnIdeal.nD Cert.RefAttnIdeal.τ).loc Cert.RefAttnIdeal.main_arg0)
          ∧ r.2.mem ((c.tc : Thread Cert.RefAttnIdeal.nD Cert.RefAttnIdeal.τ).loc Cert.RefAttnIdeal.main_arg1) = m' ((c.tc : Thread Cert.RefAttnIdeal.nD Cert.RefAttnIdeal.τ).loc Cert.RefAttnIdeal.main_arg1)
          ∧ r.2.mem ((c.tc : Thread Cert.RefAttnIdeal.nD Cert.RefAttnIdeal.τ).loc Cert.RefAttnIdeal.main_arg2) = m' ((c.tc : Thread Cert.RefAttnIdeal.nD Cert.RefAttnIdeal.τ).loc Cert.RefAttnIdeal.main_arg2)
          ∧ r.2.mem ((c.tc : Thread Cert.RefAttnIdeal.nD Cert.RefAttnIdeal.τ).loc Cert.RefAttnIdeal.main_arg3) = m' ((c.tc : Thread Cert.RefAttnIdeal.nD Cert.RefAttnIdeal.τ).loc Cert.RefAttnIdeal.main_arg3))

def preserves_Projs_ProjsIdeal : Prop :=
  True

def algebraic_ProjsIdeal_RefProjsIdeal [hProjsIdeal : Cert.ProjsIdeal.Facts] [hRefProjsIdeal : Cert.RefProjsIdeal.Facts] : Prop :=
  ∀ (m : (ℓ : Loc Cert.ProjsIdeal.nD Cert.ProjsIdeal.τ Cert.ProjsIdeal.sig) → Buf (Elt Ideal) ℓ) (g : Dev Cert.ProjsIdeal.nD → PrngReg)
    (m' : (ℓ : Loc Cert.RefProjsIdeal.nD Cert.RefProjsIdeal.τ Cert.RefProjsIdeal.sig) → Buf (Elt Ideal) ℓ) (g' : Dev Cert.RefProjsIdeal.nD → PrngReg), Pre_ProjsIdeal m →
    (∀ c : Dev Cert.ProjsIdeal.nD,
      m' ((c.tc : Thread Cert.RefProjsIdeal.nD Cert.RefProjsIdeal.τ).loc Cert.RefProjsIdeal.main_arg0) = m ((c.tc : Thread Cert.ProjsIdeal.nD Cert.ProjsIdeal.τ).loc Cert.ProjsIdeal.main_arg0)
      ∧ m' ((c.tc : Thread Cert.RefProjsIdeal.nD Cert.RefProjsIdeal.τ).loc Cert.RefProjsIdeal.main_arg1) = m ((c.tc : Thread Cert.ProjsIdeal.nD Cert.ProjsIdeal.τ).loc Cert.ProjsIdeal.main_arg1)
      ∧ m' ((c.tc : Thread Cert.RefProjsIdeal.nD Cert.RefProjsIdeal.τ).loc Cert.RefProjsIdeal.main_arg2) = m ((c.tc : Thread Cert.ProjsIdeal.nD Cert.ProjsIdeal.τ).loc Cert.ProjsIdeal.main_arg2)
      ∧ m' ((c.tc : Thread Cert.RefProjsIdeal.nD Cert.RefProjsIdeal.τ).loc Cert.RefProjsIdeal.main_arg3) = m ((c.tc : Thread Cert.ProjsIdeal.nD Cert.ProjsIdeal.τ).loc Cert.ProjsIdeal.main_arg3)
      ∧ m' ((c.tc : Thread Cert.RefProjsIdeal.nD Cert.RefProjsIdeal.τ).loc Cert.RefProjsIdeal.main_arg4) = m ((c.tc : Thread Cert.ProjsIdeal.nD Cert.ProjsIdeal.τ).loc Cert.ProjsIdeal.main_arg4)) →
    ∃ (v0 : (c : Dev Cert.ProjsIdeal.nD) → Buf (Elt Ideal) ((c.tc : Thread Cert.ProjsIdeal.nD Cert.ProjsIdeal.τ).loc Cert.ProjsIdeal.main_v7_0)) (v1 : (c : Dev Cert.ProjsIdeal.nD) → Buf (Elt Ideal) ((c.tc : Thread Cert.ProjsIdeal.nD Cert.ProjsIdeal.τ).loc Cert.ProjsIdeal.main_v7_1)) (v2 : (c : Dev Cert.ProjsIdeal.nD) → Buf (Elt Ideal) ((c.tc : Thread Cert.ProjsIdeal.nD Cert.ProjsIdeal.τ).loc Cert.ProjsIdeal.main_v7_2)) (v3 : (c : Dev Cert.ProjsIdeal.nD) → Buf (Elt Ideal) ((c.tc : Thread Cert.ProjsIdeal.nD Cert.ProjsIdeal.τ).loc Cert.ProjsIdeal.main_v7_3)) (v4 : (c : Dev Cert.ProjsIdeal.nD) → Buf (Elt Ideal) ((c.tc : Thread Cert.ProjsIdeal.nD Cert.ProjsIdeal.τ).loc Cert.ProjsIdeal.main_v7_4)) (v5 : (c : Dev Cert.ProjsIdeal.nD) → Buf (Elt Ideal) ((c.tc : Thread Cert.ProjsIdeal.nD Cert.ProjsIdeal.τ).loc Cert.ProjsIdeal.main_v14)) (v6 : (c : Dev Cert.ProjsIdeal.nD) → Buf (Elt Ideal) ((c.tc : Thread Cert.ProjsIdeal.nD Cert.ProjsIdeal.τ).loc Cert.ProjsIdeal.main_v18)),
      θ_run (Cert.ProjsIdeal.defs (F := Ideal)) (onTc (τ := Cert.ProjsIdeal.τ) (Cert.ProjsIdeal.main (F := Ideal))) ⟨m, fun _ => 0, g⟩ (fun r => ∀ c : Dev Cert.ProjsIdeal.nD,
          r.2.mem ((c.tc : Thread Cert.ProjsIdeal.nD Cert.ProjsIdeal.τ).loc Cert.ProjsIdeal.main_v7_0) = v0 c
          ∧ r.2.mem ((c.tc : Thread Cert.ProjsIdeal.nD Cert.ProjsIdeal.τ).loc Cert.ProjsIdeal.main_v7_1) = v1 c
          ∧ r.2.mem ((c.tc : Thread Cert.ProjsIdeal.nD Cert.ProjsIdeal.τ).loc Cert.ProjsIdeal.main_v7_2) = v2 c
          ∧ r.2.mem ((c.tc : Thread Cert.ProjsIdeal.nD Cert.ProjsIdeal.τ).loc Cert.ProjsIdeal.main_v7_3) = v3 c
          ∧ r.2.mem ((c.tc : Thread Cert.ProjsIdeal.nD Cert.ProjsIdeal.τ).loc Cert.ProjsIdeal.main_v7_4) = v4 c
          ∧ r.2.mem ((c.tc : Thread Cert.ProjsIdeal.nD Cert.ProjsIdeal.τ).loc Cert.ProjsIdeal.main_v14) = v5 c
          ∧ r.2.mem ((c.tc : Thread Cert.ProjsIdeal.nD Cert.ProjsIdeal.τ).loc Cert.ProjsIdeal.main_v18) = v6 c
          ∧ r.2.mem ((c.tc : Thread Cert.ProjsIdeal.nD Cert.ProjsIdeal.τ).loc Cert.ProjsIdeal.main_arg0) = m ((c.tc : Thread Cert.ProjsIdeal.nD Cert.ProjsIdeal.τ).loc Cert.ProjsIdeal.main_arg0)
          ∧ r.2.mem ((c.tc : Thread Cert.ProjsIdeal.nD Cert.ProjsIdeal.τ).loc Cert.ProjsIdeal.main_arg1) = m ((c.tc : Thread Cert.ProjsIdeal.nD Cert.ProjsIdeal.τ).loc Cert.ProjsIdeal.main_arg1)
          ∧ r.2.mem ((c.tc : Thread Cert.ProjsIdeal.nD Cert.ProjsIdeal.τ).loc Cert.ProjsIdeal.main_arg2) = m ((c.tc : Thread Cert.ProjsIdeal.nD Cert.ProjsIdeal.τ).loc Cert.ProjsIdeal.main_arg2)
          ∧ r.2.mem ((c.tc : Thread Cert.ProjsIdeal.nD Cert.ProjsIdeal.τ).loc Cert.ProjsIdeal.main_arg3) = m ((c.tc : Thread Cert.ProjsIdeal.nD Cert.ProjsIdeal.τ).loc Cert.ProjsIdeal.main_arg3)
          ∧ r.2.mem ((c.tc : Thread Cert.ProjsIdeal.nD Cert.ProjsIdeal.τ).loc Cert.ProjsIdeal.main_arg4) = m ((c.tc : Thread Cert.ProjsIdeal.nD Cert.ProjsIdeal.τ).loc Cert.ProjsIdeal.main_arg4))
      ∧ θ_run (Cert.RefProjsIdeal.defs (F := Ideal)) (onTc (τ := Cert.RefProjsIdeal.τ) (Cert.RefProjsIdeal.main (F := Ideal))) ⟨m', fun _ => 0, g'⟩ (fun r => ∀ c : Dev Cert.RefProjsIdeal.nD,
          r.2.mem ((c.tc : Thread Cert.RefProjsIdeal.nD Cert.RefProjsIdeal.τ).loc Cert.RefProjsIdeal.main_v29) = v0 c
          ∧ r.2.mem ((c.tc : Thread Cert.RefProjsIdeal.nD Cert.RefProjsIdeal.τ).loc Cert.RefProjsIdeal.main_v17) = v1 c
          ∧ r.2.mem ((c.tc : Thread Cert.RefProjsIdeal.nD Cert.RefProjsIdeal.τ).loc Cert.RefProjsIdeal.main_v18) = v2 c
          ∧ r.2.mem ((c.tc : Thread Cert.RefProjsIdeal.nD Cert.RefProjsIdeal.τ).loc Cert.RefProjsIdeal.main_v30) = v3 c
          ∧ r.2.mem ((c.tc : Thread Cert.RefProjsIdeal.nD Cert.RefProjsIdeal.τ).loc Cert.RefProjsIdeal.main_v31) = v4 c
          ∧ r.2.mem ((c.tc : Thread Cert.RefProjsIdeal.nD Cert.RefProjsIdeal.τ).loc Cert.RefProjsIdeal.main_v32) = v5 c
          ∧ r.2.mem ((c.tc : Thread Cert.RefProjsIdeal.nD Cert.RefProjsIdeal.τ).loc Cert.RefProjsIdeal.main_v33) = v6 c
          ∧ r.2.mem ((c.tc : Thread Cert.RefProjsIdeal.nD Cert.RefProjsIdeal.τ).loc Cert.RefProjsIdeal.main_arg0) = m' ((c.tc : Thread Cert.RefProjsIdeal.nD Cert.RefProjsIdeal.τ).loc Cert.RefProjsIdeal.main_arg0)
          ∧ r.2.mem ((c.tc : Thread Cert.RefProjsIdeal.nD Cert.RefProjsIdeal.τ).loc Cert.RefProjsIdeal.main_arg1) = m' ((c.tc : Thread Cert.RefProjsIdeal.nD Cert.RefProjsIdeal.τ).loc Cert.RefProjsIdeal.main_arg1)
          ∧ r.2.mem ((c.tc : Thread Cert.RefProjsIdeal.nD Cert.RefProjsIdeal.τ).loc Cert.RefProjsIdeal.main_arg2) = m' ((c.tc : Thread Cert.RefProjsIdeal.nD Cert.RefProjsIdeal.τ).loc Cert.RefProjsIdeal.main_arg2)
          ∧ r.2.mem ((c.tc : Thread Cert.RefProjsIdeal.nD Cert.RefProjsIdeal.τ).loc Cert.RefProjsIdeal.main_arg3) = m' ((c.tc : Thread Cert.RefProjsIdeal.nD Cert.RefProjsIdeal.τ).loc Cert.RefProjsIdeal.main_arg3)
          ∧ r.2.mem ((c.tc : Thread Cert.RefProjsIdeal.nD Cert.RefProjsIdeal.τ).loc Cert.RefProjsIdeal.main_arg4) = m' ((c.tc : Thread Cert.RefProjsIdeal.nD Cert.RefProjsIdeal.τ).loc Cert.RefProjsIdeal.main_arg4))

def Claim : Prop :=
  ∃ (hMem : Cert.Mem.Facts) (hMemIdeal : Cert.MemIdeal.Facts) (hRefMemIdeal : Cert.RefMemIdeal.Facts) (hMemkv : Cert.Memkv.Facts) (hMemkvIdeal : Cert.MemkvIdeal.Facts) (hRefMemkvIdeal : Cert.RefMemkvIdeal.Facts) (hMix : Cert.Mix.Facts) (hMixIdeal : Cert.MixIdeal.Facts) (hRefMixIdeal : Cert.RefMixIdeal.Facts) (hProj : Cert.Proj.Facts) (hProjIdeal : Cert.ProjIdeal.Facts) (hRefProjIdeal : Cert.RefProjIdeal.Facts) (hFfn : Cert.Ffn.Facts) (hFfnIdeal : Cert.FfnIdeal.Facts) (hRefFfnIdeal : Cert.RefFfnIdeal.Facts) (hAttn : Cert.Attn.Facts) (hAttnIdeal : Cert.AttnIdeal.Facts) (hRefAttnIdeal : Cert.RefAttnIdeal.Facts) (hProjs : Cert.Projs.Facts) (hProjsIdeal : Cert.ProjsIdeal.Facts) (hRefProjsIdeal : Cert.RefProjsIdeal.Facts) (hPre_finite_queries_and_keys : Cert.Pre_finite_queries_and_keys.Facts) (hPre_finite_scores : Cert.Pre_finite_scores.Facts),
    quiescent_Mem (hMem := hMem)
    ∧ quiescent_MemIdeal (hMemIdeal := hMemIdeal)
    ∧ quiescent_MemIdeal_pre_finite_queries_and_keys (hMemIdeal := hMemIdeal) (hPre_finite_queries_and_keys := hPre_finite_queries_and_keys)
    ∧ quiescent_RefMemIdeal (hRefMemIdeal := hRefMemIdeal)
    ∧ quiescent_RefMemIdeal_pre_finite_queries_and_keys (hRefMemIdeal := hRefMemIdeal) (hPre_finite_queries_and_keys := hPre_finite_queries_and_keys)
    ∧ quiescent_Memkv (hMemkv := hMemkv)
    ∧ quiescent_MemkvIdeal (hMemkvIdeal := hMemkvIdeal)
    ∧ quiescent_RefMemkvIdeal (hRefMemkvIdeal := hRefMemkvIdeal)
    ∧ quiescent_Mix (hMix := hMix)
    ∧ quiescent_MixIdeal (hMixIdeal := hMixIdeal)
    ∧ quiescent_RefMixIdeal (hRefMixIdeal := hRefMixIdeal)
    ∧ quiescent_Proj (hProj := hProj)
    ∧ quiescent_ProjIdeal (hProjIdeal := hProjIdeal)
    ∧ quiescent_RefProjIdeal (hRefProjIdeal := hRefProjIdeal)
    ∧ quiescent_Ffn (hFfn := hFfn)
    ∧ quiescent_FfnIdeal (hFfnIdeal := hFfnIdeal)
    ∧ quiescent_RefFfnIdeal (hRefFfnIdeal := hRefFfnIdeal)
    ∧ quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_RefAttnIdeal (hRefAttnIdeal := hRefAttnIdeal)
    ∧ quiescent_RefAttnIdeal_pre_finite_scores (hRefAttnIdeal := hRefAttnIdeal) (hPre_finite_scores := hPre_finite_scores)
    ∧ quiescent_Projs (hProjs := hProjs)
    ∧ quiescent_ProjsIdeal (hProjsIdeal := hProjsIdeal)
    ∧ quiescent_RefProjsIdeal (hRefProjsIdeal := hRefProjsIdeal)
    ∧ preserves_Mem_MemIdeal
    ∧ algebraic_MemIdeal_RefMemIdeal_pre_finite_queries_and_keys (hMemIdeal := hMemIdeal) (hRefMemIdeal := hRefMemIdeal) (hPre_finite_queries_and_keys := hPre_finite_queries_and_keys)
    ∧ preserves_Memkv_MemkvIdeal
    ∧ algebraic_MemkvIdeal_RefMemkvIdeal (hMemkvIdeal := hMemkvIdeal) (hRefMemkvIdeal := hRefMemkvIdeal)
    ∧ preserves_Mix_MixIdeal
    ∧ algebraic_MixIdeal_RefMixIdeal (hMixIdeal := hMixIdeal) (hRefMixIdeal := hRefMixIdeal)
    ∧ preserves_Proj_ProjIdeal
    ∧ algebraic_ProjIdeal_RefProjIdeal (hProjIdeal := hProjIdeal) (hRefProjIdeal := hRefProjIdeal)
    ∧ preserves_Ffn_FfnIdeal
    ∧ algebraic_FfnIdeal_RefFfnIdeal (hFfnIdeal := hFfnIdeal) (hRefFfnIdeal := hRefFfnIdeal)
    ∧ preserves_Attn_AttnIdeal
    ∧ algebraic_AttnIdeal_RefAttnIdeal_pre_finite_scores (hAttnIdeal := hAttnIdeal) (hRefAttnIdeal := hRefAttnIdeal) (hPre_finite_scores := hPre_finite_scores)
    ∧ preserves_Projs_ProjsIdeal
    ∧ algebraic_ProjsIdeal_RefProjsIdeal (hProjsIdeal := hProjsIdeal) (hRefProjsIdeal := hRefProjsIdeal)
-- ==== Pre_finite_queries_and_keys.lean ====
abbrev S8x2048x512 : Shape := ⟨3, ![8, 2048, 512]⟩
abbrev S8x256x4x128 : Shape := ⟨4, ![8, 256, 4, 128]⟩
abbrev S_ : Shape := ⟨0, ![]⟩

class Facts : Prop where
  bitsLt_bf16_f32 : FTy.bits .bf16 < FTy.bits .f32
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S8x256x4x128 : S_.BroadcastsInDim S8x256x4x128 (![] : Fin 0 → Fin S8x256x4x128.rank)
  reducesTo_S8x256x4x128_S_d0_1_2_3 : S8x256x4x128.ReducesTo [0, 1, 2, 3] S_

variable [Facts]

def fn {F : FTy → Type} [FloatOps F] (main_arg0 : FVec F S8x2048x512 .bf16) (main_arg1 : FVec F S8x256x4x128 .f32) (main_arg2 : FVec F S8x256x4x128 .f32) : IVec S_ 1 :=
  let main_v0 : FVec F S8x2048x512 .f32 := (extf .f32 · bitsLt_bf16_f32) main_arg0
  let main_v1 : FVec F S8x2048x512 .f32 := Host.absf main_v0
  let main_cst : FVec F S_ .f32 := constant S_ .f32 0x7F800000#32
  let main_v2 : FVec F S8x2048x512 .f32 := broadcastInDim S8x2048x512 ![] bcast_S_S8x2048x512 main_cst
  let main_v3 : IVec S8x2048x512 1 := cmpf .olt main_v1 main_v2
  let main_c : IVec S_ 1 := constantI S_ 1 1#1
  let main_v4 : IVec S_ 1 := (fun x v => Host.reduce IntOp.andi x v reducesTo_S8x2048x512_S_d0_1_2 h_S_) main_v3 main_c
  let main_v5 : FVec F S8x256x4x128 .f32 := Host.absf main_arg1
  let main_cst_0 : FVec F S_ .f32 := constant S_ .f32 0x7F800000#32
  let main_v6 : FVec F S8x256x4x128 .f32 := broadcastInDim S8x256x4x128 ![] bcast_S_S8x256x4x128 main_cst_0
  let main_v7 : IVec S8x256x4x128 1 := cmpf .olt main_v5 main_v6
  let main_c_1 : IVec S_ 1 := constantI S_ 1 1#1
  let main_v8 : IVec S_ 1 := (fun x v => Host.reduce IntOp.andi x v reducesTo_S8x256x4x128_S_d0_1_2_3 h_S_) main_v7 main_c_1
  let main_v9 : IVec S_ 1 := andi main_v4 main_v8
  main_v9
-- ==== Pre_finite_scores.lean ====
abbrev S8x2048x768 : Shape := ⟨3, ![8, 2048, 768]⟩
abbrev S8x2048x512 : Shape := ⟨3, ![8, 2048, 512]⟩
abbrev S12x64x192 : Shape := ⟨3, ![12, 64, 192]⟩
abbrev S12 : Shape := ⟨1, ![12]⟩
abbrev S_ : Shape := ⟨0, ![]⟩
abbrev S8x2048x256 : Shape := ⟨3, ![8, 2048, 256]⟩

class Facts : Prop where
  bitsLt_bf16_f32 : FTy.bits .bf16 < FTy.bits .f32
  bcast_S_S8x2048x768 : S_.BroadcastsInDim S8x2048x768 (![] : Fin 0 → Fin S8x2048x768.rank)
  reducesTo_S8x2048x768_S_d0_1_2 : S8x2048x768.ReducesTo [0, 1, 2] S_
  h_S_ : 0 < S_.numel
  slices_S8x2048x512_S8x2048x256_0_0_0 : S8x2048x512.Slices ![0, 0, 0] S8x2048x256
  bcast_S_S8x2048x256 : S_.BroadcastsInDim S8x2048x256 (![] : Fin 0 → Fin S8x2048x256.rank)
  reducesTo_S8x2048x256_S_d0_1_2 : S8x2048x256.ReducesTo [0, 1, 2] S_
  bcast_S_S12x64x192 : S_.BroadcastsInDim S12x64x192 (![] : Fin 0 → Fin S12x64x192.rank)
  reducesTo_S12x64x192_S_d0_1_2 : S12x64x192.ReducesTo [0, 1, 2] S_
  bcast_S_S12 : S_.BroadcastsInDim S12 (![] : Fin 0 → Fin S12.rank)
  reducesTo_S12_S_d0 : S12.ReducesTo [0] S_

variable [Facts]

def fn_part1 {F : FTy → Type} [FloatOps F] (main_v15 : IVec S_ 1) (main_v16 : FVec F S12 .f32) (main_cst_4 : FVec F S_ .f32) : IVec S_ 1 :=
  let main_v17 : FVec F S12 .f32 := broadcastInDim S12 ![] bcast_S_S12 main_cst_4
  let main_v18 : IVec S12 1 := cmpf .olt main_v16 main_v17
  let main_c_5 : IVec S_ 1 := constantI S_ 1 1#1
  let main_v19 : IVec S_ 1 := (fun x v => Host.reduce IntOp.andi x v reducesTo_S12_S_d0 h_S_) main_v18 main_c_5
  let main_v20 : IVec S_ 1 := andi main_v15 main_v19
  main_v20

def fn {F : FTy → Type} [FloatOps F] (main_arg0 : FVec F S8x2048x768 .bf16) (main_arg1 : FVec F S8x2048x512 .f32) (main_arg2 : FVec F S12x64x192 .f32) (main_arg3 : FVec F S12 .f32) : IVec S_ 1 :=
  let main_v0 : FVec F S8x2048x768 .f32 := (extf .f32 · bitsLt_bf16_f32) main_arg0
  let main_v1 : FVec F S8x2048x768 .f32 := Host.absf main_v0
  let main_cst : FVec F S_ .f32 := constant S_ .f32 0x7F800000#32
  let main_v2 : FVec F S8x2048x768 .f32 := broadcastInDim S8x2048x768 ![] bcast_S_S8x2048x768 main_cst
  let main_v3 : IVec S8x2048x768 1 := cmpf .olt main_v1 main_v2
  let main_c : IVec S_ 1 := constantI S_ 1 1#1
  let main_v4 : IVec S_ 1 := (fun x v => Host.reduce IntOp.andi x v reducesTo_S8x2048x768_S_d0_1_2 h_S_) main_v3 main_c
  let main_v5 : FVec F S8x2048x256 .f32 := (extractStridedSlice S8x2048x256 ![0, 0, 0] · slices_S8x2048x512_S8x2048x256_0_0_0) main_arg1
  let main_v6 : FVec F S8x2048x256 .f32 := Host.absf main_v5
  let main_cst_0 : FVec F S_ .f32 := constant S_ .f32 0x7F800000#32
  let main_v7 : FVec F S8x2048x256 .f32 := broadcastInDim S8x2048x256 ![] bcast_S_S8x2048x256 main_cst_0
  let main_v8 : IVec S8x2048x256 1 := cmpf .olt main_v6 main_v7
  let main_c_1 : IVec S_ 1 := constantI S_ 1 1#1
  let main_v9 : IVec S_ 1 := (fun x v => Host.reduce IntOp.andi x v reducesTo_S8x2048x256_S_d0_1_2 h_S_) main_v8 main_c_1
  let main_v10 : IVec S_ 1 := andi main_v4 main_v9
  let main_v11 : FVec F S12x64x192 .f32 := Host.absf main_arg2
  let main_cst_2 : FVec F S_ .f32 := constant S_ .f32 0x7F800000#32
  let main_v12 : FVec F S12x64x192 .f32 := broadcastInDim S12x64x192 ![] bcast_S_S12x64x192 main_cst_2
  let main_v13 : IVec S12x64x192 1 := cmpf .olt main_v11 main_v12
  let main_c_3 : IVec S_ 1 := constantI S_ 1 1#1
  let main_v14 : IVec S_ 1 := (fun x v => Host.reduce IntOp.andi x v reducesTo_S12x64x192_S_d0_1_2 h_S_) main_v13 main_c_3
  let main_v15 : IVec S_ 1 := andi main_v10 main_v14
  let main_v16 : FVec F S12 .f32 := Host.absf main_arg3
  let main_cst_4 : FVec F S_ .f32 := constant S_ .f32 0x7F800000#32
  fn_part1 (F := F) main_v15 main_v16 main_cst_4
-- ==== Mem.lean ====
abbrev S8x2048x512 : Shape := ⟨3, ![8, 2048, 512]⟩
abbrev S8x256x4x128 : Shape := ⟨4, ![8, 256, 4, 128]⟩
abbrev S16384x512 : Shape := ⟨2, ![16384, 512]⟩
abbrev S8x256x512 : Shape := ⟨3, ![8, 256, 512]⟩
abbrev S512x512 : Shape := ⟨2, ![512, 512]⟩
abbrev S1x256x512 : Shape := ⟨3, ![1, 256, 512]⟩
abbrev S256x512 : Shape := ⟨2, ![256, 512]⟩
abbrev S256x128 : Shape := ⟨2, ![256, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S256x256 : Shape := ⟨2, ![256, 256]⟩

abbrev nBuf : Space → Nat
  | .hbm => 7
  | .vmem => 8
  | .smem => 0
  | _ => 0

abbrev bufTy : (tb : Table) → Fin (tcTables nBuf tb) → BufTy
  | .hbm, ⟨0, _⟩ => ⟨S8x2048x512, .bf16⟩
  | .hbm, ⟨1, _⟩ => ⟨S8x256x4x128, .f32⟩
  | .hbm, ⟨2, _⟩ => ⟨S8x256x4x128, .f32⟩
  | .hbm, ⟨3, _⟩ => ⟨S16384x512, .bf16⟩
  | .hbm, ⟨4, _⟩ => ⟨S8x256x512, .f32⟩
  | .hbm, ⟨5, _⟩ => ⟨S8x256x512, .f32⟩
  | .hbm, ⟨6, _⟩ => ⟨S16384x512, .bf16⟩
  | .local _ .vmem, ⟨0, _⟩ => ⟨S512x512, .bf16⟩
  | .local _ .vmem, ⟨1, _⟩ => ⟨S512x512, .bf16⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S512x512, .bf16⟩
  | .local _ .vmem, ⟨7, _⟩ => ⟨S512x512, .bf16⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefMemIdeal.lean ====
abbrev S8x2048x512 : Shape := ⟨3, ![8, 2048, 512]⟩
abbrev S8x256x4x128 : Shape := ⟨4, ![8, 256, 4, 128]⟩
abbrev S8x2048x4x128 : Shape := ⟨4, ![8, 2048, 4, 128]⟩
abbrev S8x4x2048x256 : Shape := ⟨4, ![8, 4, 2048, 256]⟩
abbrev S_ : Shape := ⟨0, ![]⟩
abbrev S8x4x2048 : Shape := ⟨3, ![8, 4, 2048]⟩
abbrev S8x4x2048x1 : Shape := ⟨4, ![8, 4, 2048, 1]⟩
abbrev S8x4x128x2048 : Shape := ⟨4, ![8, 4, 128, 2048]⟩
abbrev S16384x512 : Shape := ⟨2, ![16384, 512]⟩

abbrev nBuf : Space → Nat
  | .hbm => 27
  | .vmem => 0
  | .smem => 0
  | _ => 0

abbrev bufTy : (tb : Table) → Fin (tcTables nBuf tb) → BufTy
  | .hbm, ⟨0, _⟩ => ⟨S8x2048x512, .bf16⟩
  | .hbm, ⟨1, _⟩ => ⟨S8x256x4x128, .f32⟩
  | .hbm, ⟨2, _⟩ => ⟨S8x256x4x128, .f32⟩
  | .hbm, ⟨3, _⟩ => ⟨S8x2048x512, .f32⟩
  | .hbm, ⟨4, _⟩ => ⟨S8x2048x4x128, .f32⟩
  | .hbm, ⟨5, _⟩ => ⟨S8x4x2048x256, .f32⟩
  | .hbm, ⟨6, _⟩ => ⟨S_, .f32⟩
  | .hbm, ⟨7, _⟩ => ⟨S8x4x2048x256, .f32⟩
  | .hbm, ⟨8, _⟩ => ⟨S8x4x2048x256, .f32⟩
  | .hbm, ⟨9, _⟩ => ⟨S_, .f32⟩
  | .hbm, ⟨10, _⟩ => ⟨S8x4x2048, .f32⟩
  | .hbm, ⟨11, _⟩ => ⟨S_, .f32⟩
  | .hbm, ⟨12, _⟩ => ⟨S8x4x2048, .f32⟩
  | .hbm, ⟨13, _⟩ => ⟨S8x4x2048, .f32⟩
  | .hbm, ⟨14, _⟩ => ⟨S8x4x2048x1, .f32⟩
  | .hbm, ⟨15, _⟩ => ⟨S8x4x2048x256, .f32⟩
  | .hbm, ⟨16, _⟩ => ⟨S8x4x2048x256, .f32⟩
  | .hbm, ⟨17, _⟩ => ⟨S8x4x2048x256, .f32⟩
  | .hbm, ⟨18, _⟩ => ⟨S_, .f32⟩
  | .hbm, ⟨19, _⟩ => ⟨S8x4x2048, .f32⟩
  | .hbm, ⟨20, _⟩ => ⟨S8x4x2048x1, .f32⟩
  | .hbm, ⟨21, _⟩ => ⟨S8x4x2048x256, .f32⟩
  | .hbm, ⟨22, _⟩ => ⟨S8x4x2048x256, .f32⟩
  | .hbm, ⟨23, _⟩ => ⟨S8x4x128x2048, .f32⟩
  | .hbm, ⟨24, _⟩ => ⟨S8x2048x4x128, .f32⟩
  | .hbm, ⟨25, _⟩ => ⟨S16384x512, .f32⟩
  | .hbm, ⟨26, _⟩ => ⟨S16384x512, .bf16⟩
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Memkv.lean ====
abbrev S8x256x2048 : Shape := ⟨3, ![8, 256, 2048]⟩
abbrev S2048 : Shape := ⟨1, ![2048]⟩
abbrev S2048x1024 : Shape := ⟨2, ![2048, 1024]⟩
abbrev S2048x2048 : Shape := ⟨2, ![2048, 2048]⟩
abbrev S1x2048 : Shape := ⟨2, ![1, 2048]⟩
abbrev S2048x512 : Shape := ⟨2, ![2048, 512]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩

abbrev nBuf : Space → Nat
  | .hbm => 8
  | .vmem => 9
  | .smem => 0
  | _ => 0

abbrev bufTy : (tb : Table) → Fin (tcTables nBuf tb) → BufTy
  | .hbm, ⟨0, _⟩ => ⟨S8x256x2048, .f32⟩
  | .hbm, ⟨1, _⟩ => ⟨S2048, .f32⟩
  | .hbm, ⟨2, _⟩ => ⟨S2048x1024, .f32⟩
  | .hbm, ⟨3, _⟩ => ⟨S2048x1024, .bf16⟩
  | .hbm, ⟨4, _⟩ => ⟨S2048x2048, .f32⟩
  | .hbm, ⟨5, _⟩ => ⟨S1x2048, .f32⟩
  | .hbm, ⟨6, _⟩ => ⟨S2048x512, .f32⟩
  | .hbm, ⟨7, _⟩ => ⟨S2048x512, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefMemkvIdeal.lean ====
abbrev S8x256x2048 : Shape := ⟨3, ![8, 256, 2048]⟩
abbrev S2048 : Shape := ⟨1, ![2048]⟩
abbrev S2048x1024 : Shape := ⟨2, ![2048, 1024]⟩
abbrev S_ : Shape := ⟨0, ![]⟩
abbrev S8x256 : Shape := ⟨2, ![8, 256]⟩
abbrev S8x256x1 : Shape := ⟨3, ![8, 256, 1]⟩
abbrev S1x1x2048 : Shape := ⟨3, ![1, 1, 2048]⟩
abbrev S8x256x1024 : Shape := ⟨3, ![8, 256, 1024]⟩
abbrev S8x256x512 : Shape := ⟨3, ![8, 256, 512]⟩
abbrev S2048x512 : Shape := ⟨2, ![2048, 512]⟩

abbrev nBuf : Space → Nat
  | .hbm => 24
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S2048, .f32⟩
  | .hbm, ⟨2, _⟩ => ⟨S2048x1024, .f32⟩
  | .hbm, ⟨3, _⟩ => ⟨S8x256x2048, .f32⟩
  | .hbm, ⟨4, _⟩ => ⟨S_, .f32⟩
  | .hbm, ⟨5, _⟩ => ⟨S8x256, .f32⟩
  | .hbm, ⟨6, _⟩ => ⟨S8x256x1, .f32⟩
  | .hbm, ⟨7, _⟩ => ⟨S_, .f32⟩
  | .hbm, ⟨8, _⟩ => ⟨S8x256x1, .f32⟩
  | .hbm, ⟨9, _⟩ => ⟨S8x256x1, .f32⟩
  | .hbm, ⟨10, _⟩ => ⟨S_, .f32⟩
  | .hbm, ⟨11, _⟩ => ⟨S8x256x1, .f32⟩
  | .hbm, ⟨12, _⟩ => ⟨S8x256x1, .f32⟩
  | .hbm, ⟨13, _⟩ => ⟨S8x256x1, .f32⟩
  | .hbm, ⟨14, _⟩ => ⟨S8x256x2048, .f32⟩
  | .hbm, ⟨15, _⟩ => ⟨S8x256x2048, .f32⟩
  | .hbm, ⟨16, _⟩ => ⟨S1x1x2048, .f32⟩
  | .hbm, ⟨17, _⟩ => ⟨S8x256x2048, .f32⟩
  | .hbm, ⟨18, _⟩ => ⟨S8x256x2048, .f32⟩
  | .hbm, ⟨19, _⟩ => ⟨S8x256x1024, .f32⟩
  | .hbm, ⟨20, _⟩ => ⟨S8x256x512, .f32⟩
  | .hbm, ⟨21, _⟩ => ⟨S8x256x512, .f32⟩
  | .hbm, ⟨22, _⟩ => ⟨S2048x512, .f32⟩
  | .hbm, ⟨23, _⟩ => ⟨S2048x512, .f32⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Mix.lean ====
abbrev S8x2048x2048 : Shape := ⟨3, ![8, 2048, 2048]⟩
abbrev S8x2048x768 : Shape := ⟨3, ![8, 2048, 768]⟩
abbrev S8x2048x512 : Shape := ⟨3, ![8, 2048, 512]⟩
abbrev S2048x8704 : Shape := ⟨2, ![2048, 8704]⟩
abbrev S2048x2048 : Shape := ⟨2, ![2048, 2048]⟩
abbrev S2048 : Shape := ⟨1, ![2048]⟩
abbrev S768x2048 : Shape := ⟨2, ![768, 2048]⟩
abbrev S4x3x64x2048 : Shape := ⟨4, ![4, 3, 64, 2048]⟩
abbrev S3x4x64x2048 : Shape := ⟨4, ![3, 4, 64, 2048]⟩
abbrev S16384x2048 : Shape := ⟨2, ![16384, 2048]⟩
abbrev S16384x768 : Shape := ⟨2, ![16384, 768]⟩
abbrev S16384x4x3x64 : Shape := ⟨4, ![16384, 4, 3, 64]⟩
abbrev S16384x3x4x64 : Shape := ⟨4, ![16384, 3, 4, 64]⟩
abbrev S16384x512 : Shape := ⟨2, ![16384, 512]⟩
abbrev S1x2048 : Shape := ⟨2, ![1, 2048]⟩
abbrev S512x2048 : Shape := ⟨2, ![512, 2048]⟩
abbrev S512x768 : Shape := ⟨2, ![512, 768]⟩
abbrev S512x512 : Shape := ⟨2, ![512, 512]⟩
abbrev S2048x512 : Shape := ⟨2, ![2048, 512]⟩
abbrev S768x512 : Shape := ⟨2, ![768, 512]⟩
abbrev S512x128 : Shape := ⟨2, ![512, 128]⟩
abbrev S2048x256 : Shape := ⟨2, ![2048, 256]⟩
abbrev S512x256 : Shape := ⟨2, ![512, 256]⟩
abbrev S768x256 : Shape := ⟨2, ![768, 256]⟩
abbrev S512 : Shape := ⟨1, ![512]⟩
abbrev S512x1 : Shape := ⟨2, ![512, 1]⟩

abbrev nBuf : Space → Nat
  | .hbm => 24
  | .vmem => 26
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .bf16⟩
  | .hbm, ⟨2, _⟩ => ⟨S8x2048x768, .bf16⟩
  | .hbm, ⟨3, _⟩ => ⟨S8x2048x768, .bf16⟩
  | .hbm, ⟨4, _⟩ => ⟨S8x2048x512, .bf16⟩
  | .hbm, ⟨5, _⟩ => ⟨S2048x8704, .f32⟩
  | .hbm, ⟨6, _⟩ => ⟨S2048x2048, .f32⟩
  | .hbm, ⟨7, _⟩ => ⟨S2048, .f32⟩
  | .hbm, ⟨8, _⟩ => ⟨S2048x2048, .bf16⟩
  | .hbm, ⟨9, _⟩ => ⟨S768x2048, .bf16⟩
  | .hbm, ⟨10, _⟩ => ⟨S4x3x64x2048, .bf16⟩
  | .hbm, ⟨11, _⟩ => ⟨S3x4x64x2048, .bf16⟩
  | .hbm, ⟨12, _⟩ => ⟨S768x2048, .bf16⟩
  | .hbm, ⟨13, _⟩ => ⟨S16384x2048, .f32⟩
  | .hbm, ⟨14, _⟩ => ⟨S16384x2048, .bf16⟩
  | .hbm, ⟨15, _⟩ => ⟨S16384x768, .bf16⟩
  | .hbm, ⟨16, _⟩ => ⟨S16384x4x3x64, .bf16⟩
  | .hbm, ⟨17, _⟩ => ⟨S16384x3x4x64, .bf16⟩
  | .hbm, ⟨18, _⟩ => ⟨S16384x768, .bf16⟩
  | .hbm, ⟨19, _⟩ => ⟨S16384x768, .bf16⟩
  | .hbm, ⟨20, _⟩ => ⟨S16384x512, .bf16⟩
  | .hbm, ⟨21, _⟩ => ⟨S2048x8704, .bf16⟩
  | .hbm, ⟨22, _⟩ => ⟨S1x2048, .f32⟩
  | .hbm, ⟨23, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x768, .bf16⟩
  | .local _ .vmem, ⟨5, _⟩ => ⟨S512x768, .bf16⟩
  | .local _ .vmem, ⟨6, _⟩ => ⟨S512x768, .bf16⟩
  | .local _ .vmem, ⟨7, _⟩ => ⟨S512x768, .bf16⟩
  | .local _ .vmem, ⟨8, _⟩ => ⟨S512x512, .bf16⟩
  | .local _ .vmem, ⟨9, _⟩ => ⟨S512x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S2048x512, .bf16⟩
  | .local _ .vmem, ⟨15, _⟩ => ⟨S2048x512, .bf16⟩
  | .local _ .vmem, ⟨16, _⟩ => ⟨S768x512, .bf16⟩
  | .local _ .vmem, ⟨17, _⟩ => ⟨S768x512, .bf16⟩
  | .local _ .vmem, ⟨18, _⟩ => ⟨S768x512, .bf16⟩
  | .local _ .vmem, ⟨19, _⟩ => ⟨S768x512, .bf16⟩
  | .local _ .vmem, ⟨20, _⟩ => ⟨S512x512, .bf16⟩
  | .local _ .vmem, ⟨21, _⟩ => ⟨S512x512, .bf16⟩
  | .local _ .vmem, ⟨22, _⟩ => ⟨S1x2048, .f32⟩
  | .local _ .vmem, ⟨23, _⟩ => ⟨S512x2048, .f32⟩
  | .local _ .vmem, ⟨24, _⟩ => ⟨S512x2048, .f32⟩
  | .local _ .vmem, ⟨25, _⟩ => ⟨S512x128, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![32, 4], ![false, false]⟩

def k0_mult1 (i : grid0.Coords) : BitVec 32 :=
  let arg1 : BitVec 32 := BitVec.ofNat 32 (i 1).val
  let c512_i32 : BitVec 32 := 512#32
  let v38 : BitVec 32 := Scalar.muli arg1 c512_i32
  let c0_i32_26 : BitVec 32 := 0#32
  let v39 : BitVec 32 := Scalar.addi v38 c0_i32_26
  v39
def k0_off1 (i : grid0.Coords) (c0_i32_26 : BitVec 32) : Fin 2 → Nat :=
  let c0_27 : Index := 0#32
  let arg1 : BitVec 32 := BitVec.ofNat 32 (i 1).val
  let c512_i32 : BitVec 32 := 512#32
  let v38 : BitVec 32 := Scalar.muli arg1 c512_i32
  let v39 : BitVec 32 := Scalar.addi v38 c0_i32_26
  let v40 : BitVec 32 := v39
  let v41 : Index := Scalar.indexCast v40
  ![0, v41.toNat]
def k0_mult2 (i : grid0.Coords) : BitVec 32 :=
  let arg1 : BitVec 32 := BitVec.ofNat 32 (i 1).val
  let c512_i32_46 : BitVec 32 := 512#32
  let v76 : BitVec 32 := Scalar.muli arg1 c512_i32_46
  let c256_i32 : BitVec 32 := 256#32
  let v77 : BitVec 32 := Scalar.addi v76 c256_i32
  v77
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_10 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![c3_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S768x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S768x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== RefMixIdeal.lean ====
abbrev S8x2048x2048 : Shape := ⟨3, ![8, 2048, 2048]⟩
abbrev S8x2048x768 : Shape := ⟨3, ![8, 2048, 768]⟩
abbrev S8x2048x512 : Shape := ⟨3, ![8, 2048, 512]⟩
abbrev S2048x8704 : Shape := ⟨2, ![2048, 8704]⟩
abbrev S2048x2048 : Shape := ⟨2, ![2048, 2048]⟩
abbrev S2048 : Shape := ⟨1, ![2048]⟩
abbrev S2048x6144 : Shape := ⟨2, ![2048, 6144]⟩
abbrev S8x2048x6144 : Shape := ⟨3, ![8, 2048, 6144]⟩
abbrev S8x2048x3x2048 : Shape := ⟨4, ![8, 2048, 3, 2048]⟩
abbrev S_ : Shape := ⟨0, ![]⟩
abbrev S8x2048x1x2048 : Shape := ⟨4, ![8, 2048, 1, 2048]⟩
abbrev S768x2048 : Shape := ⟨2, ![768, 2048]⟩
abbrev S512x2048 : Shape := ⟨2, ![512, 2048]⟩
abbrev S8x2048 : Shape := ⟨2, ![8, 2048]⟩
abbrev S8x2048x1 : Shape := ⟨3, ![8, 2048, 1]⟩
abbrev S1x1x2048 : Shape := ⟨3, ![1, 1, 2048]⟩
abbrev S16384x2048 : Shape := ⟨2, ![16384, 2048]⟩

abbrev nBuf : Space → Nat
  | .hbm => 58
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .bf16⟩
  | .hbm, ⟨2, _⟩ => ⟨S8x2048x768, .bf16⟩
  | .hbm, ⟨3, _⟩ => ⟨S8x2048x768, .bf16⟩
  | .hbm, ⟨4, _⟩ => ⟨S8x2048x512, .bf16⟩
  | .hbm, ⟨5, _⟩ => ⟨S2048x8704, .f32⟩
  | .hbm, ⟨6, _⟩ => ⟨S2048x2048, .f32⟩
  | .hbm, ⟨7, _⟩ => ⟨S2048, .f32⟩
  | .hbm, ⟨8, _⟩ => ⟨S8x2048x2048, .f32⟩
  | .hbm, ⟨9, _⟩ => ⟨S8x2048x768, .f32⟩
  | .hbm, ⟨10, _⟩ => ⟨S8x2048x768, .f32⟩
  | .hbm, ⟨11, _⟩ => ⟨S8x2048x512, .f32⟩
  | .hbm, ⟨12, _⟩ => ⟨S2048x6144, .f32⟩
  | .hbm, ⟨13, _⟩ => ⟨S8x2048x6144, .f32⟩
  | .hbm, ⟨14, _⟩ => ⟨S8x2048x3x2048, .f32⟩
  | .hbm, ⟨15, _⟩ => ⟨S8x2048x3x2048, .f32⟩
  | .hbm, ⟨16, _⟩ => ⟨S8x2048x3x2048, .f32⟩
  | .hbm, ⟨17, _⟩ => ⟨S_, .f32⟩
  | .hbm, ⟨18, _⟩ => ⟨S8x2048x3x2048, .f32⟩
  | .hbm, ⟨19, _⟩ => ⟨S8x2048x3x2048, .f32⟩
  | .hbm, ⟨20, _⟩ => ⟨S_, .f32⟩
  | .hbm, ⟨21, _⟩ => ⟨S8x2048x3x2048, .f32⟩
  | .hbm, ⟨22, _⟩ => ⟨S8x2048x3x2048, .f32⟩
  | .hbm, ⟨23, _⟩ => ⟨S8x2048x1x2048, .f32⟩
  | .hbm, ⟨24, _⟩ => ⟨S8x2048x2048, .f32⟩
  | .hbm, ⟨25, _⟩ => ⟨S768x2048, .f32⟩
  | .hbm, ⟨26, _⟩ => ⟨S8x2048x2048, .f32⟩
  | .hbm, ⟨27, _⟩ => ⟨S8x2048x2048, .f32⟩
  | .hbm, ⟨28, _⟩ => ⟨S8x2048x1x2048, .f32⟩
  | .hbm, ⟨29, _⟩ => ⟨S8x2048x2048, .f32⟩
  | .hbm, ⟨30, _⟩ => ⟨S768x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S8x2048x1x2048, .f32⟩
  | .hbm, ⟨35, _⟩ => ⟨S8x2048x2048, .f32⟩
  | .hbm, ⟨36, _⟩ => ⟨S512x2048, .f32⟩
  | .hbm, ⟨37, _⟩ => ⟨S8x2048x2048, .f32⟩
  | .hbm, ⟨38, _⟩ => ⟨S8x2048x2048, .f32⟩
  | .hbm, ⟨39, _⟩ => ⟨S8x2048x2048, .f32⟩
  | .hbm, ⟨40, _⟩ => ⟨S8x2048x2048, .f32⟩
  | .hbm, ⟨41, _⟩ => ⟨S_, .f32⟩
  | .hbm, ⟨42, _⟩ => ⟨S8x2048, .f32⟩
  | .hbm, ⟨43, _⟩ => ⟨S8x2048x1, .f32⟩
  | .hbm, ⟨44, _⟩ => ⟨S_, .f32⟩
  | .hbm, ⟨45, _⟩ => ⟨S8x2048x1, .f32⟩
  | .hbm, ⟨46, _⟩ => ⟨S8x2048x1, .f32⟩
  | .hbm, ⟨47, _⟩ => ⟨S_, .f32⟩
  | .hbm, ⟨48, _⟩ => ⟨S8x2048x1, .f32⟩
  | .hbm, ⟨49, _⟩ => ⟨S8x2048x1, .f32⟩
  | .hbm, ⟨50, _⟩ => ⟨S8x2048x1, .f32⟩
  | .hbm, ⟨51, _⟩ => ⟨S8x2048x2048, .f32⟩
  | .hbm, ⟨52, _⟩ => ⟨S8x2048x2048, .f32⟩
  | .hbm, ⟨53, _⟩ => ⟨S1x1x2048, .f32⟩
  | .hbm, ⟨54, _⟩ => ⟨S8x2048x2048, .f32⟩
  | .hbm, ⟨55, _⟩ => ⟨S8x2048x2048, .f32⟩
  | .hbm, ⟨56, _⟩ => ⟨S8x2048x2048, .f32⟩
  | .hbm, ⟨57, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_1 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== Proj.lean ====
abbrev S8x2048x2048 : Shape := ⟨3, ![8, 2048, 2048]⟩
abbrev S2048 : Shape := ⟨1, ![2048]⟩
abbrev S2048x8704 : Shape := ⟨2, ![2048, 8704]⟩
abbrev S2048x768 : Shape := ⟨2, ![2048, 768]⟩
abbrev S2048x4x3x64 : Shape := ⟨4, ![2048, 4, 3, 64]⟩
abbrev S2048x3x4x64 : Shape := ⟨4, ![2048, 3, 4, 64]⟩
abbrev S16384x2048 : Shape := ⟨2, ![16384, 2048]⟩
abbrev S1x2048 : Shape := ⟨2, ![1, 2048]⟩
abbrev S16384x768 : Shape := ⟨2, ![16384, 768]⟩
abbrev S16384x512 : Shape := ⟨2, ![16384, 512]⟩
abbrev S512x2048 : Shape := ⟨2, ![512, 2048]⟩
abbrev S2048x256 : Shape := ⟨2, ![2048, 256]⟩
abbrev S2048x512 : Shape := ⟨2, ![2048, 512]⟩
abbrev S512x768 : Shape := ⟨2, ![512, 768]⟩
abbrev S512x512 : Shape := ⟨2, ![512, 512]⟩
abbrev S512 : Shape := ⟨1, ![512]⟩
abbrev S512x1 : Shape := ⟨2, ![512, 1]⟩
abbrev S512x256 : Shape := ⟨2, ![512, 256]⟩

abbrev nBuf : Space → Nat
  | .hbm => 15
  | .vmem => 20
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048x8704, .f32⟩
  | .hbm, ⟨3, _⟩ => ⟨S2048x8704, .bf16⟩
  | .hbm, ⟨4, _⟩ => ⟨S2048x768, .bf16⟩
  | .hbm, ⟨5, _⟩ => ⟨S2048x4x3x64, .bf16⟩
  | .hbm, ⟨6, _⟩ => ⟨S2048x3x4x64, .bf16⟩
  | .hbm, ⟨7, _⟩ => ⟨S2048x768, .bf16⟩
  | .hbm, ⟨8, _⟩ => ⟨S16384x2048, .f32⟩
  | .hbm, ⟨9, _⟩ => ⟨S1x2048, .f32⟩
  | .hbm, ⟨10, _⟩ => ⟨S16384x768, .bf16⟩
  | .hbm, ⟨11, _⟩ => ⟨S16384x512, .f32⟩
  | .hbm, ⟨12, _⟩ => ⟨S16384x768, .f32⟩
  | .hbm, ⟨13, _⟩ => ⟨S16384x512, .bf16⟩
  | .hbm, ⟨14, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x768, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x512, .bf16⟩
  | .local _ .vmem, ⟨10, _⟩ => ⟨S512x768, .bf16⟩
  | .local _ .vmem, ⟨11, _⟩ => ⟨S512x768, .bf16⟩
  | .local _ .vmem, ⟨12, _⟩ => ⟨S512x512, .f32⟩
  | .local _ .vmem, ⟨13, _⟩ => ⟨S512x512, .f32⟩
  | .local _ .vmem, ⟨14, _⟩ => ⟨S512x768, .f32⟩
  | .local _ .vmem, ⟨15, _⟩ => ⟨S512x768, .f32⟩
  | .local _ .vmem, ⟨16, _⟩ => ⟨S512x512, .bf16⟩
  | .local _ .vmem, ⟨17, _⟩ => ⟨S512x512, .bf16⟩
  | .local _ .vmem, ⟨18, _⟩ => ⟨S512x2048, .bf16⟩
  | .local _ .vmem, ⟨19, _⟩ => ⟨S512x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev main_v7_3 : Ref sig .tc := ⟨.hbm, 13, rfl⟩
abbrev main_v7_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_4 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_5 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_6 (i : grid0.Coords) : Fin 2 → Nat :=
  let arg0 : BitVec 32 := BitVec.ofNat 32 (i 0).val
  let c0_i32 : BitVec 32 := 0#32
  let c6_i32 : BitVec 32 := 6#32
  let c0_i32_0 : BitVec 32 := 0#32
  ![c0_i32.toNat, c6_i32.toNat]

def cc0_transform_7 (i : grid0.Coords) : Fin 2 → Nat :=
  let arg0 : BitVec 32 := BitVec.ofNat 32 (i 0).val
  let c0_i32 : BitVec 32 := 0#32
  let c7_i32 : BitVec 32 := 7#32
  let c0_i32_0 : BitVec 32 := 0#32
  ![c0_i32.toNat, c7_i32.toNat]

def cc0_transform_8 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== RefProjIdeal.lean ====
abbrev S8x2048x2048 : Shape := ⟨3, ![8, 2048, 2048]⟩
abbrev S2048 : Shape := ⟨1, ![2048]⟩
abbrev S2048x8704 : Shape := ⟨2, ![2048, 8704]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048x2560 : Shape := ⟨2, ![2048, 2560]⟩
abbrev S16384x2560 : Shape := ⟨2, ![16384, 2560]⟩
abbrev S16384x768 : Shape := ⟨2, ![16384, 768]⟩
abbrev S16384x512 : Shape := ⟨2, ![16384, 512]⟩
abbrev S16384x4x3x64 : Shape := ⟨4, ![16384, 4, 3, 64]⟩
abbrev S16384x3x4x64 : Shape := ⟨4, ![16384, 3, 4, 64]⟩

abbrev nBuf : Space → Nat
  | .hbm => 32
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048x8704, .f32⟩
  | .hbm, ⟨3, _⟩ => ⟨S16384x2048, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S2048x2560, .f32⟩
  | .hbm, ⟨21, _⟩ => ⟨S16384x2560, .f32⟩
  | .hbm, ⟨22, _⟩ => ⟨S16384x768, .f32⟩
  | .hbm, ⟨23, _⟩ => ⟨S16384x512, .f32⟩
  | .hbm, ⟨24, _⟩ => ⟨S16384x768, .f32⟩
  | .hbm, ⟨25, _⟩ => ⟨S16384x512, .f32⟩
  | .hbm, ⟨26, _⟩ => ⟨S16384x4x3x64, .f32⟩
  | .hbm, ⟨27, _⟩ => ⟨S16384x3x4x64, .f32⟩
  | .hbm, ⟨28, _⟩ => ⟨S16384x768, .f32⟩
  | .hbm, ⟨29, _⟩ => ⟨S16384x768, .bf16⟩
  | .hbm, ⟨30, _⟩ => ⟨S16384x512, .bf16⟩
  | .hbm, ⟨31, _⟩ => ⟨S16384x2048, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Ffn.lean ====
abbrev S8x2048x2048 : Shape := ⟨3, ![8, 2048, 2048]⟩
abbrev S2048 : Shape := ⟨1, ![2048]⟩
abbrev S2048x11264 : Shape := ⟨2, ![2048, 11264]⟩
abbrev S3x5632 : Shape := ⟨2, ![3, 5632]⟩
abbrev S5632 : Shape := ⟨1, ![5632]⟩
abbrev S5632x2048 : Shape := ⟨2, ![5632, 2048]⟩
abbrev S_ : Shape := ⟨0, ![]⟩
abbrev S8x8x5632 : Shape := ⟨3, ![8, 8, 5632]⟩
abbrev S3x6144 : Shape := ⟨2, ![3, 6144]⟩
abbrev S1x5632 : Shape := ⟨2, ![1, 5632]⟩
abbrev S1x6144 : Shape := ⟨2, ![1, 6144]⟩
abbrev S8x8x6144 : Shape := ⟨3, ![8, 8, 6144]⟩
abbrev S1x2048 : Shape := ⟨2, ![1, 2048]⟩
abbrev S8x4x8x6144 : Shape := ⟨4, ![8, 4, 8, 6144]⟩
abbrev S1x512x2048 : Shape := ⟨3, ![1, 512, 2048]⟩
abbrev S2048x512 : Shape := ⟨2, ![2048, 512]⟩
abbrev S512x2048 : Shape := ⟨2, ![512, 2048]⟩
abbrev S3x1024 : Shape := ⟨2, ![3, 1024]⟩
abbrev S1x1024 : Shape := ⟨2, ![1, 1024]⟩
abbrev S1x8x1024 : Shape := ⟨3, ![1, 8, 1024]⟩
abbrev S1x1x8x1024 : Shape := ⟨4, ![1, 1, 8, 1024]⟩
abbrev S1x520x512 : Shape := ⟨3, ![1, 520, 512]⟩
abbrev S512x512 : Shape := ⟨2, ![512, 512]⟩
abbrev S12x1x8x512 : Shape := ⟨4, ![12, 1, 8, 512]⟩
abbrev S512 : Shape := ⟨1, ![512]⟩
abbrev S512x1 : Shape := ⟨2, ![512, 1]⟩
abbrev S1x8x512 : Shape := ⟨3, ![1, 8, 512]⟩
abbrev S1x1x8x512 : Shape := ⟨4, ![1, 1, 8, 512]⟩
abbrev S2048x256 : Shape := ⟨2, ![2048, 256]⟩
abbrev S512x256 : Shape := ⟨2, ![512, 256]⟩
abbrev S1x512x256 : Shape := ⟨3, ![1, 512, 256]⟩
abbrev S3x512 : Shape := ⟨2, ![3, 512]⟩
abbrev S1x512 : Shape := ⟨2, ![1, 512]⟩
abbrev S1x8x256 : Shape := ⟨3, ![1, 8, 256]⟩
abbrev S8x256 : Shape := ⟨2, ![8, 256]⟩
abbrev S16x256 : Shape := ⟨2, ![16, 256]⟩
abbrev S504x256 : Shape := ⟨2, ![504, 256]⟩
abbrev S1x256 : Shape := ⟨2, ![1, 256]⟩
abbrev S256x2048 : Shape := ⟨2, ![256, 2048]⟩
abbrev S8x4x8x5632 : Shape := ⟨4, ![8, 4, 8, 5632]⟩
abbrev S8x1x2x5632 : Shape := ⟨4, ![8, 1, 2, 5632]⟩
abbrev S8x2x5632 : Shape := ⟨3, ![8, 2, 5632]⟩

abbrev nBuf : Space → Nat
  | .hbm => 28
  | .vmem => 30
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048x11264, .f32⟩
  | .hbm, ⟨3, _⟩ => ⟨S3x5632, .f32⟩
  | .hbm, ⟨4, _⟩ => ⟨S5632, .f32⟩
  | .hbm, ⟨5, _⟩ => ⟨S5632x2048, .f32⟩
  | .hbm, ⟨6, _⟩ => ⟨S2048, .f32⟩
  | .hbm, ⟨7, _⟩ => ⟨S_, .f32⟩
  | .hbm, ⟨8, _⟩ => ⟨S8x8x5632, .f32⟩
  | .hbm, ⟨9, _⟩ => ⟨S2048x11264, .bf16⟩
  | .hbm, ⟨10, _⟩ => ⟨S5632x2048, .bf16⟩
  | .hbm, ⟨11, _⟩ => ⟨S_, .i32⟩
  | .hbm, ⟨12, _⟩ => ⟨S_, .f32⟩
  | .hbm, ⟨13, _⟩ => ⟨S3x6144, .f32⟩
  | .hbm, ⟨14, _⟩ => ⟨S1x5632, .f32⟩
  | .hbm, ⟨15, _⟩ => ⟨S_, .i32⟩
  | .hbm, ⟨16, _⟩ => ⟨S_, .f32⟩
  | .hbm, ⟨17, _⟩ => ⟨S1x6144, .f32⟩
  | .hbm, ⟨18, _⟩ => ⟨S_, .i32⟩
  | .hbm, ⟨19, _⟩ => ⟨S_, .f32⟩
  | .hbm, ⟨20, _⟩ => ⟨S8x8x6144, .f32⟩
  | .hbm, ⟨21, _⟩ => ⟨S1x2048, .f32⟩
  | .hbm, ⟨22, _⟩ => ⟨S1x2048, .f32⟩
  | .hbm, ⟨23, _⟩ => ⟨S8x2048x2048, .f32⟩
  | .hbm, ⟨24, _⟩ => ⟨S8x4x8x6144, .f32⟩
  | .hbm, ⟨25, _⟩ => ⟨S8x4x8x5632, .f32⟩
  | .hbm, ⟨26, _⟩ => ⟨S8x1x2x5632, .f32⟩
  | .hbm, ⟨27, _⟩ => ⟨S8x2x5632, .f32⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S512x2048, .bf16⟩
  | .local _ .vmem, ⟨14, _⟩ => ⟨S512x2048, .bf16⟩
  | .local _ .vmem, ⟨15, _⟩ => ⟨S3x1024, .f32⟩
  | .local _ .vmem, ⟨16, _⟩ => ⟨S3x1024, .f32⟩
  | .local _ .vmem, ⟨17, _⟩ => ⟨S1x1024, .f32⟩
  | .local _ .vmem, ⟨18, _⟩ => ⟨S1x1024, .f32⟩
  | .local _ .vmem, ⟨19, _⟩ => ⟨S1x2048, .f32⟩
  | .local _ .vmem, ⟨20, _⟩ => ⟨S1x8x1024, .f32⟩
  | .local _ .vmem, ⟨21, _⟩ => ⟨S1x8x1024, .f32⟩
  | .local _ .vmem, ⟨22, _⟩ => ⟨S1x512x2048, .f32⟩
  | .local _ .vmem, ⟨23, _⟩ => ⟨S1x512x2048, .f32⟩
  | .local _ .vmem, ⟨24, _⟩ => ⟨S1x1x8x1024, .f32⟩
  | .local _ .vmem, ⟨25, _⟩ => ⟨S1x1x8x1024, .f32⟩
  | .local _ .vmem, ⟨26, _⟩ => ⟨S512x2048, .bf16⟩
  | .local _ .vmem, ⟨27, _⟩ => ⟨S1x520x512, .f32⟩
  | .local _ .vmem, ⟨28, _⟩ => ⟨S512x512, .f32⟩
  | .local _ .vmem, ⟨29, _⟩ => ⟨S12x1x8x512, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_call1_v0 : Ref sig .tc := ⟨.hbm, 16, rfl⟩
abbrev main_v5 : Ref sig .tc := ⟨.hbm, 17, rfl⟩
abbrev main_c_1 : Ref sig .tc := ⟨.hbm, 18, rfl⟩
abbrev main_call2_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9_0 : Ref sig .tc := ⟨.hbm, 23, rfl⟩
abbrev main_v9_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨3, ![8, 4, 6], ![false, false, false]⟩

def k0_cond1 (i : grid0.Coords) : BitVec 1 :=
  let arg2 : BitVec 32 := BitVec.ofNat 32 (i 2).val
  let c0_i32_0 : BitVec 32 := 0#32
  let v2 : BitVec 1 := Scalar.cmpi .eq arg2 c0_i32_0
  let v3 : BitVec 32 := Scalar.extui v2
  let c0_i32_1 : BitVec 32 := 0#32
  let v4 : BitVec 1 := Scalar.cmpi .ne v3 c0_i32_1
  v4

def k0_off1 (i : grid0.Coords) : Fin 4 → Nat :=
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let v49 : Index := Scalar.indexCast v1
  let c0_28 : Index := 0#32
  let c0_29 : Index := 0#32
  let c0_30 : Index := 0#32
  ![v49.toNat, 0, 0, 0]
def k0_cond2 (i : grid0.Coords) : BitVec 1 :=
  let arg2 : BitVec 32 := BitVec.ofNat 32 (i 2).val
  let c0_i32_2 : BitVec 32 := 0#32
  let v5 : BitVec 1 := Scalar.cmpi .sgt arg2 c0_i32_2
  let c2_i32 : BitVec 32 := 2#32
  let v0 : BitVec 32 := Scalar.muli arg2 c2_i32
  let c0_i32 : BitVec 32 := 0#32
  let v1 : BitVec 32 := Scalar.addi v0 c0_i32
  let c11_i32 : BitVec 32 := 11#32
  let v6 : BitVec 1 := Scalar.cmpi .slt v1 c11_i32
  let v7 : BitVec 1 := Scalar.andi v5 v6
  let v8 : BitVec 32 := Scalar.extui v7
  let c0_i32_3 : BitVec 32 := 0#32
  let v9 : BitVec 1 := Scalar.cmpi .ne v8 c0_i32_3
  v9

def k0_off2 (i : grid0.Coords) : Fin 4 → Nat :=
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let v28 : Index := Scalar.indexCast v1
  let c0_17 : Index := 0#32
  let c0_18 : Index := 0#32
  let c0_19 : Index := 0#32
  ![v28.toNat, 0, 0, 0]
def k0_cond4 (i : grid0.Coords) : BitVec 1 :=
  let arg2 : BitVec 32 := BitVec.ofNat 32 (i 2).val
  let c2_i32_6 : BitVec 32 := 2#32
  let v13 : BitVec 32 := Scalar.muli arg2 c2_i32_6
  let c1_i32 : BitVec 32 := 1#32
  let v14 : BitVec 32 := Scalar.addi v13 c1_i32
  let c11_i32_7 : BitVec 32 := 11#32
  let v15 : BitVec 1 := Scalar.cmpi .slt v14 c11_i32_7
  let v16 : BitVec 32 := Scalar.extui v15
  let c0_i32_8 : BitVec 32 := 0#32
  let v17 : BitVec 1 := Scalar.cmpi .ne v16 c0_i32_8
  v17

def k0_off3 (i : grid0.Coords) : Fin 4 → Nat :=
  let arg2 : BitVec 32 := BitVec.ofNat 32 (i 2).val
  let c2_i32_6 : BitVec 32 := 2#32
  let v13 : BitVec 32 := Scalar.muli arg2 c2_i32_6
  let c1_i32 : BitVec 32 := 1#32
  let v14 : BitVec 32 := Scalar.addi v13 c1_i32
  let v28 : Index := Scalar.indexCast v14
  let c0_16 : Index := 0#32
  let c0_17 : Index := 0#32
  let c0_18 : Index := 0#32
  ![v28.toNat, 0, 0, 0]
def k0_cond6 (i : grid0.Coords) : BitVec 1 :=
  let arg2 : BitVec 32 := BitVec.ofNat 32 (i 2).val
  let c5_i32 : BitVec 32 := 5#32
  let v21 : BitVec 1 := Scalar.cmpi .eq arg2 c5_i32
  let v22 : BitVec 32 := Scalar.extui v21
  let c0_i32_11 : BitVec 32 := 0#32
  let v23 : BitVec 1 := Scalar.cmpi .ne v22 c0_i32_11
  v23

def k0_cond3 (i : grid0.Coords) : BitVec 1 :=
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let c11_i32_4 : BitVec 32 := 11#32
  let v10 : BitVec 1 := Scalar.cmpi .sge v1 c11_i32_4
  let v11 : BitVec 32 := Scalar.extui v10
  let c0_i32_5 : BitVec 32 := 0#32
  let v12 : BitVec 1 := Scalar.cmpi .ne v11 c0_i32_5
  v12

def k0_cond5 (i : grid0.Coords) : BitVec 1 :=
  let arg2 : BitVec 32 := BitVec.ofNat 32 (i 2).val
  let c2_i32_6 : BitVec 32 := 2#32
  let v13 : BitVec 32 := Scalar.muli arg2 c2_i32_6
  let c1_i32 : BitVec 32 := 1#32
  let v14 : BitVec 32 := Scalar.addi v13 c1_i32
  let c11_i32_9 : BitVec 32 := 11#32
  let v18 : BitVec 1 := Scalar.cmpi .sge v14 c11_i32_9
  let v19 : BitVec 32 := Scalar.extui v18
  let c0_i32_10 : BitVec 32 := 0#32
  let v20 : BitVec 1 := Scalar.cmpi .ne v19 c0_i32_10
  v20

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let c10_i32 : BitVec 32 := 10#32
  let v2 : BitVec 32 := Scalar.minsi v1 c10_i32
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let c10_i32 : BitVec 32 := 10#32
  let v2 : BitVec 32 := Scalar.minsi v1 c10_i32
  let c11_i32 : BitVec 32 := 11#32
  let v3 : BitVec 32 := Scalar.addi c11_i32 v2
  let c0_i32_0 : BitVec 32 := 0#32
  let c0_i32_1 : BitVec 32 := 0#32
  ![c0_i32_0.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let c10_i32 : BitVec 32 := 10#32
  let v2 : BitVec 32 := Scalar.minsi v1 c10_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.addi v0 c1_i32
  let c10_i32 : BitVec 32 := 10#32
  let v2 : BitVec 32 := Scalar.minsi v1 c10_i32
  let c0_i32 : BitVec 32 := 0#32
  let c0_i32_0 : BitVec 32 := 0#32
  ![c0_i32.toNat, v2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.addi v0 c1_i32
  let c10_i32 : BitVec 32 := 10#32
  let v2 : BitVec 32 := Scalar.minsi v1 c10_i32
  let c11_i32 : BitVec 32 := 11#32
  let v3 : BitVec 32 := Scalar.addi c11_i32 v2
  let c0_i32 : BitVec 32 := 0#32
  let c0_i32_0 : BitVec 32 := 0#32
  ![c0_i32.toNat, v3.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.addi v0 c1_i32
  let c10_i32 : BitVec 32 := 10#32
  let v2 : BitVec 32 := Scalar.minsi v1 c10_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_13 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S3x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S1x8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, true]

abbrev stage0_12 : Fin 2 → Memref sig .tc .vmem S1x512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S1x1x8x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]
-- ==== RefFfnIdeal.lean ====
abbrev S8x2048x2048 : Shape := ⟨3, ![8, 2048, 2048]⟩
abbrev S2048 : Shape := ⟨1, ![2048]⟩
abbrev S2048x11264 : Shape := ⟨2, ![2048, 11264]⟩
abbrev S3x5632 : Shape := ⟨2, ![3, 5632]⟩
abbrev S5632 : Shape := ⟨1, ![5632]⟩
abbrev S5632x2048 : Shape := ⟨2, ![5632, 2048]⟩
abbrev S_ : Shape := ⟨0, ![]⟩
abbrev S8x2x5632 : Shape := ⟨3, ![8, 2, 5632]⟩
abbrev S8x2048 : Shape := ⟨2, ![8, 2048]⟩
abbrev S8x2048x1 : Shape := ⟨3, ![8, 2048, 1]⟩
abbrev S1x1x2048 : Shape := ⟨3, ![1, 1, 2048]⟩
abbrev S8x2048x11264 : Shape := ⟨3, ![8, 2048, 11264]⟩
abbrev S8x2048x5632 : Shape := ⟨3, ![8, 2048, 5632]⟩
abbrev S8x2050x5632 : Shape := ⟨3, ![8, 2050, 5632]⟩
abbrev S1x5632 : Shape := ⟨2, ![1, 5632]⟩
abbrev S1x1x5632 : Shape := ⟨3, ![1, 1, 5632]⟩

abbrev nBuf : Space → Nat
  | .hbm => 92
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048x11264, .f32⟩
  | .hbm, ⟨3, _⟩ => ⟨S3x5632, .f32⟩
  | .hbm, ⟨4, _⟩ => ⟨S5632, .f32⟩
  | .hbm, ⟨5, _⟩ => ⟨S5632x2048, .f32⟩
  | .hbm, ⟨6, _⟩ => ⟨S2048, .f32⟩
  | .hbm, ⟨7, _⟩ => ⟨S_, .f32⟩
  | .hbm, ⟨8, _⟩ => ⟨S8x2x5632, .f32⟩
  | .hbm, ⟨9, _⟩ => ⟨S8x2048x2048, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x2048, .f32⟩
  | .hbm, ⟨21, _⟩ => ⟨S8x2048x2048, .f32⟩
  | .hbm, ⟨22, _⟩ => ⟨S1x1x2048, .f32⟩
  | .hbm, ⟨23, _⟩ => ⟨S8x2048x2048, .f32⟩
  | .hbm, ⟨24, _⟩ => ⟨S8x2048x2048, .f32⟩
  | .hbm, ⟨25, _⟩ => ⟨S8x2048x11264, .f32⟩
  | .hbm, ⟨26, _⟩ => ⟨S8x2048x5632, .f32⟩
  | .hbm, ⟨27, _⟩ => ⟨S8x2048x5632, .f32⟩
  | .hbm, ⟨28, _⟩ => ⟨S8x2050x5632, .f32⟩
  | .hbm, ⟨29, _⟩ => ⟨S8x2048x5632, .f32⟩
  | .hbm, ⟨30, _⟩ => ⟨S1x5632, .f32⟩
  | .hbm, ⟨31, _⟩ => ⟨S5632, .f32⟩
  | .hbm, ⟨32, _⟩ => ⟨S1x1x5632, .f32⟩
  | .hbm, ⟨33, _⟩ => ⟨S8x2048x5632, .f32⟩
  | .hbm, ⟨34, _⟩ => ⟨S8x2048x5632, .f32⟩
  | .hbm, ⟨35, _⟩ => ⟨S_, .f32⟩
  | .hbm, ⟨36, _⟩ => ⟨S8x2048x5632, .f32⟩
  | .hbm, ⟨37, _⟩ => ⟨S8x2048x5632, .f32⟩
  | .hbm, ⟨38, _⟩ => ⟨S8x2048x5632, .f32⟩
  | .hbm, ⟨39, _⟩ => ⟨S1x5632, .f32⟩
  | .hbm, ⟨40, _⟩ => ⟨S5632, .f32⟩
  | .hbm, ⟨41, _⟩ => ⟨S1x1x5632, .f32⟩
  | .hbm, ⟨42, _⟩ => ⟨S8x2048x5632, .f32⟩
  | .hbm, ⟨43, _⟩ => ⟨S8x2048x5632, .f32⟩
  | .hbm, ⟨44, _⟩ => ⟨S8x2048x5632, .f32⟩
  | .hbm, ⟨45, _⟩ => ⟨S8x2048x5632, .f32⟩
  | .hbm, ⟨46, _⟩ => ⟨S1x5632, .f32⟩
  | .hbm, ⟨47, _⟩ => ⟨S5632, .f32⟩
  | .hbm, ⟨48, _⟩ => ⟨S1x1x5632, .f32⟩
  | .hbm, ⟨49, _⟩ => ⟨S8x2048x5632, .f32⟩
  | .hbm, ⟨50, _⟩ => ⟨S8x2048x5632, .f32⟩
  | .hbm, ⟨51, _⟩ => ⟨S8x2048x5632, .f32⟩
  | .hbm, ⟨52, _⟩ => ⟨S1x1x5632, .f32⟩
  | .hbm, ⟨53, _⟩ => ⟨S8x2048x5632, .f32⟩
  | .hbm, ⟨54, _⟩ => ⟨S8x2048x5632, .f32⟩
  | .hbm, ⟨55, _⟩ => ⟨S8x2048x5632, .f32⟩
  | .hbm, ⟨56, _⟩ => ⟨S8x2048x5632, .f32⟩
  | .hbm, ⟨57, _⟩ => ⟨S_, .f32⟩
  | .hbm, ⟨58, _⟩ => ⟨S8x2048x5632, .f32⟩
  | .hbm, ⟨59, _⟩ => ⟨S8x2048x5632, .f32⟩
  | .hbm, ⟨60, _⟩ => ⟨S8x2048x5632, .f32⟩
  | .hbm, ⟨61, _⟩ => ⟨S_, .f32⟩
  | .hbm, ⟨62, _⟩ => ⟨S8x2048x5632, .f32⟩
  | .hbm, ⟨63, _⟩ => ⟨S8x2048x5632, .f32⟩
  | .hbm, ⟨64, _⟩ => ⟨S8x2048x5632, .f32⟩
  | .hbm, ⟨65, _⟩ => ⟨S_, .f32⟩
  | .hbm, ⟨66, _⟩ => ⟨S8x2048x5632, .f32⟩
  | .hbm, ⟨67, _⟩ => ⟨S8x2048x5632, .f32⟩
  | .hbm, ⟨68, _⟩ => ⟨S_, .f32⟩
  | .hbm, ⟨69, _⟩ => ⟨S8x2048x5632, .f32⟩
  | .hbm, ⟨70, _⟩ => ⟨S8x2048x5632, .f32⟩
  | .hbm, ⟨71, _⟩ => ⟨S8x2048x5632, .f32⟩
  | .hbm, ⟨72, _⟩ => ⟨S8x2048x5632, .f32⟩
  | .hbm, ⟨73, _⟩ => ⟨S8x2048x2048, .f32⟩
  | .hbm, ⟨74, _⟩ => ⟨S8x2048x2048, .f32⟩
  | .hbm, ⟨75, _⟩ => ⟨S_, .f32⟩
  | .hbm, ⟨76, _⟩ => ⟨S8x2048, .f32⟩
  | .hbm, ⟨77, _⟩ => ⟨S8x2048x1, .f32⟩
  | .hbm, ⟨78, _⟩ => ⟨S_, .f32⟩
  | .hbm, ⟨79, _⟩ => ⟨S8x2048x1, .f32⟩
  | .hbm, ⟨80, _⟩ => ⟨S8x2048x1, .f32⟩
  | .hbm, ⟨81, _⟩ => ⟨S_, .f32⟩
  | .hbm, ⟨82, _⟩ => ⟨S8x2048x1, .f32⟩
  | .hbm, ⟨83, _⟩ => ⟨S8x2048x1, .f32⟩
  | .hbm, ⟨84, _⟩ => ⟨S8x2048x1, .f32⟩
  | .hbm, ⟨85, _⟩ => ⟨S8x2048x2048, .f32⟩
  | .hbm, ⟨86, _⟩ => ⟨S8x2048x2048, .f32⟩
  | .hbm, ⟨87, _⟩ => ⟨S1x1x2048, .f32⟩
  | .hbm, ⟨88, _⟩ => ⟨S8x2048x2048, .f32⟩
  | .hbm, ⟨89, _⟩ => ⟨S8x2048x2048, .f32⟩
  | .hbm, ⟨90, _⟩ => ⟨S8x2048x2048, .f32⟩
  | .hbm, ⟨91, _⟩ => ⟨S8x2x5632, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_4 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_5 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_6 : Ref sig .tc := ⟨.hbm, 65, rfl⟩
abbrev main_v51 : Ref sig .tc := ⟨.hbm, 66, rfl⟩
abbrev main_v52 : Ref sig .tc := ⟨.hbm, 67, rfl⟩
abbrev main_cst_7 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_8 : Ref sig .tc := ⟨.hbm, 75, rfl⟩
abbrev main_v59 : Ref sig .tc := ⟨.hbm, 76, rfl⟩
abbrev main_v60 : Ref sig .tc := ⟨.hbm, 77, rfl⟩
abbrev main_cst_9 : Ref sig .tc := ⟨.hbm, 78, rfl⟩
abbrev main_v61 : Ref sig .tc := ⟨.hbm, 79, rfl⟩
abbrev main_v62 : Ref sig .tc := ⟨.hbm, 80, rfl⟩
abbrev main_cst_10 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩

abbrev nD : Nat := 1
abbrev τ : Topo := Topo.v7x

variable {F : FTy → Type} [FloatOps F]
-- ==== Attn.lean ====
abbrev S8x2048x768 : Shape := ⟨3, ![8, 2048, 768]⟩
abbrev S8x2048x512 : Shape := ⟨3, ![8, 2048, 512]⟩
abbrev S12x64x192 : Shape := ⟨3, ![12, 64, 192]⟩
abbrev S12 : Shape := ⟨1, ![12]⟩
abbrev S_ : Shape := ⟨0, ![]⟩
abbrev S8x128x256 : Shape := ⟨3, ![8, 128, 256]⟩
abbrev S4x3x1x1 : Shape := ⟨4, ![4, 3, 1, 1]⟩
abbrev S4x3x64x1 : Shape := ⟨4, ![4, 3, 64, 1]⟩
abbrev S4x192x192 : Shape := ⟨3, ![4, 192, 192]⟩
abbrev S4x192x1 : Shape := ⟨3, ![4, 192, 1]⟩
abbrev S4x192x63 : Shape := ⟨3, ![4, 192, 63]⟩
abbrev S4x192x256 : Shape := ⟨3, ![4, 192, 256]⟩
abbrev S256 : Shape := ⟨1, ![256]⟩
abbrev S12x192x256 : Shape := ⟨3, ![12, 192, 256]⟩
abbrev S1x2048x768 : Shape := ⟨3, ![1, 2048, 768]⟩
abbrev S1x2048x256 : Shape := ⟨3, ![1, 2048, 256]⟩
abbrev S1x128x256 : Shape := ⟨3, ![1, 128, 256]⟩
abbrev S1x2176x256 : Shape := ⟨3, ![1, 2176, 256]⟩
abbrev S2x4x192x256 : Shape := ⟨4, ![2, 4, 192, 256]⟩
abbrev S1x128 : Shape := ⟨2, ![1, 128]⟩
abbrev S256x128 : Shape := ⟨2, ![256, 128]⟩
abbrev S64x256 : Shape := ⟨2, ![64, 256]⟩
abbrev S1x64x768 : Shape := ⟨3, ![1, 64, 768]⟩
abbrev S64x768 : Shape := ⟨2, ![64, 768]⟩
abbrev S1x192x256 : Shape := ⟨3, ![1, 192, 256]⟩
abbrev S192x256 : Shape := ⟨2, ![192, 256]⟩
abbrev S256x256 : Shape := ⟨2, ![256, 256]⟩
abbrev S64x128 : Shape := ⟨2, ![64, 128]⟩
abbrev S192x128 : Shape := ⟨2, ![192, 128]⟩
abbrev S1x1x192x256 : Shape := ⟨4, ![1, 1, 192, 256]⟩
abbrev S192 : Shape := ⟨1, ![192]⟩
abbrev S192x1 : Shape := ⟨2, ![192, 1]⟩
abbrev S1x64x128 : Shape := ⟨3, ![1, 64, 128]⟩

abbrev nBuf : Space → Nat
  | .hbm => 40
  | .vmem => 16
  | .smem => 0
  | _ => 0

abbrev bufTy : (tb : Table) → Fin (tcTables nBuf tb) → BufTy
  | .hbm, ⟨0, _⟩ => ⟨S8x2048x768, .bf16⟩
  | .hbm, ⟨1, _⟩ => ⟨S8x2048x512, .f32⟩
  | .hbm, ⟨2, _⟩ => ⟨S12x64x192, .f32⟩
  | .hbm, ⟨3, _⟩ => ⟨S12, .f32⟩
  | .hbm, ⟨4, _⟩ => ⟨S_, .f32⟩
  | .hbm, ⟨5, _⟩ => ⟨S8x128x256, .f32⟩
  | .hbm, ⟨6, _⟩ => ⟨S4x3x1x1, .f32⟩
  | .hbm, ⟨7, _⟩ => ⟨S4x3x64x1, .f32⟩
  | .hbm, ⟨8, _⟩ => ⟨S4x192x192, .f32⟩
  | .hbm, ⟨9, _⟩ => ⟨S4x192x1, .f32⟩
  | .hbm, ⟨10, _⟩ => ⟨S_, .f32⟩
  | .hbm, ⟨11, _⟩ => ⟨S4x192x63, .f32⟩
  | .hbm, ⟨12, _⟩ => ⟨S4x192x256, .f32⟩
  | .hbm, ⟨13, _⟩ => ⟨S256, .i32⟩
  | .hbm, ⟨14, _⟩ => ⟨S_, .i32⟩
  | .hbm, ⟨15, _⟩ => ⟨S256, .i32⟩
  | .hbm, ⟨16, _⟩ => ⟨S256, .i1⟩
  | .hbm, ⟨17, _⟩ => ⟨S_, .f32⟩
  | .hbm, ⟨18, _⟩ => ⟨S_, .f32⟩
  | .hbm, ⟨19, _⟩ => ⟨S4x192x256, .i1⟩
  | .hbm, ⟨20, _⟩ => ⟨S4x192x256, .f32⟩
  | .hbm, ⟨21, _⟩ => ⟨S4x192x256, .f32⟩
  | .hbm, ⟨22, _⟩ => ⟨S_, .i32⟩
  | .hbm, ⟨23, _⟩ => ⟨S256, .i32⟩
  | .hbm, ⟨24, _⟩ => ⟨S256, .i1⟩
  | .hbm, ⟨25, _⟩ => ⟨S_, .f32⟩
  | .hbm, ⟨26, _⟩ => ⟨S_, .f32⟩
  | .hbm, ⟨27, _⟩ => ⟨S4x192x256, .i1⟩
  | .hbm, ⟨28, _⟩ => ⟨S4x192x256, .f32⟩
  | .hbm, ⟨29, _⟩ => ⟨S4x192x256, .f32⟩
  | .hbm, ⟨30, _⟩ => ⟨S_, .i32⟩
  | .hbm, ⟨31, _⟩ => ⟨S256, .i32⟩
  | .hbm, ⟨32, _⟩ => ⟨S256, .i1⟩
  | .hbm, ⟨33, _⟩ => ⟨S_, .f32⟩
  | .hbm, ⟨34, _⟩ => ⟨S_, .f32⟩
  | .hbm, ⟨35, _⟩ => ⟨S4x192x256, .i1⟩
  | .hbm, ⟨36, _⟩ => ⟨S4x192x256, .f32⟩
  | .hbm, ⟨37, _⟩ => ⟨S4x192x256, .f32⟩
  | .hbm, ⟨38, _⟩ => ⟨S12x192x256, .f32⟩
  | .hbm, ⟨39, _⟩ => ⟨S8x2048x768, .bf16⟩
  | .local _ .vmem, ⟨0, _⟩ => ⟨S1x2048x768, .bf16⟩
  | .local _ .vmem, ⟨1, _⟩ => ⟨S1x2048x768, .bf16⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x128x256, .f32⟩
  | .local _ .vmem, ⟨7, _⟩ => ⟨S1x128x256, .f32⟩
  | .local _ .vmem, ⟨8, _⟩ => ⟨S1x128x256, .f32⟩
  | .local _ .vmem, ⟨9, _⟩ => ⟨S1x128x256, .f32⟩
  | .local _ .vmem, ⟨10, _⟩ => ⟨S12x192x256, .f32⟩
  | .local _ .vmem, ⟨11, _⟩ => ⟨S1x2048x768, .bf16⟩
  | .local _ .vmem, ⟨12, _⟩ => ⟨S1x2048x768, .bf16⟩
  | .local _ .vmem, ⟨13, _⟩ => ⟨S1x2176x256, .bf16⟩
  | .local _ .vmem, ⟨14, _⟩ => ⟨S1x2176x256, .bf16⟩
  | .local _ .vmem, ⟨15, _⟩ => ⟨S2x4x192x256, .f32⟩
  | _, _ => ⟨S8x2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v13 : Ref sig .tc := ⟨.hbm, 29, rfl⟩
abbrev main_c_4 : Ref sig .tc := ⟨.hbm, 30, rfl⟩
abbrev main_v14 : Ref sig .tc := ⟨.hbm, 31, rfl⟩
abbrev main_v15 : Ref sig .tc := ⟨.hbm, 32, rfl⟩
abbrev main_cst_5 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  c0_i32
def k0_off1 (c0_i32_31 : BitVec 32) : Fin 3 → Nat :=
  let c0_i32_28 : BitVec 32 := 0#32
  let c2_i32 : BitVec 32 := 2#32
  let v37 : BitVec 32 := Scalar.minsi c0_i32_28 c2_i32
  let c4_i32 : BitVec 32 := 4#32
  let v38 : BitVec 32 := Scalar.muli v37 c4_i32
  let v49 : BitVec 32 := Scalar.addi v38 c0_i32_31
  let v50 : Index := Scalar.indexCast v49
  let c0_32 : Index := 0#32
  let c0_33 : Index := 0#32
  ![v50.toNat, 0, 0]
@[reducible] def k0_t1_loop : Scf.Loop 32 :=
  let c0_i32_62 : BitVec 32 := 0#32
  let c16_i32 : BitVec 32 := 16#32
  let v113 : BitVec 32 := Scalar.addi c0_i32_62 c16_i32
  let c1_i32_63 : BitVec 32 := 1#32
  ⟨c0_i32_62, v113, c1_i32_63⟩
def k0_mult2 (k0_t1 : Fin k0_t1_loop.trips) : BitVec 32 :=
  let c2_i32_65 : BitVec 32 := 2#32
  let c0_i32_62 : BitVec 32 := 0#32
  let c1_i32_63 : BitVec 32 := 1#32
  let arg11 : BitVec 32 := Scf.iv c0_i32_62 c1_i32_63 k0_t1
  let v114 : BitVec 32 := Scalar.muli c2_i32_65 arg11
  let c1_i32_66 : BitVec 32 := 1#32
  let v115 : BitVec 32 := Scalar.addi v114 c1_i32_66
  let c31_i32 : BitVec 32 := 31#32
  let v116 : BitVec 32 := Scalar.minsi v115 c31_i32
  let c32_i32_73 : BitVec 32 := 32#32
  let c0_i32_74 : BitVec 32 := 0#32
  let v134 : BitVec 1 := Scalar.cmpi .eq c32_i32_73 c0_i32_74
  let c1_i32_75 : BitVec 32 := 1#32
  let v135 : BitVec 32 := Scalar.select v134 c1_i32_75 c32_i32_73
  let v136 : BitVec 32 := Scalar.remsi v116 v135
  let c0_i32_77 : BitVec 32 := 0#32
  let v138 : BitVec 1 := Scalar.cmpi .slt v136 c0_i32_77
  let c0_i32_78 : BitVec 32 := 0#32
  let v139 : BitVec 1 := Scalar.cmpi .slt v135 c0_i32_78
  let v140 : BitVec 1 := Scalar.xori v138 v139
  let c0_i32_76 : BitVec 32 := 0#32
  let v137 : BitVec 1 := Scalar.cmpi .ne v136 c0_i32_76
  let v141 : BitVec 1 := Scalar.andi v140 v137
  let v142 : BitVec 32 := Scalar.addi v136 v135
  let v143 : BitVec 32 := Scalar.select v141 v142 v136
  let c64_i32_79 : BitVec 32 := 64#32
  let v144 : BitVec 32 := Scalar.muli v143 c64_i32_79
  v144
def k0_off2 (k0_t1 : Fin k0_t1_loop.trips) : Fin 3 → Nat :=
  let c2_i32_65 : BitVec 32 := 2#32
  let c0_i32_62 : BitVec 32 := 0#32
  let c1_i32_63 : BitVec 32 := 1#32
  let arg11 : BitVec 32 := Scf.iv c0_i32_62 c1_i32_63 k0_t1
  let v114 : BitVec 32 := Scalar.muli c2_i32_65 arg11
  let c1_i32_66 : BitVec 32 := 1#32
  let v115 : BitVec 32 := Scalar.addi v114 c1_i32_66
  let c31_i32 : BitVec 32 := 31#32
  let v116 : BitVec 32 := Scalar.minsi v115 c31_i32
  let c0_i32_67 : BitVec 32 := 0#32
  let v118 : BitVec 1 := Scalar.cmpi .sgt v116 c0_i32_67
  let v119 : BitVec 32 := Scalar.extui v118
  let c0_i32_68 : BitVec 32 := 0#32
  let v120 : BitVec 1 := Scalar.cmpi .slt v116 c0_i32_68
  let v121 : BitVec 32 := Scalar.extui v120
  let v122 : BitVec 32 := Scalar.subi v119 v121
  let c32_i32 : BitVec 32 := 32#32
  let c0_i32_69 : BitVec 32 := 0#32
  let v123 : BitVec 1 := Scalar.cmpi .sgt c32_i32 c0_i32_69
  let v124 : BitVec 32 := Scalar.extui v123
  let c0_i32_70 : BitVec 32 := 0#32
  let v125 : BitVec 1 := Scalar.cmpi .slt c32_i32 c0_i32_70
  let v126 : BitVec 32 := Scalar.extui v125
  let v127 : BitVec 32 := Scalar.subi v124 v126
  let v128 : BitVec 1 := Scalar.cmpi .ne v122 v127
  let v129 : BitVec 32 := Scalar.remsi v116 c32_i32
  let c0_i32_71 : BitVec 32 := 0#32
  let v130 : BitVec 1 := Scalar.cmpi .ne v129 c0_i32_71
  let v131 : BitVec 1 := Scalar.andi v128 v130
  let v117 : BitVec 32 := Scalar.divsi v116 c32_i32
  let c1_i32_72 : BitVec 32 := 1#32
  let v132 : BitVec 32 := Scalar.subi v117 c1_i32_72
  let v133 : BitVec 32 := Scalar.select v131 v132 v117
  let v146 : Index := Scalar.indexCast v133
  let c32_i32_73 : BitVec 32 := 32#32
  let c0_i32_74 : BitVec 32 := 0#32
  let v134 : BitVec 1 := Scalar.cmpi .eq c32_i32_73 c0_i32_74
  let c1_i32_75 : BitVec 32 := 1#32
  let v135 : BitVec 32 := Scalar.select v134 c1_i32_75 c32_i32_73
  let v136 : BitVec 32 := Scalar.remsi v116 v135
  let c0_i32_77 : BitVec 32 := 0#32
  let v138 : BitVec 1 := Scalar.cmpi .slt v136 c0_i32_77
  let c0_i32_78 : BitVec 32 := 0#32
  let v139 : BitVec 1 := Scalar.cmpi .slt v135 c0_i32_78
  let v140 : BitVec 1 := Scalar.xori v138 v139
  let c0_i32_76 : BitVec 32 := 0#32
  let v137 : BitVec 1 := Scalar.cmpi .ne v136 c0_i32_76
  let v141 : BitVec 1 := Scalar.andi v140 v137
  let v142 : BitVec 32 := Scalar.addi v136 v135
  let v143 : BitVec 32 := Scalar.select v141 v142 v136
  let c64_i32_79 : BitVec 32 := 64#32
  let v144 : BitVec 32 := Scalar.muli v143 c64_i32_79
  let v145 : BitVec 32 := v144
  let v147 : Index := Scalar.indexCast v145
  let c0_80 : Index := 0#32
  ![v146.toNat, v147.toNat, 0]
def k0_off3 (k0_t1 : Fin k0_t1_loop.trips) : Fin 3 → Nat :=
  let c2_i32_65 : BitVec 32 := 2#32
  let c0_i32_62 : BitVec 32 := 0#32
  let c1_i32_63 : BitVec 32 := 1#32
  let arg11 : BitVec 32 := Scf.iv c0_i32_62 c1_i32_63 k0_t1
  let v114 : BitVec 32 := Scalar.muli c2_i32_65 arg11
  let c1_i32_66 : BitVec 32 := 1#32
  let v115 : BitVec 32 := Scalar.addi v114 c1_i32_66
  let c31_i32 : BitVec 32 := 31#32
  let v116 : BitVec 32 := Scalar.minsi v115 c31_i32
  let c0_i32_67 : BitVec 32 := 0#32
  let v118 : BitVec 1 := Scalar.cmpi .sgt v116 c0_i32_67
  let v119 : BitVec 32 := Scalar.extui v118
  let c0_i32_68 : BitVec 32 := 0#32
  let v120 : BitVec 1 := Scalar.cmpi .slt v116 c0_i32_68
  let v121 : BitVec 32 := Scalar.extui v120
  let v122 : BitVec 32 := Scalar.subi v119 v121
  let c32_i32 : BitVec 32 := 32#32
  let c0_i32_69 : BitVec 32 := 0#32
  let v123 : BitVec 1 := Scalar.cmpi .sgt c32_i32 c0_i32_69
  let v124 : BitVec 32 := Scalar.extui v123
  let c0_i32_70 : BitVec 32 := 0#32
  let v125 : BitVec 1 := Scalar.cmpi .slt c32_i32 c0_i32_70
  let v126 : BitVec 32 := Scalar.extui v125
  let v127 : BitVec 32 := Scalar.subi v124 v126
  let v128 : BitVec 1 := Scalar.cmpi .ne v122 v127
  let v129 : BitVec 32 := Scalar.remsi v116 c32_i32
  let c0_i32_71 : BitVec 32 := 0#32
  let v130 : BitVec 1 := Scalar.cmpi .ne v129 c0_i32_71
  let v131 : BitVec 1 := Scalar.andi v128 v130
  let v117 : BitVec 32 := Scalar.divsi v116 c32_i32
  let c1_i32_72 : BitVec 32 := 1#32
  let v132 : BitVec 32 := Scalar.subi v117 c1_i32_72
  let v133 : BitVec 32 := Scalar.select v131 v132 v117
  let v152 : Index := Scalar.indexCast v133
  let c32_i32_73 : BitVec 32 := 32#32
  let c0_i32_74 : BitVec 32 := 0#32
  let v134 : BitVec 1 := Scalar.cmpi .eq c32_i32_73 c0_i32_74
  let c1_i32_75 : BitVec 32 := 1#32
  let v135 : BitVec 32 := Scalar.select v134 c1_i32_75 c32_i32_73
  let v136 : BitVec 32 := Scalar.remsi v116 v135
  let c0_i32_77 : BitVec 32 := 0#32
  let v138 : BitVec 1 := Scalar.cmpi .slt v136 c0_i32_77
  let c0_i32_78 : BitVec 32 := 0#32
  let v139 : BitVec 1 := Scalar.cmpi .slt v135 c0_i32_78
  let v140 : BitVec 1 := Scalar.xori v138 v139
  let c0_i32_76 : BitVec 32 := 0#32
  let v137 : BitVec 1 := Scalar.cmpi .ne v136 c0_i32_76
  let v141 : BitVec 1 := Scalar.andi v140 v137
  let v142 : BitVec 32 := Scalar.addi v136 v135
  let v143 : BitVec 32 := Scalar.select v141 v142 v136
  let c64_i32_79 : BitVec 32 := 64#32
  let v144 : BitVec 32 := Scalar.muli v143 c64_i32_79
  let v145 : BitVec 32 := v144
  let v153 : Index := Scalar.indexCast v145
  let c0_82 : Index := 0#32
  ![v152.toNat, v153.toNat, 0]
def k0_off4 (k0_t1 : Fin k0_t1_loop.trips) (c0_i32_87 : BitVec 32) : Fin 3 → Nat :=
  let c2_i32_65 : BitVec 32 := 2#32
  let c0_i32_62 : BitVec 32 := 0#32
  let c1_i32_63 : BitVec 32 := 1#32
  let arg11 : BitVec 32 := Scf.iv c0_i32_62 c1_i32_63 k0_t1
  let v114 : BitVec 32 := Scalar.muli c2_i32_65 arg11
  let c1_i32_66 : BitVec 32 := 1#32
  let v115 : BitVec 32 := Scalar.addi v114 c1_i32_66
  let c31_i32 : BitVec 32 := 31#32
  let v116 : BitVec 32 := Scalar.minsi v115 c31_i32
  let c32_i32_73 : BitVec 32 := 32#32
  let c0_i32_74 : BitVec 32 := 0#32
  let v134 : BitVec 1 := Scalar.cmpi .eq c32_i32_73 c0_i32_74
  let c1_i32_75 : BitVec 32 := 1#32
  let v135 : BitVec 32 := Scalar.select v134 c1_i32_75 c32_i32_73
  let v136 : BitVec 32 := Scalar.remsi v116 v135
  let c0_i32_77 : BitVec 32 := 0#32
  let v138 : BitVec 1 := Scalar.cmpi .slt v136 c0_i32_77
  let c0_i32_78 : BitVec 32 := 0#32
  let v139 : BitVec 1 := Scalar.cmpi .slt v135 c0_i32_78
  let v140 : BitVec 1 := Scalar.xori v138 v139
  let c0_i32_76 : BitVec 32 := 0#32
  let v137 : BitVec 1 := Scalar.cmpi .ne v136 c0_i32_76
  let v141 : BitVec 1 := Scalar.andi v140 v137
  let v142 : BitVec 32 := Scalar.addi v136 v135
  let v143 : BitVec 32 := Scalar.select v141 v142 v136
  let c2_i32_83 : BitVec 32 := 2#32
  let v157 : BitVec 32 := Scalar.minsi v143 c2_i32_83
  let c4_i32_84 : BitVec 32 := 4#32
  let v158 : BitVec 32 := Scalar.muli v157 c4_i32_84
  let v169 : BitVec 32 := Scalar.addi v158 c0_i32_87
  let v170 : Index := Scalar.indexCast v169
  let c0_88 : Index := 0#32
  let c0_89 : Index := 0#32
  ![v170.toNat, 0, 0]
def k0_mult3 (k0_t1 : Fin k0_t1_loop.trips) : BitVec 32 :=
  let c2_i32_65 : BitVec 32 := 2#32
  let c0_i32_62 : BitVec 32 := 0#32
  let c1_i32_63 : BitVec 32 := 1#32
  let arg11 : BitVec 32 := Scf.iv c0_i32_62 c1_i32_63 k0_t1
  let v114 : BitVec 32 := Scalar.muli c2_i32_65 arg11
  let c32_i32_130 : BitVec 32 := 32#32
  let c0_i32_131 : BitVec 32 := 0#32
  let v250 : BitVec 1 := Scalar.cmpi .eq c32_i32_130 c0_i32_131
  let c1_i32_132 : BitVec 32 := 1#32
  let v251 : BitVec 32 := Scalar.select v250 c1_i32_132 c32_i32_130
  let v252 : BitVec 32 := Scalar.remsi v114 v251
  let c0_i32_134 : BitVec 32 := 0#32
  let v254 : BitVec 1 := Scalar.cmpi .slt v252 c0_i32_134
  let c0_i32_135 : BitVec 32 := 0#32
  let v255 : BitVec 1 := Scalar.cmpi .slt v251 c0_i32_135
  let v256 : BitVec 1 := Scalar.xori v254 v255
  let c0_i32_133 : BitVec 32 := 0#32
  let v253 : BitVec 1 := Scalar.cmpi .ne v252 c0_i32_133
  let v257 : BitVec 1 := Scalar.andi v256 v253
  let v258 : BitVec 32 := Scalar.addi v252 v251
  let v259 : BitVec 32 := Scalar.select v257 v258 v252
  let c64_i32_136 : BitVec 32 := 64#32
  let v260 : BitVec 32 := Scalar.muli v259 c64_i32_136
  v260
def k0_off5 (k0_t1 : Fin k0_t1_loop.trips) : Fin 3 → Nat :=
  let c2_i32_65 : BitVec 32 := 2#32
  let c0_i32_62 : BitVec 32 := 0#32
  let c1_i32_63 : BitVec 32 := 1#32
  let arg11 : BitVec 32 := Scf.iv c0_i32_62 c1_i32_63 k0_t1
  let v114 : BitVec 32 := Scalar.muli c2_i32_65 arg11
  let c0_i32_124 : BitVec 32 := 0#32
  let v234 : BitVec 1 := Scalar.cmpi .sgt v114 c0_i32_124
  let v235 : BitVec 32 := Scalar.extui v234
  let c0_i32_125 : BitVec 32 := 0#32
  let v236 : BitVec 1 := Scalar.cmpi .slt v114 c0_i32_125
  let v237 : BitVec 32 := Scalar.extui v236
  let v238 : BitVec 32 := Scalar.subi v235 v237
  let c32_i32_123 : BitVec 32 := 32#32
  let c0_i32_126 : BitVec 32 := 0#32
  let v239 : BitVec 1 := Scalar.cmpi .sgt c32_i32_123 c0_i32_126
  let v240 : BitVec 32 := Scalar.extui v239
  let c0_i32_127 : BitVec 32 := 0#32
  let v241 : BitVec 1 := Scalar.cmpi .slt c32_i32_123 c0_i32_127
  let v242 : BitVec 32 := Scalar.extui v241
  let v243 : BitVec 32 := Scalar.subi v240 v242
  let v244 : BitVec 1 := Scalar.cmpi .ne v238 v243
  let v245 : BitVec 32 := Scalar.remsi v114 c32_i32_123
  let c0_i32_128 : BitVec 32 := 0#32
  let v246 : BitVec 1 := Scalar.cmpi .ne v245 c0_i32_128
  let v247 : BitVec 1 := Scalar.andi v244 v246
  let v233 : BitVec 32 := Scalar.divsi v114 c32_i32_123
  let c1_i32_129 : BitVec 32 := 1#32
  let v248 : BitVec 32 := Scalar.subi v233 c1_i32_129
  let v249 : BitVec 32 := Scalar.select v247 v248 v233
  let v262 : Index := Scalar.indexCast v249
  let c32_i32_130 : BitVec 32 := 32#32
  let c0_i32_131 : BitVec 32 := 0#32
  let v250 : BitVec 1 := Scalar.cmpi .eq c32_i32_130 c0_i32_131
  let c1_i32_132 : BitVec 32 := 1#32
  let v251 : BitVec 32 := Scalar.select v250 c1_i32_132 c32_i32_130
  let v252 : BitVec 32 := Scalar.remsi v114 v251
  let c0_i32_134 : BitVec 32 := 0#32
  let v254 : BitVec 1 := Scalar.cmpi .slt v252 c0_i32_134
  let c0_i32_135 : BitVec 32 := 0#32
  let v255 : BitVec 1 := Scalar.cmpi .slt v251 c0_i32_135
  let v256 : BitVec 1 := Scalar.xori v254 v255
  let c0_i32_133 : BitVec 32 := 0#32
  let v253 : BitVec 1 := Scalar.cmpi .ne v252 c0_i32_133
  let v257 : BitVec 1 := Scalar.andi v256 v253
  let v258 : BitVec 32 := Scalar.addi v252 v251
  let v259 : BitVec 32 := Scalar.select v257 v258 v252
  let c64_i32_136 : BitVec 32 := 64#32
  let v260 : BitVec 32 := Scalar.muli v259 c64_i32_136
  let v261 : BitVec 32 := v260
  let v263 : Index := Scalar.indexCast v261
  let c0_137 : Index := 0#32
  ![v262.toNat, v263.toNat, 0]
def k0_off6 (k0_t1 : Fin k0_t1_loop.trips) : Fin 3 → Nat :=
  let c2_i32_65 : BitVec 32 := 2#32
  let c0_i32_62 : BitVec 32 := 0#32
  let c1_i32_63 : BitVec 32 := 1#32
  let arg11 : BitVec 32 := Scf.iv c0_i32_62 c1_i32_63 k0_t1
  let v114 : BitVec 32 := Scalar.muli c2_i32_65 arg11
  let c0_i32_124 : BitVec 32 := 0#32
  let v234 : BitVec 1 := Scalar.cmpi .sgt v114 c0_i32_124
  let v235 : BitVec 32 := Scalar.extui v234
  let c0_i32_125 : BitVec 32 := 0#32
  let v236 : BitVec 1 := Scalar.cmpi .slt v114 c0_i32_125
  let v237 : BitVec 32 := Scalar.extui v236
  let v238 : BitVec 32 := Scalar.subi v235 v237
  let c32_i32_123 : BitVec 32 := 32#32
  let c0_i32_126 : BitVec 32 := 0#32
  let v239 : BitVec 1 := Scalar.cmpi .sgt c32_i32_123 c0_i32_126
  let v240 : BitVec 32 := Scalar.extui v239
  let c0_i32_127 : BitVec 32 := 0#32
  let v241 : BitVec 1 := Scalar.cmpi .slt c32_i32_123 c0_i32_127
  let v242 : BitVec 32 := Scalar.extui v241
  let v243 : BitVec 32 := Scalar.subi v240 v242
  let v244 : BitVec 1 := Scalar.cmpi .ne v238 v243
  let v245 : BitVec 32 := Scalar.remsi v114 c32_i32_123
  let c0_i32_128 : BitVec 32 := 0#32
  let v246 : BitVec 1 := Scalar.cmpi .ne v245 c0_i32_128
  let v247 : BitVec 1 := Scalar.andi v244 v246
  let v233 : BitVec 32 := Scalar.divsi v114 c32_i32_123
  let c1_i32_129 : BitVec 32 := 1#32
  let v248 : BitVec 32 := Scalar.subi v233 c1_i32_129
  let v249 : BitVec 32 := Scalar.select v247 v248 v233
  let v324 : Index := Scalar.indexCast v249
  let c32_i32_130 : BitVec 32 := 32#32
  let c0_i32_131 : BitVec 32 := 0#32
  let v250 : BitVec 1 := Scalar.cmpi .eq c32_i32_130 c0_i32_131
  let c1_i32_132 : BitVec 32 := 1#32
  let v251 : BitVec 32 := Scalar.select v250 c1_i32_132 c32_i32_130
  let v252 : BitVec 32 := Scalar.remsi v114 v251
  let c0_i32_134 : BitVec 32 := 0#32
  let v254 : BitVec 1 := Scalar.cmpi .slt v252 c0_i32_134
  let c0_i32_135 : BitVec 32 := 0#32
  let v255 : BitVec 1 := Scalar.cmpi .slt v251 c0_i32_135
  let v256 : BitVec 1 := Scalar.xori v254 v255
  let c0_i32_133 : BitVec 32 := 0#32
  let v253 : BitVec 1 := Scalar.cmpi .ne v252 c0_i32_133
  let v257 : BitVec 1 := Scalar.andi v256 v253
  let v258 : BitVec 32 := Scalar.addi v252 v251
  let v259 : BitVec 32 := Scalar.select v257 v258 v252
  let c64_i32_136 : BitVec 32 := 64#32
  let v260 : BitVec 32 := Scalar.muli v259 c64_i32_136
  let v261 : BitVec 32 := v260
  let v325 : Index := Scalar.indexCast v261
  let c0_162 : Index := 0#32
  ![v324.toNat, v325.toNat, 0]
def k0_off7 (k0_t1 : Fin k0_t1_loop.trips) : Fin 3 → Nat :=
  let c2_i32_65 : BitVec 32 := 2#32
  let c0_i32_62 : BitVec 32 := 0#32
  let c1_i32_63 : BitVec 32 := 1#32
  let arg11 : BitVec 32 := Scf.iv c0_i32_62 c1_i32_63 k0_t1
  let v114 : BitVec 32 := Scalar.muli c2_i32_65 arg11
  let c0_i32_124 : BitVec 32 := 0#32
  let v234 : BitVec 1 := Scalar.cmpi .sgt v114 c0_i32_124
  let v235 : BitVec 32 := Scalar.extui v234
  let c0_i32_125 : BitVec 32 := 0#32
  let v236 : BitVec 1 := Scalar.cmpi .slt v114 c0_i32_125
  let v237 : BitVec 32 := Scalar.extui v236
  let v238 : BitVec 32 := Scalar.subi v235 v237
  let c32_i32_123 : BitVec 32 := 32#32
  let c0_i32_126 : BitVec 32 := 0#32
  let v239 : BitVec 1 := Scalar.cmpi .sgt c32_i32_123 c0_i32_126
  let v240 : BitVec 32 := Scalar.extui v239
  let c0_i32_127 : BitVec 32 := 0#32
  let v241 : BitVec 1 := Scalar.cmpi .slt c32_i32_123 c0_i32_127
  let v242 : BitVec 32 := Scalar.extui v241
  let v243 : BitVec 32 := Scalar.subi v240 v242
  let v244 : BitVec 1 := Scalar.cmpi .ne v238 v243
  let v245 : BitVec 32 := Scalar.remsi v114 c32_i32_123
  let c0_i32_128 : BitVec 32 := 0#32
  let v246 : BitVec 1 := Scalar.cmpi .ne v245 c0_i32_128
  let v247 : BitVec 1 := Scalar.andi v244 v246
  let v233 : BitVec 32 := Scalar.divsi v114 c32_i32_123
  let c1_i32_129 : BitVec 32 := 1#32
  let v248 : BitVec 32 := Scalar.subi v233 c1_i32_129
  let v249 : BitVec 32 := Scalar.select v247 v248 v233
  let v331 : Index := Scalar.indexCast v249
  let c32_i32_130 : BitVec 32 := 32#32
  let c0_i32_131 : BitVec 32 := 0#32
  let v250 : BitVec 1 := Scalar.cmpi .eq c32_i32_130 c0_i32_131
  let c1_i32_132 : BitVec 32 := 1#32
  let v251 : BitVec 32 := Scalar.select v250 c1_i32_132 c32_i32_130
  let v252 : BitVec 32 := Scalar.remsi v114 v251
  let c0_i32_134 : BitVec 32 := 0#32
  let v254 : BitVec 1 := Scalar.cmpi .slt v252 c0_i32_134
  let c0_i32_135 : BitVec 32 := 0#32
  let v255 : BitVec 1 := Scalar.cmpi .slt v251 c0_i32_135
  let v256 : BitVec 1 := Scalar.xori v254 v255
  let c0_i32_133 : BitVec 32 := 0#32
  let v253 : BitVec 1 := Scalar.cmpi .ne v252 c0_i32_133
  let v257 : BitVec 1 := Scalar.andi v256 v253
  let v258 : BitVec 32 := Scalar.addi v252 v251
  let v259 : BitVec 32 := Scalar.select v257 v258 v252
  let c64_i32_136 : BitVec 32 := 64#32
  let v260 : BitVec 32 := Scalar.muli v259 c64_i32_136
  let v261 : BitVec 32 := v260
  let v332 : Index := Scalar.indexCast v261
  let c256 : Index := 256#32
  ![v331.toNat, v332.toNat, 256]
def k0_off8 (k0_t1 : Fin k0_t1_loop.trips) : Fin 3 → Nat :=
  let c2_i32_65 : BitVec 32 := 2#32
  let c0_i32_62 : BitVec 32 := 0#32
  let c1_i32_63 : BitVec 32 := 1#32
  let arg11 : BitVec 32 := Scf.iv c0_i32_62 c1_i32_63 k0_t1
  let v114 : BitVec 32 := Scalar.muli c2_i32_65 arg11
  let c0_i32_124 : BitVec 32 := 0#32
  let v234 : BitVec 1 := Scalar.cmpi .sgt v114 c0_i32_124
  let v235 : BitVec 32 := Scalar.extui v234
  let c0_i32_125 : BitVec 32 := 0#32
  let v236 : BitVec 1 := Scalar.cmpi .slt v114 c0_i32_125
  let v237 : BitVec 32 := Scalar.extui v236
  let v238 : BitVec 32 := Scalar.subi v235 v237
  let c32_i32_123 : BitVec 32 := 32#32
  let c0_i32_126 : BitVec 32 := 0#32
  let v239 : BitVec 1 := Scalar.cmpi .sgt c32_i32_123 c0_i32_126
  let v240 : BitVec 32 := Scalar.extui v239
  let c0_i32_127 : BitVec 32 := 0#32
  let v241 : BitVec 1 := Scalar.cmpi .slt c32_i32_123 c0_i32_127
  let v242 : BitVec 32 := Scalar.extui v241
  let v243 : BitVec 32 := Scalar.subi v240 v242
  let v244 : BitVec 1 := Scalar.cmpi .ne v238 v243
  let v245 : BitVec 32 := Scalar.remsi v114 c32_i32_123
  let c0_i32_128 : BitVec 32 := 0#32
  let v246 : BitVec 1 := Scalar.cmpi .ne v245 c0_i32_128
  let v247 : BitVec 1 := Scalar.andi v244 v246
  let v233 : BitVec 32 := Scalar.divsi v114 c32_i32_123
  let c1_i32_129 : BitVec 32 := 1#32
  let v248 : BitVec 32 := Scalar.subi v233 c1_i32_129
  let v249 : BitVec 32 := Scalar.select v247 v248 v233
  let v338 : Index := Scalar.indexCast v249
  let c32_i32_130 : BitVec 32 := 32#32
  let c0_i32_131 : BitVec 32 := 0#32
  let v250 : BitVec 1 := Scalar.cmpi .eq c32_i32_130 c0_i32_131
  let c1_i32_132 : BitVec 32 := 1#32
  let v251 : BitVec 32 := Scalar.select v250 c1_i32_132 c32_i32_130
  let v252 : BitVec 32 := Scalar.remsi v114 v251
  let c0_i32_134 : BitVec 32 := 0#32
  let v254 : BitVec 1 := Scalar.cmpi .slt v252 c0_i32_134
  let c0_i32_135 : BitVec 32 := 0#32
  let v255 : BitVec 1 := Scalar.cmpi .slt v251 c0_i32_135
  let v256 : BitVec 1 := Scalar.xori v254 v255
  let c0_i32_133 : BitVec 32 := 0#32
  let v253 : BitVec 1 := Scalar.cmpi .ne v252 c0_i32_133
  let v257 : BitVec 1 := Scalar.andi v256 v253
  let v258 : BitVec 32 := Scalar.addi v252 v251
  let v259 : BitVec 32 := Scalar.select v257 v258 v252
  let c64_i32_136 : BitVec 32 := 64#32
  let v260 : BitVec 32 := Scalar.muli v259 c64_i32_136
  let v261 : BitVec 32 := v260
  let v339 : Index := Scalar.indexCast v261
  let c512 : Index := 512#32
  ![v338.toNat, v339.toNat, 512]
def k0_off9 (k0_t1 : Fin k0_t1_loop.trips) : Fin 3 → Nat :=
  let c2_i32_65 : BitVec 32 := 2#32
  let c0_i32_62 : BitVec 32 := 0#32
  let c1_i32_63 : BitVec 32 := 1#32
  let arg11 : BitVec 32 := Scf.iv c0_i32_62 c1_i32_63 k0_t1
  let v114 : BitVec 32 := Scalar.muli c2_i32_65 arg11
  let c0_i32_124 : BitVec 32 := 0#32
  let v234 : BitVec 1 := Scalar.cmpi .sgt v114 c0_i32_124
  let v235 : BitVec 32 := Scalar.extui v234
  let c0_i32_125 : BitVec 32 := 0#32
  let v236 : BitVec 1 := Scalar.cmpi .slt v114 c0_i32_125
  let v237 : BitVec 32 := Scalar.extui v236
  let v238 : BitVec 32 := Scalar.subi v235 v237
  let c32_i32_123 : BitVec 32 := 32#32
  let c0_i32_126 : BitVec 32 := 0#32
  let v239 : BitVec 1 := Scalar.cmpi .sgt c32_i32_123 c0_i32_126
  let v240 : BitVec 32 := Scalar.extui v239
  let c0_i32_127 : BitVec 32 := 0#32
  let v241 : BitVec 1 := Scalar.cmpi .slt c32_i32_123 c0_i32_127
  let v242 : BitVec 32 := Scalar.extui v241
  let v243 : BitVec 32 := Scalar.subi v240 v242
  let v244 : BitVec 1 := Scalar.cmpi .ne v238 v243
  let v245 : BitVec 32 := Scalar.remsi v114 c32_i32_123
  let c0_i32_128 : BitVec 32 := 0#32
  let v246 : BitVec 1 := Scalar.cmpi .ne v245 c0_i32_128
  let v247 : BitVec 1 := Scalar.andi v244 v246
  let v233 : BitVec 32 := Scalar.divsi v114 c32_i32_123
  let c1_i32_129 : BitVec 32 := 1#32
  let v248 : BitVec 32 := Scalar.subi v233 c1_i32_129
  let v249 : BitVec 32 := Scalar.select v247 v248 v233
  let v348 : Index := Scalar.indexCast v249
  let c32_i32_130 : BitVec 32 := 32#32
  let c0_i32_131 : BitVec 32 := 0#32
  let v250 : BitVec 1 := Scalar.cmpi .eq c32_i32_130 c0_i32_131
  let c1_i32_132 : BitVec 32 := 1#32
  let v251 : BitVec 32 := Scalar.select v250 c1_i32_132 c32_i32_130
  let v252 : BitVec 32 := Scalar.remsi v114 v251
  let c0_i32_134 : BitVec 32 := 0#32
  let v254 : BitVec 1 := Scalar.cmpi .slt v252 c0_i32_134
  let c0_i32_135 : BitVec 32 := 0#32
  let v255 : BitVec 1 := Scalar.cmpi .slt v251 c0_i32_135
  let v256 : BitVec 1 := Scalar.xori v254 v255
  let c0_i32_133 : BitVec 32 := 0#32
  let v253 : BitVec 1 := Scalar.cmpi .ne v252 c0_i32_133
  let v257 : BitVec 1 := Scalar.andi v256 v253
  let v258 : BitVec 32 := Scalar.addi v252 v251
  let v259 : BitVec 32 := Scalar.select v257 v258 v252
  let c64_i32_136 : BitVec 32 := 64#32
  let v260 : BitVec 32 := Scalar.muli v259 c64_i32_136
  let v261 : BitVec 32 := v260
  let v349 : Index := Scalar.indexCast v261
  let c128_163 : Index := 128#32
  ![v348.toNat, v349.toNat, 128]
def k0_off10 (k0_t1 : Fin k0_t1_loop.trips) : Fin 3 → Nat :=
  let c2_i32_65 : BitVec 32 := 2#32
  let c0_i32_62 : BitVec 32 := 0#32
  let c1_i32_63 : BitVec 32 := 1#32
  let arg11 : BitVec 32 := Scf.iv c0_i32_62 c1_i32_63 k0_t1
  let v114 : BitVec 32 := Scalar.muli c2_i32_65 arg11
  let c0_i32_124 : BitVec 32 := 0#32
  let v234 : BitVec 1 := Scalar.cmpi .sgt v114 c0_i32_124
  let v235 : BitVec 32 := Scalar.extui v234
  let c0_i32_125 : BitVec 32 := 0#32
  let v236 : BitVec 1 := Scalar.cmpi .slt v114 c0_i32_125
  let v237 : BitVec 32 := Scalar.extui v236
  let v238 : BitVec 32 := Scalar.subi v235 v237
  let c32_i32_123 : BitVec 32 := 32#32
  let c0_i32_126 : BitVec 32 := 0#32
  let v239 : BitVec 1 := Scalar.cmpi .sgt c32_i32_123 c0_i32_126
  let v240 : BitVec 32 := Scalar.extui v239
  let c0_i32_127 : BitVec 32 := 0#32
  let v241 : BitVec 1 := Scalar.cmpi .slt c32_i32_123 c0_i32_127
  let v242 : BitVec 32 := Scalar.extui v241
  let v243 : BitVec 32 := Scalar.subi v240 v242
  let v244 : BitVec 1 := Scalar.cmpi .ne v238 v243
  let v245 : BitVec 32 := Scalar.remsi v114 c32_i32_123
  let c0_i32_128 : BitVec 32 := 0#32
  let v246 : BitVec 1 := Scalar.cmpi .ne v245 c0_i32_128
  let v247 : BitVec 1 := Scalar.andi v244 v246
  let v233 : BitVec 32 := Scalar.divsi v114 c32_i32_123
  let c1_i32_129 : BitVec 32 := 1#32
  let v248 : BitVec 32 := Scalar.subi v233 c1_i32_129
  let v249 : BitVec 32 := Scalar.select v247 v248 v233
  let v355 : Index := Scalar.indexCast v249
  let c32_i32_130 : BitVec 32 := 32#32
  let c0_i32_131 : BitVec 32 := 0#32
  let v250 : BitVec 1 := Scalar.cmpi .eq c32_i32_130 c0_i32_131
  let c1_i32_132 : BitVec 32 := 1#32
  let v251 : BitVec 32 := Scalar.select v250 c1_i32_132 c32_i32_130
  let v252 : BitVec 32 := Scalar.remsi v114 v251
  let c0_i32_134 : BitVec 32 := 0#32
  let v254 : BitVec 1 := Scalar.cmpi .slt v252 c0_i32_134
  let c0_i32_135 : BitVec 32 := 0#32
  let v255 : BitVec 1 := Scalar.cmpi .slt v251 c0_i32_135
  let v256 : BitVec 1 := Scalar.xori v254 v255
  let c0_i32_133 : BitVec 32 := 0#32
  let v253 : BitVec 1 := Scalar.cmpi .ne v252 c0_i32_133
  let v257 : BitVec 1 := Scalar.andi v256 v253
  let v258 : BitVec 32 := Scalar.addi v252 v251
  let v259 : BitVec 32 := Scalar.select v257 v258 v252
  let c64_i32_136 : BitVec 32 := 64#32
  let v260 : BitVec 32 := Scalar.muli v259 c64_i32_136
  let v261 : BitVec 32 := v260
  let v356 : Index := Scalar.indexCast v261
  let c384 : Index := 384#32
  ![v355.toNat, v356.toNat, 384]
def k0_off11 (k0_t1 : Fin k0_t1_loop.trips) : Fin 3 → Nat :=
  let c2_i32_65 : BitVec 32 := 2#32
  let c0_i32_62 : BitVec 32 := 0#32
  let c1_i32_63 : BitVec 32 := 1#32
  let arg11 : BitVec 32 := Scf.iv c0_i32_62 c1_i32_63 k0_t1
  let v114 : BitVec 32 := Scalar.muli c2_i32_65 arg11
  let c0_i32_124 : BitVec 32 := 0#32
  let v234 : BitVec 1 := Scalar.cmpi .sgt v114 c0_i32_124
  let v235 : BitVec 32 := Scalar.extui v234
  let c0_i32_125 : BitVec 32 := 0#32
  let v236 : BitVec 1 := Scalar.cmpi .slt v114 c0_i32_125
  let v237 : BitVec 32 := Scalar.extui v236
  let v238 : BitVec 32 := Scalar.subi v235 v237
  let c32_i32_123 : BitVec 32 := 32#32
  let c0_i32_126 : BitVec 32 := 0#32
  let v239 : BitVec 1 := Scalar.cmpi .sgt c32_i32_123 c0_i32_126
  let v240 : BitVec 32 := Scalar.extui v239
  let c0_i32_127 : BitVec 32 := 0#32
  let v241 : BitVec 1 := Scalar.cmpi .slt c32_i32_123 c0_i32_127
  let v242 : BitVec 32 := Scalar.extui v241
  let v243 : BitVec 32 := Scalar.subi v240 v242
  let v244 : BitVec 1 := Scalar.cmpi .ne v238 v243
  let v245 : BitVec 32 := Scalar.remsi v114 c32_i32_123
  let c0_i32_128 : BitVec 32 := 0#32
  let v246 : BitVec 1 := Scalar.cmpi .ne v245 c0_i32_128
  let v247 : BitVec 1 := Scalar.andi v244 v246
  let v233 : BitVec 32 := Scalar.divsi v114 c32_i32_123
  let c1_i32_129 : BitVec 32 := 1#32
  let v248 : BitVec 32 := Scalar.subi v233 c1_i32_129
  let v249 : BitVec 32 := Scalar.select v247 v248 v233
  let v362 : Index := Scalar.indexCast v249
  let c32_i32_130 : BitVec 32 := 32#32
  let c0_i32_131 : BitVec 32 := 0#32
  let v250 : BitVec 1 := Scalar.cmpi .eq c32_i32_130 c0_i32_131
  let c1_i32_132 : BitVec 32 := 1#32
  let v251 : BitVec 32 := Scalar.select v250 c1_i32_132 c32_i32_130
  let v252 : BitVec 32 := Scalar.remsi v114 v251
  let c0_i32_134 : BitVec 32 := 0#32
  let v254 : BitVec 1 := Scalar.cmpi .slt v252 c0_i32_134
  let c0_i32_135 : BitVec 32 := 0#32
  let v255 : BitVec 1 := Scalar.cmpi .slt v251 c0_i32_135
  let v256 : BitVec 1 := Scalar.xori v254 v255
  let c0_i32_133 : BitVec 32 := 0#32
  let v253 : BitVec 1 := Scalar.cmpi .ne v252 c0_i32_133
  let v257 : BitVec 1 := Scalar.andi v256 v253
  let v258 : BitVec 32 := Scalar.addi v252 v251
  let v259 : BitVec 32 := Scalar.select v257 v258 v252
  let c64_i32_136 : BitVec 32 := 64#32
  let v260 : BitVec 32 := Scalar.muli v259 c64_i32_136
  let v261 : BitVec 32 := v260
  let v363 : Index := Scalar.indexCast v261
  let c640 : Index := 640#32
  ![v362.toNat, v363.toNat, 640]
def k0_mult4 (k0_t1 : Fin k0_t1_loop.trips) : BitVec 32 :=
  let c2_i32_164 : BitVec 32 := 2#32
  let c0_i32_62 : BitVec 32 := 0#32
  let c1_i32_63 : BitVec 32 := 1#32
  let arg11 : BitVec 32 := Scf.iv c0_i32_62 c1_i32_63 k0_t1
  let v367 : BitVec 32 := Scalar.muli c2_i32_164 arg11
  let c1_i32_165 : BitVec 32 := 1#32
  let v368 : BitVec 32 := Scalar.addi v367 c1_i32_165
  let c1_i32_166 : BitVec 32 := 1#32
  let v369 : BitVec 32 := Scalar.addi v368 c1_i32_166
  let c31_i32_167 : BitVec 32 := 31#32
  let v370 : BitVec 32 := Scalar.minsi v369 c31_i32_167
  let c32_i32_175 : BitVec 32 := 32#32
  let c0_i32_176 : BitVec 32 := 0#32
  let v388 : BitVec 1 := Scalar.cmpi .eq c32_i32_175 c0_i32_176
  let c1_i32_177 : BitVec 32 := 1#32
  let v389 : BitVec 32 := Scalar.select v388 c1_i32_177 c32_i32_175
  let v390 : BitVec 32 := Scalar.remsi v370 v389
  let c0_i32_179 : BitVec 32 := 0#32
  let v392 : BitVec 1 := Scalar.cmpi .slt v390 c0_i32_179
  let c0_i32_180 : BitVec 32 := 0#32
  let v393 : BitVec 1 := Scalar.cmpi .slt v389 c0_i32_180
  let v394 : BitVec 1 := Scalar.xori v392 v393
  let c0_i32_178 : BitVec 32 := 0#32
  let v391 : BitVec 1 := Scalar.cmpi .ne v390 c0_i32_178
  let v395 : BitVec 1 := Scalar.andi v394 v391
  let v396 : BitVec 32 := Scalar.addi v390 v389
  let v397 : BitVec 32 := Scalar.select v395 v396 v390
  let c64_i32_181 : BitVec 32 := 64#32
  let v398 : BitVec 32 := Scalar.muli v397 c64_i32_181
  v398
def k0_off12 (k0_t1 : Fin k0_t1_loop.trips) : Fin 3 → Nat :=
  let c2_i32_164 : BitVec 32 := 2#32
  let c0_i32_62 : BitVec 32 := 0#32
  let c1_i32_63 : BitVec 32 := 1#32
  let arg11 : BitVec 32 := Scf.iv c0_i32_62 c1_i32_63 k0_t1
  let v367 : BitVec 32 := Scalar.muli c2_i32_164 arg11
  let c1_i32_165 : BitVec 32 := 1#32
  let v368 : BitVec 32 := Scalar.addi v367 c1_i32_165
  let c1_i32_166 : BitVec 32 := 1#32
  let v369 : BitVec 32 := Scalar.addi v368 c1_i32_166
  let c31_i32_167 : BitVec 32 := 31#32
  let v370 : BitVec 32 := Scalar.minsi v369 c31_i32_167
  let c0_i32_169 : BitVec 32 := 0#32
  let v372 : BitVec 1 := Scalar.cmpi .sgt v370 c0_i32_169
  let v373 : BitVec 32 := Scalar.extui v372
  let c0_i32_170 : BitVec 32 := 0#32
  let v374 : BitVec 1 := Scalar.cmpi .slt v370 c0_i32_170
  let v375 : BitVec 32 := Scalar.extui v374
  let v376 : BitVec 32 := Scalar.subi v373 v375
  let c32_i32_168 : BitVec 32 := 32#32
  let c0_i32_171 : BitVec 32 := 0#32
  let v377 : BitVec 1 := Scalar.cmpi .sgt c32_i32_168 c0_i32_171
  let v378 : BitVec 32 := Scalar.extui v377
  let c0_i32_172 : BitVec 32 := 0#32
  let v379 : BitVec 1 := Scalar.cmpi .slt c32_i32_168 c0_i32_172
  let v380 : BitVec 32 := Scalar.extui v379
  let v381 : BitVec 32 := Scalar.subi v378 v380
  let v382 : BitVec 1 := Scalar.cmpi .ne v376 v381
  let v383 : BitVec 32 := Scalar.remsi v370 c32_i32_168
  let c0_i32_173 : BitVec 32 := 0#32
  let v384 : BitVec 1 := Scalar.cmpi .ne v383 c0_i32_173
  let v385 : BitVec 1 := Scalar.andi v382 v384
  let v371 : BitVec 32 := Scalar.divsi v370 c32_i32_168
  let c1_i32_174 : BitVec 32 := 1#32
  let v386 : BitVec 32 := Scalar.subi v371 c1_i32_174
  let v387 : BitVec 32 := Scalar.select v385 v386 v371
  let v400 : Index := Scalar.indexCast v387
  let c32_i32_175 : BitVec 32 := 32#32
  let c0_i32_176 : BitVec 32 := 0#32
  let v388 : BitVec 1 := Scalar.cmpi .eq c32_i32_175 c0_i32_176
  let c1_i32_177 : BitVec 32 := 1#32
  let v389 : BitVec 32 := Scalar.select v388 c1_i32_177 c32_i32_175
  let v390 : BitVec 32 := Scalar.remsi v370 v389
  let c0_i32_179 : BitVec 32 := 0#32
  let v392 : BitVec 1 := Scalar.cmpi .slt v390 c0_i32_179
  let c0_i32_180 : BitVec 32 := 0#32
  let v393 : BitVec 1 := Scalar.cmpi .slt v389 c0_i32_180
  let v394 : BitVec 1 := Scalar.xori v392 v393
  let c0_i32_178 : BitVec 32 := 0#32
  let v391 : BitVec 1 := Scalar.cmpi .ne v390 c0_i32_178
  let v395 : BitVec 1 := Scalar.andi v394 v391
  let v396 : BitVec 32 := Scalar.addi v390 v389
  let v397 : BitVec 32 := Scalar.select v395 v396 v390
  let c64_i32_181 : BitVec 32 := 64#32
  let v398 : BitVec 32 := Scalar.muli v397 c64_i32_181
  let v399 : BitVec 32 := v398
  let v401 : Index := Scalar.indexCast v399
  let c0_182 : Index := 0#32
  ![v400.toNat, v401.toNat, 0]
def k0_off13 (k0_t1 : Fin k0_t1_loop.trips) : Fin 3 → Nat :=
  let c2_i32_164 : BitVec 32 := 2#32
  let c0_i32_62 : BitVec 32 := 0#32
  let c1_i32_63 : BitVec 32 := 1#32
  let arg11 : BitVec 32 := Scf.iv c0_i32_62 c1_i32_63 k0_t1
  let v367 : BitVec 32 := Scalar.muli c2_i32_164 arg11
  let c1_i32_165 : BitVec 32 := 1#32
  let v368 : BitVec 32 := Scalar.addi v367 c1_i32_165
  let c1_i32_166 : BitVec 32 := 1#32
  let v369 : BitVec 32 := Scalar.addi v368 c1_i32_166
  let c31_i32_167 : BitVec 32 := 31#32
  let v370 : BitVec 32 := Scalar.minsi v369 c31_i32_167
  let c0_i32_169 : BitVec 32 := 0#32
  let v372 : BitVec 1 := Scalar.cmpi .sgt v370 c0_i32_169
  let v373 : BitVec 32 := Scalar.extui v372
  let c0_i32_170 : BitVec 32 := 0#32
  let v374 : BitVec 1 := Scalar.cmpi .slt v370 c0_i32_170
  let v375 : BitVec 32 := Scalar.extui v374
  let v376 : BitVec 32 := Scalar.subi v373 v375
  let c32_i32_168 : BitVec 32 := 32#32
  let c0_i32_171 : BitVec 32 := 0#32
  let v377 : BitVec 1 := Scalar.cmpi .sgt c32_i32_168 c0_i32_171
  let v378 : BitVec 32 := Scalar.extui v377
  let c0_i32_172 : BitVec 32 := 0#32
  let v379 : BitVec 1 := Scalar.cmpi .slt c32_i32_168 c0_i32_172
  let v380 : BitVec 32 := Scalar.extui v379
  let v381 : BitVec 32 := Scalar.subi v378 v380
  let v382 : BitVec 1 := Scalar.cmpi .ne v376 v381
  let v383 : BitVec 32 := Scalar.remsi v370 c32_i32_168
  let c0_i32_173 : BitVec 32 := 0#32
  let v384 : BitVec 1 := Scalar.cmpi .ne v383 c0_i32_173
  let v385 : BitVec 1 := Scalar.andi v382 v384
  let v371 : BitVec 32 := Scalar.divsi v370 c32_i32_168
  let c1_i32_174 : BitVec 32 := 1#32
  let v386 : BitVec 32 := Scalar.subi v371 c1_i32_174
  let v387 : BitVec 32 := Scalar.select v385 v386 v371
  let v406 : Index := Scalar.indexCast v387
  let c32_i32_175 : BitVec 32 := 32#32
  let c0_i32_176 : BitVec 32 := 0#32
  let v388 : BitVec 1 := Scalar.cmpi .eq c32_i32_175 c0_i32_176
  let c1_i32_177 : BitVec 32 := 1#32
  let v389 : BitVec 32 := Scalar.select v388 c1_i32_177 c32_i32_175
  let v390 : BitVec 32 := Scalar.remsi v370 v389
  let c0_i32_179 : BitVec 32 := 0#32
  let v392 : BitVec 1 := Scalar.cmpi .slt v390 c0_i32_179
  let c0_i32_180 : BitVec 32 := 0#32
  let v393 : BitVec 1 := Scalar.cmpi .slt v389 c0_i32_180
  let v394 : BitVec 1 := Scalar.xori v392 v393
  let c0_i32_178 : BitVec 32 := 0#32
  let v391 : BitVec 1 := Scalar.cmpi .ne v390 c0_i32_178
  let v395 : BitVec 1 := Scalar.andi v394 v391
  let v396 : BitVec 32 := Scalar.addi v390 v389
  let v397 : BitVec 32 := Scalar.select v395 v396 v390
  let c64_i32_181 : BitVec 32 := 64#32
  let v398 : BitVec 32 := Scalar.muli v397 c64_i32_181
  let v399 : BitVec 32 := v398
  let v407 : Index := Scalar.indexCast v399
  let c0_184 : Index := 0#32
  ![v406.toNat, v407.toNat, 0]
def k0_off14 (k0_t1 : Fin k0_t1_loop.trips) (c0_i32_189 : BitVec 32) : Fin 3 → Nat :=
  let c2_i32_164 : BitVec 32 := 2#32
  let c0_i32_62 : BitVec 32 := 0#32
  let c1_i32_63 : BitVec 32 := 1#32
  let arg11 : BitVec 32 := Scf.iv c0_i32_62 c1_i32_63 k0_t1
  let v367 : BitVec 32 := Scalar.muli c2_i32_164 arg11
  let c1_i32_165 : BitVec 32 := 1#32
  let v368 : BitVec 32 := Scalar.addi v367 c1_i32_165
  let c1_i32_166 : BitVec 32 := 1#32
  let v369 : BitVec 32 := Scalar.addi v368 c1_i32_166
  let c31_i32_167 : BitVec 32 := 31#32
  let v370 : BitVec 32 := Scalar.minsi v369 c31_i32_167
  let c32_i32_175 : BitVec 32 := 32#32
  let c0_i32_176 : BitVec 32 := 0#32
  let v388 : BitVec 1 := Scalar.cmpi .eq c32_i32_175 c0_i32_176
  let c1_i32_177 : BitVec 32 := 1#32
  let v389 : BitVec 32 := Scalar.select v388 c1_i32_177 c32_i32_175
  let v390 : BitVec 32 := Scalar.remsi v370 v389
  let c0_i32_179 : BitVec 32 := 0#32
  let v392 : BitVec 1 := Scalar.cmpi .slt v390 c0_i32_179
  let c0_i32_180 : BitVec 32 := 0#32
  let v393 : BitVec 1 := Scalar.cmpi .slt v389 c0_i32_180
  let v394 : BitVec 1 := Scalar.xori v392 v393
  let c0_i32_178 : BitVec 32 := 0#32
  let v391 : BitVec 1 := Scalar.cmpi .ne v390 c0_i32_178
  let v395 : BitVec 1 := Scalar.andi v394 v391
  let v396 : BitVec 32 := Scalar.addi v390 v389
  let v397 : BitVec 32 := Scalar.select v395 v396 v390
  let c2_i32_185 : BitVec 32 := 2#32
  let v411 : BitVec 32 := Scalar.minsi v397 c2_i32_185
  let c4_i32_186 : BitVec 32 := 4#32
  let v412 : BitVec 32 := Scalar.muli v411 c4_i32_186
  let v423 : BitVec 32 := Scalar.addi v412 c0_i32_189
  let v424 : Index := Scalar.indexCast v423
  let c0_190 : Index := 0#32
  let c0_191 : Index := 0#32
  ![v424.toNat, 0, 0]
def k0_mult5 (k0_t1 : Fin k0_t1_loop.trips) : BitVec 32 :=
  let c2_i32_164 : BitVec 32 := 2#32
  let c0_i32_62 : BitVec 32 := 0#32
  let c1_i32_63 : BitVec 32 := 1#32
  let arg11 : BitVec 32 := Scf.iv c0_i32_62 c1_i32_63 k0_t1
  let v367 : BitVec 32 := Scalar.muli c2_i32_164 arg11
  let c1_i32_165 : BitVec 32 := 1#32
  let v368 : BitVec 32 := Scalar.addi v367 c1_i32_165
  let c32_i32_232 : BitVec 32 := 32#32
  let c0_i32_233 : BitVec 32 := 0#32
  let v504 : BitVec 1 := Scalar.cmpi .eq c32_i32_232 c0_i32_233
  let c1_i32_234 : BitVec 32 := 1#32
  let v505 : BitVec 32 := Scalar.select v504 c1_i32_234 c32_i32_232
  let v506 : BitVec 32 := Scalar.remsi v368 v505
  let c0_i32_236 : BitVec 32 := 0#32
  let v508 : BitVec 1 := Scalar.cmpi .slt v506 c0_i32_236
  let c0_i32_237 : BitVec 32 := 0#32
  let v509 : BitVec 1 := Scalar.cmpi .slt v505 c0_i32_237
  let v510 : BitVec 1 := Scalar.xori v508 v509
  let c0_i32_235 : BitVec 32 := 0#32
  let v507 : BitVec 1 := Scalar.cmpi .ne v506 c0_i32_235
  let v511 : BitVec 1 := Scalar.andi v510 v507
  let v512 : BitVec 32 := Scalar.addi v506 v505
  let v513 : BitVec 32 := Scalar.select v511 v512 v506
  let c64_i32_238 : BitVec 32 := 64#32
  let v514 : BitVec 32 := Scalar.muli v513 c64_i32_238
  v514
def k0_off15 (k0_t1 : Fin k0_t1_loop.trips) : Fin 3 → Nat :=
  let c2_i32_164 : BitVec 32 := 2#32
  let c0_i32_62 : BitVec 32 := 0#32
  let c1_i32_63 : BitVec 32 := 1#32
  let arg11 : BitVec 32 := Scf.iv c0_i32_62 c1_i32_63 k0_t1
  let v367 : BitVec 32 := Scalar.muli c2_i32_164 arg11
  let c1_i32_165 : BitVec 32 := 1#32
  let v368 : BitVec 32 := Scalar.addi v367 c1_i32_165
  let c0_i32_226 : BitVec 32 := 0#32
  let v488 : BitVec 1 := Scalar.cmpi .sgt v368 c0_i32_226
  let v489 : BitVec 32 := Scalar.extui v488
  let c0_i32_227 : BitVec 32 := 0#32
  let v490 : BitVec 1 := Scalar.cmpi .slt v368 c0_i32_227
  let v491 : BitVec 32 := Scalar.extui v490
  let v492 : BitVec 32 := Scalar.subi v489 v491
  let c32_i32_225 : BitVec 32 := 32#32
  let c0_i32_228 : BitVec 32 := 0#32
  let v493 : BitVec 1 := Scalar.cmpi .sgt c32_i32_225 c0_i32_228
  let v494 : BitVec 32 := Scalar.extui v493
  let c0_i32_229 : BitVec 32 := 0#32
  let v495 : BitVec 1 := Scalar.cmpi .slt c32_i32_225 c0_i32_229
  let v496 : BitVec 32 := Scalar.extui v495
  let v497 : BitVec 32 := Scalar.subi v494 v496
  let v498 : BitVec 1 := Scalar.cmpi .ne v492 v497
  let v499 : BitVec 32 := Scalar.remsi v368 c32_i32_225
  let c0_i32_230 : BitVec 32 := 0#32
  let v500 : BitVec 1 := Scalar.cmpi .ne v499 c0_i32_230
  let v501 : BitVec 1 := Scalar.andi v498 v500
  let v487 : BitVec 32 := Scalar.divsi v368 c32_i32_225
  let c1_i32_231 : BitVec 32 := 1#32
  let v502 : BitVec 32 := Scalar.subi v487 c1_i32_231
  let v503 : BitVec 32 := Scalar.select v501 v502 v487
  let v516 : Index := Scalar.indexCast v503
  let c32_i32_232 : BitVec 32 := 32#32
  let c0_i32_233 : BitVec 32 := 0#32
  let v504 : BitVec 1 := Scalar.cmpi .eq c32_i32_232 c0_i32_233
  let c1_i32_234 : BitVec 32 := 1#32
  let v505 : BitVec 32 := Scalar.select v504 c1_i32_234 c32_i32_232
  let v506 : BitVec 32 := Scalar.remsi v368 v505
  let c0_i32_236 : BitVec 32 := 0#32
  let v508 : BitVec 1 := Scalar.cmpi .slt v506 c0_i32_236
  let c0_i32_237 : BitVec 32 := 0#32
  let v509 : BitVec 1 := Scalar.cmpi .slt v505 c0_i32_237
  let v510 : BitVec 1 := Scalar.xori v508 v509
  let c0_i32_235 : BitVec 32 := 0#32
  let v507 : BitVec 1 := Scalar.cmpi .ne v506 c0_i32_235
  let v511 : BitVec 1 := Scalar.andi v510 v507
  let v512 : BitVec 32 := Scalar.addi v506 v505
  let v513 : BitVec 32 := Scalar.select v511 v512 v506
  let c64_i32_238 : BitVec 32 := 64#32
  let v514 : BitVec 32 := Scalar.muli v513 c64_i32_238
  let v515 : BitVec 32 := v514
  let v517 : Index := Scalar.indexCast v515
  let c0_239 : Index := 0#32
  ![v516.toNat, v517.toNat, 0]
def k0_off16 (k0_t1 : Fin k0_t1_loop.trips) : Fin 3 → Nat :=
  let c2_i32_164 : BitVec 32 := 2#32
  let c0_i32_62 : BitVec 32 := 0#32
  let c1_i32_63 : BitVec 32 := 1#32
  let arg11 : BitVec 32 := Scf.iv c0_i32_62 c1_i32_63 k0_t1
  let v367 : BitVec 32 := Scalar.muli c2_i32_164 arg11
  let c1_i32_165 : BitVec 32 := 1#32
  let v368 : BitVec 32 := Scalar.addi v367 c1_i32_165
  let c0_i32_226 : BitVec 32 := 0#32
  let v488 : BitVec 1 := Scalar.cmpi .sgt v368 c0_i32_226
  let v489 : BitVec 32 := Scalar.extui v488
  let c0_i32_227 : BitVec 32 := 0#32
  let v490 : BitVec 1 := Scalar.cmpi .slt v368 c0_i32_227
  let v491 : BitVec 32 := Scalar.extui v490
  let v492 : BitVec 32 := Scalar.subi v489 v491
  let c32_i32_225 : BitVec 32 := 32#32
  let c0_i32_228 : BitVec 32 := 0#32
  let v493 : BitVec 1 := Scalar.cmpi .sgt c32_i32_225 c0_i32_228
  let v494 : BitVec 32 := Scalar.extui v493
  let c0_i32_229 : BitVec 32 := 0#32
  let v495 : BitVec 1 := Scalar.cmpi .slt c32_i32_225 c0_i32_229
  let v496 : BitVec 32 := Scalar.extui v495
  let v497 : BitVec 32 := Scalar.subi v494 v496
  let v498 : BitVec 1 := Scalar.cmpi .ne v492 v497
  let v499 : BitVec 32 := Scalar.remsi v368 c32_i32_225
  let c0_i32_230 : BitVec 32 := 0#32
  let v500 : BitVec 1 := Scalar.cmpi .ne v499 c0_i32_230
  let v501 : BitVec 1 := Scalar.andi v498 v500
  let v487 : BitVec 32 := Scalar.divsi v368 c32_i32_225
  let c1_i32_231 : BitVec 32 := 1#32
  let v502 : BitVec 32 := Scalar.subi v487 c1_i32_231
  let v503 : BitVec 32 := Scalar.select v501 v502 v487
  let v578 : Index := Scalar.indexCast v503
  let c32_i32_232 : BitVec 32 := 32#32
  let c0_i32_233 : BitVec 32 := 0#32
  let v504 : BitVec 1 := Scalar.cmpi .eq c32_i32_232 c0_i32_233
  let c1_i32_234 : BitVec 32 := 1#32
  let v505 : BitVec 32 := Scalar.select v504 c1_i32_234 c32_i32_232
  let v506 : BitVec 32 := Scalar.remsi v368 v505
  let c0_i32_236 : BitVec 32 := 0#32
  let v508 : BitVec 1 := Scalar.cmpi .slt v506 c0_i32_236
  let c0_i32_237 : BitVec 32 := 0#32
  let v509 : BitVec 1 := Scalar.cmpi .slt v505 c0_i32_237
  let v510 : BitVec 1 := Scalar.xori v508 v509
  let c0_i32_235 : BitVec 32 := 0#32
  let v507 : BitVec 1 := Scalar.cmpi .ne v506 c0_i32_235
  let v511 : BitVec 1 := Scalar.andi v510 v507
  let v512 : BitVec 32 := Scalar.addi v506 v505
  let v513 : BitVec 32 := Scalar.select v511 v512 v506
  let c64_i32_238 : BitVec 32 := 64#32
  let v514 : BitVec 32 := Scalar.muli v513 c64_i32_238
  let v515 : BitVec 32 := v514
  let v579 : Index := Scalar.indexCast v515
  let c0_264 : Index := 0#32
  ![v578.toNat, v579.toNat, 0]
def k0_off17 (k0_t1 : Fin k0_t1_loop.trips) : Fin 3 → Nat :=
  let c2_i32_164 : BitVec 32 := 2#32
  let c0_i32_62 : BitVec 32 := 0#32
  let c1_i32_63 : BitVec 32 := 1#32
  let arg11 : BitVec 32 := Scf.iv c0_i32_62 c1_i32_63 k0_t1
  let v367 : BitVec 32 := Scalar.muli c2_i32_164 arg11
  let c1_i32_165 : BitVec 32 := 1#32
  let v368 : BitVec 32 := Scalar.addi v367 c1_i32_165
  let c0_i32_226 : BitVec 32 := 0#32
  let v488 : BitVec 1 := Scalar.cmpi .sgt v368 c0_i32_226
  let v489 : BitVec 32 := Scalar.extui v488
  let c0_i32_227 : BitVec 32 := 0#32
  let v490 : BitVec 1 := Scalar.cmpi .slt v368 c0_i32_227
  let v491 : BitVec 32 := Scalar.extui v490
  let v492 : BitVec 32 := Scalar.subi v489 v491
  let c32_i32_225 : BitVec 32 := 32#32
  let c0_i32_228 : BitVec 32 := 0#32
  let v493 : BitVec 1 := Scalar.cmpi .sgt c32_i32_225 c0_i32_228
  let v494 : BitVec 32 := Scalar.extui v493
  let c0_i32_229 : BitVec 32 := 0#32
  let v495 : BitVec 1 := Scalar.cmpi .slt c32_i32_225 c0_i32_229
  let v496 : BitVec 32 := Scalar.extui v495
  let v497 : BitVec 32 := Scalar.subi v494 v496
  let v498 : BitVec 1 := Scalar.cmpi .ne v492 v497
  let v499 : BitVec 32 := Scalar.remsi v368 c32_i32_225
  let c0_i32_230 : BitVec 32 := 0#32
  let v500 : BitVec 1 := Scalar.cmpi .ne v499 c0_i32_230
  let v501 : BitVec 1 := Scalar.andi v498 v500
  let v487 : BitVec 32 := Scalar.divsi v368 c32_i32_225
  let c1_i32_231 : BitVec 32 := 1#32
  let v502 : BitVec 32 := Scalar.subi v487 c1_i32_231
  let v503 : BitVec 32 := Scalar.select v501 v502 v487
  let v585 : Index := Scalar.indexCast v503
  let c32_i32_232 : BitVec 32 := 32#32
  let c0_i32_233 : BitVec 32 := 0#32
  let v504 : BitVec 1 := Scalar.cmpi .eq c32_i32_232 c0_i32_233
  let c1_i32_234 : BitVec 32 := 1#32
  let v505 : BitVec 32 := Scalar.select v504 c1_i32_234 c32_i32_232
  let v506 : BitVec 32 := Scalar.remsi v368 v505
  let c0_i32_236 : BitVec 32 := 0#32
  let v508 : BitVec 1 := Scalar.cmpi .slt v506 c0_i32_236
  let c0_i32_237 : BitVec 32 := 0#32
  let v509 : BitVec 1 := Scalar.cmpi .slt v505 c0_i32_237
  let v510 : BitVec 1 := Scalar.xori v508 v509
  let c0_i32_235 : BitVec 32 := 0#32
  let v507 : BitVec 1 := Scalar.cmpi .ne v506 c0_i32_235
  let v511 : BitVec 1 := Scalar.andi v510 v507
  let v512 : BitVec 32 := Scalar.addi v506 v505
  let v513 : BitVec 32 := Scalar.select v511 v512 v506
  let c64_i32_238 : BitVec 32 := 64#32
  let v514 : BitVec 32 := Scalar.muli v513 c64_i32_238
  let v515 : BitVec 32 := v514
  let v586 : Index := Scalar.indexCast v515
  let c256_265 : Index := 256#32
  ![v585.toNat, v586.toNat, 256]
def k0_off18 (k0_t1 : Fin k0_t1_loop.trips) : Fin 3 → Nat :=
  let c2_i32_164 : BitVec 32 := 2#32
  let c0_i32_62 : BitVec 32 := 0#32
  let c1_i32_63 : BitVec 32 := 1#32
  let arg11 : BitVec 32 := Scf.iv c0_i32_62 c1_i32_63 k0_t1
  let v367 : BitVec 32 := Scalar.muli c2_i32_164 arg11
  let c1_i32_165 : BitVec 32 := 1#32
  let v368 : BitVec 32 := Scalar.addi v367 c1_i32_165
  let c0_i32_226 : BitVec 32 := 0#32
  let v488 : BitVec 1 := Scalar.cmpi .sgt v368 c0_i32_226
  let v489 : BitVec 32 := Scalar.extui v488
  let c0_i32_227 : BitVec 32 := 0#32
  let v490 : BitVec 1 := Scalar.cmpi .slt v368 c0_i32_227
  let v491 : BitVec 32 := Scalar.extui v490
  let v492 : BitVec 32 := Scalar.subi v489 v491
  let c32_i32_225 : BitVec 32 := 32#32
  let c0_i32_228 : BitVec 32 := 0#32
  let v493 : BitVec 1 := Scalar.cmpi .sgt c32_i32_225 c0_i32_228
  let v494 : BitVec 32 := Scalar.extui v493
  let c0_i32_229 : BitVec 32 := 0#32
  let v495 : BitVec 1 := Scalar.cmpi .slt c32_i32_225 c0_i32_229
  let v496 : BitVec 32 := Scalar.extui v495
  let v497 : BitVec 32 := Scalar.subi v494 v496
  let v498 : BitVec 1 := Scalar.cmpi .ne v492 v497
  let v499 : BitVec 32 := Scalar.remsi v368 c32_i32_225
  let c0_i32_230 : BitVec 32 := 0#32
  let v500 : BitVec 1 := Scalar.cmpi .ne v499 c0_i32_230
  let v501 : BitVec 1 := Scalar.andi v498 v500
  let v487 : BitVec 32 := Scalar.divsi v368 c32_i32_225
  let c1_i32_231 : BitVec 32 := 1#32
  let v502 : BitVec 32 := Scalar.subi v487 c1_i32_231
  let v503 : BitVec 32 := Scalar.select v501 v502 v487
  let v592 : Index := Scalar.indexCast v503
  let c32_i32_232 : BitVec 32 := 32#32
  let c0_i32_233 : BitVec 32 := 0#32
  let v504 : BitVec 1 := Scalar.cmpi .eq c32_i32_232 c0_i32_233
  let c1_i32_234 : BitVec 32 := 1#32
  let v505 : BitVec 32 := Scalar.select v504 c1_i32_234 c32_i32_232
  let v506 : BitVec 32 := Scalar.remsi v368 v505
  let c0_i32_236 : BitVec 32 := 0#32
  let v508 : BitVec 1 := Scalar.cmpi .slt v506 c0_i32_236
  let c0_i32_237 : BitVec 32 := 0#32
  let v509 : BitVec 1 := Scalar.cmpi .slt v505 c0_i32_237
  let v510 : BitVec 1 := Scalar.xori v508 v509
  let c0_i32_235 : BitVec 32 := 0#32
  let v507 : BitVec 1 := Scalar.cmpi .ne v506 c0_i32_235
  let v511 : BitVec 1 := Scalar.andi v510 v507
  let v512 : BitVec 32 := Scalar.addi v506 v505
  let v513 : BitVec 32 := Scalar.select v511 v512 v506
  let c64_i32_238 : BitVec 32 := 64#32
  let v514 : BitVec 32 := Scalar.muli v513 c64_i32_238
  let v515 : BitVec 32 := v514
  let v593 : Index := Scalar.indexCast v515
  let c512_266 : Index := 512#32
  ![v592.toNat, v593.toNat, 512]
def k0_off19 (k0_t1 : Fin k0_t1_loop.trips) : Fin 3 → Nat :=
  let c2_i32_164 : BitVec 32 := 2#32
  let c0_i32_62 : BitVec 32 := 0#32
  let c1_i32_63 : BitVec 32 := 1#32
  let arg11 : BitVec 32 := Scf.iv c0_i32_62 c1_i32_63 k0_t1
  let v367 : BitVec 32 := Scalar.muli c2_i32_164 arg11
  let c1_i32_165 : BitVec 32 := 1#32
  let v368 : BitVec 32 := Scalar.addi v367 c1_i32_165
  let c0_i32_226 : BitVec 32 := 0#32
  let v488 : BitVec 1 := Scalar.cmpi .sgt v368 c0_i32_226
  let v489 : BitVec 32 := Scalar.extui v488
  let c0_i32_227 : BitVec 32 := 0#32
  let v490 : BitVec 1 := Scalar.cmpi .slt v368 c0_i32_227
  let v491 : BitVec 32 := Scalar.extui v490
  let v492 : BitVec 32 := Scalar.subi v489 v491
  let c32_i32_225 : BitVec 32 := 32#32
  let c0_i32_228 : BitVec 32 := 0#32
  let v493 : BitVec 1 := Scalar.cmpi .sgt c32_i32_225 c0_i32_228
  let v494 : BitVec 32 := Scalar.extui v493
  let c0_i32_229 : BitVec 32 := 0#32
  let v495 : BitVec 1 := Scalar.cmpi .slt c32_i32_225 c0_i32_229
  let v496 : BitVec 32 := Scalar.extui v495
  let v497 : BitVec 32 := Scalar.subi v494 v496
  let v498 : BitVec 1 := Scalar.cmpi .ne v492 v497
  let v499 : BitVec 32 := Scalar.remsi v368 c32_i32_225
  let c0_i32_230 : BitVec 32 := 0#32
  let v500 : BitVec 1 := Scalar.cmpi .ne v499 c0_i32_230
  let v501 : BitVec 1 := Scalar.andi v498 v500
  let v487 : BitVec 32 := Scalar.divsi v368 c32_i32_225
  let c1_i32_231 : BitVec 32 := 1#32
  let v502 : BitVec 32 := Scalar.subi v487 c1_i32_231
  let v503 : BitVec 32 := Scalar.select v501 v502 v487
  let v602 : Index := Scalar.indexCast v503
  let c32_i32_232 : BitVec 32 := 32#32
  let c0_i32_233 : BitVec 32 := 0#32
  let v504 : BitVec 1 := Scalar.cmpi .eq c32_i32_232 c0_i32_233
  let c1_i32_234 : BitVec 32 := 1#32
  let v505 : BitVec 32 := Scalar.select v504 c1_i32_234 c32_i32_232
  let v506 : BitVec 32 := Scalar.remsi v368 v505
  let c0_i32_236 : BitVec 32 := 0#32
  let v508 : BitVec 1 := Scalar.cmpi .slt v506 c0_i32_236
  let c0_i32_237 : BitVec 32 := 0#32
  let v509 : BitVec 1 := Scalar.cmpi .slt v505 c0_i32_237
  let v510 : BitVec 1 := Scalar.xori v508 v509
  let c0_i32_235 : BitVec 32 := 0#32
  let v507 : BitVec 1 := Scalar.cmpi .ne v506 c0_i32_235
  let v511 : BitVec 1 := Scalar.andi v510 v507
  let v512 : BitVec 32 := Scalar.addi v506 v505
  let v513 : BitVec 32 := Scalar.select v511 v512 v506
  let c64_i32_238 : BitVec 32 := 64#32
  let v514 : BitVec 32 := Scalar.muli v513 c64_i32_238
  let v515 : BitVec 32 := v514
  let v603 : Index := Scalar.indexCast v515
  let c128_267 : Index := 128#32
  ![v602.toNat, v603.toNat, 128]
def k0_off20 (k0_t1 : Fin k0_t1_loop.trips) : Fin 3 → Nat :=
  let c2_i32_164 : BitVec 32 := 2#32
  let c0_i32_62 : BitVec 32 := 0#32
  let c1_i32_63 : BitVec 32 := 1#32
  let arg11 : BitVec 32 := Scf.iv c0_i32_62 c1_i32_63 k0_t1
  let v367 : BitVec 32 := Scalar.muli c2_i32_164 arg11
  let c1_i32_165 : BitVec 32 := 1#32
  let v368 : BitVec 32 := Scalar.addi v367 c1_i32_165
  let c0_i32_226 : BitVec 32 := 0#32
  let v488 : BitVec 1 := Scalar.cmpi .sgt v368 c0_i32_226
  let v489 : BitVec 32 := Scalar.extui v488
  let c0_i32_227 : BitVec 32 := 0#32
  let v490 : BitVec 1 := Scalar.cmpi .slt v368 c0_i32_227
  let v491 : BitVec 32 := Scalar.extui v490
  let v492 : BitVec 32 := Scalar.subi v489 v491
  let c32_i32_225 : BitVec 32 := 32#32
  let c0_i32_228 : BitVec 32 := 0#32
  let v493 : BitVec 1 := Scalar.cmpi .sgt c32_i32_225 c0_i32_228
  let v494 : BitVec 32 := Scalar.extui v493
  let c0_i32_229 : BitVec 32 := 0#32
  let v495 : BitVec 1 := Scalar.cmpi .slt c32_i32_225 c0_i32_229
  let v496 : BitVec 32 := Scalar.extui v495
  let v497 : BitVec 32 := Scalar.subi v494 v496
  let v498 : BitVec 1 := Scalar.cmpi .ne v492 v497
  let v499 : BitVec 32 := Scalar.remsi v368 c32_i32_225
  let c0_i32_230 : BitVec 32 := 0#32
  let v500 : BitVec 1 := Scalar.cmpi .ne v499 c0_i32_230
  let v501 : BitVec 1 := Scalar.andi v498 v500
  let v487 : BitVec 32 := Scalar.divsi v368 c32_i32_225
  let c1_i32_231 : BitVec 32 := 1#32
  let v502 : BitVec 32 := Scalar.subi v487 c1_i32_231
  let v503 : BitVec 32 := Scalar.select v501 v502 v487
  let v609 : Index := Scalar.indexCast v503
  let c32_i32_232 : BitVec 32 := 32#32
  let c0_i32_233 : BitVec 32 := 0#32
  let v504 : BitVec 1 := Scalar.cmpi .eq c32_i32_232 c0_i32_233
  let c1_i32_234 : BitVec 32 := 1#32
  let v505 : BitVec 32 := Scalar.select v504 c1_i32_234 c32_i32_232
  let v506 : BitVec 32 := Scalar.remsi v368 v505
  let c0_i32_236 : BitVec 32 := 0#32
  let v508 : BitVec 1 := Scalar.cmpi .slt v506 c0_i32_236
  let c0_i32_237 : BitVec 32 := 0#32
  let v509 : BitVec 1 := Scalar.cmpi .slt v505 c0_i32_237
  let v510 : BitVec 1 := Scalar.xori v508 v509
  let c0_i32_235 : BitVec 32 := 0#32
  let v507 : BitVec 1 := Scalar.cmpi .ne v506 c0_i32_235
  let v511 : BitVec 1 := Scalar.andi v510 v507
  let v512 : BitVec 32 := Scalar.addi v506 v505
  let v513 : BitVec 32 := Scalar.select v511 v512 v506
  let c64_i32_238 : BitVec 32 := 64#32
  let v514 : BitVec 32 := Scalar.muli v513 c64_i32_238
  let v515 : BitVec 32 := v514
  let v610 : Index := Scalar.indexCast v515
  let c384_268 : Index := 384#32
  ![v609.toNat, v610.toNat, 384]
def k0_off21 (k0_t1 : Fin k0_t1_loop.trips) : Fin 3 → Nat :=
  let c2_i32_164 : BitVec 32 := 2#32
  let c0_i32_62 : BitVec 32 := 0#32
  let c1_i32_63 : BitVec 32 := 1#32
  let arg11 : BitVec 32 := Scf.iv c0_i32_62 c1_i32_63 k0_t1
  let v367 : BitVec 32 := Scalar.muli c2_i32_164 arg11
  let c1_i32_165 : BitVec 32 := 1#32
  let v368 : BitVec 32 := Scalar.addi v367 c1_i32_165
  let c0_i32_226 : BitVec 32 := 0#32
  let v488 : BitVec 1 := Scalar.cmpi .sgt v368 c0_i32_226
  let v489 : BitVec 32 := Scalar.extui v488
  let c0_i32_227 : BitVec 32 := 0#32
  let v490 : BitVec 1 := Scalar.cmpi .slt v368 c0_i32_227
  let v491 : BitVec 32 := Scalar.extui v490
  let v492 : BitVec 32 := Scalar.subi v489 v491
  let c32_i32_225 : BitVec 32 := 32#32
  let c0_i32_228 : BitVec 32 := 0#32
  let v493 : BitVec 1 := Scalar.cmpi .sgt c32_i32_225 c0_i32_228
  let v494 : BitVec 32 := Scalar.extui v493
  let c0_i32_229 : BitVec 32 := 0#32
  let v495 : BitVec 1 := Scalar.cmpi .slt c32_i32_225 c0_i32_229
  let v496 : BitVec 32 := Scalar.extui v495
  let v497 : BitVec 32 := Scalar.subi v494 v496
  let v498 : BitVec 1 := Scalar.cmpi .ne v492 v497
  let v499 : BitVec 32 := Scalar.remsi v368 c32_i32_225
  let c0_i32_230 : BitVec 32 := 0#32
  let v500 : BitVec 1 := Scalar.cmpi .ne v499 c0_i32_230
  let v501 : BitVec 1 := Scalar.andi v498 v500
  let v487 : BitVec 32 := Scalar.divsi v368 c32_i32_225
  let c1_i32_231 : BitVec 32 := 1#32
  let v502 : BitVec 32 := Scalar.subi v487 c1_i32_231
  let v503 : BitVec 32 := Scalar.select v501 v502 v487
  let v616 : Index := Scalar.indexCast v503
  let c32_i32_232 : BitVec 32 := 32#32
  let c0_i32_233 : BitVec 32 := 0#32
  let v504 : BitVec 1 := Scalar.cmpi .eq c32_i32_232 c0_i32_233
  let c1_i32_234 : BitVec 32 := 1#32
  let v505 : BitVec 32 := Scalar.select v504 c1_i32_234 c32_i32_232
  let v506 : BitVec 32 := Scalar.remsi v368 v505
  let c0_i32_236 : BitVec 32 := 0#32
  let v508 : BitVec 1 := Scalar.cmpi .slt v506 c0_i32_236
  let c0_i32_237 : BitVec 32 := 0#32
  let v509 : BitVec 1 := Scalar.cmpi .slt v505 c0_i32_237
  let v510 : BitVec 1 := Scalar.xori v508 v509
  let c0_i32_235 : BitVec 32 := 0#32
  let v507 : BitVec 1 := Scalar.cmpi .ne v506 c0_i32_235
  let v511 : BitVec 1 := Scalar.andi v510 v507
  let v512 : BitVec 32 := Scalar.addi v506 v505
  let v513 : BitVec 32 := Scalar.select v511 v512 v506
  let c64_i32_238 : BitVec 32 := 64#32
  let v514 : BitVec 32 := Scalar.muli v513 c64_i32_238
  let v515 : BitVec 32 := v514
  let v617 : Index := Scalar.indexCast v515
  let c640_269 : Index := 640#32
  ![v616.toNat, v617.toNat, 640]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S12x192x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x2048x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefAttnIdeal.lean ====
abbrev S8x2048x768 : Shape := ⟨3, ![8, 2048, 768]⟩
abbrev S8x2048x512 : Shape := ⟨3, ![8, 2048, 512]⟩
abbrev S12x64x192 : Shape := ⟨3, ![12, 64, 192]⟩
abbrev S12 : Shape := ⟨1, ![12]⟩
abbrev S8x32x64x3x4x64 : Shape := ⟨6, ![8, 32, 64, 3, 4, 64]⟩
abbrev S8x2048x256 : Shape := ⟨3, ![8, 2048, 256]⟩
abbrev S8x2048x4x64 : Shape := ⟨4, ![8, 2048, 4, 64]⟩
abbrev S_ : Shape := ⟨0, ![]⟩
abbrev S8x2176x4x64 : Shape := ⟨4, ![8, 2176, 4, 64]⟩
abbrev S8x34x64x4x64 : Shape := ⟨5, ![8, 34, 64, 4, 64]⟩
abbrev S8x32x64x4x64 : Shape := ⟨5, ![8, 32, 64, 4, 64]⟩
abbrev S8x32x192x4x64 : Shape := ⟨5, ![8, 32, 192, 4, 64]⟩
abbrev S32 : Shape := ⟨1, ![32]⟩
abbrev S32x1 : Shape := ⟨2, ![32, 1]⟩
abbrev S192 : Shape := ⟨1, ![192]⟩
abbrev S1x192 : Shape := ⟨2, ![1, 192]⟩
abbrev S32x192 : Shape := ⟨2, ![32, 192]⟩
abbrev S8x32x4x192x64x3 : Shape := ⟨6, ![8, 32, 4, 192, 64, 3]⟩
abbrev S8x32x4x3x64x192 : Shape := ⟨6, ![8, 32, 4, 3, 64, 192]⟩
abbrev S4x3x64x192 : Shape := ⟨4, ![4, 3, 64, 192]⟩
abbrev S1x1x4x3x64x192 : Shape := ⟨6, ![1, 1, 4, 3, 64, 192]⟩
abbrev S1x32x1x1x1x192 : Shape := ⟨6, ![1, 32, 1, 1, 1, 192]⟩
abbrev S4x3x1x1 : Shape := ⟨4, ![4, 3, 1, 1]⟩
abbrev S8x32x4x3x64 : Shape := ⟨5, ![8, 32, 4, 3, 64]⟩
abbrev S8x32x4x3x64x1 : Shape := ⟨6, ![8, 32, 4, 3, 64, 1]⟩
abbrev S1x1x4x3x1x1 : Shape := ⟨6, ![1, 1, 4, 3, 1, 1]⟩
abbrev S8x32x4x64x3x64 : Shape := ⟨6, ![8, 32, 4, 64, 3, 64]⟩

abbrev nBuf : Space → Nat
  | .hbm => 81
  | .vmem => 0
  | .smem => 0
  | _ => 0

abbrev bufTy : (tb : Table) → Fin (tcTables nBuf tb) → BufTy
  | .hbm, ⟨0, _⟩ => ⟨S8x2048x768, .bf16⟩
  | .hbm, ⟨1, _⟩ => ⟨S8x2048x512, .f32⟩
  | .hbm, ⟨2, _⟩ => ⟨S12x64x192, .f32⟩
  | .hbm, ⟨3, _⟩ => ⟨S12, .f32⟩
  | .hbm, ⟨4, _⟩ => ⟨S8x2048x768, .f32⟩
  | .hbm, ⟨5, _⟩ => ⟨S8x32x64x3x4x64, .f32⟩
  | .hbm, ⟨6, _⟩ => ⟨S8x2048x256, .f32⟩
  | .hbm, ⟨7, _⟩ => ⟨S8x2048x4x64, .f32⟩
  | .hbm, ⟨8, _⟩ => ⟨S8x2048x256, .f32⟩
  | .hbm, ⟨9, _⟩ => ⟨S8x2048x4x64, .f32⟩
  | .hbm, ⟨10, _⟩ => ⟨S_, .i32⟩
  | .hbm, ⟨11, _⟩ => ⟨S_, .f32⟩
  | .hbm, ⟨12, _⟩ => ⟨S8x2176x4x64, .f32⟩
  | .hbm, ⟨13, _⟩ => ⟨S8x34x64x4x64, .f32⟩
  | .hbm, ⟨14, _⟩ => ⟨S_, .i32⟩
  | .hbm, ⟨15, _⟩ => ⟨S_, .f32⟩
  | .hbm, ⟨16, _⟩ => ⟨S8x2176x4x64, .f32⟩
  | .hbm, ⟨17, _⟩ => ⟨S8x34x64x4x64, .f32⟩
  | .hbm, ⟨18, _⟩ => ⟨S8x32x64x4x64, .f32⟩
  | .hbm, ⟨19, _⟩ => ⟨S8x32x64x4x64, .f32⟩
  | .hbm, ⟨20, _⟩ => ⟨S8x32x64x4x64, .f32⟩
  | .hbm, ⟨21, _⟩ => ⟨S8x32x192x4x64, .f32⟩
  | .hbm, ⟨22, _⟩ => ⟨S8x32x64x4x64, .f32⟩
  | .hbm, ⟨23, _⟩ => ⟨S8x32x64x4x64, .f32⟩
  | .hbm, ⟨24, _⟩ => ⟨S8x32x64x4x64, .f32⟩
  | .hbm, ⟨25, _⟩ => ⟨S8x32x192x4x64, .f32⟩
  | .hbm, ⟨26, _⟩ => ⟨S32, .i32⟩
  | .hbm, ⟨27, _⟩ => ⟨S32x1, .i32⟩
  | .hbm, ⟨28, _⟩ => ⟨S_, .i32⟩
  | .hbm, ⟨29, _⟩ => ⟨S32x1, .i32⟩
  | .hbm, ⟨30, _⟩ => ⟨S32x1, .i32⟩
  | .hbm, ⟨31, _⟩ => ⟨S_, .i32⟩
  | .hbm, ⟨32, _⟩ => ⟨S32x1, .i32⟩
  | .hbm, ⟨33, _⟩ => ⟨S32x1, .i32⟩
  | .hbm, ⟨34, _⟩ => ⟨S192, .i32⟩
  | .hbm, ⟨35, _⟩ => ⟨S1x192, .i32⟩
  | .hbm, ⟨36, _⟩ => ⟨S32x192, .i32⟩
  | .hbm, ⟨37, _⟩ => ⟨S32x192, .i32⟩
  | .hbm, ⟨38, _⟩ => ⟨S32x192, .i32⟩
  | .hbm, ⟨39, _⟩ => ⟨S_, .i32⟩
  | .hbm, ⟨40, _⟩ => ⟨S32x192, .i32⟩
  | .hbm, ⟨41, _⟩ => ⟨S32x192, .i1⟩
  | .hbm, ⟨42, _⟩ => ⟨S8x32x4x192x64x3, .f32⟩
  | .hbm, ⟨43, _⟩ => ⟨S8x32x4x3x64x192, .f32⟩
  | .hbm, ⟨44, _⟩ => ⟨S_, .f32⟩
  | .hbm, ⟨45, _⟩ => ⟨S8x32x4x3x64x192, .f32⟩
  | .hbm, ⟨46, _⟩ => ⟨S8x32x4x3x64x192, .f32⟩
  | .hbm, ⟨47, _⟩ => ⟨S4x3x64x192, .f32⟩
  | .hbm, ⟨48, _⟩ => ⟨S1x1x4x3x64x192, .f32⟩
  | .hbm, ⟨49, _⟩ => ⟨S8x32x4x3x64x192, .f32⟩
  | .hbm, ⟨50, _⟩ => ⟨S8x32x4x3x64x192, .f32⟩
  | .hbm, ⟨51, _⟩ => ⟨S1x32x1x1x1x192, .i1⟩
  | .hbm, ⟨52, _⟩ => ⟨S_, .f32⟩
  | .hbm, ⟨53, _⟩ => ⟨S_, .f32⟩
  | .hbm, ⟨54, _⟩ => ⟨S8x32x4x3x64x192, .i1⟩
  | .hbm, ⟨55, _⟩ => ⟨S8x32x4x3x64x192, .f32⟩
  | .hbm, ⟨56, _⟩ => ⟨S8x32x4x3x64x192, .f32⟩
  | .hbm, ⟨57, _⟩ => ⟨S4x3x1x1, .f32⟩
  | .hbm, ⟨58, _⟩ => ⟨S_, .f32⟩
  | .hbm, ⟨59, _⟩ => ⟨S8x32x4x3x64, .f32⟩
  | .hbm, ⟨60, _⟩ => ⟨S8x32x4x3x64x1, .f32⟩
  | .hbm, ⟨61, _⟩ => ⟨S1x1x4x3x1x1, .f32⟩
  | .hbm, ⟨62, _⟩ => ⟨S8x32x4x3x64x1, .f32⟩
  | .hbm, ⟨63, _⟩ => ⟨S8x32x4x3x64x1, .f32⟩
  | .hbm, ⟨64, _⟩ => ⟨S8x32x4x3x64x192, .f32⟩
  | .hbm, ⟨65, _⟩ => ⟨S8x32x4x3x64x192, .f32⟩
  | .hbm, ⟨66, _⟩ => ⟨S8x32x4x3x64x192, .f32⟩
  | .hbm, ⟨67, _⟩ => ⟨S_, .f32⟩
  | .hbm, ⟨68, _⟩ => ⟨S8x32x4x3x64, .f32⟩
  | .hbm, ⟨69, _⟩ => ⟨S8x32x4x3x64x1, .f32⟩
  | .hbm, ⟨70, _⟩ => ⟨S1x1x4x3x1x1, .f32⟩
  | .hbm, ⟨71, _⟩ => ⟨S8x32x4x3x64x1, .f32⟩
  | .hbm, ⟨72, _⟩ => ⟨S8x32x4x3x64x1, .f32⟩
  | .hbm, ⟨73, _⟩ => ⟨S8x32x4x3x64x1, .f32⟩
  | .hbm, ⟨74, _⟩ => ⟨S8x32x4x3x64x1, .f32⟩
  | .hbm, ⟨75, _⟩ => ⟨S8x32x4x3x64x192, .f32⟩
  | .hbm, ⟨76, _⟩ => ⟨S8x32x4x3x64x192, .f32⟩
  | .hbm, ⟨77, _⟩ => ⟨S8x32x4x64x3x64, .f32⟩
  | .hbm, ⟨78, _⟩ => ⟨S8x32x64x3x4x64, .f32⟩
  | .hbm, ⟨79, _⟩ => ⟨S8x2048x768, .f32⟩
  | .hbm, ⟨80, _⟩ => ⟨S8x2048x768, .bf16⟩
  | _, _ => ⟨S8x2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_call1_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_1 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_6 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩

abbrev nD : Nat := 1
abbrev τ : Topo := Topo.v7x

variable {F : FTy → Type} [FloatOps F]
-- ==== Projs.lean ====
abbrev S16x64x2048 : Shape := ⟨3, ![16, 64, 2048]⟩
abbrev S2048 : Shape := ⟨1, ![2048]⟩
abbrev S2048x8704 : Shape := ⟨2, ![2048, 8704]⟩
abbrev S16x128x4x64 : Shape := ⟨4, ![16, 128, 4, 64]⟩
abbrev S2048x768 : Shape := ⟨2, ![2048, 768]⟩
abbrev S2048x4x3x64 : Shape := ⟨4, ![2048, 4, 3, 64]⟩
abbrev S2048x3x4x64 : Shape := ⟨4, ![2048, 3, 4, 64]⟩
abbrev S1024x2048 : Shape := ⟨2, ![1024, 2048]⟩
abbrev S1x2048 : Shape := ⟨2, ![1, 2048]⟩
abbrev S1024x768 : Shape := ⟨2, ![1024, 768]⟩
abbrev S1024x512 : Shape := ⟨2, ![1024, 512]⟩
abbrev S512x2048 : Shape := ⟨2, ![512, 2048]⟩
abbrev S2048x256 : Shape := ⟨2, ![2048, 256]⟩
abbrev S2048x512 : Shape := ⟨2, ![2048, 512]⟩
abbrev S512x768 : Shape := ⟨2, ![512, 768]⟩
abbrev S512x512 : Shape := ⟨2, ![512, 512]⟩
abbrev S512 : Shape := ⟨1, ![512]⟩
abbrev S512x1 : Shape := ⟨2, ![512, 1]⟩
abbrev S512x256 : Shape := ⟨2, ![512, 256]⟩
abbrev S16x64x512 : Shape := ⟨3, ![16, 64, 512]⟩
abbrev S16x128x256 : Shape := ⟨3, ![16, 128, 256]⟩
abbrev S16x64x256 : Shape := ⟨3, ![16, 64, 256]⟩
abbrev S16x192x256 : Shape := ⟨3, ![16, 192, 256]⟩

abbrev nBuf : Space → Nat
  | .hbm => 28
  | .vmem => 20
  | .smem => 0
  | _ => 0

abbrev bufTy : (tb : Table) → Fin (tcTables nBuf tb) → BufTy
  | .hbm, ⟨0, _⟩ => ⟨S16x64x2048, .f32⟩
  | .hbm, ⟨1, _⟩ => ⟨S2048, .f32⟩
  | .hbm, ⟨2, _⟩ => ⟨S2048x8704, .f32⟩
  | .hbm, ⟨3, _⟩ => ⟨S16x128x4x64, .f32⟩
  | .hbm, ⟨4, _⟩ => ⟨S16x128x4x64, .f32⟩
  | .hbm, ⟨5, _⟩ => ⟨S2048x8704, .bf16⟩
  | .hbm, ⟨6, _⟩ => ⟨S2048x768, .bf16⟩
  | .hbm, ⟨7, _⟩ => ⟨S2048x4x3x64, .bf16⟩
  | .hbm, ⟨8, _⟩ => ⟨S2048x3x4x64, .bf16⟩
  | .hbm, ⟨9, _⟩ => ⟨S2048x768, .bf16⟩
  | .hbm, ⟨10, _⟩ => ⟨S1024x2048, .f32⟩
  | .hbm, ⟨11, _⟩ => ⟨S1x2048, .f32⟩
  | .hbm, ⟨12, _⟩ => ⟨S1024x768, .bf16⟩
  | .hbm, ⟨13, _⟩ => ⟨S1024x512, .f32⟩
  | .hbm, ⟨14, _⟩ => ⟨S1024x768, .f32⟩
  | .hbm, ⟨15, _⟩ => ⟨S1024x512, .bf16⟩
  | .hbm, ⟨16, _⟩ => ⟨S1024x2048, .bf16⟩
  | .hbm, ⟨17, _⟩ => ⟨S16x64x512, .f32⟩
  | .hbm, ⟨18, _⟩ => ⟨S16x128x256, .f32⟩
  | .hbm, ⟨19, _⟩ => ⟨S16x128x256, .f32⟩
  | .hbm, ⟨20, _⟩ => ⟨S16x64x256, .f32⟩
  | .hbm, ⟨21, _⟩ => ⟨S16x192x256, .f32⟩
  | .hbm, ⟨22, _⟩ => ⟨S16x128x256, .f32⟩
  | .hbm, ⟨23, _⟩ => ⟨S16x128x4x64, .f32⟩
  | .hbm, ⟨24, _⟩ => ⟨S16x64x256, .f32⟩
  | .hbm, ⟨25, _⟩ => ⟨S16x192x256, .f32⟩
  | .hbm, ⟨26, _⟩ => ⟨S16x128x256, .f32⟩
  | .hbm, ⟨27, _⟩ => ⟨S16x128x4x64, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x768, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x512, .bf16⟩
  | .local _ .vmem, ⟨10, _⟩ => ⟨S512x768, .bf16⟩
  | .local _ .vmem, ⟨11, _⟩ => ⟨S512x768, .bf16⟩
  | .local _ .vmem, ⟨12, _⟩ => ⟨S512x512, .f32⟩
  | .local _ .vmem, ⟨13, _⟩ => ⟨S512x512, .f32⟩
  | .local _ .vmem, ⟨14, _⟩ => ⟨S512x768, .f32⟩
  | .local _ .vmem, ⟨15, _⟩ => ⟨S512x768, .f32⟩
  | .local _ .vmem, ⟨16, _⟩ => ⟨S512x512, .bf16⟩
  | .local _ .vmem, ⟨17, _⟩ => ⟨S512x512, .bf16⟩
  | .local _ .vmem, ⟨18, _⟩ => ⟨S512x2048, .bf16⟩
  | .local _ .vmem, ⟨19, _⟩ => ⟨S512x2048, .bf16⟩
  | _, _ => ⟨S16x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev main_v7_4 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_4 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_5 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_6 (i : grid0.Coords) : Fin 2 → Nat :=
  let arg0 : BitVec 32 := BitVec.ofNat 32 (i 0).val
  let c0_i32 : BitVec 32 := 0#32
  let c6_i32 : BitVec 32 := 6#32
  let c0_i32_0 : BitVec 32 := 0#32
  ![c0_i32.toNat, c6_i32.toNat]

def cc0_transform_7 (i : grid0.Coords) : Fin 2 → Nat :=
  let arg0 : BitVec 32 := BitVec.ofNat 32 (i 0).val
  let c0_i32 : BitVec 32 := 0#32
  let c7_i32 : BitVec 32 := 7#32
  let c0_i32_0 : BitVec 32 := 0#32
  ![c0_i32.toNat, c7_i32.toNat]

def cc0_transform_8 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== RefProjsIdeal.lean ====
abbrev S16x64x2048 : Shape := ⟨3, ![16, 64, 2048]⟩
abbrev S2048 : Shape := ⟨1, ![2048]⟩
abbrev S2048x8704 : Shape := ⟨2, ![2048, 8704]⟩
abbrev S16x128x4x64 : Shape := ⟨4, ![16, 128, 4, 64]⟩
abbrev S1024x2048 : Shape := ⟨2, ![1024, 2048]⟩
abbrev S_ : Shape := ⟨0, ![]⟩
abbrev S1024 : Shape := ⟨1, ![1024]⟩
abbrev S1024x1 : Shape := ⟨2, ![1024, 1]⟩
abbrev S1x2048 : Shape := ⟨2, ![1, 2048]⟩
abbrev S2048x2560 : Shape := ⟨2, ![2048, 2560]⟩
abbrev S1024x2560 : Shape := ⟨2, ![1024, 2560]⟩
abbrev S1024x768 : Shape := ⟨2, ![1024, 768]⟩
abbrev S1024x512 : Shape := ⟨2, ![1024, 512]⟩
abbrev S1024x256 : Shape := ⟨2, ![1024, 256]⟩
abbrev S16x64x4x64 : Shape := ⟨4, ![16, 64, 4, 64]⟩
abbrev S16x192x4x64 : Shape := ⟨4, ![16, 192, 4, 64]⟩
abbrev S1024x4x3x64 : Shape := ⟨4, ![1024, 4, 3, 64]⟩
abbrev S1024x3x4x64 : Shape := ⟨4, ![1024, 3, 4, 64]⟩

abbrev nBuf : Space → Nat
  | .hbm => 42
  | .vmem => 0
  | .smem => 0
  | _ => 0

abbrev bufTy : (tb : Table) → Fin (tcTables nBuf tb) → BufTy
  | .hbm, ⟨0, _⟩ => ⟨S16x64x2048, .f32⟩
  | .hbm, ⟨1, _⟩ => ⟨S2048, .f32⟩
  | .hbm, ⟨2, _⟩ => ⟨S2048x8704, .f32⟩
  | .hbm, ⟨3, _⟩ => ⟨S16x128x4x64, .f32⟩
  | .hbm, ⟨4, _⟩ => ⟨S16x128x4x64, .f32⟩
  | .hbm, ⟨5, _⟩ => ⟨S1024x2048, .f32⟩
  | .hbm, ⟨6, _⟩ => ⟨S1024x2048, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S1024x1, .f32⟩
  | .hbm, ⟨17, _⟩ => ⟨S1024x2048, .f32⟩
  | .hbm, ⟨18, _⟩ => ⟨S1024x2048, .f32⟩
  | .hbm, ⟨19, _⟩ => ⟨S1x2048, .f32⟩
  | .hbm, ⟨20, _⟩ => ⟨S1024x2048, .f32⟩
  | .hbm, ⟨21, _⟩ => ⟨S1024x2048, .f32⟩
  | .hbm, ⟨22, _⟩ => ⟨S2048x2560, .f32⟩
  | .hbm, ⟨23, _⟩ => ⟨S1024x2560, .f32⟩
  | .hbm, ⟨24, _⟩ => ⟨S1024x768, .f32⟩
  | .hbm, ⟨25, _⟩ => ⟨S1024x512, .f32⟩
  | .hbm, ⟨26, _⟩ => ⟨S1024x768, .f32⟩
  | .hbm, ⟨27, _⟩ => ⟨S1024x512, .f32⟩
  | .hbm, ⟨28, _⟩ => ⟨S1024x256, .f32⟩
  | .hbm, ⟨29, _⟩ => ⟨S16x64x4x64, .f32⟩
  | .hbm, ⟨30, _⟩ => ⟨S1024x256, .f32⟩
  | .hbm, ⟨31, _⟩ => ⟨S16x64x4x64, .f32⟩
  | .hbm, ⟨32, _⟩ => ⟨S16x192x4x64, .f32⟩
  | .hbm, ⟨33, _⟩ => ⟨S16x192x4x64, .f32⟩
  | .hbm, ⟨34, _⟩ => ⟨S1024x4x3x64, .f32⟩
  | .hbm, ⟨35, _⟩ => ⟨S1024x3x4x64, .f32⟩
  | .hbm, ⟨36, _⟩ => ⟨S1024x768, .f32⟩
  | .hbm, ⟨37, _⟩ => ⟨S1024x768, .bf16⟩
  | .hbm, ⟨38, _⟩ => ⟨S1024x512, .bf16⟩
  | .hbm, ⟨39, _⟩ => ⟨S1024x2048, .bf16⟩
  | .hbm, ⟨40, _⟩ => ⟨S16x128x4x64, .f32⟩
  | .hbm, ⟨41, _⟩ => ⟨S16x128x4x64, .f32⟩
  | _, _ => ⟨S16x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== Proof.AttnStep.lean ====
module

public import proofs.«01_k».proof.Proof.Gen.AttnIdeal.Frame
public import proofs.«01_k».proof.Proof.Gen.AttnIdeal.Skeleton
public import proofs.«01_k».proof.Proof.Gen.AttnIdeal.Loops
public import Idealize.ShloMosaic.Lib.VecWindow
public import Idealize.ShloMosaic.Lib.Tactic
public import Idealize.ShloMosaic.Lib.Pipeline.Kit
public import Idealize.ShloMosaic.Lib.Pipeline.Value
public import Idealize.ShloMosaic.Lib.Pointwise

/-!
  The pure steps of the sliding-window attention kernel, for any float interpretation: the scores of one chunk of 64
  queries against the 192 keys of its window, one array per key head, and the six blocks of output columns that the
  chunk stores. The loop takes two chunks a trip.
-/

@[expose] public section

set_option maxRecDepth 16384

noncomputable section

namespace Cert.AttnIdeal.Run

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The offsets of a trip in closed form -/

theorem off2_eq : ∀ k : Fin k0_t1_loop.trips, k0_off2 k = ![0, 64 * (2 * k.val + 1), 0] := by decide +kernel
instance (k : Fin k0_t1_loop.trips) : ClosedOff (k0_off2 k) := ⟨_, off2_eq k⟩
theorem off3_eq : ∀ k : Fin k0_t1_loop.trips, k0_off3 k = ![0, 64 * (2 * k.val + 1), 0] := by decide +kernel
instance (k : Fin k0_t1_loop.trips) : ClosedOff (k0_off3 k) := ⟨_, off3_eq k⟩
theorem off5_eq : ∀ k : Fin k0_t1_loop.trips, k0_off5 k = ![0, 64 * (2 * k.val), 0] := by decide +kernel
instance (k : Fin k0_t1_loop.trips) : ClosedOff (k0_off5 k) := ⟨_, off5_eq k⟩
theorem off6_eq : ∀ k : Fin k0_t1_loop.trips, k0_off6 k = ![0, 64 * (2 * k.val), 0] := by decide +kernel
instance (k : Fin k0_t1_loop.trips) : ClosedOff (k0_off6 k) := ⟨_, off6_eq k⟩
theorem off7_eq : ∀ k : Fin k0_t1_loop.trips, k0_off7 k = ![0, 64 * (2 * k.val), 256] := by decide +kernel
instance (k : Fin k0_t1_loop.trips) : ClosedOff (k0_off7 k) := ⟨_, off7_eq k⟩
theorem off8_eq : ∀ k : Fin k0_t1_loop.trips, k0_off8 k = ![0, 64 * (2 * k.val), 512] := by decide +kernel
instance (k : Fin k0_t1_loop.trips) : ClosedOff (k0_off8 k) := ⟨_, off8_eq k⟩
theorem off9_eq : ∀ k : Fin k0_t1_loop.trips, k0_off9 k = ![0, 64 * (2 * k.val), 128] := by decide +kernel
instance (k : Fin k0_t1_loop.trips) : ClosedOff (k0_off9 k) := ⟨_, off9_eq k⟩
theorem off10_eq : ∀ k : Fin k0_t1_loop.trips, k0_off10 k = ![0, 64 * (2 * k.val), 384] := by decide +kernel
instance (k : Fin k0_t1_loop.trips) : ClosedOff (k0_off10 k) := ⟨_, off10_eq k⟩
theorem off11_eq : ∀ k : Fin k0_t1_loop.trips, k0_off11 k = ![0, 64 * (2 * k.val), 640] := by decide +kernel
instance (k : Fin k0_t1_loop.trips) : ClosedOff (k0_off11 k) := ⟨_, off11_eq k⟩
theorem off12_eq : ∀ k : Fin k0_t1_loop.trips, k0_off12 k = ![0, 64 * min (2 * k.val + 2) 31, 0] := by decide +kernel
instance (k : Fin k0_t1_loop.trips) : ClosedOff (k0_off12 k) := ⟨_, off12_eq k⟩
theorem off13_eq : ∀ k : Fin k0_t1_loop.trips, k0_off13 k = ![0, 64 * min (2 * k.val + 2) 31, 0] := by decide +kernel
instance (k : Fin k0_t1_loop.trips) : ClosedOff (k0_off13 k) := ⟨_, off13_eq k⟩
theorem off15_eq : ∀ k : Fin k0_t1_loop.trips, k0_off15 k = ![0, 64 * (2 * k.val + 1), 0] := by decide +kernel
instance (k : Fin k0_t1_loop.trips) : ClosedOff (k0_off15 k) := ⟨_, off15_eq k⟩
theorem off16_eq : ∀ k : Fin k0_t1_loop.trips, k0_off16 k = ![0, 64 * (2 * k.val + 1), 0] := by decide +kernel
instance (k : Fin k0_t1_loop.trips) : ClosedOff (k0_off16 k) := ⟨_, off16_eq k⟩
theorem off17_eq : ∀ k : Fin k0_t1_loop.trips, k0_off17 k = ![0, 64 * (2 * k.val + 1), 256] := by decide +kernel
instance (k : Fin k0_t1_loop.trips) : ClosedOff (k0_off17 k) := ⟨_, off17_eq k⟩
theorem off18_eq : ∀ k : Fin k0_t1_loop.trips, k0_off18 k = ![0, 64 * (2 * k.val + 1), 512] := by decide +kernel
instance (k : Fin k0_t1_loop.trips) : ClosedOff (k0_off18 k) := ⟨_, off18_eq k⟩
theorem off19_eq : ∀ k : Fin k0_t1_loop.trips, k0_off19 k = ![0, 64 * (2 * k.val + 1), 128] := by decide +kernel
instance (k : Fin k0_t1_loop.trips) : ClosedOff (k0_off19 k) := ⟨_, off19_eq k⟩
theorem off20_eq : ∀ k : Fin k0_t1_loop.trips, k0_off20 k = ![0, 64 * (2 * k.val + 1), 384] := by decide +kernel
instance (k : Fin k0_t1_loop.trips) : ClosedOff (k0_off20 k) := ⟨_, off20_eq k⟩
theorem off21_eq : ∀ k : Fin k0_t1_loop.trips, k0_off21 k = ![0, 64 * (2 * k.val + 1), 640] := by decide +kernel
instance (k : Fin k0_t1_loop.trips) : ClosedOff (k0_off21 k) := ⟨_, off21_eq k⟩
theorem off4_eq : ∀ (h : Fin 4) (k : Fin k0_t1_loop.trips), k0_off4 k (BitVec.ofNat 32 h.val) = ![4 * min (2 * k.val + 1) 2 + h.val, 0, 0] := by decide +kernel
theorem off14_eq : ∀ (h : Fin 4) (k : Fin k0_t1_loop.trips), k0_off14 k (BitVec.ofNat 32 h.val) = ![4 * min (min (2 * k.val + 2) 31) 2 + h.val, 0, 0] := by decide +kernel
theorem off1_eq : ∀ h : Fin 4, k0_off1 (BitVec.ofNat 32 h.val) = ![h.val, 0, 0] := by decide +kernel

/-! ## One chunk -/

/-- The scores of a chunk from its queries, the keys of its window and the four blocks of biases. -/
def sc (q : Vec F S1x64x768 .bf16) (k : Vec F S1x192x256 .bf16) (b : Fin 4 → Vec F S1x192x256 .f32) : Fin 4 → FVec F S1x1x192x256 .f32
  | ⟨0, _⟩ => k0_pay58 k0_pay49 k0_pay51 q k (b 0)
  | ⟨1, _⟩ => k0_pay61 (k0_pay59 k0_pay49 q) (k0_pay60 k0_pay51 k) (b 1)
  | ⟨2, _⟩ => k0_pay62 k0_pay49 (k0_pay56 q) (k0_pay57 k0_pay51 k) (b 2)
  | ⟨3, _⟩ => k0_pay1 (k0_pay63 k0_pay49 (k0_pay56 q) (k0_pay57 k0_pay51 k)) (b 3)

/-- The four heads' sums of weighted values and of weights of a chunk, from the values of its window and its scores. -/
def sm (v : Vec F S1x192x256 .bf16) (s : Fin 4 → Vec F S1x1x192x256 .f32) : Fin 4 → FVec F S192x256 .f32
  | ⟨0, _⟩ => k0_pay16 k0_pay50 (k0_pay12 k0_pay51 v) (s 1)
  | ⟨1, _⟩ => k0_pay16 k0_pay50 (k0_pay12 k0_pay51 v) (s 1)
  | ⟨2, _⟩ => k0_pay17 k0_pay50 (k0_pay12 k0_pay51 v) (s 2)
  | ⟨3, _⟩ => k0_pay18 k0_pay50 (k0_pay12 k0_pay51 v) (s 3)

/-- The six blocks of 128 output columns of a chunk. -/
def oc (v : Vec F S1x192x256 .bf16) (s : Fin 4 → Vec F S1x1x192x256 .f32) : Fin 6 → FVec F S1x64x128 .bf16
  | ⟨0, _⟩ => k0_pay21 k0_pay49 (k0_pay16 k0_pay50 (k0_pay12 k0_pay51 v) (s 1)) (k0_pay19 k0_pay50 (k0_pay12 k0_pay51 v) (k0_pay13 (s 0)))
  | ⟨1, _⟩ => k0_pay22 k0_pay49 (k0_pay16 k0_pay50 (k0_pay12 k0_pay51 v) (s 1)) (k0_pay19 k0_pay50 (k0_pay12 k0_pay51 v) (k0_pay13 (s 0)))
  | ⟨2, _⟩ => k0_pay23 k0_pay49 (k0_pay16 k0_pay50 (k0_pay12 k0_pay51 v) (s 1)) (k0_pay19 k0_pay50 (k0_pay12 k0_pay51 v) (k0_pay13 (s 0)))
  | ⟨3, _⟩ => k0_pay25 k0_pay49 (k0_pay17 k0_pay50 (k0_pay12 k0_pay51 v) (s 2)) (k0_pay18 k0_pay50 (k0_pay12 k0_pay51 v) (s 3))
  | ⟨4, _⟩ => k0_pay26 k0_pay49 (k0_pay17 k0_pay50 (k0_pay12 k0_pay51 v) (s 2)) (k0_pay18 k0_pay50 (k0_pay12 k0_pay51 v) (s 3))
  | ⟨5, _⟩ => k0_pay27 (k0_pay24 k0_pay49 (k0_pay17 k0_pay50 (k0_pay12 k0_pay51 v) (s 2)) (k0_pay18 k0_pay50 (k0_pay12 k0_pay51 v) (s 3)))

/-! ## The same steps under the names of the trip's other parts -/

section names
variable (q : Vec F S1x64x768 .bf16) (k v : Vec F S1x192x256 .bf16) (b : Fin 4 → Vec F S1x192x256 .f32) (s : Fin 4 → Vec F S1x1x192x256 .f32)

theorem scA0 : k0_pay6 k0_pay49 k0_pay51 (k0_pay4 q) k (b 0) = sc q k b 0 := rfl
theorem scA1 : k0_pay8 (k0_pay7 k0_pay49 k0_pay51 (k0_pay4 q) k (b 1)) = sc q k b 1 := rfl
theorem scA2 : k0_pay9 k0_pay49 (k0_pay4 q) (k0_pay5 k0_pay51 k) (b 2) = sc q k b 2 := rfl
theorem scA3 : k0_pay11 (k0_pay10 k0_pay49 (k0_pay4 q) (k0_pay5 k0_pay51 k) (b 3)) = sc q k b 3 := rfl
theorem scB0 : k0_pay30 k0_pay49 k0_pay51 q k (b 0) = sc q k b 0 := rfl
theorem scB1 : k0_pay32 (k0_pay31 k0_pay49 k0_pay51 q k) (b 1) = sc q k b 1 := rfl
theorem scB2 : k0_pay33 k0_pay49 (k0_pay28 q) (k0_pay29 k0_pay51 k) (b 2) = sc q k b 2 := rfl
theorem scB3 : k0_pay35 (k0_pay34 k0_pay49 (k0_pay28 q) (k0_pay29 k0_pay51 k)) (b 3) = sc q k b 3 := rfl
theorem ocB0 : k0_pay44 k0_pay49 (k0_pay37 (s 0)) (k0_pay38 (s 1)) (k0_pay41 k0_pay50 k0_pay51 v) (constant (F := F) S192x256 .f32 (0 : BitVec 32)) = oc v s 0 := rfl
end names

/-! ## Windows of the arrays -/

/-- The queries of chunk `n`. -/
def qW (x : Vec F S1x2048x768 .bf16) (n : Fin 32) : Vec F S1x64x768 .bf16 :=
  VecWindow.window x ![0, 64 * n.val, 0] S1x64x768.size (fun a => by have := n.isLt; fin_cases a <;> simp [S1x64x768, S1x2048x768] <;> omega)
/-- The 192 keys (or values) of chunk `n`'s window. -/
def kW (x : Vec F S1x2176x256 .bf16) (n : Fin 32) : Vec F S1x192x256 .bf16 :=
  VecWindow.window x ![0, 64 * n.val, 0] S1x192x256.size (fun a => by have := n.isLt; fin_cases a <;> simp [S1x192x256, S1x2176x256] <;> omega)
/-- The biases of chunk `n` for key head `h`. -/
def bW (x : Vec F S12x192x256 .f32) (n : Fin 32) (h : Fin 4) : Vec F S1x192x256 .f32 :=
  VecWindow.window x ![4 * min n.val 2 + h.val, 0, 0] S1x192x256.size (fun a => by have := h.isLt; fin_cases a <;> simp [S1x192x256, S12x192x256] <;> omega)
/-- Key head `h` of slot `a` of the scratch of scores. -/
def slot (x : Vec F S2x4x192x256 .f32) (a : Fin 2) (h : Fin 4) : Vec F S1x1x192x256 .f32 :=
  VecWindow.window x ![a.val, h.val, 0, 0] S1x1x192x256.size (fun b => by have := h.isLt; have := a.isLt; fin_cases b <;> simp [S1x1x192x256, S2x4x192x256] <;> omega)

/-- The scores of chunk `n`. -/
def scN (q : Vec F S1x2048x768 .bf16) (kf : Vec F S1x2176x256 .bf16) (b : Vec F S12x192x256 .f32) (n : Fin 32) : Fin 4 → FVec F S1x1x192x256 .f32 :=
  sc (qW q n) (kW kf n) (bW b n)

/-- The place among a chunk's six stores of the block of columns number `j`. -/
def pos6 (j : ℕ) : Fin 6 := match j with | 0 => 0 | 1 => 3 | 2 => 1 | 3 => 4 | 4 => 2 | _ => 5

/-- The whole output of a grid point. -/
def outArr (q : Vec F S1x2048x768 .bf16) (kf vf : Vec F S1x2176x256 .bf16) (b : Vec F S12x192x256 .f32) : Vec F S1x2048x768 .bf16 := fun y =>
  oc (kW vf ⟨(y 1).val / 64, by have : (y 1).val < 2048 := (y 1).isLt; omega⟩) (scN q kf b ⟨(y 1).val / 64, by have : (y 1).val < 2048 := (y 1).isLt; omega⟩) (pos6 ((y 2).val / 128))
    (ix3 0 ⟨(y 1).val % 64, by show _ < 64; omega⟩ ⟨(y 2).val % 128, by show _ < 128; omega⟩)

/-- A trip's number, its first chunk, its second chunk, and the chunk scored ahead. -/
def cA (k : Fin k0_t1_loop.trips) : Fin 32 := ⟨2 * k.val, by have : k.val < 16 := k.isLt; omega⟩
def cB (k : Fin k0_t1_loop.trips) : Fin 32 := ⟨2 * k.val + 1, by have : k.val < 16 := k.isLt; omega⟩
def cC (k : Fin k0_t1_loop.trips) : Fin 32 := ⟨min (2 * k.val + 2) 31, by omega⟩

/-! ## Loads and stores -/

section loads
variable {κ : Kind} {sp : Space}

theorem ld_q (v : View sig κ sp S1x2048x768 .bf16) (f : v.ty.Contents (Elt F)) {off : Fin 3 → ℕ} {n : Fin 32} (h : off = ![0, 64 * n.val, 0]) (inb) :
    v.readAt (Elt F) (Rect.unit (s := S1x2048x768) off S1x64x768.size inb).toLoadRect f = qW (v.read (Elt F) f) n := by subst h; rfl
theorem ld_k (v : View sig κ sp S1x2176x256 .bf16) (f : v.ty.Contents (Elt F)) {off : Fin 3 → ℕ} {n : Fin 32} (h : off = ![0, 64 * n.val, 0]) (inb) :
    v.readAt (Elt F) (Rect.unit (s := S1x2176x256) off S1x192x256.size inb).toLoadRect f = kW (v.read (Elt F) f) n := by subst h; rfl
theorem ld_b (v : View sig κ sp S12x192x256 .f32) (f : v.ty.Contents (Elt F)) {off : Fin 3 → ℕ} {n : Fin 32} {h : Fin 4} (e : off = ![4 * min n.val 2 + h.val, 0, 0]) (inb) :
    v.readAt (Elt F) (Rect.unit (s := S12x192x256) off S1x192x256.size inb).toLoadRect f = bW (v.read (Elt F) f) n h := by subst e; rfl

theorem inb4 : ∀ (a : Fin 2) (h : Fin 4) (b : Fin 4), (![a.val, h.val, 0, 0] : Fin 4 → ℕ) b + S1x1x192x256.size b ≤ S2x4x192x256.size b := by decide +kernel

/-- The pieces that store one slot of the scratch of scores, the last stored first. -/
abbrev put4 (a : Fin 2) (inb : ∀ (h : Fin 4) b, (![a.val, h.val, 0, 0] : Fin 4 → ℕ) b + S1x1x192x256.size b ≤ S2x4x192x256.size b) (w0 w1 w2 w3 : Vec F S1x1x192x256 .f32)
    (L : List (View.Piece (Elt F) S2x4x192x256 .f32)) : List (View.Piece (Elt F) S2x4x192x256 .f32) :=
  ⟨Rect.unit ![a.val, 3, 0, 0] S1x1x192x256.size (inb 3), w3⟩ :: ⟨Rect.unit ![a.val, 2, 0, 0] S1x1x192x256.size (inb 2), w2⟩
    :: ⟨Rect.unit ![a.val, 1, 0, 0] S1x1x192x256.size (inb 1), w1⟩ :: ⟨Rect.unit ![a.val, 0, 0, 0] S1x1x192x256.size (inb 0), w0⟩ :: L

/-- A slot just stored holds what was stored. -/
theorem slot_put4 (v : View sig κ sp S2x4x192x256 .f32) (f : v.ty.Contents (Elt F)) (a : Fin 2) (inb) (w0 w1 w2 w3 : Vec F S1x1x192x256 .f32) (L) (h : Fin 4) :
    slot (v.read (Elt F) (v.writes (Elt F) f (put4 a inb w0 w1 w2 w3 L))) a h = (match h with | 0 => w0 | 1 => w1 | 2 => w2 | 3 => w3) := by
  simp only [put4]
  rw [View.read_writes_cons_put _ _ _ _ _ rfl, View.read_writes_cons_put _ _ _ _ _ rfl, View.read_writes_cons_put _ _ _ _ _ rfl, View.read_writes_cons_put _ _ _ _ _ rfl]
  unfold slot
  match h with
  | 3 => exact VecWindow.window_put_same _ _ _ _ _
  | 2 =>
    refine (VecWindow.window_put_of_disjoint _ _ _ _ _ _ _ 1 (Or.inl (show 2 + 1 ≤ 3 by decide))).trans ?_
    exact VecWindow.window_put_same _ _ _ _ _
  | 1 =>
    refine (VecWindow.window_put_of_disjoint _ _ _ _ _ _ _ 1 (Or.inl (show 1 + 1 ≤ 3 by decide))).trans ?_
    refine (VecWindow.window_put_of_disjoint _ _ _ _ _ _ _ 1 (Or.inl (show 1 + 1 ≤ 2 by decide))).trans ?_
    exact VecWindow.window_put_same _ _ _ _ _
  | 0 =>
    refine (VecWindow.window_put_of_disjoint _ _ _ _ _ _ _ 1 (Or.inl (show 0 + 1 ≤ 3 by decide))).trans ?_
    refine (VecWindow.window_put_of_disjoint _ _ _ _ _ _ _ 1 (Or.inl (show 0 + 1 ≤ 2 by decide))).trans ?_
    refine (VecWindow.window_put_of_disjoint _ _ _ _ _ _ _ 1 (Or.inl (show 0 + 1 ≤ 1 by decide))).trans ?_
    exact VecWindow.window_put_same _ _ _ _ _

/-- Storing one slot leaves the other as it was. -/
theorem slot_put4_other (v : View sig κ sp S2x4x192x256 .f32) (f : v.ty.Contents (Elt F)) (inb) (w0 w1 w2 w3 : Vec F S1x1x192x256 .f32) (L) (h : Fin 4) :
    slot (v.read (Elt F) (v.writes (Elt F) f (put4 0 inb w0 w1 w2 w3 L))) 1 h = slot (v.read (Elt F) (v.writes (Elt F) f L)) 1 h := by
  simp only [put4]
  rw [View.read_writes_cons_put _ _ _ _ _ rfl, View.read_writes_cons_put _ _ _ _ _ rfl, View.read_writes_cons_put _ _ _ _ _ rfl, View.read_writes_cons_put _ _ _ _ _ rfl]
  unfold slot
  iterate 4 refine (VecWindow.window_put_of_disjoint _ _ _ _ _ _ _ 0 (Or.inr (show 0 + 1 ≤ 1 by decide))).trans ?_
  rfl

/-- One stored block of 64 rows and 128 columns, read at an index. -/
theorem put_block (x : Vec F S1x2048x768 .bf16) (r c : ℕ) (hr : r % 64 = 0) (hc : c % 128 = 0) (w : FVec F S1x64x128 .bf16) (y : S1x2048x768.Idx) :
    VecWindow.put (s := S1x2048x768) x ![0, r, c] S1x64x128.size w y
      = if (r ≤ (y 1).val ∧ (y 1).val < r + 64) ∧ (c ≤ (y 2).val ∧ (y 2).val < c + 128) then
          w (ix3 0 ⟨(y 1).val % 64, by show _ < 64; omega⟩ ⟨(y 2).val % 128, by show _ < 128; omega⟩) else x y := by
  have h0 : (y 0).val < 1 := (y 0).isLt
  unfold VecWindow.put
  by_cases h : (r ≤ (y 1).val ∧ (y 1).val < r + 64) ∧ (c ≤ (y 2).val ∧ (y 2).val < c + 128)
  · rw [if_pos h, dif_pos (by intro a; fin_cases a <;> simp [S1x64x128] <;> omega)]
    refine congrArg w (funext fun a => Fin.ext ?_)
    show _ - (![0, r, c] : Fin 3 → ℕ) a = _
    match a with
    | ⟨0, _⟩ => show (y 0).val - 0 = 0; omega
    | ⟨1, _⟩ => show (y 1).val - r = (y 1).val % 64; omega
    | ⟨2, _⟩ => show (y 2).val - c = (y 2).val % 128; omega
  · rw [if_neg h, dif_neg (fun hh => h (by have h1 := hh 1; have h2 := hh 2; simp [S1x64x128] at h1 h2; omega))]

/-- The output after a trip's twelve stores, read at an index. -/
theorem put12 (v : View sig κ sp S1x2048x768 .bf16) (f : v.ty.Contents (Elt F)) (k : Fin k0_t1_loop.trips)
    (P Q : Fin 6 → FVec F S1x64x128 .bf16) (p0 p1 p2 p3 p4 p5 q0 q1 q2 q3 q4 q5 : FVec F S1x64x128 .bf16)
    (e0 : p0 = P 0) (e1 : p1 = P 1) (e2 : p2 = P 2) (e3 : p3 = P 3) (e4 : p4 = P 4) (e5 : p5 = P 5)
    (g0 : q0 = Q 0) (g1 : q1 = Q 1) (g2 : q2 = Q 2) (g3 : q3 = Q 3) (g4 : q4 = Q 4) (g5 : q5 = Q 5) (y : S1x2048x768.Idx) :
    v.read (Elt F) (v.writes (Elt F) f [⟨Rect.unit (k0_off21 k) S1x64x128.size (k0_off21_inb k), q5⟩, ⟨Rect.unit (k0_off20 k) S1x64x128.size (k0_off20_inb k), q4⟩,
        ⟨Rect.unit (k0_off19 k) S1x64x128.size (k0_off19_inb k), q3⟩, ⟨Rect.unit (k0_off18 k) S1x64x128.size (k0_off18_inb k), q2⟩,
        ⟨Rect.unit (k0_off17 k) S1x64x128.size (k0_off17_inb k), q1⟩, ⟨Rect.unit (k0_off16 k) S1x64x128.size (k0_off16_inb k), q0⟩,
        ⟨Rect.unit (k0_off11 k) S1x64x128.size (k0_off11_inb k), p5⟩, ⟨Rect.unit (k0_off10 k) S1x64x128.size (k0_off10_inb k), p4⟩,
        ⟨Rect.unit (k0_off9 k) S1x64x128.size (k0_off9_inb k), p3⟩, ⟨Rect.unit (k0_off8 k) S1x64x128.size (k0_off8_inb k), p2⟩,
        ⟨Rect.unit (k0_off7 k) S1x64x128.size (k0_off7_inb k), p1⟩, ⟨Rect.unit (k0_off6 k) S1x64x128.size (k0_off6_inb k), p0⟩]) y
      = if (y 1).val / 64 = 2 * k.val + 1 then Q (pos6 ((y 2).val / 128)) (ix3 0 ⟨(y 1).val % 64, by show _ < 64; omega⟩ ⟨(y 2).val % 128, by show _ < 128; omega⟩)
        else if (y 1).val / 64 = 2 * k.val then P (pos6 ((y 2).val / 128)) (ix3 0 ⟨(y 1).val % 64, by show _ < 64; omega⟩ ⟨(y 2).val % 128, by show _ < 128; omega⟩)
        else v.read (Elt F) f y := by
  subst e0 e1 e2 e3 e4 e5 g0 g1 g2 g3 g4 g5
  rw [View.read_writes_cons_put _ _ _ _ _ (off21_eq k), View.read_writes_cons_put _ _ _ _ _ (off20_eq k), View.read_writes_cons_put _ _ _ _ _ (off19_eq k),
    View.read_writes_cons_put _ _ _ _ _ (off18_eq k), View.read_writes_cons_put _ _ _ _ _ (off17_eq k), View.read_writes_cons_put _ _ _ _ _ (off16_eq k),
    View.read_writes_cons_put _ _ _ _ _ (off11_eq k), View.read_writes_cons_put _ _ _ _ _ (off10_eq k), View.read_writes_cons_put _ _ _ _ _ (off9_eq k),
    View.read_writes_cons_put _ _ _ _ _ (off8_eq k), View.read_writes_cons_put _ _ _ _ _ (off7_eq k), View.read_writes_cons_put _ _ _ _ _ (off6_eq k), View.writes_nil]
  have h2 : (y 2).val < 768 := (y 2).isLt
  rw [put_block _ _ _ (by omega) (by omega), put_block _ _ _ (by omega) (by omega), put_block _ _ _ (by omega) (by omega), put_block _ _ _ (by omega) (by omega),
    put_block _ _ _ (by omega) (by omega), put_block _ _ _ (by omega) (by omega), put_block _ _ _ (by omega) (by omega), put_block _ _ _ (by omega) (by omega),
    put_block _ _ _ (by omega) (by omega), put_block _ _ _ (by omega) (by omega), put_block _ _ _ (by omega) (by omega), put_block _ _ _ (by omega) (by omega)]
  have hj : (y 2).val / 128 = 0 ∨ (y 2).val / 128 = 1 ∨ (y 2).val / 128 = 2 ∨ (y 2).val / 128 = 3 ∨ (y 2).val / 128 = 4 ∨ (y 2).val / 128 = 5 := by omega
  by_cases hB : (y 1).val / 64 = 2 * k.val + 1
  · rw [if_pos hB]
    rcases hj with hj | hj | hj | hj | hj | hj <;> rw [hj] <;> repeat (first | rw [if_pos (by omega)]; rfl | rw [if_neg (by omega)])
  · rw [if_neg hB]
    by_cases hA : (y 1).val / 64 = 2 * k.val
    · rw [if_pos hA]
      rcases hj with hj | hj | hj | hj | hj | hj <;> rw [hj] <;> repeat (first | rw [if_pos (by omega)]; rfl | rw [if_neg (by omega)])
    · rw [if_neg hA]
      iterate 12 rw [if_neg (by omega)]

end loads

end Cert.AttnIdeal.Run

end
-- ==== Proof.AttnKv.lean ====
module

public import proofs.«01_k».proof.Proof.AttnStep
public import proofs.«01_k».proof.Proof.Gen.AttnIdeal.Frame
public import proofs.«01_k».proof.Proof.Gen.AttnIdeal.Skeleton
public import proofs.«01_k».proof.Proof.Gen.AttnIdeal.Loops
public import Idealize.ShloMosaic.Lib.VecWindow
public import Idealize.ShloMosaic.Lib.Tactic
public import Idealize.ShloMosaic.Lib.Pipeline.Kit
public import Idealize.ShloMosaic.Lib.Pipeline.Value
public import Idealize.ShloMosaic.Lib.Pointwise

/-!
  The scratch of keys (and the one of values) of the sliding-window attention kernel after its two stores: the history
  in front, the sequence behind.
-/

@[expose] public section

set_option maxRecDepth 16384

noncomputable section

namespace Cert.AttnIdeal.Run

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The keys (or values) of a sequence behind those of its history, as the kernel lays them out: rounded. -/
def behind (h : Vec F S1x128x256 .bf16) (x : Vec F S1x2048x256 .bf16) : Vec F S1x2176x256 .bf16 := fun y =>
  if hy : (y 1).val < 128 then h (ix3 0 ⟨(y 1).val, hy⟩ (y 2))
  else x (ix3 0 ⟨(y 1).val - 128, by have h : (y 1).val < 2176 := (y 1).isLt; omega⟩ (y 2))

theorem in_low (y : S1x2176x256.Idx) (hy : (y 1).val < 128) (a : Fin 3) : (![0, 0, 0] : Fin 3 → ℕ) a ≤ (y a).val ∧ (y a).val < (![0, 0, 0] : Fin 3 → ℕ) a + S1x128x256.size a := by
  have h0 : (y 0).val < 1 := (y 0).isLt
  have h2 : (y 2).val < 256 := (y 2).isLt
  match a with
  | ⟨0, _⟩ => exact ⟨Nat.zero_le _, by show (y 0).val < 0 + 1; omega⟩
  | ⟨1, _⟩ => exact ⟨Nat.zero_le _, by show (y 1).val < 0 + 128; omega⟩
  | ⟨2, _⟩ => exact ⟨Nat.zero_le _, by show (y 2).val < 0 + 256; omega⟩

theorem in_high (y : S1x2176x256.Idx) (hy : ¬ (y 1).val < 128) (a : Fin 3) : (![0, 128, 0] : Fin 3 → ℕ) a ≤ (y a).val ∧ (y a).val < (![0, 128, 0] : Fin 3 → ℕ) a + S1x2048x256.size a := by
  have h0 : (y 0).val < 1 := (y 0).isLt
  have h1 : (y 1).val < 2176 := (y 1).isLt
  have h2 : (y 2).val < 256 := (y 2).isLt
  match a with
  | ⟨0, _⟩ => exact ⟨Nat.zero_le _, by show (y 0).val < 0 + 1; omega⟩
  | ⟨1, _⟩ => exact ⟨by show 128 ≤ (y 1).val; omega, by show (y 1).val < 128 + 2048; omega⟩
  | ⟨2, _⟩ => exact ⟨Nat.zero_le _, by show (y 2).val < 0 + 256; omega⟩

theorem put_behind (x : Vec F S1x2176x256 .bf16) (h : Vec F S1x128x256 .bf16) (w : Vec F S1x2048x256 .bf16) :
    VecWindow.put (s := S1x2176x256) (VecWindow.put (s := S1x2176x256) x ![0, 0, 0] S1x128x256.size h) ![0, 128, 0] S1x2048x256.size w = behind h w := by
  funext y
  have h0 : (y 0).val < 1 := (y 0).isLt
  have h1 : (y 1).val < 2176 := (y 1).isLt
  have h2 : (y 2).val < 256 := (y 2).isLt
  unfold behind VecWindow.put
  by_cases hy : (y 1).val < 128
  · rw [dif_pos hy, dif_neg (fun hh => hy.not_ge (hh 1).1), dif_pos (in_low y hy)]
    refine congrArg h (funext fun a => Fin.ext ?_)
    match a with
    | ⟨0, _⟩ => show (y 0).val - 0 = 0; omega
    | ⟨1, _⟩ => rfl
    | ⟨2, _⟩ => rfl
  · rw [dif_neg hy, dif_pos (in_high y hy)]
    refine congrArg w (funext fun a => Fin.ext ?_)
    match a with
    | ⟨0, _⟩ => show (y 0).val - 0 = 0; omega
    | ⟨1, _⟩ => rfl
    | ⟨2, _⟩ => rfl

section loads2
variable {κ : Kind} {sp : Space}
/-- The scratch after its two stores. -/
theorem read_behind (v : View sig κ sp S1x2176x256 .bf16) (f : v.ty.Contents (Elt F)) (i1 i2) (h : Vec F S1x128x256 .bf16) (w : Vec F S1x2048x256 .bf16) :
    v.read (Elt F) (v.writes (Elt F) f [⟨Rect.unit ![0, 128, 0] S1x2048x256.size i1, w⟩, ⟨Rect.unit ![0, 0, 0] S1x128x256.size i2, h⟩]) = behind h w := by
  rw [View.read_writes_cons_put _ _ _ _ _ rfl, View.read_writes_cons_put _ _ _ _ _ rfl]
  exact put_behind _ _ _
end loads2

end Cert.AttnIdeal.Run

end
-- ==== Proof.AttnRun.lean ====
module

public import proofs.«01_k».proof.Proof.AttnKv
public import proofs.«01_k».proof.Proof.Gen.AttnIdeal.Frame
public import proofs.«01_k».proof.Proof.Gen.AttnIdeal.Skeleton
public import proofs.«01_k».proof.Proof.Gen.AttnIdeal.Loops
public import Idealize.ShloMosaic.Lib.VecWindow
public import Idealize.ShloMosaic.Lib.Tactic
public import Idealize.ShloMosaic.Lib.Pipeline.Kit
public import Idealize.ShloMosaic.Lib.Pipeline.Value
public import Idealize.ShloMosaic.Lib.Pointwise

/-!
  One trip of the chunk loop and one grid point of the sliding-window attention kernel, run once for any float
  interpretation. Before a trip the scratch of scores holds in its first slot the scores of the trip's first chunk, and
  the output holds the rows of the chunks before.
-/

@[expose] public section

set_option maxRecDepth 16384

noncomputable section

namespace Cert.AttnIdeal.Run

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What holds before trip `k`. -/
def inv (c : Dev nD) (arg1 : Memref sig .tc .vmem S1x2048x768 .bf16) (arg6 : Memref sig .tc .vmem S12x192x256 .f32) (arg7 : Memref sig .tc .vmem S1x2048x768 .bf16) (arg8 : Memref sig .tc .vmem S1x2176x256 .bf16) (arg9 : Memref sig .tc .vmem S1x2176x256 .bf16) (arg10 : Memref sig .tc .vmem S2x4x192x256 .f32) (q : Vec F S1x2048x768 .bf16) (kf vf : Vec F S1x2176x256 .bf16) (b : Vec F S12x192x256 .f32) (k : ℕ) : sProp 𝕄 :=
  iprop(owns (c : Thread nD τ) arg1 fullShare q ∗ owns (c : Thread nD τ) arg6 fullShare b ∗ owns (c : Thread nD τ) arg8 fullShare kf ∗ owns (c : Thread nD τ) arg9 fullShare vf
    ∗ (∃ s : Vec F S2x4x192x256 .f32, ⌜∀ (hk : k < 16) (h : Fin 4), slot s 0 h = scN q kf b ⟨2 * k, by omega⟩ h⌝ ∗ owns (c : Thread nD τ) arg10 fullShare s)
    ∗ (∃ o : Vec F S1x2048x768 .bf16, ⌜∀ y, (y 1).val < 128 * k → o y = outArr q kf vf b y⌝ ∗ owns (c : Thread nD τ) arg7 fullShare o))

set_option maxHeartbeats 4000000 in
/-- One trip. -/
theorem trip (c : Dev nD) (i : grid0.Coords) (arg1 : Memref sig .tc .vmem S1x2048x768 .bf16) (harg1 : arg1.IsWhole) (arg2 : Memref sig .tc .vmem S1x2048x256 .f32) (harg2 : arg2.IsWhole) (arg3 : Memref sig .tc .vmem S1x2048x256 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S12x192x256 .f32) (harg6 : arg6.IsWhole) (arg7 : Memref sig .tc .vmem S1x2048x768 .bf16) (harg7 : arg7.IsWhole) (arg8 : Memref sig .tc .vmem S1x2176x256 .bf16) (harg8 : arg8.IsWhole) (arg9 : Memref sig .tc .vmem S1x2176x256 .bf16) (harg9 : arg9.IsWhole) (arg10 : Memref sig .tc .vmem S2x4x192x256 .f32) (harg10 : arg10.IsWhole) (q : Vec F S1x2048x768 .bf16) (kf vf : Vec F S1x2176x256 .bf16) (b : Vec F S12x192x256 .f32) (k : Fin k0_t1_loop.trips) (u : Unit) :
    inv c arg1 arg6 arg7 arg8 arg9 arg10 q kf vf b k.val
      ⊢ wp frame (wpE (defs₀ (F := F)) Variants.none c none) Set.univ (k0_t1_body i arg1 harg1 arg2 harg2 arg3 harg3 arg4 harg4 arg5 harg5 arg6 harg6 arg7 harg7 arg8 harg8 arg9 harg9 arg10 harg10 k0_pay49 k0_pay50 k0_pay51 k u) (fun _ => inv c arg1 arg6 arg7 arg8 arg9 arg10 q kf vf b (k.val + 1)) := by
  unfold inv k0_t1_body
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f1, %hf1, H1⟩, ⟨%f6, %hf6, H6⟩, ⟨%f8, %hf8, H8⟩, ⟨%f9, %hf9, H9⟩, ⟨%s, %hs, %fs, %hfs, HS⟩, ⟨%o, %ho, %fo, %hfo, HO⟩⟩
  subst hf1 hf6 hf8 hf9 hfs hfo
  sl_exec
  sl_step
  isplitl [H1]
  · iexists _; isplitr; · ipureintro; rfl
    iexact H1
  isplitl [H6]
  · iexists _; isplitr; · ipureintro; rfl
    iexact H6
  isplitl [H8]
  · iexists _; isplitr; · ipureintro; rfl
    iexact H8
  isplitl [H9]
  · iexists _; isplitr; · ipureintro; rfl
    iexact H9
  isplitl [HS]
  · iexists _; isplitr; swap
    · iexists _; isplitr; swap
      · iexact HS
      · ipureintro; rfl
    ipureintro
    intro hk h
    have hq := ld_q arg1.view f1 (n := cC k) (off12_eq k) (k0_off12_inb k)
    have hkk := ld_k arg8.view f8 (n := cC k) (off13_eq k) (k0_off13_inb k)
    have hb : bW (arg6.view.read (Elt F) f6) (cC k) = fun h => arg6.view.readAt (Elt F) (Rect.unit (s := S12x192x256) (k0_off14 k (BitVec.ofNat 32 h.val)) S1x192x256.size (by match h with | 0 => exact k0_off14_inb k 0 | 1 => exact k0_off14_inb k 1 | 2 => exact k0_off14_inb k 2 | 3 => exact k0_off14_inb k 3)).toLoadRect f6 := by
      funext h
      exact (ld_b arg6.view f6 (n := cC k) (off14_eq h k) _).symm
    have hn : (⟨2 * (k.val + 1), by omega⟩ : Fin 32) = cC k := Fin.ext (by show 2 * (k.val + 1) = min (2 * k.val + 2) 31; omega)
    rw [hn]
    refine (slot_put4 arg10.view fs 0 (inb4 0) _ _ _ _ _ h).trans ?_
    unfold scN
    rw [← hq, ← hkk, hb]
    match h with
    | 0 => rfl
    | 1 => rfl
    | 2 => rfl
    | 3 => rfl
  iexists _; isplitr; swap
  · iexists _; isplitr; swap
    · iexact HO
    · ipureintro; rfl
  ipureintro
  intro y hy
  have hk16 : k.val < 16 := k.isLt
  have hq := ld_q arg1.view f1 (n := cB k) (off2_eq k) (k0_off2_inb k)
  have hkk := ld_k arg8.view f8 (n := cB k) (off3_eq k) (k0_off3_inb k)
  have hvA := ld_k arg9.view f9 (n := cA k) (off5_eq k) (k0_off5_inb k)
  have hvB := ld_k arg9.view f9 (n := cB k) (off15_eq k) (k0_off15_inb k)
  have hb : bW (arg6.view.read (Elt F) f6) (cB k) = fun h => arg6.view.readAt (Elt F) (Rect.unit (s := S12x192x256) (k0_off4 k (BitVec.ofNat 32 h.val)) S1x192x256.size (by match h with | 0 => exact k0_off4_inb k 0 | 1 => exact k0_off4_inb k 1 | 2 => exact k0_off4_inb k 2 | 3 => exact k0_off4_inb k 3)).toLoadRect f6 := by
    funext h
    exact (ld_b arg6.view f6 (n := cB k) (off4_eq h k) _).symm
  have hsA : (fun h => slot (arg10.view.read (Elt F) fs) 0 h) = scN (arg1.view.read (Elt F) f1) (arg8.view.read (Elt F) f8) (arg6.view.read (Elt F) f6) (cA k) := by
    funext h
    exact hs hk16 h
  have hsB : (fun h => slot (arg10.view.read (Elt F) (arg10.view.writes (Elt F) arg10.view.junk (trip.sl.HS_8 c arg1 arg6 arg8 k f1 f6 f8))) 1 h) = scN (arg1.view.read (Elt F) f1) (arg8.view.read (Elt F) f8) (arg6.view.read (Elt F) f6) (cB k) := by
    funext h
    refine (slot_put4_other arg10.view _ (inb4 0) _ _ _ _ _ h).trans ?_
    refine (slot_put4 arg10.view _ 1 (inb4 1) _ _ _ _ _ h).trans ?_
    unfold scN
    rw [← hq, ← hkk, hb]
    match h with
    | 0 => rfl
    | 1 => rfl
    | 2 => rfl
    | 3 => rfl
  refine (put12 arg7.view fo k (oc (kW (arg9.view.read (Elt F) f9) (cA k)) (scN (arg1.view.read (Elt F) f1) (arg8.view.read (Elt F) f8) (arg6.view.read (Elt F) f6) (cA k)))
    (oc (kW (arg9.view.read (Elt F) f9) (cB k)) (scN (arg1.view.read (Elt F) f1) (arg8.view.read (Elt F) f8) (arg6.view.read (Elt F) f6) (cB k)))
    _ _ _ _ _ _ _ _ _ _ _ _ ?_ ?_ ?_ ?_ ?_ ?_ ?_ ?_ ?_ ?_ ?_ ?_ y).trans ?_
  · rw [← hsA, ← hvA]; rfl
  · rw [← hsA, ← hvA]; rfl
  · rw [← hsA, ← hvA]; rfl
  · rw [← hsA, ← hvA]; rfl
  · rw [← hsA, ← hvA]; rfl
  · rw [← hsA, ← hvA]; rfl
  · rw [← hsB, ← hvB]; rfl
  · rw [← hsB, ← hvB]; rfl
  · rw [← hsB, ← hvB]; rfl
  · rw [← hsB, ← hvB]; rfl
  · rw [← hsB, ← hvB]; rfl
  · rw [← hsB, ← hvB]; rfl
  unfold outArr
  by_cases hB : (y 1).val / 64 = 2 * k.val + 1
  · rw [if_pos hB]
    have e : (⟨(y 1).val / 64, by have : (y 1).val < 2048 := (y 1).isLt; omega⟩ : Fin 32) = cB k := Fin.ext hB
    rw [e]
  · rw [if_neg hB]
    by_cases hA : (y 1).val / 64 = 2 * k.val
    · rw [if_pos hA]
      have e : (⟨(y 1).val / 64, by have : (y 1).val < 2048 := (y 1).isLt; omega⟩ : Fin 32) = cA k := Fin.ext hA
      rw [e]
    · rw [if_neg hA]
      exact ho y (by omega)

/-- The keys behind their history, rounded, -/
def keys (h : Vec F S1x128x256 .f32) (k : Vec F S1x2048x256 .f32) : Vec F S1x2176x256 .bf16 := behind (k0_pay52 h) (k0_pay53 k)
/-- and the values. -/
def vals (g : Vec F S1x128x256 .f32) (v : Vec F S1x2048x256 .f32) : Vec F S1x2176x256 .bf16 := behind (k0_pay54 g) (k0_pay55 v)

set_option maxHeartbeats 4000000 in
/-- One grid point. -/
theorem run (c : Dev nD) (i : grid0.Coords) (arg1 : Memref sig .tc .vmem S1x2048x768 .bf16) (harg1 : arg1.IsWhole) (arg2 : Memref sig .tc .vmem S1x2048x256 .f32) (harg2 : arg2.IsWhole) (arg3 : Memref sig .tc .vmem S1x2048x256 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S12x192x256 .f32) (harg6 : arg6.IsWhole) (arg7 : Memref sig .tc .vmem S1x2048x768 .bf16) (harg7 : arg7.IsWhole) (arg8 : Memref sig .tc .vmem S1x2176x256 .bf16) (harg8 : arg8.IsWhole) (arg9 : Memref sig .tc .vmem S1x2176x256 .bf16) (harg9 : arg9.IsWhole) (arg10 : Memref sig .tc .vmem S2x4x192x256 .f32) (harg10 : arg10.IsWhole)
    (q : Vec F S1x2048x768 .bf16) (k : Vec F S1x2048x256 .f32) (v : Vec F S1x2048x256 .f32) (h : Vec F S1x128x256 .f32) (g : Vec F S1x128x256 .f32) (b : Vec F S12x192x256 .f32) (o : Vec F S1x2048x768 .bf16) (x8 : Vec F S1x2176x256 .bf16) (x9 : Vec F S1x2176x256 .bf16) (x10 : Vec F S2x4x192x256 .f32) (K : PUnit → sProp 𝕄) :
    iprop(owns (c : Thread nD τ) arg1 fullShare q ∗ owns (c : Thread nD τ) arg2 fullShare k ∗ owns (c : Thread nD τ) arg3 fullShare v ∗ owns (c : Thread nD τ) arg4 fullShare h ∗ owns (c : Thread nD τ) arg5 fullShare g ∗ owns (c : Thread nD τ) arg6 fullShare b ∗ owns (c : Thread nD τ) arg7 fullShare o ∗ owns (c : Thread nD τ) arg8 fullShare x8 ∗ owns (c : Thread nD τ) arg9 fullShare x9 ∗ owns (c : Thread nD τ) arg10 fullShare x10
        ∗ (iprop(owns (c : Thread nD τ) arg1 fullShare q ∗ owns (c : Thread nD τ) arg2 fullShare k ∗ owns (c : Thread nD τ) arg3 fullShare v ∗ owns (c : Thread nD τ) arg4 fullShare h ∗ owns (c : Thread nD τ) arg5 fullShare g ∗ owns (c : Thread nD τ) arg6 fullShare b ∗ owns (c : Thread nD τ) arg7 fullShare (outArr q (keys h k) (vals g v) b) ∗ (∃ y : Vec F S1x2176x256 .bf16, owns (c : Thread nD τ) arg8 fullShare y) ∗ (∃ y : Vec F S1x2176x256 .bf16, owns (c : Thread nD τ) arg9 fullShare y) ∗ (∃ y : Vec F S2x4x192x256 .f32, owns (c : Thread nD τ) arg10 fullShare y)) -∗ K ⟨⟩))
      ⊢ wp frame (wpE (defs₀ (F := F)) Variants.none c none) Set.univ (cc0_attn i arg1 harg1 arg2 harg2 arg3 harg3 arg4 harg4 arg5 harg5 arg6 harg6 arg7 harg7 arg8 harg8 arg9 harg9 arg10 harg10) K := by
  simp only [cc0_attn_eq_skeleton]; unfold cc0_attn_skel
  simp only [k0_part13_eq_skeleton, k0_part14_eq_skeleton, k0_part15_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf1 hf2 hf3 hf4 hf5 hf6 hf7 hf8 hf9 hf10
  sl_exec
  sl_for (fun n _ => inv c arg1 arg6 arg7 arg8 arg9 arg10 (arg1.view.read (Elt F) f1) (keys (arg4.view.read (Elt F) f4) (arg2.view.read (Elt F) f2)) (vals (arg5.view.read (Elt F) f5) (arg3.view.read (Elt F) f3)) (arg6.view.read (Elt F) f6) n) $$ [H1 H6 H7 H8 H9 H10]
  · intro n u
    exact trip c i arg1 harg1 arg2 harg2 arg3 harg3 arg4 harg4 arg5 harg5 arg6 harg6 arg7 harg7 arg8 harg8 arg9 harg9 arg10 harg10 _ _ _ _ n u
  · have hk8 : keys (arg4.view.read (Elt F) f4) (arg2.view.read (Elt F) f2) = arg8.view.read (Elt F) (arg8.view.writes (Elt F) arg8.view.junk (run.sl.H8_2 c arg2 arg4 f2 f4)) := by
      refine Eq.trans ?_ (read_behind arg8.view _ _ _ _ _).symm
      rw [View.readAt_full, View.readAt_full]; rfl
    have hk9 : vals (arg5.view.read (Elt F) f5) (arg3.view.read (Elt F) f3) = arg9.view.read (Elt F) (arg9.view.writes (Elt F) arg9.view.junk (run.sl.H9_2 c arg3 arg5 f3 f5)) := by
      refine Eq.trans ?_ (read_behind arg9.view _ _ _ _ _).symm
      rw [View.readAt_full, View.readAt_full]; rfl
    rw [hk8, hk9]
    unfold inv owns
    isplitl [H1]
    · iexists _; isplitr; · ipureintro; rfl
      iexact H1
    isplitl [H6]
    · iexists _; isplitr; · ipureintro; rfl
      iexact H6
    isplitl [H8]
    · iexists _; isplitr; · ipureintro; rfl
      iexact H8
    isplitl [H9]
    · iexists _; isplitr; · ipureintro; rfl
      iexact H9
    isplitl [H10]
    · iexists _; isplitr; swap
      · iexists _; isplitr; swap
        · iexact H10
        · ipureintro; rfl
      ipureintro
      intro hk h
      have hq := ld_q arg1.view f1 (n := 0) rfl inb_S1x2048x768_S1x64x768_0_0_0
      have hb : bW (arg6.view.read (Elt F) f6) 0 = fun h => arg6.view.readAt (Elt F) (Rect.unit (s := S12x192x256) ![h.val, 0, 0] S1x192x256.size (by match h with | 0 => exact k0_off1_inb 0 | 1 => exact k0_off1_inb 1 | 2 => exact k0_off1_inb 2 | 3 => exact k0_off1_inb 3)).toLoadRect f6 := by
        funext h
        exact (ld_b arg6.view f6 (n := 0) (by show _ = ![0 + h.val, 0, 0]; rw [Nat.zero_add]) _).symm
      refine (slot_put4 arg10.view f10 0 (inb4 0) _ _ _ _ _ h).trans ?_
      show _ = sc (qW _ 0) (kW _ 0) (bW _ 0) h
      rw [← hq, hb]
      match h with
      | 0 => rfl
      | 1 => rfl
      | 2 => rfl
      | 3 => rfl
    iexists _; isplitr; swap
    · iexists _; isplitr; swap
      · iexact H7
      · ipureintro; rfl
    ipureintro
    intro y hy
    exact absurd hy (by omega)
  iintro %u HI
  unfold inv owns
  icases HI with ⟨⟨%g1, %hg1, H1⟩, ⟨%g6, %hg6, H6⟩, H8, H9, ⟨%s, %hs, H10⟩, ⟨%o, %ho, ⟨%g7, %hg7, H7⟩⟩⟩
  have ho' : o = outArr (arg1.view.read (Elt F) f1) (keys (arg4.view.read (Elt F) f4) (arg2.view.read (Elt F) f2)) (vals (arg5.view.read (Elt F) f5) (arg3.view.read (Elt F) f3)) (arg6.view.read (Elt F) f6) :=
    funext fun y => ho y (by have h : (y 1).val < 2048 := (y 1).isLt; show _ < 128 * 16; omega)
  sl_step
  iapply Hk
  isplitl [H1]
  · iexists g1; isplitr; · ipureintro; exact hg1
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists g6; isplitr; · ipureintro; exact hg6
    iexact H6
  isplitl [H7]
  · iexists g7; isplitr; · ipureintro; exact hg7.trans ho'
    iexact H7
  isplitl [H8]; · iexists _; iexact H8
  isplitl [H9]; · iexists _; iexact H9
  iexists s; iexact H10

end Cert.AttnIdeal.Run

end
-- ==== Proof.Softmax.lean ====
module

public import Idealize.ShloMosaic.PureOps.Ideal
public import Idealize.ShloMosaic.PureOps.Ideal.Laws

/-!
Extended-real facts a softmax needs: which values are real numbers, and that a weighted sum divided by the sum of its
weights is the sum weighted by the quotients, once the divisor is a positive real.
-/

@[expose] public section

noncomputable section

namespace Cert.Softmax

open Idealize.ShloMosaic

/-- The extended real is a real number. -/
def IsReal (x : EReal) : Prop := ∃ r : ℝ, x = (r : EReal)

theorem IsReal.mul {x y : EReal} (hx : IsReal x) (hy : IsReal y) : IsReal (x * y) := by
  obtain ⟨r, rfl⟩ := hx
  obtain ⟨s, rfl⟩ := hy
  exact ⟨r * s, (EReal.coe_mul r s).symm⟩

theorem IsReal.add {x y : EReal} (hx : IsReal x) (hy : IsReal y) : IsReal (x + y) := by
  obtain ⟨r, rfl⟩ := hx
  obtain ⟨s, rfl⟩ := hy
  exact ⟨r + s, (EReal.coe_add r s).symm⟩

/-- A finite sum of real numbers is a real number. -/
theorem IsReal.sum {ι : Type} (S : Finset ι) {f : ι → EReal} (h : ∀ i ∈ S, IsReal (f i)) : IsReal (∑ i ∈ S, f i) := by
  classical
  induction S using Finset.induction_on with
  | empty => exact ⟨0, by simp⟩
  | insert a S ha ih =>
    rw [Finset.sum_insert ha]
    exact (h a (Finset.mem_insert_self a S)).add (ih fun i hi => h i (Finset.mem_insert_of_mem hi))

/-- A value whose magnitude is below `+∞` is a real number. -/
theorem IsReal.of_abs {x : EReal} (h : max x (-x) < ⊤) : IsReal x := by
  induction x using EReal.rec with
  | bot => simp at h
  | top => simp at h
  | coe r => exact ⟨r, rfl⟩

theorem IsReal.ne_top {x : EReal} (h : IsReal x) : x ≠ ⊤ := by
  obtain ⟨r, rfl⟩ := h
  exact EReal.coe_ne_top r

theorem IsReal.ne_bot {x : EReal} (h : IsReal x) : x ≠ ⊥ := by
  obtain ⟨r, rfl⟩ := h
  exact EReal.coe_ne_bot r

theorem IsReal.of_ne {x : EReal} (hb : x ≠ ⊥) (ht : x ≠ ⊤) : IsReal x := by
  induction x using EReal.rec with
  | bot => exact absurd rfl hb
  | top => exact absurd rfl ht
  | coe r => exact ⟨r, rfl⟩

/-- The maximum of finitely many real numbers, at least one, is a real number. -/
theorem IsReal.fold_max {n : ℕ} (hn : 0 < n) {f : Fin n → EReal} (h : ∀ i, IsReal (f i)) :
    IsReal (Finset.univ.fold max ⊥ f) := by
  refine IsReal.of_ne (ne_of_gt ?_) (ne_of_lt ?_)
  · have h0 : f ⟨0, hn⟩ ≤ Finset.univ.fold max ⊥ f := (Finset.le_fold_max _).2 (Or.inr ⟨⟨0, hn⟩, Finset.mem_univ _, le_rfl⟩)
    exact lt_of_lt_of_le (bot_lt_iff_ne_bot.2 (h _).ne_bot) h0
  · exact (Finset.fold_max_lt _).2 ⟨bot_lt_top, fun i _ => lt_top_iff_ne_top.2 (h i).ne_top⟩

/-- The exponential of a difference of real numbers is a positive real number. -/
theorem exp_sub {x y : EReal} (hx : IsReal x) (hy : IsReal y) : ∃ r : ℝ, 0 < r ∧ Ideal.exp (x - y) = (r : EReal) := by
  obtain ⟨r, rfl⟩ := hx
  obtain ⟨s, rfl⟩ := hy
  exact ⟨Real.exp (r - s), Real.exp_pos _, by rw [← EReal.coe_sub]; rfl⟩

/-- A sum of positive real numbers, at least one, is a positive real number. -/
theorem sum_pos {n : ℕ} (hn : 0 < n) {f : Fin n → EReal} (h : ∀ i, ∃ r : ℝ, 0 < r ∧ f i = (r : EReal)) :
    ∃ r : ℝ, 0 < r ∧ ∑ i, f i = (r : EReal) := by
  choose r hr hf using h
  refine ⟨∑ i, r i, Finset.sum_pos (fun i _ => hr i) ⟨⟨0, hn⟩, Finset.mem_univ _⟩, ?_⟩
  have : ∀ S : Finset (Fin n), ∑ i ∈ S, f i = ((∑ i ∈ S, r i : ℝ) : EReal) := by
    classical
    intro S
    induction S using Finset.induction_on with
    | empty => simp
    | insert a S ha ih => rw [Finset.sum_insert ha, Finset.sum_insert ha, ih, hf a, EReal.coe_add]
  exact this Finset.univ

/-- Multiplying by a nonnegative real number goes through a finite sum of extended reals. -/
theorem sum_mul_coe {ι : Type} (S : Finset ι) (f : ι → EReal) {c : EReal} (h0 : 0 ≤ c) (ht : c ≠ ⊤) :
    (∑ i ∈ S, f i) * c = ∑ i ∈ S, f i * c := by
  classical
  induction S using Finset.induction_on with
  | empty => simp
  | insert a S ha ih =>
    rw [Finset.sum_insert ha, Finset.sum_insert ha, EReal.right_distrib_of_nonneg_of_ne_top h0 ht, ih]

/-- Dividing by a positive real number is multiplying by its inverse, a nonnegative real number. -/
theorem div_coe (x : EReal) {r : ℝ} (hr : 0 < r) : Ideal.div x (r : EReal) = x * ((r⁻¹ : ℝ) : EReal) := by
  unfold Ideal.div
  rw [if_neg (by exact_mod_cast hr.ne'), EReal.coe_inv]

/-- A weighted sum over the sum of the weights is the sum weighted by the quotients, when the divisor is a positive
    real number; what is weighted may be infinite. -/
theorem sum_div {ι : Type} (S : Finset ι) (e v : ι → EReal) {r : ℝ} (hr : 0 < r) :
    Ideal.div (∑ i ∈ S, e i * v i) (r : EReal) = ∑ i ∈ S, v i * Ideal.div (e i) (r : EReal) := by
  rw [div_coe _ hr, sum_mul_coe S _ (EReal.coe_nonneg.2 (inv_nonneg.2 hr.le)) (EReal.coe_ne_top _)]
  refine Finset.sum_congr rfl fun i _ => ?_
  rw [div_coe _ hr, mul_comm (e i) (v i), mul_assoc]

end Cert.Softmax

end
-- ==== Proof.AttnSpec.lean ====
module

public import proofs.«01_k».proof.Proof.Softmax
public import Idealize.ShloMosaic.Lib.Pointwise

/-!
The sliding-window attention as mathematics: a query sees the keys of its own chunk of 64 tokens and of the two before it,
and a sink that takes weight and carries no value.
-/

@[expose] public section

noncomputable section

namespace Cert.Band

open Idealize.ShloMosaic Cert.Softmax

abbrev Sq : Shape := ⟨3, ![8, 2048, 768]⟩
abbrev Skv : Shape := ⟨3, ![8, 2048, 512]⟩
abbrev Sb : Shape := ⟨3, ![12, 64, 192]⟩
abbrev Ss : Shape := ⟨1, ![12]⟩

/-- Element `d` of head `h` of the key (`o = 0`) or value (`o = 1`) at place `P` of a sequence with 128 zeros in front. -/
def kv (x1 : FVec Ideal Skv .f32) (o : Fin 2) (b : Fin 8) (P : ℕ) (hP : P < 2176) (h : Fin 4) (d : Fin 64) : EReal :=
  if h0 : P < 128 then 0 else x1 (ix3 b ⟨P - 128, by omega⟩ ⟨256 * o.val + 64 * h.val + d.val, by omega⟩)

/-- The same place written in another way is the same element. -/
theorem kv_congr (x1 : FVec Ideal Skv .f32) (o : Fin 2) (b : Fin 8) {P P' : ℕ} (e : P = P') (hP : P < 2176) (hP' : P' < 2176) (h : Fin 4) (d : Fin 64) :
    kv x1 o b P hP h d = kv x1 o b P' hP' h d := by subst e; rfl

/-- The same place of an array written in another way. -/
theorem at3 {n0 n1 n2 : ℕ} {α : Type} (x : (⟨3, ![n0, n1, n2]⟩ : Shape).Idx → α) {a a' : Fin n0} {b b' : Fin n1} {c c' : Fin n2}
    (ha : a.val = a'.val) (hb : b.val = b'.val) (hc : c.val = c'.val) : x (ix3 a b c) = x (ix3 a' b' c') := by
  obtain rfl := Fin.ext ha
  obtain rfl := Fin.ext hb
  obtain rfl := Fin.ext hc
  rfl

/-- The scale 1/8 of a score. -/
def scl : EReal := Ideal.ofBits .f32 0x3E000000#32

/-- The score of key `k` of chunk `n`'s window for query row `q` of head `h` and group `g`; a place before the sequence has
    the score `−∞`. -/
def score (x0 : FVec Ideal Sq .bf16) (x1 : FVec Ideal Skv .f32) (x2 : FVec Ideal Sb .f32) (b : Fin 8) (n : Fin 32) (h : Fin 4) (g : Fin 3)
    (q : Fin 64) (k : Fin 192) : EReal :=
  if 64 * n.val + k.val < 128 then ⊥ else
    (∑ d : Fin 64, kv x1 0 b (64 * n.val + k.val) (by omega) h d * x0 (ix3 b ⟨64 * n.val + q.val, by omega⟩ ⟨256 * g.val + 64 * h.val + d.val, by omega⟩)) * scl
      + x2 (ix3 ⟨3 * h.val + g.val, by omega⟩ q k)

/-- The largest of a row's scores and its sink. -/
def top (s : Fin 192 → EReal) (z : EReal) : EReal := max (Finset.univ.fold max ⊥ s) z

/-- A row's attention: its values weighted by the softmax of its scores and its sink. -/
def att (s : Fin 192 → EReal) (z : EReal) (v : Fin 192 → EReal) : EReal :=
  ∑ k, v k * Ideal.div (Ideal.exp (s k - top s z)) ((∑ k, Ideal.exp (s k - top s z)) + Ideal.exp (z - top s z))

/-- The output at row `q` of chunk `n`, group `g`, head `h`, element `d`. -/
def out (x0 : FVec Ideal Sq .bf16) (x1 : FVec Ideal Skv .f32) (x2 : FVec Ideal Sb .f32) (x3 : FVec Ideal Ss .f32) (b : Fin 8) (n : Fin 32)
    (q : Fin 64) (g : Fin 3) (h : Fin 4) (d : Fin 64) : EReal :=
  att (score x0 x1 x2 b n h g q) (x3 (ix1 ⟨3 * h.val + g.val, by omega⟩)) (fun k => kv x1 1 b (64 * n.val + k.val) (by omega) h d)

end Cert.Band

end
-- ==== Proof.AttnKer.lean ====
module

public import proofs.«01_k».proof.Proof.AttnRun
public import proofs.«01_k».proof.Proof.AttnSpec

/-!
The sliding-window attention kernel's chunk, read at an index over the extended reals.
-/

@[expose] public section

set_option maxRecDepth 16384

noncomputable section

namespace Cert.AttnIdeal.Run

open Cert.AttnIdeal Cert.AttnIdeal.Gen Idealize.ShloMosaic Idealize.SL.Sem Idealize.ShloMosaic.TcCoe
open Cert.Softmax Cert.Band

/-- The scaled query of a chunk at row `r` of the three groups' rows, for the pair of heads `j`. -/
def qp (q : Vec Ideal S1x64x768 .bf16) (j : Fin 2) (r : Fin 192) (d : Fin 128) : EReal :=
  if h : r.val < 64 then q (ix3 0 ⟨r.val, h⟩ ⟨128 * j.val + d.val, by omega⟩) * Ideal.ofBits .bf16 0x3E00#16
  else if h : r.val - 64 < 64 then q (ix3 0 ⟨r.val - 64, h⟩ ⟨256 + 128 * j.val + d.val, by omega⟩) * Ideal.ofBits .bf16 0x3E00#16
  else q (ix3 0 ⟨r.val - 64 - 64, by omega⟩ ⟨512 + 128 * j.val + d.val, by omega⟩) * Ideal.ofBits .bf16 0x3E00#16

/-- A key (or value) of a window behind which come 64 rows of zeros. -/
def kp (k : Vec Ideal S1x192x256 .bf16) (j : Fin 2) (K : Fin 256) (d : Fin 128) : EReal :=
  if h : K.val < 192 then k (ix3 0 ⟨K.val, h⟩ ⟨128 * j.val + d.val, by omega⟩) else 0

/-- Whether a column of a pair is of the first head. -/
def lo (d : ℕ) : BitVec 1 := IntOp.cmpi .slt (BitVec.ofNat 32 d) 64#32

section scores
variable (q : Vec Ideal S1x64x768 .bf16) (k : Vec Ideal S1x192x256 .bf16) (b : Fin 4 → Vec Ideal S1x192x256 .f32) (r : Fin 192) (K : Fin 256)

/-- The scores of the first heads of the two pairs, -/
theorem sc0_at : sc q k b 0 (ix4 0 0 r K) = (∑ d : Fin 128, Scalar.select (lo d.val) (qp q 0 r d) 0 * kp k 0 K d) + b 0 (ix3 0 r K) := by
  show k0_pay58 k0_pay49 k0_pay51 q k (b 0) (ix4 0 0 r K) = _
  unfold qp kp lo
  pointwise [k0_pay58, k0_pay57, k0_pay56, k0_pay49, k0_pay51]
theorem sc2_at : sc q k b 2 (ix4 0 0 r K) = (∑ d : Fin 128, Scalar.select (lo d.val) (qp q 1 r d) 0 * kp k 1 K d) + b 2 (ix3 0 r K) := by
  show k0_pay62 k0_pay49 (k0_pay56 q) (k0_pay57 k0_pay51 k) (b 2) (ix4 0 0 r K) = _
  unfold qp kp lo
  pointwise [k0_pay62, k0_pay57, k0_pay56, k0_pay49, k0_pay51]
/-- and of the second heads. -/
theorem sc1_at : sc q k b 1 (ix4 0 0 r K) = (∑ d : Fin 128, Scalar.select (IntOp.xori (lo d.val) 1#1) (qp q 0 r d) 0 * kp k 0 K d) + b 1 (ix3 0 r K) := by
  show k0_pay61 (k0_pay59 k0_pay49 q) (k0_pay60 k0_pay51 k) (b 1) (ix4 0 0 r K) = _
  unfold qp kp lo
  pointwise [k0_pay61, k0_pay60, k0_pay59, k0_pay57, k0_pay56, k0_pay49, k0_pay51]
theorem sc3_at : sc q k b 3 (ix4 0 0 r K) = (∑ d : Fin 128, Scalar.select (IntOp.xori (lo d.val) 1#1) (qp q 1 r d) 0 * kp k 1 K d) + b 3 (ix3 0 r K) := by
  show k0_pay1 (k0_pay63 k0_pay49 (k0_pay56 q) (k0_pay57 k0_pay51 k)) (b 3) (ix4 0 0 r K) = _
  unfold qp kp lo
  pointwise [k0_pay1, k0_pay63, k0_pay57, k0_pay56, k0_pay49, k0_pay51]
end scores

/-! ## The weights and the outputs -/

/-- The largest score of a row, -/
def rowTop (s : Vec Ideal S1x1x192x256 .f32) (r : Fin 192) : EReal :=
  Finset.univ.fold max (Ideal.ofBits .f32 0xFF800000#32) (fun K : Fin 256 => s (ix4 0 0 r K))
/-- a weight, -/
def wt (s : Vec Ideal S1x1x192x256 .f32) (r : Fin 192) (K : Fin 256) : EReal := Ideal.exp (s (ix4 0 0 r K) - rowTop s r)
/-- and a head's output at a row, over both heads' columns of its pair. -/
def hd (v : Vec Ideal S1x192x256 .bf16) (s : Vec Ideal S1x1x192x256 .f32) (j : Fin 2) (r : Fin 192) (d : Fin 128) : EReal :=
  Ideal.div (∑ K : Fin 256, wt s r K * kp v j K d) (∑ K : Fin 256, wt s r K * Ideal.ofBits .bf16 0x3F80#16)

section outputs
variable (v : Vec Ideal S1x192x256 .bf16) (s : Vec Ideal S1x1x192x256 .f32) (r : Fin 192) (d : Fin 128)

theorem num16 : k0_pay16 k0_pay50 (k0_pay12 k0_pay51 v) s (ix2 r ⟨d.val, by omega⟩) = ∑ K : Fin 256, wt s r K * kp v 0 K d := by
  unfold wt rowTop kp
  pointwise [k0_pay16, k0_pay14, k0_pay12, k0_pay50, k0_pay51]
theorem den16 : k0_pay16 k0_pay50 (k0_pay12 k0_pay51 v) s (ix2 r ⟨128 + d.val, by omega⟩) = ∑ K : Fin 256, wt s r K * Ideal.ofBits .bf16 0x3F80#16 := by
  unfold wt rowTop
  pointwise [k0_pay16, k0_pay14, k0_pay12, k0_pay50, k0_pay51]
theorem num17 : k0_pay17 k0_pay50 (k0_pay12 k0_pay51 v) s (ix2 r ⟨d.val, by omega⟩) = ∑ K : Fin 256, wt s r K * kp v 1 K d := by
  unfold wt rowTop kp
  pointwise [k0_pay17, k0_pay15, k0_pay12, k0_pay50, k0_pay51]
theorem den17 : k0_pay17 k0_pay50 (k0_pay12 k0_pay51 v) s (ix2 r ⟨128 + d.val, by omega⟩) = ∑ K : Fin 256, wt s r K * Ideal.ofBits .bf16 0x3F80#16 := by
  unfold wt rowTop
  pointwise [k0_pay17, k0_pay15, k0_pay12, k0_pay50, k0_pay51]
theorem num18 : k0_pay18 k0_pay50 (k0_pay12 k0_pay51 v) s (ix2 r ⟨d.val, by omega⟩) = ∑ K : Fin 256, wt s r K * kp v 1 K d := num17 v s r d
theorem den18 : k0_pay18 k0_pay50 (k0_pay12 k0_pay51 v) s (ix2 r ⟨128 + d.val, by omega⟩) = ∑ K : Fin 256, wt s r K * Ideal.ofBits .bf16 0x3F80#16 := den17 v s r d
/-- The first head's output. -/
theorem hd19 : k0_pay19 k0_pay50 (k0_pay12 k0_pay51 v) (k0_pay13 s) (ix2 r d) = hd v s 0 r d := by
  unfold hd wt rowTop kp
  pointwise [k0_pay19, k0_pay13, k0_pay14, k0_pay12, k0_pay50, k0_pay51]
end outputs

end Cert.AttnIdeal.Run

end
-- ==== Proof.AttnOut.lean ====
module

public import proofs.«01_k».proof.Proof.AttnKer

/-!
The blocks of output columns of one chunk, read at an index.
-/

@[expose] public section

set_option maxRecDepth 16384

noncomputable section

namespace Cert.AttnIdeal.Run

open Cert.AttnIdeal Cert.AttnIdeal.Gen Idealize.ShloMosaic

variable (v : Vec Ideal S1x192x256 .bf16) (s : Fin 4 → Vec Ideal S1x1x192x256 .f32) (q : Fin 64) (d : Fin 128)

/-- A head's output with the ones left out of the sum of weights. -/
theorem hd_one (s : Vec Ideal S1x1x192x256 .f32) (j : Fin 2) (r : Fin 192) :
    hd v s j r d = Ideal.div (∑ K : Fin 256, wt s r K * kp v j K d) (∑ K : Fin 256, wt s r K) := by
  unfold hd
  pointwise

/-- Each block of columns: the pair's first head in its first 64 columns, the second in the others. -/
theorem oc0_at : oc v s 0 (ix3 0 q d) = Scalar.select (lo d.val) (hd v (s 0) 0 ⟨q.val, by omega⟩ d) (hd v (s 1) 0 ⟨q.val, by omega⟩ d) := by
  show k0_pay21 k0_pay49 (k0_pay16 k0_pay50 (k0_pay12 k0_pay51 v) (s 1)) (k0_pay19 k0_pay50 (k0_pay12 k0_pay51 v) (k0_pay13 (s 0))) (ix3 0 q d) = _
  unfold lo
  pointwise [k0_pay21, k0_pay20, k0_pay49, num16, den16, hd19]
  simp only [hd_one]
theorem oc1_at : oc v s 1 (ix3 0 q d) = Scalar.select (lo d.val) (hd v (s 0) 0 ⟨64 + q.val, by omega⟩ d) (hd v (s 1) 0 ⟨64 + q.val, by omega⟩ d) := by
  show k0_pay22 k0_pay49 (k0_pay16 k0_pay50 (k0_pay12 k0_pay51 v) (s 1)) (k0_pay19 k0_pay50 (k0_pay12 k0_pay51 v) (k0_pay13 (s 0))) (ix3 0 q d) = _
  unfold lo
  pointwise [k0_pay22, k0_pay20, k0_pay49, num16, den16, hd19]
  simp only [hd_one]
theorem oc2_at : oc v s 2 (ix3 0 q d) = Scalar.select (lo d.val) (hd v (s 0) 0 ⟨128 + q.val, by omega⟩ d) (hd v (s 1) 0 ⟨128 + q.val, by omega⟩ d) := by
  show k0_pay23 k0_pay49 (k0_pay16 k0_pay50 (k0_pay12 k0_pay51 v) (s 1)) (k0_pay19 k0_pay50 (k0_pay12 k0_pay51 v) (k0_pay13 (s 0))) (ix3 0 q d) = _
  unfold lo
  pointwise [k0_pay23, k0_pay20, k0_pay49, num16, den16, hd19]
  simp only [hd_one]
theorem oc3_at : oc v s 3 (ix3 0 q d) = Scalar.select (lo d.val) (hd v (s 2) 1 ⟨q.val, by omega⟩ d) (hd v (s 3) 1 ⟨q.val, by omega⟩ d) := by
  show k0_pay25 k0_pay49 (k0_pay17 k0_pay50 (k0_pay12 k0_pay51 v) (s 2)) (k0_pay18 k0_pay50 (k0_pay12 k0_pay51 v) (s 3)) (ix3 0 q d) = _
  unfold lo
  pointwise [k0_pay25, k0_pay24, k0_pay49, num17, den17, num18, den18]
  simp only [hd_one]
theorem oc4_at : oc v s 4 (ix3 0 q d) = Scalar.select (lo d.val) (hd v (s 2) 1 ⟨64 + q.val, by omega⟩ d) (hd v (s 3) 1 ⟨64 + q.val, by omega⟩ d) := by
  show k0_pay26 k0_pay49 (k0_pay17 k0_pay50 (k0_pay12 k0_pay51 v) (s 2)) (k0_pay18 k0_pay50 (k0_pay12 k0_pay51 v) (s 3)) (ix3 0 q d) = _
  unfold lo
  pointwise [k0_pay26, k0_pay24, k0_pay49, num17, den17, num18, den18]
  simp only [hd_one]
theorem oc5_at : oc v s 5 (ix3 0 q d) = Scalar.select (lo d.val) (hd v (s 2) 1 ⟨128 + q.val, by omega⟩ d) (hd v (s 3) 1 ⟨128 + q.val, by omega⟩ d) := by
  show k0_pay27 (k0_pay24 k0_pay49 (k0_pay17 k0_pay50 (k0_pay12 k0_pay51 v) (s 2)) (k0_pay18 k0_pay50 (k0_pay12 k0_pay51 v) (s 3))) (ix3 0 q d) = _
  unfold lo
  pointwise [k0_pay27, k0_pay24, k0_pay49, num17, den17, num18, den18]
  simp only [hd_one]

end Cert.AttnIdeal.Run

end
-- ==== Proof.AttnSoft.lean ====
module

public import proofs.«01_k».proof.Proof.AttnSpec

/-!
The softmax over 192 keys, a sink and 63 columns of −∞ is the softmax over the keys and the sink.
-/

@[expose] public section

noncomputable section

namespace Cert.Band

open Idealize.ShloMosaic Cert.Softmax

/-- −∞ less a real number is −∞, whose exponential is zero. -/
theorem exp_bot_sub {M : EReal} : Ideal.exp (⊥ - M) = 0 := by
  rw [EReal.bot_sub]
  rfl

/-- The largest of the 256 columns is the largest of the scores and the sink. -/
theorem top_eq (s : Fin 192 → EReal) (z : EReal) (S : Fin 256 → EReal) (hS : ∀ k : Fin 192, S ⟨k.val, by omega⟩ = s k)
    (hz : S ⟨192, by omega⟩ = z) (hb : ∀ K : Fin 256, 192 < K.val → S K = ⊥) : Finset.univ.fold max ⊥ S = top s z := by
  show Finset.univ.sup S = max (Finset.univ.sup s) z
  refine le_antisymm (Finset.sup_le fun K _ => ?_) (max_le (Finset.sup_le fun k _ => ?_) ?_)
  · by_cases h : K.val < 192
    · exact le_max_of_le_left (((hS ⟨K.val, h⟩).le).trans (Finset.le_sup (f := s) (Finset.mem_univ _)))
    · by_cases h2 : 192 < K.val
      · rw [hb K h2]
        exact bot_le
      · rw [show K = ⟨192, by omega⟩ from Fin.ext (by simp only; omega), hz]
        exact le_max_right _ _
  · rw [← hS k]
    exact Finset.le_sup (f := S) (Finset.mem_univ _)
  · rw [← hz]
    exact Finset.le_sup (f := S) (Finset.mem_univ _)

/-- A sum over 256 columns of which those past the sink are zero. -/
theorem sum_cols (f : Fin 256 → EReal) (hb : ∀ K : Fin 256, 192 < K.val → f K = 0) :
    ∑ K, f K = (∑ k : Fin 192, f ⟨k.val, by omega⟩) + f ⟨192, by omega⟩ := by
  refine (Fin.sum_univ_add (a := 192) (b := 64) f).trans (congrArg₂ (· + ·) rfl ?_)
  rw [Finset.sum_eq_single (0 : Fin 64)]
  · rfl
  · intro i _ hi
    refine hb _ ?_
    have : i.val ≠ 0 := fun e => hi (Fin.ext e)
    show 192 < 192 + i.val
    omega
  · intro h
    exact absurd (Finset.mem_univ _) h

/-- The largest is a real number. -/
theorem top_real (s : Fin 192 → EReal) (z : EReal) (hs : ∀ k, s k = ⊥ ∨ IsReal (s k)) (hz : IsReal z) : IsReal (top s z) := by
  refine IsReal.of_ne (ne_of_gt (lt_of_lt_of_le (bot_lt_iff_ne_bot.2 hz.ne_bot) (le_max_right _ _))) (ne_of_lt (max_lt ?_ (lt_top_iff_ne_top.2 hz.ne_top)))
  refine (Finset.sup_lt_iff (f := s) bot_lt_top).2 fun k _ => ?_
  rcases hs k with h | h
  · rw [h]
    exact bot_lt_top
  · exact lt_top_iff_ne_top.2 h.ne_top

/-- An exponential of −∞ or of a real number is a real number, and not negative. -/
theorem exp_nonneg {x M : EReal} (hx : x = ⊥ ∨ IsReal x) (hM : IsReal M) : ∃ r : ℝ, 0 ≤ r ∧ Ideal.exp (x - M) = (r : EReal) := by
  rcases hx with h | h
  · exact ⟨0, le_rfl, by rw [h, exp_bot_sub]; rfl⟩
  · obtain ⟨r, hr, e⟩ := exp_sub h hM
    exact ⟨r, hr.le, e⟩

/-- The sum of the weights is a positive real number. -/
theorem den_pos (s : Fin 192 → EReal) (z : EReal) (hs : ∀ k, s k = ⊥ ∨ IsReal (s k)) (hz : IsReal z) :
    ∃ r : ℝ, 0 < r ∧ (∑ k, Ideal.exp (s k - top s z)) + Ideal.exp (z - top s z) = (r : EReal) := by
  have hM := top_real s z hs hz
  choose w hw ew using fun k => exp_nonneg (hs k) hM
  obtain ⟨u, hu, eu⟩ := exp_sub hz hM
  have e : ∑ k, Ideal.exp (s k - top s z) = ((∑ k, w k : ℝ) : EReal) := by
    have h : ∀ S : Finset (Fin 192), ∑ k ∈ S, Ideal.exp (s k - top s z) = ((∑ k ∈ S, w k : ℝ) : EReal) := by
      classical
      intro S
      induction S using Finset.induction_on with
      | empty => simp
      | insert a S ha ih => rw [Finset.sum_insert ha, Finset.sum_insert ha, ih, ew a, EReal.coe_add]
    exact h Finset.univ
  exact ⟨(∑ k, w k) + u, add_pos_of_nonneg_of_pos (Finset.sum_nonneg fun k _ => hw k) hu, by rw [e, eu, EReal.coe_add]⟩

/-- The attention over 256 columns is the attention over the keys and the sink. -/
theorem soft (s : Fin 192 → EReal) (z : EReal) (v : Fin 192 → EReal) (S W : Fin 256 → EReal) (hS : ∀ k : Fin 192, S ⟨k.val, by omega⟩ = s k)
    (hz : S ⟨192, by omega⟩ = z) (hb : ∀ K : Fin 256, 192 < K.val → S K = ⊥) (hW : ∀ k : Fin 192, W ⟨k.val, by omega⟩ = v k)
    (hW0 : ∀ K : Fin 256, 192 ≤ K.val → W K = 0) (hs : ∀ k, s k = ⊥ ∨ IsReal (s k)) (hzr : IsReal z) :
    Ideal.div (∑ K, Ideal.exp (S K - Finset.univ.fold max ⊥ S) * W K) (∑ K, Ideal.exp (S K - Finset.univ.fold max ⊥ S) * 1) = att s z v := by
  rw [top_eq s z S hS hz hb, sum_cols _ (fun K h => by rw [hW0 K h.le, mul_zero]), sum_cols _ (fun K h => by rw [hb K h, exp_bot_sub, zero_mul])]
  rw [hW0 ⟨192, by omega⟩ le_rfl, mul_zero, add_zero, hz]
  simp only [hS, hW, mul_one]
  obtain ⟨r, hr, e⟩ := den_pos s z hs hzr
  unfold att
  rw [e]
  exact sum_div _ _ _ hr

/-- Half of 128 columns. -/
theorem low_half (f : Fin 128 → EReal) (hf : ∀ d : Fin 64, f ⟨64 + d.val, by omega⟩ = 0) : ∑ d, f d = ∑ d : Fin 64, f ⟨d.val, by omega⟩ := by
  refine (Fin.sum_univ_add (a := 64) (b := 64) f).trans ?_
  rw [show (∑ i : Fin 64, f (Fin.natAdd 64 i)) = 0 from Finset.sum_eq_zero fun i _ => hf i, add_zero]
  rfl
theorem high_half (f : Fin 128 → EReal) (hf : ∀ d : Fin 64, f ⟨d.val, by omega⟩ = 0) : ∑ d, f d = ∑ d : Fin 64, f ⟨64 + d.val, by omega⟩ := by
  refine (Fin.sum_univ_add (a := 64) (b := 64) f).trans ?_
  rw [show (∑ i : Fin 64, f (Fin.castAdd 64 i)) = 0 from Finset.sum_eq_zero fun i _ => hf i, zero_add]
  rfl

end Cert.Band

end
-- ==== Proof.AttnFrame.lean ====
module

public import proofs.«01_k».proof.Proof.AttnRun
public import Idealize.ShloMosaic.Lib.Claim
public import Idealize.ShloMosaic.Lib.Pipeline.FrameBody

/-!
  The sliding-window attention kernel over its whole grid, for any float interpretation: the output block of each
  sequence, the body's obligation at every point, and the run of @main.
-/

@[expose] public section

set_option maxRecDepth 16384

noncomputable section

namespace Cert.AttnIdeal.Run

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output block of sequence `t`. -/
def outAt (c : Dev nD) (t : Fin cfg0.N) : Vec F S1x2048x768 .bf16 :=
  outArr (iblk m c 0 t) (keys (iblk m c 3 t) (iblk m c 1 t)) (vals (iblk m c 4 t) (iblk m c 2 t)) (iblk m c 5 t)

/-- The three scratches, as memrefs. -/
abbrev sc0 : Memref sig .tc .vmem S1x2176x256 .bf16 := Memref.whole cc0_scratch0
abbrev sc1 : Memref sig .tc .vmem S1x2176x256 .bf16 := Memref.whole cc0_scratch1
abbrev sc2 : Memref sig .tc .vmem S2x4x192x256 .f32 := Memref.whole cc0_scratch2

/-- The invariant between points: the scratches at some contents, and the generator register. -/
def Phi (c : Dev nD) : sProp 𝕄 :=
  iprop(((∃ d, owns (c : Thread nD τ) sc0 fullShare d) ∗ (∃ d, owns (c : Thread nD τ) sc1 fullShare d)
    ∗ (∃ d, owns (c : Thread nD τ) sc2 fullShare d)) ∗ (∃ r, prngReg c r))

/-- The class invariant with the scratches as memrefs. -/
theorem PhiA_eq (c : Dev nD) : (Pipeline.ΦA spec0 c : sProp 𝕄) = Phi c := by
  unfold Pipeline.ΦA Phi; rw [scopedRest0_eq]; simp only [sc0, sc1, sc2, owns_whole]; try rfl

/-- The pipeline's proof data: every input's buffer keeps its block; the output holds the sequence's attention. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := Phi c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = outAt m c t := by dsimp only [dats]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl, after_0, after_1, after_2, after_3, after_4, after_5, after_6]
  rw [show (dats m 0 c).Φ t.succ = Phi c from rfl, show (dats m 0 c).Φ t.castSucc = Phi c from rfl]
  unfold Phi
  iintro ⟨⟨⟨⟨%x8, HS0⟩, ⟨%x9, HS1⟩, ⟨%x10, HS2⟩⟩, Hg⟩, Ho, ⟨%d0, H0⟩, ⟨%d1, H1⟩, ⟨%d2, H2⟩, ⟨%d3, H3⟩, ⟨%d4, H4⟩, ⟨%d5, H5⟩, ⟨%d6, H6⟩⟩
  iapply (run c (grid0.coords t) _ _ _ _ _ _ _ _ _ _ _ _ _ _ _ _ _ _ _ _ (iblk m c 0 t) (iblk m c 1 t) (iblk m c 2 t) (iblk m c 3 t) (iblk m c 4 t) (iblk m c 5 t) _ x8 x9 x10 (fun _ => _))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  iintro ⟨H0, H1, H2, H3, H4, H5, H6, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The library's body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi c from rfl, PhiA_eq]

theorem hout (c : Dev nD) : (dats m 0 c).Φ (Fin.last cfg0.N) ⊢ Pipeline.ΦA spec0 c := by
  rw [show (dats m 0 c).Φ (Fin.last cfg0.N) = Phi c from rfl, PhiA_eq]

set_option backward.isDefEq.respectTransparency.types false in
set_option maxHeartbeats 2000000 in
/-- The run of @main: it ends, with every window's array and every other buffer accounted for and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared cfgs (dats m) (0 : Fin 1) launch₀0 defs₀ Variants.none m ρ main
    (hbody := fun c => (body_obligation m c).loose) (hq := fun _ _ _ => rfl) (howed := fun _ _ => rfl)
    (V := V m) (hmain := hmain m Variants.none) (hA := A_eq m) (hin := hin m) (hout := hout m) (Q' := _) (hQ' := fun _ h => h)

/-- Every argument ends as it was. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨((h c).1 0).trans (((dats m 0 c).arrAt_in 0 rfl _).trans ((A_eq m c 0).trans (V_main_arg0 m c))),
    ((h c).1 2).trans (((dats m 0 c).arrAt_in 2 rfl _).trans ((A_eq m c 2).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩

/-- The run of @main ends with every argument as it was and every counter at zero. -/
theorem frame : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3)) ∧ r.2.sem = fun _ => 0) :=
  (θ_run defs _ _).mono (fun r h => ⟨fun c => args_kept m r h.1 c, h.2⟩) (run_main m ρ)

end Cert.AttnIdeal.Run

end
-- ==== Proof.AttnBias.lean ====
module

public import proofs.«01_k».proof.Proof.AttnFrame
public import proofs.«01_k».proof.Proof.AttnSpec
public import Idealize.ShloMosaic.Lib.StableHlo.ReadAt
public import Idealize.ShloMosaic.Lib.Pipeline.ValueKit
public import Idealize.ShloMosaic.Lib.Claim

/-!
The arrays the host prepares for the sliding-window attention, and the blocks of a grid point, read at an index.
-/

@[expose] public section

set_option maxRecDepth 16384

noncomputable section

namespace Cert.AttnIdeal.Run

open Cert.AttnIdeal Cert.AttnIdeal.Gen Idealize.ShloMosaic Idealize.SL.Sem Idealize.ShloMosaic.TcCoe
open Cert.Softmax Cert.Band

variable (m : (ℓ : Loc nD τ sig) → Buf (Elt Ideal) ℓ)

/-- The biases beside the sink of each head and group, and −∞ behind. -/
def wide (x2 : FVec Ideal S12x64x192 .f32) (x3 : FVec Ideal S12 .f32) (h : Fin 4) (r : Fin 192) (K : Fin 256) : EReal :=
  if hk : K.val < 192 then x2 (ix3 ⟨3 * h.val + r.val / 64, by omega⟩ ⟨r.val % 64, by omega⟩ ⟨K.val, hk⟩)
  else if K.val - 192 < 1 then x3 (ix1 ⟨3 * h.val + r.val / 64, by omega⟩) else ⊥

/-- A choice by whether a column lies before a bound. -/
theorem sel_lt {α : Type} (K : Fin 256) (n : ℕ) (hn : n ≤ 128) (a b : α) :
    Scalar.select (IntOp.cmpi .slt (BitVec.ofNat 32 K.val) (BitVec.ofNat 32 n)) a b = if K.val < n then a else b := by
  have e : IntOp.cmpi .slt (BitVec.ofNat 32 K.val) (BitVec.ofNat 32 n) = if K.val < n then 1#1 else 0#1 := by
    have hK := K.isLt
    have h1 : (BitVec.ofNat 32 K.val).toInt = K.val := by
      rw [BitVec.toInt_eq_toNat_of_lt] <;> simp only [BitVec.toNat_ofNat] <;> omega
    have h2 : (BitVec.ofNat 32 n).toInt = n := by
      rw [BitVec.toInt_eq_toNat_of_lt] <;> simp only [BitVec.toNat_ofNat] <;> omega
    simp only [IntOp.cmpi, BitVec.slt, h1, h2, Nat.cast_lt]
    split <;> simp [*]
  rw [e]
  split <;> rfl

theorem low_eq : Eq (α := EReal) (Ideal.ofBits .f32 4286578688#32) ⊥ := by simp [Ideal.ofBits, Ideal.ieee]

/-- The three parts of the wide biases when they are joined: the biases, -/
theorem part3_at (c : Dev nD) (h : Fin 4) (r K : Fin 192) :
    StableHlo.upto (List.flatten [hostOps0, hostOps0_1, hostOps0_2, hostOps0_3, hostOps0_4, hostOps0_5, hostOps0_6]) (fun b => m (c, b)) 8 (Proc.devRef .tc main_v3) (ix3 h r K)
      = m (c.tc.loc main_arg2) (ix3 ⟨3 * h.val + r.val / 64, by omega⟩ ⟨r.val % 64, by omega⟩ K) := by
  after_reads_at
  exact at3 _ (show h.val * 3 + r.val / 64 = 3 * h.val + r.val / 64 by omega) rfl rfl
/-- the sinks -/
theorem part4_at (c : Dev nD) (h : Fin 4) (r : Fin 192) (K : Fin 1) :
    StableHlo.upto (List.flatten [hostOps0, hostOps0_1, hostOps0_2, hostOps0_3, hostOps0_4, hostOps0_5, hostOps0_6]) (fun b => m (c, b)) 8 (Proc.devRef .tc main_v4) (ix3 h r K)
      = m (c.tc.loc main_arg3) (ix1 ⟨3 * h.val + r.val / 64, by omega⟩) := by
  after_reads_at
  exact congrArg (fun a => m (c.tc.loc main_arg3) (ix1 a)) (Fin.ext (show h.val * 3 + r.val / 64 = 3 * h.val + r.val / 64 by omega))
/-- and the columns of −∞. -/
theorem part5_at (c : Dev nD) (h : Fin 4) (r : Fin 192) (K : Fin 63) :
    Eq (α := EReal) (StableHlo.upto (List.flatten [hostOps0, hostOps0_1, hostOps0_2, hostOps0_3, hostOps0_4, hostOps0_5, hostOps0_6]) (fun b => m (c, b)) 8 (Proc.devRef .tc main_v5) (ix3 h r K)) ⊥ := by
  after_reads_at
  exact low_eq

/-- The three parts joined. -/
theorem rest (c : Dev nD) (h : Fin 4) (r : Fin 192) (K : Fin 256) :
    Eq (α := EReal) (if h1 : K.val < 192 then StableHlo.upto (List.flatten [hostOps0, hostOps0_1, hostOps0_2, hostOps0_3, hostOps0_4, hostOps0_5, hostOps0_6]) (fun b => m (c, b)) 8 (Proc.devRef .tc main_v3) (ix3 h r ⟨K.val, h1⟩)
      else if h2 : K.val - 192 < 1 then StableHlo.upto (List.flatten [hostOps0, hostOps0_1, hostOps0_2, hostOps0_3, hostOps0_4, hostOps0_5, hostOps0_6]) (fun b => m (c, b)) 8 (Proc.devRef .tc main_v4) (ix3 h r ⟨K.val - 192, h2⟩)
      else StableHlo.upto (List.flatten [hostOps0, hostOps0_1, hostOps0_2, hostOps0_3, hostOps0_4, hostOps0_5, hostOps0_6]) (fun b => m (c, b)) 8 (Proc.devRef .tc main_v5) (ix3 h r ⟨K.val - 192 - 1, by omega⟩))
      (wide (m (c.tc.loc main_arg2)) (m (c.tc.loc main_arg3)) h r K) := by
  unfold wide
  by_cases h1 : K.val < 192
  · rw [dif_pos h1, dif_pos h1]
    exact part3_at m c h r ⟨K.val, h1⟩
  · rw [dif_neg h1, dif_neg h1]
    by_cases h2 : K.val - 192 < 1
    · rw [dif_pos h2, if_pos h2]
      exact part4_at m c h r ⟨K.val - 192, h2⟩
    · rw [dif_neg h2, if_neg h2]
      exact part5_at m c h r ⟨K.val - 192 - 1, by omega⟩

set_option maxHeartbeats 4000000 in
/-- The array of biases that the kernel fetches: one for the first chunk, one for the second and one for all others, each
    with the places before the sequence masked. -/
theorem fetch_at (c : Dev nD) (n : Fin 3) (h : Fin 4) (r : Fin 192) (K : Fin 256) :
    Eq (α := EReal) (V m c main_v17 (ix3 ⟨4 * n.val + h.val, by omega⟩ r K))
      (if K.val < (2 - n.val) * 64 then ⊥ else wide (m (c.tc.loc main_arg2)) (m (c.tc.loc main_arg3)) h r K) := by
  unfold V
  after_reads_at
  match n with
  | ⟨0, _⟩ =>
    rw [dif_pos (show 4 * 0 + h.val < 4 by omega)]
    refine (congrFun (StableHlo.ternary_result' _ _ _ _ _ _) _).trans ?_
    after_reads_at
    exact (sel_lt K 128 (by omega) _ _).trans (if_congr Iff.rfl low_eq (rest m c h r K))
  | ⟨1, _⟩ =>
    rw [dif_neg (show ¬ 4 * 1 + h.val < 4 by omega), dif_pos (show 4 * 1 + h.val - 4 < 4 by omega)]
    refine (congrFun (StableHlo.ternary_result' _ _ _ _ _ _) _).trans ?_
    after_reads_at
    exact (sel_lt K 64 (by omega) _ _).trans (if_congr Iff.rfl low_eq (rest m c h r K))
  | ⟨2, _⟩ =>
    rw [dif_neg (show ¬ 4 * 2 + h.val < 4 by omega), dif_neg (show ¬ 4 * 2 + h.val - 4 < 4 by omega)]
    refine (congrFun (StableHlo.ternary_result' _ _ _ _ _ _) _).trans ?_
    after_reads_at
    simp only [show 8 + h.val - 4 - 4 = h.val by omega]
    exact (sel_lt K 0 (by omega) _ _).trans (if_congr Iff.rfl low_eq (rest m c h r K))

set_option maxHeartbeats 4000000 in
theorem hist_at (c : Dev nD) (b : Fin 8) (P : Fin 128) (C : Fin 256) : Eq (α := EReal) (V m c main_v0 (ix3 b P C)) 0 := by
  unfold V
  after_reads_at

/-- Where each window's block lies at a grid point. -/
theorem idx : ∀ t : Fin cfg0.N, win0_0.index t = ![t.val, 0, 0] ∧ win0_1.index t = ![t.val, 0, 0] ∧ win0_2.index t = ![t.val, 0, 1]
    ∧ win0_3.index t = ![t.val, 0, 0] ∧ win0_4.index t = ![t.val, 0, 0] ∧ win0_5.index t = ![0, 0, 0] ∧ win0_6.index t = ![t.val, 0, 0] :=
  (by decide +kernel : ∀ t : Fin grid0.N, win0_0.index t = ![t.val, 0, 0] ∧ win0_1.index t = ![t.val, 0, 0] ∧ win0_2.index t = ![t.val, 0, 1]
    ∧ win0_3.index t = ![t.val, 0, 0] ∧ win0_4.index t = ![t.val, 0, 0] ∧ win0_5.index t = ![0, 0, 0] ∧ win0_6.index t = ![t.val, 0, 0])

/-- The queries of a sequence, -/
theorem block0_at (c : Dev nD) (t : Fin cfg0.N) (b : Fin 8) (hb : b.val = t.val) (p : Fin 2048) (C : Fin 768) :
    iblk m c 0 t (ix3 0 p C) = V m c main_arg0 (ix3 b p C) := by
  blk_ext [iblk, idx t]
/-- its keys, -/
theorem block1_at (c : Dev nD) (t : Fin cfg0.N) (b : Fin 8) (hb : b.val = t.val) (p : Fin 2048) (C : Fin 256) (C' : Fin 512) (hC : C'.val = C.val) :
    iblk m c 1 t (ix3 0 p C) = V m c main_arg1 (ix3 b p C') := by
  blk_ext [iblk, idx t]
/-- its values, -/
theorem block2_at (c : Dev nD) (t : Fin cfg0.N) (b : Fin 8) (hb : b.val = t.val) (p : Fin 2048) (C : Fin 256) (C' : Fin 512) (hC : C'.val = 256 + C.val) :
    iblk m c 2 t (ix3 0 p C) = V m c main_arg1 (ix3 b p C') := by
  blk_ext [iblk, idx t]
/-- the zeros before its keys -/
theorem block3_at (c : Dev nD) (t : Fin cfg0.N) (b : Fin 8) (hb : b.val = t.val) (p : Fin 128) (C : Fin 256) :
    iblk m c 3 t (ix3 0 p C) = V m c main_v0 (ix3 b p C) := by
  blk_ext [iblk, idx t]
/-- and before its values, -/
theorem block4_at (c : Dev nD) (t : Fin cfg0.N) (b : Fin 8) (hb : b.val = t.val) (p : Fin 128) (C : Fin 256) :
    iblk m c 4 t (ix3 0 p C) = V m c main_v0 (ix3 b p C) := by
  blk_ext [iblk, idx t]
/-- and the biases, the same at every point. -/
theorem block5_at (c : Dev nD) (t : Fin cfg0.N) (a : Fin 12) (r : Fin 192) (K : Fin 256) :
    iblk m c 5 t (ix3 a r K) = V m c main_v17 (ix3 a r K) := by
  blk_ext [iblk, idx t]

end Cert.AttnIdeal.Run

end
-- ==== Proof.AttnPart.lean ====
module

public import proofs.«01_k».proof.Proof.AttnOut
public import proofs.«01_k».proof.Proof.AttnSoft
public import proofs.«01_k».proof.Proof.AttnBias

/-!
The pieces of one chunk of the attention kernel in terms of the layer's arguments: the scaled queries, the keys and values
of its window, and the biases.
-/

@[expose] public section

set_option maxRecDepth 16384

noncomputable section

namespace Cert.AttnIdeal.Run

open Cert.AttnIdeal Cert.AttnIdeal.Gen Idealize.ShloMosaic Idealize.SL.Sem Idealize.ShloMosaic.TcCoe
open Cert.Softmax Cert.Band

theorem lo_low : ∀ d : Fin 64, lo d.val = 1#1 := by decide +kernel
theorem lo_high : ∀ d : Fin 64, lo (64 + d.val) = 0#1 := by decide +kernel

/-- The first head's product of a pair: the sum over its 64 columns. -/
theorem sum_low (a k : Fin 128 → EReal) :
    ∑ d : Fin 128, Scalar.select (lo d.val) (a d) 0 * k d = ∑ e : Fin 64, a ⟨64 * 0 + e.val, by omega⟩ * k ⟨64 * 0 + e.val, by omega⟩ := by
  refine (low_half _ fun d => ?_).trans (Finset.sum_congr rfl fun e _ => ?_)
  · simp only [lo_high]
    exact zero_mul _
  · simp only [lo_low]
    rw [show (⟨64 * 0 + e.val, by omega⟩ : Fin 128) = ⟨e.val, by omega⟩ from Fin.ext (by simp)]
    rfl
/-- The second head's. -/
theorem sum_high (a k : Fin 128 → EReal) :
    ∑ d : Fin 128, Scalar.select (IntOp.xori (lo d.val) 1#1) (a d) 0 * k d = ∑ e : Fin 64, a ⟨64 * 1 + e.val, by omega⟩ * k ⟨64 * 1 + e.val, by omega⟩ := by
  refine (high_half _ fun d => ?_).trans (Finset.sum_congr rfl fun e _ => ?_)
  · simp only [lo_low]
    exact zero_mul _
  · simp only [lo_high]
    rfl

/-- A chunk's scores for a head, a row and a column. -/
theorem scN_at (q : Vec Ideal S1x2048x768 .bf16) (kf : Vec Ideal S1x2176x256 .bf16) (b : Vec Ideal S12x192x256 .f32) (n : Fin 32) (h : Fin 4) (r : Fin 192) (K : Fin 256) :
    scN q kf b n h (ix4 0 0 r K) = (∑ e : Fin 64, qp (qW q n) ⟨h.val / 2, by omega⟩ r ⟨64 * (h.val % 2) + e.val, by omega⟩
        * kp (kW kf n) ⟨h.val / 2, by omega⟩ K ⟨64 * (h.val % 2) + e.val, by omega⟩) + bW b n h (ix3 0 r K) := by
  match h with
  | ⟨0, _⟩ =>
    refine (sc0_at _ _ _ r K).trans (congrArg (· + bW b n 0 (ix3 0 r K)) ((sum_low (qp (qW q n) 0 r) (kp (kW kf n) 0 K)).trans (Finset.sum_congr rfl fun e _ => ?_)))
    exact congrArg₂ (· * ·) (congrArg₂ (fun x y => qp (qW q n) x r y) (Fin.ext (by simp)) (Fin.ext (by simp)))
      (congrArg₂ (fun x y => kp (kW kf n) x K y) (Fin.ext (by simp)) (Fin.ext (by simp)))
  | ⟨1, _⟩ =>
    refine (sc1_at _ _ _ r K).trans (congrArg (· + bW b n 1 (ix3 0 r K)) ((sum_high (qp (qW q n) 0 r) (kp (kW kf n) 0 K)).trans (Finset.sum_congr rfl fun e _ => ?_)))
    exact congrArg₂ (· * ·) (congrArg₂ (fun x y => qp (qW q n) x r y) (Fin.ext (by simp)) (Fin.ext (by simp)))
      (congrArg₂ (fun x y => kp (kW kf n) x K y) (Fin.ext (by simp)) (Fin.ext (by simp)))
  | ⟨2, _⟩ =>
    refine (sc2_at _ _ _ r K).trans (congrArg (· + bW b n 2 (ix3 0 r K)) ((sum_low (qp (qW q n) 1 r) (kp (kW kf n) 1 K)).trans (Finset.sum_congr rfl fun e _ => ?_)))
    exact congrArg₂ (· * ·) (congrArg₂ (fun x y => qp (qW q n) x r y) (Fin.ext (by simp)) (Fin.ext (by simp)))
      (congrArg₂ (fun x y => kp (kW kf n) x K y) (Fin.ext (by simp)) (Fin.ext (by simp)))
  | ⟨3, _⟩ =>
    refine (sc3_at _ _ _ r K).trans (congrArg (· + bW b n 3 (ix3 0 r K)) ((sum_high (qp (qW q n) 1 r) (kp (kW kf n) 1 K)).trans (Finset.sum_congr rfl fun e _ => ?_)))
    exact congrArg₂ (· * ·) (congrArg₂ (fun x y => qp (qW q n) x r y) (Fin.ext (by simp)) (Fin.ext (by simp)))
      (congrArg₂ (fun x y => kp (kW kf n) x K y) (Fin.ext (by simp)) (Fin.ext (by simp)))

/-- Windows read at an index. -/
theorem qW_at (q : Vec Ideal S1x2048x768 .bf16) (n : Fin 32) (p : Fin 64) (C : Fin 768) :
    qW q n (ix3 0 p C) = q (ix3 0 ⟨64 * n.val + p.val, by omega⟩ C) := by
  unfold qW VecWindow.window
  refine congrArg q (funext fun a => Fin.ext ?_)
  match a with
  | ⟨0, _⟩ => rfl
  | ⟨1, _⟩ => show 64 * n.val + 1 * p.val = 64 * n.val + p.val; omega
  | ⟨2, _⟩ => show 0 + 1 * C.val = C.val; omega
theorem kW_at (k : Vec Ideal S1x2176x256 .bf16) (n : Fin 32) (p : Fin 192) (C : Fin 256) :
    kW k n (ix3 0 p C) = k (ix3 0 ⟨64 * n.val + p.val, by omega⟩ C) := by
  unfold kW VecWindow.window
  refine congrArg k (funext fun a => Fin.ext ?_)
  match a with
  | ⟨0, _⟩ => rfl
  | ⟨1, _⟩ => show 64 * n.val + 1 * p.val = 64 * n.val + p.val; omega
  | ⟨2, _⟩ => show 0 + 1 * C.val = C.val; omega
theorem bW_at (b : Vec Ideal S12x192x256 .f32) (n : Fin 32) (h : Fin 4) (r : Fin 192) (K : Fin 256) :
    bW b n h (ix3 0 r K) = b (ix3 ⟨4 * min n.val 2 + h.val, by omega⟩ r K) := by
  unfold bW VecWindow.window
  refine congrArg b (funext fun a => Fin.ext ?_)
  match a with
  | ⟨0, _⟩ => show 4 * min n.val 2 + h.val + 1 * 0 = 4 * min n.val 2 + h.val; omega
  | ⟨1, _⟩ => show 0 + 1 * r.val = r.val; omega
  | ⟨2, _⟩ => show 0 + 1 * K.val = K.val; omega

theorem pay52_at (x : Vec Ideal S1x128x256 .f32) (i : S1x128x256.Idx) : k0_pay52 x i = x i := by
  idx_vars i
  pointwise [k0_pay52]
theorem pay53_at (x : Vec Ideal S1x2048x256 .f32) (i : S1x2048x256.Idx) : k0_pay53 x i = x i := by
  idx_vars i
  pointwise [k0_pay53]
theorem pay54_at (x : Vec Ideal S1x128x256 .f32) (i : S1x128x256.Idx) : k0_pay54 x i = x i := by
  idx_vars i
  pointwise [k0_pay54]
theorem pay55_at (x : Vec Ideal S1x2048x256 .f32) (i : S1x2048x256.Idx) : k0_pay55 x i = x i := by
  idx_vars i
  pointwise [k0_pay55]

/-- The scale as a real number. -/
theorem scl_eq : scl = ((1 / 8 : ℝ) : EReal) := by
  unfold scl
  simp [Ideal.ofBits, Ideal.ieee]
  rw [← EReal.coe_mul]
  norm_num

/-- A scaled query at row `p` of group `g`. -/
theorem qp_at (q : Vec Ideal S1x2048x768 .bf16) (n : Fin 32) (j : Fin 2) (g : Fin 3) (p : Fin 64) (d : Fin 128) :
    qp (qW q n) j ⟨64 * g.val + p.val, by omega⟩ d
      = q (ix3 0 ⟨64 * n.val + p.val, by omega⟩ ⟨256 * g.val + 128 * j.val + d.val, by omega⟩) * scl := by
  have e : Ideal.ofBits .bf16 0x3E00#16 = scl := by
    rw [scl_eq]
    simp [Ideal.ofBits, Ideal.ieee]
    rw [← EReal.coe_mul]
    norm_num
  unfold qp
  rw [e]
  match g with
  | ⟨0, _⟩ =>
    rw [dif_pos (show 64 * 0 + p.val < 64 by omega), qW_at]
    exact congrArg (· * scl) (at3 q rfl (show 64 * n.val + (64 * 0 + p.val) = 64 * n.val + p.val by omega) (show 128 * j.val + d.val = 256 * 0 + 128 * j.val + d.val by omega))
  | ⟨1, _⟩ =>
    rw [dif_neg (show ¬ 64 * 1 + p.val < 64 by omega), dif_pos (show 64 * 1 + p.val - 64 < 64 by omega), qW_at]
    exact congrArg (· * scl) (at3 q rfl (show 64 * n.val + (64 * 1 + p.val - 64) = 64 * n.val + p.val by omega) (show 256 + 128 * j.val + d.val = 256 * 1 + 128 * j.val + d.val by omega))
  | ⟨2, _⟩ =>
    rw [dif_neg (show ¬ 64 * 2 + p.val < 64 by omega), dif_neg (show ¬ 64 * 2 + p.val - 64 < 64 by omega), qW_at]
    exact congrArg (· * scl) (at3 q rfl (show 64 * n.val + (64 * 2 + p.val - 64 - 64) = 64 * n.val + p.val by omega) (show 512 + 128 * j.val + d.val = 256 * 2 + 128 * j.val + d.val by omega))

variable (m : (ℓ : Loc nD τ sig) → Buf (Elt Ideal) ℓ)

/-- A key of a sequence behind its history of zeros. -/
theorem keys_at (c : Dev nD) (t : Fin cfg0.N) (b : Fin 8) (hb : b.val = t.val) (P : Fin 2176) (h : Fin 4) (e : Fin 64) (C : Fin 256) (hC : C.val = 64 * h.val + e.val) :
    keys (iblk m c 3 t) (iblk m c 1 t) (ix3 0 P C) = kv (m (c.tc.loc main_arg1)) 0 b P.val P.isLt h e := by
  unfold keys behind kv
  by_cases hP : P.val < 128
  · refine (dif_pos hP).trans (Eq.trans ?_ (dif_pos hP).symm)
    refine (pay52_at _ _).trans ?_
    exact (block3_at m c t b hb ⟨P.val, hP⟩ C).trans (hist_at m c b ⟨P.val, hP⟩ C)
  · refine (dif_neg hP).trans (Eq.trans ?_ (dif_neg hP).symm)
    refine (pay53_at _ _).trans ?_
    refine (block1_at m c t b hb ⟨P.val - 128, by omega⟩ C ⟨256 * 0 + 64 * h.val + e.val, by omega⟩ (by show 256 * 0 + 64 * h.val + e.val = C.val; omega)).trans ?_
    rw [V_main_arg1]
    rfl
/-- A value of it. -/
theorem vals_at (c : Dev nD) (t : Fin cfg0.N) (b : Fin 8) (hb : b.val = t.val) (P : Fin 2176) (h : Fin 4) (e : Fin 64) (C : Fin 256) (hC : C.val = 64 * h.val + e.val) :
    vals (iblk m c 4 t) (iblk m c 2 t) (ix3 0 P C) = kv (m (c.tc.loc main_arg1)) 1 b P.val P.isLt h e := by
  unfold vals behind kv
  by_cases hP : P.val < 128
  · refine (dif_pos hP).trans (Eq.trans ?_ (dif_pos hP).symm)
    refine (pay54_at _ _).trans ?_
    exact (block4_at m c t b hb ⟨P.val, hP⟩ C).trans (hist_at m c b ⟨P.val, hP⟩ C)
  · refine (dif_neg hP).trans (Eq.trans ?_ (dif_neg hP).symm)
    refine (pay55_at _ _).trans ?_
    refine (block2_at m c t b hb ⟨P.val - 128, by omega⟩ C ⟨256 * 1 + 64 * h.val + e.val, by omega⟩ (by show 256 * 1 + 64 * h.val + e.val = 256 + C.val; omega)).trans ?_
    rw [V_main_arg1]
    rfl

/-- The biases of a chunk. -/
theorem bias_at (c : Dev nD) (t : Fin cfg0.N) (n : Fin 32) (h : Fin 4) (r : Fin 192) (K : Fin 256) :
    Eq (α := EReal) (bW (iblk m c 5 t) n h (ix3 0 r K)) (if 64 * n.val + K.val < 128 then ⊥ else wide (m (c.tc.loc main_arg2)) (m (c.tc.loc main_arg3)) h r K) := by
  refine (bW_at _ n h r K).trans ((block5_at m c t _ r K).trans ((fetch_at m c ⟨min n.val 2, by omega⟩ h r K).trans ?_))
  exact if_congr (show K.val < (2 - min n.val 2) * 64 ↔ 64 * n.val + K.val < 128 by omega) rfl rfl

end Cert.AttnIdeal.Run

end
-- ==== Proof.AttnVal.lean ====
module

public import proofs.«01_k».proof.Proof.AttnPart

/-!
The output block of a sequence is the sliding-window attention of its queries, keys and values.
-/

@[expose] public section

set_option maxRecDepth 16384

noncomputable section

namespace Cert.AttnIdeal.Run

open Cert.AttnIdeal Cert.AttnIdeal.Gen Idealize.ShloMosaic Idealize.SL.Sem Idealize.ShloMosaic.TcCoe
open Cert.Softmax Cert.Band

/-- A block of columns of a chunk, for group `g` and pair `j`. -/
theorem oc_at (v : Vec Ideal S1x192x256 .bf16) (s : Fin 4 → Vec Ideal S1x1x192x256 .f32) (g : Fin 3) (j : Fin 2) (q : Fin 64) (d : Fin 128) :
    oc v s (pos6 (2 * g.val + j.val)) (ix3 0 q d) = Scalar.select (lo d.val) (hd v (s ⟨2 * j.val, by omega⟩) j ⟨64 * g.val + q.val, by omega⟩ d)
      (hd v (s ⟨2 * j.val + 1, by omega⟩) j ⟨64 * g.val + q.val, by omega⟩ d) := by
  have e : (⟨64 * 0 + q.val, by omega⟩ : Fin 192) = ⟨q.val, by omega⟩ := Fin.ext (by simp)
  match g, j with
  | ⟨0, _⟩, ⟨0, _⟩ =>
    show oc v s 0 (ix3 0 q d) = Scalar.select (lo d.val) (hd v (s 0) 0 ⟨64 * 0 + q.val, _⟩ d) (hd v (s 1) 0 ⟨64 * 0 + q.val, _⟩ d)
    rw [e]
    exact oc0_at v s q d
  | ⟨0, _⟩, ⟨1, _⟩ =>
    show oc v s 3 (ix3 0 q d) = Scalar.select (lo d.val) (hd v (s 2) 1 ⟨64 * 0 + q.val, _⟩ d) (hd v (s 3) 1 ⟨64 * 0 + q.val, _⟩ d)
    rw [e]
    exact oc3_at v s q d
  | ⟨1, _⟩, ⟨0, _⟩ => exact oc1_at v s q d
  | ⟨1, _⟩, ⟨1, _⟩ => exact oc4_at v s q d
  | ⟨2, _⟩, ⟨0, _⟩ => exact oc2_at v s q d
  | ⟨2, _⟩, ⟨1, _⟩ => exact oc5_at v s q d

/-- The scores are −∞ or real numbers. -/
theorem score_real (x0 : FVec Ideal Sq .bf16) (x1 : FVec Ideal Skv .f32) (x2 : FVec Ideal Sb .f32) (h0 : ∀ i, IsReal (x0 i))
    (h1 : ∀ (b : Fin 8) (t : Fin 2048) (j : Fin 256), IsReal (x1 (ix3 b t ⟨j.val, by omega⟩))) (h2 : ∀ i, IsReal (x2 i))
    (b : Fin 8) (n : Fin 32) (h : Fin 4) (g : Fin 3) (q : Fin 64) (k : Fin 192) :
    score x0 x1 x2 b n h g q k = ⊥ ∨ IsReal (score x0 x1 x2 b n h g q k) := by
  unfold score
  by_cases hm : 64 * n.val + k.val < 128
  · rw [if_pos hm]
    exact Or.inl rfl
  · rw [if_neg hm]
    refine Or.inr (IsReal.add (IsReal.mul (IsReal.sum _ fun d _ => IsReal.mul ?_ (h0 _)) ⟨1 / 8, scl_eq⟩) (h2 _))
    unfold kv
    rw [dif_neg hm]
    have := h1 b ⟨64 * n.val + k.val - 128, by omega⟩ ⟨64 * h.val + d.val, by omega⟩
    have e : (⟨64 * h.val + d.val, by omega⟩ : Fin 512) = ⟨256 * (0 : Fin 2).val + 64 * h.val + d.val, by show 256 * 0 + 64 * h.val + d.val < 512; omega⟩ := Fin.ext (by simp)
    rw [← e]
    exact this

variable (m : (ℓ : Loc nD τ sig) → Buf (Elt Ideal) ℓ)

/-- Past the window the keys and values are zeros. -/
theorem kp_zero (k : Vec Ideal S1x192x256 .bf16) (j : Fin 2) (K : Fin 256) (hK : 192 ≤ K.val) (d : Fin 128) : kp k j K d = 0 :=
  dif_neg (by omega)

section chunk
variable (c : Dev nD) (t : Fin cfg0.N) (b : Fin 8) (hb : b.val = t.val) (n : Fin 32) (h : Fin 4) (g : Fin 3) (p : Fin 64)
include hb

/-- The kernel's score of a key of the window. -/
theorem key_score (k : Fin 192) :
    scN (iblk m c 0 t) (keys (iblk m c 3 t) (iblk m c 1 t)) (iblk m c 5 t) n h (ix4 0 0 ⟨64 * g.val + p.val, by omega⟩ ⟨k.val, by omega⟩)
      = score (m (c.tc.loc main_arg0)) (m (c.tc.loc main_arg1)) (m (c.tc.loc main_arg2)) b n h g p k := by
  refine (scN_at _ _ _ n h _ _).trans ((congrArg (_ + ·) (bias_at m c t n h _ _)).trans ?_)
  unfold score
  by_cases hm : 64 * n.val + k.val < 128
  · rw [if_pos hm, if_pos hm]
    exact EReal.add_bot _
  · rw [if_neg hm, if_neg hm, sum_mul_coe _ _ (by rw [scl_eq]; exact EReal.coe_nonneg.2 (by norm_num)) (by rw [scl_eq]; exact EReal.coe_ne_top _)]
    refine congrArg₂ (· + ·) (Finset.sum_congr rfl fun e _ => ?_) ?_
    · have hk : kp (kW (keys (iblk m c 3 t) (iblk m c 1 t)) n) ⟨h.val / 2, by omega⟩ ⟨k.val, by omega⟩ ⟨64 * (h.val % 2) + e.val, by omega⟩
          = kv (m (c.tc.loc main_arg1)) 0 b (64 * n.val + k.val) (by omega) h e := by
        unfold kp
        refine (dif_pos k.isLt).trans ((kW_at _ n k _).trans ?_)
        exact keys_at m c t b hb ⟨64 * n.val + k.val, by omega⟩ h e _ (show 128 * (h.val / 2) + (64 * (h.val % 2) + e.val) = 64 * h.val + e.val by omega)
      refine (congrArg₂ (· * ·) (qp_at _ n _ g p _) hk).trans ?_
      rw [block0_at m c t b hb, V_main_arg0, mul_right_comm]
      refine congrArg (· * scl) ((mul_comm _ _).trans (congrArg _ ?_))
      exact at3 _ rfl rfl (show 256 * g.val + 128 * (h.val / 2) + (64 * (h.val % 2) + e.val) = 256 * g.val + 64 * h.val + e.val by omega)
    · refine (dif_pos k.isLt).trans ?_
      exact at3 _ (show 3 * h.val + (64 * g.val + p.val) / 64 = 3 * h.val + g.val by omega) (show (64 * g.val + p.val) % 64 = p.val by omega) rfl

/-- The kernel's score in the sink's column is the sink, -/
theorem sink_score :
    scN (iblk m c 0 t) (keys (iblk m c 3 t) (iblk m c 1 t)) (iblk m c 5 t) n h (ix4 0 0 ⟨64 * g.val + p.val, by omega⟩ ⟨192, by omega⟩)
      = m (c.tc.loc main_arg3) (ix1 ⟨3 * h.val + g.val, by omega⟩) := by
  refine (scN_at _ _ _ n h _ _).trans ((congrArg (_ + ·) (bias_at m c t n h _ _)).trans ?_)
  rw [Finset.sum_eq_zero fun e _ => by rw [kp_zero _ _ _ (le_refl 192), mul_zero], zero_add, if_neg (show ¬ 64 * n.val + 192 < 128 by omega)]
  unfold wide
  refine (dif_neg (show ¬ 192 < 192 by omega)).trans ((if_pos (show 192 - 192 < 1 by omega)).trans ?_)
  exact congrArg (fun a => m (c.tc.loc main_arg3) (ix1 a)) (Fin.ext (show 3 * h.val + (64 * g.val + p.val) / 64 = 3 * h.val + g.val by omega))

/-- and −∞ behind it. -/
theorem pad_score (K : Fin 256) (hK : 192 < K.val) :
    Eq (α := EReal) (scN (iblk m c 0 t) (keys (iblk m c 3 t) (iblk m c 1 t)) (iblk m c 5 t) n h (ix4 0 0 ⟨64 * g.val + p.val, by omega⟩ K)) ⊥ := by
  refine (scN_at _ _ _ n h _ _).trans ((congrArg (_ + ·) (bias_at m c t n h _ _)).trans ?_)
  rw [if_neg (show ¬ 64 * n.val + K.val < 128 by omega)]
  unfold wide
  rw [dif_neg (show ¬ K.val < 192 by omega), if_neg (show ¬ K.val - 192 < 1 by omega)]
  exact EReal.add_bot _

/-- A head's output at a row. -/
theorem hd_at (h0 : ∀ i, IsReal (m (c.tc.loc main_arg0) i)) (h1 : ∀ (b : Fin 8) (t : Fin 2048) (j : Fin 256), IsReal (m (c.tc.loc main_arg1) (ix3 b t ⟨j.val, by omega⟩)))
    (h2 : ∀ i, IsReal (m (c.tc.loc main_arg2) i)) (h3 : ∀ i, IsReal (m (c.tc.loc main_arg3) i)) (e : Fin 64) :
    hd (kW (vals (iblk m c 4 t) (iblk m c 2 t)) n) (scN (iblk m c 0 t) (keys (iblk m c 3 t) (iblk m c 1 t)) (iblk m c 5 t) n h)
        ⟨h.val / 2, by omega⟩ ⟨64 * g.val + p.val, by omega⟩ ⟨64 * (h.val % 2) + e.val, by omega⟩
      = out (m (c.tc.loc main_arg0)) (m (c.tc.loc main_arg1)) (m (c.tc.loc main_arg2)) (m (c.tc.loc main_arg3)) b n p g h e := by
  have one : Ideal.ofBits .bf16 0x3F80#16 = (1 : EReal) := by
    simp [Ideal.ofBits, Ideal.ieee]
    rw [← EReal.coe_mul]
    norm_num
  unfold hd wt rowTop
  rw [one, low_eq]
  unfold out
  refine soft _ _ _ (fun K => scN (iblk m c 0 t) (keys (iblk m c 3 t) (iblk m c 1 t)) (iblk m c 5 t) n h (ix4 0 0 ⟨64 * g.val + p.val, by omega⟩ K))
    (fun K => kp (kW (vals (iblk m c 4 t) (iblk m c 2 t)) n) ⟨h.val / 2, by omega⟩ K ⟨64 * (h.val % 2) + e.val, by omega⟩)
    (fun k => key_score m c t b hb n h g p k) (sink_score m c t b hb n h g p) (fun K hK => pad_score m c t b hb n h g p K hK) (fun k => ?_)
    (fun K hK => kp_zero _ _ _ hK _) (fun k => score_real _ _ _ h0 h1 h2 b n h g p k) (h3 _)
  unfold kp
  refine (dif_pos k.isLt).trans ((kW_at _ n k _).trans ?_)
  exact vals_at m c t b hb ⟨64 * n.val + k.val, by omega⟩ h e _ (show 128 * (h.val / 2) + (64 * (h.val % 2) + e.val) = 64 * h.val + e.val by omega)

end chunk

/-- The output block of a sequence at chunk `n`, row `p`, group `g`, head `h`, element `e`. -/
theorem outAt_at (c : Dev nD) (t : Fin cfg0.N) (b : Fin 8) (hb : b.val = t.val) (P : Fin 2048) (C : Fin 768)
    (h0 : ∀ i, IsReal (m (c.tc.loc main_arg0) i)) (h1 : ∀ (b : Fin 8) (t : Fin 2048) (j : Fin 256), IsReal (m (c.tc.loc main_arg1) (ix3 b t ⟨j.val, by omega⟩)))
    (h2 : ∀ i, IsReal (m (c.tc.loc main_arg2) i)) (h3 : ∀ i, IsReal (m (c.tc.loc main_arg3) i)) :
    outAt m c t (ix3 0 P C) = out (m (c.tc.loc main_arg0)) (m (c.tc.loc main_arg1)) (m (c.tc.loc main_arg2)) (m (c.tc.loc main_arg3)) b
      ⟨P.val / 64, by omega⟩ ⟨P.val % 64, by omega⟩ ⟨C.val / 256, by omega⟩ ⟨C.val / 64 % 4, by omega⟩ ⟨C.val % 64, by omega⟩ := by
  unfold outAt outArr
  have H := fun h : Fin 4 => hd_at m c t b hb ⟨P.val / 64, by omega⟩ h ⟨C.val / 256, by omega⟩ ⟨P.val % 64, by omega⟩ h0 h1 h2 h3 ⟨C.val % 64, by omega⟩
  show oc _ _ (pos6 (C.val / 128)) (ix3 0 ⟨P.val % 64, _⟩ ⟨C.val % 128, _⟩) = _
  rw [show C.val / 128 = 2 * (C.val / 256) + C.val / 128 % 2 by omega]
  refine (oc_at _ _ ⟨C.val / 256, by omega⟩ ⟨C.val / 128 % 2, by omega⟩ ⟨P.val % 64, by omega⟩ ⟨C.val % 128, by omega⟩).trans ?_
  refine Eq.trans ?_ (H ⟨C.val / 64 % 4, by omega⟩)
  have ej : (⟨C.val / 128 % 2, by omega⟩ : Fin 2) = ⟨C.val / 64 % 4 / 2, by omega⟩ := Fin.ext (show C.val / 128 % 2 = C.val / 64 % 4 / 2 by omega)
  by_cases hd : C.val % 128 < 64
  · have el := lo_low ⟨C.val % 128, hd⟩
    refine (congrArg (fun x => Scalar.select x _ _) el).trans ?_
    have ed : (⟨C.val % 128, by omega⟩ : Fin 128) = ⟨64 * (C.val / 64 % 4 % 2) + C.val % 64, by omega⟩ := Fin.ext (show C.val % 128 = 64 * (C.val / 64 % 4 % 2) + C.val % 64 by omega)
    have eh : (⟨2 * (C.val / 128 % 2), by omega⟩ : Fin 4) = ⟨C.val / 64 % 4, by omega⟩ := Fin.ext (show 2 * (C.val / 128 % 2) = C.val / 64 % 4 by omega)
    show AttnIdeal.Run.hd _ (scN (F := Ideal) _ _ _ _ ⟨2 * (C.val / 128 % 2), _⟩) ⟨C.val / 128 % 2, _⟩ _ ⟨C.val % 128, _⟩ = _
    rw [ed, eh, ej]
    rfl
  · have el : lo (C.val % 128) = 0#1 := by
      have := lo_high ⟨C.val % 128 - 64, by omega⟩
      rwa [show 64 + (⟨C.val % 128 - 64, by omega⟩ : Fin 64).val = C.val % 128 by show 64 + (C.val % 128 - 64) = C.val % 128; omega] at this
    refine (congrArg (fun x => Scalar.select x _ _) el).trans ?_
    have ed : (⟨C.val % 128, by omega⟩ : Fin 128) = ⟨64 * (C.val / 64 % 4 % 2) + C.val % 64, by omega⟩ := Fin.ext (show C.val % 128 = 64 * (C.val / 64 % 4 % 2) + C.val % 64 by omega)
    have eh : (⟨2 * (C.val / 128 % 2) + 1, by omega⟩ : Fin 4) = ⟨C.val / 64 % 4, by omega⟩ := Fin.ext (show 2 * (C.val / 128 % 2) + 1 = C.val / 64 % 4 by omega)
    show AttnIdeal.Run.hd _ (scN (F := Ideal) _ _ _ _ ⟨2 * (C.val / 128 % 2) + 1, _⟩) ⟨C.val / 128 % 2, _⟩ _ ⟨C.val % 128, _⟩ = _
    rw [ed, eh, ej]
    rfl

end Cert.AttnIdeal.Run

end
-- ==== Proof.AttnArray.lean ====
module

public import proofs.«01_k».proof.Proof.AttnVal

/-!
The array the sliding-window attention kernel leaves, and its run.
-/

@[expose] public section

set_option maxRecDepth 16384

noncomputable section

namespace Cert.AttnIdeal.Run

open Cert.AttnIdeal Cert.AttnIdeal.Gen Idealize.ShloMosaic Idealize.SL.Sem Idealize.ShloMosaic.TcCoe
open Cert.Softmax Cert.Band

variable (m : (ℓ : Loc nD τ sig) → Buf (Elt Ideal) ℓ) (ρ : Dev nD → PrngReg)

/-- The attention of all sequences, from the arguments. -/
def outM (c : Dev nD) : FVec Ideal S8x2048x768 .bf16 := fun y =>
  out (m (c.tc.loc main_arg0)) (m (c.tc.loc main_arg1)) (m (c.tc.loc main_arg2)) (m (c.tc.loc main_arg3)) (y 0)
    ⟨(y 1).val / 64, by have h : (y 1).val < 2048 := (y 1).isLt; omega⟩ ⟨(y 1).val % 64, by omega⟩
    ⟨(y 2).val / 256, by have h : (y 2).val < 768 := (y 2).isLt; omega⟩ ⟨(y 2).val / 64 % 4, by omega⟩ ⟨(y 2).val % 64, by omega⟩

/-- The arguments that enter a score are real numbers. -/
def Finite (c : Dev nD) : Prop :=
  (∀ i, IsReal (m (c.tc.loc main_arg0) i)) ∧ (∀ (b : Fin 8) (t : Fin 2048) (j : Fin 256), IsReal (m (c.tc.loc main_arg1) (ix3 b t ⟨j.val, by omega⟩)))
    ∧ (∀ i, IsReal (m (c.tc.loc main_arg2) i)) ∧ (∀ i, IsReal (m (c.tc.loc main_arg3) i))

/-- The kernel's result after the run. -/
theorem final6 (c : Dev nD) (hf : Finite m c) : (dats m 0 c).arrAt 6 cfg0.N = outM m c := by
  refine (dats m 0 c).arrAt_eq_of_covers 6 _ (by decide +kernel) fun t _ y => ?_
  blk_simp
  rw [after_6]
  have h0 : ((((win0_6.blk t).view.emb y) 0 : Fin 8) : ℕ) = t.val + (y 0).val := by blk_simp [idx t]
  have h1 : (((win0_6.blk t).view.emb y) 1 : Fin 2048) = y 1 := by
    apply Fin.ext
    blk_simp [idx t]
  have h2 : (((win0_6.blk t).view.emb y) 2 : Fin 768) = y 2 := by
    apply Fin.ext
    blk_simp [idx t]
  have hz : (y 0).val = 0 := by have h : (y 0).val < 1 := (y 0).isLt; omega
  have hy : y = ix3 0 (y 1) (y 2) := by
    funext a; fin_cases a
    · exact Fin.ext hz
    · rfl
    · rfl
  have he : (win0_6.blk t).view.emb y = ix3 (((win0_6.blk t).view.emb y) 0 : Fin 8) (y 1) (y 2) := by
    funext a; fin_cases a
    · rfl
    · exact h1
    · exact h2
  refine (congrArg (outAt m c t) hy).trans ((outAt_at m c t (((win0_6.blk t).view.emb y) 0 : Fin 8) (h0.trans (by omega)) (y 1) (y 2) hf.1 hf.2.1 hf.2.2.1 hf.2.2.2).trans ?_)
  exact (congrArg (outM m c) he).symm

/-- The run: the result, and the arguments end unchanged. -/
theorem run_value (hf : ∀ c, Finite m c) : θ_run defs (onTc (τ := τ) (main (F := Ideal))) ⟨m, fun _ => 0, ρ⟩ fun r => ∀ c : Dev nD,
      (r.2.mem ((c : Thread nD τ).loc main_v18) = outM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).1 6).trans (final6 m c (hf c)), args_kept m r h.1 c⟩) (run_main m ρ)

end Cert.AttnIdeal.Run

end
-- ==== Proof.AttnRef.lean ====
module

public import proofs.«01_k».proof.Proof.AttnSpec
public import proofs.«01_k».proof.Proof.Gen.RefAttnIdeal.Run
public import proofs.«01_k».proof.Proof.Gen.RefAttnIdeal.Read

/-!
The sliding-window attention of the reference, read at an index.
-/

@[expose] public section

set_option maxRecDepth 16384

noncomputable section

namespace Cert.RefAttnIdeal.Out

open Cert.RefAttnIdeal Cert.RefAttnIdeal.Gen Cert.RefAttnIdeal.Read Idealize.ShloMosaic Idealize.SL.Sem Idealize.ShloMosaic.TcCoe
open Cert.Softmax Cert.Band

variable (x0 : FVec Ideal S8x2048x768 .bf16) (x1 : FVec Ideal S8x2048x512 .f32) (x2 : FVec Ideal S12x64x192 .f32) (x3 : FVec Ideal S12 .f32)

/-- The number zero, converted. -/
theorem zero_word : FloatOps.sitofp (F := Ideal) .f32 0#32 = (0 : EReal) := by
  show ((((0#32 : BitVec 32).toInt : ℝ)) : EReal) = 0
  norm_num

/-- The keys with 128 rows of zeros in front. -/
theorem padK_at (b : Fin 8) (P : Fin 2176) (h : Fin 4) (d : Fin 64) :
    val_main_v6 (F := Ideal) x1 (ix4 b P h d) = kv x1 0 b P.val P.isLt h d := by
  unfold kv
  pointwise [val_main_v6, val_main_v3, val_main_v2, val_main_call0_v0, val_main_c]
  rcases lt_or_ge P.val 128 with h1 | h1
  · rw [dif_neg (fun e => absurd e.1 (by omega)), dif_pos h1]
    exact zero_word
  · rw [dif_pos ⟨h1, by omega⟩, dif_neg (by omega)]
    exact at3 _ rfl rfl (by simp only; omega)

/-- The values with 128 rows of zeros in front. -/
theorem padV_at (b : Fin 8) (P : Fin 2176) (h : Fin 4) (d : Fin 64) :
    val_main_v8 (F := Ideal) x1 (ix4 b P h d) = kv x1 1 b P.val P.isLt h d := by
  unfold kv
  pointwise [val_main_v8, val_main_v5, val_main_v4, val_main_call1_v0, val_main_c_0]
  rcases lt_or_ge P.val 128 with h1 | h1
  · rw [dif_neg (fun e => absurd e.1 (by omega)), dif_pos h1]
    exact zero_word
  · rw [dif_pos ⟨h1, by omega⟩, dif_neg (by omega)]
    exact at3 _ rfl rfl (by simp only; omega)

/-- The padded keys by chunk. -/
theorem chunkK_at (b : Fin 8) (N : Fin 34) (r : Fin 64) (h : Fin 4) (d : Fin 64) :
    val_main_v7 (F := Ideal) x1 (ix5 b N r h d) = kv x1 0 b (64 * N.val + r.val) (by omega) h d := by
  pointwise [val_main_v7, padK_at]
  exact kv_congr _ _ _ (by omega) _ _ _ _

theorem chunkV_at (b : Fin 8) (N : Fin 34) (r : Fin 64) (h : Fin 4) (d : Fin 64) :
    val_main_v9 (F := Ideal) x1 (ix5 b N r h d) = kv x1 1 b (64 * N.val + r.val) (by omega) h d := by
  pointwise [val_main_v9, padV_at]
  exact kv_congr _ _ _ (by omega) _ _ _ _

/-- The keys of a chunk's window. -/
theorem winK_at (b : Fin 8) (n : Fin 32) (k : Fin 192) (h : Fin 4) (d : Fin 64) :
    val_main_v13 (F := Ideal) x1 (ix5 b n k h d) = kv x1 0 b (64 * n.val + k.val) (by omega) h d := by
  pointwise [val_main_v13, val_main_v10, val_main_v11, val_main_v12, chunkK_at]
  split
  · rfl
  · split <;> exact kv_congr _ _ _ (by omega) _ _ _ _

theorem winV_at (b : Fin 8) (n : Fin 32) (k : Fin 192) (h : Fin 4) (d : Fin 64) :
    val_main_v17 (F := Ideal) x1 (ix5 b n k h d) = kv x1 1 b (64 * n.val + k.val) (by omega) h d := by
  pointwise [val_main_v17, val_main_v14, val_main_v15, val_main_v16, chunkV_at]
  split
  · rfl
  · split <;> exact kv_congr _ _ _ (by omega) _ _ _ _

/-- The mask. -/
theorem mask_at (n : Fin 32) (k : Fin 192) : val_main_v30 (F := Ideal) (ix2 n k) = if 64 * n.val + k.val < 128 then 0#1 else 1#1 := by
  pointwise [val_main_v30, val_main_v29, val_main_c_3, val_main_v28, val_main_v27, val_main_v26, val_main_v25, val_main_v24, val_main_v23,
    val_main_v22, val_main_c_2, val_main_v21, val_main_v20, val_main_c_1, val_main_v19, val_main_v18]
  revert n k
  decide +kernel

/-- The queries. -/
theorem q_at (b : Fin 8) (n : Fin 32) (q : Fin 64) (g : Fin 3) (h : Fin 4) (d : Fin 64) :
    val_main_v1 (F := Ideal) x0 (ix6 b n q g h d) = x0 (ix3 b ⟨64 * n.val + q.val, by omega⟩ ⟨256 * g.val + 64 * h.val + d.val, by omega⟩) := by
  pointwise [val_main_v1, val_main_v0]
  exact at3 _ rfl (show n.val * 64 + q.val = 64 * n.val + q.val by omega) (show g.val * 256 + h.val * 64 + d.val = 256 * g.val + 64 * h.val + d.val by omega)

/-- The scaled products. -/
theorem dot_at (b : Fin 8) (n : Fin 32) (h : Fin 4) (g : Fin 3) (q : Fin 64) (k : Fin 192) :
    val_main_v34 (F := Ideal) x0 x1 (ix6 b n h g q k)
      = (∑ d : Fin 64, kv x1 0 b (64 * n.val + k.val) (by omega) h d * x0 (ix3 b ⟨64 * n.val + q.val, by omega⟩ ⟨256 * g.val + 64 * h.val + d.val, by omega⟩)) * scl := by
  unfold scl
  pointwise [val_main_v34, val_main_v33, val_main_cst, val_main_v32, val_main_v31, winK_at, q_at]

/-- The scores. -/
theorem score_at (b : Fin 8) (n : Fin 32) (h : Fin 4) (g : Fin 3) (q : Fin 64) (k : Fin 192) :
    val_main_v40 (F := Ideal) x0 x1 x2 (ix6 b n h g q k) = score x0 x1 x2 b n h g q k := by
  unfold score
  pointwise [val_main_v40, val_main_v39, val_main_v38, val_main_v37, val_main_v36, val_main_v35, dot_at, mask_at, val_main_cst_4, val_main_call2_v2, val_main_call2_v1,
    val_main_call2_v0]
  split
  · rfl
  · refine Eq.trans (b := _ + x2 (ix3 ⟨h.val * 3 + g.val, by omega⟩ q k)) rfl (congrArg₂ (· + ·) rfl (at3 x2 ?_ rfl rfl))
    show h.val * 3 + g.val = 3 * h.val + g.val
    omega

/-- The sinks. -/
theorem sink_at (h : Fin 4) (g : Fin 3) : val_main_v41 (F := Ideal) x3 (ix4 h g 0 0) = x3 (ix1 ⟨3 * h.val + g.val, by omega⟩) := by
  pointwise [val_main_v41]
  exact congrArg (fun a => x3 (ix1 a)) (Fin.ext (by show h.val * 3 + g.val = 3 * h.val + g.val; omega))

end Cert.RefAttnIdeal.Out

end
-- ==== Proof.AttnRefOut.lean ====
module

public import proofs.«01_k».proof.Proof.AttnRef

/-!
The softmax of the reference's sliding-window attention and its result, read at an index.
-/

@[expose] public section

set_option maxRecDepth 16384

noncomputable section

namespace Cert.RefAttnIdeal.Out

open Cert.RefAttnIdeal Cert.RefAttnIdeal.Gen Cert.RefAttnIdeal.Read Idealize.ShloMosaic Idealize.SL.Sem Idealize.ShloMosaic.TcCoe
open Cert.Softmax Cert.Band

variable (x0 : FVec Ideal S8x2048x768 .bf16) (x1 : FVec Ideal S8x2048x512 .f32) (x2 : FVec Ideal S12x64x192 .f32) (x3 : FVec Ideal S12 .f32)

/-- The largest of the scores along the last axis. -/
theorem rowMax (f : FVec Ideal S8x32x4x3x64x192 .f32) (init : FVec Ideal S_ .f32) (i : S8x32x4x3x64.Idx) :
    Host.reduce FloatOps.maximumf f init reducesTo_S8x32x4x3x64x192_S8x32x4x3x64_d5 h_S_ i
      = Finset.univ.fold max (init (Shape.Idx.first h_S_)) (fun k : Fin 192 => f (idx_main_v50 i k)) := by
  refine (Host.reduce_eq_fold_single (α := EReal) max f init reducesTo_S8x32x4x3x64x192_S8x32x4x3x64_d5 (by decide) h_S_ i).trans ?_
  exact congrArg (fun w : Fin 192 → EReal => Finset.univ.fold max (init (Shape.Idx.first h_S_)) w) (funext fun k => congrArg f (funext fun a => Fin.ext (by
    match a with | ⟨0, _⟩ => rfl | ⟨1, _⟩ => rfl | ⟨2, _⟩ => rfl | ⟨3, _⟩ => rfl | ⟨4, _⟩ => rfl | ⟨5, _⟩ => rfl)))

theorem idx50 (b : Fin 8) (n : Fin 32) (h : Fin 4) (g : Fin 3) (q : Fin 64) (k : Fin 192) : idx_main_v50 (ix5 b n h g q) k = ix6 b n h g q k := by
  funext a
  match a with | ⟨0, _⟩ => rfl | ⟨1, _⟩ => rfl | ⟨2, _⟩ => rfl | ⟨3, _⟩ => rfl | ⟨4, _⟩ => rfl | ⟨5, _⟩ => rfl
theorem idx43 (b : Fin 8) (n : Fin 32) (h : Fin 4) (g : Fin 3) (q : Fin 64) : idx_main_v43 (ix6 b n h g q 0) = ix5 b n h g q := by
  funext a
  match a with | ⟨0, _⟩ => rfl | ⟨1, _⟩ => rfl | ⟨2, _⟩ => rfl | ⟨3, _⟩ => rfl | ⟨4, _⟩ => rfl
theorem idx51 (b : Fin 8) (n : Fin 32) (h : Fin 4) (g : Fin 3) (q : Fin 64) : idx_main_v51 (ix6 b n h g q 0) = ix5 b n h g q := by
  funext a
  match a with | ⟨0, _⟩ => rfl | ⟨1, _⟩ => rfl | ⟨2, _⟩ => rfl | ⟨3, _⟩ => rfl | ⟨4, _⟩ => rfl
theorem idx45 (b : Fin 8) (n : Fin 32) (h : Fin 4) (g : Fin 3) (q : Fin 64) : idx_main_v44 (idx_main_v45 (ix6 b n h g q 0)) = ix4 h g 0 0 := by
  funext a
  match a with | ⟨0, _⟩ => rfl | ⟨1, _⟩ => rfl | ⟨2, _⟩ => rfl | ⟨3, _⟩ => rfl
theorem idx53 (b : Fin 8) (n : Fin 32) (h : Fin 4) (g : Fin 3) (q : Fin 64) : idx_main_v52 (idx_main_v53 (ix6 b n h g q 0)) = ix4 h g 0 0 := by
  funext a
  match a with | ⟨0, _⟩ => rfl | ⟨1, _⟩ => rfl | ⟨2, _⟩ => rfl | ⟨3, _⟩ => rfl
theorem idx47 (b : Fin 8) (n : Fin 32) (h : Fin 4) (g : Fin 3) (q : Fin 64) (k : Fin 192) : idx_main_v47 (ix6 b n h g q k) = ix6 b n h g q 0 := by
  funext a
  match a with | ⟨0, _⟩ => rfl | ⟨1, _⟩ => rfl | ⟨2, _⟩ => rfl | ⟨3, _⟩ => rfl | ⟨4, _⟩ => rfl | ⟨5, _⟩ => rfl
theorem idx57 (b : Fin 8) (n : Fin 32) (h : Fin 4) (g : Fin 3) (q : Fin 64) (k : Fin 192) : idx_main_v57 (ix6 b n h g q k) = ix6 b n h g q 0 := by
  funext a
  match a with | ⟨0, _⟩ => rfl | ⟨1, _⟩ => rfl | ⟨2, _⟩ => rfl | ⟨3, _⟩ => rfl | ⟨4, _⟩ => rfl | ⟨5, _⟩ => rfl

/-- The largest score of a row. -/
theorem max_at (b : Fin 8) (n : Fin 32) (h : Fin 4) (g : Fin 3) (q : Fin 64) :
    val_main_v42 (F := Ideal) x0 x1 x2 (ix5 b n h g q) = Finset.univ.fold max ⊥ (score x0 x1 x2 b n h g q) := by
  unfold val_main_v42
  have e : (fun k : Fin 192 => val_main_v40 (F := Ideal) x0 x1 x2 (idx_main_v50 (ix5 b n h g q) k)) = score x0 x1 x2 b n h g q :=
    funext fun k => by rw [idx50, score_at]
  rw [← e]
  generalize val_main_v40 (F := Ideal) x0 x1 x2 = f
  exact rowMax f _ _

/-- The largest of a row's scores and its sink. -/
theorem top_at (b : Fin 8) (n : Fin 32) (h : Fin 4) (g : Fin 3) (q : Fin 64) :
    val_main_v46 (F := Ideal) x0 x1 x2 x3 (ix6 b n h g q 0) = top (score x0 x1 x2 b n h g q) (x3 (ix1 ⟨3 * h.val + g.val, by omega⟩)) := by
  rw [val_main_v46_apply, val_main_v43_apply, val_main_v45_apply, val_main_v44_apply, idx43, idx45, max_at, sink_at]
  rfl

/-- The exponentials. -/
theorem exp_at (b : Fin 8) (n : Fin 32) (h : Fin 4) (g : Fin 3) (q : Fin 64) (k : Fin 192) :
    val_main_v49 (F := Ideal) x0 x1 x2 x3 (ix6 b n h g q k)
      = Ideal.exp (score x0 x1 x2 b n h g q k - top (score x0 x1 x2 b n h g q) (x3 (ix1 ⟨3 * h.val + g.val, by omega⟩))) := by
  rw [val_main_v49_apply, val_main_v48_apply, val_main_v47_apply, idx47, top_at, score_at]
  rfl

/-- The weights. -/
theorem weight_at (b : Fin 8) (n : Fin 32) (h : Fin 4) (g : Fin 3) (q : Fin 64) (k : Fin 192) :
    val_main_v58 (F := Ideal) x0 x1 x2 x3 (ix6 b n h g q k)
      = Ideal.div (Ideal.exp (score x0 x1 x2 b n h g q k - top (score x0 x1 x2 b n h g q) (x3 (ix1 ⟨3 * h.val + g.val, by omega⟩))))
          ((∑ k, Ideal.exp (score x0 x1 x2 b n h g q k - top (score x0 x1 x2 b n h g q) (x3 (ix1 ⟨3 * h.val + g.val, by omega⟩))))
            + Ideal.exp (x3 (ix1 ⟨3 * h.val + g.val, by omega⟩) - top (score x0 x1 x2 b n h g q) (x3 (ix1 ⟨3 * h.val + g.val, by omega⟩)))) := by
  rw [val_main_v58_apply, val_main_v57_apply, idx57, val_main_v56_apply, val_main_v51_apply, idx51, val_main_v50_apply, val_main_v55_apply,
    val_main_v54_apply, val_main_v53_apply, val_main_v52_apply, idx53, sink_at, top_at, exp_at]
  simp only [idx50, exp_at]
  rw [show val_main_cst_6 (F := Ideal) (Shape.Idx.first h_S_) = (0 : EReal) from Ideal.ofBits_zero_f32, zero_add]
  rfl

/-- The reference's attention by chunk, group and head. -/
theorem att_at (b : Fin 8) (n : Fin 32) (q : Fin 64) (g : Fin 3) (h : Fin 4) (d : Fin 64) :
    val_main_v60 (F := Ideal) x0 x1 x2 x3 (ix6 b n q g h d) = out x0 x1 x2 x3 b n q g h d := by
  unfold out att
  pointwise [val_main_v60, val_main_v59, winV_at, weight_at]

/-- The reference's result. -/
theorem out_eq : val_main_v62 (F := Ideal) x0 x1 x2 x3 = fun y : S8x2048x768.Idx =>
    out x0 x1 x2 x3 (y 0) ⟨(y 1).val / 64, by have h : (y 1).val < 2048 := (y 1).isLt; omega⟩ ⟨(y 1).val % 64, by omega⟩
      ⟨(y 2).val / 256, by have h : (y 2).val < 768 := (y 2).isLt; omega⟩ ⟨(y 2).val / 64 % 4, by omega⟩ ⟨(y 2).val % 64, by omega⟩ := by
  funext y
  idx_vars y
  pointwise [val_main_v62, val_main_v61, att_at]

end Cert.RefAttnIdeal.Out

end
-- ==== Proof.MemPre.lean ====
module

public import proofs.«01_k».proof.Proof.Softmax
public import proofs.«01_k».proof.Proof.Gen.Pre_finite_queries_and_keys
public import Idealize.ShloMosaic.Lib.ReduceAll
public import Idealize.ShloMosaic.Lib.Pointwise

/-!
What the stated precondition says at `Ideal`: every query and every memory key is a real number.
-/

@[expose] public section

set_option maxRecDepth 16384

noncomputable section

namespace Cert.Pre_finite_queries_and_keys.Read

open Cert.Pre_finite_queries_and_keys Cert.Pre_finite_queries_and_keys.Facts Cert.Pre_finite_queries_and_keys.Gen Idealize.ShloMosaic Cert.Softmax

/-- A true comparison of a magnitude with `+∞` says the value is a real number. -/
theorem isReal_of_cmp {x : EReal} (h : Ideal.cmp .olt (max x (-x)) (Ideal.ofBits .f32 0x7F800000#32) = 1#1) : IsReal x := by
  refine IsReal.of_abs ?_
  rw [show Ideal.ofBits .f32 0x7F800000#32 = (⊤ : EReal) from rfl] at h
  by_contra hn
  simp [Ideal.cmp, hn] at h

/-- The precondition, read: the queries and the keys are real numbers. -/
theorem real (x0 : FVec Ideal S8x2048x512 .bf16) (x1 x2 : FVec Ideal S8x256x4x128 .f32)
    (h : fn (F := Ideal) x0 x1 x2 = fun _ => 1#1) : (∀ i, IsReal (x0 i)) ∧ (∀ i, IsReal (x1 i)) := by
  have e := congrFun h (Shape.Idx.first Facts.h_S_)
  dsimp only [fn] at e
  obtain ⟨e0, e1⟩ := IntOp.andi_eq_one.1 e
  haveI : Subsingleton S_.Idx := ⟨fun a b => funext fun i => i.elim0⟩
  exact ⟨fun i => isReal_of_cmp (Host.reduce_andi_all _ _ _ _ _ e0 i),
    fun i => isReal_of_cmp (Host.reduce_andi_all _ _ _ _ _ e1 i)⟩

end Cert.Pre_finite_queries_and_keys.Read

end
-- ==== Proof.AttnPre.lean ====
module

public import proofs.«01_k».proof.Proof.Softmax
public import proofs.«01_k».proof.Proof.Gen.Pre_finite_scores
public import Idealize.ShloMosaic.Lib.ReduceAll
public import Idealize.ShloMosaic.Lib.Pointwise
public import proofs.«01_k».proof.Proof.MemPre

/-!
What the attention's precondition says at `Ideal`: every query, key, bias and sink is a real number.
-/

@[expose] public section

set_option maxRecDepth 16384

noncomputable section

namespace Cert.Pre_finite_scores.Read

open Cert.Pre_finite_scores Cert.Pre_finite_scores.Facts Cert.Pre_finite_scores.Gen Idealize.ShloMosaic Cert.Softmax

/-- The precondition, read: the queries, the keys (the first 256 columns), the biases and the sinks are real numbers. -/
theorem real (x0 : FVec Ideal S8x2048x768 .bf16) (x1 : FVec Ideal S8x2048x512 .f32) (x2 : FVec Ideal S12x64x192 .f32) (x3 : FVec Ideal S12 .f32)
    (h : fn (F := Ideal) x0 x1 x2 x3 = fun _ => 1#1) :
    (∀ i, IsReal (x0 i)) ∧ (∀ (b : Fin 8) (t : Fin 2048) (j : Fin 256), IsReal (x1 (ix3 b t ⟨j.val, by omega⟩))) ∧ (∀ i, IsReal (x2 i)) ∧ (∀ i, IsReal (x3 i)) := by
  have e := congrFun h (Shape.Idx.first Facts.h_S_)
  dsimp only [fn, fn_part1] at e
  obtain ⟨e, e3⟩ := IntOp.andi_eq_one.1 e
  obtain ⟨e, e2⟩ := IntOp.andi_eq_one.1 e
  obtain ⟨e0, e1⟩ := IntOp.andi_eq_one.1 e
  haveI : Subsingleton S_.Idx := ⟨fun a b => funext fun i => i.elim0⟩
  refine ⟨fun i => Cert.Pre_finite_queries_and_keys.Read.isReal_of_cmp (Host.reduce_andi_all _ _ _ _ _ e0 i), fun b t j => ?_,
    fun i => Cert.Pre_finite_queries_and_keys.Read.isReal_of_cmp (Host.reduce_andi_all _ _ _ _ _ e2 i), fun i => Cert.Pre_finite_queries_and_keys.Read.isReal_of_cmp (Host.reduce_andi_all _ _ _ _ _ e3 i)⟩
  have := Host.reduce_andi_all _ _ _ _ _ e1 (ix3 b t j)
  refine Cert.Pre_finite_queries_and_keys.Read.isReal_of_cmp (Eq.trans ?_ this)
  refine congrArg (fun z : EReal => Ideal.cmp .olt (max z (-z)) (Ideal.ofBits .f32 0x7F800000#32)) (congrArg x1 ?_)
  funext a
  fin_cases a <;> exact Fin.ext (Nat.zero_add _).symm

end Cert.Pre_finite_scores.Read

end
-- ==== Proof.AttnClaims.lean ====
module

public import proofs.«01_k».proof.Defs
public import proofs.«01_k».proof.Proof.Gen.RefAttnIdeal.Run
public import proofs.«01_k».proof.Proof.Gen.Attn.Frame
public import proofs.«01_k».proof.Proof.AttnArray
public import proofs.«01_k».proof.Proof.AttnRefOut
public import proofs.«01_k».proof.Proof.AttnPre

/-!
The claims about the sliding-window attention: the kernel, its idealization and the reference run and keep their arguments,
and the kernel's output is the reference's where the scores are finite.
-/

@[expose] public section

set_option maxRecDepth 16384

noncomputable section

namespace Cert.Proof.Attn

open Idealize.ShloMosaic Idealize.SL.Sem

set_option maxHeartbeats 4000000 in
/-- The two kernels are the same text, so a call of one is a call of the other. -/
theorem defs₀_eq : Cert.Attn.defs₀ (F := Bits) = Cert.AttnIdeal.defs₀ (F := Bits) := by
  refine congrArg Defs.onTc (funext fun l => funext fun a => ?_)
  obtain ⟨n, hn⟩ := l
  match n, hn with
  | 0, _ => rfl
  | n + 1, h => exact absurd h (Nat.not_lt.2 (Nat.le_add_left _ _))
theorem defs_eq : Cert.Attn.defs (F := Bits) = Cert.AttnIdeal.defs (F := Bits) := congrArg (Pipeline.defs _) defs₀_eq

/-- The kernel as printed runs and keeps its arguments. -/
theorem frame_kernel : Cert.quiescent_Attn := fun m ρ _ => by
  rw [defs_eq]
  exact Cert.AttnIdeal.Run.frame (F := Bits) m ρ

/-- The idealized kernel runs and keeps its arguments. -/
theorem frame_ideal : Cert.quiescent_AttnIdeal := fun m ρ _ => Cert.AttnIdeal.Run.frame (F := Ideal) m ρ

/-- The reference runs and keeps its arguments; it declares no semaphore. -/
theorem frame_reference : Cert.quiescent_RefAttnIdeal := fun m ρ _ =>
  (θ_run Cert.RefAttnIdeal.defs _ _).mono (fun r h => ⟨fun c => (h c).2, sem_eq_zero_of_no_sems (by decide) r.2⟩)
    (Cert.RefAttnIdeal.Value.run (F := Ideal) m ρ)

/-- The idealized kernel's frame under the precondition, -/
theorem frame_ideal_pre : Cert.quiescent_AttnIdeal_pre_finite_scores := fun m ρ _ => Cert.AttnIdeal.Run.frame (F := Ideal) m ρ

/-- and the reference's. -/
theorem frame_reference_pre : Cert.quiescent_RefAttnIdeal_pre_finite_scores := fun m ρ _ => frame_reference m ρ trivial

/-- The kernel's attention is the reference's, element by element. -/
theorem algebraic : Cert.algebraic_AttnIdeal_RefAttnIdeal_pre_finite_scores := by
  intro m ρ m' ρ' hpre hag
  refine ⟨fun c => Cert.AttnIdeal.Run.outM m c, Cert.AttnIdeal.Run.run_value m ρ fun c => Cert.Pre_finite_scores.Read.real _ _ _ _ (hpre c), ?_⟩
  refine (θ_run _ _ _).mono (fun r h c => ⟨?_, (h c).2⟩) (Cert.RefAttnIdeal.Value.run (F := Ideal) m' ρ')
  refine (h c).1.trans ?_
  rw [Cert.RefAttnIdeal.Read.val_main_v62_eq, (hag c).1, (hag c).2.1, (hag c).2.2.1, (hag c).2.2.2]
  exact Cert.RefAttnIdeal.Out.out_eq _ _ _ _

end Cert.Proof.Attn

end
-- ==== Proof.MemBlock.lean ====
module

public import proofs.«01_k».proof.Proof.Gen.MemIdeal.Value
public import Idealize.ShloMosaic.Lib.Pointwise
public import Idealize.ShloMosaic.Lib.StableHlo.ReadAt

/-!
What one grid point of the memory cross-attention computes, read at an index: for each of the four heads, the weighted
sum of the memory values over the sum of the weights.
-/

@[expose] public section

set_option maxRecDepth 16384

noncomputable section

namespace Cert.MemIdeal.Block

open Cert.MemIdeal Cert.MemIdeal.Gen Idealize.ShloMosaic Idealize.SL.Sem Idealize.ShloMosaic.TcCoe
open Idealize.ShloMosaic.Pipeline (Dat)

/-- The scaled score of one query row `q` against memory token `k`. -/
def score (q : Fin 128 → EReal) (K : Fin 256 → Fin 128 → EReal) (k : Fin 256) : EReal :=
  (∑ j, q j * K k j) * Ideal.ofBits .f32 0x3DB504F3#32

/-- The unnormalised softmax weight of memory token `k`. -/
def weight (q : Fin 128 → EReal) (K : Fin 256 → Fin 128 → EReal) (k : Fin 256) : EReal :=
  Ideal.exp (score q K k - Finset.univ.fold max (Ideal.ofBits .f32 0xFF800000#32) (score q K))

/-- One element of a head's output: the weighted sum of the values `v` over the sum of the weights. -/
def att (q : Fin 128 → EReal) (K : Fin 256 → Fin 128 → EReal) (v : Fin 256 → EReal) : EReal :=
  Ideal.div (∑ k, weight q K k * v k) (∑ k, weight q K k)

/-- The column `j` of the head that column `l` lies in. -/
def headCol (l : Fin 512) (j : Fin 128) : Fin 512 := ⟨l.val / 128 * 128 + j.val, by omega⟩

/-- The block's output at row `r`, column `l`, from the three input blocks. -/
def blockAt (x0 : FVec Ideal S512x512 .bf16) (x1 x2 : FVec Ideal S1x256x512 .f32) (r l : Fin 512) : EReal :=
  att (fun j => x0 (ix2 r (headCol l j))) (fun k j => x1 (ix3 0 k (headCol l j))) (fun k => x2 (ix3 0 k l))

/-- The columns of the head that starts at column `o`. -/
theorem headCol_at (o : ℕ) (ho : o + 128 ≤ 512) (hm : o % 128 = 0) (d : Fin 128) (j : Fin 128) :
    headCol ⟨o + d.val, by omega⟩ j = ⟨o + j.val, by omega⟩ := by
  apply Fin.ext
  show (o + d.val) / 128 * 128 + j.val = o + j.val
  omega

/-- A store of one head's columns puts local column `d` at column `o + d`. -/
theorem emb_at (o : ℕ) (ho : o + 128 ≤ 512) (inb : ∀ a, (![0, o] : Fin 2 → ℕ) a + (![512, 128] : Fin 2 → ℕ) a ≤ S512x512.size a)
    (r : Fin 512) (d : Fin 128) :
    (Rect.unit (s := S512x512) ![0, o] ![512, 128] inb).emb (ix2 r d) = ix2 r ⟨o + d.val, by omega⟩ := by
  funext a
  apply Fin.ext
  match a with
  | ⟨0, _⟩ => show 0 + 1 * r.val = r.val; omega
  | ⟨1, _⟩ => show o + 1 * d.val = o + d.val; omega

/-- The four stores of one grid point leave `blockAt` in the output block. -/
theorem out_eq (x0 : FVec Ideal S512x512 .bf16) (x1 x2 : FVec Ideal S1x256x512 .f32) :
    out0_3 (F := Ideal) x0 x1 x2 = fun y => blockAt x0 x1 x2 (y 0) (y 1) := by
  funext y
  unfold_out out0_3
  refine View.canon_apply_of_pieces (Val := Elt Ideal) (fun y : S512x512.Idx => blockAt x0 x1 x2 (y 0) (y 1)) _ ?_ y (cover0_3 _ _ _ _ y)
  intro p hp j
  simp only [List.mem_cons, List.not_mem_nil, or_false] at hp
  rcases hp with rfl | rfl | rfl | rfl
  · idx_vars j
    refine Eq.trans ?_ (congrArg (fun y : S512x512.Idx => blockAt x0 x1 x2 (y 0) (y 1)) (emb_at 384 (by omega) _ j0 j1)).symm
    show _ = blockAt x0 x1 x2 j0 ⟨384 + j1.val, _⟩
    unfold blockAt
    simp only [headCol_at 384 (by omega) (by omega) j1]
    pointwise [k0_pay12, k0_pay6, k0_pay3, k0_pay4, k0_pay1, k0_pay2, r0_0, r0_1, r0_5, att, weight, score]
  · idx_vars j
    refine Eq.trans ?_ (congrArg (fun y : S512x512.Idx => blockAt x0 x1 x2 (y 0) (y 1)) (emb_at 256 (by omega) _ j0 j1)).symm
    show _ = blockAt x0 x1 x2 j0 ⟨256 + j1.val, _⟩
    unfold blockAt
    simp only [headCol_at 256 (by omega) (by omega) j1]
    pointwise [k0_pay11, k0_pay5, k0_pay3, k0_pay4, k0_pay1, k0_pay2, r0_0, r0_1, r0_4, att, weight, score]
  · idx_vars j
    refine Eq.trans ?_ (congrArg (fun y : S512x512.Idx => blockAt x0 x1 x2 (y 0) (y 1)) (emb_at 128 (by omega) _ j0 j1)).symm
    show _ = blockAt x0 x1 x2 j0 ⟨128 + j1.val, _⟩
    unfold blockAt
    simp only [headCol_at 128 (by omega) (by omega) j1]
    pointwise [k0_pay10, k0_pay8, k0_pay3, k0_pay4, k0_pay1, k0_pay2, r0_0, r0_1, r0_3, att, weight, score]
  · idx_vars j
    refine Eq.trans ?_ (congrArg (fun y : S512x512.Idx => blockAt x0 x1 x2 (y 0) (y 1)) (emb_at 0 (by omega) _ j0 j1)).symm
    show _ = blockAt x0 x1 x2 j0 ⟨0 + j1.val, _⟩
    unfold blockAt
    simp only [headCol_at 0 (by omega) (by omega) j1]
    pointwise [k0_pay9, k0_pay7, k0_pay3, k0_pay4, k0_pay1, k0_pay2, r0_0, r0_1, r0_2, att, weight, score]

end Cert.MemIdeal.Block

end
-- ==== Proof.MemValue.lean ====
module

public import proofs.«01_k».proof.Proof.MemBlock
public import Idealize.ShloMosaic.Lib.Pipeline.ValueKit
public import Idealize.ShloMosaic.Lib.Claim

/-!
The memory cross-attention kernel's result as one function of its arguments: at row `R` of the flattened queries and
column `C`, the attention of that query's head over the memory tokens of that batch element.
-/

@[expose] public section

set_option maxRecDepth 16384

noncomputable section

namespace Cert.MemIdeal.Block

open Cert.MemIdeal Cert.MemIdeal.Gen Idealize.ShloMosaic Idealize.SL.Sem Idealize.ShloMosaic.TcCoe
open Idealize.ShloMosaic.Pipeline (Dat)

/-- The attention's output at row `R` and column `C`, from the queries, the memory keys and the memory values. -/
def memOut (q : FVec Ideal S8x2048x512 .bf16) (K V : FVec Ideal S8x256x4x128 .f32) (R : Fin 16384) (C : Fin 512) : EReal :=
  att (fun j => q (ix3 ⟨R.val / 2048, by omega⟩ ⟨R.val % 2048, by omega⟩ (headCol C j)))
    (fun k j => K (ix4 ⟨R.val / 2048, by omega⟩ k ⟨C.val / 128, by omega⟩ j))
    (fun k => V (ix4 ⟨R.val / 2048, by omega⟩ k ⟨C.val / 128, by omega⟩ ⟨C.val % 128, by omega⟩))

variable (m : (ℓ : Loc nD τ sig) → Buf (Elt Ideal) ℓ) (ρ : Dev nD → PrngReg)

/-- Where each window's block lies at a grid point. -/
theorem idx : ∀ t : Fin cfg0.N, win0_0.index t = ![t.val, 0] ∧ win0_1.index t = ![t.val / 4, 0, 0]
    ∧ win0_2.index t = ![t.val / 4, 0, 0] ∧ win0_3.index t = ![t.val, 0] :=
  (by decide +kernel : ∀ t : Fin grid0.N, win0_0.index t = ![t.val, 0] ∧ win0_1.index t = ![t.val / 4, 0, 0]
    ∧ win0_2.index t = ![t.val / 4, 0, 0] ∧ win0_3.index t = ![t.val, 0])

/-- The flattened queries, at an element. -/
theorem rows_at (c : Dev nD) (R : Fin 16384) (l : Fin 512) :
    V m c main_v0 (ix2 R l) = m (c.tc.loc main_arg0) (ix3 ⟨R.val / 2048, by omega⟩ ⟨R.val % 2048, by omega⟩ l) := by
  unfold V
  after_reads_at

/-- The memory keys with their heads side by side, at an element. -/
theorem keys_at (c : Dev nD) (b : Fin 8) (k : Fin 256) (l : Fin 512) :
    V m c main_v1 (ix3 b k l) = m (c.tc.loc main_arg1) (ix4 b k ⟨l.val / 128, by omega⟩ ⟨l.val % 128, by omega⟩) := by
  unfold V
  after_reads_at

/-- The memory values with their heads side by side, at an element. -/
theorem values_at (c : Dev nD) (b : Fin 8) (k : Fin 256) (l : Fin 512) :
    V m c main_v2 (ix3 b k l) = m (c.tc.loc main_arg2) (ix4 b k ⟨l.val / 128, by omega⟩ ⟨l.val % 128, by omega⟩) := by
  unfold V
  after_reads_at

/-- The query block of a grid point, at an element. -/
theorem block0_at (c : Dev nD) (t : Fin cfg0.N) (r l : Fin 512) (R : Fin 16384) (hR : R.val = t.val * 512 + r.val) :
    iblk m c 0 t (ix2 r l) = V m c main_v0 (ix2 R l) := by
  blk_ext [iblk, idx t]

/-- The key block of a grid point, at an element. -/
theorem block1_at (c : Dev nD) (t : Fin cfg0.N) (k : Fin 256) (l : Fin 512) (b : Fin 8) (hb : b.val = t.val / 4) :
    iblk m c 1 t (ix3 0 k l) = V m c main_v1 (ix3 b k l) := by
  blk_ext [iblk, idx t]

/-- The value block of a grid point, at an element. -/
theorem block2_at (c : Dev nD) (t : Fin cfg0.N) (k : Fin 256) (l : Fin 512) (b : Fin 8) (hb : b.val = t.val / 4) :
    iblk m c 2 t (ix3 0 k l) = V m c main_v2 (ix3 b k l) := by
  blk_ext [iblk, idx t]

/-- The head and the lane of column `j` of the head that column `l` lies in. -/
theorem headCol_div (l : Fin 512) (j : Fin 128) : (headCol l j).val / 128 = l.val / 128 ∧ (headCol l j).val % 128 = j.val := by
  show (l.val / 128 * 128 + j.val) / 128 = _ ∧ (l.val / 128 * 128 + j.val) % 128 = _
  omega

/-- One element of a grid point's output block is the attention's output at the row and column it is written to. -/
theorem block_out (c : Dev nD) (t : Fin cfg0.N) (r l : Fin 512) (R : Fin 16384) (hR : R.val = t.val * 512 + r.val) :
    blockAt (iblk m c 0 t) (iblk m c 1 t) (iblk m c 2 t) r l
      = memOut (m (c.tc.loc main_arg0)) (m (c.tc.loc main_arg1)) (m (c.tc.loc main_arg2)) R l := by
  have hb : R.val / 2048 = t.val / 4 := by omega
  unfold blockAt memOut
  congr 1
  · funext j
    rw [block0_at m c t r _ R hR, rows_at]
  · funext k j
    rw [block1_at m c t k _ ⟨R.val / 2048, by omega⟩ hb, keys_at]
    simp only [headCol_div]
  · funext k
    rw [block2_at m c t k _ ⟨R.val / 2048, by omega⟩ hb, values_at]

/-- The result array after the run. -/
theorem final (c : Dev nD) : (dats m 0 c).arrAt 3 cfg0.N
    = fun y : S16384x512.Idx => memOut (m (c.tc.loc main_arg0)) (m (c.tc.loc main_arg1)) (m (c.tc.loc main_arg2)) (y 0) (y 1) := by
  refine (dats m 0 c).arrAt_eq_of_covers 3 _ (by decide +kernel) fun t hf y => ?_
  blk_simp
  rw [after0_3, out_eq]
  have h0 : ((((win0_3.blk t).view.emb y) 0 : Fin 16384) : ℕ) = t.val * 512 + (y 0).val := by blk_simp [idx t]
  have h1 : (((win0_3.blk t).view.emb y) 1 : Fin 512) = y 1 := by
    apply Fin.ext
    blk_simp [idx t]
  refine (block_out m c t (y 0) (y 1) _ h0).trans ?_
  exact congrArg _ h1.symm

/-- The run: the result array holds the attention's output, and the arguments end unchanged. -/
theorem run : θ_run defs (onTc (τ := τ) (main (F := Ideal))) ⟨m, fun _ => 0, ρ⟩ fun r => ∀ c : Dev nD,
      (r.2.mem ((c : Thread nD τ).loc main_v3) = fun y : S16384x512.Idx =>
        memOut (m (c.tc.loc main_arg0)) (m (c.tc.loc main_arg1)) (m (c.tc.loc main_arg2)) (y 0) (y 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.MemIdeal.Block

end
-- ==== Proof.MemRef.lean ====
module

public import proofs.«01_k».proof.Proof.MemValue
public import proofs.«01_k».proof.Proof.Softmax
public import proofs.«01_k».proof.Proof.Gen.RefMemIdeal.Run
public import proofs.«01_k».proof.Proof.Gen.RefMemIdeal.Read

/-!
The memory attention of the reference, read at an index: the values weighted by the softmax of the scaled scores.
-/

@[expose] public section

set_option maxRecDepth 16384

noncomputable section

namespace Cert.RefMemIdeal.Out

open Cert.RefMemIdeal Cert.RefMemIdeal.Gen Cert.RefMemIdeal.Read Idealize.ShloMosaic Idealize.SL.Sem Idealize.ShloMosaic.TcCoe
open Cert.MemIdeal.Block (score weight att headCol memOut)
open Cert.Softmax

/-- The row maximum of the scores, at an index. -/
theorem rowMax (f : FVec Ideal S8x4x2048x256 .f32) (b : Fin 8) (h : Fin 4) (t : Fin 2048) :
    Host.reduce FloatOps.maximumf f (constant S_ .f32 0xFF800000#32) reducesTo_S8x4x2048x256_S8x4x2048_d3 h_S_ (ix3 b h t)
      = Finset.univ.fold max (Ideal.ofBits .f32 0xFF800000#32) (fun k => f (ix4 b h t k)) := by
  pointwise

/-- The scaled scores, at an index. -/
theorem score_at (x0 : FVec Ideal S8x2048x512 .bf16) (x1 : FVec Ideal S8x256x4x128 .f32) (b : Fin 8) (h : Fin 4)
    (t : Fin 2048) (k : Fin 256) :
    val_main_v4 (F := Ideal) x0 x1 (ix4 b h t k)
      = score (fun j => x0 (ix3 b t ⟨h.val * 128 + j.val, by omega⟩)) (fun k j => x1 (ix4 b k h j)) k := by
  pointwise [val_main_v4, val_main_v3, val_main_v2, val_main_v1, val_main_v0, val_main_cst, score]

/-- The row maxima as one reduction of the scores. -/
theorem v5_eq (x0 : FVec Ideal S8x2048x512 .bf16) (x1 : FVec Ideal S8x256x4x128 .f32) :
    val_main_v5 (F := Ideal) x0 x1 = (Host.reduce (FloatOps.maximumf (F := Ideal) (φ := .f32)) (val_main_v4 (F := Ideal) x0 x1) (constant S_ .f32 0xFF800000#32) reducesTo_S8x4x2048x256_S8x4x2048_d3 h_S_ : FVec Ideal S8x4x2048 .f32) := by
  unfold val_main_v5 val_main_cst_0
  with_reducible rfl

/-- The largest score of a row, at an index. -/
theorem max_at (x0 : FVec Ideal S8x2048x512 .bf16) (x1 : FVec Ideal S8x256x4x128 .f32) (b : Fin 8) (h : Fin 4)
    (t : Fin 2048) :
    val_main_v5 (F := Ideal) x0 x1 (ix3 b h t)
      = Finset.univ.fold max (Ideal.ofBits .f32 0xFF800000#32)
          (fun k => val_main_v4 (F := Ideal) x0 x1 (ix4 b h t k)) :=
  (congrFun (v5_eq x0 x1) (ix3 b h t)).trans (rowMax (val_main_v4 (F := Ideal) x0 x1) b h t)

/-- The exponential of the scores less their row maximum, from the scores and the maxima. -/
theorem exp_at (f : FVec Ideal S8x4x2048x256 .f32) (g : FVec Ideal S8x4x2048 .f32) (b : Fin 8) (h : Fin 4)
    (t : Fin 2048) (k : Fin 256) :
    (Host.exp (subf f (broadcastInDim S8x4x2048x256 ![0, 1, 2, 3] bcast_S8x4x2048x1_S8x4x2048x256_0_1_2_3
        (broadcastInDim S8x4x2048x1 ![0, 1, 2] bcast_S8x4x2048_S8x4x2048x1_0_1_2
          (maximumf (broadcastInDim S8x4x2048 ![] bcast_S_S8x4x2048 (constant S_ .f32 0xFF800000#32)) g)))) :
        FVec Ideal S8x4x2048x256 .f32) (ix4 b h t k)
      = Ideal.exp (f (ix4 b h t k) - max (Ideal.ofBits .f32 0xFF800000#32) (g (ix3 b h t))) := by
  pointwise

/-- The exponential weights as operations of the scores and the maxima. -/
theorem v11_eq (x0 : FVec Ideal S8x2048x512 .bf16) (x1 : FVec Ideal S8x256x4x128 .f32) :
    val_main_v11 (F := Ideal) x0 x1
      = (Host.exp (subf (val_main_v4 (F := Ideal) x0 x1) (broadcastInDim S8x4x2048x256 ![0, 1, 2, 3]
          bcast_S8x4x2048x1_S8x4x2048x256_0_1_2_3 (broadcastInDim S8x4x2048x1 ![0, 1, 2] bcast_S8x4x2048_S8x4x2048x1_0_1_2
            (maximumf (broadcastInDim S8x4x2048 ![] bcast_S_S8x4x2048 (constant S_ .f32 0xFF800000#32))
              (val_main_v5 (F := Ideal) x0 x1))))) : FVec Ideal S8x4x2048x256 .f32) := by
  unfold val_main_v11 val_main_v10 val_main_v9 val_main_v8 val_main_v7 val_main_v6 val_main_cst_1
  with_reducible rfl

/-- A score less the row's maximum, under the exponential, is the weight. -/
theorem weight_eq (q : Fin 128 → EReal) (K : Fin 256 → Fin 128 → EReal) (k : Fin 256) (s M : EReal) (f : Fin 256 → EReal)
    (hs : s = f k) (hM : M = Finset.univ.fold max (Ideal.ofBits .f32 0xFF800000#32) f) (hf : ∀ k, f k = score q K k) :
    Ideal.exp (s - max (Ideal.ofBits .f32 0xFF800000#32) M) = weight q K k := by
  obtain rfl : f = score q K := funext hf
  rw [hs, hM, weight, max_eq_right ((Finset.le_fold_max _).2 (Or.inl le_rfl))]

/-- The exponential weights, at an index. -/
theorem weight_at (x0 : FVec Ideal S8x2048x512 .bf16) (x1 : FVec Ideal S8x256x4x128 .f32) (b : Fin 8) (h : Fin 4)
    (t : Fin 2048) (k : Fin 256) :
    val_main_v11 (F := Ideal) x0 x1 (ix4 b h t k)
      = weight (fun j => x0 (ix3 b t ⟨h.val * 128 + j.val, by omega⟩)) (fun k j => x1 (ix4 b k h j)) k :=
  ((congrFun (v11_eq x0 x1) _).trans (exp_at _ _ b h t k)).trans
    (weight_eq _ _ k _ _ (fun k => val_main_v4 (F := Ideal) x0 x1 (ix4 b h t k)) rfl (max_at x0 x1 b h t) (score_at x0 x1 b h t))

/-- The reference's result, at an index. -/
theorem out_at (x0 : FVec Ideal S8x2048x512 .bf16) (x1 x2 : FVec Ideal S8x256x4x128 .f32) (R : Fin 16384) (C : Fin 512) :
    val_main_v19 (F := Ideal) x0 x1 x2 (ix2 R C)
      = ∑ k : Fin 256, x2 (ix4 ⟨R.val / 2048, by omega⟩ k ⟨C.val / 128, by omega⟩ ⟨C.val % 128, by omega⟩)
          * Ideal.div (val_main_v11 (F := Ideal) x0 x1 (ix4 ⟨R.val / 2048, by omega⟩ ⟨C.val / 128, by omega⟩ ⟨R.val % 2048, by omega⟩ k))
              (∑ k : Fin 256, val_main_v11 (F := Ideal) x0 x1 (ix4 ⟨R.val / 2048, by omega⟩ ⟨C.val / 128, by omega⟩ ⟨R.val % 2048, by omega⟩ k)) := by
  unfold val_main_v19 val_main_v18 val_main_v17 val_main_v16 val_main_v15 val_main_v14 val_main_v13 val_main_v12 val_main_cst_2
  generalize val_main_v11 (F := Ideal) x0 x1 = f
  pointwise

/-- The softmax quotient taken after the weighted sum or before it: the same, for real queries and keys. -/
theorem att_eq (q : Fin 128 → EReal) (K : Fin 256 → Fin 128 → EReal) (v : Fin 256 → EReal)
    (hq : ∀ j, IsReal (q j)) (hK : ∀ k j, IsReal (K k j)) :
    att q K v = ∑ k, v k * Ideal.div (weight q K k) (∑ k, weight q K k) := by
  have hs : ∀ k, IsReal (score q K k) := fun k =>
    (IsReal.sum _ fun j _ => (hq j).mul (hK k j)).mul ⟨_, rfl⟩
  have hm : IsReal (Finset.univ.fold max (Ideal.ofBits .f32 0xFF800000#32) (score q K)) := by
    rw [show Ideal.ofBits .f32 0xFF800000#32 = (⊥ : EReal) from rfl]
    exact IsReal.fold_max (by omega) hs
  obtain ⟨r, hr, h⟩ := sum_pos (n := 256) (f := weight q K) (by omega) fun k => exp_sub (hs k) hm
  unfold att
  rw [h, sum_div _ _ _ hr]

/-- The reference's result is the kernel's, for real queries and keys. -/
theorem out_eq (x0 : FVec Ideal S8x2048x512 .bf16) (x1 x2 : FVec Ideal S8x256x4x128 .f32)
    (h0 : ∀ i, IsReal (x0 i)) (h1 : ∀ i, IsReal (x1 i)) :
    val_main_v19 (F := Ideal) x0 x1 x2 = fun y : S16384x512.Idx => memOut x0 x1 x2 (y 0) (y 1) := by
  funext y
  idx_vars y
  refine (out_at x0 x1 x2 y0 y1).trans ?_
  simp only [weight_at]
  exact (att_eq _ _ _ (fun _ => h0 _) (fun _ _ => h1 _)).symm

end Cert.RefMemIdeal.Out

end
-- ==== Proof.MemClaims.lean ====
module

public import proofs.«01_k».proof.Defs
public import proofs.«01_k».proof.Proof.Gen.Mem.Frame
public import proofs.«01_k».proof.Proof.MemRef
public import proofs.«01_k».proof.Proof.MemPre

/-!
The claims about the memory cross-attention: its frames, and that the kernel's output is the reference's for finite
queries and keys.
-/

@[expose] public section

noncomputable section

namespace Cert.Proof.Mem

open Idealize.ShloMosaic Idealize.SL.Sem Cert.MemIdeal.Block

/-- The kernel as printed runs and keeps its arguments. -/
theorem frame_kernel : Cert.quiescent_Mem := fun m ρ _ => Cert.Mem.Gen.frame m ρ

/-- The idealized kernel runs and keeps its arguments. -/
theorem frame_ideal : Cert.quiescent_MemIdeal := fun m ρ _ => Cert.MemIdeal.Gen.frame m ρ

/-- The same under the precondition. -/
theorem frame_ideal_pre : Cert.quiescent_MemIdeal_pre_finite_queries_and_keys := fun m ρ _ => Cert.MemIdeal.Gen.frame m ρ

/-- The reference runs and keeps its arguments; it declares no semaphore. -/
theorem frame_reference : Cert.quiescent_RefMemIdeal := fun m ρ _ =>
  (θ_run Cert.RefMemIdeal.defs _ _).mono (fun r h => ⟨fun c => (h c).2, sem_eq_zero_of_no_sems (by decide) r.2⟩)
    (Cert.RefMemIdeal.Value.run (F := Ideal) m ρ)

/-- The same under the precondition. -/
theorem frame_reference_pre : Cert.quiescent_RefMemIdeal_pre_finite_queries_and_keys := fun m ρ _ => frame_reference m ρ trivial

/-- The kernel's attention output is the reference's, element by element. -/
theorem algebraic : Cert.algebraic_MemIdeal_RefMemIdeal_pre_finite_queries_and_keys := by
  intro m ρ m' ρ' hpre hag
  refine ⟨fun c => fun y => memOut (m (c.tc.loc Cert.MemIdeal.main_arg0)) (m (c.tc.loc Cert.MemIdeal.main_arg1))
      (m (c.tc.loc Cert.MemIdeal.main_arg2)) (y 0) (y 1), run m ρ, ?_⟩
  refine (θ_run _ _ _).mono (fun r h c => ⟨?_, (h c).2⟩) (Cert.RefMemIdeal.Value.run (F := Ideal) m' ρ')
  obtain ⟨h0, h1⟩ := Cert.Pre_finite_queries_and_keys.Read.real _ _ _ (hpre c)
  refine (h c).1.trans ?_
  rw [(hag c).1, (hag c).2.1, (hag c).2.2]
  exact (Cert.RefMemIdeal.Read.val_main_v19_eq _ _ _).symm.trans (Cert.RefMemIdeal.Out.out_eq _ _ _ h0 h1)

end Cert.Proof.Mem

end
-- ==== Proof.RmsDot.lean ====
module

public import Idealize.ShloMosaic.Lib.Pointwise

/-!
A row divided by its root mean square, scaled by gains, against a column of weights: what the projections compute.
-/

@[expose] public section

noncomputable section

namespace Cert.Rms

open Idealize.ShloMosaic

/-- The reciprocal root mean square of a row. -/
def scale (x : Fin 2048 → EReal) : EReal :=
  Ideal.rsqrt (Ideal.div (∑ k, x k * x k) (Ideal.ofBits .f32 0x45000000#32) + Ideal.ofBits .f32 0x358637BD#32)

/-- A normalised row times the gains against a weight column. -/
def normDot (x g w : Fin 2048 → EReal) : EReal := ∑ k, x k * scale x * g k * w k

end Cert.Rms

end
-- ==== Proof.KvBlock.lean ====
module

public import proofs.«01_k».proof.Proof.Gen.MemkvIdeal.Value
public import proofs.«01_k».proof.Proof.RmsDot
public import Idealize.ShloMosaic.Lib.UnfoldOut
public import Idealize.ShloMosaic.Lib.StableHlo.ReadAt
public import Idealize.ShloMosaic.Lib.Pipeline.ValueKit
public import Idealize.ShloMosaic.Lib.Claim

/-!
The projection of the memory tokens as one function of its arguments: a normalised row against one column of the weight.
-/

@[expose] public section

set_option maxRecDepth 16384

noncomputable section

namespace Cert.MemkvIdeal.Block

open Cert.MemkvIdeal Cert.MemkvIdeal.Gen Idealize.ShloMosaic Idealize.SL.Sem Idealize.ShloMosaic.TcCoe
open Idealize.ShloMosaic.Pipeline (Dat)
open Cert.Rms

/-- The first output block of a grid point. -/
theorem out4_eq (x0 : FVec Ideal S512x2048 .f32) (x1 : FVec Ideal S1x2048 .f32) (x2 x3 : FVec Ideal S2048x512 .bf16) :
    out0_4 (F := Ideal) x0 x1 x2 x3
      = fun y => normDot (fun k => x0 (ix2 (y 0) k)) (fun k => x1 (ix2 0 k)) (fun k => x2 (ix2 k (y 1))) := by
  funext y
  refine (congrFun (View.canon_unit_zero (by decide) inb_S512x512_S512x512_0_0 _) y).trans ?_
  idx_vars y
  pointwise [k0_pay2, k0_pay1, normDot, scale]

/-- The second output block of a grid point. -/
theorem out5_eq (x0 : FVec Ideal S512x2048 .f32) (x1 : FVec Ideal S1x2048 .f32) (x2 x3 : FVec Ideal S2048x512 .bf16) :
    out0_5 (F := Ideal) x0 x1 x2 x3
      = fun y => normDot (fun k => x0 (ix2 (y 0) k)) (fun k => x1 (ix2 0 k)) (fun k => x3 (ix2 k (y 1))) := by
  funext y
  refine (congrFun (View.canon_unit_zero (by decide) inb_S512x512_S512x512_0_0 _) y).trans ?_
  idx_vars y
  pointwise [k0_pay3, k0_pay1, normDot, scale]

/-- A column of the keys' half of the weight. -/
def lo (l : Fin 512) : Fin 1024 := ⟨l.val, by omega⟩

/-- A column of the values' half of the weight. -/
def hi (l : Fin 512) : Fin 1024 := ⟨512 + l.val, by omega⟩

/-- The normalised memory token `R` of the flattened tokens against column `C` of the weight. -/
def proj (x : FVec Ideal S8x256x2048 .f32) (g : FVec Ideal S2048 .f32) (w : FVec Ideal S2048x1024 .f32)
    (R : Fin 2048) (C : Fin 1024) : EReal :=
  normDot (fun k => x (ix3 ⟨R.val / 256, by omega⟩ ⟨R.val % 256, by omega⟩ k)) (fun k => g (ix1 k)) (fun k => w (ix2 k C))

variable (m : (ℓ : Loc nD τ sig) → Buf (Elt Ideal) ℓ) (ρ : Dev nD → PrngReg)

/-- Where each window's block lies at a grid point. -/
theorem idx : ∀ t : Fin cfg0.N, win0_0.index t = ![t.val, 0] ∧ win0_1.index t = ![0, 0] ∧ win0_2.index t = ![0, 0]
    ∧ win0_3.index t = ![0, 1] ∧ win0_4.index t = ![t.val, 0] ∧ win0_5.index t = ![t.val, 0] :=
  (by decide +kernel : ∀ t : Fin grid0.N, win0_0.index t = ![t.val, 0] ∧ win0_1.index t = ![0, 0] ∧ win0_2.index t = ![0, 0]
    ∧ win0_3.index t = ![0, 1] ∧ win0_4.index t = ![t.val, 0] ∧ win0_5.index t = ![t.val, 0])

/-- The flattened tokens, at an element. -/
theorem rows_at (c : Dev nD) (R : Fin 2048) (k : Fin 2048) :
    V m c main_v1 (ix2 R k) = m (c.tc.loc main_arg0) (ix3 ⟨R.val / 256, by omega⟩ ⟨R.val % 256, by omega⟩ k) := by
  unfold V
  after_reads_at

/-- The gains as a row, at an element. -/
theorem gain_at (c : Dev nD) (k : Fin 2048) : V m c main_v2 (ix2 0 k) = m (c.tc.loc main_arg1) (ix1 k) := by
  unfold V
  after_reads_at

/-- The weight after its cast, at an element: the cast is the identity on ideal values. -/
theorem weight_at (c : Dev nD) (k : Fin 2048) (C : Fin 1024) :
    V m c main_v0 (ix2 k C) = m (c.tc.loc main_arg2) (ix2 k C) := by
  unfold V
  after_reads_at

/-- The token block of a grid point, at an element. -/
theorem block0_at (c : Dev nD) (t : Fin cfg0.N) (r : Fin 512) (k : Fin 2048) (R : Fin 2048) (hR : R.val = t.val * 512 + r.val) :
    iblk m c 0 t (ix2 r k) = V m c main_v1 (ix2 R k) := by
  blk_ext [iblk, idx t]

/-- The gains at a grid point. -/
theorem block1_at (c : Dev nD) (t : Fin cfg0.N) (k : Fin 2048) : iblk m c 1 t (ix2 0 k) = V m c main_v2 (ix2 0 k) := by
  blk_ext [iblk, idx t]

/-- The first half of the weight's columns. -/
theorem block2_at (c : Dev nD) (t : Fin cfg0.N) (k : Fin 2048) (l : Fin 512) (C : Fin 1024) (hC : C.val = l.val) :
    iblk m c 2 t (ix2 k l) = V m c main_v0 (ix2 k C) := by
  blk_ext [iblk, idx t]

/-- The second half of the weight's columns. -/
theorem block3_at (c : Dev nD) (t : Fin cfg0.N) (k : Fin 2048) (l : Fin 512) (C : Fin 1024) (hC : C.val = 512 + l.val) :
    iblk m c 3 t (ix2 k l) = V m c main_v0 (ix2 k C) := by
  blk_ext [iblk, idx t]

/-- One element of the first output block is the projection at the row it is written to. -/
theorem keys_block (c : Dev nD) (t : Fin cfg0.N) (r l : Fin 512) (R : Fin 2048) (hR : R.val = t.val * 512 + r.val) :
    normDot (fun k => iblk m c 0 t (ix2 r k)) (fun k => iblk m c 1 t (ix2 0 k)) (fun k => iblk m c 2 t (ix2 k l))
      = proj (m (c.tc.loc main_arg0)) (m (c.tc.loc main_arg1)) (m (c.tc.loc main_arg2)) R (lo l) := by
  unfold proj
  congr 1
  · funext k
    rw [block0_at m c t r k R hR, rows_at]
  · funext k
    rw [block1_at, gain_at]
  · funext k
    rw [block2_at m c t k l (lo l) rfl, weight_at]

/-- One element of the second output block is the projection at the row it is written to. -/
theorem values_block (c : Dev nD) (t : Fin cfg0.N) (r l : Fin 512) (R : Fin 2048) (hR : R.val = t.val * 512 + r.val) :
    normDot (fun k => iblk m c 0 t (ix2 r k)) (fun k => iblk m c 1 t (ix2 0 k)) (fun k => iblk m c 3 t (ix2 k l))
      = proj (m (c.tc.loc main_arg0)) (m (c.tc.loc main_arg1)) (m (c.tc.loc main_arg2)) R (hi l) := by
  unfold proj
  congr 1
  · funext k
    rw [block0_at m c t r k R hR, rows_at]
  · funext k
    rw [block1_at, gain_at]
  · funext k
    rw [block3_at m c t k l (hi l) rfl, weight_at]

/-- The keys after the run. -/
theorem final4 (c : Dev nD) : (dats m 0 c).arrAt 4 cfg0.N = fun y : S2048x512.Idx =>
    proj (m (c.tc.loc main_arg0)) (m (c.tc.loc main_arg1)) (m (c.tc.loc main_arg2)) (y 0) (lo (y 1)) := by
  refine (dats m 0 c).arrAt_eq_of_covers 4 _ (by decide +kernel) fun t hf y => ?_
  blk_simp
  rw [after0_4, out4_eq]
  have h0 : ((((win0_4.blk t).view.emb y) 0 : Fin 2048) : ℕ) = t.val * 512 + (y 0).val := by blk_simp [idx t]
  have h1 : (((win0_4.blk t).view.emb y) 1 : Fin 512) = y 1 := by
    apply Fin.ext
    blk_simp [idx t]
  refine (keys_block m c t (y 0) (y 1) _ h0).trans ?_
  exact congrArg (fun l => proj (m (c.tc.loc main_arg0)) (m (c.tc.loc main_arg1)) (m (c.tc.loc main_arg2)) _ (lo l)) h1.symm

/-- The values after the run. -/
theorem final5 (c : Dev nD) : (dats m 0 c).arrAt 5 cfg0.N = fun y : S2048x512.Idx =>
    proj (m (c.tc.loc main_arg0)) (m (c.tc.loc main_arg1)) (m (c.tc.loc main_arg2)) (y 0) (hi (y 1)) := by
  refine (dats m 0 c).arrAt_eq_of_covers 5 _ (by decide +kernel) fun t hf y => ?_
  blk_simp
  rw [after0_5, out5_eq]
  have h0 : ((((win0_5.blk t).view.emb y) 0 : Fin 2048) : ℕ) = t.val * 512 + (y 0).val := by blk_simp [idx t]
  have h1 : (((win0_5.blk t).view.emb y) 1 : Fin 512) = y 1 := by
    apply Fin.ext
    blk_simp [idx t]
  refine (values_block m c t (y 0) (y 1) _ h0).trans ?_
  exact congrArg (fun l => proj (m (c.tc.loc main_arg0)) (m (c.tc.loc main_arg1)) (m (c.tc.loc main_arg2)) _ (hi l)) h1.symm

/-- The run: both results, and the arguments end unchanged. -/
theorem run : θ_run defs (onTc (τ := τ) (main (F := Ideal))) ⟨m, fun _ => 0, ρ⟩ fun r => ∀ c : Dev nD,
      (r.2.mem ((c : Thread nD τ).loc main_v3_0) = fun y : S2048x512.Idx =>
        proj (m (c.tc.loc main_arg0)) (m (c.tc.loc main_arg1)) (m (c.tc.loc main_arg2)) (y 0) (lo (y 1)))
      ∧ (r.2.mem ((c : Thread nD τ).loc main_v3_1) = fun y : S2048x512.Idx =>
        proj (m (c.tc.loc main_arg0)) (m (c.tc.loc main_arg1)) (m (c.tc.loc main_arg2)) (y 0) (hi (y 1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final4 m c), (h c).2.1.trans (final5 m c), (h c).2.2⟩) (Value.run_blocks m ρ)

end Cert.MemkvIdeal.Block

end
-- ==== Proof.KvClaims.lean ====
module

public import proofs.«01_k».proof.Defs
public import proofs.«01_k».proof.Proof.Gen.Memkv.Frame
public import proofs.«01_k».proof.Proof.Gen.RefMemkvIdeal.Read
public import proofs.«01_k».proof.Proof.KvBlock

/-!
The claims about the projection of the memory tokens: its frames, and that its two results are the reference's.
-/

@[expose] public section

set_option maxRecDepth 16384

noncomputable section

namespace Cert.Proof.Kv

open Idealize.ShloMosaic Idealize.SL.Sem Cert.MemkvIdeal.Block Cert.RefMemkvIdeal Cert.RefMemkvIdeal.Read

/-- The kernel as printed runs and keeps its arguments. -/
theorem frame_kernel : Cert.quiescent_Memkv := fun m ρ _ => Cert.Memkv.Gen.frame m ρ

/-- The idealized kernel runs and keeps its arguments. -/
theorem frame_ideal : Cert.quiescent_MemkvIdeal := fun m ρ _ => Cert.MemkvIdeal.Gen.frame m ρ

/-- The reference runs and keeps its arguments; it declares no semaphore. -/
theorem frame_reference : Cert.quiescent_RefMemkvIdeal := fun m ρ _ =>
  (θ_run Cert.RefMemkvIdeal.defs _ _).mono (fun r h => ⟨fun c => (h c).2.2, sem_eq_zero_of_no_sems (by decide) r.2⟩)
    (Cert.RefMemkvIdeal.Value.run (F := Ideal) m ρ)

/-- The reference's keys at an element. -/
theorem keys_eq (x : FVec Ideal S8x256x2048 .f32) (g : FVec Ideal S2048 .f32) (w : FVec Ideal S2048x1024 .f32) :
    val_main_v16 (F := Ideal) x g w = fun y : S2048x512.Idx => proj x g w (y 0) (lo (y 1)) := by
  funext y
  idx_vars y
  pointwise [val_main_v16, val_main_v14, val_main_v13, val_main_v12, val_main_v11, val_main_v10, val_main_v9, val_main_v8,
    val_main_v7, val_main_v6, val_main_v5, val_main_v4, val_main_v3, val_main_v2, val_main_v1, val_main_v0, val_main_cst,
    val_main_cst_0, val_main_cst_1, proj, lo, hi, Cert.Rms.normDot, Cert.Rms.scale]

/-- The reference's values at an element. -/
theorem values_eq (x : FVec Ideal S8x256x2048 .f32) (g : FVec Ideal S2048 .f32) (w : FVec Ideal S2048x1024 .f32) :
    val_main_v17 (F := Ideal) x g w = fun y : S2048x512.Idx => proj x g w (y 0) (hi (y 1)) := by
  funext y
  idx_vars y
  pointwise [val_main_v17, val_main_v15, val_main_v13, val_main_v12, val_main_v11, val_main_v10, val_main_v9, val_main_v8,
    val_main_v7, val_main_v6, val_main_v5, val_main_v4, val_main_v3, val_main_v2, val_main_v1, val_main_v0, val_main_cst,
    val_main_cst_0, val_main_cst_1, proj, lo, hi, Cert.Rms.normDot, Cert.Rms.scale]

/-- The kernel's keys and values are the reference's, element by element. -/
theorem algebraic : Cert.algebraic_MemkvIdeal_RefMemkvIdeal := by
  intro m ρ m' ρ' _ hag
  refine ⟨fun c y => proj (m (c.tc.loc Cert.MemkvIdeal.main_arg0)) (m (c.tc.loc Cert.MemkvIdeal.main_arg1))
      (m (c.tc.loc Cert.MemkvIdeal.main_arg2)) (y 0) (lo (y 1)),
    fun c y => proj (m (c.tc.loc Cert.MemkvIdeal.main_arg0)) (m (c.tc.loc Cert.MemkvIdeal.main_arg1))
      (m (c.tc.loc Cert.MemkvIdeal.main_arg2)) (y 0) (hi (y 1)), run m ρ, ?_⟩
  refine (θ_run _ _ _).mono (fun r h c => ⟨?_, ?_, (h c).2.2⟩) (Cert.RefMemkvIdeal.Value.run (F := Ideal) m' ρ')
  · refine (h c).1.trans ?_
    rw [(hag c).1, (hag c).2.1, (hag c).2.2]
    exact (val_main_v16_eq _ _ _).symm.trans (keys_eq _ _ _)
  · refine (h c).2.1.trans ?_
    rw [(hag c).1, (hag c).2.1, (hag c).2.2]
    exact (val_main_v17_eq _ _ _).symm.trans (values_eq _ _ _)

end Cert.Proof.Kv

end
-- ==== Proof.MixRun.lean ====
module

public import proofs.«01_k».proof.Proof.Gen.MixIdeal.Frame
public import proofs.«01_k».proof.Proof.Gen.MixIdeal.Skeleton
public import Idealize.ShloMosaic.Lib.VecWindow
public import Idealize.ShloMosaic.Lib.Tactic
public import Idealize.ShloMosaic.Lib.Pipeline.Kit

/-!
  One grid point of the mixing kernel, run once for any float interpretation. A point takes one row tile and one
  block of 512 output columns: it stores two 256-wide column blocks of the gated sum into the row tile held in the
  output window and adds their squares, folded to 128 lanes, to a scratch array. The first column block of a row
  clears that scratch; the last one rescales the whole row tile by the root mean square and adds the residual.
-/

@[expose] public section

set_option maxRecDepth 16384

noncomputable section

namespace Cert.MixIdeal.Run

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The first block column of a row tile: the second grid coordinate is zero. -/
abbrev cond0 (i : grid0.Coords) : Prop := Scalar.cmpi .ne (Scalar.extui (Scalar.cmpi .eq (BitVec.ofNat 32 (i 1).val) 0#32)) 0#32 = 1#1
/-- The last block column of a row tile: the second grid coordinate is three. -/
abbrev cond1 (i : grid0.Coords) : Prop := Scalar.cmpi .ne (Scalar.extui (Scalar.cmpi .eq (BitVec.ofNat 32 (i 1).val) 3#32)) 0#32 = 1#1

/-- Columns 0 to 255 of a block of 2048 rows. -/
def wl (x : Vec F S2048x512 .bf16) : Vec F S2048x256 .bf16 := VecWindow.window x ![0, 0] S2048x256.size inb_S2048x512_S2048x256_0_0
/-- Columns 256 to 511 of a block of 2048 rows. -/
def wh (x : Vec F S2048x512 .bf16) : Vec F S2048x256 .bf16 := VecWindow.window x ![0, 256] S2048x256.size inb_S2048x512_S2048x256_0_256
/-- Columns 0 to 255 of a block of 768 rows. -/
def ul (x : Vec F S768x512 .bf16) : Vec F S768x256 .bf16 := VecWindow.window x ![0, 0] S768x256.size inb_S768x512_S768x256_0_0
/-- Columns 256 to 511 of a block of 768 rows. -/
def uh (x : Vec F S768x512 .bf16) : Vec F S768x256 .bf16 := VecWindow.window x ![0, 256] S768x256.size inb_S768x512_S768x256_0_256
/-- Columns 0 to 255 of a block of 512 rows. -/
def tl (x : Vec F S512x512 .bf16) : Vec F S512x256 .bf16 := VecWindow.window x ![0, 0] S512x256.size inb_S512x512_S512x256_0_0
/-- Columns 256 to 511 of a block of 512 rows. -/
def th (x : Vec F S512x512 .bf16) : Vec F S512x256 .bf16 := VecWindow.window x ![0, 256] S512x256.size inb_S512x512_S512x256_0_256

/-- The first 256 columns a point stores. -/
def lo (x1 : Vec F S512x2048 .bf16) (x2 : Vec F S512x768 .bf16) (x3 : Vec F S512x768 .bf16) (x4 : Vec F S512x512 .bf16) (x5 : Vec F S2048x512 .bf16) (x6 : Vec F S2048x512 .bf16) (x7 : Vec F S2048x512 .bf16) (x8 : Vec F S768x512 .bf16) (x9 : Vec F S768x512 .bf16) (x10 : Vec F S512x512 .bf16) : FVec F S512x256 .f32 :=
  k0_pay12 (k0_pay5 x1) (k0_pay8 x4) (k0_pay10 x1 x2 x3 (wl x5) (ul x8) (wl x6) (ul x9)) (k0_pay11 (wl x7)) (constant S512x256 .f32 0x00000000#32) (tl x10)

/-- The first two gated products of the second 256 columns. -/
def mid (x1 : Vec F S512x2048 .bf16) (x2 : Vec F S512x768 .bf16) (x3 : Vec F S512x768 .bf16) (x4 : Vec F S512x512 .bf16) (x5 : Vec F S2048x512 .bf16) (x6 : Vec F S2048x512 .bf16) (x7 : Vec F S2048x512 .bf16) (x8 : Vec F S768x512 .bf16) (x9 : Vec F S768x512 .bf16) (x10 : Vec F S512x512 .bf16) : FVec F S512x256 .f32 :=
  k0_pay14 (k0_pay5 x1) (k0_pay6 x2) (k0_pay7 x3) (wh x5) (uh x8) (wh x6) (uh x9)

/-- The second 256 columns a point stores. -/
def hi (x1 : Vec F S512x2048 .bf16) (x2 : Vec F S512x768 .bf16) (x3 : Vec F S512x768 .bf16) (x4 : Vec F S512x512 .bf16) (x5 : Vec F S2048x512 .bf16) (x6 : Vec F S2048x512 .bf16) (x7 : Vec F S2048x512 .bf16) (x8 : Vec F S768x512 .bf16) (x9 : Vec F S768x512 .bf16) (x10 : Vec F S512x512 .bf16) : FVec F S512x256 .f32 :=
  k0_pay1 (k0_pay5 x1) (k0_pay8 x4) (mid x1 x2 x3 x4 x5 x6 x7 x8 x9 x10) (k0_pay15 (wh x7)) (th x10)

/-- The scratch of squares after a point that found `s` in it. -/
def ssNext (x1 : Vec F S512x2048 .bf16) (x2 : Vec F S512x768 .bf16) (x3 : Vec F S512x768 .bf16) (x4 : Vec F S512x512 .bf16) (x5 : Vec F S2048x512 .bf16) (x6 : Vec F S2048x512 .bf16) (x7 : Vec F S2048x512 .bf16) (x8 : Vec F S768x512 .bf16) (x9 : Vec F S768x512 .bf16) (x10 : Vec F S512x512 .bf16) (s : Vec F S512x128 .f32) : FVec F S512x128 .f32 :=
  k0_pay2 (k0_pay5 x1) (k0_pay8 x4)
    (k0_pay13 (k0_pay5 x1) (k0_pay8 x4) k0_pay9 (k0_pay10 x1 x2 x3 (wl x5) (ul x8) (wl x6) (ul x9)) (k0_pay11 (wl x7)) (constant S512x256 .f32 0x00000000#32) (tl x10))
    (mid x1 x2 x3 x4 x5 x6 x7 x8 x9 x10) (k0_pay15 (wh x7)) (th x10) s

/-- The row tile after a point's two column stores over `d`. -/
def outNext (i : grid0.Coords) (x1 : Vec F S512x2048 .bf16) (x2 : Vec F S512x768 .bf16) (x3 : Vec F S512x768 .bf16) (x4 : Vec F S512x512 .bf16) (x5 : Vec F S2048x512 .bf16) (x6 : Vec F S2048x512 .bf16) (x7 : Vec F S2048x512 .bf16) (x8 : Vec F S768x512 .bf16) (x9 : Vec F S768x512 .bf16) (x10 : Vec F S512x512 .bf16) (d : Vec F S512x2048 .f32) : Vec F S512x2048 .f32 :=
  VecWindow.put (VecWindow.put d (k0_off1 i 0#32) S512x256.size (lo x1 x2 x3 x4 x5 x6 x7 x8 x9 x10)) (k0_off1 i 256#32) S512x256.size (hi x1 x2 x3 x4 x5 x6 x7 x8 x9 x10)

set_option maxHeartbeats 1000000 in
/-- A middle column block: two column stores, and the squares added to the scratch. -/
theorem runB (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S512x768 .bf16) (harg4 : arg4.IsWhole) (arg5 : Memref sig .tc .vmem S512x768 .bf16) (harg5 : arg5.IsWhole) (arg6 : Memref sig .tc .vmem S512x512 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S768x512 .bf16) (harg10 : arg10.IsWhole) (arg11 : Memref sig .tc .vmem S768x512 .bf16) (harg11 : arg11.IsWhole) (arg12 : Memref sig .tc .vmem S512x512 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S512x128 .f32) (harg15 : arg15.IsWhole) (hc0 : ¬ cond0 i) (hc1 : ¬ cond1 i)
    (x0 : Vec F S512x2048 .f32) (x1 : Vec F S512x2048 .bf16) (x2 : Vec F S512x768 .bf16) (x3 : Vec F S512x768 .bf16) (x4 : Vec F S512x512 .bf16) (x5 : Vec F S2048x512 .bf16) (x6 : Vec F S2048x512 .bf16) (x7 : Vec F S2048x512 .bf16) (x8 : Vec F S768x512 .bf16) (x9 : Vec F S768x512 .bf16) (x10 : Vec F S512x512 .bf16) (x11 : Vec F S1x2048 .f32) (d : Vec F S512x2048 .f32) (s : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare d ∗ owns (c : Thread nD τ) arg15 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (outNext i x1 x2 x3 x4 x5 x6 x7 x8 x9 x10 d) ∗ owns (c : Thread nD τ) arg15 fullShare (ssNext x1 x2 x3 x4 x5 x6 x7 x8 x9 x10 s)) -∗ K ⟨⟩))
      ⊢ wp frame (wpE (defs₀ (F := F)) Variants.none c none) E (cc0_mix i arg2 harg2 arg3 harg3 arg4 harg4 arg5 harg5 arg6 harg6 arg7 harg7 arg8 harg8 arg9 harg9 arg10 harg10 arg11 harg11 arg12 harg12 arg13 harg13 arg14 harg14 arg15 harg15) K := by
    simp only [cc0_mix_eq_skeleton]; unfold cc0_mix_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    subst hf0 hf1 hf2 hf3 hf4 hf5 hf6 hf7 hf8 hf9 hf10 hf11 hf12 hf13
    sl_exec (disch := first | sl_exact hc0 | sl_exact hc1)
    sl_step
    iapply Hk
    have e0 : View.readAt (Elt F) arg2.view (Rect.unit ![0, 0] ![512, 2048] inb_S512x2048_S512x2048_0_0).toLoadRect f0 = View.read (Elt F) arg2.view f0 := View.readAt_full _ _ _
    have e1 : View.readAt (Elt F) arg3.view (Rect.unit ![0, 0] ![512, 2048] inb_S512x2048_S512x2048_0_0).toLoadRect f1 = View.read (Elt F) arg3.view f1 := View.readAt_full _ _ _
    have e2 : View.readAt (Elt F) arg4.view (Rect.unit ![0, 0] ![512, 768] inb_S512x768_S512x768_0_0).toLoadRect f2 = View.read (Elt F) arg4.view f2 := View.readAt_full _ _ _
    have e3 : View.readAt (Elt F) arg5.view (Rect.unit ![0, 0] ![512, 768] inb_S512x768_S512x768_0_0).toLoadRect f3 = View.read (Elt F) arg5.view f3 := View.readAt_full _ _ _
    have e4 : View.readAt (Elt F) arg6.view (Rect.unit ![0, 0] ![512, 512] inb_S512x512_S512x512_0_0).toLoadRect f4 = View.read (Elt F) arg6.view f4 := View.readAt_full _ _ _
    have e11 : View.readAt (Elt F) arg13.view (Rect.unit ![0, 0] ![1, 2048] inb_S1x2048_S1x2048_0_0).toLoadRect f11 = View.read (Elt F) arg13.view f11 := View.readAt_full _ _ _
    have e13 : View.readAt (Elt F) arg15.view (Rect.unit ![0, 0] ![512, 128] inb_S512x128_S512x128_0_0).toLoadRect f13 = View.read (Elt F) arg15.view f13 := View.readAt_full _ _ _
    have l5 : View.readAt (Elt F) arg7.view (Rect.unit ![0, 0] ![2048, 256] inb_S2048x512_S2048x256_0_0).toLoadRect f5 = wl (View.read (Elt F) arg7.view f5) := rfl
    have h5 : View.readAt (Elt F) arg7.view (Rect.unit ![0, 256] ![2048, 256] inb_S2048x512_S2048x256_0_256).toLoadRect f5 = wh (View.read (Elt F) arg7.view f5) := rfl
    have l6 : View.readAt (Elt F) arg8.view (Rect.unit ![0, 0] ![2048, 256] inb_S2048x512_S2048x256_0_0).toLoadRect f6 = wl (View.read (Elt F) arg8.view f6) := rfl
    have h6 : View.readAt (Elt F) arg8.view (Rect.unit ![0, 256] ![2048, 256] inb_S2048x512_S2048x256_0_256).toLoadRect f6 = wh (View.read (Elt F) arg8.view f6) := rfl
    have l7 : View.readAt (Elt F) arg9.view (Rect.unit ![0, 0] ![2048, 256] inb_S2048x512_S2048x256_0_0).toLoadRect f7 = wl (View.read (Elt F) arg9.view f7) := rfl
    have h7 : View.readAt (Elt F) arg9.view (Rect.unit ![0, 256] ![2048, 256] inb_S2048x512_S2048x256_0_256).toLoadRect f7 = wh (View.read (Elt F) arg9.view f7) := rfl
    have l8 : View.readAt (Elt F) arg10.view (Rect.unit ![0, 0] ![768, 256] inb_S768x512_S768x256_0_0).toLoadRect f8 = ul (View.read (Elt F) arg10.view f8) := rfl
    have h8 : View.readAt (Elt F) arg10.view (Rect.unit ![0, 256] ![768, 256] inb_S768x512_S768x256_0_256).toLoadRect f8 = uh (View.read (Elt F) arg10.view f8) := rfl
    have l9 : View.readAt (Elt F) arg11.view (Rect.unit ![0, 0] ![768, 256] inb_S768x512_S768x256_0_0).toLoadRect f9 = ul (View.read (Elt F) arg11.view f9) := rfl
    have h9 : View.readAt (Elt F) arg11.view (Rect.unit ![0, 256] ![768, 256] inb_S768x512_S768x256_0_256).toLoadRect f9 = uh (View.read (Elt F) arg11.view f9) := rfl
    have l10 : View.readAt (Elt F) arg12.view (Rect.unit ![0, 0] ![512, 256] inb_S512x512_S512x256_0_0).toLoadRect f10 = tl (View.read (Elt F) arg12.view f10) := rfl
    have h10 : View.readAt (Elt F) arg12.view (Rect.unit ![0, 256] ![512, 256] inb_S512x512_S512x256_0_256).toLoadRect f10 = th (View.read (Elt F) arg12.view f10) := rfl
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    isplitl [H8]
    · iexists _; isplitr; · ipureintro; rfl
      iexact H8
    isplitl [H9]
    · iexists _; isplitr; · ipureintro; rfl
      iexact H9
    isplitl [H10]
    · iexists _; isplitr; · ipureintro; rfl
      iexact H10
    isplitl [H11]
    · iexists _; isplitr; · ipureintro; rfl
      iexact H11
    isplitl [H12]
    · iexists _; isplitr; swap; · iexact H12
      ipureintro
      rw [View.read_writes_cons_put _ _ _ _ _ rfl, View.read_writes_cons_put _ _ _ _ _ rfl, View.writes_nil]
      delta runB.sl.r_4 runB.sl.r_7
      delta runB.sl.r runB.sl.r_1 runB.sl.r_2 runB.sl.r_3 runB.sl.r_5 runB.sl.r_8 runB.sl.cst_22
      simp only [e13, e1, e2, e3, e4, l5, l6, l7, l8, l9, l10, h5, h6, h7, h8, h9, h10]
      rfl
    iexists _; isplitr; swap; · iexact H13
    ipureintro
    rw [View.read_writes_full]
    delta runB.sl.r_4 runB.sl.r_6 runB.sl.r_7
    delta runB.sl.r runB.sl.r_1 runB.sl.r_2 runB.sl.r_3 runB.sl.r_5 runB.sl.r_8 runB.sl.cst_22
    simp only [e13, e1, e2, e3, e4, l5, l6, l7, l8, l9, l10, h5, h6, h7, h8, h9, h10]
    rfl

set_option maxHeartbeats 1000000 in
/-- The first column block: the scratch is cleared first. -/
theorem runA (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S512x768 .bf16) (harg4 : arg4.IsWhole) (arg5 : Memref sig .tc .vmem S512x768 .bf16) (harg5 : arg5.IsWhole) (arg6 : Memref sig .tc .vmem S512x512 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S768x512 .bf16) (harg10 : arg10.IsWhole) (arg11 : Memref sig .tc .vmem S768x512 .bf16) (harg11 : arg11.IsWhole) (arg12 : Memref sig .tc .vmem S512x512 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S512x128 .f32) (harg15 : arg15.IsWhole) (hc0 : cond0 i) (hc1 : ¬ cond1 i)
    (x0 : Vec F S512x2048 .f32) (x1 : Vec F S512x2048 .bf16) (x2 : Vec F S512x768 .bf16) (x3 : Vec F S512x768 .bf16) (x4 : Vec F S512x512 .bf16) (x5 : Vec F S2048x512 .bf16) (x6 : Vec F S2048x512 .bf16) (x7 : Vec F S2048x512 .bf16) (x8 : Vec F S768x512 .bf16) (x9 : Vec F S768x512 .bf16) (x10 : Vec F S512x512 .bf16) (x11 : Vec F S1x2048 .f32) (d : Vec F S512x2048 .f32) (s : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare d ∗ owns (c : Thread nD τ) arg15 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (outNext i x1 x2 x3 x4 x5 x6 x7 x8 x9 x10 d) ∗ owns (c : Thread nD τ) arg15 fullShare (ssNext x1 x2 x3 x4 x5 x6 x7 x8 x9 x10 k0_pay4)) -∗ K ⟨⟩))
      ⊢ wp frame (wpE (defs₀ (F := F)) Variants.none c none) E (cc0_mix i arg2 harg2 arg3 harg3 arg4 harg4 arg5 harg5 arg6 harg6 arg7 harg7 arg8 harg8 arg9 harg9 arg10 harg10 arg11 harg11 arg12 harg12 arg13 harg13 arg14 harg14 arg15 harg15) K := by
    simp only [cc0_mix_eq_skeleton]; unfold cc0_mix_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    subst hf0 hf1 hf2 hf3 hf4 hf5 hf6 hf7 hf8 hf9 hf10 hf11 hf12 hf13
    sl_exec (disch := first | sl_exact hc0 | sl_exact hc1)
    sl_step
    iapply Hk
    have e0 : View.readAt (Elt F) arg2.view (Rect.unit ![0, 0] ![512, 2048] inb_S512x2048_S512x2048_0_0).toLoadRect f0 = View.read (Elt F) arg2.view f0 := View.readAt_full _ _ _
    have e1 : View.readAt (Elt F) arg3.view (Rect.unit ![0, 0] ![512, 2048] inb_S512x2048_S512x2048_0_0).toLoadRect f1 = View.read (Elt F) arg3.view f1 := View.readAt_full _ _ _
    have e2 : View.readAt (Elt F) arg4.view (Rect.unit ![0, 0] ![512, 768] inb_S512x768_S512x768_0_0).toLoadRect f2 = View.read (Elt F) arg4.view f2 := View.readAt_full _ _ _
    have e3 : View.readAt (Elt F) arg5.view (Rect.unit ![0, 0] ![512, 768] inb_S512x768_S512x768_0_0).toLoadRect f3 = View.read (Elt F) arg5.view f3 := View.readAt_full _ _ _
    have e4 : View.readAt (Elt F) arg6.view (Rect.unit ![0, 0] ![512, 512] inb_S512x512_S512x512_0_0).toLoadRect f4 = View.read (Elt F) arg6.view f4 := View.readAt_full _ _ _
    have e11 : View.readAt (Elt F) arg13.view (Rect.unit ![0, 0] ![1, 2048] inb_S1x2048_S1x2048_0_0).toLoadRect f11 = View.read (Elt F) arg13.view f11 := View.readAt_full _ _ _
    have e13 : View.readAt (Elt F) arg15.view (Rect.unit ![0, 0] ![512, 128] inb_S512x128_S512x128_0_0).toLoadRect f13 = View.read (Elt F) arg15.view f13 := View.readAt_full _ _ _
    have l5 : View.readAt (Elt F) arg7.view (Rect.unit ![0, 0] ![2048, 256] inb_S2048x512_S2048x256_0_0).toLoadRect f5 = wl (View.read (Elt F) arg7.view f5) := rfl
    have h5 : View.readAt (Elt F) arg7.view (Rect.unit ![0, 256] ![2048, 256] inb_S2048x512_S2048x256_0_256).toLoadRect f5 = wh (View.read (Elt F) arg7.view f5) := rfl
    have l6 : View.readAt (Elt F) arg8.view (Rect.unit ![0, 0] ![2048, 256] inb_S2048x512_S2048x256_0_0).toLoadRect f6 = wl (View.read (Elt F) arg8.view f6) := rfl
    have h6 : View.readAt (Elt F) arg8.view (Rect.unit ![0, 256] ![2048, 256] inb_S2048x512_S2048x256_0_256).toLoadRect f6 = wh (View.read (Elt F) arg8.view f6) := rfl
    have l7 : View.readAt (Elt F) arg9.view (Rect.unit ![0, 0] ![2048, 256] inb_S2048x512_S2048x256_0_0).toLoadRect f7 = wl (View.read (Elt F) arg9.view f7) := rfl
    have h7 : View.readAt (Elt F) arg9.view (Rect.unit ![0, 256] ![2048, 256] inb_S2048x512_S2048x256_0_256).toLoadRect f7 = wh (View.read (Elt F) arg9.view f7) := rfl
    have l8 : View.readAt (Elt F) arg10.view (Rect.unit ![0, 0] ![768, 256] inb_S768x512_S768x256_0_0).toLoadRect f8 = ul (View.read (Elt F) arg10.view f8) := rfl
    have h8 : View.readAt (Elt F) arg10.view (Rect.unit ![0, 256] ![768, 256] inb_S768x512_S768x256_0_256).toLoadRect f8 = uh (View.read (Elt F) arg10.view f8) := rfl
    have l9 : View.readAt (Elt F) arg11.view (Rect.unit ![0, 0] ![768, 256] inb_S768x512_S768x256_0_0).toLoadRect f9 = ul (View.read (Elt F) arg11.view f9) := rfl
    have h9 : View.readAt (Elt F) arg11.view (Rect.unit ![0, 256] ![768, 256] inb_S768x512_S768x256_0_256).toLoadRect f9 = uh (View.read (Elt F) arg11.view f9) := rfl
    have l10 : View.readAt (Elt F) arg12.view (Rect.unit ![0, 0] ![512, 256] inb_S512x512_S512x256_0_0).toLoadRect f10 = tl (View.read (Elt F) arg12.view f10) := rfl
    have h10 : View.readAt (Elt F) arg12.view (Rect.unit ![0, 256] ![512, 256] inb_S512x512_S512x256_0_256).toLoadRect f10 = th (View.read (Elt F) arg12.view f10) := rfl
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    isplitl [H8]
    · iexists _; isplitr; · ipureintro; rfl
      iexact H8
    isplitl [H9]
    · iexists _; isplitr; · ipureintro; rfl
      iexact H9
    isplitl [H10]
    · iexists _; isplitr; · ipureintro; rfl
      iexact H10
    isplitl [H11]
    · iexists _; isplitr; · ipureintro; rfl
      iexact H11
    isplitl [H12]
    · iexists _; isplitr; swap; · iexact H12
      ipureintro
      rw [View.read_writes_cons_put _ _ _ _ _ rfl, View.read_writes_cons_put _ _ _ _ _ rfl, View.writes_nil]
      delta runA.sl.r_4 runA.sl.r_7
      delta runA.sl.r runA.sl.r_1 runA.sl.r_2 runA.sl.r_3 runA.sl.r_5 runA.sl.r_8 runA.sl.cst_22
      simp only [e13, e1, e2, e3, e4, l5, l6, l7, l8, l9, l10, h5, h6, h7, h8, h9, h10]
      rfl
    iexists _; isplitr; swap; · iexact H13
    ipureintro
    rw [View.read_writes_full]
    delta runA.sl.v88 runA.sl.H13_1
    rw [View.readCov_full]
    delta runA.sl.r_4 runA.sl.r_6 runA.sl.r_7
    delta runA.sl.r runA.sl.r_1 runA.sl.r_2 runA.sl.r_3 runA.sl.r_5 runA.sl.r_8 runA.sl.cst_22
    simp only [e13, e1, e2, e3, e4, l5, l6, l7, l8, l9, l10, h5, h6, h7, h8, h9, h10]
    rfl

set_option maxHeartbeats 1000000 in
/-- The last column block: the row tile is rescaled, weighted and added to the residual. -/
theorem runC (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S512x768 .bf16) (harg4 : arg4.IsWhole) (arg5 : Memref sig .tc .vmem S512x768 .bf16) (harg5 : arg5.IsWhole) (arg6 : Memref sig .tc .vmem S512x512 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S768x512 .bf16) (harg10 : arg10.IsWhole) (arg11 : Memref sig .tc .vmem S768x512 .bf16) (harg11 : arg11.IsWhole) (arg12 : Memref sig .tc .vmem S512x512 .bf16) (harg12 : arg12.IsWhole) (arg13 : Memref sig .tc .vmem S1x2048 .f32) (harg13 : arg13.IsWhole) (arg14 : Memref sig .tc .vmem S512x2048 .f32) (harg14 : arg14.IsWhole) (arg15 : Memref sig .tc .vmem S512x128 .f32) (harg15 : arg15.IsWhole) (hc0 : ¬ cond0 i) (hc1 : cond1 i)
    (x0 : Vec F S512x2048 .f32) (x1 : Vec F S512x2048 .bf16) (x2 : Vec F S512x768 .bf16) (x3 : Vec F S512x768 .bf16) (x4 : Vec F S512x512 .bf16) (x5 : Vec F S2048x512 .bf16) (x6 : Vec F S2048x512 .bf16) (x7 : Vec F S2048x512 .bf16) (x8 : Vec F S768x512 .bf16) (x9 : Vec F S768x512 .bf16) (x10 : Vec F S512x512 .bf16) (x11 : Vec F S1x2048 .f32) (d : Vec F S512x2048 .f32) (s : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare d ∗ owns (c : Thread nD τ) arg15 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (k0_pay3 (ssNext x1 x2 x3 x4 x5 x6 x7 x8 x9 x10 s) x0 (outNext i x1 x2 x3 x4 x5 x6 x7 x8 x9 x10 d) x11) ∗ owns (c : Thread nD τ) arg15 fullShare (ssNext x1 x2 x3 x4 x5 x6 x7 x8 x9 x10 s)) -∗ K ⟨⟩))
      ⊢ wp frame (wpE (defs₀ (F := F)) Variants.none c none) E (cc0_mix i arg2 harg2 arg3 harg3 arg4 harg4 arg5 harg5 arg6 harg6 arg7 harg7 arg8 harg8 arg9 harg9 arg10 harg10 arg11 harg11 arg12 harg12 arg13 harg13 arg14 harg14 arg15 harg15) K := by
    simp only [cc0_mix_eq_skeleton]; unfold cc0_mix_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    subst hf0 hf1 hf2 hf3 hf4 hf5 hf6 hf7 hf8 hf9 hf10 hf11 hf12 hf13
    sl_exec (disch := first | sl_exact hc0 | sl_exact hc1)
    sl_step
    iapply Hk
    have e0 : View.readAt (Elt F) arg2.view (Rect.unit ![0, 0] ![512, 2048] inb_S512x2048_S512x2048_0_0).toLoadRect f0 = View.read (Elt F) arg2.view f0 := View.readAt_full _ _ _
    have e1 : View.readAt (Elt F) arg3.view (Rect.unit ![0, 0] ![512, 2048] inb_S512x2048_S512x2048_0_0).toLoadRect f1 = View.read (Elt F) arg3.view f1 := View.readAt_full _ _ _
    have e2 : View.readAt (Elt F) arg4.view (Rect.unit ![0, 0] ![512, 768] inb_S512x768_S512x768_0_0).toLoadRect f2 = View.read (Elt F) arg4.view f2 := View.readAt_full _ _ _
    have e3 : View.readAt (Elt F) arg5.view (Rect.unit ![0, 0] ![512, 768] inb_S512x768_S512x768_0_0).toLoadRect f3 = View.read (Elt F) arg5.view f3 := View.readAt_full _ _ _
    have e4 : View.readAt (Elt F) arg6.view (Rect.unit ![0, 0] ![512, 512] inb_S512x512_S512x512_0_0).toLoadRect f4 = View.read (Elt F) arg6.view f4 := View.readAt_full _ _ _
    have e11 : View.readAt (Elt F) arg13.view (Rect.unit ![0, 0] ![1, 2048] inb_S1x2048_S1x2048_0_0).toLoadRect f11 = View.read (Elt F) arg13.view f11 := View.readAt_full _ _ _
    have e13 : View.readAt (Elt F) arg15.view (Rect.unit ![0, 0] ![512, 128] inb_S512x128_S512x128_0_0).toLoadRect f13 = View.read (Elt F) arg15.view f13 := View.readAt_full _ _ _
    have l5 : View.readAt (Elt F) arg7.view (Rect.unit ![0, 0] ![2048, 256] inb_S2048x512_S2048x256_0_0).toLoadRect f5 = wl (View.read (Elt F) arg7.view f5) := rfl
    have h5 : View.readAt (Elt F) arg7.view (Rect.unit ![0, 256] ![2048, 256] inb_S2048x512_S2048x256_0_256).toLoadRect f5 = wh (View.read (Elt F) arg7.view f5) := rfl
    have l6 : View.readAt (Elt F) arg8.view (Rect.unit ![0, 0] ![2048, 256] inb_S2048x512_S2048x256_0_0).toLoadRect f6 = wl (View.read (Elt F) arg8.view f6) := rfl
    have h6 : View.readAt (Elt F) arg8.view (Rect.unit ![0, 256] ![2048, 256] inb_S2048x512_S2048x256_0_256).toLoadRect f6 = wh (View.read (Elt F) arg8.view f6) := rfl
    have l7 : View.readAt (Elt F) arg9.view (Rect.unit ![0, 0] ![2048, 256] inb_S2048x512_S2048x256_0_0).toLoadRect f7 = wl (View.read (Elt F) arg9.view f7) := rfl
    have h7 : View.readAt (Elt F) arg9.view (Rect.unit ![0, 256] ![2048, 256] inb_S2048x512_S2048x256_0_256).toLoadRect f7 = wh (View.read (Elt F) arg9.view f7) := rfl
    have l8 : View.readAt (Elt F) arg10.view (Rect.unit ![0, 0] ![768, 256] inb_S768x512_S768x256_0_0).toLoadRect f8 = ul (View.read (Elt F) arg10.view f8) := rfl
    have h8 : View.readAt (Elt F) arg10.view (Rect.unit ![0, 256] ![768, 256] inb_S768x512_S768x256_0_256).toLoadRect f8 = uh (View.read (Elt F) arg10.view f8) := rfl
    have l9 : View.readAt (Elt F) arg11.view (Rect.unit ![0, 0] ![768, 256] inb_S768x512_S768x256_0_0).toLoadRect f9 = ul (View.read (Elt F) arg11.view f9) := rfl
    have h9 : View.readAt (Elt F) arg11.view (Rect.unit ![0, 256] ![768, 256] inb_S768x512_S768x256_0_256).toLoadRect f9 = uh (View.read (Elt F) arg11.view f9) := rfl
    have l10 : View.readAt (Elt F) arg12.view (Rect.unit ![0, 0] ![512, 256] inb_S512x512_S512x256_0_0).toLoadRect f10 = tl (View.read (Elt F) arg12.view f10) := rfl
    have h10 : View.readAt (Elt F) arg12.view (Rect.unit ![0, 256] ![512, 256] inb_S512x512_S512x256_0_256).toLoadRect f10 = th (View.read (Elt F) arg12.view f10) := rfl
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    isplitl [H8]
    · iexists _; isplitr; · ipureintro; rfl
      iexact H8
    isplitl [H9]
    · iexists _; isplitr; · ipureintro; rfl
      iexact H9
    isplitl [H10]
    · iexists _; isplitr; · ipureintro; rfl
      iexact H10
    isplitl [H11]
    · iexists _; isplitr; · ipureintro; rfl
      iexact H11
    isplitl [H12]
    · iexists _; isplitr; swap; · iexact H12
      ipureintro
      rw [View.read_writes_full]
      delta runC.sl.v96 runC.sl.v106 runC.sl.H13_1 runC.sl.H12_2
      rw [View.readCov_full, e0, e11, e13, View.readAt_full arg14.view, View.read_writes_cons_put _ _ _ _ _ rfl, View.read_writes_cons_put _ _ _ _ _ rfl, View.writes_nil]
      delta runC.sl.r_4 runC.sl.r_6 runC.sl.r_7
      delta runC.sl.r runC.sl.r_1 runC.sl.r_2 runC.sl.r_3 runC.sl.r_5 runC.sl.r_8 runC.sl.cst_22
      simp only [e13, e1, e2, e3, e4, l5, l6, l7, l8, l9, l10, h5, h6, h7, h8, h9, h10]
      rfl
    iexists _; isplitr; swap; · iexact H13
    ipureintro
    delta runC.sl.H13_1
    rw [View.read_writes_full]
    delta runC.sl.r_4 runC.sl.r_6 runC.sl.r_7
    delta runC.sl.r runC.sl.r_1 runC.sl.r_2 runC.sl.r_3 runC.sl.r_5 runC.sl.r_8 runC.sl.cst_22
    simp only [e13, e1, e2, e3, e4, l5, l6, l7, l8, l9, l10, h5, h6, h7, h8, h9, h10]
    rfl

end Cert.MixIdeal.Run

end
-- ==== Proof.MixFrame.lean ====
module

public import proofs.«01_k».proof.Proof.MixRun
public import Idealize.ShloMosaic.Lib.Pipeline.DatRel
public import Idealize.ShloMosaic.Lib.Pipeline.ArrRel
public import Idealize.ShloMosaic.Lib.Claim
public import Idealize.ShloMosaic.Lib.Pipeline.FrameBody

/-!
  The mixing kernel over its whole grid, for any float interpretation: what the scratch of squares holds after each
  point, what the row tile in the output window holds after each point as a function of what it held when its row
  was begun, the body's obligation at every point, and the run of @main.
-/

@[expose] public section

set_option maxRecDepth 16384

noncomputable section

namespace Cert.MixIdeal.Run

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A point begins a row tile exactly when its number is a multiple of four. -/
theorem cond0_iff (t : Fin cfg0.N) : cond0 (grid0.coords t) ↔ t.val % 4 = 0 := by
  have ht : t.val < 128 := Nat.lt_of_lt_of_eq t.isLt N_0
  have e0 : (grid0.coords t 0).val = t.val / 4 % 32 := Pipeline.Grid.coords_val t 0 (by decide) rfl
  have e1 : (grid0.coords t 1).val = t.val / 1 % 4 := Pipeline.Grid.coords_val t 1 (by decide) rfl
  simp only [cond0, e0, e1]
  word_cmp

/-- A point ends a row tile exactly when its number is three more than a multiple of four. -/
theorem cond1_iff (t : Fin cfg0.N) : cond1 (grid0.coords t) ↔ t.val % 4 = 3 := by
  have ht : t.val < 128 := Nat.lt_of_lt_of_eq t.isLt N_0
  have e0 : (grid0.coords t 0).val = t.val / 4 % 32 := Pipeline.Grid.coords_val t 0 (by decide) rfl
  have e1 : (grid0.coords t 1).val = t.val / 1 % 4 := Pipeline.Grid.coords_val t 1 (by decide) rfl
  simp only [cond1, e0, e1]
  word_cmp

/-- What point `t` leaves in the scratch of squares that it found at `s`. -/
def ssStep (c : Dev nD) (t : Fin cfg0.N) (s : Vec F S512x128 .f32) : Vec F S512x128 .f32 :=
  ssNext (iblk m c 1 t) (iblk m c 2 t) (iblk m c 3 t) (iblk m c 4 t) (iblk m c 5 t) (iblk m c 6 t) (iblk m c 7 t) (iblk m c 8 t) (X0_9 m c t) (iblk m c 10 t) s

/-- What point `t` leaves in the row tile that it found at `d`, before the last point's rescaling. -/
def outStep (c : Dev nD) (t : Fin cfg0.N) (d : Vec F S512x2048 .f32) : Vec F S512x2048 .f32 :=
  outNext (grid0.coords t) (iblk m c 1 t) (iblk m c 2 t) (iblk m c 3 t) (iblk m c 4 t) (iblk m c 5 t) (iblk m c 6 t) (iblk m c 7 t) (iblk m c 8 t) (X0_9 m c t) (iblk m c 10 t) d

/-- The scratch of squares after point `n`. -/
def ssAt (c : Dev nD) : (n : ℕ) → n < cfg0.N → Vec F S512x128 .f32
  | 0, h => ssStep m c ⟨0, h⟩ k0_pay4
  | n + 1, h => ssStep m c ⟨n + 1, h⟩ (if (n + 1) % 4 = 0 then k0_pay4 else ssAt c n (Nat.lt_of_succ_lt h))

/-- The row tile after point `n`, begun at `d`, before the last point's rescaling. -/
def outAt (c : Dev nD) (d : Vec F S512x2048 .f32) : (n : ℕ) → n < cfg0.N → Vec F S512x2048 .f32
  | 0, h => outStep m c ⟨0, h⟩ d
  | n + 1, h => outStep m c ⟨n + 1, h⟩ (if (n + 1) % 4 = 0 then d else outAt c d n (Nat.lt_of_succ_lt h))

theorem ssAt_first (c : Dev nD) (t : Fin cfg0.N) (h : t.val % 4 = 0) : ssAt m c t.val t.isLt = ssStep m c t k0_pay4 := by
  obtain ⟨n, hn⟩ := t
  cases n with
  | zero => rfl
  | succ n => show ssStep m c _ (if (n + 1) % 4 = 0 then _ else _) = _; rw [if_pos h]

theorem ssAt_next (c : Dev nD) (t : Fin cfg0.N) (h : ¬ t.val % 4 = 0) (h' : t.val - 1 < cfg0.N) :
    ssAt m c t.val t.isLt = ssStep m c t (ssAt m c (t.val - 1) h') := by
  obtain ⟨n, hn⟩ := t
  cases n with
  | zero => exact absurd rfl h
  | succ n => show ssStep m c _ (if (n + 1) % 4 = 0 then _ else _) = _; rw [if_neg h]; rfl

theorem outAt_first (c : Dev nD) (d : Vec F S512x2048 .f32) (t : Fin cfg0.N) (h : t.val % 4 = 0) : outAt m c d t.val t.isLt = outStep m c t d := by
  obtain ⟨n, hn⟩ := t
  cases n with
  | zero => rfl
  | succ n => show outStep m c _ (if (n + 1) % 4 = 0 then _ else _) = _; rw [if_pos h]

theorem outAt_next (c : Dev nD) (d : Vec F S512x2048 .f32) (t : Fin cfg0.N) (h : ¬ t.val % 4 = 0) (h' : t.val - 1 < cfg0.N) :
    outAt m c d t.val t.isLt = outStep m c t (outAt m c d (t.val - 1) h') := by
  obtain ⟨n, hn⟩ := t
  cases n with
  | zero => exact absurd rfl h
  | succ n => show outStep m c _ (if (n + 1) % 4 = 0 then _ else _) = _; rw [if_neg h]; rfl

/-- What the row tile holds after its last point: rescaled, weighted, and added to the residual. -/
def finAt (c : Dev nD) (d : Vec F S512x2048 .f32) (t : Fin cfg0.N) : Vec F S512x2048 .f32 :=
  k0_pay3 (ssAt m c t.val t.isLt) (iblk m c 0 t) (outAt m c d t.val t.isLt) (iblk m c 11 t)

/-- The relation the row tile is held to after point `t`: it was begun at some contents and went through the points since. -/
def OutRel (c : Dev nD) (t : Fin cfg0.N) (X : Vec F S512x2048 .f32) : Prop :=
  ∃ d, X = if t.val % 4 = 3 then finAt m c d t else outAt m c d t.val t.isLt

/-- The relation of each window; only the output's is used. -/
def Rl (c : Dev nD) : (w : Fin cfg0.W) → Fin cfg0.N → ((cfg0.win w).block.Idx → Elt F (cfg0.win w).elt) → Prop
  | ⟨12, _⟩ => fun t X => OutRel m c t X
  | _ => fun _ _ => True

/-- The window held to a relation: the output. -/
def rel : Fin 13 → Bool := fun w => w.val == 12

/-- The scratch of squares, as a memref. -/
abbrev sc : Memref sig .tc .vmem S512x128 .f32 := Memref.whole cc0_scratch0

/-- What the invariant says of the scratch before point `n`: after a point, what that point left. -/
def Fact (c : Dev nD) (n : ℕ) (s : Vec F S512x128 .f32) : Prop := ∀ (k : ℕ) (h : k < cfg0.N), n = k + 1 → s = ssAt m c k h

/-- The invariant before point `n`: the scratch at some contents meeting `Fact`, and the generator register. -/
def Phi (c : Dev nD) (n : ℕ) : sProp 𝕄 :=
  iprop((∃ s, ⌜Fact m c n s⌝ ∗ owns (c : Thread nD τ) sc fullShare s) ∗ (∃ r, prngReg c r))

/-- The class invariant with the scratch as a memref. -/
theorem PhiA_eq (c : Dev nD) :
    (Pipeline.ΦA spec0 c : sProp 𝕄) = iprop(iprop((∃ d, owns (c : Thread nD τ) sc fullShare d)) ∗ (∃ r, prngReg c r)) := by
  unfold Pipeline.ΦA; rw [scopedRest0_eq]; simp only [sc, owns_whole]; try rfl

/-- The pipeline's proof data: every input's buffer keeps its block; the output is held to its relation. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => X0_9 m c t
    | ⟨10, _⟩ => iblk m c 10 t
    | ⟨11, _⟩ => iblk m c 11 t
    | ⟨12, h⟩ => Pipeline.Dat.unnamed (cfg := cfg0) ⟨12, h⟩ t
  Φ t := Phi m c t.val
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (A_eq m c 7) (after_7 m c) t d
theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  before0_8_of m (dats m 0 c) (A_eq m c 8) (after_8 m c) t d
theorem after_9 (c : Dev nD) (t : Fin cfg0.N) : (dats m 0 c).after 9 t = X0_9 m c t := by dsimp only [dats]
theorem before_9 (c : Dev nD) (t : Fin cfg0.N) (d) : (dats m 0 c).before 9 t d = X0_9 m c t :=
  before0_9_of m (dats m 0 c) (A_eq m c 9) (after_9 m c) t d
theorem after_10 (c : Dev nD) (t : Fin cfg0.N) : (dats m 0 c).after 10 t = iblk m c 10 t := by dsimp only [dats]
theorem before_10 (c : Dev nD) (t : Fin cfg0.N) (d) : (dats m 0 c).before 10 t d = iblk m c 10 t :=
  before0_10_of m (dats m 0 c) (A_eq m c 10) (after_10 m c) t d
theorem after_11 (c : Dev nD) (t : Fin cfg0.N) : (dats m 0 c).after 11 t = iblk m c 11 t := by dsimp only [dats]
theorem before_11 (c : Dev nD) (t : Fin cfg0.N) (d) : (dats m 0 c).before 11 t d = iblk m c 11 t :=
  before0_11_of m (dats m 0 c) (A_eq m c 11) (after_11 m c) t d

/-- What the output window may hold at a point inside a row tile. -/
theorem finds_out (c : Dev nD) (t : Fin cfg0.N) (h : ¬ t.val % 4 = 0) (Y : (cfg0.win 12).block.Idx → Elt F (cfg0.win 12).elt) (h' : t.val - 1 < cfg0.N)
    (hY : ((dats m 0 c).toRRel rel (Rl m c)).Finds 12 t Y) : ∃ d, Y = outAt m c d (t.val - 1) h' := by
  have hf : (cfg0.win 12).fetch t = false := rfl
  rcases (((dats m 0 c).toRRel rel (Rl m c)).finds_of_pos hf (by omega) Y).mp hY with hp | hl
  · have := (flush0_12 ⟨t.val - 1, h'⟩).mp hp
    simp only at this; omega
  · obtain ⟨d, hd⟩ := (dats m 0 c).toRRel_leaves (w := 12) rfl hl
    refine ⟨d, ?_⟩
    rwa [if_neg (by simp only; omega)] at hd

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ Y, ⌜((dats m 0 c).toRRel rel (Rl m c)).Finds 12 t Y⌝ ∗ owns (c : Thread nD τ) (win0_12.stage (cfg0.slots t 12)) fullShare Y))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ (∃ d, owns (c : Thread nD τ) (win0_9.stage (cfg0.slots t 9)) fullShare ((cfg0.win 9).fill (cfg0.grid.coords t) d ((cfg0.win 9).cut (cfg0.grid.coords t) ((dats m 0 c).after 9 t))))
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ (∃ X, ⌜OutRel m c t X⌝ ∗ owns (c : Thread nD τ) (win0_12.stage (cfg0.slots t 12)) fullShare X))

set_option maxHeartbeats 4000000 in
/-- The body at any point, from the three runs. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m 0 c).owesAt () t.succ = (dats m 0 c).owesAt () t.castSucc from rfl, after_0, after_1, after_2, after_3, after_4, after_5, after_6, after_7, after_8, after_9, after_10, after_11]
  rw [show (dats m 0 c).Φ t.succ = Phi m c (t.val + 1) from rfl, show (dats m 0 c).Φ t.castSucc = Phi m c t.val from rfl]
  unfold Phi
  have e9 : ∀ d, (cfg0.win 9).fill (cfg0.grid.coords t) d ((cfg0.win 9).cut (cfg0.grid.coords t) (X0_9 m c t)) = X0_9 m c t := fun d => by
    unfold X0_9; rw [Pipeline.Window.cut_fill]; exact fill0_9 t _ _ _
  simp only [e9]
  have hN : t.val < 128 := lt_of_lt_of_eq t.isLt (show cfg0.N = 128 from N_0)
  have h' : t.val - 1 < cfg0.N := lt_of_le_of_lt (Nat.sub_le _ _) t.isLt
  iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%Y, %hY, H12⟩⟩
  by_cases h0 : t.val % 4 = 0
  · have h1 : ¬ t.val % 4 = 3 := by omega
    iapply (runA c (grid0.coords t) _ _ _ _ _ _ _ _ _ _ _ _ _ _ _ _ _ _ _ _ _ _ _ _ _ _ _ _ ((cond0_iff t).mpr h0) (fun h => h1 ((cond1_iff t).mp h)) (iblk m c 0 t) (iblk m c 1 t) (iblk m c 2 t) (iblk m c 3 t) (iblk m c 4 t) (iblk m c 5 t) (iblk m c 6 t) (iblk m c 7 t) (iblk m c 8 t) (X0_9 m c t) (iblk m c 10 t) (iblk m c 11 t) (Y) (s) Set.univ (fun _ => _))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS]; · iexact HS
    iintro ⟨H0, H1, H2, H3, H4, H5, H6, H7, H8, H9, H10, H11, H12, HS⟩
    isplitl [HS Hg]
    · isplitl [HS]
      · iexists _; isplitr; swap; · iexact HS
        ipureintro; intro k hk e; obtain rfl : k = t.val := by omega
        exact (ssAt_first m c t h0).symm
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists (X0_9 m c t); iexact H9
    isplitl [H10]; · iexact H10
    isplitl [H11]; · iexact H11
    iexists _; isplitr; swap; · iexact H12
    ipureintro
    exact ⟨Y, by rw [if_neg h1, outAt_first m c Y t h0]; rfl⟩
  · by_cases h1 : t.val % 4 = 3
    · obtain ⟨d, rfl⟩ := finds_out m c t h0 Y h' hY
      obtain rfl := hs (t.val - 1) h' (by omega)
      iapply (runC c (grid0.coords t) _ _ _ _ _ _ _ _ _ _ _ _ _ _ _ _ _ _ _ _ _ _ _ _ _ _ _ _ (fun h => h0 ((cond0_iff t).mp h)) ((cond1_iff t).mpr h1) (iblk m c 0 t) (iblk m c 1 t) (iblk m c 2 t) (iblk m c 3 t) (iblk m c 4 t) (iblk m c 5 t) (iblk m c 6 t) (iblk m c 7 t) (iblk m c 8 t) (X0_9 m c t) (iblk m c 10 t) (iblk m c 11 t) (outAt m c d (t.val - 1) h') (ssAt m c (t.val - 1) h') Set.univ (fun _ => _))
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS]; · iexact HS
      iintro ⟨H0, H1, H2, H3, H4, H5, H6, H7, H8, H9, H10, H11, H12, HS⟩
      isplitl [HS Hg]
      · isplitl [HS]
        · iexists _; isplitr; swap; · iexact HS
          ipureintro; intro k hk e; obtain rfl : k = t.val := by omega
          exact (ssAt_next m c t h0 h').symm
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists (X0_9 m c t); iexact H9
      isplitl [H10]; · iexact H10
      isplitl [H11]; · iexact H11
      iexists _; isplitr; swap; · iexact H12
      ipureintro
      exact ⟨d, by rw [if_pos h1]; unfold finAt; rw [outAt_next m c d t h0 h', ssAt_next m c t h0 h']; rfl⟩
    · obtain ⟨d, rfl⟩ := finds_out m c t h0 Y h' hY
      obtain rfl := hs (t.val - 1) h' (by omega)
      iapply (runB c (grid0.coords t) _ _ _ _ _ _ _ _ _ _ _ _ _ _ _ _ _ _ _ _ _ _ _ _ _ _ _ _ (fun h => h0 ((cond0_iff t).mp h)) (fun h => h1 ((cond1_iff t).mp h)) (iblk m c 0 t) (iblk m c 1 t) (iblk m c 2 t) (iblk m c 3 t) (iblk m c 4 t) (iblk m c 5 t) (iblk m c 6 t) (iblk m c 7 t) (iblk m c 8 t) (X0_9 m c t) (iblk m c 10 t) (iblk m c 11 t) (outAt m c d (t.val - 1) h') (ssAt m c (t.val - 1) h') Set.univ (fun _ => _))
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS]; · iexact HS
      iintro ⟨H0, H1, H2, H3, H4, H5, H6, H7, H8, H9, H10, H11, H12, HS⟩
      isplitl [HS Hg]
      · isplitl [HS]
        · iexists _; isplitr; swap; · iexact HS
          ipureintro; intro k hk e; obtain rfl : k = t.val := by omega
          exact (ssAt_next m c t h0 h').symm
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists (X0_9 m c t); iexact H9
      isplitl [H10]; · iexact H10
      isplitl [H11]; · iexact H11
      iexists _; isplitr; swap; · iexact H12
      ipureintro
      exact ⟨d, by rw [if_neg h1, outAt_next m c d t h0 h']; rfl⟩

theorem defs₀_row (t : Fin cfg0.N) :
    defs₀ (F := F) .tc cfg0.body (cfg0.bodyArgs t (cfg0.slots t)) = bodyAt0 t := by
  unfold defs₀; rw [Defs.onTc_tc]

/-- The library's relational body obligation at every point. -/
theorem body_obligation (c : Dev nD) : Pipeline.BodyObligationRel (dats (F := F) m 0 c) (defs₀ (F := F)) Variants.none () Set.univ rel (Rl m c) := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Phi m c 0 from rfl, PhiA_eq]
  unfold Phi
  iintro ⟨⟨%d, HS⟩, Hg⟩
  isplitl [HS]
  · iexists d; isplitr
    · ipureintro; exact fun k h e => absurd e (by omega)
    iexact HS
  iexact Hg

/-- After the last point the invariant gives back what the launch handed over. -/
theorem hout (c : Dev nD) : (dats m 0 c).Φ (Fin.last cfg0.N) ⊢ Pipeline.ΦA spec0 c := by
  rw [show (dats m 0 c).Φ (Fin.last cfg0.N) = Phi m c cfg0.N from rfl, PhiA_eq]
  unfold Phi
  iintro ⟨⟨%d, %hd, HS⟩, Hg⟩
  isplitl [HS]
  · iexists d; iexact HS
  iexact Hg

/-- The proof data read relationally. -/
abbrev rdat (c : Dev nD) : Pipeline.RDat τ (Elt F) Unit ℕ (UR sig nD τ) ℕ cfg0 c := (dats m 0 c).toRRel rel (Rl m c)

set_option backward.isDefEq.respectTransparency.types false in
/-- The run of @main: it ends, with every window's array accounted for and every counter at zero. -/
theorem run_main : θ_run defs (onTc (τ := τ) (main (F := F))) (s₀ m ρ) (fun r => (Pipeline.RDat.FramePost (cfgs 0) (rdat m) (V m)) r ∧ r.2.sem = fun _ => 0) :=
  Pipeline.RDat.θ_run_frame_track_shared cfgs (0 : Fin 1) launch₀0 defs₀ Variants.none (rdat m) m ρ main
    (hbody := fun c => (body_obligation m c).toRRel) (hq := fun _ _ _ => rfl)
    (howed := fun _ _ => rfl) (V := V m) (hmain := hmain m Variants.none) (hA := A_eq m) (hin := hin m) (hout := hout m)
    (Q' := _) (hQ' := fun _ h => h)

/-- Every argument ends as it was. -/
theorem args_kept (r : PUnit × MemSt nD τ sig (Elt F)) (h : Pipeline.RDat.FramePost (cfgs 0) (rdat m) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

/-- The run of @main ends with every argument as it was and every counter at zero. -/
theorem frame : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7)) ∧ r.2.sem = fun _ => 0) :=
  (θ_run defs _ _).mono (fun r h => ⟨fun c => args_kept m r h.1 c, h.2⟩) (run_main m ρ)

end Cert.MixIdeal.Run

end
-- ==== Proof.MixPay.lean ====
module

public import proofs.«01_k».proof.Proof.MixFrame
public import proofs.«01_k».proof.Proof.RmsDot
public import Idealize.ShloMosaic.Lib.Pipeline.ValueKit

/-!
  The mixing kernel's stores, element by element over the ideal reals: the two column stores of a point are the gated
  sum at the block's columns, its scratch update adds the squares of four of those columns to a lane, and the last
  point's store is the residual plus the rescaled row.
-/

@[expose] public section

set_option maxRecDepth 16384

noncomputable section

namespace Cert.MixIdeal.Run

open Cert.MixIdeal Cert.MixIdeal.Gen Idealize.ShloMosaic

/-- A gate's logistic value times a mixer's projected output. -/
def gated {n : ℕ} (h wg : Fin 2048 → EReal) (o w : Fin n → EReal) : EReal :=
  Ideal.logistic (∑ k, h k * wg k) * ∑ k, o k * w k

/-- The sum of the squares of four columns, 128 apart. -/
def sq4 (f : Fin 512 → EReal) (l : Fin 128) : EReal := ∑ q : Fin 4, f ⟨q.val * 128 + l.val, by omega⟩ * f ⟨q.val * 128 + l.val, by omega⟩

section
variable {F : FTy → Type} [FloatOps F]
theorem wl_at (x : Vec F S2048x512 .bf16) (k : Fin 2048) (l : Fin 256) : wl x (ix2 k l) = x (ix2 k ⟨l.val, by omega⟩) := by
  unfold wl VecWindow.window
  exact congrArg x (funext fun a => Fin.ext (by fin_cases a <;> simp))
theorem ul_at (x : Vec F S768x512 .bf16) (k : Fin 768) (l : Fin 256) : ul x (ix2 k l) = x (ix2 k ⟨l.val, by omega⟩) := by
  unfold ul VecWindow.window
  exact congrArg x (funext fun a => Fin.ext (by fin_cases a <;> simp))
theorem tl_at (x : Vec F S512x512 .bf16) (k : Fin 512) (l : Fin 256) : tl x (ix2 k l) = x (ix2 k ⟨l.val, by omega⟩) := by
  unfold tl VecWindow.window
  exact congrArg x (funext fun a => Fin.ext (by fin_cases a <;> simp))
theorem wh_at (x : Vec F S2048x512 .bf16) (k : Fin 2048) (l : Fin 256) : wh x (ix2 k l) = x (ix2 k ⟨256 + l.val, by omega⟩) := by
  unfold wh VecWindow.window
  exact congrArg x (funext fun a => Fin.ext (by fin_cases a <;> simp))
theorem uh_at (x : Vec F S768x512 .bf16) (k : Fin 768) (l : Fin 256) : uh x (ix2 k l) = x (ix2 k ⟨256 + l.val, by omega⟩) := by
  unfold uh VecWindow.window
  exact congrArg x (funext fun a => Fin.ext (by fin_cases a <;> simp))
theorem th_at (x : Vec F S512x512 .bf16) (k : Fin 512) (l : Fin 256) : th x (ix2 k l) = x (ix2 k ⟨256 + l.val, by omega⟩) := by
  unfold th VecWindow.window
  exact congrArg x (funext fun a => Fin.ext (by fin_cases a <;> simp))

/-- A column of a row tile that the two column stores do not reach stays. -/
theorem outNext_out (i : grid0.Coords) (x1 : Vec F S512x2048 .bf16) (x2 x3 : Vec F S512x768 .bf16) (x4 : Vec F S512x512 .bf16) (x5 x6 x7 : Vec F S2048x512 .bf16) (x8 x9 : Vec F S768x512 .bf16) (x10 : Vec F S512x512 .bf16)
    (d : Vec F S512x2048 .f32) (r : Fin 512) (C : Fin 2048) (j : ℕ) (hj : k0_off1 i 0#32 = ![0, j * 512]) (hj' : k0_off1 i 256#32 = ![0, j * 512 + 256]) (h : C.val < j * 512 ∨ j * 512 + 512 ≤ C.val) :
    outNext i x1 x2 x3 x4 x5 x6 x7 x8 x9 x10 d (ix2 r C) = d (ix2 r C) := by
  unfold outNext VecWindow.put
  rw [dif_neg, dif_neg]
  · intro hh; have := hh 1; rw [hj] at this; simp at this; omega
  · intro hh; have := hh 1; rw [hj'] at this; simp at this; omega
end

variable (x1 : Vec Ideal S512x2048 .bf16) (x2 x3 : Vec Ideal S512x768 .bf16) (x4 : Vec Ideal S512x512 .bf16)
  (x5 x6 x7 : Vec Ideal S2048x512 .bf16) (x8 x9 : Vec Ideal S768x512 .bf16) (x10 : Vec Ideal S512x512 .bf16)

/-- The gated sum at a row and a column of a block. -/
def cell (r l : Fin 512) : EReal :=
  gated (fun k => x1 (ix2 r k)) (fun k => x5 (ix2 k l)) (fun k => x2 (ix2 r k)) (fun k => x8 (ix2 k l))
  + gated (fun k => x1 (ix2 r k)) (fun k => x6 (ix2 k l)) (fun k => x3 (ix2 r k)) (fun k => x9 (ix2 k l))
  + gated (fun k => x1 (ix2 r k)) (fun k => x7 (ix2 k l)) (fun k => x4 (ix2 r k)) (fun k => x10 (ix2 k l))

/-- The first column store. -/
theorem lo_at (r : Fin 512) (l : Fin 256) : lo (F := Ideal) x1 x2 x3 x4 x5 x6 x7 x8 x9 x10 (ix2 r l) = cell x1 x2 x3 x4 x5 x6 x7 x8 x9 x10 r ⟨l.val, by omega⟩ := by
  pointwise [lo, k0_pay12, k0_pay5, k0_pay8, k0_pay10, k0_pay6, k0_pay7, k0_pay11, wl_at, ul_at, tl_at, cell, gated]

/-- The second column store. -/
theorem hi_at (r : Fin 512) (l : Fin 256) : hi (F := Ideal) x1 x2 x3 x4 x5 x6 x7 x8 x9 x10 (ix2 r l) = cell x1 x2 x3 x4 x5 x6 x7 x8 x9 x10 r ⟨256 + l.val, by omega⟩ := by
  pointwise [hi, mid, k0_pay1, k0_pay14, k0_pay5, k0_pay8, k0_pay15, k0_pay6, k0_pay7, k0_pay11, wh_at, uh_at, th_at, cell, gated]

/-- The scratch's update: the squares of the four columns of a lane. -/
theorem ssNext_at (s : Vec Ideal S512x128 .f32) (r : Fin 512) (l : Fin 128) :
    ssNext (F := Ideal) x1 x2 x3 x4 x5 x6 x7 x8 x9 x10 s (ix2 r l) = s (ix2 r l) + sq4 (cell x1 x2 x3 x4 x5 x6 x7 x8 x9 x10 r) l := by
  pointwise [ssNext, k0_pay2, k0_pay13, k0_pay9]
  have elo : k0_pay12 (k0_pay5 x1) (k0_pay8 x4) (k0_pay10 x1 x2 x3 (wl x5) (ul x8) (wl x6) (ul x9)) (k0_pay11 (wl x7)) (constant S512x256 .f32 0#32) (tl x10)
      = lo x1 x2 x3 x4 x5 x6 x7 x8 x9 x10 := rfl
  have ehi : k0_pay1 (k0_pay5 x1) (k0_pay8 x4) (mid x1 x2 x3 x4 x5 x6 x7 x8 x9 x10) (k0_pay15 (wh x7)) (th x10) = hi x1 x2 x3 x4 x5 x6 x7 x8 x9 x10 := rfl
  rw [elo, ehi, lo_at, lo_at, hi_at, hi_at]
  generalize cell x1 x2 x3 x4 x5 x6 x7 x8 x9 x10 r = f
  unfold sq4
  rw [Fin.sum_univ_four]
  have e0 : (⟨l.val, by omega⟩ : Fin 512) = ⟨(0 : Fin 4).val * 128 + l.val, by simp; omega⟩ := Fin.ext (by simp)
  have e1 : (⟨128 + l.val, by omega⟩ : Fin 512) = ⟨(1 : Fin 4).val * 128 + l.val, by simp; omega⟩ := Fin.ext (by simp)
  have e2 : (⟨256 + l.val, by omega⟩ : Fin 512) = ⟨(2 : Fin 4).val * 128 + l.val, by simp; omega⟩ := Fin.ext (by simp)
  have e3 : (⟨256 + (128 + l.val), by omega⟩ : Fin 512) = ⟨(3 : Fin 4).val * 128 + l.val, by simp; omega⟩ := Fin.ext (by simp; omega)
  simp only [← e0, ← e1, ← e2, ← e3, add_assoc]

/-- The clear of the scratch. -/
theorem clear_at (r : Fin 512) (l : Fin 128) : (k0_pay4 (F := Ideal)) (ix2 r l) = 0 := by
  pointwise [k0_pay4]

/-- The last point's store. -/
theorem fin_at (ss : Vec Ideal S512x128 .f32) (x o : Vec Ideal S512x2048 .f32) (g : Vec Ideal S1x2048 .f32) (r : Fin 512) (C : Fin 2048) :
    k0_pay3 (F := Ideal) ss x o g (ix2 r C) = x (ix2 r C) + o (ix2 r C)
      * Ideal.rsqrt (Ideal.div (∑ l : Fin 128, ss (ix2 r l)) (Ideal.ofBits .f32 0x45000000#32) + Ideal.ofBits .f32 0x358637BD#32) * g (ix2 0 C) := by
  pointwise [k0_pay3]

/-- A column of the row tile that the two column stores reach holds the gated sum. -/
theorem outNext_in (i : grid0.Coords) (d : Vec Ideal S512x2048 .f32) (r : Fin 512) (C : Fin 2048) (j : ℕ) (hj : k0_off1 i 0#32 = ![0, j * 512]) (hj' : k0_off1 i 256#32 = ![0, j * 512 + 256])
    (l : Fin 512) (h : C.val = j * 512 + l.val) :
    outNext (F := Ideal) i x1 x2 x3 x4 x5 x6 x7 x8 x9 x10 d (ix2 r C) = cell x1 x2 x3 x4 x5 x6 x7 x8 x9 x10 r l := by
  unfold outNext VecWindow.put
  by_cases hl : l.val < 256
  · rw [dif_neg, dif_pos]
    · refine Eq.trans ?_ (lo_at x1 x2 x3 x4 x5 x6 x7 x8 x9 x10 r ⟨l.val, hl⟩)
      exact congrArg _ (funext fun a => Fin.ext (by show _ - k0_off1 i 0#32 a = _; rw [hj]; fin_cases a <;> simp; omega))
    · intro a; rw [hj]; fin_cases a <;> simp <;> omega
    · intro hh; have := hh 1; rw [hj'] at this; simp at this; omega
  · rw [dif_pos]
    · refine Eq.trans ?_ ((hi_at x1 x2 x3 x4 x5 x6 x7 x8 x9 x10 r ⟨l.val - 256, by omega⟩).trans (congrArg _ (Fin.ext (by simp; omega))))
      exact congrArg _ (funext fun a => Fin.ext (by show _ - k0_off1 i 256#32 a = _; rw [hj']; fin_cases a <;> simp; omega))
    · intro a; rw [hj']; fin_cases a <;> simp <;> omega

end Cert.MixIdeal.Run

end
-- ==== Proof.MixBlock.lean ====
module

public import proofs.«01_k».proof.Proof.MixPay
public import Idealize.ShloMosaic.Lib.StableHlo.ReadAt
public import Idealize.ShloMosaic.Lib.Pipeline.ValueKit
public import Idealize.ShloMosaic.Lib.Claim

/-!
  The blocks the mixing kernel reads at a grid point, as elements of the layer's arguments.
-/

@[expose] public section

set_option maxRecDepth 16384

noncomputable section

namespace Cert.MixIdeal.Block

open Cert.MixIdeal Cert.MixIdeal.Gen Cert.MixIdeal.Run Idealize.ShloMosaic Idealize.SL.Sem Idealize.ShloMosaic.TcCoe

/-- The sequence of a flattened token. -/
def seq (R : Fin 16384) : Fin 8 := ⟨R.val / 2048, by omega⟩
/-- The position of a flattened token in its sequence. -/
def pos (R : Fin 16384) : Fin 2048 := ⟨R.val % 2048, by omega⟩
/-- The attention column of a column of the reordered attention output. -/
def hcol (l : Fin 768) : Fin 768 := ⟨l.val / 64 % 4 * 192 + l.val / 256 * 64 + l.val % 64, by omega⟩

/-- The reordering of the attention's columns loses none. -/
def hperm : Fin 768 ≃ Fin 768 where
  toFun := hcol
  invFun k := ⟨k.val / 64 % 3 * 256 + k.val / 192 * 64 + k.val % 64, by omega⟩
  left_inv := by decide +kernel
  right_inv := by decide +kernel

variable (m : (ℓ : Loc nD τ sig) → Buf (Elt Ideal) ℓ)

/-- Where each window's block lies at a grid point. -/
theorem idx : ∀ t : Fin cfg0.N, win0_0.index t = ![t.val / 4, 0] ∧ win0_1.index t = ![t.val / 4, 0] ∧ win0_2.index t = ![t.val / 4, 0]
    ∧ win0_3.index t = ![t.val / 4, 0] ∧ win0_4.index t = ![t.val / 4, 0] ∧ win0_5.index t = ![0, 5 + t.val % 4] ∧ win0_6.index t = ![0, 9 + t.val % 4]
    ∧ win0_7.index t = ![0, 13 + t.val % 4] ∧ win0_8.index t = ![0, t.val % 4] ∧ win0_9.index t = ![1, t.val % 4] ∧ win0_10.index t = ![3, t.val % 4]
    ∧ win0_11.index t = ![0, 0] ∧ win0_12.index t = ![t.val / 4, 0] :=
  (by decide +kernel : ∀ t : Fin grid0.N, win0_0.index t = ![t.val / 4, 0] ∧ win0_1.index t = ![t.val / 4, 0] ∧ win0_2.index t = ![t.val / 4, 0]
    ∧ win0_3.index t = ![t.val / 4, 0] ∧ win0_4.index t = ![t.val / 4, 0] ∧ win0_5.index t = ![0, 5 + t.val % 4] ∧ win0_6.index t = ![0, 9 + t.val % 4]
    ∧ win0_7.index t = ![0, 13 + t.val % 4] ∧ win0_8.index t = ![0, t.val % 4] ∧ win0_9.index t = ![1, t.val % 4] ∧ win0_10.index t = ![3, t.val % 4]
    ∧ win0_11.index t = ![0, 0] ∧ win0_12.index t = ![t.val / 4, 0])

/-- Where a point's two column stores lie in the row tile. -/
theorem offs : ∀ t : Fin cfg0.N, k0_off1 (grid0.coords t) 0#32 = ![0, t.val % 4 * 512] ∧ k0_off1 (grid0.coords t) 256#32 = ![0, t.val % 4 * 512 + 256] :=
  (by decide +kernel : ∀ t : Fin grid0.N, k0_off1 (grid0.coords t) 0#32 = ![0, t.val % 4 * 512] ∧ k0_off1 (grid0.coords t) 256#32 = ![0, t.val % 4 * 512 + 256])

theorem x_at (c : Dev nD) (R : Fin 16384) (k : Fin 2048) : V m c main_v5 (ix2 R k) = m (c.tc.loc main_arg0) (ix3 (seq R) (pos R) k) := by
  unfold V seq pos
  after_reads_at
theorem h_at (c : Dev nD) (R : Fin 16384) (k : Fin 2048) : V m c main_v6 (ix2 R k) = m (c.tc.loc main_arg1) (ix3 (seq R) (pos R) k) := by
  unfold V seq pos
  after_reads_at
theorem oa_at (c : Dev nD) (R : Fin 16384) (k : Fin 768) : V m c main_v10 (ix2 R k) = m (c.tc.loc main_arg2) (ix3 (seq R) (pos R) (hcol k)) := by
  unfold V seq pos hcol
  after_reads_at
theorem os_at (c : Dev nD) (R : Fin 16384) (k : Fin 768) : V m c main_v11 (ix2 R k) = m (c.tc.loc main_arg3) (ix3 (seq R) (pos R) k) := by
  unfold V seq pos
  after_reads_at
theorem om_at (c : Dev nD) (R : Fin 16384) (k : Fin 512) : V m c main_v12 (ix2 R k) = m (c.tc.loc main_arg4) (ix3 (seq R) (pos R) k) := by
  unfold V seq pos
  after_reads_at
theorem win_at (c : Dev nD) (k : Fin 2048) (C : Fin 8704) : V m c main_v13 (ix2 k C) = m (c.tc.loc main_arg5) (ix2 k C) := by
  unfold V
  after_reads_at
theorem woa_at (c : Dev nD) (k : Fin 768) (C : Fin 2048) : V m c main_v4 (ix2 k C) = m (c.tc.loc main_arg6) (ix2 ⟨(hcol k).val, by omega⟩ C) := by
  unfold V hcol
  after_reads_at
theorem wout_at (c : Dev nD) (k : Fin 2048) (C : Fin 2048) : V m c main_v0 (ix2 k C) = m (c.tc.loc main_arg6) (ix2 k C) := by
  unfold V
  after_reads_at
theorem g_at (c : Dev nD) (C : Fin 2048) : V m c main_v14 (ix2 0 C) = m (c.tc.loc main_arg7) (ix1 C) := by
  unfold V
  after_reads_at

theorem block0_at (c : Dev nD) (t : Fin cfg0.N) (r : Fin 512) (k : Fin 2048) (R : Fin 16384) (hR : R.val = t.val / 4 * 512 + r.val) :
    iblk m c 0 t (ix2 r k) = V m c main_v5 (ix2 R k) := by
  blk_ext [iblk, idx t]
theorem block1_at (c : Dev nD) (t : Fin cfg0.N) (r : Fin 512) (k : Fin 2048) (R : Fin 16384) (hR : R.val = t.val / 4 * 512 + r.val) :
    iblk m c 1 t (ix2 r k) = V m c main_v6 (ix2 R k) := by
  blk_ext [iblk, idx t]
theorem block2_at (c : Dev nD) (t : Fin cfg0.N) (r : Fin 512) (k : Fin 768) (R : Fin 16384) (hR : R.val = t.val / 4 * 512 + r.val) :
    iblk m c 2 t (ix2 r k) = V m c main_v10 (ix2 R k) := by
  blk_ext [iblk, idx t]
theorem block3_at (c : Dev nD) (t : Fin cfg0.N) (r : Fin 512) (k : Fin 768) (R : Fin 16384) (hR : R.val = t.val / 4 * 512 + r.val) :
    iblk m c 3 t (ix2 r k) = V m c main_v11 (ix2 R k) := by
  blk_ext [iblk, idx t]
theorem block4_at (c : Dev nD) (t : Fin cfg0.N) (r : Fin 512) (k : Fin 512) (R : Fin 16384) (hR : R.val = t.val / 4 * 512 + r.val) :
    iblk m c 4 t (ix2 r k) = V m c main_v12 (ix2 R k) := by
  blk_ext [iblk, idx t]
theorem block5_at (c : Dev nD) (t : Fin cfg0.N) (k : Fin 2048) (l : Fin 512) (C : Fin 8704) (hC : C.val = 2560 + t.val % 4 * 512 + l.val) :
    iblk m c 5 t (ix2 k l) = V m c main_v13 (ix2 k C) := by
  blk_ext [iblk, idx t]
theorem block6_at (c : Dev nD) (t : Fin cfg0.N) (k : Fin 2048) (l : Fin 512) (C : Fin 8704) (hC : C.val = 4608 + t.val % 4 * 512 + l.val) :
    iblk m c 6 t (ix2 k l) = V m c main_v13 (ix2 k C) := by
  blk_ext [iblk, idx t]
theorem block7_at (c : Dev nD) (t : Fin cfg0.N) (k : Fin 2048) (l : Fin 512) (C : Fin 8704) (hC : C.val = 6656 + t.val % 4 * 512 + l.val) :
    iblk m c 7 t (ix2 k l) = V m c main_v13 (ix2 k C) := by
  blk_ext [iblk, idx t]
theorem block8_at (c : Dev nD) (t : Fin cfg0.N) (k : Fin 768) (l : Fin 512) (C : Fin 2048) (hC : C.val = t.val % 4 * 512 + l.val) :
    iblk m c 8 t (ix2 k l) = V m c main_v4 (ix2 k C) := by
  blk_ext [iblk, idx t]
theorem block9_at (c : Dev nD) (t : Fin cfg0.N) (k : Fin 768) (l : Fin 512) (C : Fin 2048) (hC : C.val = t.val % 4 * 512 + l.val) :
    X0_9 m c t (ix2 k l) = V m c main_v0 (ix2 ⟨768 + k.val, by omega⟩ C) := by
  unfold X0_9 Pipeline.Window.fill
  rw [dif_pos (moved0_9 t _)]
  blk_ext [iblk, idx t]
theorem block10_at (c : Dev nD) (t : Fin cfg0.N) (k : Fin 512) (l : Fin 512) (C : Fin 2048) (hC : C.val = t.val % 4 * 512 + l.val) :
    iblk m c 10 t (ix2 k l) = V m c main_v0 (ix2 ⟨1536 + k.val, by omega⟩ C) := by
  blk_ext [iblk, idx t]
theorem block11_at (c : Dev nD) (t : Fin cfg0.N) (C : Fin 2048) : iblk m c 11 t (ix2 0 C) = V m c main_v14 (ix2 0 C) := by
  blk_ext [iblk, idx t]

end Cert.MixIdeal.Block

end
-- ==== Proof.MixValue.lean ====
module

public import proofs.«01_k».proof.Proof.MixBlock

/-!
  What the mixing kernel computes, as a function of the layer's arguments: for each token the three gated projections
  summed, divided by their root mean square, weighted and added to the residual; and the run that ends with it.
-/

@[expose] public section

set_option maxRecDepth 16384

noncomputable section

namespace Cert.MixIdeal.Block

open Cert.MixIdeal Cert.MixIdeal.Gen Cert.MixIdeal.Run Idealize.ShloMosaic Idealize.SL.Sem Idealize.ShloMosaic.TcCoe
open Cert.Rms

/-- A gated product with the summed columns in another order. -/
theorem gated_perm (h wg : Fin 2048 → EReal) (o w : Fin 768 → EReal) :
    gated h wg (fun k => o (hcol k)) (fun k => w (hcol k)) = gated h wg o w := by
  unfold gated
  exact congrArg (_ * ·) (Equiv.sum_comp hperm fun k => o k * w k)

/-- The three gated projections of token `R` at column `C`, summed. -/
def merged (h : FVec Ideal S8x2048x2048 .bf16) (oa os : FVec Ideal S8x2048x768 .bf16) (om : FVec Ideal S8x2048x512 .bf16)
    (win : FVec Ideal S2048x8704 .f32) (wout : FVec Ideal S2048x2048 .f32) (R : Fin 16384) (C : Fin 2048) : EReal :=
  gated (fun k => h (ix3 (seq R) (pos R) k)) (fun k => win (ix2 k ⟨2560 + C.val, by omega⟩)) (fun k => oa (ix3 (seq R) (pos R) k)) (fun k => wout (ix2 ⟨k.val, by omega⟩ C))
  + gated (fun k => h (ix3 (seq R) (pos R) k)) (fun k => win (ix2 k ⟨4608 + C.val, by omega⟩)) (fun k => os (ix3 (seq R) (pos R) k)) (fun k => wout (ix2 ⟨768 + k.val, by omega⟩ C))
  + gated (fun k => h (ix3 (seq R) (pos R) k)) (fun k => win (ix2 k ⟨6656 + C.val, by omega⟩)) (fun k => om (ix3 (seq R) (pos R) k)) (fun k => wout (ix2 ⟨1536 + k.val, by omega⟩ C))

/-- The residual of token `R` plus the normalised, weighted mixture. -/
def mixed (x : FVec Ideal S8x2048x2048 .f32) (h : FVec Ideal S8x2048x2048 .bf16) (oa os : FVec Ideal S8x2048x768 .bf16) (om : FVec Ideal S8x2048x512 .bf16)
    (win : FVec Ideal S2048x8704 .f32) (wout : FVec Ideal S2048x2048 .f32) (g : FVec Ideal S2048 .f32) (R : Fin 16384) (C : Fin 2048) : EReal :=
  x (ix3 (seq R) (pos R) C) + merged h oa os om win wout R C * scale (merged h oa os om win wout R) * g (ix1 C)

variable (m : (ℓ : Loc nD τ sig) → Buf (Elt Ideal) ℓ) (ρ : Dev nD → PrngReg)

/-- The mixture of the launched arguments. -/
abbrev mergedAt (c : Dev nD) : Fin 16384 → Fin 2048 → EReal :=
  merged (m (c.tc.loc main_arg1)) (m (c.tc.loc main_arg2)) (m (c.tc.loc main_arg3)) (m (c.tc.loc main_arg4)) (m (c.tc.loc main_arg5)) (m (c.tc.loc main_arg6))

/-- The gated sum of a grid point's blocks. -/
abbrev cellAt (c : Dev nD) (t : Fin cfg0.N) : Fin 512 → Fin 512 → EReal :=
  cell (iblk m c 1 t) (iblk m c 2 t) (iblk m c 3 t) (iblk m c 4 t) (iblk m c 5 t) (iblk m c 6 t) (iblk m c 7 t) (iblk m c 8 t) (X0_9 m c t) (iblk m c 10 t)

/-- A point's gated sum is the mixture at its token and column. -/
theorem cell_eq (c : Dev nD) (t : Fin cfg0.N) (r l : Fin 512) (R : Fin 16384) (C : Fin 2048)
    (hR : R.val = t.val / 4 * 512 + r.val) (hC : C.val = t.val % 4 * 512 + l.val) : cellAt m c t r l = mergedAt m c R C := by
  unfold cellAt cell mergedAt merged
  refine congrArg₂ (· + ·) (congrArg₂ (· + ·) ?_ ?_) ?_
  · refine Eq.trans ?_ (gated_perm _ _ (fun k => m (c.tc.loc main_arg2) (ix3 (seq R) (pos R) k)) fun k => m (c.tc.loc main_arg6) (ix2 ⟨k.val, by omega⟩ C))
    congr 1 <;> funext k
    · rw [block1_at m c t r k R hR, h_at]
    · rw [block5_at m c t k l ⟨2560 + C.val, by omega⟩ (by simp only; omega), win_at]
    · rw [block2_at m c t r k R hR, oa_at]
    · rw [block8_at m c t k l C hC, woa_at]
  · congr 1 <;> funext k
    · rw [block1_at m c t r k R hR, h_at]
    · rw [block6_at m c t k l ⟨4608 + C.val, by omega⟩ (by simp only; omega), win_at]
    · rw [block3_at m c t r k R hR, os_at]
    · rw [block9_at m c t k l C hC, wout_at]
  · congr 1 <;> funext k
    · rw [block1_at m c t r k R hR, h_at]
    · rw [block7_at m c t k l ⟨6656 + C.val, by omega⟩ (by simp only; omega), win_at]
    · rw [block4_at m c t r k R hR, om_at]
    · rw [block10_at m c t k l C hC, wout_at]

/-- The row tile after a point holds the mixture in every column stored since its row was begun. -/
theorem out_at (c : Dev nD) (d : Vec Ideal S512x2048 .f32) (r : Fin 512) (R : Fin 16384) (C : Fin 2048) : ∀ (s : ℕ) (t : Fin cfg0.N), t.val % 4 = s →
    R.val = t.val / 4 * 512 + r.val → C.val < (s + 1) * 512 → outAt m c d t.val t.isLt (ix2 r C) = mergedAt m c R C := by
  intro s
  induction s with
  | zero =>
    intro t hs hR hC
    rw [outAt_first m c d t hs]
    unfold outStep
    rw [outNext_in _ _ _ _ _ _ _ _ _ _ _ _ r C (t.val % 4) (offs t).1 (offs t).2 ⟨C.val, by omega⟩ (by simp only; omega)]
    exact cell_eq m c t r _ R C hR (by simp only; omega)
  | succ s ih =>
    intro t hs hR hC
    have h' : t.val - 1 < cfg0.N := lt_of_le_of_lt (Nat.sub_le _ _) t.isLt
    rw [outAt_next m c d t (by omega) h']
    unfold outStep
    by_cases hlt : C.val < (s + 1) * 512
    · rw [outNext_out _ _ _ _ _ _ _ _ _ _ _ _ r C (t.val % 4) (offs t).1 (offs t).2 (.inl (by omega))]
      exact ih ⟨t.val - 1, h'⟩ (by simp only; omega) (by simp only; omega) hlt
    · rw [outNext_in _ _ _ _ _ _ _ _ _ _ _ _ r C (t.val % 4) (offs t).1 (offs t).2 ⟨C.val - t.val % 4 * 512, by omega⟩ (by simp only; omega)]
      exact cell_eq m c t r _ R C hR (by simp only; omega)

/-- The squares of the columns of the first `s + 1` blocks, folded to lanes. -/
def cols (M : Fin 2048 → EReal) (s : ℕ) (hs : s < 4) (l : Fin 128) : EReal :=
  ∑ j : Fin (s + 1), sq4 (fun q => M ⟨j.val * 512 + q.val, by omega⟩) l

/-- The scratch after a point holds the squares of every column stored since its row was begun. -/
theorem ss_at (c : Dev nD) (r : Fin 512) (l : Fin 128) (R : Fin 16384) : ∀ (s : ℕ) (hs4 : s < 4) (t : Fin cfg0.N), t.val % 4 = s →
    R.val = t.val / 4 * 512 + r.val → ssAt m c t.val t.isLt (ix2 r l) = cols (mergedAt m c R) s hs4 l := by
  intro s
  induction s with
  | zero =>
    intro hs4 t hs hR
    rw [ssAt_first m c t hs]
    unfold ssStep
    rw [ssNext_at, clear_at, zero_add]
    unfold cols
    rw [Fin.sum_univ_one]
    refine congrArg (fun f => sq4 f l) (funext fun q => ?_)
    exact cell_eq m c t r q R _ hR (by simp only [Fin.val_zero]; omega)
  | succ s ih =>
    intro hs4 t hs hR
    have h' : t.val - 1 < cfg0.N := lt_of_le_of_lt (Nat.sub_le _ _) t.isLt
    rw [ssAt_next m c t (by omega) h']
    unfold ssStep
    rw [ssNext_at]
    unfold cols
    rw [Fin.sum_univ_castSucc]
    refine congrArg₂ (· + ·) ?_ ?_
    · exact ih (by omega) ⟨t.val - 1, h'⟩ (by simp only; omega) (by simp only; omega)
    · refine congrArg (fun f => sq4 f l) (funext fun q => ?_)
      exact cell_eq m c t r q R _ hR (by simp only [Fin.val_last]; omega)

/-- The lanes of the four blocks together are the row's squares. -/
theorem cols_sum (M : Fin 2048 → EReal) : ∑ l : Fin 128, cols M 3 (by omega) l = ∑ C, M C * M C := by
  unfold cols
  rw [Finset.sum_comm]
  refine Eq.trans (Finset.sum_congr rfl fun j _ => ?_) (Fin.sum_mul_add_congr (S := 4) (n := 512) (F := fun j (p : Fin 512) => M ⟨j.val * 512 + p.val, by omega⟩ * M ⟨j.val * 512 + p.val, by omega⟩) fun j p hl => rfl)
  unfold sq4
  rw [Finset.sum_comm]
  exact Fin.sum_mul_add_congr (S := 4) (n := 128) fun q l hl => rfl

/-- What the row tile holds when it is written back. -/
theorem fin_eq (c : Dev nD) (d : Vec Ideal S512x2048 .f32) (t : Fin cfg0.N) (ht : t.val % 4 = 3) (r : Fin 512) (C : Fin 2048) (R : Fin 16384) (hR : R.val = t.val / 4 * 512 + r.val) :
    finAt m c d t (ix2 r C) = mixed (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) R C := by
  unfold finAt
  rw [fin_at, out_at m c d r R C 3 t ht hR (by omega), block0_at m c t r C R hR, x_at, block11_at, g_at,
    Finset.sum_congr rfl fun l _ => ss_at m c r l R 3 (by omega) t ht hR, cols_sum]
  rfl

/-- The mixing kernel runs, its result is the mixture added to the residual, and its arguments end unchanged. -/
theorem run : θ_run defs (onTc (τ := τ) (main (F := Ideal))) ⟨m, fun _ => 0, ρ⟩ fun r => ∀ c : Dev nD,
      (r.2.mem ((c : Thread nD τ).loc main_v15) = fun y : S16384x2048.Idx => mixed (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (y 0) (y 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  refine (θ_run defs _ _).mono (fun r h c => ⟨?_, args_kept m r h.1 c⟩) (run_main m ρ)
  obtain ⟨after, hl, ha⟩ := Pipeline.RDat.FramePost.exists_exact h.1 c
  refine (ha 12).trans ?_
  refine ((rdat m c).withAfter after).arrAt_eq_of_covers 12 _ (by decide +kernel) fun t hf y => ?_
  have h3 : t.val % 4 = 3 := (flush0_12 t).mp hf
  obtain ⟨d, hd⟩ := (dats m 0 c).toRRel_leaves (w := 12) rfl (hl 12 t hf)
  rw [if_pos h3] at hd
  blk_simp
  have h0 : ((((win0_12.blk t).view.emb y) 0 : Fin 16384) : ℕ) = t.val / 4 * 512 + (y 0).val := by blk_simp [idx t]
  have h1 : (((win0_12.blk t).view.emb y) 1 : Fin 2048) = y 1 := by
    apply Fin.ext
    blk_simp [idx t]
  refine (congrFun hd y).trans ?_
  have hy : y = ix2 (y 0) (y 1) := by funext a; fin_cases a <;> rfl
  refine (congrArg (finAt m c d t) hy).trans ((fin_eq m c d t h3 (y 0) (y 1) _ h0).trans ?_)
  exact congrArg (mixed (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) _) h1.symm

end Cert.MixIdeal.Block

end
-- ==== Proof.MixClaims.lean ====
module

public import proofs.«01_k».proof.Defs
public import proofs.«01_k».proof.Proof.Gen.RefMixIdeal.Run
public import proofs.«01_k».proof.Proof.Gen.RefMixIdeal.Read
public import proofs.«01_k».proof.Proof.Gen.Mix.Frame
public import proofs.«01_k».proof.Proof.MixValue

/-!
The claims about the mixing step: its frames, and that its result is the reference's.
-/

@[expose] public section

set_option maxRecDepth 16384

noncomputable section

namespace Cert.Proof.Mix

open Idealize.ShloMosaic Idealize.SL.Sem Cert.MixIdeal.Block Cert.MixIdeal.Run Cert.RefMixIdeal Cert.RefMixIdeal.Read

/-- The printed kernel's body is the idealized one's: their texts are the same. -/
theorem defs₀_eq : Cert.Mix.defs₀ (F := Bits) = Cert.MixIdeal.defs₀ (F := Bits) := by
  refine congrArg Defs.onTc (funext fun l => funext fun a => ?_)
  obtain ⟨n, hn⟩ := l
  match n, hn with
  | 0, _ => rfl
  | n + 1, h => exact absurd h (Nat.not_lt.2 (Nat.le_add_left _ _))

/-- And so are its procedures. -/
theorem defs_eq : Cert.Mix.defs (F := Bits) = Cert.MixIdeal.defs (F := Bits) := congrArg (Pipeline.defs _) defs₀_eq

/-- The kernel as printed runs and keeps its arguments. -/
theorem frame_kernel : Cert.quiescent_Mix := fun m ρ _ => by
  rw [defs_eq]
  exact Cert.MixIdeal.Run.frame (F := Bits) m ρ

/-- The idealized kernel runs and keeps its arguments. -/
theorem frame_ideal : Cert.quiescent_MixIdeal := fun m ρ _ => Cert.MixIdeal.Run.frame (F := Ideal) m ρ

/-- The reference runs and keeps its arguments; it declares no semaphore. -/
theorem frame_reference : Cert.quiescent_RefMixIdeal := fun m ρ _ =>
  (θ_run Cert.RefMixIdeal.defs _ _).mono (fun r h => ⟨fun c => (h c).2, sem_eq_zero_of_no_sems (by decide) r.2⟩)
    (Cert.RefMixIdeal.Value.run (F := Ideal) m ρ)

variable (x : FVec Ideal S8x2048x2048 .f32) (h : FVec Ideal S8x2048x2048 .bf16) (oa os : FVec Ideal S8x2048x768 .bf16) (om : FVec Ideal S8x2048x512 .bf16)
    (win : FVec Ideal S2048x8704 .f32) (wout : FVec Ideal S2048x2048 .f32) (g : FVec Ideal S2048 .f32)

/-- The reference's gates at an element. -/
theorem gate_at (b : Fin 8) (p : Fin 2048) (j : Fin 3) (C : Fin 2048) : val_main_v12 (F := Ideal) h win (ix4 b p j C)
    = Ideal.logistic (∑ k : Fin 2048, h (ix3 b p k) * win (ix2 k ⟨2560 + (j.val * 2048 + C.val), by omega⟩)) := by
  pointwise [val_main_v12, val_main_v11, val_main_v10, val_main_v9, val_main_v8, val_main_v7, val_main_v6, val_main_v5, val_main_v4, val_main_v0, val_main_cst, val_main_cst_0]
  rfl

/-- The reference's mixture at an element. -/
theorem merged_at (R : Fin 16384) (C : Fin 2048) : val_main_v29 (F := Ideal) h oa os om win wout (ix3 (seq R) (pos R) C) = merged h oa os om win wout R C := by
  pointwise [val_main_v29, val_main_v28, val_main_v27, val_main_v26, val_main_v25, val_main_v24, val_main_v23, val_main_v22, val_main_v21, val_main_v20,
    val_main_v19, val_main_v18, val_main_v17, val_main_v16, val_main_v15, val_main_v14, val_main_v13, val_main_v1, val_main_v2, val_main_v3, gate_at, merged, gated]
  have e1 : ∀ p, (⟨2560 + (2048 + C.val), p⟩ : Fin 8704) = ⟨4608 + C.val, by omega⟩ := fun _ => Fin.ext (by simp only; omega)
  have e2 : ∀ p, (⟨2560 + (4096 + C.val), p⟩ : Fin 8704) = ⟨6656 + C.val, by omega⟩ := fun _ => Fin.ext (by simp only; omega)
  simp only [e1, e2]

/-- The reference's result. -/
theorem result_eq : val_main_v44 (F := Ideal) x h oa os om win wout g = fun y : S16384x2048.Idx => mixed x h oa os om win wout g (y 0) (y 1) := by
  funext y
  idx_vars y
  pointwise [val_main_v44, val_main_v43, val_main_v42, val_main_v41, val_main_v40, val_main_v39, val_main_v38, val_main_v37, val_main_v36, val_main_v35, val_main_v34,
    val_main_v33, val_main_v32, val_main_v31, val_main_v30, val_main_cst_1, val_main_cst_2, val_main_cst_3, mixed, Cert.Rms.scale]
  have e : ∀ z : Fin 2048, val_main_v29 (F := Ideal) h oa os om win wout (ix3 ⟨y0.val / 2048, by omega⟩ ⟨y0.val % 2048, by omega⟩ z) = merged h oa os om win wout y0 z :=
    merged_at h oa os om win wout y0
  simp only [e]
  rfl

/-- The kernel's result is the reference's, element by element. -/
theorem algebraic : Cert.algebraic_MixIdeal_RefMixIdeal := by
  intro m ρ m' ρ' _ hag
  refine ⟨_, run m ρ, ?_⟩
  refine (θ_run _ _ _).mono (fun r h c => ⟨?_, (h c).2⟩) (Cert.RefMixIdeal.Value.run (F := Ideal) m' ρ')
  refine (h c).1.trans ((val_main_v44_eq _ _).trans ?_)
  obtain ⟨h0, h1, h2, h3, h4, h5, h6, h7⟩ := hag c
  rw [h0, h1, h2, h3, h4, h5, h6, h7]
  exact result_eq _ _ _ _ _ _ _ _

end Cert.Proof.Mix

end
-- ==== Proof.ProjPay.lean ====
module

public import proofs.«01_k».proof.Proof.Gen.ProjIdeal.Value
public import proofs.«01_k».proof.Proof.RmsDot
public import Idealize.ShloMosaic.Lib.UnfoldOut

/-!
What one grid point of the input projections writes to each of its five output blocks.
-/

@[expose] public section

set_option maxRecDepth 16384

noncomputable section

namespace Cert.ProjIdeal.Pay

open Cert.ProjIdeal Cert.ProjIdeal.Gen Idealize.ShloMosaic Idealize.SL.Sem Idealize.ShloMosaic.TcCoe
open Cert.Rms

variable (x0 : FVec Ideal S512x2048 .f32) (x1 : FVec Ideal S1x2048 .f32) (x2 : FVec Ideal S2048x768 .bf16)
  (x3 x4 x5 x6 x7 : FVec Ideal S2048x256 .bf16) (x8 : FVec Ideal S2048x512 .bf16)

/-- The queries' block: the normalised rows against the whole query weight. -/
theorem out9_eq : out0_9 (F := Ideal) x0 x1 x2 x3 x4 x5 x6 x7 x8
      = fun y => normDot (fun k => x0 (ix2 (y 0) k)) (fun k => x1 (ix2 0 k)) (fun k => x2 (ix2 k (y 1))) := by
  funext y
  refine (congrFun (View.canon_unit_zero (by decide) inb_S512x768_S512x768_0_0 _) y).trans ?_
  idx_vars y
  pointwise [k0_pay4, k0_pay3, normDot, scale]

/-- The memory queries' block. -/
theorem out12_eq : out0_12 (F := Ideal) x0 x1 x2 x3 x4 x5 x6 x7 x8
      = fun y => normDot (fun k => x0 (ix2 (y 0) k)) (fun k => x1 (ix2 0 k)) (fun k => x8 (ix2 k (y 1))) := by
  funext y
  refine (congrFun (View.canon_unit_zero (by decide) inb_S512x512_S512x512_0_0 _) y).trans ?_
  idx_vars y
  pointwise [k0_pay2, k0_pay7, k0_pay3, normDot, scale]

/-- A normalised element of a row block. -/
def nrow (x0 : FVec Ideal S512x2048 .f32) (x1 : FVec Ideal S1x2048 .f32) (r : Fin 512) (k : Fin 2048) : EReal :=
  x0 (ix2 r k) * scale (fun k => x0 (ix2 r k)) * x1 (ix2 0 k)

/-- The normalised rows' block. -/
theorem out13_eq : out0_13 (F := Ideal) x0 x1 x2 x3 x4 x5 x6 x7 x8
      = fun y => nrow x0 x1 (y 0) (y 1) := by
  funext y
  refine (congrFun (View.canon_unit_zero (by decide) inb_S512x2048_S512x2048_0_0 _) y).trans ?_
  idx_vars y
  pointwise [k0_pay7, k0_pay3, nrow, scale]

/-- An element of two column blocks laid side by side. -/
def two (u v : FVec Ideal S2048x256 .bf16) (k : Fin 2048) (l : Fin 512) : EReal :=
  if h : l.val < 256 then u (ix2 k ⟨l.val, h⟩) else v (ix2 k ⟨l.val - 256, by omega⟩)

/-- An element of three column blocks laid side by side. -/
def three (u v w : FVec Ideal S2048x256 .bf16) (k : Fin 2048) (l : Fin 768) : EReal :=
  if h : l.val < 256 then u (ix2 k ⟨l.val, h⟩)
  else if h' : l.val - 256 < 256 then v (ix2 k ⟨l.val - 256, h'⟩) else w (ix2 k ⟨l.val - 256 - 256, by omega⟩)

/-- The keys' and values' block, whose columns come from two column blocks of the weight. -/
theorem out10_eq : out0_10 (F := Ideal) x0 x1 x2 x3 x4 x5 x6 x7 x8
      = fun y => normDot (fun k => x0 (ix2 (y 0) k)) (fun k => x1 (ix2 0 k)) (fun k => two x3 x4 k (y 1)) := by
  funext y
  refine (congrFun (View.canon_unit_zero (by decide) inb_S512x512_S512x512_0_0 _) y).trans ?_
  idx_vars y
  pointwise [k0_pay5, k0_pay3, normDot, scale, two]
  split <;> rfl

/-- The recurrence's input block, whose columns come from three column blocks of the weight. -/
theorem out11_eq : out0_11 (F := Ideal) x0 x1 x2 x3 x4 x5 x6 x7 x8
      = fun y => normDot (fun k => x0 (ix2 (y 0) k)) (fun k => x1 (ix2 0 k)) (fun k => three x5 x6 x7 k (y 1)) := by
  funext y
  refine (congrFun (View.canon_unit_zero (by decide) inb_S512x768_S512x768_0_0 _) y).trans ?_
  idx_vars y
  pointwise [k0_pay1, k0_pay6, k0_pay7, k0_pay3, normDot, scale, three]
  split
  · rfl
  · split <;> rfl

end Cert.ProjIdeal.Pay

end
-- ==== Proof.ProjBlock.lean ====
module

public import proofs.«01_k».proof.Proof.ProjPay
public import Idealize.ShloMosaic.Lib.StableHlo.ReadAt
public import Idealize.ShloMosaic.Lib.Pipeline.ValueKit
public import Idealize.ShloMosaic.Lib.Claim

/-!
The input projections as functions of the layer's arguments: a normalised token against one column of the weight.
-/

@[expose] public section

set_option maxRecDepth 16384

noncomputable section

namespace Cert.ProjIdeal.Block

open Cert.ProjIdeal Cert.ProjIdeal.Gen Cert.ProjIdeal.Pay Idealize.ShloMosaic Idealize.SL.Sem Idealize.ShloMosaic.TcCoe
open Idealize.ShloMosaic.Pipeline (Dat)
open Cert.Rms

/-- The weight column of a query column: the columns are ordered (query of the group, head, lane) in the result and
    (head, query of the group, lane) in the weight. -/
def qcol (l : Fin 768) : Fin 8704 := ⟨l.val / 64 % 4 * 192 + l.val / 256 * 64 + l.val % 64, by omega⟩

/-- The weight column of a column of the keys and values. -/
def kvcol (l : Fin 512) : Fin 8704 := ⟨768 + l.val, by omega⟩

/-- The weight column of a column of the recurrence's input. -/
def ucol (l : Fin 768) : Fin 8704 := ⟨1280 + l.val, by omega⟩

/-- The weight column of a column of the memory queries. -/
def mcol (l : Fin 512) : Fin 8704 := ⟨2048 + l.val, by omega⟩

/-- Token `R` of the flattened prompt. -/
def tok (x : FVec Ideal S8x2048x2048 .f32) (R : Fin 16384) (k : Fin 2048) : EReal :=
  x (ix3 ⟨R.val / 2048, by omega⟩ ⟨R.val % 2048, by omega⟩ k)

/-- The normalised token `R` against column `C` of the weight. -/
def proj (x : FVec Ideal S8x2048x2048 .f32) (g : FVec Ideal S2048 .f32) (w : FVec Ideal S2048x8704 .f32)
    (R : Fin 16384) (C : Fin 8704) : EReal :=
  normDot (tok x R) (fun k => g (ix1 k)) (fun k => w (ix2 k C))

/-- The normalised token `R` at coordinate `k`. -/
def normed (x : FVec Ideal S8x2048x2048 .f32) (g : FVec Ideal S2048 .f32) (R : Fin 16384) (k : Fin 2048) : EReal :=
  tok x R k * scale (tok x R) * g (ix1 k)

variable (m : (ℓ : Loc nD τ sig) → Buf (Elt Ideal) ℓ) (ρ : Dev nD → PrngReg)

/-- Where each window's block lies at a grid point. -/
theorem idx : ∀ t : Fin cfg0.N, win0_0.index t = ![t.val, 0] ∧ win0_1.index t = ![0, 0] ∧ win0_2.index t = ![0, 0]
    ∧ win0_3.index t = ![0, 3] ∧ win0_4.index t = ![0, 4] ∧ win0_5.index t = ![0, 5] ∧ win0_6.index t = ![0, 6]
    ∧ win0_7.index t = ![0, 7] ∧ win0_8.index t = ![0, 4] ∧ win0_9.index t = ![t.val, 0] ∧ win0_10.index t = ![t.val, 0]
    ∧ win0_11.index t = ![t.val, 0] ∧ win0_12.index t = ![t.val, 0] ∧ win0_13.index t = ![t.val, 0] :=
  (by decide +kernel : ∀ t : Fin grid0.N, win0_0.index t = ![t.val, 0] ∧ win0_1.index t = ![0, 0] ∧ win0_2.index t = ![0, 0]
    ∧ win0_3.index t = ![0, 3] ∧ win0_4.index t = ![0, 4] ∧ win0_5.index t = ![0, 5] ∧ win0_6.index t = ![0, 6]
    ∧ win0_7.index t = ![0, 7] ∧ win0_8.index t = ![0, 4] ∧ win0_9.index t = ![t.val, 0] ∧ win0_10.index t = ![t.val, 0]
    ∧ win0_11.index t = ![t.val, 0] ∧ win0_12.index t = ![t.val, 0] ∧ win0_13.index t = ![t.val, 0])

/-- The flattened tokens, at an element. -/
theorem rows_at (c : Dev nD) (R : Fin 16384) (k : Fin 2048) :
    V m c main_v5 (ix2 R k) = tok (m (c.tc.loc main_arg0)) R k := by
  unfold V tok
  after_reads_at

/-- The gains as a row, at an element. -/
theorem gain_at (c : Dev nD) (k : Fin 2048) : V m c main_v6 (ix2 0 k) = m (c.tc.loc main_arg1) (ix1 k) := by
  unfold V
  after_reads_at

/-- The weight after its cast, at an element: the cast is the identity on ideal values. -/
theorem weight_at (c : Dev nD) (k : Fin 2048) (C : Fin 8704) :
    V m c main_v0 (ix2 k C) = m (c.tc.loc main_arg2) (ix2 k C) := by
  unfold V
  after_reads_at

/-- The query weight after its columns are reordered, at an element. -/
theorem queries_at (c : Dev nD) (k : Fin 2048) (l : Fin 768) :
    V m c main_v4 (ix2 k l) = m (c.tc.loc main_arg2) (ix2 k (qcol l)) := by
  unfold V qcol
  after_reads_at

/-- The token block of a grid point, at an element. -/
theorem block0_at (c : Dev nD) (t : Fin cfg0.N) (r : Fin 512) (k : Fin 2048) (R : Fin 16384) (hR : R.val = t.val * 512 + r.val) :
    iblk m c 0 t (ix2 r k) = V m c main_v5 (ix2 R k) := by
  blk_ext [iblk, idx t]

/-- The gains at a grid point. -/
theorem block1_at (c : Dev nD) (t : Fin cfg0.N) (k : Fin 2048) : iblk m c 1 t (ix2 0 k) = V m c main_v6 (ix2 0 k) := by
  blk_ext [iblk, idx t]

/-- The query weight at a grid point. -/
theorem block2_at (c : Dev nD) (t : Fin cfg0.N) (k : Fin 2048) (l : Fin 768) :
    iblk m c 2 t (ix2 k l) = V m c main_v4 (ix2 k l) := by
  blk_ext [iblk, idx t]

/-- The first half of the keys' and values' columns. -/
theorem block3_at (c : Dev nD) (t : Fin cfg0.N) (k : Fin 2048) (l : Fin 256) (C : Fin 8704) (hC : C.val = 768 + l.val) :
    iblk m c 3 t (ix2 k l) = V m c main_v0 (ix2 k C) := by
  blk_ext [iblk, idx t]

/-- The second half of the keys' and values' columns. -/
theorem block4_at (c : Dev nD) (t : Fin cfg0.N) (k : Fin 2048) (l : Fin 256) (C : Fin 8704) (hC : C.val = 1024 + l.val) :
    iblk m c 4 t (ix2 k l) = V m c main_v0 (ix2 k C) := by
  blk_ext [iblk, idx t]

/-- The first third of the columns of the recurrence's input. -/
theorem block5_at (c : Dev nD) (t : Fin cfg0.N) (k : Fin 2048) (l : Fin 256) (C : Fin 8704) (hC : C.val = 1280 + l.val) :
    iblk m c 5 t (ix2 k l) = V m c main_v0 (ix2 k C) := by
  blk_ext [iblk, idx t]

/-- The second third of the columns of the recurrence's input. -/
theorem block6_at (c : Dev nD) (t : Fin cfg0.N) (k : Fin 2048) (l : Fin 256) (C : Fin 8704) (hC : C.val = 1536 + l.val) :
    iblk m c 6 t (ix2 k l) = V m c main_v0 (ix2 k C) := by
  blk_ext [iblk, idx t]

/-- The last third of the columns of the recurrence's input. -/
theorem block7_at (c : Dev nD) (t : Fin cfg0.N) (k : Fin 2048) (l : Fin 256) (C : Fin 8704) (hC : C.val = 1792 + l.val) :
    iblk m c 7 t (ix2 k l) = V m c main_v0 (ix2 k C) := by
  blk_ext [iblk, idx t]

/-- The columns of the memory queries. -/
theorem block8_at (c : Dev nD) (t : Fin cfg0.N) (k : Fin 2048) (l : Fin 512) (C : Fin 8704) (hC : C.val = 2048 + l.val) :
    iblk m c 8 t (ix2 k l) = V m c main_v0 (ix2 k C) := by
  blk_ext [iblk, idx t]

/-- A row of the token block is a token. -/
theorem row_eq (c : Dev nD) (t : Fin cfg0.N) (r : Fin 512) (R : Fin 16384) (hR : R.val = t.val * 512 + r.val) :
    (fun k => iblk m c 0 t (ix2 r k)) = tok (m (c.tc.loc main_arg0)) R := by
  funext k
  rw [block0_at m c t r k R hR, rows_at]

/-- The gains of the block. -/
theorem gains_eq (c : Dev nD) (t : Fin cfg0.N) :
    (fun k => iblk m c 1 t (ix2 0 k)) = fun k => m (c.tc.loc main_arg1) (ix1 k) := by
  funext k
  rw [block1_at, gain_at]

/-- The query weight's column. -/
theorem qcol_eq (c : Dev nD) (t : Fin cfg0.N) (l : Fin 768) :
    (fun k => iblk m c 2 t (ix2 k l)) = fun k => m (c.tc.loc main_arg2) (ix2 k (qcol l)) := by
  funext k
  rw [block2_at, queries_at]

/-- A column of the keys and values, from whichever block holds it. -/
theorem kvcol_eq (c : Dev nD) (t : Fin cfg0.N) (l : Fin 512) :
    (fun k => two (iblk m c 3 t) (iblk m c 4 t) k l) = fun k => m (c.tc.loc main_arg2) (ix2 k (kvcol l)) := by
  funext k
  unfold two
  split
  · rw [block3_at m c t k _ (kvcol l) rfl, weight_at]
  · rw [block4_at m c t k _ (kvcol l) (by simp only [kvcol]; omega), weight_at]

/-- A column of the recurrence's input, from whichever block holds it. -/
theorem ucol_eq (c : Dev nD) (t : Fin cfg0.N) (l : Fin 768) :
    (fun k => three (iblk m c 5 t) (iblk m c 6 t) (iblk m c 7 t) k l) = fun k => m (c.tc.loc main_arg2) (ix2 k (ucol l)) := by
  funext k
  unfold three
  split
  · rw [block5_at m c t k _ (ucol l) rfl, weight_at]
  · split
    · rw [block6_at m c t k _ (ucol l) (by simp only [ucol]; omega), weight_at]
    · rw [block7_at m c t k _ (ucol l) (by simp only [ucol]; omega), weight_at]

/-- A column of the memory queries. -/
theorem mcol_eq (c : Dev nD) (t : Fin cfg0.N) (l : Fin 512) :
    (fun k => iblk m c 8 t (ix2 k l)) = fun k => m (c.tc.loc main_arg2) (ix2 k (mcol l)) := by
  funext k
  rw [block8_at m c t k l (mcol l) rfl, weight_at]

/-- The queries after the run. -/
theorem final9 (c : Dev nD) : (dats m 0 c).arrAt 9 cfg0.N = fun y : S16384x768.Idx =>
    proj (m (c.tc.loc main_arg0)) (m (c.tc.loc main_arg1)) (m (c.tc.loc main_arg2)) (y 0) (qcol (y 1)) := by
  refine (dats m 0 c).arrAt_eq_of_covers 9 _ (by decide +kernel) fun t hf y => ?_
  blk_simp
  rw [after0_9, out9_eq]
  have h0 : ((((win0_9.blk t).view.emb y) 0 : Fin 16384) : ℕ) = t.val * 512 + (y 0).val := by blk_simp [idx t]
  have h1 : (((win0_9.blk t).view.emb y) 1 : Fin 768) = y 1 := by
    apply Fin.ext
    blk_simp [idx t]
  refine (congr (congr (congrArg normDot (row_eq m c t (y 0) _ h0)) (gains_eq m c t)) (qcol_eq m c t (y 1))).trans ?_
  exact congrArg (fun l => proj (m (c.tc.loc main_arg0)) (m (c.tc.loc main_arg1)) (m (c.tc.loc main_arg2)) _ (qcol l)) h1.symm

/-- The keys and values after the run. -/
theorem final10 (c : Dev nD) : (dats m 0 c).arrAt 10 cfg0.N = fun y : S16384x512.Idx =>
    proj (m (c.tc.loc main_arg0)) (m (c.tc.loc main_arg1)) (m (c.tc.loc main_arg2)) (y 0) (kvcol (y 1)) := by
  refine (dats m 0 c).arrAt_eq_of_covers 10 _ (by decide +kernel) fun t hf y => ?_
  blk_simp
  rw [after0_10, out10_eq]
  have h0 : ((((win0_10.blk t).view.emb y) 0 : Fin 16384) : ℕ) = t.val * 512 + (y 0).val := by blk_simp [idx t]
  have h1 : (((win0_10.blk t).view.emb y) 1 : Fin 512) = y 1 := by
    apply Fin.ext
    blk_simp [idx t]
  refine (congr (congr (congrArg normDot (row_eq m c t (y 0) _ h0)) (gains_eq m c t)) (kvcol_eq m c t (y 1))).trans ?_
  exact congrArg (fun l => proj (m (c.tc.loc main_arg0)) (m (c.tc.loc main_arg1)) (m (c.tc.loc main_arg2)) _ (kvcol l)) h1.symm

/-- The recurrence's input after the run. -/
theorem final11 (c : Dev nD) : (dats m 0 c).arrAt 11 cfg0.N = fun y : S16384x768.Idx =>
    proj (m (c.tc.loc main_arg0)) (m (c.tc.loc main_arg1)) (m (c.tc.loc main_arg2)) (y 0) (ucol (y 1)) := by
  refine (dats m 0 c).arrAt_eq_of_covers 11 _ (by decide +kernel) fun t hf y => ?_
  blk_simp
  rw [after0_11, out11_eq]
  have h0 : ((((win0_11.blk t).view.emb y) 0 : Fin 16384) : ℕ) = t.val * 512 + (y 0).val := by blk_simp [idx t]
  have h1 : (((win0_11.blk t).view.emb y) 1 : Fin 768) = y 1 := by
    apply Fin.ext
    blk_simp [idx t]
  refine (congr (congr (congrArg normDot (row_eq m c t (y 0) _ h0)) (gains_eq m c t)) (ucol_eq m c t (y 1))).trans ?_
  exact congrArg (fun l => proj (m (c.tc.loc main_arg0)) (m (c.tc.loc main_arg1)) (m (c.tc.loc main_arg2)) _ (ucol l)) h1.symm

/-- The memory queries after the run. -/
theorem final12 (c : Dev nD) : (dats m 0 c).arrAt 12 cfg0.N = fun y : S16384x512.Idx =>
    proj (m (c.tc.loc main_arg0)) (m (c.tc.loc main_arg1)) (m (c.tc.loc main_arg2)) (y 0) (mcol (y 1)) := by
  refine (dats m 0 c).arrAt_eq_of_covers 12 _ (by decide +kernel) fun t hf y => ?_
  blk_simp
  rw [after0_12, out12_eq]
  have h0 : ((((win0_12.blk t).view.emb y) 0 : Fin 16384) : ℕ) = t.val * 512 + (y 0).val := by blk_simp [idx t]
  have h1 : (((win0_12.blk t).view.emb y) 1 : Fin 512) = y 1 := by
    apply Fin.ext
    blk_simp [idx t]
  refine (congr (congr (congrArg normDot (row_eq m c t (y 0) _ h0)) (gains_eq m c t)) (mcol_eq m c t (y 1))).trans ?_
  exact congrArg (fun l => proj (m (c.tc.loc main_arg0)) (m (c.tc.loc main_arg1)) (m (c.tc.loc main_arg2)) _ (mcol l)) h1.symm

/-- One element of the normalised block is the normalised token's. -/
theorem normed_block (c : Dev nD) (t : Fin cfg0.N) (r : Fin 512) (k : Fin 2048) (R : Fin 16384) (hR : R.val = t.val * 512 + r.val) :
    nrow (iblk m c 0 t) (iblk m c 1 t) r k
      = normed (m (c.tc.loc main_arg0)) (m (c.tc.loc main_arg1)) R k := by
  have h := row_eq m c t r R hR
  unfold nrow normed
  rw [h, block1_at, gain_at]
  exact congrArg (fun a => a * scale (tok (m (c.tc.loc main_arg0)) R) * m (c.tc.loc main_arg1) (ix1 k)) (congrFun h k)

/-- The normalised tokens after the run. -/
theorem final13 (c : Dev nD) : (dats m 0 c).arrAt 13 cfg0.N = fun y : S16384x2048.Idx =>
    normed (m (c.tc.loc main_arg0)) (m (c.tc.loc main_arg1)) (y 0) (y 1) := by
  refine (dats m 0 c).arrAt_eq_of_covers 13 _ (by decide +kernel) fun t hf y => ?_
  blk_simp
  rw [after0_13, out13_eq]
  have h0 : ((((win0_13.blk t).view.emb y) 0 : Fin 16384) : ℕ) = t.val * 512 + (y 0).val := by blk_simp [idx t]
  have h1 : (((win0_13.blk t).view.emb y) 1 : Fin 2048) = y 1 := by
    apply Fin.ext
    blk_simp [idx t]
  refine (normed_block m c t (y 0) (y 1) _ h0).trans ?_
  exact congrArg (normed (m (c.tc.loc main_arg0)) (m (c.tc.loc main_arg1)) _) h1.symm

/-- The run: the five results, and the arguments end unchanged. -/
theorem run : θ_run defs (onTc (τ := τ) (main (F := Ideal))) ⟨m, fun _ => 0, ρ⟩ fun r => ∀ c : Dev nD,
      (r.2.mem ((c : Thread nD τ).loc main_v7_0) = fun y : S16384x768.Idx =>
        proj (m (c.tc.loc main_arg0)) (m (c.tc.loc main_arg1)) (m (c.tc.loc main_arg2)) (y 0) (qcol (y 1)))
      ∧ (r.2.mem ((c : Thread nD τ).loc main_v7_1) = fun y : S16384x512.Idx =>
        proj (m (c.tc.loc main_arg0)) (m (c.tc.loc main_arg1)) (m (c.tc.loc main_arg2)) (y 0) (kvcol (y 1)))
      ∧ (r.2.mem ((c : Thread nD τ).loc main_v7_2) = fun y : S16384x768.Idx =>
        proj (m (c.tc.loc main_arg0)) (m (c.tc.loc main_arg1)) (m (c.tc.loc main_arg2)) (y 0) (ucol (y 1)))
      ∧ (r.2.mem ((c : Thread nD τ).loc main_v7_3) = fun y : S16384x512.Idx =>
        proj (m (c.tc.loc main_arg0)) (m (c.tc.loc main_arg1)) (m (c.tc.loc main_arg2)) (y 0) (mcol (y 1)))
      ∧ (r.2.mem ((c : Thread nD τ).loc main_v7_4) = fun y : S16384x2048.Idx =>
        normed (m (c.tc.loc main_arg0)) (m (c.tc.loc main_arg1)) (y 0) (y 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final9 m c), (h c).2.1.trans (final10 m c), (h c).2.2.1.trans (final11 m c),
    (h c).2.2.2.1.trans (final12 m c), (h c).2.2.2.2.1.trans (final13 m c), (h c).2.2.2.2.2⟩) (Value.run_blocks m ρ)

end Cert.ProjIdeal.Block

end
-- ==== Proof.ProjClaims.lean ====
module

public import proofs.«01_k».proof.Defs
public import proofs.«01_k».proof.Proof.Gen.Proj.Frame
public import proofs.«01_k».proof.Proof.Gen.RefProjIdeal.Read
public import proofs.«01_k».proof.Proof.ProjBlock

/-!
The claims about the input projections: their frames, and that the five results are the reference's.
-/

@[expose] public section

set_option maxRecDepth 16384

noncomputable section

namespace Cert.Proof.Proj

open Idealize.ShloMosaic Idealize.SL.Sem Cert.ProjIdeal.Block Cert.RefProjIdeal Cert.RefProjIdeal.Read

/-- The kernel as printed runs and keeps its arguments. -/
theorem frame_kernel : Cert.quiescent_Proj := fun m ρ _ => Cert.Proj.Gen.frame m ρ

/-- The idealized kernel runs and keeps its arguments. -/
theorem frame_ideal : Cert.quiescent_ProjIdeal := fun m ρ _ => Cert.ProjIdeal.Gen.frame m ρ

/-- The reference runs and keeps its arguments; it declares no semaphore. -/
theorem frame_reference : Cert.quiescent_RefProjIdeal := fun m ρ _ =>
  (θ_run Cert.RefProjIdeal.defs _ _).mono (fun r h => ⟨fun c => (h c).2.2.2.2.2, sem_eq_zero_of_no_sems (by decide) r.2⟩)
    (Cert.RefProjIdeal.Value.run (F := Ideal) m ρ)

variable (x : FVec Ideal S8x2048x2048 .f32) (g : FVec Ideal S2048 .f32) (w : FVec Ideal S2048x8704 .f32)

/-- The reference's normalised tokens at an element. -/
theorem normed_at (R : Fin 16384) (k : Fin 2048) : val_main_v13 (F := Ideal) x g (ix2 R k) = normed x g R k := by
  pointwise [val_main_v13, val_main_v12, val_main_v11, val_main_v10, val_main_v9, val_main_v8,
    val_main_v7, val_main_v6, val_main_v5, val_main_v4, val_main_v3, val_main_v2, val_main_v1, val_main_v0, val_main_cst,
    val_main_cst_0, val_main_cst_1, normed, tok, Cert.Rms.scale]

/-- The reference's projection at an element. -/
theorem proj_at (R : Fin 16384) (C : Fin 2560) :
    val_main_v15 (F := Ideal) x g w (ix2 R C) = proj x g w R ⟨C.val, by omega⟩ := by
  pointwise [val_main_v15, val_main_v14, normed_at, normed, proj, Cert.Rms.normDot]

/-- The reference's queries. -/
theorem queries_eq : val_main_v23 (F := Ideal) x g w = fun y : S16384x768.Idx => proj x g w (y 0) (qcol (y 1)) := by
  funext y
  idx_vars y
  pointwise [val_main_v23, val_main_v22, val_main_v21, val_main_v20, val_main_v16, proj_at, qcol]

/-- The reference's keys and values. -/
theorem kv_eq : val_main_v17 (F := Ideal) x g w = fun y : S16384x512.Idx => proj x g w (y 0) (kvcol (y 1)) := by
  funext y
  idx_vars y
  pointwise [val_main_v17, proj_at, kvcol]

/-- The reference's input to the recurrence. -/
theorem u_eq : val_main_v18 (F := Ideal) x g w = fun y : S16384x768.Idx => proj x g w (y 0) (ucol (y 1)) := by
  funext y
  idx_vars y
  pointwise [val_main_v18, proj_at, ucol]

/-- The reference's memory queries. -/
theorem qm_eq : val_main_v24 (F := Ideal) x g w = fun y : S16384x512.Idx => proj x g w (y 0) (mcol (y 1)) := by
  funext y
  idx_vars y
  pointwise [val_main_v24, val_main_v19, proj_at, mcol]

/-- The reference's normalised tokens. -/
theorem normed_eq : val_main_v25 (F := Ideal) x g = fun y : S16384x2048.Idx => normed x g (y 0) (y 1) := by
  funext y
  idx_vars y
  pointwise [val_main_v25, normed_at]

/-- The kernel's five results are the reference's, element by element. -/
theorem algebraic : Cert.algebraic_ProjIdeal_RefProjIdeal := by
  intro m ρ m' ρ' _ hag
  refine ⟨_, _, _, _, _, run m ρ, ?_⟩
  refine (θ_run _ _ _).mono (fun r h c => ⟨?_, ?_, ?_, ?_, ?_, (h c).2.2.2.2.2⟩) (Cert.RefProjIdeal.Value.run (F := Ideal) m' ρ')
  · refine (h c).1.trans ?_
    rw [(hag c).1, (hag c).2.1, (hag c).2.2]
    exact (val_main_v23_eq _ _ _).symm.trans (queries_eq _ _ _)
  · refine (h c).2.1.trans ?_
    rw [(hag c).1, (hag c).2.1, (hag c).2.2]
    exact (val_main_v17_eq _ _ _).symm.trans (kv_eq _ _ _)
  · refine (h c).2.2.1.trans ?_
    rw [(hag c).1, (hag c).2.1, (hag c).2.2]
    exact (val_main_v18_eq _ _ _).symm.trans (u_eq _ _ _)
  · refine (h c).2.2.2.1.trans ?_
    rw [(hag c).1, (hag c).2.1, (hag c).2.2]
    exact (val_main_v24_eq _ _ _).symm.trans (qm_eq _ _ _)
  · refine (h c).2.2.2.2.1.trans ?_
    rw [(hag c).1, (hag c).2.1]
    exact (val_main_v25_eq _ _).symm.trans (normed_eq _ _)

end Cert.Proof.Proj

end
-- ==== Proof.FfnStep.lean ====
module

public import proofs.«01_k».proof.Proof.Gen.FfnIdeal.Frame
public import proofs.«01_k».proof.Proof.Gen.FfnIdeal.Skeleton
public import Idealize.ShloMosaic.Lib.VecWindow
public import Idealize.ShloMosaic.Lib.Tactic
public import Idealize.ShloMosaic.Lib.Pipeline.Kit
public import Idealize.ShloMosaic.Lib.Pipeline.Value
public import Idealize.ShloMosaic.Lib.Pointwise

/-!
  The pure steps of one grid point of the feed-forward kernel, for any float interpretation. A point takes one tile of
  512 rows and two blocks of 512 hidden columns. For each block it forms the two projections of the normalised rows,
  stands the last eight rows of the tile before it in front of the first projection, convolves three consecutive rows,
  gates with the second projection and adds the product with the down projection to the output tile, 256 hidden
  columns at a time. The last eight rows of the first projection are kept for the next tile.
-/

@[expose] public section

set_option maxRecDepth 16384

noncomputable section

namespace Cert.FfnIdeal.Run

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Columns 0 to 255 of a block of 512 columns. -/
def wl (x : Vec F S2048x512 .bf16) : Vec F S2048x256 .bf16 := VecWindow.window x ![0, 0] S2048x256.size inb_S2048x512_S2048x256_0_0
/-- Columns 256 to 511 of a block of 512 columns. -/
def wh (x : Vec F S2048x512 .bf16) : Vec F S2048x256 .bf16 := VecWindow.window x ![0, 256] S2048x256.size inb_S2048x512_S2048x256_0_256
/-- Rows 0 to 255 of a block of 512 rows. -/
def dl (x : Vec F S512x2048 .bf16) : Vec F S256x2048 .bf16 := VecWindow.window x ![0, 0] S256x2048.size inb_S512x2048_S256x2048_0_0
/-- Rows 256 to 511 of a block of 512 rows. -/
def dh (x : Vec F S512x2048 .bf16) : Vec F S256x2048 .bf16 := VecWindow.window x ![256, 0] S256x2048.size inb_S512x2048_S256x2048_256_0
/-- The first half of the convolution's weights of a point. -/
def cwl (x : Vec F S3x1024 .f32) : Vec F S3x512 .f32 := VecWindow.window x ![0, 0] S3x512.size inb_S3x1024_S3x512_0_0
/-- The second half of the convolution's weights of a point. -/
def cwh (x : Vec F S3x1024 .f32) : Vec F S3x512 .f32 := VecWindow.window x ![0, 512] S3x512.size inb_S3x1024_S3x512_0_512
/-- The first half of the convolution's bias of a point. -/
def cbl (x : Vec F S1x1024 .f32) : Vec F S1x512 .f32 := VecWindow.window x ![0, 0] S1x512.size inb_S1x1024_S1x512_0_0
/-- The second half of the convolution's bias of a point. -/
def cbh (x : Vec F S1x1024 .f32) : Vec F S1x512 .f32 := VecWindow.window x ![0, 512] S1x512.size inb_S1x1024_S1x512_0_512
/-- The first half of the rows that stand before the sequence. -/
def cpl (x : Vec F S1x8x1024 .f32) : Vec F S1x8x512 .f32 := VecWindow.window x ![0, 0, 0] S1x8x512.size inb_S1x8x1024_S1x8x512_0_0_0
/-- The second half of the rows that stand before the sequence. -/
def cph (x : Vec F S1x8x1024 .f32) : Vec F S1x8x512 .f32 := VecWindow.window x ![0, 0, 512] S1x8x512.size inb_S1x8x1024_S1x8x512_0_0_512
/-- Row blocks of the kept rows at offsets `off`. -/
def crw (x : Vec F S12x1x8x512 .f32) (off : Fin 4 → ℕ) (inb : ∀ a, off a + S1x1x8x512.size a ≤ S12x1x8x512.size a) : Vec F S1x1x8x512 .f32 :=
  VecWindow.window x off S1x1x8x512.size inb
/-- The first 256 columns of eight rows. -/
def hdL (r : Vec F S1x8x512 .f32) : Vec F S1x8x256 .f32 := fun y => r (ix3 (y 0) (y 1) ⟨(y 2).val, by have : (y 2).val < 256 := (y 2).isLt; show _ < 512; omega⟩)
/-- The last 256 columns of eight rows. -/
def hdH (r : Vec F S1x8x512 .f32) : Vec F S1x8x256 .f32 := fun y => r (ix3 (y 0) (y 1) ⟨(y 2).val + 256, by have : (y 2).val < 256 := (y 2).isLt; show _ < 512; omega⟩)
/-- The last eight of 512 rows given by two blocks of 256 columns. -/
def tailOf (p q : Vec F S1x512x256 .f32) : Vec F S1x8x512 .f32 := fun y =>
  if h : (y 2).val < 256 then p (ix3 (y 0) ⟨(y 1).val + 504, by have : (y 1).val < 8 := (y 1).isLt; show _ < 512; omega⟩ ⟨(y 2).val, h⟩)
  else q (ix3 (y 0) ⟨(y 1).val + 504, by have : (y 1).val < 8 := (y 1).isLt; show _ < 512; omega⟩ ⟨(y 2).val - 256, by have : (y 2).val < 512 := (y 2).isLt; show _ < 256; omega⟩)

/-- The last eight rows of a block of the first projection. -/
def tailNext (h : Vec F S512x2048 .bf16) (wa : Vec F S2048x512 .bf16) : Vec F S1x8x512 .f32 :=
  tailOf (k0_pay26 h (wl wa)) (k0_pay29 (k0_pay28 h (wh wa)))

/-- The first 256 hidden columns of a block added to the output tile `o`. -/
def oLo (a1 : BitVec 32) (h : Vec F S512x2048 .bf16) (cp : Vec F S1x8x512 .f32) (q : Vec F S1x1x8x512 .f32) (wa wb : Vec F S2048x512 .bf16)
    (wd : Vec F S512x2048 .bf16) (cw : Vec F S3x512 .f32) (cb : Vec F S1x512 .f32) (o : Vec F S1x512x2048 .f32) : Vec F S1x512x2048 .f32 :=
  k0_pay34 (k0_pay33 cw cb (k0_pay26 h (wl wa)) (hdL (k0_pay25 a1 cp q))) (k0_pay27 h (wl wb)) o (dl wd)

/-- The last 256 hidden columns of a block added to the output tile `o`. -/
def oHi (a1 : BitVec 32) (h : Vec F S512x2048 .bf16) (cp : Vec F S1x8x512 .f32) (q : Vec F S1x1x8x512 .f32) (wa wb : Vec F S2048x512 .bf16)
    (wd : Vec F S512x2048 .bf16) (cw : Vec F S3x512 .f32) (cb : Vec F S1x512 .f32) (o : Vec F S1x512x2048 .f32) : Vec F S1x512x2048 .f32 :=
  k0_pay40 (k0_pay31 cw) (k0_pay32 cb) (k0_pay35 (k0_pay29 (k0_pay28 h (wh wa))))
    (k0_pay37 (k0_pay29 (k0_pay28 h (wh wa))) (hdH (k0_pay25 a1 cp q))) (k0_pay38 (k0_pay29 (k0_pay28 h (wh wa))) (hdH (k0_pay25 a1 cp q)))
    (k0_pay39 (k0_pay29 (k0_pay28 h (wh wa)))) (k0_pay30 h (wh wb)) o (dh wd)

/-- A whole block of 512 hidden columns added to the output tile `o`. -/
def oNext (a1 : BitVec 32) (h : Vec F S512x2048 .bf16) (cp : Vec F S1x8x512 .f32) (q : Vec F S1x1x8x512 .f32) (wa wb : Vec F S2048x512 .bf16)
    (wd : Vec F S512x2048 .bf16) (cw : Vec F S3x512 .f32) (cb : Vec F S1x512 .f32) (o : Vec F S1x512x2048 .f32) : Vec F S1x512x2048 .f32 :=
  oHi a1 h cp q wa wb wd cw cb (oLo a1 h cp q wa wb wd cw cb o)

/-! ## The same pure operations under the names of the point's other parts -/

theorem pay41_eq : k0_pay41 (F := F) = k0_pay25 := rfl
theorem pay42_eq : k0_pay42 (F := F) = k0_pay26 := rfl
theorem pay43_eq : k0_pay43 (F := F) = k0_pay27 := rfl
theorem pay44_eq : k0_pay44 (F := F) = k0_pay28 := rfl
theorem pay45_eq : k0_pay45 (F := F) = k0_pay29 := rfl
theorem pay46_eq : k0_pay46 (F := F) = k0_pay30 := rfl
theorem pay47_eq : k0_pay47 (F := F) = k0_pay31 := rfl
theorem pay48_eq : k0_pay48 (F := F) = k0_pay32 := rfl
theorem pay49_eq : k0_pay49 (F := F) = k0_pay33 := rfl
theorem pay50_eq : k0_pay50 (F := F) = k0_pay34 := rfl
theorem pay51_eq : k0_pay51 (F := F) = k0_pay35 := rfl
theorem pay53_eq : k0_pay53 (F := F) = k0_pay37 := rfl
theorem pay54_eq : k0_pay54 (F := F) = k0_pay38 := rfl
theorem pay55_eq : k0_pay55 (F := F) = k0_pay39 := rfl
theorem pay56_eq : k0_pay56 (F := F) = k0_pay40 := rfl
theorem pay7_eq : k0_pay7 (F := F) = k0_pay4 := rfl
theorem pay8_eq : k0_pay8 (F := F) = k0_pay5 := rfl
theorem pay2_eq : k0_pay2 (F := F) = k0_pay4 := rfl
theorem pay3_eq : k0_pay3 (F := F) = k0_pay5 := rfl
theorem pay9_eq : k0_pay9 (F := F) = k0_pay6 := rfl
theorem pay14_eq : k0_pay14 (F := F) = k0_pay25 := rfl
theorem pay15_eq : k0_pay15 (F := F) = k0_pay26 := rfl
theorem pay16_eq : k0_pay16 (F := F) = k0_pay27 := rfl
theorem pay18_eq : k0_pay18 (F := F) = k0_pay30 := rfl
theorem pay19_eq : k0_pay19 (F := F) = k0_pay31 := rfl
theorem pay20_eq : k0_pay20 (F := F) = k0_pay32 := rfl
theorem pay12_eq : k0_pay12 (F := F) = k0_pay11 := by
  funext x y; exact shapeCast_self _ _
theorem pay17_eq (h : Vec F S512x2048 .bf16) (w : Vec F S2048x256 .bf16) : k0_pay17 h w = k0_pay29 (k0_pay28 h w) := rfl
theorem pay22_eq (cw : Vec F S3x512 .f32) (cb : Vec F S1x512 .f32) (a : Vec F S1x512x256 .f32) (r : Vec F S1x8x256 .f32) (b : Vec F S512x256 .f32)
    (o : Vec F S1x512x2048 .f32) (w : Vec F S256x2048 .bf16) :
    k0_pay22 (k0_pay21 (k0_pay31 cw) (k0_pay32 cb) a r b) o w = k0_pay34 (k0_pay33 cw cb a r) b o w := rfl
theorem pay1_eq (cw : Vec F S3x512 .f32) (cb : Vec F S1x512 .f32) (a : Vec F S1x512x256 .f32) (r : Vec F S1x8x256 .f32) (b : Vec F S512x256 .f32)
    (o : Vec F S1x512x2048 .f32) (w : Vec F S256x2048 .bf16) :
    k0_pay1 (k0_pay23 (k0_pay31 cw) (k0_pay32 cb) a r) (k0_pay24 (k0_pay31 cw) (k0_pay32 cb) a r) b o w
      = k0_pay40 (k0_pay31 cw) (k0_pay32 cb) (k0_pay35 a) (k0_pay37 a r) (k0_pay38 a r) (k0_pay39 a) b o w := rfl

/-! ## Loads of a scratch after the stores that cover them -/

section loads
variable {κ : Kind} {sp : Space}

/-- The three pieces of the first projection's scratch, the last stored first. -/
abbrev pcs (q p : Vec F S1x512x256 .f32) (r : Vec F S1x8x512 .f32) (L : List (View.Piece (Elt F) S1x520x512 .f32)) : List (View.Piece (Elt F) S1x520x512 .f32) :=
  ⟨Rect.unit ![0, 8, 256] S1x512x256.size inb_S1x520x512_S1x512x256_0_8_256, q⟩ ::
  ⟨Rect.unit ![0, 8, 0] S1x512x256.size inb_S1x520x512_S1x512x256_0_8_0, p⟩ ::
  ⟨Rect.unit ![0, 0, 0] S1x8x512.size inb_S1x520x512_S1x8x512_0_0_0, r⟩ :: L

/-- A load after stores is a window of the stored array. -/
theorem readCov_window {s : Shape} {e : EltTy} (v : View sig κ sp s e) (L : List (View.Piece (Elt F) s e)) {off size : Fin s.rank → ℕ}
    (inb : ∀ a, off a + size a ≤ s.size a) :
    v.readCov L (Rect.unit off size inb).toLoadRect = VecWindow.window (v.read (Elt F) (v.writes (Elt F) v.junk L)) off size inb := rfl

theorem ld_hi' (v : View sig κ sp S1x520x512 .f32) (q p : Vec F S1x512x256 .f32) (r : Vec F S1x8x512 .f32) (L : List (View.Piece (Elt F) S1x520x512 .f32)) :
    v.readCov (pcs q p r L) (Rect.unit (s := S1x520x512) ![0, 8, 256] S1x512x256.size inb_S1x520x512_S1x512x256_0_8_256).toLoadRect = q := by
  rw [readCov_window, View.read_writes_cons_put _ _ _ _ _ rfl]
  exact VecWindow.window_put_same _ _ _ _ _

theorem ld_lo' (v : View sig κ sp S1x520x512 .f32) (q p : Vec F S1x512x256 .f32) (r : Vec F S1x8x512 .f32) (L : List (View.Piece (Elt F) S1x520x512 .f32)) :
    v.readCov (pcs q p r L) (Rect.unit (s := S1x520x512) ![0, 8, 0] S1x512x256.size inb_S1x520x512_S1x512x256_0_8_0).toLoadRect = p := by
  rw [readCov_window, View.read_writes_cons_put _ _ _ _ _ rfl]
  refine (VecWindow.window_put_of_disjoint _ _ _ _ _ _ _ 2 (by decide)).trans ?_
  rw [View.read_writes_cons_put _ _ _ _ _ rfl]
  exact VecWindow.window_put_same _ _ _ _ _

theorem ld_hdl' (v : View sig κ sp S1x520x512 .f32) (q p : Vec F S1x512x256 .f32) (r : Vec F S1x8x512 .f32) (L : List (View.Piece (Elt F) S1x520x512 .f32)) :
    v.readCov (pcs q p r L) (Rect.unit (s := S1x520x512) ![0, 0, 0] S1x8x256.size inb_S1x520x512_S1x8x256_0_0_0).toLoadRect = hdL r := by
  rw [readCov_window, View.read_writes_cons_put _ _ _ _ _ rfl]
  refine (VecWindow.window_put_of_disjoint _ _ _ _ _ _ _ 1 (by decide)).trans ?_
  rw [View.read_writes_cons_put _ _ _ _ _ rfl]
  refine (VecWindow.window_put_of_disjoint _ _ _ _ _ _ _ 1 (by decide)).trans ?_
  rw [View.read_writes_cons_put _ _ _ _ _ rfl]
  refine (VecWindow.window_put_of_inside _ _ _ _ _ _ _ (by decide)).trans ?_
  funext y
  exact congrArg r (funext fun a => Fin.ext (by fin_cases a <;> simp))

theorem ld_hdh' (v : View sig κ sp S1x520x512 .f32) (q p : Vec F S1x512x256 .f32) (r : Vec F S1x8x512 .f32) (L : List (View.Piece (Elt F) S1x520x512 .f32)) :
    v.readCov (pcs q p r L) (Rect.unit (s := S1x520x512) ![0, 0, 256] S1x8x256.size inb_S1x520x512_S1x8x256_0_0_256).toLoadRect = hdH r := by
  rw [readCov_window, View.read_writes_cons_put _ _ _ _ _ rfl]
  refine (VecWindow.window_put_of_disjoint _ _ _ _ _ _ _ 1 (by decide)).trans ?_
  rw [View.read_writes_cons_put _ _ _ _ _ rfl]
  refine (VecWindow.window_put_of_disjoint _ _ _ _ _ _ _ 1 (by decide)).trans ?_
  rw [View.read_writes_cons_put _ _ _ _ _ rfl]
  refine (VecWindow.window_put_of_inside _ _ _ _ _ _ _ (by decide)).trans ?_
  funext y
  exact congrArg r (funext fun a => Fin.ext (by fin_cases a <;> simp <;> omega))

theorem ld_tail' (v : View sig κ sp S1x520x512 .f32) (q p : Vec F S1x512x256 .f32) (r : Vec F S1x8x512 .f32) (L : List (View.Piece (Elt F) S1x520x512 .f32)) :
    v.readCov (pcs q p r L) (Rect.unit (s := S1x520x512) ![0, 512, 0] S1x8x512.size inb_S1x520x512_S1x8x512_0_512_0).toLoadRect = tailOf p q := by
  rw [readCov_window, View.read_writes_cons_put _ _ _ _ _ rfl, View.read_writes_cons_put _ _ _ _ _ rfl]
  funext y
  have h0 : (y 0).val < 1 := (y 0).isLt
  have h1 : (y 1).val < 8 := (y 1).isLt
  have h2 : (y 2).val < 512 := (y 2).isLt
  unfold VecWindow.window tailOf
  by_cases h : (y 2).val < 256
  · rw [dif_pos h]
    unfold VecWindow.put
    rw [dif_neg (by intro hh; have := (hh 2).1; simp at this; omega), dif_pos (by intro a; fin_cases a <;> simp <;> omega)]
    refine congrArg p (funext fun a => Fin.ext ?_)
    show _ - (![0, 8, 0] : Fin 3 → ℕ) a = _
    fin_cases a <;> simp <;> omega
  · rw [dif_neg h]
    unfold VecWindow.put
    rw [dif_pos (by intro a; fin_cases a <;> simp <;> omega)]
    refine congrArg q (funext fun a => Fin.ext ?_)
    show _ - (![0, 8, 256] : Fin 3 → ℕ) a = _
    fin_cases a <;> simp <;> omega

theorem ldb_hi' (v : View sig κ sp S512x512 .f32) (q p : Vec F S512x256 .f32) (L : List (View.Piece (Elt F) S512x512 .f32)) :
    v.readCov (⟨Rect.unit ![0, 256] S512x256.size inb_S512x512_S512x256_0_256, q⟩ :: ⟨Rect.unit ![0, 0] S512x256.size inb_S512x512_S512x256_0_0, p⟩ :: L)
      (Rect.unit (s := S512x512) ![0, 256] S512x256.size inb_S512x512_S512x256_0_256).toLoadRect = q := by
  rw [readCov_window, View.read_writes_cons_put _ _ _ _ _ rfl]
  exact VecWindow.window_put_same _ _ _ _ _

theorem ldb_lo' (v : View sig κ sp S512x512 .f32) (q p : Vec F S512x256 .f32) (L : List (View.Piece (Elt F) S512x512 .f32)) :
    v.readCov (⟨Rect.unit ![0, 256] S512x256.size inb_S512x512_S512x256_0_256, q⟩ :: ⟨Rect.unit ![0, 0] S512x256.size inb_S512x512_S512x256_0_0, p⟩ :: L)
      (Rect.unit (s := S512x512) ![0, 0] S512x256.size inb_S512x512_S512x256_0_0).toLoadRect = p := by
  rw [readCov_window, View.read_writes_cons_put _ _ _ _ _ rfl]
  refine (VecWindow.window_put_of_disjoint _ _ _ _ _ _ _ 1 (by decide)).trans ?_
  rw [View.read_writes_cons_put _ _ _ _ _ rfl]
  exact VecWindow.window_put_same _ _ _ _ _

end loads

/-! ## The kept rows and the tail window -/

/-- The block of kept rows number `k`. -/
def crRow (cr : Vec F S12x1x8x512 .f32) (k : Fin 12) : Vec F S1x1x8x512 .f32 := fun y => cr (ix4 k (y 1) (y 2) (y 3))
/-- The kept rows with block `k` replaced. -/
def crPut (cr : Vec F S12x1x8x512 .f32) (k : Fin 12) (w : Vec F S1x1x8x512 .f32) : Vec F S12x1x8x512 .f32 := fun y =>
  if (y 0).val = k.val then w (ix4 0 (y 1) (y 2) (y 3)) else cr y
/-- A tail window from its two halves. -/
def tlOf (w0 w1 : Vec F S1x1x8x512 .f32) : Vec F S1x1x8x1024 .f32 := fun y =>
  if h : (y 3).val < 512 then w0 (ix4 (y 0) (y 1) (y 2) ⟨(y 3).val, h⟩)
  else w1 (ix4 (y 0) (y 1) (y 2) ⟨(y 3).val - 512, by have : (y 3).val < 1024 := (y 3).isLt; show _ < 512; omega⟩)

/-- The number of a point's first block of hidden columns. -/
def K0 (i : grid0.Coords) : Fin 12 := ⟨2 * (i 2).val, by have : (i 2).val < 6 := (i 2).isLt; omega⟩
/-- The number of a point's second block of hidden columns. -/
def K1 (i : grid0.Coords) : Fin 12 := ⟨2 * (i 2).val + 1, by have : (i 2).val < 6 := (i 2).isLt; omega⟩
theorem K1_ne_K0 (i : grid0.Coords) : K1 i ≠ K0 i := fun h => by
  have := congrArg Fin.val h
  simp only [K0, K1] at this
  omega
/-- The row tile's number within its sequence, as a word. -/
abbrev tileWord (i : grid0.Coords) : BitVec 32 := BitVec.ofNat 32 (i 1).val

theorem off2_val (i : grid0.Coords) : k0_off2 i = ![(K0 i).val, 0, 0, 0] := by
  have h : ∀ j : Fin 6, (![(Scalar.addi (Scalar.muli (BitVec.ofNat 32 j.val) 2#32) 0#32).toNat, 0, 0, 0] : Fin 4 → ℕ) = ![2 * j.val, 0, 0, 0] := by decide
  exact h (i 2)
theorem off1_val (i : grid0.Coords) : k0_off1 i = ![(K0 i).val, 0, 0, 0] := off2_val i
theorem off3_val (i : grid0.Coords) : k0_off3 i = ![(K1 i).val, 0, 0, 0] := by
  have h : ∀ j : Fin 6, (![(Scalar.addi (Scalar.muli (BitVec.ofNat 32 j.val) 2#32) 1#32).toNat, 0, 0, 0] : Fin 4 → ℕ) = ![2 * j.val + 1, 0, 0, 0] := by decide
  exact h (i 2)

theorem crRow_put_same (cr : Vec F S12x1x8x512 .f32) (k : Fin 12) (w : Vec F S1x1x8x512 .f32) : crRow (crPut cr k w) k = w := by
  funext y
  show (if k.val = k.val then _ else _) = _
  rw [if_pos rfl]
  exact congrArg w (funext fun a => Fin.ext (by
    have h0 : (y 0).val < 1 := (y 0).isLt
    match a with
    | ⟨0, _⟩ => show 0 = (y 0).val; omega
    | ⟨1, _⟩ => rfl
    | ⟨2, _⟩ => rfl
    | ⟨3, _⟩ => rfl))
theorem crRow_put_ne (cr : Vec F S12x1x8x512 .f32) {k k' : Fin 12} (h : k' ≠ k) (w : Vec F S1x1x8x512 .f32) : crRow (crPut cr k w) k' = crRow cr k' := by
  funext y
  show (if k'.val = k.val then _ else _) = _
  rw [if_neg fun e => h (Fin.ext e)]; rfl

section kept
variable {κ : Kind} {sp : Space}

theorem ld_cr (v : View sig κ sp S12x1x8x512 .f32) (f : v.ty.Contents (Elt F)) {off : Fin 4 → ℕ} {k : Fin 12} (h : off = ![k.val, 0, 0, 0])
    (inb : ∀ a, off a + S1x1x8x512.size a ≤ S12x1x8x512.size a) :
    v.readAt (Elt F) (Rect.unit (s := S12x1x8x512) off S1x1x8x512.size inb).toLoadRect f = crRow (v.read (Elt F) f) k := by
  subst h
  funext y
  have h0 : (y 0).val < 1 := (y 0).isLt
  exact congrArg (v.read (Elt F) f) (funext fun a => Fin.ext (by fin_cases a <;> simp [ix4] <;> omega))

theorem st_cr (v : View sig κ sp S12x1x8x512 .f32) (f : v.ty.Contents (Elt F)) {off : Fin 4 → ℕ} {k : Fin 12} (h : off = ![k.val, 0, 0, 0])
    (inb : ∀ a, off a + S1x1x8x512.size a ≤ S12x1x8x512.size a) (w : Vec F S1x1x8x512 .f32) (L : List (View.Piece (Elt F) S12x1x8x512 .f32)) :
    v.read (Elt F) (v.writes (Elt F) f (⟨Rect.unit off S1x1x8x512.size inb, w⟩ :: L)) = crPut (v.read (Elt F) (v.writes (Elt F) f L)) k w := by
  rw [View.read_writes_cons_put _ _ _ _ _ h]
  funext y
  have h0 : (y 0).val < 12 := (y 0).isLt
  have h1 : (y 1).val < 1 := (y 1).isLt
  have h2 : (y 2).val < 8 := (y 2).isLt
  have h3 : (y 3).val < 512 := (y 3).isLt
  unfold VecWindow.put crPut
  by_cases hv : (y 0).val = k.val
  · rw [if_pos hv, dif_pos (by intro a; fin_cases a <;> simp <;> omega)]
    refine congrArg w (funext fun a => Fin.ext ?_)
    show _ - (![k.val, 0, 0, 0] : Fin 4 → ℕ) a = _
    fin_cases a <;> simp [ix4] <;> omega
  · rw [if_neg hv, dif_neg (by intro hh; have := hh 0; simp at this; omega)]

theorem st_tl (v : View sig κ sp S1x1x8x1024 .f32) (f : v.ty.Contents (Elt F)) (w0 w1 : Vec F S1x1x8x512 .f32) (L : List (View.Piece (Elt F) S1x1x8x1024 .f32)) :
    v.read (Elt F) (v.writes (Elt F) f (⟨Rect.unit ![0, 0, 0, 512] S1x1x8x512.size inb_S1x1x8x1024_S1x1x8x512_0_0_0_512, w1⟩ ::
      ⟨Rect.unit ![0, 0, 0, 0] S1x1x8x512.size inb_S1x1x8x1024_S1x1x8x512_0_0_0_0, w0⟩ :: L)) = tlOf w0 w1 := by
  rw [View.read_writes_cons_put _ _ _ _ _ rfl, View.read_writes_cons_put _ _ _ _ _ rfl]
  funext y
  have h0 : (y 0).val < 1 := (y 0).isLt
  have h1 : (y 1).val < 1 := (y 1).isLt
  have h2 : (y 2).val < 8 := (y 2).isLt
  have h3 : (y 3).val < 1024 := (y 3).isLt
  unfold VecWindow.put tlOf
  by_cases h : (y 3).val < 512
  · rw [dif_pos h, dif_neg (by intro hh; have := (hh 3).1; simp at this; omega), dif_pos (by intro a; fin_cases a <;> simp <;> omega)]
    refine congrArg w0 (funext fun a => Fin.ext ?_)
    show _ - (![0, 0, 0, 0] : Fin 4 → ℕ) a = _
    fin_cases a <;> simp [ix4] <;> omega
  · rw [dif_neg h, dif_pos (by intro a; fin_cases a <;> simp <;> omega)]
    refine congrArg w1 (funext fun a => Fin.ext ?_)
    show _ - (![0, 0, 0, 512] : Fin 4 → ℕ) a = _
    fin_cases a <;> simp [ix4] <;> omega

end kept

/-! ## What a point leaves -/

/-- The kept rows after a point's first block. -/
def cr1 (i : grid0.Coords) (h : Vec F S512x2048 .bf16) (x2 : Vec F S2048x512 .bf16) (cr : Vec F S12x1x8x512 .f32) : Vec F S12x1x8x512 .f32 :=
  crPut cr (K0 i) (k0_pay4 (tailNext h x2))
/-- The kept rows after a point's two blocks. -/
def cr2 (i : grid0.Coords) (h : Vec F S512x2048 .bf16) (x2 x5 : Vec F S2048x512 .bf16) (cr : Vec F S12x1x8x512 .f32) : Vec F S12x1x8x512 .f32 :=
  crPut (cr1 i h x2 cr) (K1 i) (k0_pay4 (tailNext h x5))
/-- The output tile after a point's first block. -/
def o1 (i : grid0.Coords) (h : Vec F S512x2048 .bf16) (x2 x3 : Vec F S2048x512 .bf16) (x4 : Vec F S512x2048 .bf16) (x8 : Vec F S3x1024 .f32) (x9 : Vec F S1x1024 .f32)
    (x11 : Vec F S1x8x1024 .f32) (cr : Vec F S12x1x8x512 .f32) (o : Vec F S1x512x2048 .f32) : Vec F S1x512x2048 .f32 :=
  oNext (tileWord i) h (cpl x11) (crRow cr (K0 i)) x2 x3 x4 (cwl x8) (cbl x9) o
/-- The output tile after a point's two blocks. -/
def o2 (i : grid0.Coords) (h : Vec F S512x2048 .bf16) (x2 x3 : Vec F S2048x512 .bf16) (x4 : Vec F S512x2048 .bf16) (x5 x6 : Vec F S2048x512 .bf16) (x7 : Vec F S512x2048 .bf16)
    (x8 : Vec F S3x1024 .f32) (x9 : Vec F S1x1024 .f32) (x11 : Vec F S1x8x1024 .f32) (cr : Vec F S12x1x8x512 .f32) (o : Vec F S1x512x2048 .f32) : Vec F S1x512x2048 .f32 :=
  oNext (tileWord i) h (cph x11) (crRow cr (K1 i)) x5 x6 x7 (cwh x8) (cbh x9) (o1 i h x2 x3 x4 x8 x9 x11 cr o)

/-! ## Loads of parts of the staged blocks -/

section windows
variable {κ : Kind} {sp : Space}
theorem ld_wl' (v : View sig κ sp S2048x512 .bf16) (f : v.ty.Contents (Elt F)) :
    v.readAt (Elt F) (Rect.unit (s := S2048x512) ![0, 0] S2048x256.size inb_S2048x512_S2048x256_0_0).toLoadRect f = wl (v.read (Elt F) f) := rfl
theorem ld_wh' (v : View sig κ sp S2048x512 .bf16) (f : v.ty.Contents (Elt F)) :
    v.readAt (Elt F) (Rect.unit (s := S2048x512) ![0, 256] S2048x256.size inb_S2048x512_S2048x256_0_256).toLoadRect f = wh (v.read (Elt F) f) := rfl
theorem ld_dl' (v : View sig κ sp S512x2048 .bf16) (f : v.ty.Contents (Elt F)) :
    v.readAt (Elt F) (Rect.unit (s := S512x2048) ![0, 0] S256x2048.size inb_S512x2048_S256x2048_0_0).toLoadRect f = dl (v.read (Elt F) f) := rfl
theorem ld_dh' (v : View sig κ sp S512x2048 .bf16) (f : v.ty.Contents (Elt F)) :
    v.readAt (Elt F) (Rect.unit (s := S512x2048) ![256, 0] S256x2048.size inb_S512x2048_S256x2048_256_0).toLoadRect f = dh (v.read (Elt F) f) := rfl
theorem ld_cwl' (v : View sig κ sp S3x1024 .f32) (f : v.ty.Contents (Elt F)) :
    v.readAt (Elt F) (Rect.unit (s := S3x1024) ![0, 0] S3x512.size inb_S3x1024_S3x512_0_0).toLoadRect f = cwl (v.read (Elt F) f) := rfl
theorem ld_cwh' (v : View sig κ sp S3x1024 .f32) (f : v.ty.Contents (Elt F)) :
    v.readAt (Elt F) (Rect.unit (s := S3x1024) ![0, 512] S3x512.size inb_S3x1024_S3x512_0_512).toLoadRect f = cwh (v.read (Elt F) f) := rfl
theorem ld_cbl' (v : View sig κ sp S1x1024 .f32) (f : v.ty.Contents (Elt F)) :
    v.readAt (Elt F) (Rect.unit (s := S1x1024) ![0, 0] S1x512.size inb_S1x1024_S1x512_0_0).toLoadRect f = cbl (v.read (Elt F) f) := rfl
theorem ld_cbh' (v : View sig κ sp S1x1024 .f32) (f : v.ty.Contents (Elt F)) :
    v.readAt (Elt F) (Rect.unit (s := S1x1024) ![0, 512] S1x512.size inb_S1x1024_S1x512_0_512).toLoadRect f = cbh (v.read (Elt F) f) := rfl
theorem ld_cpl' (v : View sig κ sp S1x8x1024 .f32) (f : v.ty.Contents (Elt F)) :
    v.readAt (Elt F) (Rect.unit (s := S1x8x1024) ![0, 0, 0] S1x8x512.size inb_S1x8x1024_S1x8x512_0_0_0).toLoadRect f = cpl (v.read (Elt F) f) := rfl
theorem ld_cph' (v : View sig κ sp S1x8x1024 .f32) (f : v.ty.Contents (Elt F)) :
    v.readAt (Elt F) (Rect.unit (s := S1x8x1024) ![0, 0, 512] S1x8x512.size inb_S1x8x1024_S1x8x512_0_0_512).toLoadRect f = cph (v.read (Elt F) f) := rfl
theorem ld_o' (v : View sig κ sp S1x512x2048 .f32) (f : v.ty.Contents (Elt F)) :
    v.readAt (Elt F) (Rect.unit (s := S1x512x2048) ![0, 0, 0] S1x512x2048.size inb_S1x512x2048_S1x512x2048_0_0_0).toLoadRect f = v.read (Elt F) f := View.readAt_full _ _ _
theorem ld_g' (v : View sig κ sp S1x2048 .f32) (f : v.ty.Contents (Elt F)) :
    v.readAt (Elt F) (Rect.unit (s := S1x2048) ![0, 0] S1x2048.size inb_S1x2048_S1x2048_0_0).toLoadRect f = v.read (Elt F) f := View.readAt_full _ _ _
theorem ld_h' (v : View sig κ sp S512x2048 .bf16) (f : v.ty.Contents (Elt F)) :
    v.readAt (Elt F) (Rect.unit (s := S512x2048) ![0, 0] S512x2048.size inb_S512x2048_S512x2048_0_0).toLoadRect f = v.read (Elt F) f := View.readAt_full _ _ _

/-- A load of the whole tile after a store of the whole tile. -/
theorem ldc_o' (v : View sig κ sp S1x512x2048 .f32) (w : Vec F S1x512x2048 .f32) (L : List (View.Piece (Elt F) S1x512x2048 .f32)) :
    v.readCov (⟨Rect.unit ![0, 0, 0] S1x512x2048.size inb_S1x512x2048_S1x512x2048_0_0_0, w⟩ :: L)
      (Rect.unit (s := S1x512x2048) ![0, 0, 0] S1x512x2048.size inb_S1x512x2048_S1x512x2048_0_0_0).toLoadRect = w := View.readCov_full _ _ _ _ _
theorem ldc_h' (v : View sig κ sp S512x2048 .bf16) (w : Vec F S512x2048 .bf16) (L : List (View.Piece (Elt F) S512x2048 .bf16)) :
    v.readCov (⟨Rect.unit ![0, 0] S512x2048.size inb_S512x2048_S512x2048_0_0, w⟩ :: L)
      (Rect.unit (s := S512x2048) ![0, 0] S512x2048.size inb_S512x2048_S512x2048_0_0).toLoadRect = w := View.readCov_full _ _ _ _ _
end windows

/-! ## The same loads with their sizes written out -/

section literal
variable {κ : Kind} {sp : Space}

theorem ld_hi (v : View sig κ sp S1x520x512 .f32) (q p : Vec F S1x512x256 .f32) (r : Vec F S1x8x512 .f32) (L : List (View.Piece (Elt F) S1x520x512 .f32)) :
    v.readCov (⟨Rect.unit ![0, 8, 256] ![1, 512, 256] inb_S1x520x512_S1x512x256_0_8_256, q⟩ :: ⟨Rect.unit ![0, 8, 0] ![1, 512, 256] inb_S1x520x512_S1x512x256_0_8_0, p⟩ ::
      ⟨Rect.unit ![0, 0, 0] ![1, 8, 512] inb_S1x520x512_S1x8x512_0_0_0, r⟩ :: L) (Rect.unit (s := S1x520x512) ![0, 8, 256] ![1, 512, 256] inb_S1x520x512_S1x512x256_0_8_256).toLoadRect = q := ld_hi' v q p r L

theorem ld_lo (v : View sig κ sp S1x520x512 .f32) (q p : Vec F S1x512x256 .f32) (r : Vec F S1x8x512 .f32) (L : List (View.Piece (Elt F) S1x520x512 .f32)) :
    v.readCov (⟨Rect.unit ![0, 8, 256] ![1, 512, 256] inb_S1x520x512_S1x512x256_0_8_256, q⟩ :: ⟨Rect.unit ![0, 8, 0] ![1, 512, 256] inb_S1x520x512_S1x512x256_0_8_0, p⟩ ::
      ⟨Rect.unit ![0, 0, 0] ![1, 8, 512] inb_S1x520x512_S1x8x512_0_0_0, r⟩ :: L) (Rect.unit (s := S1x520x512) ![0, 8, 0] ![1, 512, 256] inb_S1x520x512_S1x512x256_0_8_0).toLoadRect = p := ld_lo' v q p r L

theorem ld_hdl (v : View sig κ sp S1x520x512 .f32) (q p : Vec F S1x512x256 .f32) (r : Vec F S1x8x512 .f32) (L : List (View.Piece (Elt F) S1x520x512 .f32)) :
    v.readCov (⟨Rect.unit ![0, 8, 256] ![1, 512, 256] inb_S1x520x512_S1x512x256_0_8_256, q⟩ :: ⟨Rect.unit ![0, 8, 0] ![1, 512, 256] inb_S1x520x512_S1x512x256_0_8_0, p⟩ ::
      ⟨Rect.unit ![0, 0, 0] ![1, 8, 512] inb_S1x520x512_S1x8x512_0_0_0, r⟩ :: L) (Rect.unit (s := S1x520x512) ![0, 0, 0] ![1, 8, 256] inb_S1x520x512_S1x8x256_0_0_0).toLoadRect = hdL r := ld_hdl' v q p r L

theorem ld_hdh (v : View sig κ sp S1x520x512 .f32) (q p : Vec F S1x512x256 .f32) (r : Vec F S1x8x512 .f32) (L : List (View.Piece (Elt F) S1x520x512 .f32)) :
    v.readCov (⟨Rect.unit ![0, 8, 256] ![1, 512, 256] inb_S1x520x512_S1x512x256_0_8_256, q⟩ :: ⟨Rect.unit ![0, 8, 0] ![1, 512, 256] inb_S1x520x512_S1x512x256_0_8_0, p⟩ ::
      ⟨Rect.unit ![0, 0, 0] ![1, 8, 512] inb_S1x520x512_S1x8x512_0_0_0, r⟩ :: L) (Rect.unit (s := S1x520x512) ![0, 0, 256] ![1, 8, 256] inb_S1x520x512_S1x8x256_0_0_256).toLoadRect = hdH r := ld_hdh' v q p r L

theorem ld_tail (v : View sig κ sp S1x520x512 .f32) (q p : Vec F S1x512x256 .f32) (r : Vec F S1x8x512 .f32) (L : List (View.Piece (Elt F) S1x520x512 .f32)) :
    v.readCov (⟨Rect.unit ![0, 8, 256] ![1, 512, 256] inb_S1x520x512_S1x512x256_0_8_256, q⟩ :: ⟨Rect.unit ![0, 8, 0] ![1, 512, 256] inb_S1x520x512_S1x512x256_0_8_0, p⟩ ::
      ⟨Rect.unit ![0, 0, 0] ![1, 8, 512] inb_S1x520x512_S1x8x512_0_0_0, r⟩ :: L) (Rect.unit (s := S1x520x512) ![0, 512, 0] ![1, 8, 512] inb_S1x520x512_S1x8x512_0_512_0).toLoadRect = tailOf p q := ld_tail' v q p r L

theorem ldb_hi (v : View sig κ sp S512x512 .f32) (q p : Vec F S512x256 .f32) (L : List (View.Piece (Elt F) S512x512 .f32)) :
    v.readCov (⟨Rect.unit ![0, 256] ![512, 256] inb_S512x512_S512x256_0_256, q⟩ :: ⟨Rect.unit ![0, 0] ![512, 256] inb_S512x512_S512x256_0_0, p⟩ :: L)
      (Rect.unit (s := S512x512) ![0, 256] ![512, 256] inb_S512x512_S512x256_0_256).toLoadRect = q := ldb_hi' v q p L

theorem ldb_lo (v : View sig κ sp S512x512 .f32) (q p : Vec F S512x256 .f32) (L : List (View.Piece (Elt F) S512x512 .f32)) :
    v.readCov (⟨Rect.unit ![0, 256] ![512, 256] inb_S512x512_S512x256_0_256, q⟩ :: ⟨Rect.unit ![0, 0] ![512, 256] inb_S512x512_S512x256_0_0, p⟩ :: L)
      (Rect.unit (s := S512x512) ![0, 0] ![512, 256] inb_S512x512_S512x256_0_0).toLoadRect = p := ldb_lo' v q p L

theorem ld_wl (v : View sig κ sp S2048x512 .bf16) (f : v.ty.Contents (Elt F)) :
    v.readAt (Elt F) (Rect.unit (s := S2048x512) ![0, 0] ![2048, 256] inb_S2048x512_S2048x256_0_0).toLoadRect f = wl (v.read (Elt F) f) := ld_wl' v f

theorem ld_wh (v : View sig κ sp S2048x512 .bf16) (f : v.ty.Contents (Elt F)) :
    v.readAt (Elt F) (Rect.unit (s := S2048x512) ![0, 256] ![2048, 256] inb_S2048x512_S2048x256_0_256).toLoadRect f = wh (v.read (Elt F) f) := ld_wh' v f

theorem ld_dl (v : View sig κ sp S512x2048 .bf16) (f : v.ty.Contents (Elt F)) :
    v.readAt (Elt F) (Rect.unit (s := S512x2048) ![0, 0] ![256, 2048] inb_S512x2048_S256x2048_0_0).toLoadRect f = dl (v.read (Elt F) f) := ld_dl' v f

theorem ld_dh (v : View sig κ sp S512x2048 .bf16) (f : v.ty.Contents (Elt F)) :
    v.readAt (Elt F) (Rect.unit (s := S512x2048) ![256, 0] ![256, 2048] inb_S512x2048_S256x2048_256_0).toLoadRect f = dh (v.read (Elt F) f) := ld_dh' v f

theorem ld_cwl (v : View sig κ sp S3x1024 .f32) (f : v.ty.Contents (Elt F)) :
    v.readAt (Elt F) (Rect.unit (s := S3x1024) ![0, 0] ![3, 512] inb_S3x1024_S3x512_0_0).toLoadRect f = cwl (v.read (Elt F) f) := ld_cwl' v f

theorem ld_cwh (v : View sig κ sp S3x1024 .f32) (f : v.ty.Contents (Elt F)) :
    v.readAt (Elt F) (Rect.unit (s := S3x1024) ![0, 512] ![3, 512] inb_S3x1024_S3x512_0_512).toLoadRect f = cwh (v.read (Elt F) f) := ld_cwh' v f

theorem ld_cbl (v : View sig κ sp S1x1024 .f32) (f : v.ty.Contents (Elt F)) :
    v.readAt (Elt F) (Rect.unit (s := S1x1024) ![0, 0] ![1, 512] inb_S1x1024_S1x512_0_0).toLoadRect f = cbl (v.read (Elt F) f) := ld_cbl' v f

theorem ld_cbh (v : View sig κ sp S1x1024 .f32) (f : v.ty.Contents (Elt F)) :
    v.readAt (Elt F) (Rect.unit (s := S1x1024) ![0, 512] ![1, 512] inb_S1x1024_S1x512_0_512).toLoadRect f = cbh (v.read (Elt F) f) := ld_cbh' v f

theorem ld_cpl (v : View sig κ sp S1x8x1024 .f32) (f : v.ty.Contents (Elt F)) :
    v.readAt (Elt F) (Rect.unit (s := S1x8x1024) ![0, 0, 0] ![1, 8, 512] inb_S1x8x1024_S1x8x512_0_0_0).toLoadRect f = cpl (v.read (Elt F) f) := ld_cpl' v f

theorem ld_cph (v : View sig κ sp S1x8x1024 .f32) (f : v.ty.Contents (Elt F)) :
    v.readAt (Elt F) (Rect.unit (s := S1x8x1024) ![0, 0, 512] ![1, 8, 512] inb_S1x8x1024_S1x8x512_0_0_512).toLoadRect f = cph (v.read (Elt F) f) := ld_cph' v f

theorem ld_o (v : View sig κ sp S1x512x2048 .f32) (f : v.ty.Contents (Elt F)) :
    v.readAt (Elt F) (Rect.unit (s := S1x512x2048) ![0, 0, 0] ![1, 512, 2048] inb_S1x512x2048_S1x512x2048_0_0_0).toLoadRect f = v.read (Elt F) f := ld_o' v f

theorem ld_g (v : View sig κ sp S1x2048 .f32) (f : v.ty.Contents (Elt F)) :
    v.readAt (Elt F) (Rect.unit (s := S1x2048) ![0, 0] ![1, 2048] inb_S1x2048_S1x2048_0_0).toLoadRect f = v.read (Elt F) f := ld_g' v f

theorem ld_h (v : View sig κ sp S512x2048 .bf16) (f : v.ty.Contents (Elt F)) :
    v.readAt (Elt F) (Rect.unit (s := S512x2048) ![0, 0] ![512, 2048] inb_S512x2048_S512x2048_0_0).toLoadRect f = v.read (Elt F) f := ld_h' v f

theorem ldc_o (v : View sig κ sp S1x512x2048 .f32) (w : Vec F S1x512x2048 .f32) (L : List (View.Piece (Elt F) S1x512x2048 .f32)) :
    v.readCov (⟨Rect.unit ![0, 0, 0] ![1, 512, 2048] inb_S1x512x2048_S1x512x2048_0_0_0, w⟩ :: L)
      (Rect.unit (s := S1x512x2048) ![0, 0, 0] ![1, 512, 2048] inb_S1x512x2048_S1x512x2048_0_0_0).toLoadRect = w := ldc_o' v w L

theorem ldc_h (v : View sig κ sp S512x2048 .bf16) (w : Vec F S512x2048 .bf16) (L : List (View.Piece (Elt F) S512x2048 .bf16)) :
    v.readCov (⟨Rect.unit ![0, 0] ![512, 2048] inb_S512x2048_S512x2048_0_0, w⟩ :: L)
      (Rect.unit (s := S512x2048) ![0, 0] ![512, 2048] inb_S512x2048_S512x2048_0_0).toLoadRect = w := ldc_h' v w L

end literal

end Cert.FfnIdeal.Run

end
-- ==== Proof.FfnRun.lean ====
module

public import proofs.«01_k».proof.Proof.FfnStep
public import proofs.«01_k».proof.Proof.Gen.FfnIdeal.Frame
public import proofs.«01_k».proof.Proof.Gen.FfnIdeal.Skeleton
public import Idealize.ShloMosaic.Lib.VecWindow
public import Idealize.ShloMosaic.Lib.Tactic
public import Idealize.ShloMosaic.Lib.Pipeline.Kit

/-!
  One grid point of the feed-forward kernel, run once for any float interpretation, in its three cases: the first point
  of a row tile, a middle one and the last one. Each theorem gives what the point leaves in the output tile, the tail
  window, the normalised rows and the kept rows; the two projections' scratch arrays are overwritten by every block
  before they are read, so nothing is said of them.
-/

@[expose] public section

set_option maxRecDepth 16384

noncomputable section

namespace Cert.FfnIdeal.Run

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 2000000 in
/-- The first point of a row tile: the rows are normalised, the output tile is cleared, and two blocks are added. -/
theorem runA (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S512x2048 .bf16) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole) (arg11 : Memref sig .tc .vmem S3x1024 .f32) (harg11 : arg11.IsWhole) (arg12 : Memref sig .tc .vmem S1x1024 .f32) (harg12 : arg12.IsWhole) (arg13 : Memref sig .tc .vmem S1x2048 .f32) (harg13 : arg13.IsWhole) (arg14 : Memref sig .tc .vmem S1x8x1024 .f32) (harg14 : arg14.IsWhole) (arg15 : Memref sig .tc .vmem S1x512x2048 .f32) (harg15 : arg15.IsWhole) (arg16 : Memref sig .tc .vmem S1x1x8x1024 .f32) (harg16 : arg16.IsWhole) (arg17 : Memref sig .tc .vmem S512x2048 .bf16) (harg17 : arg17.IsWhole) (arg18 : Memref sig .tc .vmem S1x520x512 .f32) (harg18 : arg18.IsWhole) (arg19 : Memref sig .tc .vmem S512x512 .f32) (harg19 : arg19.IsWhole) (arg20 : Memref sig .tc .vmem S12x1x8x512 .f32) (harg20 : arg20.IsWhole) (hc1 : k0_cond1 i = 1#1) (hc2 : ¬ k0_cond2 i = 1#1) (hc3 : ¬ k0_cond3 i = 1#1) (hc4 : k0_cond4 i = 1#1) (hc5 : ¬ k0_cond5 i = 1#1) (hc6 : ¬ k0_cond6 i = 1#1)
    (x0 : Vec F S1x512x2048 .f32) (x1 : Vec F S1x2048 .f32) (x2 : Vec F S2048x512 .bf16) (x3 : Vec F S2048x512 .bf16) (x4 : Vec F S512x2048 .bf16) (x5 : Vec F S2048x512 .bf16) (x6 : Vec F S2048x512 .bf16) (x7 : Vec F S512x2048 .bf16) (x8 : Vec F S3x1024 .f32) (x9 : Vec F S1x1024 .f32) (x10 : Vec F S1x2048 .f32) (x11 : Vec F S1x8x1024 .f32) (o : Vec F S1x512x2048 .f32) (tl : Vec F S1x1x8x1024 .f32) (h : Vec F S512x2048 .bf16) (sa : Vec F S1x520x512 .f32) (sb : Vec F S512x512 .f32) (cr : Vec F S12x1x8x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare o ∗ owns (c : Thread nD τ) arg16 fullShare tl ∗ owns (c : Thread nD τ) arg17 fullShare h
        ∗ owns (c : Thread nD τ) arg18 fullShare sa ∗ owns (c : Thread nD τ) arg19 fullShare sb ∗ owns (c : Thread nD τ) arg20 fullShare cr
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare (o2 i (k0_pay11 x0 x1) x2 x3 x4 x5 x6 x7 x8 x9 x11 cr k0_pay13) ∗ owns (c : Thread nD τ) arg16 fullShare (tlOf (k0_pay5 (tailNext (k0_pay11 x0 x1) x2)) (k0_pay5 (tailNext (k0_pay11 x0 x1) x5))) ∗ owns (c : Thread nD τ) arg17 fullShare (k0_pay11 x0 x1) ∗ (∃ y : Vec F S1x520x512 .f32, owns (c : Thread nD τ) arg18 fullShare y) ∗ (∃ y : Vec F S512x512 .f32, owns (c : Thread nD τ) arg19 fullShare y) ∗ owns (c : Thread nD τ) arg20 fullShare (cr2 i (k0_pay11 x0 x1) x2 x5 cr)) -∗ K ⟨⟩))
      ⊢ wp frame (wpE (defs₀ (F := F)) Variants.none c none) E (cc0_ffn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    simp only [cc0_ffn_eq_skeleton]; unfold cc0_ffn_skel
    simp only [k0_part1_eq_skeleton, k0_part2_eq_skeleton, k0_part3_eq_skeleton, k0_part4_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    subst hf0 hf1 hf2 hf3 hf4 hf5 hf6 hf7 hf8 hf9 hf10 hf11 hf12 hf13 hf14 hf15 hf16 hf17
    sl_exec (disch := first | sl_exact hc1 | sl_exact hc2 | sl_exact hc3 | sl_exact hc4 | sl_exact hc5 | sl_exact hc6)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    isplitl [H8]
    · iexists _; isplitr; · ipureintro; rfl
      iexact H8
    isplitl [H9]
    · iexists _; isplitr; · ipureintro; rfl
      iexact H9
    isplitl [H10]
    · iexists _; isplitr; · ipureintro; rfl
      iexact H10
    isplitl [H11]
    · iexists _; isplitr; · ipureintro; rfl
      iexact H11
    isplitl [H12]
    · iexists _; isplitr; swap; · iexact H12
      ipureintro
      rw [View.read_writes_full]
      try delta runA.sl.H12_1 runA.sl.H12_2 runA.sl.H12_3 runA.sl.H12_4 runA.sl.H14_1 runA.sl.H15_3 runA.sl.H15_6 runA.sl.H16_2 runA.sl.H16_4 runA.sl.r runA.sl.r_1 runA.sl.r_10 runA.sl.r_11 runA.sl.r_12 runA.sl.r_13 runA.sl.r_2 runA.sl.r_3 runA.sl.r_4 runA.sl.r_5 runA.sl.r_6 runA.sl.r_7 runA.sl.r_8 runA.sl.r_9 runA.sl.v runA.sl.v106 runA.sl.v109 runA.sl.v117 runA.sl.v119 runA.sl.v127 runA.sl.v130 runA.sl.v138 runA.sl.v140 runA.sl.v158 runA.sl.v161 runA.sl.v179 runA.sl.v182 runA.sl.v190 runA.sl.v24 runA.sl.v29 runA.sl.v65 runA.sl.v67 runA.sl.v86 runA.sl.v88
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runA.sl.H12_1 runA.sl.H12_2 runA.sl.H12_3 runA.sl.H12_4 runA.sl.H14_1 runA.sl.H15_3 runA.sl.H15_6 runA.sl.H16_2 runA.sl.H16_4 runA.sl.r runA.sl.r_1 runA.sl.r_10 runA.sl.r_11 runA.sl.r_12 runA.sl.r_13 runA.sl.r_2 runA.sl.r_3 runA.sl.r_4 runA.sl.r_5 runA.sl.r_6 runA.sl.r_7 runA.sl.r_8 runA.sl.r_9 runA.sl.v runA.sl.v106 runA.sl.v109 runA.sl.v117 runA.sl.v119 runA.sl.v127 runA.sl.v130 runA.sl.v138 runA.sl.v140 runA.sl.v158 runA.sl.v161 runA.sl.v179 runA.sl.v182 runA.sl.v190 runA.sl.v24 runA.sl.v29 runA.sl.v65 runA.sl.v67 runA.sl.v86 runA.sl.v88
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runA.sl.H12_1 runA.sl.H12_2 runA.sl.H12_3 runA.sl.H12_4 runA.sl.H14_1 runA.sl.H15_3 runA.sl.H15_6 runA.sl.H16_2 runA.sl.H16_4 runA.sl.r runA.sl.r_1 runA.sl.r_10 runA.sl.r_11 runA.sl.r_12 runA.sl.r_13 runA.sl.r_2 runA.sl.r_3 runA.sl.r_4 runA.sl.r_5 runA.sl.r_6 runA.sl.r_7 runA.sl.r_8 runA.sl.r_9 runA.sl.v runA.sl.v106 runA.sl.v109 runA.sl.v117 runA.sl.v119 runA.sl.v127 runA.sl.v130 runA.sl.v138 runA.sl.v140 runA.sl.v158 runA.sl.v161 runA.sl.v179 runA.sl.v182 runA.sl.v190 runA.sl.v24 runA.sl.v29 runA.sl.v65 runA.sl.v67 runA.sl.v86 runA.sl.v88
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runA.sl.H12_1 runA.sl.H12_2 runA.sl.H12_3 runA.sl.H12_4 runA.sl.H14_1 runA.sl.H15_3 runA.sl.H15_6 runA.sl.H16_2 runA.sl.H16_4 runA.sl.r runA.sl.r_1 runA.sl.r_10 runA.sl.r_11 runA.sl.r_12 runA.sl.r_13 runA.sl.r_2 runA.sl.r_3 runA.sl.r_4 runA.sl.r_5 runA.sl.r_6 runA.sl.r_7 runA.sl.r_8 runA.sl.r_9 runA.sl.v runA.sl.v106 runA.sl.v109 runA.sl.v117 runA.sl.v119 runA.sl.v127 runA.sl.v130 runA.sl.v138 runA.sl.v140 runA.sl.v158 runA.sl.v161 runA.sl.v179 runA.sl.v182 runA.sl.v190 runA.sl.v24 runA.sl.v29 runA.sl.v65 runA.sl.v67 runA.sl.v86 runA.sl.v88
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runA.sl.H12_1 runA.sl.H12_2 runA.sl.H12_3 runA.sl.H12_4 runA.sl.H14_1 runA.sl.H15_3 runA.sl.H15_6 runA.sl.H16_2 runA.sl.H16_4 runA.sl.r runA.sl.r_1 runA.sl.r_10 runA.sl.r_11 runA.sl.r_12 runA.sl.r_13 runA.sl.r_2 runA.sl.r_3 runA.sl.r_4 runA.sl.r_5 runA.sl.r_6 runA.sl.r_7 runA.sl.r_8 runA.sl.r_9 runA.sl.v runA.sl.v106 runA.sl.v109 runA.sl.v117 runA.sl.v119 runA.sl.v127 runA.sl.v130 runA.sl.v138 runA.sl.v140 runA.sl.v158 runA.sl.v161 runA.sl.v179 runA.sl.v182 runA.sl.v190 runA.sl.v24 runA.sl.v29 runA.sl.v65 runA.sl.v67 runA.sl.v86 runA.sl.v88
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runA.sl.H12_1 runA.sl.H12_2 runA.sl.H12_3 runA.sl.H12_4 runA.sl.H14_1 runA.sl.H15_3 runA.sl.H15_6 runA.sl.H16_2 runA.sl.H16_4 runA.sl.r runA.sl.r_1 runA.sl.r_10 runA.sl.r_11 runA.sl.r_12 runA.sl.r_13 runA.sl.r_2 runA.sl.r_3 runA.sl.r_4 runA.sl.r_5 runA.sl.r_6 runA.sl.r_7 runA.sl.r_8 runA.sl.r_9 runA.sl.v runA.sl.v106 runA.sl.v109 runA.sl.v117 runA.sl.v119 runA.sl.v127 runA.sl.v130 runA.sl.v138 runA.sl.v140 runA.sl.v158 runA.sl.v161 runA.sl.v179 runA.sl.v182 runA.sl.v190 runA.sl.v24 runA.sl.v29 runA.sl.v65 runA.sl.v67 runA.sl.v86 runA.sl.v88
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runA.sl.H12_1 runA.sl.H12_2 runA.sl.H12_3 runA.sl.H12_4 runA.sl.H14_1 runA.sl.H15_3 runA.sl.H15_6 runA.sl.H16_2 runA.sl.H16_4 runA.sl.r runA.sl.r_1 runA.sl.r_10 runA.sl.r_11 runA.sl.r_12 runA.sl.r_13 runA.sl.r_2 runA.sl.r_3 runA.sl.r_4 runA.sl.r_5 runA.sl.r_6 runA.sl.r_7 runA.sl.r_8 runA.sl.r_9 runA.sl.v runA.sl.v106 runA.sl.v109 runA.sl.v117 runA.sl.v119 runA.sl.v127 runA.sl.v130 runA.sl.v138 runA.sl.v140 runA.sl.v158 runA.sl.v161 runA.sl.v179 runA.sl.v182 runA.sl.v190 runA.sl.v24 runA.sl.v29 runA.sl.v65 runA.sl.v67 runA.sl.v86 runA.sl.v88
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runA.sl.H12_1 runA.sl.H12_2 runA.sl.H12_3 runA.sl.H12_4 runA.sl.H14_1 runA.sl.H15_3 runA.sl.H15_6 runA.sl.H16_2 runA.sl.H16_4 runA.sl.r runA.sl.r_1 runA.sl.r_10 runA.sl.r_11 runA.sl.r_12 runA.sl.r_13 runA.sl.r_2 runA.sl.r_3 runA.sl.r_4 runA.sl.r_5 runA.sl.r_6 runA.sl.r_7 runA.sl.r_8 runA.sl.r_9 runA.sl.v runA.sl.v106 runA.sl.v109 runA.sl.v117 runA.sl.v119 runA.sl.v127 runA.sl.v130 runA.sl.v138 runA.sl.v140 runA.sl.v158 runA.sl.v161 runA.sl.v179 runA.sl.v182 runA.sl.v190 runA.sl.v24 runA.sl.v29 runA.sl.v65 runA.sl.v67 runA.sl.v86 runA.sl.v88
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runA.sl.H12_1 runA.sl.H12_2 runA.sl.H12_3 runA.sl.H12_4 runA.sl.H14_1 runA.sl.H15_3 runA.sl.H15_6 runA.sl.H16_2 runA.sl.H16_4 runA.sl.r runA.sl.r_1 runA.sl.r_10 runA.sl.r_11 runA.sl.r_12 runA.sl.r_13 runA.sl.r_2 runA.sl.r_3 runA.sl.r_4 runA.sl.r_5 runA.sl.r_6 runA.sl.r_7 runA.sl.r_8 runA.sl.r_9 runA.sl.v runA.sl.v106 runA.sl.v109 runA.sl.v117 runA.sl.v119 runA.sl.v127 runA.sl.v130 runA.sl.v138 runA.sl.v140 runA.sl.v158 runA.sl.v161 runA.sl.v179 runA.sl.v182 runA.sl.v190 runA.sl.v24 runA.sl.v29 runA.sl.v65 runA.sl.v67 runA.sl.v86 runA.sl.v88
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try simp only [pay41_eq, pay42_eq, pay43_eq, pay44_eq, pay45_eq, pay46_eq, pay47_eq, pay48_eq, pay49_eq, pay50_eq, pay51_eq, pay53_eq, pay54_eq, pay55_eq, pay56_eq, pay7_eq, pay8_eq, pay2_eq, pay3_eq, pay9_eq, pay14_eq, pay15_eq, pay16_eq, pay18_eq, pay19_eq, pay20_eq, pay12_eq, pay17_eq, pay22_eq, pay1_eq]
      try simp only [crRow_put_ne _ (K1_ne_K0 i)]
      rfl
    isplitl [H13]
    · iexists _; isplitr; swap; · iexact H13
      ipureintro
      rw [st_tl]
      try delta runA.sl.H12_1 runA.sl.H12_2 runA.sl.H12_3 runA.sl.H12_4 runA.sl.H14_1 runA.sl.H15_3 runA.sl.H15_6 runA.sl.H16_2 runA.sl.H16_4 runA.sl.r runA.sl.r_1 runA.sl.r_10 runA.sl.r_11 runA.sl.r_12 runA.sl.r_13 runA.sl.r_2 runA.sl.r_3 runA.sl.r_4 runA.sl.r_5 runA.sl.r_6 runA.sl.r_7 runA.sl.r_8 runA.sl.r_9 runA.sl.v runA.sl.v106 runA.sl.v109 runA.sl.v117 runA.sl.v119 runA.sl.v127 runA.sl.v130 runA.sl.v138 runA.sl.v140 runA.sl.v158 runA.sl.v161 runA.sl.v179 runA.sl.v182 runA.sl.v190 runA.sl.v24 runA.sl.v29 runA.sl.v65 runA.sl.v67 runA.sl.v86 runA.sl.v88
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runA.sl.H12_1 runA.sl.H12_2 runA.sl.H12_3 runA.sl.H12_4 runA.sl.H14_1 runA.sl.H15_3 runA.sl.H15_6 runA.sl.H16_2 runA.sl.H16_4 runA.sl.r runA.sl.r_1 runA.sl.r_10 runA.sl.r_11 runA.sl.r_12 runA.sl.r_13 runA.sl.r_2 runA.sl.r_3 runA.sl.r_4 runA.sl.r_5 runA.sl.r_6 runA.sl.r_7 runA.sl.r_8 runA.sl.r_9 runA.sl.v runA.sl.v106 runA.sl.v109 runA.sl.v117 runA.sl.v119 runA.sl.v127 runA.sl.v130 runA.sl.v138 runA.sl.v140 runA.sl.v158 runA.sl.v161 runA.sl.v179 runA.sl.v182 runA.sl.v190 runA.sl.v24 runA.sl.v29 runA.sl.v65 runA.sl.v67 runA.sl.v86 runA.sl.v88
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runA.sl.H12_1 runA.sl.H12_2 runA.sl.H12_3 runA.sl.H12_4 runA.sl.H14_1 runA.sl.H15_3 runA.sl.H15_6 runA.sl.H16_2 runA.sl.H16_4 runA.sl.r runA.sl.r_1 runA.sl.r_10 runA.sl.r_11 runA.sl.r_12 runA.sl.r_13 runA.sl.r_2 runA.sl.r_3 runA.sl.r_4 runA.sl.r_5 runA.sl.r_6 runA.sl.r_7 runA.sl.r_8 runA.sl.r_9 runA.sl.v runA.sl.v106 runA.sl.v109 runA.sl.v117 runA.sl.v119 runA.sl.v127 runA.sl.v130 runA.sl.v138 runA.sl.v140 runA.sl.v158 runA.sl.v161 runA.sl.v179 runA.sl.v182 runA.sl.v190 runA.sl.v24 runA.sl.v29 runA.sl.v65 runA.sl.v67 runA.sl.v86 runA.sl.v88
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runA.sl.H12_1 runA.sl.H12_2 runA.sl.H12_3 runA.sl.H12_4 runA.sl.H14_1 runA.sl.H15_3 runA.sl.H15_6 runA.sl.H16_2 runA.sl.H16_4 runA.sl.r runA.sl.r_1 runA.sl.r_10 runA.sl.r_11 runA.sl.r_12 runA.sl.r_13 runA.sl.r_2 runA.sl.r_3 runA.sl.r_4 runA.sl.r_5 runA.sl.r_6 runA.sl.r_7 runA.sl.r_8 runA.sl.r_9 runA.sl.v runA.sl.v106 runA.sl.v109 runA.sl.v117 runA.sl.v119 runA.sl.v127 runA.sl.v130 runA.sl.v138 runA.sl.v140 runA.sl.v158 runA.sl.v161 runA.sl.v179 runA.sl.v182 runA.sl.v190 runA.sl.v24 runA.sl.v29 runA.sl.v65 runA.sl.v67 runA.sl.v86 runA.sl.v88
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runA.sl.H12_1 runA.sl.H12_2 runA.sl.H12_3 runA.sl.H12_4 runA.sl.H14_1 runA.sl.H15_3 runA.sl.H15_6 runA.sl.H16_2 runA.sl.H16_4 runA.sl.r runA.sl.r_1 runA.sl.r_10 runA.sl.r_11 runA.sl.r_12 runA.sl.r_13 runA.sl.r_2 runA.sl.r_3 runA.sl.r_4 runA.sl.r_5 runA.sl.r_6 runA.sl.r_7 runA.sl.r_8 runA.sl.r_9 runA.sl.v runA.sl.v106 runA.sl.v109 runA.sl.v117 runA.sl.v119 runA.sl.v127 runA.sl.v130 runA.sl.v138 runA.sl.v140 runA.sl.v158 runA.sl.v161 runA.sl.v179 runA.sl.v182 runA.sl.v190 runA.sl.v24 runA.sl.v29 runA.sl.v65 runA.sl.v67 runA.sl.v86 runA.sl.v88
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runA.sl.H12_1 runA.sl.H12_2 runA.sl.H12_3 runA.sl.H12_4 runA.sl.H14_1 runA.sl.H15_3 runA.sl.H15_6 runA.sl.H16_2 runA.sl.H16_4 runA.sl.r runA.sl.r_1 runA.sl.r_10 runA.sl.r_11 runA.sl.r_12 runA.sl.r_13 runA.sl.r_2 runA.sl.r_3 runA.sl.r_4 runA.sl.r_5 runA.sl.r_6 runA.sl.r_7 runA.sl.r_8 runA.sl.r_9 runA.sl.v runA.sl.v106 runA.sl.v109 runA.sl.v117 runA.sl.v119 runA.sl.v127 runA.sl.v130 runA.sl.v138 runA.sl.v140 runA.sl.v158 runA.sl.v161 runA.sl.v179 runA.sl.v182 runA.sl.v190 runA.sl.v24 runA.sl.v29 runA.sl.v65 runA.sl.v67 runA.sl.v86 runA.sl.v88
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runA.sl.H12_1 runA.sl.H12_2 runA.sl.H12_3 runA.sl.H12_4 runA.sl.H14_1 runA.sl.H15_3 runA.sl.H15_6 runA.sl.H16_2 runA.sl.H16_4 runA.sl.r runA.sl.r_1 runA.sl.r_10 runA.sl.r_11 runA.sl.r_12 runA.sl.r_13 runA.sl.r_2 runA.sl.r_3 runA.sl.r_4 runA.sl.r_5 runA.sl.r_6 runA.sl.r_7 runA.sl.r_8 runA.sl.r_9 runA.sl.v runA.sl.v106 runA.sl.v109 runA.sl.v117 runA.sl.v119 runA.sl.v127 runA.sl.v130 runA.sl.v138 runA.sl.v140 runA.sl.v158 runA.sl.v161 runA.sl.v179 runA.sl.v182 runA.sl.v190 runA.sl.v24 runA.sl.v29 runA.sl.v65 runA.sl.v67 runA.sl.v86 runA.sl.v88
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runA.sl.H12_1 runA.sl.H12_2 runA.sl.H12_3 runA.sl.H12_4 runA.sl.H14_1 runA.sl.H15_3 runA.sl.H15_6 runA.sl.H16_2 runA.sl.H16_4 runA.sl.r runA.sl.r_1 runA.sl.r_10 runA.sl.r_11 runA.sl.r_12 runA.sl.r_13 runA.sl.r_2 runA.sl.r_3 runA.sl.r_4 runA.sl.r_5 runA.sl.r_6 runA.sl.r_7 runA.sl.r_8 runA.sl.r_9 runA.sl.v runA.sl.v106 runA.sl.v109 runA.sl.v117 runA.sl.v119 runA.sl.v127 runA.sl.v130 runA.sl.v138 runA.sl.v140 runA.sl.v158 runA.sl.v161 runA.sl.v179 runA.sl.v182 runA.sl.v190 runA.sl.v24 runA.sl.v29 runA.sl.v65 runA.sl.v67 runA.sl.v86 runA.sl.v88
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runA.sl.H12_1 runA.sl.H12_2 runA.sl.H12_3 runA.sl.H12_4 runA.sl.H14_1 runA.sl.H15_3 runA.sl.H15_6 runA.sl.H16_2 runA.sl.H16_4 runA.sl.r runA.sl.r_1 runA.sl.r_10 runA.sl.r_11 runA.sl.r_12 runA.sl.r_13 runA.sl.r_2 runA.sl.r_3 runA.sl.r_4 runA.sl.r_5 runA.sl.r_6 runA.sl.r_7 runA.sl.r_8 runA.sl.r_9 runA.sl.v runA.sl.v106 runA.sl.v109 runA.sl.v117 runA.sl.v119 runA.sl.v127 runA.sl.v130 runA.sl.v138 runA.sl.v140 runA.sl.v158 runA.sl.v161 runA.sl.v179 runA.sl.v182 runA.sl.v190 runA.sl.v24 runA.sl.v29 runA.sl.v65 runA.sl.v67 runA.sl.v86 runA.sl.v88
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try simp only [pay41_eq, pay42_eq, pay43_eq, pay44_eq, pay45_eq, pay46_eq, pay47_eq, pay48_eq, pay49_eq, pay50_eq, pay51_eq, pay53_eq, pay54_eq, pay55_eq, pay56_eq, pay7_eq, pay8_eq, pay2_eq, pay3_eq, pay9_eq, pay14_eq, pay15_eq, pay16_eq, pay18_eq, pay19_eq, pay20_eq, pay12_eq, pay17_eq, pay22_eq, pay1_eq]
      try simp only [crRow_put_ne _ (K1_ne_K0 i)]
      rfl
    isplitl [H14]
    · iexists _; isplitr; swap; · iexact H14
      ipureintro
      delta runA.sl.H14_1; rw [View.read_writes_full]; simp only [pay12_eq, ld_o, ld_g]
    isplitl [H15]
    · iexists _; iexists _; isplitr; swap; · iexact H15
      ipureintro; rfl
    isplitl [H16]
    · iexists _; iexists _; isplitr; swap; · iexact H16
      ipureintro; rfl
    iexists _; isplitr; swap; · iexact H17
    ipureintro
    try delta runA.sl.H12_1 runA.sl.H12_2 runA.sl.H12_3 runA.sl.H12_4 runA.sl.H14_1 runA.sl.H15_3 runA.sl.H15_6 runA.sl.H16_2 runA.sl.H16_4 runA.sl.r runA.sl.r_1 runA.sl.r_10 runA.sl.r_11 runA.sl.r_12 runA.sl.r_13 runA.sl.r_2 runA.sl.r_3 runA.sl.r_4 runA.sl.r_5 runA.sl.r_6 runA.sl.r_7 runA.sl.r_8 runA.sl.r_9 runA.sl.v runA.sl.v106 runA.sl.v109 runA.sl.v117 runA.sl.v119 runA.sl.v127 runA.sl.v130 runA.sl.v138 runA.sl.v140 runA.sl.v158 runA.sl.v161 runA.sl.v179 runA.sl.v182 runA.sl.v190 runA.sl.v24 runA.sl.v29 runA.sl.v65 runA.sl.v67 runA.sl.v86 runA.sl.v88
    try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
    try delta runA.sl.H12_1 runA.sl.H12_2 runA.sl.H12_3 runA.sl.H12_4 runA.sl.H14_1 runA.sl.H15_3 runA.sl.H15_6 runA.sl.H16_2 runA.sl.H16_4 runA.sl.r runA.sl.r_1 runA.sl.r_10 runA.sl.r_11 runA.sl.r_12 runA.sl.r_13 runA.sl.r_2 runA.sl.r_3 runA.sl.r_4 runA.sl.r_5 runA.sl.r_6 runA.sl.r_7 runA.sl.r_8 runA.sl.r_9 runA.sl.v runA.sl.v106 runA.sl.v109 runA.sl.v117 runA.sl.v119 runA.sl.v127 runA.sl.v130 runA.sl.v138 runA.sl.v140 runA.sl.v158 runA.sl.v161 runA.sl.v179 runA.sl.v182 runA.sl.v190 runA.sl.v24 runA.sl.v29 runA.sl.v65 runA.sl.v67 runA.sl.v86 runA.sl.v88
    try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
    try delta runA.sl.H12_1 runA.sl.H12_2 runA.sl.H12_3 runA.sl.H12_4 runA.sl.H14_1 runA.sl.H15_3 runA.sl.H15_6 runA.sl.H16_2 runA.sl.H16_4 runA.sl.r runA.sl.r_1 runA.sl.r_10 runA.sl.r_11 runA.sl.r_12 runA.sl.r_13 runA.sl.r_2 runA.sl.r_3 runA.sl.r_4 runA.sl.r_5 runA.sl.r_6 runA.sl.r_7 runA.sl.r_8 runA.sl.r_9 runA.sl.v runA.sl.v106 runA.sl.v109 runA.sl.v117 runA.sl.v119 runA.sl.v127 runA.sl.v130 runA.sl.v138 runA.sl.v140 runA.sl.v158 runA.sl.v161 runA.sl.v179 runA.sl.v182 runA.sl.v190 runA.sl.v24 runA.sl.v29 runA.sl.v65 runA.sl.v67 runA.sl.v86 runA.sl.v88
    try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
    try delta runA.sl.H12_1 runA.sl.H12_2 runA.sl.H12_3 runA.sl.H12_4 runA.sl.H14_1 runA.sl.H15_3 runA.sl.H15_6 runA.sl.H16_2 runA.sl.H16_4 runA.sl.r runA.sl.r_1 runA.sl.r_10 runA.sl.r_11 runA.sl.r_12 runA.sl.r_13 runA.sl.r_2 runA.sl.r_3 runA.sl.r_4 runA.sl.r_5 runA.sl.r_6 runA.sl.r_7 runA.sl.r_8 runA.sl.r_9 runA.sl.v runA.sl.v106 runA.sl.v109 runA.sl.v117 runA.sl.v119 runA.sl.v127 runA.sl.v130 runA.sl.v138 runA.sl.v140 runA.sl.v158 runA.sl.v161 runA.sl.v179 runA.sl.v182 runA.sl.v190 runA.sl.v24 runA.sl.v29 runA.sl.v65 runA.sl.v67 runA.sl.v86 runA.sl.v88
    try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
    try delta runA.sl.H12_1 runA.sl.H12_2 runA.sl.H12_3 runA.sl.H12_4 runA.sl.H14_1 runA.sl.H15_3 runA.sl.H15_6 runA.sl.H16_2 runA.sl.H16_4 runA.sl.r runA.sl.r_1 runA.sl.r_10 runA.sl.r_11 runA.sl.r_12 runA.sl.r_13 runA.sl.r_2 runA.sl.r_3 runA.sl.r_4 runA.sl.r_5 runA.sl.r_6 runA.sl.r_7 runA.sl.r_8 runA.sl.r_9 runA.sl.v runA.sl.v106 runA.sl.v109 runA.sl.v117 runA.sl.v119 runA.sl.v127 runA.sl.v130 runA.sl.v138 runA.sl.v140 runA.sl.v158 runA.sl.v161 runA.sl.v179 runA.sl.v182 runA.sl.v190 runA.sl.v24 runA.sl.v29 runA.sl.v65 runA.sl.v67 runA.sl.v86 runA.sl.v88
    try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
    try delta runA.sl.H12_1 runA.sl.H12_2 runA.sl.H12_3 runA.sl.H12_4 runA.sl.H14_1 runA.sl.H15_3 runA.sl.H15_6 runA.sl.H16_2 runA.sl.H16_4 runA.sl.r runA.sl.r_1 runA.sl.r_10 runA.sl.r_11 runA.sl.r_12 runA.sl.r_13 runA.sl.r_2 runA.sl.r_3 runA.sl.r_4 runA.sl.r_5 runA.sl.r_6 runA.sl.r_7 runA.sl.r_8 runA.sl.r_9 runA.sl.v runA.sl.v106 runA.sl.v109 runA.sl.v117 runA.sl.v119 runA.sl.v127 runA.sl.v130 runA.sl.v138 runA.sl.v140 runA.sl.v158 runA.sl.v161 runA.sl.v179 runA.sl.v182 runA.sl.v190 runA.sl.v24 runA.sl.v29 runA.sl.v65 runA.sl.v67 runA.sl.v86 runA.sl.v88
    try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
    try delta runA.sl.H12_1 runA.sl.H12_2 runA.sl.H12_3 runA.sl.H12_4 runA.sl.H14_1 runA.sl.H15_3 runA.sl.H15_6 runA.sl.H16_2 runA.sl.H16_4 runA.sl.r runA.sl.r_1 runA.sl.r_10 runA.sl.r_11 runA.sl.r_12 runA.sl.r_13 runA.sl.r_2 runA.sl.r_3 runA.sl.r_4 runA.sl.r_5 runA.sl.r_6 runA.sl.r_7 runA.sl.r_8 runA.sl.r_9 runA.sl.v runA.sl.v106 runA.sl.v109 runA.sl.v117 runA.sl.v119 runA.sl.v127 runA.sl.v130 runA.sl.v138 runA.sl.v140 runA.sl.v158 runA.sl.v161 runA.sl.v179 runA.sl.v182 runA.sl.v190 runA.sl.v24 runA.sl.v29 runA.sl.v65 runA.sl.v67 runA.sl.v86 runA.sl.v88
    try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
    try delta runA.sl.H12_1 runA.sl.H12_2 runA.sl.H12_3 runA.sl.H12_4 runA.sl.H14_1 runA.sl.H15_3 runA.sl.H15_6 runA.sl.H16_2 runA.sl.H16_4 runA.sl.r runA.sl.r_1 runA.sl.r_10 runA.sl.r_11 runA.sl.r_12 runA.sl.r_13 runA.sl.r_2 runA.sl.r_3 runA.sl.r_4 runA.sl.r_5 runA.sl.r_6 runA.sl.r_7 runA.sl.r_8 runA.sl.r_9 runA.sl.v runA.sl.v106 runA.sl.v109 runA.sl.v117 runA.sl.v119 runA.sl.v127 runA.sl.v130 runA.sl.v138 runA.sl.v140 runA.sl.v158 runA.sl.v161 runA.sl.v179 runA.sl.v182 runA.sl.v190 runA.sl.v24 runA.sl.v29 runA.sl.v65 runA.sl.v67 runA.sl.v86 runA.sl.v88
    try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
    try delta runA.sl.H12_1 runA.sl.H12_2 runA.sl.H12_3 runA.sl.H12_4 runA.sl.H14_1 runA.sl.H15_3 runA.sl.H15_6 runA.sl.H16_2 runA.sl.H16_4 runA.sl.r runA.sl.r_1 runA.sl.r_10 runA.sl.r_11 runA.sl.r_12 runA.sl.r_13 runA.sl.r_2 runA.sl.r_3 runA.sl.r_4 runA.sl.r_5 runA.sl.r_6 runA.sl.r_7 runA.sl.r_8 runA.sl.r_9 runA.sl.v runA.sl.v106 runA.sl.v109 runA.sl.v117 runA.sl.v119 runA.sl.v127 runA.sl.v130 runA.sl.v138 runA.sl.v140 runA.sl.v158 runA.sl.v161 runA.sl.v179 runA.sl.v182 runA.sl.v190 runA.sl.v24 runA.sl.v29 runA.sl.v65 runA.sl.v67 runA.sl.v86 runA.sl.v88
    try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
    try simp only [pay41_eq, pay42_eq, pay43_eq, pay44_eq, pay45_eq, pay46_eq, pay47_eq, pay48_eq, pay49_eq, pay50_eq, pay51_eq, pay53_eq, pay54_eq, pay55_eq, pay56_eq, pay7_eq, pay8_eq, pay2_eq, pay3_eq, pay9_eq, pay14_eq, pay15_eq, pay16_eq, pay18_eq, pay19_eq, pay20_eq, pay12_eq, pay17_eq, pay22_eq, pay1_eq]
    try simp only [crRow_put_ne _ (K1_ne_K0 i)]
    rfl

set_option maxHeartbeats 2000000 in
/-- A middle point of a row tile: two blocks are added. -/
theorem runB (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S512x2048 .bf16) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole) (arg11 : Memref sig .tc .vmem S3x1024 .f32) (harg11 : arg11.IsWhole) (arg12 : Memref sig .tc .vmem S1x1024 .f32) (harg12 : arg12.IsWhole) (arg13 : Memref sig .tc .vmem S1x2048 .f32) (harg13 : arg13.IsWhole) (arg14 : Memref sig .tc .vmem S1x8x1024 .f32) (harg14 : arg14.IsWhole) (arg15 : Memref sig .tc .vmem S1x512x2048 .f32) (harg15 : arg15.IsWhole) (arg16 : Memref sig .tc .vmem S1x1x8x1024 .f32) (harg16 : arg16.IsWhole) (arg17 : Memref sig .tc .vmem S512x2048 .bf16) (harg17 : arg17.IsWhole) (arg18 : Memref sig .tc .vmem S1x520x512 .f32) (harg18 : arg18.IsWhole) (arg19 : Memref sig .tc .vmem S512x512 .f32) (harg19 : arg19.IsWhole) (arg20 : Memref sig .tc .vmem S12x1x8x512 .f32) (harg20 : arg20.IsWhole) (hc1 : ¬ k0_cond1 i = 1#1) (hc2 : k0_cond2 i = 1#1) (hc3 : ¬ k0_cond3 i = 1#1) (hc4 : k0_cond4 i = 1#1) (hc5 : ¬ k0_cond5 i = 1#1) (hc6 : ¬ k0_cond6 i = 1#1)
    (x0 : Vec F S1x512x2048 .f32) (x1 : Vec F S1x2048 .f32) (x2 : Vec F S2048x512 .bf16) (x3 : Vec F S2048x512 .bf16) (x4 : Vec F S512x2048 .bf16) (x5 : Vec F S2048x512 .bf16) (x6 : Vec F S2048x512 .bf16) (x7 : Vec F S512x2048 .bf16) (x8 : Vec F S3x1024 .f32) (x9 : Vec F S1x1024 .f32) (x10 : Vec F S1x2048 .f32) (x11 : Vec F S1x8x1024 .f32) (o : Vec F S1x512x2048 .f32) (tl : Vec F S1x1x8x1024 .f32) (h : Vec F S512x2048 .bf16) (sa : Vec F S1x520x512 .f32) (sb : Vec F S512x512 .f32) (cr : Vec F S12x1x8x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare o ∗ owns (c : Thread nD τ) arg16 fullShare tl ∗ owns (c : Thread nD τ) arg17 fullShare h
        ∗ owns (c : Thread nD τ) arg18 fullShare sa ∗ owns (c : Thread nD τ) arg19 fullShare sb ∗ owns (c : Thread nD τ) arg20 fullShare cr
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare (o2 i h x2 x3 x4 x5 x6 x7 x8 x9 x11 cr o) ∗ owns (c : Thread nD τ) arg16 fullShare (tlOf (k0_pay5 (tailNext h x2)) (k0_pay5 (tailNext h x5))) ∗ owns (c : Thread nD τ) arg17 fullShare h ∗ (∃ y : Vec F S1x520x512 .f32, owns (c : Thread nD τ) arg18 fullShare y) ∗ (∃ y : Vec F S512x512 .f32, owns (c : Thread nD τ) arg19 fullShare y) ∗ owns (c : Thread nD τ) arg20 fullShare (cr2 i h x2 x5 cr)) -∗ K ⟨⟩))
      ⊢ wp frame (wpE (defs₀ (F := F)) Variants.none c none) E (cc0_ffn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    simp only [cc0_ffn_eq_skeleton]; unfold cc0_ffn_skel
    simp only [k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    subst hf0 hf1 hf2 hf3 hf4 hf5 hf6 hf7 hf8 hf9 hf10 hf11 hf12 hf13 hf14 hf15 hf16 hf17
    sl_exec (disch := first | sl_exact hc1 | sl_exact hc2 | sl_exact hc3 | sl_exact hc4 | sl_exact hc5 | sl_exact hc6)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    isplitl [H8]
    · iexists _; isplitr; · ipureintro; rfl
      iexact H8
    isplitl [H9]
    · iexists _; isplitr; · ipureintro; rfl
      iexact H9
    isplitl [H10]
    · iexists _; isplitr; · ipureintro; rfl
      iexact H10
    isplitl [H11]
    · iexists _; isplitr; · ipureintro; rfl
      iexact H11
    isplitl [H12]
    · iexists _; isplitr; swap; · iexact H12
      ipureintro
      rw [View.read_writes_full]
      try delta runB.sl.H12_1 runB.sl.H12_2 runB.sl.H12_3 runB.sl.H15_3 runB.sl.H15_6 runB.sl.H16_2 runB.sl.H16_4 runB.sl.r runB.sl.r_1 runB.sl.r_10 runB.sl.r_11 runB.sl.r_12 runB.sl.r_13 runB.sl.r_14 runB.sl.r_15 runB.sl.r_16 runB.sl.r_2 runB.sl.r_3 runB.sl.r_4 runB.sl.r_5 runB.sl.r_6 runB.sl.r_7 runB.sl.r_8 runB.sl.r_9 runB.sl.v runB.sl.v106 runB.sl.v106_1 runB.sl.v109 runB.sl.v117 runB.sl.v117_1 runB.sl.v119 runB.sl.v119_1 runB.sl.v158 runB.sl.v158_1 runB.sl.v161 runB.sl.v161_1 runB.sl.v29 runB.sl.v65 runB.sl.v65_1 runB.sl.v67 runB.sl.v67_1 runB.sl.v_1
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runB.sl.H12_1 runB.sl.H12_2 runB.sl.H12_3 runB.sl.H15_3 runB.sl.H15_6 runB.sl.H16_2 runB.sl.H16_4 runB.sl.r runB.sl.r_1 runB.sl.r_10 runB.sl.r_11 runB.sl.r_12 runB.sl.r_13 runB.sl.r_14 runB.sl.r_15 runB.sl.r_16 runB.sl.r_2 runB.sl.r_3 runB.sl.r_4 runB.sl.r_5 runB.sl.r_6 runB.sl.r_7 runB.sl.r_8 runB.sl.r_9 runB.sl.v runB.sl.v106 runB.sl.v106_1 runB.sl.v109 runB.sl.v117 runB.sl.v117_1 runB.sl.v119 runB.sl.v119_1 runB.sl.v158 runB.sl.v158_1 runB.sl.v161 runB.sl.v161_1 runB.sl.v29 runB.sl.v65 runB.sl.v65_1 runB.sl.v67 runB.sl.v67_1 runB.sl.v_1
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runB.sl.H12_1 runB.sl.H12_2 runB.sl.H12_3 runB.sl.H15_3 runB.sl.H15_6 runB.sl.H16_2 runB.sl.H16_4 runB.sl.r runB.sl.r_1 runB.sl.r_10 runB.sl.r_11 runB.sl.r_12 runB.sl.r_13 runB.sl.r_14 runB.sl.r_15 runB.sl.r_16 runB.sl.r_2 runB.sl.r_3 runB.sl.r_4 runB.sl.r_5 runB.sl.r_6 runB.sl.r_7 runB.sl.r_8 runB.sl.r_9 runB.sl.v runB.sl.v106 runB.sl.v106_1 runB.sl.v109 runB.sl.v117 runB.sl.v117_1 runB.sl.v119 runB.sl.v119_1 runB.sl.v158 runB.sl.v158_1 runB.sl.v161 runB.sl.v161_1 runB.sl.v29 runB.sl.v65 runB.sl.v65_1 runB.sl.v67 runB.sl.v67_1 runB.sl.v_1
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runB.sl.H12_1 runB.sl.H12_2 runB.sl.H12_3 runB.sl.H15_3 runB.sl.H15_6 runB.sl.H16_2 runB.sl.H16_4 runB.sl.r runB.sl.r_1 runB.sl.r_10 runB.sl.r_11 runB.sl.r_12 runB.sl.r_13 runB.sl.r_14 runB.sl.r_15 runB.sl.r_16 runB.sl.r_2 runB.sl.r_3 runB.sl.r_4 runB.sl.r_5 runB.sl.r_6 runB.sl.r_7 runB.sl.r_8 runB.sl.r_9 runB.sl.v runB.sl.v106 runB.sl.v106_1 runB.sl.v109 runB.sl.v117 runB.sl.v117_1 runB.sl.v119 runB.sl.v119_1 runB.sl.v158 runB.sl.v158_1 runB.sl.v161 runB.sl.v161_1 runB.sl.v29 runB.sl.v65 runB.sl.v65_1 runB.sl.v67 runB.sl.v67_1 runB.sl.v_1
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runB.sl.H12_1 runB.sl.H12_2 runB.sl.H12_3 runB.sl.H15_3 runB.sl.H15_6 runB.sl.H16_2 runB.sl.H16_4 runB.sl.r runB.sl.r_1 runB.sl.r_10 runB.sl.r_11 runB.sl.r_12 runB.sl.r_13 runB.sl.r_14 runB.sl.r_15 runB.sl.r_16 runB.sl.r_2 runB.sl.r_3 runB.sl.r_4 runB.sl.r_5 runB.sl.r_6 runB.sl.r_7 runB.sl.r_8 runB.sl.r_9 runB.sl.v runB.sl.v106 runB.sl.v106_1 runB.sl.v109 runB.sl.v117 runB.sl.v117_1 runB.sl.v119 runB.sl.v119_1 runB.sl.v158 runB.sl.v158_1 runB.sl.v161 runB.sl.v161_1 runB.sl.v29 runB.sl.v65 runB.sl.v65_1 runB.sl.v67 runB.sl.v67_1 runB.sl.v_1
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runB.sl.H12_1 runB.sl.H12_2 runB.sl.H12_3 runB.sl.H15_3 runB.sl.H15_6 runB.sl.H16_2 runB.sl.H16_4 runB.sl.r runB.sl.r_1 runB.sl.r_10 runB.sl.r_11 runB.sl.r_12 runB.sl.r_13 runB.sl.r_14 runB.sl.r_15 runB.sl.r_16 runB.sl.r_2 runB.sl.r_3 runB.sl.r_4 runB.sl.r_5 runB.sl.r_6 runB.sl.r_7 runB.sl.r_8 runB.sl.r_9 runB.sl.v runB.sl.v106 runB.sl.v106_1 runB.sl.v109 runB.sl.v117 runB.sl.v117_1 runB.sl.v119 runB.sl.v119_1 runB.sl.v158 runB.sl.v158_1 runB.sl.v161 runB.sl.v161_1 runB.sl.v29 runB.sl.v65 runB.sl.v65_1 runB.sl.v67 runB.sl.v67_1 runB.sl.v_1
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runB.sl.H12_1 runB.sl.H12_2 runB.sl.H12_3 runB.sl.H15_3 runB.sl.H15_6 runB.sl.H16_2 runB.sl.H16_4 runB.sl.r runB.sl.r_1 runB.sl.r_10 runB.sl.r_11 runB.sl.r_12 runB.sl.r_13 runB.sl.r_14 runB.sl.r_15 runB.sl.r_16 runB.sl.r_2 runB.sl.r_3 runB.sl.r_4 runB.sl.r_5 runB.sl.r_6 runB.sl.r_7 runB.sl.r_8 runB.sl.r_9 runB.sl.v runB.sl.v106 runB.sl.v106_1 runB.sl.v109 runB.sl.v117 runB.sl.v117_1 runB.sl.v119 runB.sl.v119_1 runB.sl.v158 runB.sl.v158_1 runB.sl.v161 runB.sl.v161_1 runB.sl.v29 runB.sl.v65 runB.sl.v65_1 runB.sl.v67 runB.sl.v67_1 runB.sl.v_1
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runB.sl.H12_1 runB.sl.H12_2 runB.sl.H12_3 runB.sl.H15_3 runB.sl.H15_6 runB.sl.H16_2 runB.sl.H16_4 runB.sl.r runB.sl.r_1 runB.sl.r_10 runB.sl.r_11 runB.sl.r_12 runB.sl.r_13 runB.sl.r_14 runB.sl.r_15 runB.sl.r_16 runB.sl.r_2 runB.sl.r_3 runB.sl.r_4 runB.sl.r_5 runB.sl.r_6 runB.sl.r_7 runB.sl.r_8 runB.sl.r_9 runB.sl.v runB.sl.v106 runB.sl.v106_1 runB.sl.v109 runB.sl.v117 runB.sl.v117_1 runB.sl.v119 runB.sl.v119_1 runB.sl.v158 runB.sl.v158_1 runB.sl.v161 runB.sl.v161_1 runB.sl.v29 runB.sl.v65 runB.sl.v65_1 runB.sl.v67 runB.sl.v67_1 runB.sl.v_1
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runB.sl.H12_1 runB.sl.H12_2 runB.sl.H12_3 runB.sl.H15_3 runB.sl.H15_6 runB.sl.H16_2 runB.sl.H16_4 runB.sl.r runB.sl.r_1 runB.sl.r_10 runB.sl.r_11 runB.sl.r_12 runB.sl.r_13 runB.sl.r_14 runB.sl.r_15 runB.sl.r_16 runB.sl.r_2 runB.sl.r_3 runB.sl.r_4 runB.sl.r_5 runB.sl.r_6 runB.sl.r_7 runB.sl.r_8 runB.sl.r_9 runB.sl.v runB.sl.v106 runB.sl.v106_1 runB.sl.v109 runB.sl.v117 runB.sl.v117_1 runB.sl.v119 runB.sl.v119_1 runB.sl.v158 runB.sl.v158_1 runB.sl.v161 runB.sl.v161_1 runB.sl.v29 runB.sl.v65 runB.sl.v65_1 runB.sl.v67 runB.sl.v67_1 runB.sl.v_1
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try simp only [pay41_eq, pay42_eq, pay43_eq, pay44_eq, pay45_eq, pay46_eq, pay47_eq, pay48_eq, pay49_eq, pay50_eq, pay51_eq, pay53_eq, pay54_eq, pay55_eq, pay56_eq, pay7_eq, pay8_eq, pay2_eq, pay3_eq, pay9_eq, pay14_eq, pay15_eq, pay16_eq, pay18_eq, pay19_eq, pay20_eq, pay12_eq, pay17_eq, pay22_eq, pay1_eq]
      try simp only [crRow_put_ne _ (K1_ne_K0 i)]
      rfl
    isplitl [H13]
    · iexists _; isplitr; swap; · iexact H13
      ipureintro
      rw [st_tl]
      try delta runB.sl.H12_1 runB.sl.H12_2 runB.sl.H12_3 runB.sl.H15_3 runB.sl.H15_6 runB.sl.H16_2 runB.sl.H16_4 runB.sl.r runB.sl.r_1 runB.sl.r_10 runB.sl.r_11 runB.sl.r_12 runB.sl.r_13 runB.sl.r_14 runB.sl.r_15 runB.sl.r_16 runB.sl.r_2 runB.sl.r_3 runB.sl.r_4 runB.sl.r_5 runB.sl.r_6 runB.sl.r_7 runB.sl.r_8 runB.sl.r_9 runB.sl.v runB.sl.v106 runB.sl.v106_1 runB.sl.v109 runB.sl.v117 runB.sl.v117_1 runB.sl.v119 runB.sl.v119_1 runB.sl.v158 runB.sl.v158_1 runB.sl.v161 runB.sl.v161_1 runB.sl.v29 runB.sl.v65 runB.sl.v65_1 runB.sl.v67 runB.sl.v67_1 runB.sl.v_1
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runB.sl.H12_1 runB.sl.H12_2 runB.sl.H12_3 runB.sl.H15_3 runB.sl.H15_6 runB.sl.H16_2 runB.sl.H16_4 runB.sl.r runB.sl.r_1 runB.sl.r_10 runB.sl.r_11 runB.sl.r_12 runB.sl.r_13 runB.sl.r_14 runB.sl.r_15 runB.sl.r_16 runB.sl.r_2 runB.sl.r_3 runB.sl.r_4 runB.sl.r_5 runB.sl.r_6 runB.sl.r_7 runB.sl.r_8 runB.sl.r_9 runB.sl.v runB.sl.v106 runB.sl.v106_1 runB.sl.v109 runB.sl.v117 runB.sl.v117_1 runB.sl.v119 runB.sl.v119_1 runB.sl.v158 runB.sl.v158_1 runB.sl.v161 runB.sl.v161_1 runB.sl.v29 runB.sl.v65 runB.sl.v65_1 runB.sl.v67 runB.sl.v67_1 runB.sl.v_1
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runB.sl.H12_1 runB.sl.H12_2 runB.sl.H12_3 runB.sl.H15_3 runB.sl.H15_6 runB.sl.H16_2 runB.sl.H16_4 runB.sl.r runB.sl.r_1 runB.sl.r_10 runB.sl.r_11 runB.sl.r_12 runB.sl.r_13 runB.sl.r_14 runB.sl.r_15 runB.sl.r_16 runB.sl.r_2 runB.sl.r_3 runB.sl.r_4 runB.sl.r_5 runB.sl.r_6 runB.sl.r_7 runB.sl.r_8 runB.sl.r_9 runB.sl.v runB.sl.v106 runB.sl.v106_1 runB.sl.v109 runB.sl.v117 runB.sl.v117_1 runB.sl.v119 runB.sl.v119_1 runB.sl.v158 runB.sl.v158_1 runB.sl.v161 runB.sl.v161_1 runB.sl.v29 runB.sl.v65 runB.sl.v65_1 runB.sl.v67 runB.sl.v67_1 runB.sl.v_1
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runB.sl.H12_1 runB.sl.H12_2 runB.sl.H12_3 runB.sl.H15_3 runB.sl.H15_6 runB.sl.H16_2 runB.sl.H16_4 runB.sl.r runB.sl.r_1 runB.sl.r_10 runB.sl.r_11 runB.sl.r_12 runB.sl.r_13 runB.sl.r_14 runB.sl.r_15 runB.sl.r_16 runB.sl.r_2 runB.sl.r_3 runB.sl.r_4 runB.sl.r_5 runB.sl.r_6 runB.sl.r_7 runB.sl.r_8 runB.sl.r_9 runB.sl.v runB.sl.v106 runB.sl.v106_1 runB.sl.v109 runB.sl.v117 runB.sl.v117_1 runB.sl.v119 runB.sl.v119_1 runB.sl.v158 runB.sl.v158_1 runB.sl.v161 runB.sl.v161_1 runB.sl.v29 runB.sl.v65 runB.sl.v65_1 runB.sl.v67 runB.sl.v67_1 runB.sl.v_1
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runB.sl.H12_1 runB.sl.H12_2 runB.sl.H12_3 runB.sl.H15_3 runB.sl.H15_6 runB.sl.H16_2 runB.sl.H16_4 runB.sl.r runB.sl.r_1 runB.sl.r_10 runB.sl.r_11 runB.sl.r_12 runB.sl.r_13 runB.sl.r_14 runB.sl.r_15 runB.sl.r_16 runB.sl.r_2 runB.sl.r_3 runB.sl.r_4 runB.sl.r_5 runB.sl.r_6 runB.sl.r_7 runB.sl.r_8 runB.sl.r_9 runB.sl.v runB.sl.v106 runB.sl.v106_1 runB.sl.v109 runB.sl.v117 runB.sl.v117_1 runB.sl.v119 runB.sl.v119_1 runB.sl.v158 runB.sl.v158_1 runB.sl.v161 runB.sl.v161_1 runB.sl.v29 runB.sl.v65 runB.sl.v65_1 runB.sl.v67 runB.sl.v67_1 runB.sl.v_1
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runB.sl.H12_1 runB.sl.H12_2 runB.sl.H12_3 runB.sl.H15_3 runB.sl.H15_6 runB.sl.H16_2 runB.sl.H16_4 runB.sl.r runB.sl.r_1 runB.sl.r_10 runB.sl.r_11 runB.sl.r_12 runB.sl.r_13 runB.sl.r_14 runB.sl.r_15 runB.sl.r_16 runB.sl.r_2 runB.sl.r_3 runB.sl.r_4 runB.sl.r_5 runB.sl.r_6 runB.sl.r_7 runB.sl.r_8 runB.sl.r_9 runB.sl.v runB.sl.v106 runB.sl.v106_1 runB.sl.v109 runB.sl.v117 runB.sl.v117_1 runB.sl.v119 runB.sl.v119_1 runB.sl.v158 runB.sl.v158_1 runB.sl.v161 runB.sl.v161_1 runB.sl.v29 runB.sl.v65 runB.sl.v65_1 runB.sl.v67 runB.sl.v67_1 runB.sl.v_1
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runB.sl.H12_1 runB.sl.H12_2 runB.sl.H12_3 runB.sl.H15_3 runB.sl.H15_6 runB.sl.H16_2 runB.sl.H16_4 runB.sl.r runB.sl.r_1 runB.sl.r_10 runB.sl.r_11 runB.sl.r_12 runB.sl.r_13 runB.sl.r_14 runB.sl.r_15 runB.sl.r_16 runB.sl.r_2 runB.sl.r_3 runB.sl.r_4 runB.sl.r_5 runB.sl.r_6 runB.sl.r_7 runB.sl.r_8 runB.sl.r_9 runB.sl.v runB.sl.v106 runB.sl.v106_1 runB.sl.v109 runB.sl.v117 runB.sl.v117_1 runB.sl.v119 runB.sl.v119_1 runB.sl.v158 runB.sl.v158_1 runB.sl.v161 runB.sl.v161_1 runB.sl.v29 runB.sl.v65 runB.sl.v65_1 runB.sl.v67 runB.sl.v67_1 runB.sl.v_1
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runB.sl.H12_1 runB.sl.H12_2 runB.sl.H12_3 runB.sl.H15_3 runB.sl.H15_6 runB.sl.H16_2 runB.sl.H16_4 runB.sl.r runB.sl.r_1 runB.sl.r_10 runB.sl.r_11 runB.sl.r_12 runB.sl.r_13 runB.sl.r_14 runB.sl.r_15 runB.sl.r_16 runB.sl.r_2 runB.sl.r_3 runB.sl.r_4 runB.sl.r_5 runB.sl.r_6 runB.sl.r_7 runB.sl.r_8 runB.sl.r_9 runB.sl.v runB.sl.v106 runB.sl.v106_1 runB.sl.v109 runB.sl.v117 runB.sl.v117_1 runB.sl.v119 runB.sl.v119_1 runB.sl.v158 runB.sl.v158_1 runB.sl.v161 runB.sl.v161_1 runB.sl.v29 runB.sl.v65 runB.sl.v65_1 runB.sl.v67 runB.sl.v67_1 runB.sl.v_1
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runB.sl.H12_1 runB.sl.H12_2 runB.sl.H12_3 runB.sl.H15_3 runB.sl.H15_6 runB.sl.H16_2 runB.sl.H16_4 runB.sl.r runB.sl.r_1 runB.sl.r_10 runB.sl.r_11 runB.sl.r_12 runB.sl.r_13 runB.sl.r_14 runB.sl.r_15 runB.sl.r_16 runB.sl.r_2 runB.sl.r_3 runB.sl.r_4 runB.sl.r_5 runB.sl.r_6 runB.sl.r_7 runB.sl.r_8 runB.sl.r_9 runB.sl.v runB.sl.v106 runB.sl.v106_1 runB.sl.v109 runB.sl.v117 runB.sl.v117_1 runB.sl.v119 runB.sl.v119_1 runB.sl.v158 runB.sl.v158_1 runB.sl.v161 runB.sl.v161_1 runB.sl.v29 runB.sl.v65 runB.sl.v65_1 runB.sl.v67 runB.sl.v67_1 runB.sl.v_1
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try simp only [pay41_eq, pay42_eq, pay43_eq, pay44_eq, pay45_eq, pay46_eq, pay47_eq, pay48_eq, pay49_eq, pay50_eq, pay51_eq, pay53_eq, pay54_eq, pay55_eq, pay56_eq, pay7_eq, pay8_eq, pay2_eq, pay3_eq, pay9_eq, pay14_eq, pay15_eq, pay16_eq, pay18_eq, pay19_eq, pay20_eq, pay12_eq, pay17_eq, pay22_eq, pay1_eq]
      try simp only [crRow_put_ne _ (K1_ne_K0 i)]
      rfl
    isplitl [H14]
    · iexists _; isplitr; swap; · iexact H14
      ipureintro
      rfl
    isplitl [H15]
    · iexists _; iexists _; isplitr; swap; · iexact H15
      ipureintro; rfl
    isplitl [H16]
    · iexists _; iexists _; isplitr; swap; · iexact H16
      ipureintro; rfl
    iexists _; isplitr; swap; · iexact H17
    ipureintro
    try delta runB.sl.H12_1 runB.sl.H12_2 runB.sl.H12_3 runB.sl.H15_3 runB.sl.H15_6 runB.sl.H16_2 runB.sl.H16_4 runB.sl.r runB.sl.r_1 runB.sl.r_10 runB.sl.r_11 runB.sl.r_12 runB.sl.r_13 runB.sl.r_14 runB.sl.r_15 runB.sl.r_16 runB.sl.r_2 runB.sl.r_3 runB.sl.r_4 runB.sl.r_5 runB.sl.r_6 runB.sl.r_7 runB.sl.r_8 runB.sl.r_9 runB.sl.v runB.sl.v106 runB.sl.v106_1 runB.sl.v109 runB.sl.v117 runB.sl.v117_1 runB.sl.v119 runB.sl.v119_1 runB.sl.v158 runB.sl.v158_1 runB.sl.v161 runB.sl.v161_1 runB.sl.v29 runB.sl.v65 runB.sl.v65_1 runB.sl.v67 runB.sl.v67_1 runB.sl.v_1
    try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
    try delta runB.sl.H12_1 runB.sl.H12_2 runB.sl.H12_3 runB.sl.H15_3 runB.sl.H15_6 runB.sl.H16_2 runB.sl.H16_4 runB.sl.r runB.sl.r_1 runB.sl.r_10 runB.sl.r_11 runB.sl.r_12 runB.sl.r_13 runB.sl.r_14 runB.sl.r_15 runB.sl.r_16 runB.sl.r_2 runB.sl.r_3 runB.sl.r_4 runB.sl.r_5 runB.sl.r_6 runB.sl.r_7 runB.sl.r_8 runB.sl.r_9 runB.sl.v runB.sl.v106 runB.sl.v106_1 runB.sl.v109 runB.sl.v117 runB.sl.v117_1 runB.sl.v119 runB.sl.v119_1 runB.sl.v158 runB.sl.v158_1 runB.sl.v161 runB.sl.v161_1 runB.sl.v29 runB.sl.v65 runB.sl.v65_1 runB.sl.v67 runB.sl.v67_1 runB.sl.v_1
    try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
    try delta runB.sl.H12_1 runB.sl.H12_2 runB.sl.H12_3 runB.sl.H15_3 runB.sl.H15_6 runB.sl.H16_2 runB.sl.H16_4 runB.sl.r runB.sl.r_1 runB.sl.r_10 runB.sl.r_11 runB.sl.r_12 runB.sl.r_13 runB.sl.r_14 runB.sl.r_15 runB.sl.r_16 runB.sl.r_2 runB.sl.r_3 runB.sl.r_4 runB.sl.r_5 runB.sl.r_6 runB.sl.r_7 runB.sl.r_8 runB.sl.r_9 runB.sl.v runB.sl.v106 runB.sl.v106_1 runB.sl.v109 runB.sl.v117 runB.sl.v117_1 runB.sl.v119 runB.sl.v119_1 runB.sl.v158 runB.sl.v158_1 runB.sl.v161 runB.sl.v161_1 runB.sl.v29 runB.sl.v65 runB.sl.v65_1 runB.sl.v67 runB.sl.v67_1 runB.sl.v_1
    try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
    try delta runB.sl.H12_1 runB.sl.H12_2 runB.sl.H12_3 runB.sl.H15_3 runB.sl.H15_6 runB.sl.H16_2 runB.sl.H16_4 runB.sl.r runB.sl.r_1 runB.sl.r_10 runB.sl.r_11 runB.sl.r_12 runB.sl.r_13 runB.sl.r_14 runB.sl.r_15 runB.sl.r_16 runB.sl.r_2 runB.sl.r_3 runB.sl.r_4 runB.sl.r_5 runB.sl.r_6 runB.sl.r_7 runB.sl.r_8 runB.sl.r_9 runB.sl.v runB.sl.v106 runB.sl.v106_1 runB.sl.v109 runB.sl.v117 runB.sl.v117_1 runB.sl.v119 runB.sl.v119_1 runB.sl.v158 runB.sl.v158_1 runB.sl.v161 runB.sl.v161_1 runB.sl.v29 runB.sl.v65 runB.sl.v65_1 runB.sl.v67 runB.sl.v67_1 runB.sl.v_1
    try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
    try delta runB.sl.H12_1 runB.sl.H12_2 runB.sl.H12_3 runB.sl.H15_3 runB.sl.H15_6 runB.sl.H16_2 runB.sl.H16_4 runB.sl.r runB.sl.r_1 runB.sl.r_10 runB.sl.r_11 runB.sl.r_12 runB.sl.r_13 runB.sl.r_14 runB.sl.r_15 runB.sl.r_16 runB.sl.r_2 runB.sl.r_3 runB.sl.r_4 runB.sl.r_5 runB.sl.r_6 runB.sl.r_7 runB.sl.r_8 runB.sl.r_9 runB.sl.v runB.sl.v106 runB.sl.v106_1 runB.sl.v109 runB.sl.v117 runB.sl.v117_1 runB.sl.v119 runB.sl.v119_1 runB.sl.v158 runB.sl.v158_1 runB.sl.v161 runB.sl.v161_1 runB.sl.v29 runB.sl.v65 runB.sl.v65_1 runB.sl.v67 runB.sl.v67_1 runB.sl.v_1
    try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
    try delta runB.sl.H12_1 runB.sl.H12_2 runB.sl.H12_3 runB.sl.H15_3 runB.sl.H15_6 runB.sl.H16_2 runB.sl.H16_4 runB.sl.r runB.sl.r_1 runB.sl.r_10 runB.sl.r_11 runB.sl.r_12 runB.sl.r_13 runB.sl.r_14 runB.sl.r_15 runB.sl.r_16 runB.sl.r_2 runB.sl.r_3 runB.sl.r_4 runB.sl.r_5 runB.sl.r_6 runB.sl.r_7 runB.sl.r_8 runB.sl.r_9 runB.sl.v runB.sl.v106 runB.sl.v106_1 runB.sl.v109 runB.sl.v117 runB.sl.v117_1 runB.sl.v119 runB.sl.v119_1 runB.sl.v158 runB.sl.v158_1 runB.sl.v161 runB.sl.v161_1 runB.sl.v29 runB.sl.v65 runB.sl.v65_1 runB.sl.v67 runB.sl.v67_1 runB.sl.v_1
    try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
    try delta runB.sl.H12_1 runB.sl.H12_2 runB.sl.H12_3 runB.sl.H15_3 runB.sl.H15_6 runB.sl.H16_2 runB.sl.H16_4 runB.sl.r runB.sl.r_1 runB.sl.r_10 runB.sl.r_11 runB.sl.r_12 runB.sl.r_13 runB.sl.r_14 runB.sl.r_15 runB.sl.r_16 runB.sl.r_2 runB.sl.r_3 runB.sl.r_4 runB.sl.r_5 runB.sl.r_6 runB.sl.r_7 runB.sl.r_8 runB.sl.r_9 runB.sl.v runB.sl.v106 runB.sl.v106_1 runB.sl.v109 runB.sl.v117 runB.sl.v117_1 runB.sl.v119 runB.sl.v119_1 runB.sl.v158 runB.sl.v158_1 runB.sl.v161 runB.sl.v161_1 runB.sl.v29 runB.sl.v65 runB.sl.v65_1 runB.sl.v67 runB.sl.v67_1 runB.sl.v_1
    try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
    try delta runB.sl.H12_1 runB.sl.H12_2 runB.sl.H12_3 runB.sl.H15_3 runB.sl.H15_6 runB.sl.H16_2 runB.sl.H16_4 runB.sl.r runB.sl.r_1 runB.sl.r_10 runB.sl.r_11 runB.sl.r_12 runB.sl.r_13 runB.sl.r_14 runB.sl.r_15 runB.sl.r_16 runB.sl.r_2 runB.sl.r_3 runB.sl.r_4 runB.sl.r_5 runB.sl.r_6 runB.sl.r_7 runB.sl.r_8 runB.sl.r_9 runB.sl.v runB.sl.v106 runB.sl.v106_1 runB.sl.v109 runB.sl.v117 runB.sl.v117_1 runB.sl.v119 runB.sl.v119_1 runB.sl.v158 runB.sl.v158_1 runB.sl.v161 runB.sl.v161_1 runB.sl.v29 runB.sl.v65 runB.sl.v65_1 runB.sl.v67 runB.sl.v67_1 runB.sl.v_1
    try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
    try delta runB.sl.H12_1 runB.sl.H12_2 runB.sl.H12_3 runB.sl.H15_3 runB.sl.H15_6 runB.sl.H16_2 runB.sl.H16_4 runB.sl.r runB.sl.r_1 runB.sl.r_10 runB.sl.r_11 runB.sl.r_12 runB.sl.r_13 runB.sl.r_14 runB.sl.r_15 runB.sl.r_16 runB.sl.r_2 runB.sl.r_3 runB.sl.r_4 runB.sl.r_5 runB.sl.r_6 runB.sl.r_7 runB.sl.r_8 runB.sl.r_9 runB.sl.v runB.sl.v106 runB.sl.v106_1 runB.sl.v109 runB.sl.v117 runB.sl.v117_1 runB.sl.v119 runB.sl.v119_1 runB.sl.v158 runB.sl.v158_1 runB.sl.v161 runB.sl.v161_1 runB.sl.v29 runB.sl.v65 runB.sl.v65_1 runB.sl.v67 runB.sl.v67_1 runB.sl.v_1
    try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
    try simp only [pay41_eq, pay42_eq, pay43_eq, pay44_eq, pay45_eq, pay46_eq, pay47_eq, pay48_eq, pay49_eq, pay50_eq, pay51_eq, pay53_eq, pay54_eq, pay55_eq, pay56_eq, pay7_eq, pay8_eq, pay2_eq, pay3_eq, pay9_eq, pay14_eq, pay15_eq, pay16_eq, pay18_eq, pay19_eq, pay20_eq, pay12_eq, pay17_eq, pay22_eq, pay1_eq]
    try simp only [crRow_put_ne _ (K1_ne_K0 i)]
    rfl

set_option maxHeartbeats 2000000 in
/-- The last point of a row tile: one block is added, and the tile is rescaled, weighted and added to the residual. -/
theorem runC (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S512x2048 .bf16) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole) (arg11 : Memref sig .tc .vmem S3x1024 .f32) (harg11 : arg11.IsWhole) (arg12 : Memref sig .tc .vmem S1x1024 .f32) (harg12 : arg12.IsWhole) (arg13 : Memref sig .tc .vmem S1x2048 .f32) (harg13 : arg13.IsWhole) (arg14 : Memref sig .tc .vmem S1x8x1024 .f32) (harg14 : arg14.IsWhole) (arg15 : Memref sig .tc .vmem S1x512x2048 .f32) (harg15 : arg15.IsWhole) (arg16 : Memref sig .tc .vmem S1x1x8x1024 .f32) (harg16 : arg16.IsWhole) (arg17 : Memref sig .tc .vmem S512x2048 .bf16) (harg17 : arg17.IsWhole) (arg18 : Memref sig .tc .vmem S1x520x512 .f32) (harg18 : arg18.IsWhole) (arg19 : Memref sig .tc .vmem S512x512 .f32) (harg19 : arg19.IsWhole) (arg20 : Memref sig .tc .vmem S12x1x8x512 .f32) (harg20 : arg20.IsWhole) (hc1 : ¬ k0_cond1 i = 1#1) (hc2 : k0_cond2 i = 1#1) (hc3 : ¬ k0_cond3 i = 1#1) (hc4 : ¬ k0_cond4 i = 1#1) (hc5 : k0_cond5 i = 1#1) (hc6 : k0_cond6 i = 1#1)
    (x0 : Vec F S1x512x2048 .f32) (x1 : Vec F S1x2048 .f32) (x2 : Vec F S2048x512 .bf16) (x3 : Vec F S2048x512 .bf16) (x4 : Vec F S512x2048 .bf16) (x5 : Vec F S2048x512 .bf16) (x6 : Vec F S2048x512 .bf16) (x7 : Vec F S512x2048 .bf16) (x8 : Vec F S3x1024 .f32) (x9 : Vec F S1x1024 .f32) (x10 : Vec F S1x2048 .f32) (x11 : Vec F S1x8x1024 .f32) (o : Vec F S1x512x2048 .f32) (tl : Vec F S1x1x8x1024 .f32) (h : Vec F S512x2048 .bf16) (sa : Vec F S1x520x512 .f32) (sb : Vec F S512x512 .f32) (cr : Vec F S12x1x8x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare o ∗ owns (c : Thread nD τ) arg16 fullShare tl ∗ owns (c : Thread nD τ) arg17 fullShare h
        ∗ owns (c : Thread nD τ) arg18 fullShare sa ∗ owns (c : Thread nD τ) arg19 fullShare sb ∗ owns (c : Thread nD τ) arg20 fullShare cr
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare (k0_pay10 (o1 i h x2 x3 x4 x8 x9 x11 cr o) x10 x0) ∗ owns (c : Thread nD τ) arg16 fullShare (tlOf (k0_pay5 (tailNext h x2)) k0_pay6) ∗ owns (c : Thread nD τ) arg17 fullShare h ∗ (∃ y : Vec F S1x520x512 .f32, owns (c : Thread nD τ) arg18 fullShare y) ∗ (∃ y : Vec F S512x512 .f32, owns (c : Thread nD τ) arg19 fullShare y) ∗ owns (c : Thread nD τ) arg20 fullShare (cr1 i h x2 cr)) -∗ K ⟨⟩))
      ⊢ wp frame (wpE (defs₀ (F := F)) Variants.none c none) E (cc0_ffn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    simp only [cc0_ffn_eq_skeleton]; unfold cc0_ffn_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    subst hf0 hf1 hf2 hf3 hf4 hf5 hf6 hf7 hf8 hf9 hf10 hf11 hf12 hf13 hf14 hf15 hf16 hf17
    sl_exec (disch := first | sl_exact hc1 | sl_exact hc2 | sl_exact hc3 | sl_exact hc4 | sl_exact hc5 | sl_exact hc6)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    isplitl [H8]
    · iexists _; isplitr; · ipureintro; rfl
      iexact H8
    isplitl [H9]
    · iexists _; isplitr; · ipureintro; rfl
      iexact H9
    isplitl [H10]
    · iexists _; isplitr; · ipureintro; rfl
      iexact H10
    isplitl [H11]
    · iexists _; isplitr; · ipureintro; rfl
      iexact H11
    isplitl [H12]
    · iexists _; isplitr; swap; · iexact H12
      ipureintro
      rw [View.read_writes_full]
      try delta runC.sl.H12_1 runC.sl.H12_2 runC.sl.H15_3 runC.sl.H16_2 runC.sl.r runC.sl.r_1 runC.sl.r_2 runC.sl.r_3 runC.sl.r_4 runC.sl.r_5 runC.sl.r_6 runC.sl.r_7 runC.sl.r_8 runC.sl.v runC.sl.v106 runC.sl.v117 runC.sl.v119 runC.sl.v158 runC.sl.v161 runC.sl.v24 runC.sl.v65 runC.sl.v67
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runC.sl.H12_1 runC.sl.H12_2 runC.sl.H15_3 runC.sl.H16_2 runC.sl.r runC.sl.r_1 runC.sl.r_2 runC.sl.r_3 runC.sl.r_4 runC.sl.r_5 runC.sl.r_6 runC.sl.r_7 runC.sl.r_8 runC.sl.v runC.sl.v106 runC.sl.v117 runC.sl.v119 runC.sl.v158 runC.sl.v161 runC.sl.v24 runC.sl.v65 runC.sl.v67
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runC.sl.H12_1 runC.sl.H12_2 runC.sl.H15_3 runC.sl.H16_2 runC.sl.r runC.sl.r_1 runC.sl.r_2 runC.sl.r_3 runC.sl.r_4 runC.sl.r_5 runC.sl.r_6 runC.sl.r_7 runC.sl.r_8 runC.sl.v runC.sl.v106 runC.sl.v117 runC.sl.v119 runC.sl.v158 runC.sl.v161 runC.sl.v24 runC.sl.v65 runC.sl.v67
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runC.sl.H12_1 runC.sl.H12_2 runC.sl.H15_3 runC.sl.H16_2 runC.sl.r runC.sl.r_1 runC.sl.r_2 runC.sl.r_3 runC.sl.r_4 runC.sl.r_5 runC.sl.r_6 runC.sl.r_7 runC.sl.r_8 runC.sl.v runC.sl.v106 runC.sl.v117 runC.sl.v119 runC.sl.v158 runC.sl.v161 runC.sl.v24 runC.sl.v65 runC.sl.v67
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runC.sl.H12_1 runC.sl.H12_2 runC.sl.H15_3 runC.sl.H16_2 runC.sl.r runC.sl.r_1 runC.sl.r_2 runC.sl.r_3 runC.sl.r_4 runC.sl.r_5 runC.sl.r_6 runC.sl.r_7 runC.sl.r_8 runC.sl.v runC.sl.v106 runC.sl.v117 runC.sl.v119 runC.sl.v158 runC.sl.v161 runC.sl.v24 runC.sl.v65 runC.sl.v67
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runC.sl.H12_1 runC.sl.H12_2 runC.sl.H15_3 runC.sl.H16_2 runC.sl.r runC.sl.r_1 runC.sl.r_2 runC.sl.r_3 runC.sl.r_4 runC.sl.r_5 runC.sl.r_6 runC.sl.r_7 runC.sl.r_8 runC.sl.v runC.sl.v106 runC.sl.v117 runC.sl.v119 runC.sl.v158 runC.sl.v161 runC.sl.v24 runC.sl.v65 runC.sl.v67
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runC.sl.H12_1 runC.sl.H12_2 runC.sl.H15_3 runC.sl.H16_2 runC.sl.r runC.sl.r_1 runC.sl.r_2 runC.sl.r_3 runC.sl.r_4 runC.sl.r_5 runC.sl.r_6 runC.sl.r_7 runC.sl.r_8 runC.sl.v runC.sl.v106 runC.sl.v117 runC.sl.v119 runC.sl.v158 runC.sl.v161 runC.sl.v24 runC.sl.v65 runC.sl.v67
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runC.sl.H12_1 runC.sl.H12_2 runC.sl.H15_3 runC.sl.H16_2 runC.sl.r runC.sl.r_1 runC.sl.r_2 runC.sl.r_3 runC.sl.r_4 runC.sl.r_5 runC.sl.r_6 runC.sl.r_7 runC.sl.r_8 runC.sl.v runC.sl.v106 runC.sl.v117 runC.sl.v119 runC.sl.v158 runC.sl.v161 runC.sl.v24 runC.sl.v65 runC.sl.v67
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runC.sl.H12_1 runC.sl.H12_2 runC.sl.H15_3 runC.sl.H16_2 runC.sl.r runC.sl.r_1 runC.sl.r_2 runC.sl.r_3 runC.sl.r_4 runC.sl.r_5 runC.sl.r_6 runC.sl.r_7 runC.sl.r_8 runC.sl.v runC.sl.v106 runC.sl.v117 runC.sl.v119 runC.sl.v158 runC.sl.v161 runC.sl.v24 runC.sl.v65 runC.sl.v67
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try simp only [pay41_eq, pay42_eq, pay43_eq, pay44_eq, pay45_eq, pay46_eq, pay47_eq, pay48_eq, pay49_eq, pay50_eq, pay51_eq, pay53_eq, pay54_eq, pay55_eq, pay56_eq, pay7_eq, pay8_eq, pay2_eq, pay3_eq, pay9_eq, pay14_eq, pay15_eq, pay16_eq, pay18_eq, pay19_eq, pay20_eq, pay12_eq, pay17_eq, pay22_eq, pay1_eq]
      try simp only [crRow_put_ne _ (K1_ne_K0 i)]
      rfl
    isplitl [H13]
    · iexists _; isplitr; swap; · iexact H13
      ipureintro
      rw [st_tl]
      try delta runC.sl.H12_1 runC.sl.H12_2 runC.sl.H15_3 runC.sl.H16_2 runC.sl.r runC.sl.r_1 runC.sl.r_2 runC.sl.r_3 runC.sl.r_4 runC.sl.r_5 runC.sl.r_6 runC.sl.r_7 runC.sl.r_8 runC.sl.v runC.sl.v106 runC.sl.v117 runC.sl.v119 runC.sl.v158 runC.sl.v161 runC.sl.v24 runC.sl.v65 runC.sl.v67
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runC.sl.H12_1 runC.sl.H12_2 runC.sl.H15_3 runC.sl.H16_2 runC.sl.r runC.sl.r_1 runC.sl.r_2 runC.sl.r_3 runC.sl.r_4 runC.sl.r_5 runC.sl.r_6 runC.sl.r_7 runC.sl.r_8 runC.sl.v runC.sl.v106 runC.sl.v117 runC.sl.v119 runC.sl.v158 runC.sl.v161 runC.sl.v24 runC.sl.v65 runC.sl.v67
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runC.sl.H12_1 runC.sl.H12_2 runC.sl.H15_3 runC.sl.H16_2 runC.sl.r runC.sl.r_1 runC.sl.r_2 runC.sl.r_3 runC.sl.r_4 runC.sl.r_5 runC.sl.r_6 runC.sl.r_7 runC.sl.r_8 runC.sl.v runC.sl.v106 runC.sl.v117 runC.sl.v119 runC.sl.v158 runC.sl.v161 runC.sl.v24 runC.sl.v65 runC.sl.v67
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runC.sl.H12_1 runC.sl.H12_2 runC.sl.H15_3 runC.sl.H16_2 runC.sl.r runC.sl.r_1 runC.sl.r_2 runC.sl.r_3 runC.sl.r_4 runC.sl.r_5 runC.sl.r_6 runC.sl.r_7 runC.sl.r_8 runC.sl.v runC.sl.v106 runC.sl.v117 runC.sl.v119 runC.sl.v158 runC.sl.v161 runC.sl.v24 runC.sl.v65 runC.sl.v67
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runC.sl.H12_1 runC.sl.H12_2 runC.sl.H15_3 runC.sl.H16_2 runC.sl.r runC.sl.r_1 runC.sl.r_2 runC.sl.r_3 runC.sl.r_4 runC.sl.r_5 runC.sl.r_6 runC.sl.r_7 runC.sl.r_8 runC.sl.v runC.sl.v106 runC.sl.v117 runC.sl.v119 runC.sl.v158 runC.sl.v161 runC.sl.v24 runC.sl.v65 runC.sl.v67
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runC.sl.H12_1 runC.sl.H12_2 runC.sl.H15_3 runC.sl.H16_2 runC.sl.r runC.sl.r_1 runC.sl.r_2 runC.sl.r_3 runC.sl.r_4 runC.sl.r_5 runC.sl.r_6 runC.sl.r_7 runC.sl.r_8 runC.sl.v runC.sl.v106 runC.sl.v117 runC.sl.v119 runC.sl.v158 runC.sl.v161 runC.sl.v24 runC.sl.v65 runC.sl.v67
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runC.sl.H12_1 runC.sl.H12_2 runC.sl.H15_3 runC.sl.H16_2 runC.sl.r runC.sl.r_1 runC.sl.r_2 runC.sl.r_3 runC.sl.r_4 runC.sl.r_5 runC.sl.r_6 runC.sl.r_7 runC.sl.r_8 runC.sl.v runC.sl.v106 runC.sl.v117 runC.sl.v119 runC.sl.v158 runC.sl.v161 runC.sl.v24 runC.sl.v65 runC.sl.v67
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runC.sl.H12_1 runC.sl.H12_2 runC.sl.H15_3 runC.sl.H16_2 runC.sl.r runC.sl.r_1 runC.sl.r_2 runC.sl.r_3 runC.sl.r_4 runC.sl.r_5 runC.sl.r_6 runC.sl.r_7 runC.sl.r_8 runC.sl.v runC.sl.v106 runC.sl.v117 runC.sl.v119 runC.sl.v158 runC.sl.v161 runC.sl.v24 runC.sl.v65 runC.sl.v67
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try delta runC.sl.H12_1 runC.sl.H12_2 runC.sl.H15_3 runC.sl.H16_2 runC.sl.r runC.sl.r_1 runC.sl.r_2 runC.sl.r_3 runC.sl.r_4 runC.sl.r_5 runC.sl.r_6 runC.sl.r_7 runC.sl.r_8 runC.sl.v runC.sl.v106 runC.sl.v117 runC.sl.v119 runC.sl.v158 runC.sl.v161 runC.sl.v24 runC.sl.v65 runC.sl.v67
      try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
      try simp only [pay41_eq, pay42_eq, pay43_eq, pay44_eq, pay45_eq, pay46_eq, pay47_eq, pay48_eq, pay49_eq, pay50_eq, pay51_eq, pay53_eq, pay54_eq, pay55_eq, pay56_eq, pay7_eq, pay8_eq, pay2_eq, pay3_eq, pay9_eq, pay14_eq, pay15_eq, pay16_eq, pay18_eq, pay19_eq, pay20_eq, pay12_eq, pay17_eq, pay22_eq, pay1_eq]
      try simp only [crRow_put_ne _ (K1_ne_K0 i)]
      rfl
    isplitl [H14]
    · iexists _; isplitr; swap; · iexact H14
      ipureintro
      rfl
    isplitl [H15]
    · iexists _; iexists _; isplitr; swap; · iexact H15
      ipureintro; rfl
    isplitl [H16]
    · iexists _; iexists _; isplitr; swap; · iexact H16
      ipureintro; rfl
    iexists _; isplitr; swap; · iexact H17
    ipureintro
    try delta runC.sl.H12_1 runC.sl.H12_2 runC.sl.H15_3 runC.sl.H16_2 runC.sl.r runC.sl.r_1 runC.sl.r_2 runC.sl.r_3 runC.sl.r_4 runC.sl.r_5 runC.sl.r_6 runC.sl.r_7 runC.sl.r_8 runC.sl.v runC.sl.v106 runC.sl.v117 runC.sl.v119 runC.sl.v158 runC.sl.v161 runC.sl.v24 runC.sl.v65 runC.sl.v67
    try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
    try delta runC.sl.H12_1 runC.sl.H12_2 runC.sl.H15_3 runC.sl.H16_2 runC.sl.r runC.sl.r_1 runC.sl.r_2 runC.sl.r_3 runC.sl.r_4 runC.sl.r_5 runC.sl.r_6 runC.sl.r_7 runC.sl.r_8 runC.sl.v runC.sl.v106 runC.sl.v117 runC.sl.v119 runC.sl.v158 runC.sl.v161 runC.sl.v24 runC.sl.v65 runC.sl.v67
    try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
    try delta runC.sl.H12_1 runC.sl.H12_2 runC.sl.H15_3 runC.sl.H16_2 runC.sl.r runC.sl.r_1 runC.sl.r_2 runC.sl.r_3 runC.sl.r_4 runC.sl.r_5 runC.sl.r_6 runC.sl.r_7 runC.sl.r_8 runC.sl.v runC.sl.v106 runC.sl.v117 runC.sl.v119 runC.sl.v158 runC.sl.v161 runC.sl.v24 runC.sl.v65 runC.sl.v67
    try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
    try delta runC.sl.H12_1 runC.sl.H12_2 runC.sl.H15_3 runC.sl.H16_2 runC.sl.r runC.sl.r_1 runC.sl.r_2 runC.sl.r_3 runC.sl.r_4 runC.sl.r_5 runC.sl.r_6 runC.sl.r_7 runC.sl.r_8 runC.sl.v runC.sl.v106 runC.sl.v117 runC.sl.v119 runC.sl.v158 runC.sl.v161 runC.sl.v24 runC.sl.v65 runC.sl.v67
    try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
    try delta runC.sl.H12_1 runC.sl.H12_2 runC.sl.H15_3 runC.sl.H16_2 runC.sl.r runC.sl.r_1 runC.sl.r_2 runC.sl.r_3 runC.sl.r_4 runC.sl.r_5 runC.sl.r_6 runC.sl.r_7 runC.sl.r_8 runC.sl.v runC.sl.v106 runC.sl.v117 runC.sl.v119 runC.sl.v158 runC.sl.v161 runC.sl.v24 runC.sl.v65 runC.sl.v67
    try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
    try delta runC.sl.H12_1 runC.sl.H12_2 runC.sl.H15_3 runC.sl.H16_2 runC.sl.r runC.sl.r_1 runC.sl.r_2 runC.sl.r_3 runC.sl.r_4 runC.sl.r_5 runC.sl.r_6 runC.sl.r_7 runC.sl.r_8 runC.sl.v runC.sl.v106 runC.sl.v117 runC.sl.v119 runC.sl.v158 runC.sl.v161 runC.sl.v24 runC.sl.v65 runC.sl.v67
    try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
    try delta runC.sl.H12_1 runC.sl.H12_2 runC.sl.H15_3 runC.sl.H16_2 runC.sl.r runC.sl.r_1 runC.sl.r_2 runC.sl.r_3 runC.sl.r_4 runC.sl.r_5 runC.sl.r_6 runC.sl.r_7 runC.sl.r_8 runC.sl.v runC.sl.v106 runC.sl.v117 runC.sl.v119 runC.sl.v158 runC.sl.v161 runC.sl.v24 runC.sl.v65 runC.sl.v67
    try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
    try delta runC.sl.H12_1 runC.sl.H12_2 runC.sl.H15_3 runC.sl.H16_2 runC.sl.r runC.sl.r_1 runC.sl.r_2 runC.sl.r_3 runC.sl.r_4 runC.sl.r_5 runC.sl.r_6 runC.sl.r_7 runC.sl.r_8 runC.sl.v runC.sl.v106 runC.sl.v117 runC.sl.v119 runC.sl.v158 runC.sl.v161 runC.sl.v24 runC.sl.v65 runC.sl.v67
    try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
    try delta runC.sl.H12_1 runC.sl.H12_2 runC.sl.H15_3 runC.sl.H16_2 runC.sl.r runC.sl.r_1 runC.sl.r_2 runC.sl.r_3 runC.sl.r_4 runC.sl.r_5 runC.sl.r_6 runC.sl.r_7 runC.sl.r_8 runC.sl.v runC.sl.v106 runC.sl.v117 runC.sl.v119 runC.sl.v158 runC.sl.v161 runC.sl.v24 runC.sl.v65 runC.sl.v67
    try simp only [ld_hi, ld_lo, ld_hdl, ld_hdh, ld_tail, ldb_hi, ldb_lo, ldc_o, ldc_h, ld_wl, ld_wh, ld_dl, ld_dh, ld_cwl, ld_cwh, ld_cbl, ld_cbh, ld_cpl, ld_cph, ld_o, ld_g, ld_h, ld_cr _ _ (off1_val i), ld_cr _ _ (off2_val i), ld_cr _ _ (off3_val i), st_cr _ _ (off1_val i), st_cr _ _ (off2_val i), st_cr _ _ (off3_val i), View.writes_nil, crRow_put_ne _ (K1_ne_K0 i)]
    try simp only [pay41_eq, pay42_eq, pay43_eq, pay44_eq, pay45_eq, pay46_eq, pay47_eq, pay48_eq, pay49_eq, pay50_eq, pay51_eq, pay53_eq, pay54_eq, pay55_eq, pay56_eq, pay7_eq, pay8_eq, pay2_eq, pay3_eq, pay9_eq, pay14_eq, pay15_eq, pay16_eq, pay18_eq, pay19_eq, pay20_eq, pay12_eq, pay17_eq, pay22_eq, pay1_eq]
    try simp only [crRow_put_ne _ (K1_ne_K0 i)]
    rfl

end Cert.FfnIdeal.Run

end
-- ==== Proof.FfnFrame.lean ====
module

public import proofs.«01_k».proof.Proof.FfnRun
public import Idealize.ShloMosaic.Lib.Claim
public import Idealize.ShloMosaic.Lib.Pipeline.FrameBody

/-!
  The feed-forward kernel over its whole grid, for any float interpretation: the normalised rows of each row tile, the
  rows each tile keeps for the next one, the output tile after each point, the body's obligation at every point, and
  the run of @main.
-/

@[expose] public section

set_option maxRecDepth 16384

noncomputable section

namespace Cert.FfnIdeal.Run

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The row tile's number at a point. -/
theorem coord1 (t : Fin cfg0.N) : (grid0.coords t 1).val = t.val / 6 % 4 := Pipeline.Grid.coords_val t 1 (by decide) rfl
/-- The number of a point within its row tile. -/
theorem coord2 (t : Fin cfg0.N) : (grid0.coords t 2).val = t.val % 6 := by
  have h : (grid0.coords t 2).val = t.val / 1 % 6 := Pipeline.Grid.coords_val t 2 (by decide) rfl
  rwa [Nat.div_one] at h

/-- The branches a point takes, by its number within the row tile: the first point, -/
theorem conds_first (t : Fin cfg0.N) (h : t.val % 6 = 0) :
    k0_cond1 (grid0.coords t) = 1#1 ∧ ¬ k0_cond2 (grid0.coords t) = 1#1 ∧ ¬ k0_cond3 (grid0.coords t) = 1#1
      ∧ k0_cond4 (grid0.coords t) = 1#1 ∧ ¬ k0_cond5 (grid0.coords t) = 1#1 ∧ ¬ k0_cond6 (grid0.coords t) = 1#1 := by
  have e2 : (grid0.coords t) 2 = (0 : Fin 6) := Fin.ext ((coord2 t).trans h)
  unfold k0_cond1 k0_cond2 k0_cond3 k0_cond4 k0_cond5 k0_cond6
  simp only [e2]
  decide

/-- a point between the first and the last, -/
theorem conds_mid (t : Fin cfg0.N) (h0 : t.val % 6 ≠ 0) (h5 : t.val % 6 ≠ 5) :
    ¬ k0_cond1 (grid0.coords t) = 1#1 ∧ k0_cond2 (grid0.coords t) = 1#1 ∧ ¬ k0_cond3 (grid0.coords t) = 1#1
      ∧ k0_cond4 (grid0.coords t) = 1#1 ∧ ¬ k0_cond5 (grid0.coords t) = 1#1 ∧ ¬ k0_cond6 (grid0.coords t) = 1#1 := by
  obtain ⟨j, hj⟩ : ∃ j : Fin 6, (grid0.coords t) 2 = j := ⟨_, rfl⟩
  have hv : j.val = t.val % 6 := by rw [← hj]; exact coord2 t
  have k0 : j ≠ 0 := fun h => h0 (by rw [← hv, h]; rfl)
  have k5 : j ≠ 5 := fun h => h5 (by rw [← hv, h]; rfl)
  unfold k0_cond1 k0_cond2 k0_cond3 k0_cond4 k0_cond5 k0_cond6
  simp only [hj]
  clear hj hv h0 h5
  revert j
  decide

/-- and the last. -/
theorem conds_last (t : Fin cfg0.N) (h : t.val % 6 = 5) :
    ¬ k0_cond1 (grid0.coords t) = 1#1 ∧ k0_cond2 (grid0.coords t) = 1#1 ∧ ¬ k0_cond3 (grid0.coords t) = 1#1
      ∧ ¬ k0_cond4 (grid0.coords t) = 1#1 ∧ k0_cond5 (grid0.coords t) = 1#1 ∧ k0_cond6 (grid0.coords t) = 1#1 := by
  have e2 : (grid0.coords t) 2 = (5 : Fin 6) := Fin.ext ((coord2 t).trans h)
  unfold k0_cond1 k0_cond2 k0_cond3 k0_cond4 k0_cond5 k0_cond6
  simp only [e2]
  decide

theorem K0_val (t : Fin cfg0.N) : (K0 (grid0.coords t)).val = 2 * (t.val % 6) := congrArg (2 * ·) (coord2 t)
theorem K1_val (t : Fin cfg0.N) : (K1 (grid0.coords t)).val = 2 * (t.val % 6) + 1 := congrArg (2 * · + 1) (coord2 t)

/-! ## What each point computes -/

/-- The point `k` before `t`. -/
def back (t : Fin cfg0.N) (k : ℕ) : Fin cfg0.N := ⟨t.val - k, lt_of_le_of_lt (Nat.sub_le _ _) t.isLt⟩

/-- The normalised rows of the tile of point `t`, formed at the tile's first point. -/
def hAt (c : Dev nD) (t : Fin cfg0.N) : Vec F S512x2048 .bf16 :=
  k0_pay11 (iblk m c 0 (back t (t.val % 6))) (iblk m c 1 (back t (t.val % 6)))

theorem hAt_first (c : Dev nD) (t : Fin cfg0.N) (h : t.val % 6 = 0) : k0_pay11 (iblk m c 0 t) (iblk m c 1 t) = hAt m c t := by
  have e : back t (t.val % 6) = t := Fin.ext (by show t.val - _ = _; omega)
  unfold hAt; rw [e]

theorem hAt_prev (c : Dev nD) (t : Fin cfg0.N) (h : t.val % 6 ≠ 0) : hAt m c (back t 1) = hAt m c t := by
  have e : back (back t 1) ((back t 1).val % 6) = back t (t.val % 6) := Fin.ext (by
    show (t.val - 1) - (t.val - 1) % 6 = t.val - t.val % 6; omega)
  unfold hAt; rw [e]

/-- The last rows of the first projection that point `t` keeps of its first block of hidden columns, -/
def TA (c : Dev nD) (t : Fin cfg0.N) : Vec F S1x1x8x512 .f32 := k0_pay4 (tailNext (hAt m c t) (iblk m c 2 t))
/-- and of its second. -/
def TB (c : Dev nD) (t : Fin cfg0.N) : Vec F S1x1x8x512 .f32 := k0_pay4 (tailNext (hAt m c t) (iblk m c 5 t))

/-- The output tile after the first block of point `t`, from what it was before the point. -/
def oStep1 (c : Dev nD) (t : Fin cfg0.N) (o : Vec F S1x512x2048 .f32) : Vec F S1x512x2048 .f32 :=
  oNext (tileWord (grid0.coords t)) (hAt m c t) (cpl (iblk m c 11 t)) (TA m c (back t 6)) (iblk m c 2 t) (iblk m c 3 t) (iblk m c 4 t) (cwl (iblk m c 8 t)) (cbl (iblk m c 9 t)) o

/-- The output tile after both blocks of point `t`. -/
def oStep (c : Dev nD) (t : Fin cfg0.N) (o : Vec F S1x512x2048 .f32) : Vec F S1x512x2048 .f32 :=
  oNext (tileWord (grid0.coords t)) (hAt m c t) (cph (iblk m c 11 t)) (TB m c (back t 6)) (iblk m c 5 t) (iblk m c 6 t) (iblk m c 7 t) (cwh (iblk m c 8 t)) (cbh (iblk m c 9 t))
    (oStep1 m c t o)

/-- The output tile after point `n`: the blocks' sum, and at the tile's last point the normalised sum added to the residual. -/
def oAt (c : Dev nD) : (n : ℕ) → n < cfg0.N → Vec F S1x512x2048 .f32
  | 0, h => oStep m c ⟨0, h⟩ k0_pay13
  | n + 1, h =>
    if (n + 1) % 6 = 0 then oStep m c ⟨n + 1, h⟩ k0_pay13
    else if (n + 1) % 6 = 5 then k0_pay10 (oStep1 m c ⟨n + 1, h⟩ (oAt c n (Nat.lt_of_succ_lt h))) (iblk m c 10 ⟨n + 1, h⟩) (iblk m c 0 ⟨n + 1, h⟩)
    else oStep m c ⟨n + 1, h⟩ (oAt c n (Nat.lt_of_succ_lt h))

theorem oAt_first (c : Dev nD) (t : Fin cfg0.N) (h : t.val % 6 = 0) : oAt m c t.val t.isLt = oStep m c t k0_pay13 := by
  obtain ⟨n, hn⟩ := t
  cases n with
  | zero => rfl
  | succ n => unfold oAt; rw [if_pos h]

theorem oAt_mid (c : Dev nD) (t : Fin cfg0.N) (h : t.val % 6 ≠ 0) (h5 : t.val % 6 ≠ 5) :
    oAt m c t.val t.isLt = oStep m c t (oAt m c (back t 1).val (back t 1).isLt) := by
  obtain ⟨n, hn⟩ := t
  cases n with
  | zero => exact absurd rfl h
  | succ n => conv_lhs => unfold oAt
              rw [if_neg h, if_neg h5]; rfl

theorem oAt_last (c : Dev nD) (t : Fin cfg0.N) (h5 : t.val % 6 = 5) :
    oAt m c t.val t.isLt = k0_pay10 (oStep1 m c t (oAt m c (back t 1).val (back t 1).isLt)) (iblk m c 10 t) (iblk m c 0 t) := by
  obtain ⟨n, hn⟩ := t
  have h : (n : ℕ) % 6 ≠ 0 := by simp only at h5; omega
  cases n with
  | zero => exact absurd rfl h
  | succ n => conv_lhs => unfold oAt
              rw [if_neg h, if_pos h5]; rfl

/-- The kept rows a point writes out: those of its first block, and of its second where the point has one. -/
def tlAt (c : Dev nD) (t : Fin cfg0.N) : Vec F S1x1x8x1024 .f32 :=
  tlOf (k0_pay5 (tailNext (hAt m c t) (iblk m c 2 t))) (if t.val % 6 = 5 then k0_pay6 else k0_pay5 (tailNext (hAt m c t) (iblk m c 5 t)))

/-- In the first tile of a sequence the kept rows are not read: the rows before the sequence stand in front. -/
theorem pay25_first (cp : Vec F S1x8x512 .f32) (q q' : Vec F S1x1x8x512 .f32) : k0_pay25 0#32 cp q = k0_pay25 0#32 cp q' := by
  unfold k0_pay25; rfl

theorem oNext_congr (t : Fin cfg0.N) (h : Vec F S512x2048 .bf16) (cp : Vec F S1x8x512 .f32) (q q' : Vec F S1x1x8x512 .f32) (wa wb : Vec F S2048x512 .bf16)
    (wd : Vec F S512x2048 .bf16) (cw : Vec F S3x512 .f32) (cb : Vec F S1x512 .f32) (o : Vec F S1x512x2048 .f32) (hq : t.val / 6 % 4 ≠ 0 → q = q') :
    oNext (tileWord (grid0.coords t)) h cp q wa wb wd cw cb o = oNext (tileWord (grid0.coords t)) h cp q' wa wb wd cw cb o := by
  by_cases h0 : t.val / 6 % 4 = 0
  · have e : tileWord (grid0.coords t) = 0#32 := by unfold tileWord; rw [coord1, h0]
    rw [e]
    unfold oNext oLo oHi
    rw [pay25_first cp q q']
  · rw [hq h0]

/-! ## The invariant -/

/-- What the scratch of normalised rows holds before point `n`: within a tile, the tile's rows. -/
def FactH (c : Dev nD) (n : ℕ) (h : Vec F S512x2048 .bf16) : Prop := ∀ s : Fin cfg0.N, n = s.val + 1 → h = hAt m c s

/-- What the kept rows hold before point `n`: those of the last six points. -/
def FactC (c : Dev nD) (n : ℕ) (cr : Vec F S12x1x8x512 .f32) : Prop := ∀ s : Fin cfg0.N, s.val < n → n ≤ s.val + 6 →
  crRow cr (K0 (grid0.coords s)) = TA m c s ∧ (s.val % 6 ≠ 5 → crRow cr (K1 (grid0.coords s)) = TB m c s)

theorem FactC_two (c : Dev nD) (t : Fin cfg0.N) (cr : Vec F S12x1x8x512 .f32) (hc : FactC m c t.val cr) :
    FactC m c (t.val + 1) (cr2 (grid0.coords t) (hAt m c t) (iblk m c 2 t) (iblk m c 5 t) cr) := by
  intro s h1 h2
  unfold cr2 cr1
  by_cases e : s = t
  · subst e
    refine ⟨?_, fun _ => crRow_put_same _ _ _⟩
    rw [crRow_put_ne _ (K1_ne_K0 _).symm, crRow_put_same]; rfl
  · have hs : s.val ≠ t.val := fun h => e (Fin.ext h)
    obtain ⟨ha, hb⟩ := hc s (by omega) (by omega)
    have a1 := K0_val s; have a2 := K1_val s; have a3 := K0_val t; have a4 := K1_val t
    have n1 : K0 (grid0.coords s) ≠ K0 (grid0.coords t) := fun h => by have := congrArg Fin.val h; omega
    have n2 : K0 (grid0.coords s) ≠ K1 (grid0.coords t) := fun h => by have := congrArg Fin.val h; omega
    have n3 : K1 (grid0.coords s) ≠ K0 (grid0.coords t) := fun h => by have := congrArg Fin.val h; omega
    have n4 : K1 (grid0.coords s) ≠ K1 (grid0.coords t) := fun h => by have := congrArg Fin.val h; omega
    exact ⟨by rw [crRow_put_ne _ n2, crRow_put_ne _ n1]; exact ha, fun h5 => by rw [crRow_put_ne _ n4, crRow_put_ne _ n3]; exact hb h5⟩

theorem FactC_one (c : Dev nD) (t : Fin cfg0.N) (h5 : t.val % 6 = 5) (cr : Vec F S12x1x8x512 .f32) (hc : FactC m c t.val cr) :
    FactC m c (t.val + 1) (cr1 (grid0.coords t) (hAt m c t) (iblk m c 2 t) cr) := by
  intro s h1 h2
  unfold cr1
  by_cases e : s = t
  · subst e
    exact ⟨crRow_put_same _ _ _, fun h => absurd h5 h⟩
  · have hs : s.val ≠ t.val := fun h => e (Fin.ext h)
    obtain ⟨ha, hb⟩ := hc s (by omega) (by omega)
    have a1 := K0_val s; have a2 := K1_val s; have a3 := K0_val t
    have n1 : K0 (grid0.coords s) ≠ K0 (grid0.coords t) := fun h => by have := congrArg Fin.val h; omega
    have n3 : K1 (grid0.coords s) ≠ K0 (grid0.coords t) := fun h => by have := congrArg Fin.val h; omega
    exact ⟨by rw [crRow_put_ne _ n1]; exact ha, fun h => by rw [crRow_put_ne _ n3]; exact hb h⟩

theorem o1_eq (c : Dev nD) (t : Fin cfg0.N) (cr : Vec F S12x1x8x512 .f32) (hc : FactC m c t.val cr) (o : Vec F S1x512x2048 .f32) :
    o1 (grid0.coords t) (hAt m c t) (iblk m c 2 t) (iblk m c 3 t) (iblk m c 4 t) (iblk m c 8 t) (iblk m c 9 t) (iblk m c 11 t) cr o = oStep1 m c t o := by
  refine oNext_congr t _ _ _ _ _ _ _ _ _ _ fun h0 => ?_
  have h6 : 6 ≤ t.val := by omega
  have e : (back t 6).val = t.val - 6 := rfl
  have k : K0 (grid0.coords (back t 6)) = K0 (grid0.coords t) := Fin.ext (by rw [K0_val, K0_val, e]; omega)
  rw [← k]
  exact (hc (back t 6) (by omega) (by omega)).1

theorem o2_eq (c : Dev nD) (t : Fin cfg0.N) (h5 : t.val % 6 ≠ 5) (cr : Vec F S12x1x8x512 .f32) (hc : FactC m c t.val cr) (o : Vec F S1x512x2048 .f32) :
    o2 (grid0.coords t) (hAt m c t) (iblk m c 2 t) (iblk m c 3 t) (iblk m c 4 t) (iblk m c 5 t) (iblk m c 6 t) (iblk m c 7 t) (iblk m c 8 t) (iblk m c 9 t) (iblk m c 11 t) cr o
      = oStep m c t o := by
  unfold o2 oStep
  rw [o1_eq m c t cr hc o]
  refine oNext_congr t _ _ _ _ _ _ _ _ _ _ fun h0 => ?_
  have h6 : 6 ≤ t.val := by omega
  have e : (back t 6).val = t.val - 6 := rfl
  have k : K1 (grid0.coords (back t 6)) = K1 (grid0.coords t) := Fin.ext (by rw [K1_val, K1_val, e]; omega)
  rw [← k]
  exact (hc (back t 6) (by omega) (by omega)).2 (by rw [e]; omega)

/-- The four scratches, as memrefs. -/
abbrev sc0 : Memref sig .tc .vmem S512x2048 .bf16 := Memref.whole cc0_scratch0
abbrev sc1 : Memref sig .tc .vmem S1x520x512 .f32 := Memref.whole cc0_scratch1
abbrev sc2 : Memref sig .tc .vmem S512x512 .f32 := Memref.whole cc0_scratch2
abbrev sc3 : Memref sig .tc .vmem S12x1x8x512 .f32 := Memref.whole cc0_scratch3

/-- The invariant before point `n`: the scratches at contents meeting their facts, and the generator register. -/
def Phi (c : Dev nD) (n : ℕ) : sProp 𝕄 :=
  iprop(((∃ h, ⌜FactH m c n h⌝ ∗ owns (c : Thread nD τ) sc0 fullShare h) ∗ (∃ d, owns (c : Thread nD τ) sc1 fullShare d)
    ∗ (∃ d, owns (c : Thread nD τ) sc2 fullShare d) ∗ (∃ cr, ⌜FactC m c n cr⌝ ∗ owns (c : Thread nD τ) sc3 fullShare cr)) ∗ (∃ r, prngReg c r))

/-- The class invariant with the scratches as memrefs. -/
theorem PhiA_eq (c : Dev nD) :
    (Pipeline.ΦA spec0 c : sProp 𝕄) = iprop(iprop((∃ d, owns (c : Thread nD τ) sc0 fullShare d) ∗ (∃ d, owns (c : Thread nD τ) sc1 fullShare d)
      ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- The pipeline's proof data: every input's buffer keeps its block; the outputs hold what the points compute. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => oAt m c t.val t.isLt
    | ⟨13, _⟩ => tlAt m c t
  Φ t := Phi m c t.val
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (A_eq m c 7) (after_7 m c) t d
theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  before0_8_of m (dats m 0 c) (A_eq m c 8) (after_8 m c) t d
theorem after_9 (c : Dev nD) (t : Fin cfg0.N) : (dats m 0 c).after 9 t = iblk m c 9 t := by dsimp only [dats]
theorem before_9 (c : Dev nD) (t : Fin cfg0.N) (d) : (dats m 0 c).before 9 t d = iblk m c 9 t :=
  before0_9_of m (dats m 0 c) (A_eq m c 9) (after_9 m c) t d
theorem after_10 (c : Dev nD) (t : Fin cfg0.N) : (dats m 0 c).after 10 t = iblk m c 10 t := by dsimp only [dats]
theorem before_10 (c : Dev nD) (t : Fin cfg0.N) (d) : (dats m 0 c).before 10 t d = iblk m c 10 t :=
  before0_10_of m (dats m 0 c) (A_eq m c 10) (after_10 m c) t d
theorem after_11 (c : Dev nD) (t : Fin cfg0.N) : (dats m 0 c).after 11 t = iblk m c 11 t := by dsimp only [dats]
theorem before_11 (c : Dev nD) (t : Fin cfg0.N) (d) : (dats m 0 c).before 11 t d = iblk m c 11 t :=
  before0_11_of m (dats m 0 c) (A_eq m c 11) (after_11 m c) t d
theorem after_12 (c : Dev nD) (t : Fin cfg0.N) : (dats m 0 c).after 12 t = oAt m c t.val t.isLt := by dsimp only [dats]
theorem after_13 (c : Dev nD) (t : Fin cfg0.N) : (dats m 0 c).after 13 t = tlAt m c t := by dsimp only [dats]

/-- Every point stores the output tile, -/
theorem live_12 (i : grid0.Coords) : cfg0.idle 12 i = false := by
  show idle0 12 i = false
  obtain ⟨j, hj⟩ : ∃ j : Fin 6, i 2 = j := ⟨_, rfl⟩
  unfold idle0 k0_cond1 k0_cond2 k0_cond4 k0_cond6
  simp only [hj]
  clear hj
  revert j
  decide

/-- and the kept rows. -/
theorem live_13 (i : grid0.Coords) : cfg0.idle 13 i = false := by
  show idle0 13 i = false
  obtain ⟨j, hj⟩ : ∃ j : Fin 6, i 2 = j := ⟨_, rfl⟩
  unfold idle0 k0_cond1 k0_cond2 k0_cond3 k0_cond4 k0_cond5
  simp only [hj]
  clear hj
  revert j
  decide

/-- Inside a row tile the body finds in the output window what the point before left. -/
theorem before_out (c : Dev nD) (t : Fin cfg0.N) (h : t.val % 6 ≠ 0) (d) : (dats m 0 c).before 12 t d = oAt m c (back t 1).val (back t 1).isLt := by
  have hf : (cfg0.win 12).flush ⟨t.val - 1, Nat.lt_of_le_of_lt (Nat.sub_le _ _) t.isLt⟩ = false := by
    rw [Bool.eq_false_iff]
    intro hp
    have := (flush0_12 _).mp hp
    simp only at this; omega
  exact ((dats m 0 c).before_out_kept 12 rfl t (by omega) hf live_12 (fun _ _ => rfl) d).trans (after_12 m c _)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 4000000 in
/-- The body at any point, from the three runs. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m 0 c).owesAt () t.succ = (dats m 0 c).owesAt () t.castSucc from rfl, after_0, after_1, after_2, after_3, after_4, after_5, after_6, after_7, after_8, after_9, after_10, after_11, after_12, after_13]
  rw [show (dats m 0 c).Φ t.succ = Phi m c (t.val + 1) from rfl, show (dats m 0 c).Φ t.castSucc = Phi m c t.val from rfl]
  unfold Phi
  iintro ⟨⟨⟨⟨%h, %hh, HS0⟩, ⟨%sa, HS1⟩, ⟨%sb, HS2⟩, ⟨%cr, %hc, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  by_cases h0 : t.val % 6 = 0
  · have h5 : t.val % 6 ≠ 5 := by omega
    obtain ⟨c1, c2, c3, c4, c5, c6⟩ := conds_first t h0
    iapply (runA c (grid0.coords t) _ _ _ _ _ _ _ _ _ _ _ _ _ _ _ _ _ _ _ _ _ _ _ _ _ _ _ _ _ _ _ _ _ _ _ _ c1 c2 c3 c4 c5 c6 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ h sa sb cr Set.univ (fun _ => _))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, HS0, HS1, HS2, HS3⟩
    rw [hAt_first m c t h0, o2_eq m c t h5 cr hc, ← oAt_first m c t h0, show tlOf (k0_pay5 (tailNext (hAt m c t) (iblk m c 2 t))) (k0_pay5 (tailNext (hAt m c t) (iblk m c 5 t))) = tlAt m c t from by unfold tlAt; rw [if_neg h5]]
    isplitl [HS0 HS1 HS2 HS3 Hg]
    · isplitl [HS0 HS1 HS2 HS3]
      · isplitl [HS0]
        · iexists _; isplitr; swap; · iexact HS0
          ipureintro; intro s e; obtain rfl : s = t := Fin.ext (by omega)
          rfl
        isplitl [HS1]; · iexact HS1
        isplitl [HS2]; · iexact HS2
        iexists _; isplitr; swap; · iexact HS3
        ipureintro
        exact FactC_two m c t cr hc
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · by_cases h5 : t.val % 6 = 5
    · obtain ⟨c1, c2, c3, c4, c5, c6⟩ := conds_last t h5
      have hH : h = hAt m c t := (hh (back t 1) (by show t.val = (t.val - 1) + 1; omega)).trans (hAt_prev m c t h0)
      subst hH
      rw [before_out m c t h0]
      iapply (runC c (grid0.coords t) _ _ _ _ _ _ _ _ _ _ _ _ _ _ _ _ _ _ _ _ _ _ _ _ _ _ _ _ _ _ _ _ _ _ _ _ c1 c2 c3 c4 c5 c6 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (oAt m c (back t 1).val (back t 1).isLt) _ (hAt m c t) sa sb cr Set.univ (fun _ => _))
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, HS0, HS1, HS2, HS3⟩
      rw [o1_eq m c t cr hc, ← oAt_last m c t h5, show tlOf (k0_pay5 (tailNext (hAt m c t) (iblk m c 2 t))) k0_pay6 = tlAt m c t from by unfold tlAt; rw [if_pos h5]]
      isplitl [HS0 HS1 HS2 HS3 Hg]
      · isplitl [HS0 HS1 HS2 HS3]
        · isplitl [HS0]
          · iexists _; isplitr; swap; · iexact HS0
            ipureintro; intro s e; obtain rfl : s = t := Fin.ext (by omega)
            rfl
          isplitl [HS1]; · iexact HS1
          isplitl [HS2]; · iexact HS2
          iexists _; isplitr; swap; · iexact HS3
          ipureintro
          exact FactC_one m c t h5 cr hc
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    · obtain ⟨c1, c2, c3, c4, c5, c6⟩ := conds_mid t h0 h5
      have hH : h = hAt m c t := (hh (back t 1) (by show t.val = (t.val - 1) + 1; omega)).trans (hAt_prev m c t h0)
      subst hH
      rw [before_out m c t h0]
      iapply (runB c (grid0.coords t) _ _ _ _ _ _ _ _ _ _ _ _ _ _ _ _ _ _ _ _ _ _ _ _ _ _ _ _ _ _ _ _ _ _ _ _ c1 c2 c3 c4 c5 c6 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (oAt m c (back t 1).val (back t 1).isLt) _ (hAt m c t) sa sb cr Set.univ (fun _ => _))
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, HS0, HS1, HS2, HS3⟩
      rw [o2_eq m c t h5 cr hc, ← oAt_mid m c t h0 h5, show tlOf (k0_pay5 (tailNext (hAt m c t) (iblk m c 2 t))) (k0_pay5 (tailNext (hAt m c t) (iblk m c 5 t))) = tlAt m c t from by unfold tlAt; rw [if_neg h5]]
      isplitl [HS0 HS1 HS2 HS3 Hg]
      · isplitl [HS0 HS1 HS2 HS3]
        · isplitl [HS0]
          · iexists _; isplitr; swap; · iexact HS0
            ipureintro; intro s e; obtain rfl : s = t := Fin.ext (by omega)
            rfl
          isplitl [HS1]; · iexact HS1
          isplitl [HS2]; · iexact HS2
          iexists _; isplitr; swap; · iexact HS3
          ipureintro
          exact FactC_two m c t cr hc
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13

theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The library's body obligation at every point. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  have e12 : cfg0.idle 12 (cfg0.grid.coords t) = false := live_12 _
  have e13 : cfg0.idle 13 (cfg0.grid.coords t) = false := live_13 _
  unfold bodyPost
  rw [e12, e13]

/-- What the launch hands the region is the invariant before the first point. -/
theorem hin (c : Dev nD) : Pipeline.ΦA spec0 c ⊢ (dats m 0 c).Φ 0 := by
  rw [show (dats m 0 c).Φ 0 = Phi m c 0 from rfl, PhiA_eq]
  unfold Phi
  iintro ⟨⟨⟨%h, HS0⟩, HS1, HS2, ⟨%cr, HS3⟩⟩, Hg⟩
  isplitl [HS0 HS1 HS2 HS3]
  · isplitl [HS0]
    · iexists h; isplitr
      · ipureintro; exact fun s e => absurd e (by omega)
      iexact HS0
    isplitl [HS1]; · iexact HS1
    isplitl [HS2]; · iexact HS2
    iexists cr; isplitr
    · ipureintro; exact fun s h => absurd h (by omega)
    iexact HS3
  iexact Hg

/-- After the last point the invariant gives back what the launch handed over. -/
theorem hout (c : Dev nD) : (dats m 0 c).Φ (Fin.last cfg0.N) ⊢ Pipeline.ΦA spec0 c := by
  rw [show (dats m 0 c).Φ (Fin.last cfg0.N) = Phi m c cfg0.N from rfl, PhiA_eq]
  unfold Phi
  iintro ⟨⟨⟨%h, %hh, HS0⟩, HS1, HS2, ⟨%cr, %hc, HS3⟩⟩, Hg⟩
  isplitl [HS0 HS1 HS2 HS3]
  · isplitl [HS0]; · iexists h; iexact HS0
    isplitl [HS1]; · iexact HS1
    isplitl [HS2]; · iexact HS2
    iexists cr; iexact HS3
  iexact Hg

set_option backward.isDefEq.respectTransparency.types false in
set_option maxHeartbeats 2000000 in
/-- The run of @main: it ends, with every window's array and every other buffer accounted for and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track_shared cfgs (dats m) (0 : Fin 1) launch₀0 defs₀ Variants.none m ρ main
    (hbody := fun c => (body_obligation m c).loose) (hq := fun _ _ _ => rfl) (howed := fun _ _ => rfl)
    (V₀ := V0 m) (opss := [hostOps1]) (hsub := sfx_sub) (hfresh := sfx_fresh) (hkeep := sfx_keeps)
    (hmain := hmain m Variants.none) (hA := A_eq m) (hin := hin m) (hout := hout m) (Q' := _) (hQ' := fun _ h => h)

/-- Every argument ends as it was. -/
theorem args_kept (r : PUnit × MemSt nD τ sig (Elt F)) (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  ⟨((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c)⟩

/-- The run of @main ends with every argument as it was and every counter at zero. -/
theorem frame : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) ∧ r.2.sem = fun _ => 0) :=
  (θ_run defs _ _).mono (fun r h => ⟨fun c => args_kept m r h.1 c, h.2⟩) (run_main m ρ)

end Cert.FfnIdeal.Run

end
-- ==== Proof.FfnPay.lean ====
module

public import proofs.«01_k».proof.Proof.FfnFrame
public import proofs.«01_k».proof.Proof.RmsDot
public import Idealize.ShloMosaic.Lib.Pipeline.ValueKit

/-!
  The feed-forward kernel's stores, element by element over the ideal reals: a block of hidden columns adds its
  activations times the second projection's rows to the output tile, and the last eight rows of the first projection
  are kept for the next tile.
-/

@[expose] public section

set_option maxRecDepth 16384

noncomputable section

namespace Cert.FfnIdeal.Run

open Cert.FfnIdeal Cert.FfnIdeal.Gen Idealize.ShloMosaic

section
variable {F : FTy → Type} [FloatOps F]
theorem wl_at (x : Vec F S2048x512 .bf16) (k : Fin 2048) (l : Fin 256) : wl x (ix2 k l) = x (ix2 k ⟨l.val, by omega⟩) := by
  unfold wl VecWindow.window
  exact congrArg x (funext fun a => Fin.ext (by fin_cases a <;> simp))
theorem wh_at (x : Vec F S2048x512 .bf16) (k : Fin 2048) (l : Fin 256) : wh x (ix2 k l) = x (ix2 k ⟨256 + l.val, by omega⟩) := by
  unfold wh VecWindow.window
  exact congrArg x (funext fun a => Fin.ext (by fin_cases a <;> simp))
theorem dl_at (x : Vec F S512x2048 .bf16) (l : Fin 256) (C : Fin 2048) : dl x (ix2 l C) = x (ix2 ⟨l.val, by omega⟩ C) := by
  unfold dl VecWindow.window
  exact congrArg x (funext fun a => Fin.ext (by fin_cases a <;> simp))
theorem dh_at (x : Vec F S512x2048 .bf16) (l : Fin 256) (C : Fin 2048) : dh x (ix2 l C) = x (ix2 ⟨256 + l.val, by omega⟩ C) := by
  unfold dh VecWindow.window
  exact congrArg x (funext fun a => Fin.ext (by fin_cases a <;> simp))
theorem cwl_at (x : Vec F S3x1024 .f32) (i : Fin 3) (l : Fin 512) : cwl x (ix2 i l) = x (ix2 i ⟨l.val, by omega⟩) := by
  unfold cwl VecWindow.window
  exact congrArg x (funext fun a => Fin.ext (by fin_cases a <;> simp))
theorem cwh_at (x : Vec F S3x1024 .f32) (i : Fin 3) (l : Fin 512) : cwh x (ix2 i l) = x (ix2 i ⟨512 + l.val, by omega⟩) := by
  unfold cwh VecWindow.window
  exact congrArg x (funext fun a => Fin.ext (by fin_cases a <;> simp))
theorem cbl_at (x : Vec F S1x1024 .f32) (l : Fin 512) : cbl x (ix2 0 l) = x (ix2 0 ⟨l.val, by omega⟩) := by
  unfold cbl VecWindow.window
  exact congrArg x (funext fun a => Fin.ext (by fin_cases a <;> simp))
theorem cbh_at (x : Vec F S1x1024 .f32) (l : Fin 512) : cbh x (ix2 0 l) = x (ix2 0 ⟨512 + l.val, by omega⟩) := by
  unfold cbh VecWindow.window
  exact congrArg x (funext fun a => Fin.ext (by fin_cases a <;> simp))
theorem cpl_at (x : Vec F S1x8x1024 .f32) (i : Fin 8) (l : Fin 512) : cpl x (ix3 0 i l) = x (ix3 0 i ⟨l.val, by omega⟩) := by
  unfold cpl VecWindow.window
  exact congrArg x (funext fun a => Fin.ext (by fin_cases a <;> simp))
theorem cph_at (x : Vec F S1x8x1024 .f32) (i : Fin 8) (l : Fin 512) : cph x (ix3 0 i l) = x (ix3 0 i ⟨512 + l.val, by omega⟩) := by
  unfold cph VecWindow.window
  exact congrArg x (funext fun a => Fin.ext (by fin_cases a <;> simp))
theorem hdL_at (x : Vec F S1x8x512 .f32) (i : Fin 8) (l : Fin 256) : hdL x (ix3 0 i l) = x (ix3 0 i ⟨l.val, by omega⟩) := rfl
theorem hdH_at (x : Vec F S1x8x512 .f32) (i : Fin 8) (l : Fin 256) : hdH x (ix3 0 i l) = x (ix3 0 i ⟨256 + l.val, by omega⟩) :=
  congrArg x (congrArg (ix3 0 i) (Fin.ext (Nat.add_comm _ _)))

end

/-- The row `d` before row `r`: the eight rows `H` stand in front of the rows `A`. -/
def before (d : ℕ) (hd : d ≤ 8) (H : Fin 8 → EReal) (A : Fin 512 → EReal) (r : Fin 512) : EReal :=
  if h : r.val < d then H ⟨8 - d + r.val, by omega⟩ else A ⟨r.val - d, by omega⟩

/-- The kernel's way of reading the row before, through an eight-row head and a rotation. -/
theorem before_one (H : Fin 8 → EReal) (A : Fin 512 → EReal) (r : Fin 512) :
    (if h : r.val < 8 then if h1 : 7 + r.val < 8 then H ⟨7 + r.val, h1⟩ else A ⟨7 + r.val - 8, by omega⟩ else A ⟨(8 + (r.val - 8) + 512 - 1) % 512, by omega⟩)
      = before 1 (by omega) H A r := by
  unfold before
  split_ifs with h1 h2 h3 h4 h5
  all_goals first
    | omega
    | exact congrArg H (Fin.ext rfl)
    | (refine congrArg _ (Fin.ext ?_); dsimp only; omega)

/-- And the row before that. -/
theorem before_two (H : Fin 8 → EReal) (A : Fin 512 → EReal) (r : Fin 512) :
    (if h : r.val < 8 then if h1 : 6 + r.val < 8 then H ⟨6 + r.val, h1⟩ else A ⟨6 + r.val - 8, by omega⟩ else A ⟨(8 + (r.val - 8) + 512 - 2) % 512, by omega⟩)
      = before 2 (by omega) H A r := by
  unfold before
  split_ifs with h1 h2 h3 h4 h5
  all_goals first
    | omega
    | exact congrArg H (Fin.ext rfl)
    | (refine congrArg _ (Fin.ext ?_); dsimp only; omega)

/-- The convolution of three consecutive rows with its three weights and its bias. -/
def conv (w0 w1 w2 b a2 a1 a0 : EReal) : EReal := a2 * w0 + a1 * w1 + a0 * w2 + b

/-- The activation of a convolved value times its gate. -/
def act (v g : EReal) : EReal :=
  v * (Ideal.ofBits .f32 0x3F000000#32 * (1
    + Ideal.tanh (Ideal.ofBits .f32 0x3F4C422A#32 * (v + Ideal.ofBits .f32 0x3D372713#32 * (v * (v * v)))))) * g

/-- A block of the first projection at a row and a column. -/
def proj (h : Vec Ideal S512x2048 .bf16) (w : Vec Ideal S2048x512 .bf16) (r l : Fin 512) : EReal := ∑ k, h (ix2 r k) * w (ix2 k l)

/-- The activation of a block at a row and a column; `H` are the eight rows in front. -/
def actAt (h : Vec Ideal S512x2048 .bf16) (H : Fin 8 → Fin 512 → EReal) (wa wb : Vec Ideal S2048x512 .bf16) (cw : Vec Ideal S3x512 .f32) (cb : Vec Ideal S1x512 .f32)
    (r l : Fin 512) : EReal :=
  act (conv (cw (ix2 0 l)) (cw (ix2 1 l)) (cw (ix2 2 l)) (cb (ix2 0 l)) (before 2 (by omega) (H · l) (proj h wa · l) r) (before 1 (by omega) (H · l) (proj h wa · l) r) (proj h wa r l))
    (proj h wb r l)

theorem pay26_at (h : Vec Ideal S512x2048 .bf16) (w : Vec Ideal S2048x512 .bf16) (r : Fin 512) (l : Fin 256) : k0_pay26 (F := Ideal) h (wl w) (ix3 0 r l) = proj h w r ⟨l.val, by omega⟩ := by
  pointwise [k0_pay26, wl_at, proj]
theorem pay29_at (h : Vec Ideal S512x2048 .bf16) (w : Vec Ideal S2048x512 .bf16) (r : Fin 512) (l : Fin 256) : k0_pay29 (F := Ideal) (k0_pay28 h (wh w)) (ix3 0 r l) = proj h w r ⟨256 + l.val, by omega⟩ := by
  pointwise [k0_pay29, k0_pay28, wh_at, proj]
theorem pay27_at (h : Vec Ideal S512x2048 .bf16) (w : Vec Ideal S2048x512 .bf16) (r : Fin 512) (l : Fin 256) : k0_pay27 (F := Ideal) h (wl w) (ix2 r l) = proj h w r ⟨l.val, by omega⟩ := by
  pointwise [k0_pay27, wl_at, proj]
theorem pay30_at (h : Vec Ideal S512x2048 .bf16) (w : Vec Ideal S2048x512 .bf16) (r : Fin 512) (l : Fin 256) : k0_pay30 (F := Ideal) h (wh w) (ix2 r l) = proj h w r ⟨256 + l.val, by omega⟩ := by
  pointwise [k0_pay30, wh_at, proj]

/-- The convolution over the first 256 columns of a block. -/
theorem pay33_at (cw : Vec Ideal S3x512 .f32) (cb : Vec Ideal S1x512 .f32) (a : Vec Ideal S1x512x256 .f32) (hd : Vec Ideal S1x8x256 .f32) (r : Fin 512) (l : Fin 256) :
    k0_pay33 (F := Ideal) cw cb a hd (ix2 r l) = conv (cw (ix2 0 ⟨l.val, by omega⟩)) (cw (ix2 1 ⟨l.val, by omega⟩)) (cw (ix2 2 ⟨l.val, by omega⟩)) (cb (ix2 0 ⟨l.val, by omega⟩))
      (before 2 (by omega) (fun i => hd (ix3 0 i l)) (fun r => a (ix3 0 r l)) r) (before 1 (by omega) (fun i => hd (ix3 0 i l)) (fun r => a (ix3 0 r l)) r) (a (ix3 0 r l)) := by
  rw [← before_one, ← before_two]
  pointwise [k0_pay33, k0_pay31, k0_pay32, conv]

/-- A block's first 256 hidden columns added to the output tile. -/
theorem oLo_at (a1 : BitVec 32) (h : Vec Ideal S512x2048 .bf16) (cp : Vec Ideal S1x8x512 .f32) (q : Vec Ideal S1x1x8x512 .f32) (wa wb : Vec Ideal S2048x512 .bf16)
    (wd : Vec Ideal S512x2048 .bf16) (cw : Vec Ideal S3x512 .f32) (cb : Vec Ideal S1x512 .f32) (o : Vec Ideal S1x512x2048 .f32) (r : Fin 512) (C : Fin 2048) :
    oLo (F := Ideal) a1 h cp q wa wb wd cw cb o (ix3 0 r C) = o (ix3 0 r C)
      + ∑ l : Fin 256, actAt h (fun i l => k0_pay25 a1 cp q (ix3 0 i l)) wa wb cw cb r ⟨l.val, by omega⟩ * wd (ix2 ⟨l.val, by omega⟩ C) := by
  pointwise [oLo, k0_pay34, pay33_at, pay26_at, pay27_at, hdL_at, dl_at, actAt, act]

/-- A block's last 256 hidden columns added to the output tile. -/
theorem oHi_at (a1 : BitVec 32) (h : Vec Ideal S512x2048 .bf16) (cp : Vec Ideal S1x8x512 .f32) (q : Vec Ideal S1x1x8x512 .f32) (wa wb : Vec Ideal S2048x512 .bf16)
    (wd : Vec Ideal S512x2048 .bf16) (cw : Vec Ideal S3x512 .f32) (cb : Vec Ideal S1x512 .f32) (o : Vec Ideal S1x512x2048 .f32) (r : Fin 512) (C : Fin 2048) :
    oHi (F := Ideal) a1 h cp q wa wb wd cw cb o (ix3 0 r C) = o (ix3 0 r C)
      + ∑ l : Fin 256, actAt h (fun i l => k0_pay25 a1 cp q (ix3 0 i l)) wa wb cw cb r ⟨256 + l.val, by omega⟩ * wd (ix2 ⟨256 + l.val, by omega⟩ C) := by
  unfold actAt
  simp only [← before_one, ← before_two]
  pointwise [oHi, k0_pay40, k0_pay35, k0_pay36, k0_pay37, k0_pay38, k0_pay39, k0_pay31, k0_pay32, pay29_at, pay30_at, hdH_at, dh_at, act, conv]

/-- The clear of the output tile. -/
theorem clear_at (r : Fin 512) (C : Fin 2048) : (k0_pay13 (F := Ideal)) (ix3 0 r C) = 0 := by
  pointwise [k0_pay13]

/-- The normalised rows. -/
theorem pay11_at (x : Vec Ideal S1x512x2048 .f32) (g : Vec Ideal S1x2048 .f32) (r : Fin 512) (k : Fin 2048) :
    k0_pay11 (F := Ideal) x g (ix2 r k) = x (ix3 0 r k) * Cert.Rms.scale (fun k => x (ix3 0 r k)) * g (ix2 0 k) := by
  pointwise [k0_pay11, Cert.Rms.scale]

/-- The last point's store. -/
theorem pay10_at (o : Vec Ideal S1x512x2048 .f32) (g : Vec Ideal S1x2048 .f32) (x : Vec Ideal S1x512x2048 .f32) (r : Fin 512) (C : Fin 2048) :
    k0_pay10 (F := Ideal) o g x (ix3 0 r C) = x (ix3 0 r C) + o (ix3 0 r C) * Cert.Rms.scale (fun C => o (ix3 0 r C)) * g (ix2 0 C) := by
  pointwise [k0_pay10, Cert.Rms.scale]

/-- The rows in front of a tile: before the sequence's first tile the given ones, -/
theorem head_first (cp : Vec Ideal S1x8x512 .f32) (q : Vec Ideal S1x1x8x512 .f32) (i : Fin 8) (l : Fin 512) :
    k0_pay25 (F := Ideal) 0#32 cp q (ix3 0 i l) = cp (ix3 0 i l) := by
  pointwise [k0_pay25]
/-- and before a later tile the kept ones. -/
theorem head_next (w : BitVec 32) (hw : w ≠ 0#32) (cp : Vec Ideal S1x8x512 .f32) (q : Vec Ideal S1x1x8x512 .f32) (i : Fin 8) (l : Fin 512) :
    k0_pay25 (F := Ideal) w cp q (ix3 0 i l) = q (ix4 0 0 i l) := by
  pointwise [k0_pay25]
  unfold Scalar.select Scalar.cmpi
  have e : (w == 0#32) = false := by simpa using hw
  simp [IntOp.cmpi, e]

/-- The kept rows. -/
theorem tailNext_at (h : Vec Ideal S512x2048 .bf16) (wa : Vec Ideal S2048x512 .bf16) (i : Fin 8) (l : Fin 512) :
    tailNext (F := Ideal) h wa (ix3 0 i l) = proj h wa ⟨504 + i.val, by omega⟩ l := by
  unfold tailNext tailOf
  by_cases hl : l.val < 256
  · refine (dif_pos hl).trans ?_
    refine Eq.trans ?_ (pay26_at h wa ⟨504 + i.val, by omega⟩ ⟨l.val, hl⟩)
    exact congrArg _ (congrArg (fun z => ix3 0 z _) (Fin.ext (Nat.add_comm _ _)))
  · refine (dif_neg hl).trans ?_
    refine Eq.trans ?_ ((pay29_at h wa ⟨504 + i.val, by omega⟩ ⟨l.val - 256, by omega⟩).trans (congrArg _ (Fin.ext (by simp only; omega))))
    exact congrArg _ (congrArg (fun z => ix3 0 z _) (Fin.ext (Nat.add_comm _ _)))

theorem pay4_at (x : Vec Ideal S1x8x512 .f32) (i : Fin 8) (l : Fin 512) : k0_pay4 (F := Ideal) x (ix4 0 0 i l) = x (ix3 0 i l) := by
  pointwise [k0_pay4]
theorem pay5_at (x : Vec Ideal S1x8x512 .f32) (i : Fin 8) (l : Fin 512) : k0_pay5 (F := Ideal) x (ix4 0 0 i l) = x (ix3 0 i l) := by
  pointwise [k0_pay5]

end Cert.FfnIdeal.Run

end
-- ==== Proof.FfnBlock.lean ====
module

public import proofs.«01_k».proof.Proof.FfnPay
public import Idealize.ShloMosaic.Lib.StableHlo.ReadAt
public import Idealize.ShloMosaic.Lib.Pipeline.ValueKit
public import Idealize.ShloMosaic.Lib.Claim

/-!
  The blocks the feed-forward kernel reads at a grid point, as elements of the layer's arguments.
-/

@[expose] public section

set_option maxRecDepth 16384

noncomputable section

namespace Cert.FfnIdeal.Block

open Cert.FfnIdeal Cert.FfnIdeal.Gen Cert.FfnIdeal.Run Idealize.ShloMosaic Idealize.SL.Sem Idealize.ShloMosaic.TcCoe

variable (m : (ℓ : Loc nD τ sig) → Buf (Elt Ideal) ℓ)

/-- Where each window's block lies at a grid point. -/
theorem idx : ∀ t : Fin cfg0.N, win0_0.index t = ![t.val / 24, t.val / 6 % 4, 0] ∧ win0_1.index t = ![0, 0]
    ∧ win0_2.index t = ![0, min (2 * (t.val % 6)) 10] ∧ win0_3.index t = ![0, 11 + min (2 * (t.val % 6)) 10] ∧ win0_4.index t = ![min (2 * (t.val % 6)) 10, 0]
    ∧ win0_5.index t = ![0, min (2 * (t.val % 6) + 1) 10] ∧ win0_6.index t = ![0, 11 + min (2 * (t.val % 6) + 1) 10] ∧ win0_7.index t = ![min (2 * (t.val % 6) + 1) 10, 0]
    ∧ win0_8.index t = ![0, t.val % 6] ∧ win0_9.index t = ![0, t.val % 6] ∧ win0_10.index t = ![0, 0] ∧ win0_11.index t = ![t.val / 24, 0, t.val % 6]
    ∧ win0_12.index t = ![t.val / 24, t.val / 6 % 4, 0] ∧ win0_13.index t = ![t.val / 24, t.val / 6 % 4, 0, t.val % 6] :=
  (by decide +kernel : ∀ t : Fin grid0.N, win0_0.index t = ![t.val / 24, t.val / 6 % 4, 0] ∧ win0_1.index t = ![0, 0]
    ∧ win0_2.index t = ![0, min (2 * (t.val % 6)) 10] ∧ win0_3.index t = ![0, 11 + min (2 * (t.val % 6)) 10] ∧ win0_4.index t = ![min (2 * (t.val % 6)) 10, 0]
    ∧ win0_5.index t = ![0, min (2 * (t.val % 6) + 1) 10] ∧ win0_6.index t = ![0, 11 + min (2 * (t.val % 6) + 1) 10] ∧ win0_7.index t = ![min (2 * (t.val % 6) + 1) 10, 0]
    ∧ win0_8.index t = ![0, t.val % 6] ∧ win0_9.index t = ![0, t.val % 6] ∧ win0_10.index t = ![0, 0] ∧ win0_11.index t = ![t.val / 24, 0, t.val % 6]
    ∧ win0_12.index t = ![t.val / 24, t.val / 6 % 4, 0] ∧ win0_13.index t = ![t.val / 24, t.val / 6 % 4, 0, t.val % 6])

theorem gpre_at (c : Dev nD) (C : Fin 2048) : V m c main_v7 (ix2 0 C) = m (c.tc.loc main_arg1) (ix1 C) := by
  unfold V
  after_reads_at
theorem gpost_at (c : Dev nD) (C : Fin 2048) : V m c main_v8 (ix2 0 C) = m (c.tc.loc main_arg6) (ix1 C) := by
  unfold V
  after_reads_at
theorem up_at (c : Dev nD) (k : Fin 2048) (C : Fin 11264) : V m c main_v1 (ix2 k C) = m (c.tc.loc main_arg2) (ix2 k C) := by
  unfold V
  after_reads_at
theorem down_at (c : Dev nD) (f : Fin 5632) (C : Fin 2048) : V m c main_v2 (ix2 f C) = m (c.tc.loc main_arg5) (ix2 f C) := by
  unfold V
  after_reads_at
theorem cw_at (c : Dev nD) (i : Fin 3) (f : Fin 6144) (hf : f.val < 5632) : V m c main_v3 (ix2 i f) = m (c.tc.loc main_arg3) (ix2 i ⟨f.val, hf⟩) := by
  unfold V
  after_reads_at
  exact dif_pos hf
theorem cb_at (c : Dev nD) (f : Fin 6144) (hf : f.val < 5632) : V m c main_v5 (ix2 0 f) = m (c.tc.loc main_arg4) (ix1 ⟨f.val, hf⟩) := by
  unfold V
  after_reads_at
  exact dif_pos hf
theorem cp_at (c : Dev nD) (b i : Fin 8) (f : Fin 6144) (hf : f.val < 5632) : Eq (α := EReal) (V m c main_v6 (ix3 b i f)) 0 := by
  unfold V
  after_reads_at
  exact dif_pos hf

theorem block0_at (c : Dev nD) (t : Fin cfg0.N) (r : Fin 512) (k : Fin 2048) (b : Fin 8) (p : Fin 2048) (hb : b.val = t.val / 24) (hp : p.val = t.val / 6 % 4 * 512 + r.val) :
    iblk m c 0 t (ix3 0 r k) = V m c main_arg0 (ix3 b p k) := by
  blk_ext [iblk, idx t]
theorem block1_at (c : Dev nD) (t : Fin cfg0.N) (C : Fin 2048) : iblk m c 1 t (ix2 0 C) = V m c main_v7 (ix2 0 C) := by
  blk_ext [iblk, idx t]
theorem block2_at (c : Dev nD) (t : Fin cfg0.N) (k : Fin 2048) (l : Fin 512) (C : Fin 11264) (hC : C.val = min (2 * (t.val % 6)) 10 * 512 + l.val) :
    iblk m c 2 t (ix2 k l) = V m c main_v1 (ix2 k C) := by
  blk_ext [iblk, idx t]
theorem block3_at (c : Dev nD) (t : Fin cfg0.N) (k : Fin 2048) (l : Fin 512) (C : Fin 11264) (hC : C.val = (11 + min (2 * (t.val % 6)) 10) * 512 + l.val) :
    iblk m c 3 t (ix2 k l) = V m c main_v1 (ix2 k C) := by
  blk_ext [iblk, idx t]
theorem block4_at (c : Dev nD) (t : Fin cfg0.N) (l : Fin 512) (C : Fin 2048) (f : Fin 5632) (hf : f.val = min (2 * (t.val % 6)) 10 * 512 + l.val) :
    iblk m c 4 t (ix2 l C) = V m c main_v2 (ix2 f C) := by
  blk_ext [iblk, idx t]
theorem block5_at (c : Dev nD) (t : Fin cfg0.N) (k : Fin 2048) (l : Fin 512) (C : Fin 11264) (hC : C.val = min (2 * (t.val % 6) + 1) 10 * 512 + l.val) :
    iblk m c 5 t (ix2 k l) = V m c main_v1 (ix2 k C) := by
  blk_ext [iblk, idx t]
theorem block6_at (c : Dev nD) (t : Fin cfg0.N) (k : Fin 2048) (l : Fin 512) (C : Fin 11264) (hC : C.val = (11 + min (2 * (t.val % 6) + 1) 10) * 512 + l.val) :
    iblk m c 6 t (ix2 k l) = V m c main_v1 (ix2 k C) := by
  blk_ext [iblk, idx t]
theorem block7_at (c : Dev nD) (t : Fin cfg0.N) (l : Fin 512) (C : Fin 2048) (f : Fin 5632) (hf : f.val = min (2 * (t.val % 6) + 1) 10 * 512 + l.val) :
    iblk m c 7 t (ix2 l C) = V m c main_v2 (ix2 f C) := by
  blk_ext [iblk, idx t]
theorem block8_at (c : Dev nD) (t : Fin cfg0.N) (i : Fin 3) (l : Fin 1024) (f : Fin 6144) (hf : f.val = t.val % 6 * 1024 + l.val) :
    iblk m c 8 t (ix2 i l) = V m c main_v3 (ix2 i f) := by
  blk_ext [iblk, idx t]
theorem block9_at (c : Dev nD) (t : Fin cfg0.N) (l : Fin 1024) (f : Fin 6144) (hf : f.val = t.val % 6 * 1024 + l.val) :
    iblk m c 9 t (ix2 0 l) = V m c main_v5 (ix2 0 f) := by
  blk_ext [iblk, idx t]
theorem block10_at (c : Dev nD) (t : Fin cfg0.N) (C : Fin 2048) : iblk m c 10 t (ix2 0 C) = V m c main_v8 (ix2 0 C) := by
  blk_ext [iblk, idx t]
theorem block11_at (c : Dev nD) (t : Fin cfg0.N) (i : Fin 8) (l : Fin 1024) (b : Fin 8) (hb : b.val = t.val / 24) (f : Fin 6144) (hf : f.val = t.val % 6 * 1024 + l.val) :
    iblk m c 11 t (ix3 0 i l) = V m c main_v6 (ix3 b i f) := by
  blk_ext [iblk, idx t]

end Cert.FfnIdeal.Block

end
-- ==== Proof.FfnValue.lean ====
module

public import proofs.«01_k».proof.Proof.FfnBlock

/-!
  What the feed-forward kernel computes, as a function of the layer's arguments: for each token the normalised row
  projected twice, the first projection convolved with the two tokens before it, activated, gated and projected back,
  the sum normalised, weighted and added to the residual; and the first projection's last two tokens.
-/

@[expose] public section

set_option maxRecDepth 16384

noncomputable section

namespace Cert.FfnIdeal.Block

open Cert.FfnIdeal Cert.FfnIdeal.Gen Cert.FfnIdeal.Run Idealize.ShloMosaic Idealize.SL.Sem Idealize.ShloMosaic.TcCoe
open Cert.Rms

section spec
variable (x : FVec Ideal S8x2048x2048 .f32) (g1 : FVec Ideal S2048 .f32) (wu : FVec Ideal S2048x11264 .f32) (cw : FVec Ideal S3x5632 .f32)
  (cb : FVec Ideal S5632 .f32) (wd : FVec Ideal S5632x2048 .f32) (g2 : FVec Ideal S2048 .f32)

/-- A token's normalised row. -/
def nrm (b : Fin 8) (p k : Fin 2048) : EReal := x (ix3 b p k) * scale (fun k => x (ix3 b p k)) * g1 (ix1 k)

/-- A token's projection at one of the 11264 columns. -/
def up (b : Fin 8) (p : Fin 2048) (C : Fin 11264) : EReal := normDot (fun k => x (ix3 b p k)) (fun k => g1 (ix1 k)) (fun k => wu (ix2 k C))

/-- The first projection `d` tokens before a token; zero before the sequence. -/
def ago (d : ℕ) (b : Fin 8) (p : Fin 2048) (f : Fin 5632) : EReal :=
  if p.val < d then 0 else up x g1 wu b ⟨p.val - d, by omega⟩ ⟨f.val, by omega⟩

/-- A token's hidden value: convolved, activated and gated. -/
def hid (b : Fin 8) (p : Fin 2048) (f : Fin 5632) : EReal :=
  act (conv (cw (ix2 0 f)) (cw (ix2 1 f)) (cw (ix2 2 f)) (cb (ix1 f)) (ago x g1 wu 2 b p f) (ago x g1 wu 1 b p f) (up x g1 wu b p ⟨f.val, by omega⟩))
    (up x g1 wu b p ⟨5632 + f.val, by omega⟩)

/-- A token's feed-forward row before its norm. -/
def ffn (b : Fin 8) (p : Fin 2048) (C : Fin 2048) : EReal := ∑ f, hid x g1 wu cw cb b p f * wd (ix2 f C)

/-- The layer's result. -/
def out (b : Fin 8) (p : Fin 2048) (C : Fin 2048) : EReal :=
  x (ix3 b p C) + ffn x g1 wu cw cb wd b p C * scale (ffn x g1 wu cw cb wd b p) * g2 (ix1 C)

/-- What one block of 512 hidden columns adds to a token's row. -/
def blk (b : Fin 8) (p : Fin 2048) (C : Fin 2048) (n : ℕ) : EReal :=
  if h : n < 11 then ∑ l : Fin 512, hid x g1 wu cw cb b p ⟨n * 512 + l.val, by omega⟩ * wd (ix2 ⟨n * 512 + l.val, by omega⟩ C) else 0

/-- The eleven blocks together are the whole row. -/
theorem blk_sum (b : Fin 8) (p : Fin 2048) (C : Fin 2048) : ∑ n ∈ Finset.range 11, blk x g1 wu cw cb wd b p C n = ffn x g1 wu cw cb wd b p C := by
  rw [Finset.sum_range]
  unfold ffn
  refine Eq.trans (Finset.sum_congr rfl fun n _ => ?_) (Fin.sum_mul_add_congr (S := 11) (n := 512)
    (F := fun n (l : Fin 512) => hid x g1 wu cw cb b p ⟨n.val * 512 + l.val, by omega⟩ * wd (ix2 ⟨n.val * 512 + l.val, by omega⟩ C)) fun n l hl => rfl)
  unfold blk
  rw [dif_pos n.isLt]
end spec

variable (m : (ℓ : Loc nD τ sig) → Buf (Elt Ideal) ℓ) (ρ : Dev nD → PrngReg)

abbrev upM (c : Dev nD) := up (m (c.tc.loc main_arg0)) (m (c.tc.loc main_arg1)) (m (c.tc.loc main_arg2))
abbrev agoM (c : Dev nD) := ago (m (c.tc.loc main_arg0)) (m (c.tc.loc main_arg1)) (m (c.tc.loc main_arg2))
abbrev hidM (c : Dev nD) := hid (m (c.tc.loc main_arg0)) (m (c.tc.loc main_arg1)) (m (c.tc.loc main_arg2)) (m (c.tc.loc main_arg3)) (m (c.tc.loc main_arg4))
abbrev blkM (c : Dev nD) := blk (m (c.tc.loc main_arg0)) (m (c.tc.loc main_arg1)) (m (c.tc.loc main_arg2)) (m (c.tc.loc main_arg3)) (m (c.tc.loc main_arg4)) (m (c.tc.loc main_arg5))
abbrev ffnM (c : Dev nD) := ffn (m (c.tc.loc main_arg0)) (m (c.tc.loc main_arg1)) (m (c.tc.loc main_arg2)) (m (c.tc.loc main_arg3)) (m (c.tc.loc main_arg4)) (m (c.tc.loc main_arg5))
abbrev outM (c : Dev nD) := out (m (c.tc.loc main_arg0)) (m (c.tc.loc main_arg1)) (m (c.tc.loc main_arg2)) (m (c.tc.loc main_arg3)) (m (c.tc.loc main_arg4)) (m (c.tc.loc main_arg5)) (m (c.tc.loc main_arg6))

/-- Token `p` of sequence `b` is row `r` of the tile of point `t`. -/
def Row (t : Fin cfg0.N) (r : Fin 512) (b : Fin 8) (p : Fin 2048) : Prop := b.val = t.val / 24 ∧ p.val = t.val / 6 % 4 * 512 + r.val

/-- The normalised rows of a point's tile. -/
theorem hAt_at (c : Dev nD) (t : Fin cfg0.N) (r : Fin 512) (b : Fin 8) (p : Fin 2048) (h : Row t r b p) (k : Fin 2048) :
    hAt m c t (ix2 r k) = nrm (m (c.tc.loc main_arg0)) (m (c.tc.loc main_arg1)) b p k := by
  have e : (back t (t.val % 6)).val = t.val - t.val % 6 := rfl
  have h0 : ∀ k, iblk m c 0 (back t (t.val % 6)) (ix3 0 r k) = m (c.tc.loc main_arg0) (ix3 b p k) := fun k => by
    rw [block0_at m c _ r k b p (by rw [e, h.1]; omega) (by rw [e, h.2]; omega), V_main_arg0]
  unfold hAt
  rw [pay11_at, block1_at, gpre_at]
  simp only [h0]
  rfl

/-- A point's projection through a block of 512 of the first weight's columns. -/
theorem proj_eq (c : Dev nD) (t : Fin cfg0.N) (r l : Fin 512) (b : Fin 8) (p : Fin 2048) (h : Row t r b p) (C : Fin 11264) (w : Vec Ideal S2048x512 .bf16)
    (hw : ∀ k, w (ix2 k l) = m (c.tc.loc main_arg2) (ix2 k C)) : proj (hAt m c t) w r l = upM m c b p C := by
  unfold proj upM up normDot
  refine Finset.sum_congr rfl fun k _ => ?_
  rw [hAt_at m c t r b p h k, hw]
  rfl

/-- The rows in front of a tile, then the tile's own, are the first projection some tokens before. -/
theorem before_eq (c : Dev nD) (t : Fin cfg0.N) (d : ℕ) (hd : d ≤ 8) (H : Fin 8 → EReal) (A : Fin 512 → EReal) (r : Fin 512) (b : Fin 8) (p : Fin 2048) (h : Row t r b p) (f : Fin 5632)
    (hA : ∀ r p, Row t r b p → A r = upM m c b p ⟨f.val, by omega⟩) (hH0 : t.val / 6 % 4 = 0 → ∀ i, H i = 0)
    (hH : t.val / 6 % 4 ≠ 0 → ∀ (i : Fin 8) (p : Fin 2048), p.val + 8 = t.val / 6 % 4 * 512 + i.val → H i = upM m c b p ⟨f.val, by omega⟩) :
    before d hd H A r = agoM m c d b p f := by
  obtain ⟨hb, hp⟩ := h
  unfold before agoM ago
  by_cases hr : r.val < d
  · rw [dif_pos hr]
    by_cases h0 : t.val / 6 % 4 = 0
    · rw [if_pos (by omega), hH0 h0]
    · rw [if_neg (by omega)]
      exact hH h0 _ _ (by simp only; omega)
  · rw [dif_neg hr, if_neg (by omega)]
    exact hA _ _ ⟨hb, by simp only; omega⟩

/-- A point's two blocks: their numbers, columns, and parts of the point's staged weights. -/
theorem act_eq (c : Dev nD) (t : Fin cfg0.N) (n : ℕ) (hn : n < 11) (r l : Fin 512) (b : Fin 8) (p : Fin 2048) (h : Row t r b p)
    (f : Fin 5632) (hf : f.val = n * 512 + l.val)
    (H : Fin 8 → Fin 512 → EReal) (wa wb : Vec Ideal S2048x512 .bf16) (w : Vec Ideal S3x512 .f32) (bi : Vec Ideal S1x512 .f32)
    (hwa : ∀ k, wa (ix2 k l) = m (c.tc.loc main_arg2) (ix2 k ⟨f.val, by omega⟩)) (hwb : ∀ k, wb (ix2 k l) = m (c.tc.loc main_arg2) (ix2 k ⟨5632 + f.val, by omega⟩))
    (hw : ∀ i, w (ix2 i l) = m (c.tc.loc main_arg3) (ix2 i f)) (hbi : bi (ix2 0 l) = m (c.tc.loc main_arg4) (ix1 f))
    (hH0 : t.val / 6 % 4 = 0 → ∀ i, H i l = 0)
    (hH : t.val / 6 % 4 ≠ 0 → ∀ (i : Fin 8) (p : Fin 2048), p.val + 8 = t.val / 6 % 4 * 512 + i.val → H i l = upM m c b p ⟨f.val, by omega⟩) :
    actAt (hAt m c t) H wa wb w bi r l = hidM m c b p f := by
  have hA : ∀ r p, Row t r b p → proj (hAt m c t) wa r l = upM m c b p ⟨f.val, by omega⟩ := fun r p h => proj_eq m c t r l b p h _ wa hwa
  unfold actAt hidM hid
  rw [before_eq m c t 2 _ (H · l) (proj (hAt m c t) wa · l) r b p h f hA hH0 hH, before_eq m c t 1 _ (H · l) (proj (hAt m c t) wa · l) r b p h f hA hH0 hH,
    hA r p h, proj_eq m c t r l b p h _ wb hwb, hw, hw, hw, hbi]

/-- The eight rows a point keeps of its first block, -/
theorem tailA_at (c : Dev nD) (t : Fin cfg0.N) (i : Fin 8) (l : Fin 512) (b : Fin 8) (p : Fin 2048) (h : Row t ⟨504 + i.val, by omega⟩ b p)
    (f : Fin 5632) (hf : f.val = 2 * (t.val % 6) * 512 + l.val) : tailNext (hAt m c t) (iblk m c 2 t) (ix3 0 i l) = upM m c b p ⟨f.val, by omega⟩ := by
  rw [tailNext_at]
  refine proj_eq m c t _ l b p h _ _ fun k => ?_
  rw [block2_at m c t k l ⟨f.val, by omega⟩ (by simp only; omega), up_at]

/-- and of its second. -/
theorem tailB_at (c : Dev nD) (t : Fin cfg0.N) (h5 : t.val % 6 ≠ 5) (i : Fin 8) (l : Fin 512) (b : Fin 8) (p : Fin 2048) (h : Row t ⟨504 + i.val, by omega⟩ b p)
    (f : Fin 5632) (hf : f.val = (2 * (t.val % 6) + 1) * 512 + l.val) : tailNext (hAt m c t) (iblk m c 5 t) (ix3 0 i l) = upM m c b p ⟨f.val, by omega⟩ := by
  rw [tailNext_at]
  refine proj_eq m c t _ l b p h _ _ fun k => ?_
  rw [block5_at m c t k l ⟨f.val, by omega⟩ (by simp only; omega), up_at]

/-- A block of 512 hidden columns adds its two halves of 256. -/
theorem oNext_at (a1 : BitVec 32) (h : Vec Ideal S512x2048 .bf16) (cp : Vec Ideal S1x8x512 .f32) (q : Vec Ideal S1x1x8x512 .f32) (wa wb : Vec Ideal S2048x512 .bf16)
    (wd : Vec Ideal S512x2048 .bf16) (cw : Vec Ideal S3x512 .f32) (cb : Vec Ideal S1x512 .f32) (o : Vec Ideal S1x512x2048 .f32) (r : Fin 512) (C : Fin 2048) :
    oNext (F := Ideal) a1 h cp q wa wb wd cw cb o (ix3 0 r C) = o (ix3 0 r C)
      + ∑ l : Fin 512, actAt h (fun i l => k0_pay25 a1 cp q (ix3 0 i l)) wa wb cw cb r l * wd (ix2 l C) := by
  unfold oNext
  rw [oHi_at, oLo_at, add_assoc]
  exact congrArg (_ + ·) (Fin.sum_univ_add (a := 256) (b := 256) fun l : Fin (256 + 256) =>
    actAt h (fun i l => k0_pay25 a1 cp q (ix3 0 i l)) wa wb cw cb r l * wd (ix2 l C)).symm

/-- The row tile's number as a word is zero only for the first. -/
theorem tileWord_zero (t : Fin cfg0.N) (h : t.val / 6 % 4 = 0) : tileWord (grid0.coords t) = 0#32 := by
  unfold tileWord; rw [coord1, h]
theorem tileWord_ne (t : Fin cfg0.N) (h : t.val / 6 % 4 ≠ 0) : tileWord (grid0.coords t) ≠ 0#32 := by
  unfold tileWord
  rw [coord1]
  intro e
  have := congrArg BitVec.toNat e
  simp at this
  omega

/-- The output tile after a point's first block. -/
theorem oStep1_at (c : Dev nD) (t : Fin cfg0.N) (o : Vec Ideal S1x512x2048 .f32) (r : Fin 512) (b : Fin 8) (p : Fin 2048) (h : Row t r b p) (C : Fin 2048) :
    oStep1 m c t o (ix3 0 r C) = o (ix3 0 r C) + blkM m c b p C (2 * (t.val % 6)) := by
  unfold oStep1
  rw [oNext_at]
  refine congrArg (_ + ·) ?_
  unfold blkM blk
  rw [dif_pos (by omega)]
  refine Finset.sum_congr rfl fun l _ => congrArg₂ (· * ·) ?_ ?_
  · refine act_eq m c t (2 * (t.val % 6)) (by omega) r l b p h _ rfl _ _ _ _ _ (fun k => ?_) (fun k => ?_) (fun i => ?_) ?_ (fun h0 i => ?_) fun h0 i p' hp' => ?_
    · rw [block2_at m c t k l ⟨2 * (t.val % 6) * 512 + l.val, by omega⟩ (by simp only; omega), up_at]
    · rw [block3_at m c t k l ⟨5632 + (2 * (t.val % 6) * 512 + l.val), by omega⟩ (by simp only; omega), up_at]
    · rw [cwl_at, block8_at m c t i _ ⟨2 * (t.val % 6) * 512 + l.val, by omega⟩ (by simp only; omega), cw_at m c i _ (by simp only; omega)]
    · rw [cbl_at, block9_at m c t _ ⟨2 * (t.val % 6) * 512 + l.val, by omega⟩ (by simp only; omega), cb_at m c _ (by simp only; omega)]
    · rw [tileWord_zero t h0, head_first, cpl_at, block11_at m c t i _ b h.1 ⟨2 * (t.val % 6) * 512 + l.val, by omega⟩ (by simp only; omega)]
      exact cp_at m c b i _ (by simp only; omega)
    · rw [head_next _ (tileWord_ne t h0)]
      have e : (back t 6).val = t.val - 6 := rfl
      have hb := h.1
      unfold TA
      rw [pay4_at]
      exact tailA_at m c (back t 6) i l b p' ⟨by rw [e]; omega, by rw [e]; simp only; omega⟩ _ (by rw [e]; simp only; omega)
  · rw [block4_at m c t l C ⟨2 * (t.val % 6) * 512 + l.val, by omega⟩ (by simp only; omega), down_at]

/-- The output tile after both of a point's blocks. -/
theorem oStep_at (c : Dev nD) (t : Fin cfg0.N) (h5 : t.val % 6 ≠ 5) (o : Vec Ideal S1x512x2048 .f32) (r : Fin 512) (b : Fin 8) (p : Fin 2048) (h : Row t r b p) (C : Fin 2048) :
    oStep m c t o (ix3 0 r C) = o (ix3 0 r C) + blkM m c b p C (2 * (t.val % 6)) + blkM m c b p C (2 * (t.val % 6) + 1) := by
  unfold oStep
  rw [oNext_at, oStep1_at m c t o r b p h C]
  refine congrArg₂ (· + ·) rfl ?_
  unfold blkM
  conv_rhs => unfold blk
  rw [dif_pos (by omega)]
  refine Finset.sum_congr rfl fun l _ => congrArg₂ (· * ·) ?_ ?_
  · refine act_eq m c t (2 * (t.val % 6) + 1) (by omega) r l b p h _ rfl _ _ _ _ _ (fun k => ?_) (fun k => ?_) (fun i => ?_) ?_ (fun h0 i => ?_) fun h0 i p' hp' => ?_
    · rw [block5_at m c t k l ⟨(2 * (t.val % 6) + 1) * 512 + l.val, by omega⟩ (by simp only; omega), up_at]
    · rw [block6_at m c t k l ⟨5632 + ((2 * (t.val % 6) + 1) * 512 + l.val), by omega⟩ (by simp only; omega), up_at]
    · rw [cwh_at, block8_at m c t i _ ⟨(2 * (t.val % 6) + 1) * 512 + l.val, by omega⟩ (by simp only; omega), cw_at m c i _ (by simp only; omega)]
    · rw [cbh_at, block9_at m c t _ ⟨(2 * (t.val % 6) + 1) * 512 + l.val, by omega⟩ (by simp only; omega), cb_at m c _ (by simp only; omega)]
    · rw [tileWord_zero t h0, head_first, cph_at, block11_at m c t i _ b h.1 ⟨(2 * (t.val % 6) + 1) * 512 + l.val, by omega⟩ (by simp only; omega)]
      exact cp_at m c b i _ (by simp only; omega)
    · rw [head_next _ (tileWord_ne t h0)]
      have e : (back t 6).val = t.val - 6 := rfl
      have hb := h.1
      unfold TB
      rw [pay4_at]
      exact tailB_at m c (back t 6) (by rw [e]; omega) i l b p' ⟨by rw [e]; omega, by rw [e]; simp only; omega⟩ _ (by rw [e]; simp only; omega)
  · rw [block7_at m c t l C ⟨(2 * (t.val % 6) + 1) * 512 + l.val, by omega⟩ (by simp only; omega), down_at]

/-- The output tile within a row tile is the sum of the blocks so far. -/
theorem oAt_sum (c : Dev nD) (r : Fin 512) (b : Fin 8) (p : Fin 2048) (C : Fin 2048) : ∀ (s : ℕ) (hs4 : s < 5) (t : Fin cfg0.N), t.val % 6 = s → Row t r b p →
    oAt m c t.val t.isLt (ix3 0 r C) = ∑ n ∈ Finset.range (2 * s + 2), blkM m c b p C n := by
  intro s
  induction s with
  | zero =>
    intro hs4 t hs h
    rw [oAt_first m c t hs, oStep_at m c t (by omega) _ r b p h C, clear_at, hs, zero_add, Finset.sum_range_succ, Finset.sum_range_one]
  | succ s ih =>
    intro hs4 t hs h
    have e : (back t 1).val = t.val - 1 := rfl
    rw [oAt_mid m c t (by omega) (by omega), oStep_at m c t (by omega) _ r b p h C,
      ih (by omega) (back t 1) (by rw [e]; omega) ⟨by rw [e, h.1]; omega, by rw [e, h.2]; omega⟩, hs,
      show 2 * (s + 1) + 2 = 2 * s + 2 + 1 + 1 from rfl, Finset.sum_range_succ _ (2 * s + 2 + 1), Finset.sum_range_succ _ (2 * s + 2)]
    rfl

/-- What the output tile holds when it is written back. -/
theorem oAt_out (c : Dev nD) (t : Fin cfg0.N) (h5 : t.val % 6 = 5) (r : Fin 512) (b : Fin 8) (p : Fin 2048) (h : Row t r b p) (C : Fin 2048) :
    oAt m c t.val t.isLt (ix3 0 r C) = outM m c b p C := by
  have e : (back t 1).val = t.val - 1 := rfl
  have hsum : ∀ C, oStep1 m c t (oAt m c (back t 1).val (back t 1).isLt) (ix3 0 r C) = ffnM m c b p C := fun C => by
    rw [oStep1_at m c t _ r b p h C, oAt_sum m c r b p C 4 (by omega) (back t 1) (by rw [e]; omega) ⟨by rw [e, h.1]; omega, by rw [e, h.2]; omega⟩, h5]
    exact (Finset.sum_range_succ (blkM m c b p C) 10).symm.trans (blk_sum _ _ _ _ _ _ b p C)
  rw [oAt_last m c t h5, pay10_at, hsum, block0_at m c t r C b p h.1 h.2, V_main_arg0, block10_at, gpost_at]
  simp only [hsum]
  rfl

/-- The kept rows of a row tile, in an array of 6144 columns. -/
def keptRow (c : Dev nD) (b : Fin 8) (i : Fin 4) (q : Fin 8) (f : Fin 6144) : EReal :=
  if h : f.val < 5632 then upM m c b ⟨i.val * 512 + 504 + q.val, by omega⟩ ⟨f.val, by omega⟩ else 0

/-- What a point writes of the kept rows. -/
theorem tlAt_at (c : Dev nD) (t : Fin cfg0.N) (b : Fin 8) (i : Fin 4) (q : Fin 8) (l : Fin 1024) (f : Fin 6144) (hb : b.val = t.val / 24) (hi : i.val = t.val / 6 % 4)
    (hf : f.val = t.val % 6 * 1024 + l.val) : tlAt m c t (ix4 0 0 q l) = keptRow m c b i q f := by
  unfold tlAt tlOf keptRow
  by_cases hl : l.val < 512
  · refine (dif_pos hl).trans ?_
    rw [dif_pos (by omega)]
    refine (pay5_at _ q ⟨l.val, hl⟩).trans ?_
    exact tailA_at m c t q ⟨l.val, hl⟩ b _ ⟨hb, by simp only; omega⟩ ⟨f.val, by omega⟩ (by simp only; omega)
  · refine (dif_neg hl).trans ?_
    by_cases h5 : t.val % 6 = 5
    · rw [if_pos h5, dif_neg (by omega)]
      pointwise [k0_pay6]
    · rw [if_neg h5, dif_pos (by omega)]
      refine (pay5_at _ q ⟨l.val - 512, by omega⟩).trans ?_
      exact tailB_at m c t h5 q ⟨l.val - 512, by omega⟩ b _ ⟨hb, by simp only; omega⟩ ⟨f.val, by omega⟩ (by simp only; omega)

end Cert.FfnIdeal.Block

end
-- ==== Proof.FfnArray.lean ====
module

public import proofs.«01_k».proof.Proof.FfnValue

/-!
  The arrays the feed-forward kernel leaves: the layer's result, and the first projection's last two tokens cut from the
  rows the kernel keeps of every tile.
-/

@[expose] public section

set_option maxRecDepth 16384

noncomputable section

namespace Cert.FfnIdeal.Block

open Cert.FfnIdeal Cert.FfnIdeal.Gen Cert.FfnIdeal.Run Idealize.ShloMosaic Idealize.SL.Sem Idealize.ShloMosaic.TcCoe

variable (m : (ℓ : Loc nD τ sig) → Buf (Elt Ideal) ℓ) (ρ : Dev nD → PrngReg)

/-- The layer's result after the run. -/
theorem final12 (c : Dev nD) : (dats m 0 c).arrAt 12 cfg0.N = fun y : S8x2048x2048.Idx => outM m c (y 0) (y 1) (y 2) := by
  refine (dats m 0 c).arrAt_eq_of_covers 12 _ (by decide +kernel) fun t hf y => ?_
  have h5 : t.val % 6 = 5 := (flush0_12 t).mp hf
  blk_simp
  rw [after_12]
  have h0 : ((((win0_12.blk t).view.emb y) 0 : Fin 8) : ℕ) = t.val / 24 + (y 0).val := by blk_simp [idx t]
  have h1 : ((((win0_12.blk t).view.emb y) 1 : Fin 2048) : ℕ) = t.val / 6 % 4 * 512 + (y 1).val := by blk_simp [idx t]
  have h2 : (((win0_12.blk t).view.emb y) 2 : Fin 2048) = y 2 := by
    apply Fin.ext
    blk_simp [idx t]
  have hz : (y 0).val = 0 := by have h : (y 0).val < 1 := (y 0).isLt; omega
  have hy : y = ix3 0 (y 1) (y 2) := by
    funext a; fin_cases a
    · exact Fin.ext hz
    · rfl
    · rfl
  refine (congrArg (oAt m c t.val t.isLt) hy).trans ((oAt_out m c t h5 (y 1) _ _ ⟨h0.trans (by omega), h1⟩ (y 2)).trans ?_)
  exact congrArg (outM m c _ _) h2.symm

/-- The rows the kernel keeps of every tile, after the run. -/
theorem final13 (c : Dev nD) : (dats m 0 c).arrAt 13 cfg0.N = fun y : S8x4x8x6144.Idx => keptRow m c (y 0) (y 1) (y 2) (y 3) := by
  refine (dats m 0 c).arrAt_eq_of_covers 13 _ (by decide +kernel) fun t hf y => ?_
  blk_simp
  rw [after_13]
  have h0 : ((((win0_13.blk t).view.emb y) 0 : Fin 8) : ℕ) = t.val / 24 + (y 0).val := by blk_simp [idx t]
  have h1 : ((((win0_13.blk t).view.emb y) 1 : Fin 4) : ℕ) = t.val / 6 % 4 + (y 1).val := by blk_simp [idx t]
  have h2 : (((win0_13.blk t).view.emb y) 2 : Fin 8) = y 2 := by
    apply Fin.ext
    blk_simp [idx t]
  have h3 : ((((win0_13.blk t).view.emb y) 3 : Fin 6144) : ℕ) = t.val % 6 * 1024 + (y 3).val := by blk_simp [idx t]
  have hz : (y 0).val = 0 := by have h : (y 0).val < 1 := (y 0).isLt; omega
  have hz1 : (y 1).val = 0 := by have h : (y 1).val < 1 := (y 1).isLt; omega
  have hy : y = ix4 0 0 (y 2) (y 3) := by
    funext a; fin_cases a
    · exact Fin.ext hz
    · exact Fin.ext hz1
    · rfl
    · rfl
  refine (congrArg (tlAt m c t) hy).trans ((tlAt_at m c t _ _ (y 2) (y 3) _ (h0.trans (by omega)) (h1.trans (by omega)) h3).trans ?_)
  exact congrArg (fun q => keptRow m c _ _ q _) h2.symm

/-- The first projection's last two tokens, as the host cuts them from the kept rows. -/
theorem final_tail (c : Dev nD) : Pipeline.afterTail₀ cfgs (dats m) 0 (V0 m) [hostOps1] c main_v12
    = fun y : S8x2x5632.Idx => upM m c (y 0) ⟨2046 + (y 1).val, by have h : (y 1).val < 2 := (y 1).isLt; omega⟩ ⟨(y 2).val, by have h : (y 2).val < 5632 := (y 2).isLt; omega⟩ := by
  have h13 : Pipeline.withArrays (cfgs 0).spec c (V0 m c) (fun w => (dats m 0 c).arrAt w (cfgs 0).N) (Proc.devRef .tc main_v9_1)
      = fun y : S8x4x8x6144.Idx => keptRow m c (y 0) (y 1) (y 2) (y 3) :=
    (Pipeline.withArrays_arr_shared (cfgs 0).spec c (V0 m c) (fun w => (dats m 0 c).arrAt w (cfgs 0).N)
      ((dats m 0 c).arrAt_sharedIn sharedIn0 (V0 m c) (A_eq m c) _) 13).trans (final13 m c)
  funext y
  idx_vars y
  unfold Pipeline.afterTail₀
  after_reads_at
  rw [h13]
  unfold keptRow
  refine (dif_pos y2.isLt).trans ?_
  exact congrArg (fun p => upM m c y0 p _) (Fin.ext (show 3 * 512 + 504 + (6 + y1.val) = 2046 + y1.val by omega))

/-- The run: both results, and the arguments end unchanged. -/
theorem run : θ_run defs (onTc (τ := τ) (main (F := Ideal))) ⟨m, fun _ => 0, ρ⟩ fun r => ∀ c : Dev nD,
      (r.2.mem ((c : Thread nD τ).loc main_v9_0) = fun y : S8x2048x2048.Idx => outM m c (y 0) (y 1) (y 2))
      ∧ (r.2.mem ((c : Thread nD τ).loc main_v12) = fun y : S8x2x5632.Idx =>
        upM m c (y 0) ⟨2046 + (y 1).val, by have h : (y 1).val < 2 := (y 1).isLt; omega⟩ ⟨(y 2).val, by have h : (y 2).val < 5632 := (y 2).isLt; omega⟩)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h.1 c).1 12).trans (final12 m c),
    ((h.1 c).2 main_v12 (Pipeline.mem_restRefs_of main_v12 (by decide) (by decide))).trans (final_tail m c), args_kept m r h.1 c⟩) (run_main m ρ)

end Cert.FfnIdeal.Block

end
-- ==== Proof.FfnClaims.lean ====
module

public import proofs.«01_k».proof.Defs
public import proofs.«01_k».proof.Proof.Gen.RefFfnIdeal.Run
public import proofs.«01_k».proof.Proof.Gen.RefFfnIdeal.Read
public import proofs.«01_k».proof.Proof.Gen.Ffn.Frame
public import proofs.«01_k».proof.Proof.FfnArray

/-!
The claims about the feed-forward network: its frames, and that the layer's result and the first projection's last two tokens
are the reference's.
-/

@[expose] public section

set_option maxRecDepth 16384

noncomputable section

namespace Cert.Proof.Ffn

open Idealize.ShloMosaic Idealize.SL.Sem Cert.FfnIdeal.Block Cert.FfnIdeal.Run Cert.RefFfnIdeal Cert.RefFfnIdeal.Read
open Cert.Rms

variable (x : FVec Ideal S8x2048x2048 .f32) (g1 : FVec Ideal S2048 .f32) (wu : FVec Ideal S2048x11264 .f32) (cw : FVec Ideal S3x5632 .f32)
  (cb : FVec Ideal S5632 .f32) (wd : FVec Ideal S5632x2048 .f32) (g2 : FVec Ideal S2048 .f32)

/-- The reference's normalised tokens at an element. -/
theorem normed_at (b : Fin 8) (p k : Fin 2048) : val_main_v13 (F := Ideal) x g1 (ix3 b p k) = nrm x g1 b p k := by
  pointwise [val_main_v13, val_main_v12, val_main_v11, val_main_v10, val_main_v9, val_main_v8,
    val_main_v7, val_main_v6, val_main_v5, val_main_v4, val_main_v3, val_main_v2, val_main_v1, val_main_cst,
    val_main_cst_0, val_main_cst_1, val_main_cst_2, nrm, Cert.Rms.scale]

/-- The reference's first projection at an element. -/
theorem up_at (b : Fin 8) (p : Fin 2048) (C : Fin 11264) : val_main_v14 (F := Ideal) x g1 wu (ix3 b p C) = up x g1 wu b p C := by
  pointwise [val_main_v14, normed_at, nrm, up, normDot]

/-- The projection with two rows of zeros in front of the sequence. -/
theorem ext_at (b : Fin 8) (P : Fin 2050) (f : Fin 5632) : val_main_v17 (F := Ideal) x g1 wu (ix3 b P f)
    = if h : P.val < 2 then 0 else up x g1 wu b ⟨P.val - 2, by omega⟩ ⟨f.val, by omega⟩ := by
  pointwise [val_main_v17, val_main_v0, val_main_cst, val_main_v15, up_at]

/-- Cut two rows earlier, one row earlier and in place, it is the projection two tokens and one token before, and the token's own. -/
theorem ago_eq (d : ℕ) (hd : d ≤ 2) (b : Fin 8) (p : Fin 2048) (f : Fin 5632) (P : Fin 2050) (hP : P.val + d = p.val + 2) :
    val_main_v17 (F := Ideal) x g1 wu (ix3 b P f) = ago x g1 wu d b p f := by
  rw [ext_at]
  unfold ago
  by_cases h : P.val < 2
  · rw [dif_pos h, if_pos (by omega)]
  · rw [dif_neg h, if_neg (by omega)]
    exact congrArg (fun p => up x g1 wu b p _) (Fin.ext (by simp only; omega))

theorem now_eq (b : Fin 8) (p : Fin 2048) (f : Fin 5632) (P : Fin 2050) (hP : P.val = p.val + 2) :
    val_main_v17 (F := Ideal) x g1 wu (ix3 b P f) = up x g1 wu b p ⟨f.val, by omega⟩ := by
  rw [ago_eq x g1 wu 0 (by omega) b p f P hP]
  exact if_neg (Nat.not_lt_zero _)

/-- The reference's three shifted projections at an element. -/
theorem shift2_at (b : Fin 8) (p : Fin 2048) (f : Fin 5632) : val_main_v18 (F := Ideal) x g1 wu (ix3 b p f) = ago x g1 wu 2 b p f := by
  rw [val_main_v18_apply]
  exact (congrArg (val_main_v17 (F := Ideal) x g1 wu) (by funext a; fin_cases a <;> rfl)).trans
    (ago_eq x g1 wu 2 (by omega) b p f _ rfl)
theorem shift1_at (b : Fin 8) (p : Fin 2048) (f : Fin 5632) : val_main_v26 (F := Ideal) x g1 wu (ix3 b p f) = ago x g1 wu 1 b p f := by
  rw [val_main_v26_apply]
  exact (congrArg (val_main_v17 (F := Ideal) x g1 wu) (by funext a; fin_cases a <;> rfl)).trans
    (ago_eq x g1 wu 1 (by omega) b p f _ (show 1 + p.val + 1 = p.val + 2 by omega))
theorem shift0_at (b : Fin 8) (p : Fin 2048) (f : Fin 5632) : val_main_v33 (F := Ideal) x g1 wu (ix3 b p f) = up x g1 wu b p ⟨f.val, by omega⟩ := by
  rw [val_main_v33_apply]
  exact (congrArg (val_main_v17 (F := Ideal) x g1 wu) (by funext a; fin_cases a <;> rfl)).trans
    (now_eq x g1 wu b p f _ (show 2 + p.val = p.val + 2 by omega))

/-- The reference's convolution at an element. -/
theorem conv_at (b : Fin 8) (p : Fin 2048) (f : Fin 5632) : val_main_v42 (F := Ideal) x g1 wu cw cb (ix3 b p f)
    = conv (cw (ix2 0 f)) (cw (ix2 1 f)) (cw (ix2 2 f)) (cb (ix1 f)) (ago x g1 wu 2 b p f) (ago x g1 wu 1 b p f) (up x g1 wu b p ⟨f.val, by omega⟩) := by
  unfold conv
  pointwise [val_main_v42, val_main_v41, val_main_v40, val_main_v39, val_main_v38, val_main_v37, val_main_v36, val_main_v35, val_main_v34,
    val_main_v32, val_main_v31, val_main_v30, val_main_v29, val_main_v28, val_main_v27, val_main_v25, val_main_v24, val_main_v23,
    val_main_v22, val_main_v21, val_main_v20, val_main_v19, val_main_cst_3, shift0_at, shift1_at, shift2_at]

/-- The reference's hidden values at an element. -/
theorem hid_at (b : Fin 8) (p : Fin 2048) (f : Fin 5632) : val_main_v56 (F := Ideal) x g1 wu cw cb (ix3 b p f) = hid x g1 wu cw cb b p f := by
  unfold hid act
  rw [mul_comm (conv _ _ _ _ _ _ _) (conv _ _ _ _ _ _ _ * _)]
  pointwise [val_main_v56, val_main_v55, val_main_v54, val_main_v53, val_main_v52, val_main_v51, val_main_v50, val_main_v49, val_main_v48,
    val_main_v47, val_main_v46, val_main_v45, val_main_v44, val_main_v43, val_main_v16, val_main_cst_4, val_main_cst_5, val_main_cst_6, val_main_cst_7,
    conv_at, up_at]

/-- The reference's feed-forward rows at an element. -/
theorem ffn_at (b : Fin 8) (p C : Fin 2048) : val_main_v57 (F := Ideal) x g1 wu cw cb wd (ix3 b p C) = ffn x g1 wu cw cb wd b p C := by
  pointwise [val_main_v57, hid_at, ffn]

/-- The reference's result. -/
theorem out_eq : val_main_v71 (F := Ideal) x g1 wu cw cb wd g2 = fun y : S8x2048x2048.Idx => out x g1 wu cw cb wd g2 (y 0) (y 1) (y 2) := by
  funext y
  idx_vars y
  pointwise [val_main_v71, val_main_v70, val_main_v69, val_main_v68, val_main_v67, val_main_v66, val_main_v65, val_main_v64, val_main_v63,
    val_main_v62, val_main_v61, val_main_v60, val_main_v59, val_main_v58, val_main_cst_8, val_main_cst_9, val_main_cst_10, ffn_at, out, Cert.Rms.scale]

/-- The reference's last two tokens of the first projection. -/
theorem tail_eq : val_main_v72 (F := Ideal) x g1 wu = fun y : S8x2x5632.Idx =>
    up x g1 wu (y 0) ⟨2046 + (y 1).val, by have h : (y 1).val < 2 := (y 1).isLt; omega⟩ ⟨(y 2).val, by have h : (y 2).val < 5632 := (y 2).isLt; omega⟩ := by
  funext y
  rw [val_main_v72_apply]
  have h : (y 1).val < 2 := (y 1).isLt
  exact (congrArg (val_main_v17 (F := Ideal) x g1 wu) (by funext a; fin_cases a <;> rfl)).trans
    (now_eq x g1 wu (y 0) ⟨2046 + (y 1).val, by omega⟩ (y 2) _ (show 2048 + (y 1).val = 2046 + (y 1).val + 2 by omega))

set_option maxHeartbeats 4000000 in
/-- The two kernels are the same text, so a call of one is a call of the other. -/
theorem defs₀_eq : Cert.Ffn.defs₀ (F := Bits) = Cert.FfnIdeal.defs₀ (F := Bits) := by
  refine congrArg Defs.onTc (funext fun l => funext fun a => ?_)
  obtain ⟨n, hn⟩ := l
  match n, hn with
  | 0, _ => rfl
  | n + 1, h => exact absurd h (Nat.not_lt.2 (Nat.le_add_left _ _))
theorem defs_eq : Cert.Ffn.defs (F := Bits) = Cert.FfnIdeal.defs (F := Bits) := congrArg (Pipeline.defs _) defs₀_eq

/-- The kernel as printed runs and keeps its arguments. -/
theorem frame_kernel : Cert.quiescent_Ffn := fun m ρ _ => by
  rw [defs_eq]
  exact Cert.FfnIdeal.Run.frame (F := Bits) m ρ

/-- The idealized kernel runs and keeps its arguments. -/
theorem frame_ideal : Cert.quiescent_FfnIdeal := fun m ρ _ => Cert.FfnIdeal.Run.frame (F := Ideal) m ρ

/-- The reference runs and keeps its arguments; it declares no semaphore. -/
theorem frame_reference : Cert.quiescent_RefFfnIdeal := fun m ρ _ =>
  (θ_run Cert.RefFfnIdeal.defs _ _).mono (fun r h => ⟨fun c => (h c).2.2, sem_eq_zero_of_no_sems (by decide) r.2⟩)
    (Cert.RefFfnIdeal.Value.run (F := Ideal) m ρ)

/-- The kernel's two results are the reference's, element by element. -/
theorem algebraic : Cert.algebraic_FfnIdeal_RefFfnIdeal := by
  intro m ρ m' ρ' _ hag
  refine ⟨_, _, Cert.FfnIdeal.Block.run m ρ, ?_⟩
  refine (θ_run _ _ _).mono (fun r h c => ⟨?_, ?_, (h c).2.2⟩) (Cert.RefFfnIdeal.Value.run (F := Ideal) m' ρ')
  · refine (h c).1.trans ((val_main_v71_eq m' c).trans ?_)
    obtain ⟨h0, h1, h2, h3, h4, h5, h6⟩ := hag c
    rw [h0, h1, h2, h3, h4, h5, h6]
    exact out_eq _ _ _ _ _ _ _
  · refine (h c).2.1.trans ?_
    rw [(hag c).1, (hag c).2.1, (hag c).2.2.1]
    exact (val_main_v72_eq _ _ _).trans (tail_eq _ _ _)

end Cert.Proof.Ffn

end
-- ==== Proof.ProjsBlock.lean ====
module

public import proofs.«01_k».proof.Proof.ProjBlock
public import proofs.«01_k».proof.Proof.Gen.ProjsIdeal.Frame
public import Idealize.ShloMosaic.Lib.StableHlo.ReadAt
public import Idealize.ShloMosaic.Lib.Pipeline.ValueKit
public import Idealize.ShloMosaic.Lib.Claim

/-!
The input projections of the sample batch as functions of the layer's arguments, and the new caches of keys and values:
the last rows of the cached ones followed by the new ones.
-/

@[expose] public section

set_option maxRecDepth 16384

noncomputable section

namespace Cert.ProjsIdeal.Block

open Cert.ProjsIdeal Cert.ProjsIdeal.Gen Idealize.ShloMosaic Idealize.SL.Sem Idealize.ShloMosaic.TcCoe
open Idealize.ShloMosaic.Pipeline (Dat)
open Cert.Rms
open Cert.ProjIdeal.Pay (two three nrow)
open Cert.ProjIdeal.Block (qcol kvcol ucol mcol)

/-- Token `R` of the flattened sample batch. -/
def tok (x : FVec Ideal S16x64x2048 .f32) (R : Fin 1024) (k : Fin 2048) : EReal :=
  x (ix3 ⟨R.val / 64, by omega⟩ ⟨R.val % 64, by omega⟩ k)

/-- The normalised token `R` against column `C` of the weight. -/
def proj (x : FVec Ideal S16x64x2048 .f32) (g : FVec Ideal S2048 .f32) (w : FVec Ideal S2048x8704 .f32)
    (R : Fin 1024) (C : Fin 8704) : EReal :=
  normDot (tok x R) (fun k => g (ix1 k)) (fun k => w (ix2 k C))

/-- The normalised token `R` at coordinate `k`. -/
def normed (x : FVec Ideal S16x64x2048 .f32) (g : FVec Ideal S2048 .f32) (R : Fin 1024) (k : Fin 2048) : EReal :=
  tok x R k * scale (tok x R) * g (ix1 k)

variable (x0 : FVec Ideal S512x2048 .f32) (x1 : FVec Ideal S1x2048 .f32) (x2 : FVec Ideal S2048x768 .bf16)
  (x3 x4 x5 x6 x7 : FVec Ideal S2048x256 .bf16) (x8 : FVec Ideal S2048x512 .bf16)

/-- A grid point writes what one of the prompt's call writes: the queries' block, -/
theorem out9_eq : out0_9 (F := Ideal) x0 x1 x2 x3 x4 x5 x6 x7 x8
      = fun y => normDot (fun k => x0 (ix2 (y 0) k)) (fun k => x1 (ix2 0 k)) (fun k => x2 (ix2 k (y 1))) :=
  Cert.ProjIdeal.Pay.out9_eq x0 x1 x2 x3 x4 x5 x6 x7 x8

/-- the keys' and values' block, -/
theorem out10_eq : out0_10 (F := Ideal) x0 x1 x2 x3 x4 x5 x6 x7 x8
      = fun y => normDot (fun k => x0 (ix2 (y 0) k)) (fun k => x1 (ix2 0 k)) (fun k => two x3 x4 k (y 1)) :=
  Cert.ProjIdeal.Pay.out10_eq x0 x1 x2 x3 x4 x5 x6 x7 x8

/-- the recurrence's input block, -/
theorem out11_eq : out0_11 (F := Ideal) x0 x1 x2 x3 x4 x5 x6 x7 x8
      = fun y => normDot (fun k => x0 (ix2 (y 0) k)) (fun k => x1 (ix2 0 k)) (fun k => three x5 x6 x7 k (y 1)) :=
  Cert.ProjIdeal.Pay.out11_eq x0 x1 x2 x3 x4 x5 x6 x7 x8

/-- the memory queries' block, -/
theorem out12_eq : out0_12 (F := Ideal) x0 x1 x2 x3 x4 x5 x6 x7 x8
      = fun y => normDot (fun k => x0 (ix2 (y 0) k)) (fun k => x1 (ix2 0 k)) (fun k => x8 (ix2 k (y 1))) :=
  Cert.ProjIdeal.Pay.out12_eq x0 x1 x2 x3 x4 x5 x6 x7 x8

/-- and the normalised rows' block. -/
theorem out13_eq : out0_13 (F := Ideal) x0 x1 x2 x3 x4 x5 x6 x7 x8 = fun y => nrow x0 x1 (y 0) (y 1) :=
  Cert.ProjIdeal.Pay.out13_eq x0 x1 x2 x3 x4 x5 x6 x7 x8

/-- The new cache: the cached rows but the first 64, then the sequence's 64 new rows, whose columns are `col` of the projections'. -/
def cache (col : Fin 256 → Fin 512) (x : FVec Ideal S16x64x2048 .f32) (g : FVec Ideal S2048 .f32) (w : FVec Ideal S2048x8704 .f32)
    (old : FVec Ideal S16x128x4x64 .f32) (b : Fin 16) (i : Fin 128) (h : Fin 4) (d : Fin 64) : EReal :=
  if hi : i.val < 64 then old (ix4 b ⟨64 + i.val, by omega⟩ h d)
  else proj x g w ⟨b.val * 64 + (i.val - 64), by omega⟩ (kvcol (col ⟨h.val * 64 + d.val, by omega⟩))

/-- The column of a key among the keys and values, -/
def kc (l : Fin 256) : Fin 512 := ⟨l.val, by omega⟩

/-- and of a value. -/
def vc (l : Fin 256) : Fin 512 := ⟨256 + l.val, by omega⟩

variable (m : (ℓ : Loc nD τ sig) → Buf (Elt Ideal) ℓ) (ρ : Dev nD → PrngReg)

/-- Where each window's block lies at a grid point. -/
theorem idx : ∀ t : Fin cfg0.N, win0_0.index t = ![t.val, 0] ∧ win0_1.index t = ![0, 0] ∧ win0_2.index t = ![0, 0]
    ∧ win0_3.index t = ![0, 3] ∧ win0_4.index t = ![0, 4] ∧ win0_5.index t = ![0, 5] ∧ win0_6.index t = ![0, 6]
    ∧ win0_7.index t = ![0, 7] ∧ win0_8.index t = ![0, 4] ∧ win0_9.index t = ![t.val, 0] ∧ win0_10.index t = ![t.val, 0]
    ∧ win0_11.index t = ![t.val, 0] ∧ win0_12.index t = ![t.val, 0] ∧ win0_13.index t = ![t.val, 0] :=
  (by decide +kernel : ∀ t : Fin grid0.N, win0_0.index t = ![t.val, 0] ∧ win0_1.index t = ![0, 0] ∧ win0_2.index t = ![0, 0]
    ∧ win0_3.index t = ![0, 3] ∧ win0_4.index t = ![0, 4] ∧ win0_5.index t = ![0, 5] ∧ win0_6.index t = ![0, 6]
    ∧ win0_7.index t = ![0, 7] ∧ win0_8.index t = ![0, 4] ∧ win0_9.index t = ![t.val, 0] ∧ win0_10.index t = ![t.val, 0]
    ∧ win0_11.index t = ![t.val, 0] ∧ win0_12.index t = ![t.val, 0] ∧ win0_13.index t = ![t.val, 0])

/-- The flattened tokens, at an element. -/
theorem rows_at (c : Dev nD) (R : Fin 1024) (k : Fin 2048) :
    V m c main_v5 (ix2 R k) = tok (m (c.tc.loc main_arg0)) R k := by
  unfold V tok
  after_reads_at

/-- The gains as a row, at an element. -/
theorem gain_at (c : Dev nD) (k : Fin 2048) : V m c main_v6 (ix2 0 k) = m (c.tc.loc main_arg1) (ix1 k) := by
  unfold V
  after_reads_at

/-- The weight after its cast, at an element: the cast is the identity on ideal values. -/
theorem weight_at (c : Dev nD) (k : Fin 2048) (C : Fin 8704) :
    V m c main_v0 (ix2 k C) = m (c.tc.loc main_arg2) (ix2 k C) := by
  unfold V
  after_reads_at

/-- The query weight after its columns are reordered, at an element. -/
theorem queries_at (c : Dev nD) (k : Fin 2048) (l : Fin 768) :
    V m c main_v4 (ix2 k l) = m (c.tc.loc main_arg2) (ix2 k (qcol l)) := by
  unfold V qcol
  after_reads_at

/-- The token block of a grid point, at an element. -/
theorem block0_at (c : Dev nD) (t : Fin cfg0.N) (r : Fin 512) (k : Fin 2048) (R : Fin 1024) (hR : R.val = t.val * 512 + r.val) :
    iblk m c 0 t (ix2 r k) = V m c main_v5 (ix2 R k) := by
  blk_ext [iblk, idx t]

/-- The gains at a grid point. -/
theorem block1_at (c : Dev nD) (t : Fin cfg0.N) (k : Fin 2048) : iblk m c 1 t (ix2 0 k) = V m c main_v6 (ix2 0 k) := by
  blk_ext [iblk, idx t]

/-- The query weight at a grid point. -/
theorem block2_at (c : Dev nD) (t : Fin cfg0.N) (k : Fin 2048) (l : Fin 768) :
    iblk m c 2 t (ix2 k l) = V m c main_v4 (ix2 k l) := by
  blk_ext [iblk, idx t]

/-- The first half of the keys' and values' columns. -/
theorem block3_at (c : Dev nD) (t : Fin cfg0.N) (k : Fin 2048) (l : Fin 256) (C : Fin 8704) (hC : C.val = 768 + l.val) :
    iblk m c 3 t (ix2 k l) = V m c main_v0 (ix2 k C) := by
  blk_ext [iblk, idx t]

/-- The second half of the keys' and values' columns. -/
theorem block4_at (c : Dev nD) (t : Fin cfg0.N) (k : Fin 2048) (l : Fin 256) (C : Fin 8704) (hC : C.val = 1024 + l.val) :
    iblk m c 4 t (ix2 k l) = V m c main_v0 (ix2 k C) := by
  blk_ext [iblk, idx t]

/-- The first third of the columns of the recurrence's input. -/
theorem block5_at (c : Dev nD) (t : Fin cfg0.N) (k : Fin 2048) (l : Fin 256) (C : Fin 8704) (hC : C.val = 1280 + l.val) :
    iblk m c 5 t (ix2 k l) = V m c main_v0 (ix2 k C) := by
  blk_ext [iblk, idx t]

/-- The second third of the columns of the recurrence's input. -/
theorem block6_at (c : Dev nD) (t : Fin cfg0.N) (k : Fin 2048) (l : Fin 256) (C : Fin 8704) (hC : C.val = 1536 + l.val) :
    iblk m c 6 t (ix2 k l) = V m c main_v0 (ix2 k C) := by
  blk_ext [iblk, idx t]

/-- The last third of the columns of the recurrence's input. -/
theorem block7_at (c : Dev nD) (t : Fin cfg0.N) (k : Fin 2048) (l : Fin 256) (C : Fin 8704) (hC : C.val = 1792 + l.val) :
    iblk m c 7 t (ix2 k l) = V m c main_v0 (ix2 k C) := by
  blk_ext [iblk, idx t]

/-- The columns of the memory queries. -/
theorem block8_at (c : Dev nD) (t : Fin cfg0.N) (k : Fin 2048) (l : Fin 512) (C : Fin 8704) (hC : C.val = 2048 + l.val) :
    iblk m c 8 t (ix2 k l) = V m c main_v0 (ix2 k C) := by
  blk_ext [iblk, idx t]

/-- A row of the token block is a token. -/
theorem row_eq (c : Dev nD) (t : Fin cfg0.N) (r : Fin 512) (R : Fin 1024) (hR : R.val = t.val * 512 + r.val) :
    (fun k => iblk m c 0 t (ix2 r k)) = tok (m (c.tc.loc main_arg0)) R := by
  funext k
  rw [block0_at m c t r k R hR, rows_at]

/-- The gains of the block. -/
theorem gains_eq (c : Dev nD) (t : Fin cfg0.N) :
    (fun k => iblk m c 1 t (ix2 0 k)) = fun k => m (c.tc.loc main_arg1) (ix1 k) := by
  funext k
  rw [block1_at, gain_at]

/-- The query weight's column. -/
theorem qcol_eq (c : Dev nD) (t : Fin cfg0.N) (l : Fin 768) :
    (fun k => iblk m c 2 t (ix2 k l)) = fun k => m (c.tc.loc main_arg2) (ix2 k (qcol l)) := by
  funext k
  rw [block2_at, queries_at]

/-- A column of the keys and values, from whichever block holds it. -/
theorem kvcol_eq (c : Dev nD) (t : Fin cfg0.N) (l : Fin 512) :
    (fun k => two (iblk m c 3 t) (iblk m c 4 t) k l) = fun k => m (c.tc.loc main_arg2) (ix2 k (kvcol l)) := by
  funext k
  unfold two
  split
  · rw [block3_at m c t k _ (kvcol l) rfl, weight_at]
  · rw [block4_at m c t k _ (kvcol l) (by simp only [kvcol]; omega), weight_at]

/-- A column of the recurrence's input, from whichever block holds it. -/
theorem ucol_eq (c : Dev nD) (t : Fin cfg0.N) (l : Fin 768) :
    (fun k => three (iblk m c 5 t) (iblk m c 6 t) (iblk m c 7 t) k l) = fun k => m (c.tc.loc main_arg2) (ix2 k (ucol l)) := by
  funext k
  unfold three
  split
  · rw [block5_at m c t k _ (ucol l) rfl, weight_at]
  · split
    · rw [block6_at m c t k _ (ucol l) (by simp only [ucol]; omega), weight_at]
    · rw [block7_at m c t k _ (ucol l) (by simp only [ucol]; omega), weight_at]

/-- A column of the memory queries. -/
theorem mcol_eq (c : Dev nD) (t : Fin cfg0.N) (l : Fin 512) :
    (fun k => iblk m c 8 t (ix2 k l)) = fun k => m (c.tc.loc main_arg2) (ix2 k (mcol l)) := by
  funext k
  rw [block8_at m c t k l (mcol l) rfl, weight_at]

/-- The queries after the run. -/
theorem final9 (c : Dev nD) : (dats m 0 c).arrAt 9 cfg0.N = fun y : S1024x768.Idx =>
    proj (m (c.tc.loc main_arg0)) (m (c.tc.loc main_arg1)) (m (c.tc.loc main_arg2)) (y 0) (qcol (y 1)) := by
  refine (dats m 0 c).arrAt_eq_of_covers 9 _ (by decide +kernel) fun t hf y => ?_
  blk_simp
  rw [after0_9, out9_eq]
  have h0 : ((((win0_9.blk t).view.emb y) 0 : Fin 1024) : ℕ) = t.val * 512 + (y 0).val := by blk_simp [idx t]
  have h1 : (((win0_9.blk t).view.emb y) 1 : Fin 768) = y 1 := by
    apply Fin.ext
    blk_simp [idx t]
  refine (congr (congr (congrArg normDot (row_eq m c t (y 0) _ h0)) (gains_eq m c t)) (qcol_eq m c t (y 1))).trans ?_
  exact congrArg (fun l => proj (m (c.tc.loc main_arg0)) (m (c.tc.loc main_arg1)) (m (c.tc.loc main_arg2)) _ (qcol l)) h1.symm

/-- The keys and values after the run. -/
theorem final10 (c : Dev nD) : (dats m 0 c).arrAt 10 cfg0.N = fun y : S1024x512.Idx =>
    proj (m (c.tc.loc main_arg0)) (m (c.tc.loc main_arg1)) (m (c.tc.loc main_arg2)) (y 0) (kvcol (y 1)) := by
  refine (dats m 0 c).arrAt_eq_of_covers 10 _ (by decide +kernel) fun t hf y => ?_
  blk_simp
  rw [after0_10, out10_eq]
  have h0 : ((((win0_10.blk t).view.emb y) 0 : Fin 1024) : ℕ) = t.val * 512 + (y 0).val := by blk_simp [idx t]
  have h1 : (((win0_10.blk t).view.emb y) 1 : Fin 512) = y 1 := by
    apply Fin.ext
    blk_simp [idx t]
  refine (congr (congr (congrArg normDot (row_eq m c t (y 0) _ h0)) (gains_eq m c t)) (kvcol_eq m c t (y 1))).trans ?_
  exact congrArg (fun l => proj (m (c.tc.loc main_arg0)) (m (c.tc.loc main_arg1)) (m (c.tc.loc main_arg2)) _ (kvcol l)) h1.symm

/-- The recurrence's input after the run. -/
theorem final11 (c : Dev nD) : (dats m 0 c).arrAt 11 cfg0.N = fun y : S1024x768.Idx =>
    proj (m (c.tc.loc main_arg0)) (m (c.tc.loc main_arg1)) (m (c.tc.loc main_arg2)) (y 0) (ucol (y 1)) := by
  refine (dats m 0 c).arrAt_eq_of_covers 11 _ (by decide +kernel) fun t hf y => ?_
  blk_simp
  rw [after0_11, out11_eq]
  have h0 : ((((win0_11.blk t).view.emb y) 0 : Fin 1024) : ℕ) = t.val * 512 + (y 0).val := by blk_simp [idx t]
  have h1 : (((win0_11.blk t).view.emb y) 1 : Fin 768) = y 1 := by
    apply Fin.ext
    blk_simp [idx t]
  refine (congr (congr (congrArg normDot (row_eq m c t (y 0) _ h0)) (gains_eq m c t)) (ucol_eq m c t (y 1))).trans ?_
  exact congrArg (fun l => proj (m (c.tc.loc main_arg0)) (m (c.tc.loc main_arg1)) (m (c.tc.loc main_arg2)) _ (ucol l)) h1.symm

/-- The memory queries after the run. -/
theorem final12 (c : Dev nD) : (dats m 0 c).arrAt 12 cfg0.N = fun y : S1024x512.Idx =>
    proj (m (c.tc.loc main_arg0)) (m (c.tc.loc main_arg1)) (m (c.tc.loc main_arg2)) (y 0) (mcol (y 1)) := by
  refine (dats m 0 c).arrAt_eq_of_covers 12 _ (by decide +kernel) fun t hf y => ?_
  blk_simp
  rw [after0_12, out12_eq]
  have h0 : ((((win0_12.blk t).view.emb y) 0 : Fin 1024) : ℕ) = t.val * 512 + (y 0).val := by blk_simp [idx t]
  have h1 : (((win0_12.blk t).view.emb y) 1 : Fin 512) = y 1 := by
    apply Fin.ext
    blk_simp [idx t]
  refine (congr (congr (congrArg normDot (row_eq m c t (y 0) _ h0)) (gains_eq m c t)) (mcol_eq m c t (y 1))).trans ?_
  exact congrArg (fun l => proj (m (c.tc.loc main_arg0)) (m (c.tc.loc main_arg1)) (m (c.tc.loc main_arg2)) _ (mcol l)) h1.symm

/-- One element of the normalised block is the normalised token's. -/
theorem normed_block (c : Dev nD) (t : Fin cfg0.N) (r : Fin 512) (k : Fin 2048) (R : Fin 1024) (hR : R.val = t.val * 512 + r.val) :
    nrow (iblk m c 0 t) (iblk m c 1 t) r k
      = normed (m (c.tc.loc main_arg0)) (m (c.tc.loc main_arg1)) R k := by
  have h := row_eq m c t r R hR
  unfold nrow normed
  rw [h, block1_at, gain_at]
  exact congrArg (fun a => a * scale (tok (m (c.tc.loc main_arg0)) R) * m (c.tc.loc main_arg1) (ix1 k)) (congrFun h k)

/-- The normalised tokens after the run. -/
theorem final13 (c : Dev nD) : (dats m 0 c).arrAt 13 cfg0.N = fun y : S1024x2048.Idx =>
    normed (m (c.tc.loc main_arg0)) (m (c.tc.loc main_arg1)) (y 0) (y 1) := by
  refine (dats m 0 c).arrAt_eq_of_covers 13 _ (by decide +kernel) fun t hf y => ?_
  blk_simp
  rw [after0_13, out13_eq]
  have h0 : ((((win0_13.blk t).view.emb y) 0 : Fin 1024) : ℕ) = t.val * 512 + (y 0).val := by blk_simp [idx t]
  have h1 : (((win0_13.blk t).view.emb y) 1 : Fin 2048) = y 1 := by
    apply Fin.ext
    blk_simp [idx t]
  refine (normed_block m c t (y 0) (y 1) _ h0).trans ?_
  exact congrArg (normed (m (c.tc.loc main_arg0)) (m (c.tc.loc main_arg1)) _) h1.symm

/-- The call's keys and values, as the lines after it find them. -/
theorem kv_left (c : Dev nD) : Pipeline.withArrays (cfgs 0).spec c (V0 m c) (fun w => (dats m 0 c).arrAt w (cfgs 0).N) (Proc.devRef .tc main_v7_1)
    = fun y : S1024x512.Idx => proj (m (c.tc.loc main_arg0)) (m (c.tc.loc main_arg1)) (m (c.tc.loc main_arg2)) (y 0) (kvcol (y 1)) :=
  (Pipeline.withArrays_arr_shared (cfgs 0).spec c (V0 m c) (fun w => (dats m 0 c).arrAt w (cfgs 0).N)
    ((dats m 0 c).arrAt_sharedIn sharedIn0 (V0 m c) (A_eq m c) _) 10).trans (final10 m c)

/-- The cached keys, as the lines after the call find them. -/
theorem oldk_left (c : Dev nD) : Pipeline.withArrays (cfgs 0).spec c (V0 m c) (fun w => (dats m 0 c).arrAt w (cfgs 0).N) (Proc.devRef .tc main_arg3)
    = m (c.tc.loc main_arg3) :=
  (Pipeline.withArrays_of_ne _ c (V0 m c) _ main_arg3 (by exact (by decide : ∀ w, Pipeline.arrRef spec0 w ≠ main_arg3))).trans (V_main_arg3 m c)

/-- The cached values. -/
theorem oldv_left (c : Dev nD) : Pipeline.withArrays (cfgs 0).spec c (V0 m c) (fun w => (dats m 0 c).arrAt w (cfgs 0).N) (Proc.devRef .tc main_arg4)
    = m (c.tc.loc main_arg4) :=
  (Pipeline.withArrays_of_ne _ c (V0 m c) _ main_arg4 (by exact (by decide : ∀ w, Pipeline.arrRef spec0 w ≠ main_arg4))).trans (V_main_arg4 m c)

end Cert.ProjsIdeal.Block

end
-- ==== Proof.ProjsTail.lean ====
module

public import proofs.«01_k».proof.Proof.ProjsBlock

/-!
The new caches of keys and values of the sample batch after the run, and the run.
-/

@[expose] public section

set_option maxRecDepth 16384

noncomputable section

namespace Cert.ProjsIdeal.Block

open Cert.ProjsIdeal Cert.ProjsIdeal.Gen Idealize.ShloMosaic Idealize.SL.Sem Idealize.ShloMosaic.TcCoe
open Cert.ProjIdeal.Block (qcol kvcol ucol mcol)

variable (m : (ℓ : Loc nD τ sig) → Buf (Elt Ideal) ℓ) (ρ : Dev nD → PrngReg)

/-- The new key cache after the run. -/
theorem final_k (c : Dev nD) : Pipeline.afterTail₀ cfgs (dats m) 0 (V0 m) [hostOps1] c main_v14
    = fun y : S16x128x4x64.Idx => cache kc (m (c.tc.loc main_arg0)) (m (c.tc.loc main_arg1)) (m (c.tc.loc main_arg2)) (m (c.tc.loc main_arg3)) (y 0) (y 1) (y 2) (y 3) := by
  funext y
  idx_vars y
  unfold Pipeline.afterTail₀
  after_reads_at
  by_cases h : y1.val < 64
  · refine (dif_pos (show 64 + y1.val < 128 by omega)).trans (Eq.trans ?_ (dif_pos h).symm)
    after_reads_at
    rw [oldk_left]
  · refine (dif_neg (show ¬64 + y1.val < 128 by omega)).trans (Eq.trans ?_ (dif_neg h).symm)
    after_reads_at
    refine (congrFun (kv_left m c) _).trans ?_
    refine congrArg₂ (fun R C => proj (m (c.tc.loc main_arg0)) (m (c.tc.loc main_arg1)) (m (c.tc.loc main_arg2)) R (kvcol C)) (Fin.ext ?_) (Fin.ext ?_)
    · show y0.val * 64 + (64 + y1.val - 128) = y0.val * 64 + (y1.val - 64)
      omega
    · show y2.val * 64 + y3.val = y2.val * 64 + y3.val
      rfl

/-- The new value cache after the run. -/
theorem final_v (c : Dev nD) : Pipeline.afterTail₀ cfgs (dats m) 0 (V0 m) [hostOps1] c main_v18
    = fun y : S16x128x4x64.Idx => cache vc (m (c.tc.loc main_arg0)) (m (c.tc.loc main_arg1)) (m (c.tc.loc main_arg2)) (m (c.tc.loc main_arg4)) (y 0) (y 1) (y 2) (y 3) := by
  funext y
  idx_vars y
  unfold Pipeline.afterTail₀
  after_reads_at
  by_cases h : y1.val < 64
  · refine (dif_pos (show 64 + y1.val < 128 by omega)).trans (Eq.trans ?_ (dif_pos h).symm)
    after_reads_at
    rw [oldv_left]
  · refine (dif_neg (show ¬64 + y1.val < 128 by omega)).trans (Eq.trans ?_ (dif_neg h).symm)
    after_reads_at
    refine (congrFun (kv_left m c) _).trans ?_
    refine congrArg₂ (fun R C => proj (m (c.tc.loc main_arg0)) (m (c.tc.loc main_arg1)) (m (c.tc.loc main_arg2)) R (kvcol C)) (Fin.ext ?_) (Fin.ext ?_)
    · show y0.val * 64 + (64 + y1.val - 128) = y0.val * 64 + (y1.val - 64)
      omega
    · show 256 + (y2.val * 64 + y3.val) = 256 + (y2.val * 64 + y3.val)
      rfl

/-- The run: the seven results, and the arguments end unchanged. -/
theorem run : θ_run defs (onTc (τ := τ) (main (F := Ideal))) ⟨m, fun _ => 0, ρ⟩ fun r => ∀ c : Dev nD,
      (r.2.mem ((c : Thread nD τ).loc main_v7_0) = fun y : S1024x768.Idx =>
        proj (m (c.tc.loc main_arg0)) (m (c.tc.loc main_arg1)) (m (c.tc.loc main_arg2)) (y 0) (qcol (y 1)))
      ∧ (r.2.mem ((c : Thread nD τ).loc main_v7_1) = fun y : S1024x512.Idx =>
        proj (m (c.tc.loc main_arg0)) (m (c.tc.loc main_arg1)) (m (c.tc.loc main_arg2)) (y 0) (kvcol (y 1)))
      ∧ (r.2.mem ((c : Thread nD τ).loc main_v7_2) = fun y : S1024x768.Idx =>
        proj (m (c.tc.loc main_arg0)) (m (c.tc.loc main_arg1)) (m (c.tc.loc main_arg2)) (y 0) (ucol (y 1)))
      ∧ (r.2.mem ((c : Thread nD τ).loc main_v7_3) = fun y : S1024x512.Idx =>
        proj (m (c.tc.loc main_arg0)) (m (c.tc.loc main_arg1)) (m (c.tc.loc main_arg2)) (y 0) (mcol (y 1)))
      ∧ (r.2.mem ((c : Thread nD τ).loc main_v7_4) = fun y : S1024x2048.Idx =>
        normed (m (c.tc.loc main_arg0)) (m (c.tc.loc main_arg1)) (y 0) (y 1))
      ∧ (r.2.mem ((c : Thread nD τ).loc main_v14) = fun y : S16x128x4x64.Idx =>
        cache kc (m (c.tc.loc main_arg0)) (m (c.tc.loc main_arg1)) (m (c.tc.loc main_arg2)) (m (c.tc.loc main_arg3)) (y 0) (y 1) (y 2) (y 3))
      ∧ (r.2.mem ((c : Thread nD τ).loc main_v18) = fun y : S16x128x4x64.Idx =>
        cache vc (m (c.tc.loc main_arg0)) (m (c.tc.loc main_arg1)) (m (c.tc.loc main_arg2)) (m (c.tc.loc main_arg4)) (y 0) (y 1) (y 2) (y 3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h.1 c).1 9).trans (final9 m c), ((h.1 c).1 10).trans (final10 m c), ((h.1 c).1 11).trans (final11 m c),
    ((h.1 c).1 12).trans (final12 m c), ((h.1 c).1 13).trans (final13 m c),
    ((h.1 c).2 main_v14 (Pipeline.mem_restRefs_of main_v14 (by decide) (by decide))).trans (final_k m c),
    ((h.1 c).2 main_v18 (Pipeline.mem_restRefs_of main_v18 (by decide) (by decide))).trans (final_v m c), h.2 c⟩)
    (θ_run_and (run_main m ρ) (unchanged m ρ))

end Cert.ProjsIdeal.Block

end
-- ==== Proof.ProjsClaims.lean ====
module

public import proofs.«01_k».proof.Defs
public import proofs.«01_k».proof.Proof.Gen.Projs.Frame
public import proofs.«01_k».proof.Proof.Gen.RefProjsIdeal.Read
public import proofs.«01_k».proof.Proof.ProjsTail

/-!
The claims about the input projections of the sample batch: their frames, and that the seven results are the reference's.
-/

@[expose] public section

set_option maxRecDepth 16384

noncomputable section

namespace Cert.Proof.Projs

open Idealize.ShloMosaic Idealize.SL.Sem Cert.ProjsIdeal.Block Cert.RefProjsIdeal Cert.RefProjsIdeal.Read
open Cert.ProjIdeal.Block (qcol kvcol ucol mcol)

/-- The kernel as printed runs and keeps its arguments. -/
theorem frame_kernel : Cert.quiescent_Projs := fun m ρ _ => Cert.Projs.Gen.frame m ρ

/-- The idealized kernel runs and keeps its arguments. -/
theorem frame_ideal : Cert.quiescent_ProjsIdeal := fun m ρ _ => Cert.ProjsIdeal.Gen.frame m ρ

/-- The reference runs and keeps its arguments; it declares no semaphore. -/
theorem frame_reference : Cert.quiescent_RefProjsIdeal := fun m ρ _ =>
  (θ_run Cert.RefProjsIdeal.defs _ _).mono (fun r h => ⟨fun c => (h c).2.2.2.2.2.2.2, sem_eq_zero_of_no_sems (by decide) r.2⟩)
    (Cert.RefProjsIdeal.Value.run (F := Ideal) m ρ)

variable (x : FVec Ideal S16x64x2048 .f32) (g : FVec Ideal S2048 .f32) (w : FVec Ideal S2048x8704 .f32)

/-- The reference's normalised tokens at an element. -/
theorem normed_at (R : Fin 1024) (k : Fin 2048) : val_main_v13 (F := Ideal) x g (ix2 R k) = normed x g R k := by
  pointwise [val_main_v13, val_main_v12, val_main_v11, val_main_v10, val_main_v9, val_main_v8,
    val_main_v7, val_main_v6, val_main_v5, val_main_v4, val_main_v3, val_main_v2, val_main_v1, val_main_v0, val_main_cst,
    val_main_cst_0, val_main_cst_1, normed, tok, Cert.Rms.scale]

/-- The reference's projection at an element. -/
theorem proj_at (R : Fin 1024) (C : Fin 2560) :
    val_main_v15 (F := Ideal) x g w (ix2 R C) = proj x g w R ⟨C.val, by omega⟩ := by
  pointwise [val_main_v15, val_main_v14, normed_at, normed, proj, Cert.Rms.normDot]

/-- The reference's queries. -/
theorem queries_eq : val_main_v29 (F := Ideal) x g w = fun y : S1024x768.Idx => proj x g w (y 0) (qcol (y 1)) := by
  funext y
  idx_vars y
  pointwise [val_main_v29, val_main_v28, val_main_v27, val_main_v26, val_main_v16, proj_at, qcol]

/-- The reference's keys and values. -/
theorem kv_eq : val_main_v17 (F := Ideal) x g w = fun y : S1024x512.Idx => proj x g w (y 0) (kvcol (y 1)) := by
  funext y
  idx_vars y
  pointwise [val_main_v17, proj_at, kvcol]

/-- The reference's input to the recurrence. -/
theorem u_eq : val_main_v18 (F := Ideal) x g w = fun y : S1024x768.Idx => proj x g w (y 0) (ucol (y 1)) := by
  funext y
  idx_vars y
  pointwise [val_main_v18, proj_at, ucol]

/-- The reference's memory queries. -/
theorem qm_eq : val_main_v30 (F := Ideal) x g w = fun y : S1024x512.Idx => proj x g w (y 0) (mcol (y 1)) := by
  funext y
  idx_vars y
  pointwise [val_main_v30, val_main_v19, proj_at, mcol]

/-- The reference's normalised tokens. -/
theorem normed_eq : val_main_v31 (F := Ideal) x g = fun y : S1024x2048.Idx => normed x g (y 0) (y 1) := by
  funext y
  idx_vars y
  pointwise [val_main_v31, normed_at]

/-- The reference's new key cache. -/
theorem k_eq (old : FVec Ideal S16x128x4x64 .f32) : val_main_v32 (F := Ideal) x g w old
    = fun y : S16x128x4x64.Idx => cache kc x g w old (y 0) (y 1) (y 2) (y 3) := by
  funext y
  idx_vars y
  pointwise [val_main_v32, val_main_v24, val_main_v21, val_main_v20, val_main_v17, proj_at, cache, kc, kvcol]
  by_cases h : y1.val < 64
  · rw [dif_pos (show 64 + y1.val < 128 by omega), dif_pos h]
  · refine (dif_neg (show ¬64 + y1.val < 128 by omega)).trans (Eq.trans ?_ (dif_neg h).symm)
    exact congrArg (fun R => proj x g w R _) (Fin.ext (show y0.val * 64 + (64 + y1.val - 128) = y0.val * 64 + (y1.val - 64) by omega))

/-- The reference's new value cache. -/
theorem v_eq (old : FVec Ideal S16x128x4x64 .f32) : val_main_v33 (F := Ideal) x g w old
    = fun y : S16x128x4x64.Idx => cache vc x g w old (y 0) (y 1) (y 2) (y 3) := by
  funext y
  idx_vars y
  pointwise [val_main_v33, val_main_v25, val_main_v23, val_main_v22, val_main_v17, proj_at, cache, vc, kvcol]
  by_cases h : y1.val < 64
  · rw [dif_pos (show 64 + y1.val < 128 by omega), dif_pos h]
  · refine (dif_neg (show ¬64 + y1.val < 128 by omega)).trans (Eq.trans ?_ (dif_neg h).symm)
    exact congrArg (fun R => proj x g w R _) (Fin.ext (show y0.val * 64 + (64 + y1.val - 128) = y0.val * 64 + (y1.val - 64) by omega))

/-- The kernel's seven results are the reference's, element by element. -/
theorem algebraic : Cert.algebraic_ProjsIdeal_RefProjsIdeal := by
  intro m ρ m' ρ' _ hag
  refine ⟨_, _, _, _, _, _, _, run m ρ, ?_⟩
  refine (θ_run _ _ _).mono (fun r h c => ⟨?_, ?_, ?_, ?_, ?_, ?_, ?_, (h c).2.2.2.2.2.2.2⟩) (Cert.RefProjsIdeal.Value.run (F := Ideal) m' ρ')
  · refine (h c).1.trans ?_
    rw [(hag c).1, (hag c).2.1, (hag c).2.2.1]
    exact (val_main_v29_eq _ _ _).symm.trans (queries_eq _ _ _)
  · refine (h c).2.1.trans ?_
    rw [(hag c).1, (hag c).2.1, (hag c).2.2.1]
    exact (val_main_v17_eq _ _ _).symm.trans (kv_eq _ _ _)
  · refine (h c).2.2.1.trans ?_
    rw [(hag c).1, (hag c).2.1, (hag c).2.2.1]
    exact (val_main_v18_eq _ _ _).symm.trans (u_eq _ _ _)
  · refine (h c).2.2.2.1.trans ?_
    rw [(hag c).1, (hag c).2.1, (hag c).2.2.1]
    exact (val_main_v30_eq _ _ _).symm.trans (qm_eq _ _ _)
  · refine (h c).2.2.2.2.1.trans ?_
    rw [(hag c).1, (hag c).2.1]
    exact (val_main_v31_eq _ _).symm.trans (normed_eq _ _)
  · refine (h c).2.2.2.2.2.1.trans ?_
    rw [(hag c).1, (hag c).2.1, (hag c).2.2.1, (hag c).2.2.2.1]
    exact (val_main_v32_eq _ _ _ _).symm.trans (k_eq _ _ _ _)
  · refine (h c).2.2.2.2.2.2.1.trans ?_
    rw [(hag c).1, (hag c).2.1, (hag c).2.2.1, (hag c).2.2.2.2]
    exact (val_main_v33_eq _ _ _ _).symm.trans (v_eq _ _ _ _)

end Cert.Proof.Projs

end
-- ==== Proof.lean ====
module

public import proofs.«01_k».proof.Defs
public import proofs.«01_k».proof.Proof.Gen.Mem
public import proofs.«01_k».proof.Proof.Gen.Mem.Skeleton
public import proofs.«01_k».proof.Proof.Gen.Mem.Launch
public import proofs.«01_k».proof.Proof.Gen.Mem.Points
public import proofs.«01_k».proof.Proof.Gen.Mem.Frame
public import proofs.«01_k».proof.Proof.Gen.MemIdeal
public import proofs.«01_k».proof.Proof.Gen.MemIdeal.Skeleton
public import proofs.«01_k».proof.Proof.Gen.MemIdeal.Launch
public import proofs.«01_k».proof.Proof.Gen.MemIdeal.Points
public import proofs.«01_k».proof.Proof.Gen.MemIdeal.Frame
public import proofs.«01_k».proof.Proof.Gen.RefMemIdeal
public import proofs.«01_k».proof.Proof.Gen.MemIdeal.Value
public import proofs.«01_k».proof.Proof.Gen.RefMemIdeal.Run
public import proofs.«01_k».proof.Proof.Gen.RefMemIdeal.Read
public import proofs.«01_k».proof.Proof.Gen.Pre_finite_queries_and_keys
public import proofs.«01_k».proof.Proof.Gen.Memkv
public import proofs.«01_k».proof.Proof.Gen.Memkv.Skeleton
public import proofs.«01_k».proof.Proof.Gen.Memkv.Launch
public import proofs.«01_k».proof.Proof.Gen.Memkv.Points
public import proofs.«01_k».proof.Proof.Gen.Memkv.Frame
public import proofs.«01_k».proof.Proof.Gen.MemkvIdeal
public import proofs.«01_k».proof.Proof.Gen.MemkvIdeal.Skeleton
public import proofs.«01_k».proof.Proof.Gen.MemkvIdeal.Launch
public import proofs.«01_k».proof.Proof.Gen.MemkvIdeal.Points
public import proofs.«01_k».proof.Proof.Gen.MemkvIdeal.Frame
public import proofs.«01_k».proof.Proof.Gen.RefMemkvIdeal
public import proofs.«01_k».proof.Proof.Gen.RefMemkvIdeal.Run
public import proofs.«01_k».proof.Proof.Gen.RefMemkvIdeal.Read
public import proofs.«01_k».proof.Proof.Gen.MemkvIdeal.Value
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.RefMixIdeal
public import proofs.«01_k».proof.Proof.Gen.RefMixIdeal.Run
public import proofs.«01_k».proof.Proof.Gen.RefMixIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.RefProjIdeal
public import proofs.«01_k».proof.Proof.Gen.RefProjIdeal.Run
public import proofs.«01_k».proof.Proof.Gen.RefProjIdeal.Read
public import proofs.«01_k».proof.Proof.Gen.ProjIdeal.Value
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.RefFfnIdeal
public import proofs.«01_k».proof.Proof.Gen.RefFfnIdeal.Run
public import proofs.«01_k».proof.Proof.Gen.RefFfnIdeal.Read
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Loops
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Loops
public import proofs.«01_k».proof.Proof.Gen.AttnIdeal.Frame
public import proofs.«01_k».proof.Proof.Gen.RefAttnIdeal
public import proofs.«01_k».proof.Proof.Gen.RefAttnIdeal.Run
public import proofs.«01_k».proof.Proof.Gen.RefAttnIdeal.Read
public import proofs.«01_k».proof.Proof.Gen.Pre_finite_scores
public import proofs.«01_k».proof.Proof.Gen.Projs
public import proofs.«01_k».proof.Proof.Gen.Projs.Skeleton
public import proofs.«01_k».proof.Proof.Gen.Projs.Launch
public import proofs.«01_k».proof.Proof.Gen.Projs.Points
public import proofs.«01_k».proof.Proof.Gen.Projs.Frame
public import proofs.«01_k».proof.Proof.Gen.ProjsIdeal
public import proofs.«01_k».proof.Proof.Gen.ProjsIdeal.Skeleton
public import proofs.«01_k».proof.Proof.Gen.ProjsIdeal.Launch
public import proofs.«01_k».proof.Proof.Gen.ProjsIdeal.Points
public import proofs.«01_k».proof.Proof.Gen.ProjsIdeal.Frame
public import proofs.«01_k».proof.Proof.Gen.RefProjsIdeal
public import proofs.«01_k».proof.Proof.Gen.RefProjsIdeal.Run
public import proofs.«01_k».proof.Proof.Gen.RefProjsIdeal.Read
public import proofs.«01_k».proof.Proof.AttnClaims
public import proofs.«01_k».proof.Proof.MemClaims
public import proofs.«01_k».proof.Proof.KvClaims
public import proofs.«01_k».proof.Proof.MixClaims
public import proofs.«01_k».proof.Proof.ProjClaims
public import proofs.«01_k».proof.Proof.FfnClaims
public import proofs.«01_k».proof.Proof.ProjsClaims
public import Idealize.ShloMosaic.Adequacy
public import Idealize.ShloMosaic.Init

@[expose] public section

noncomputable section

namespace Cert.Proof

open Idealize.ShloMosaic Idealize.SL.Sem Cert.Mem

/-- Every claim of the certificate. -/
theorem claim : Cert.Claim :=
  ⟨Cert.Mem.Gen.facts, Cert.MemIdeal.Gen.facts, Cert.RefMemIdeal.Gen.facts,
  Cert.Memkv.Gen.facts, Cert.MemkvIdeal.Gen.facts, Cert.RefMemkvIdeal.Gen.facts,
  Cert.Mix.Gen.facts, Cert.MixIdeal.Gen.facts, Cert.RefMixIdeal.Gen.facts,
  Cert.Proj.Gen.facts, Cert.ProjIdeal.Gen.facts, Cert.RefProjIdeal.Gen.facts,
  Cert.Ffn.Gen.facts, Cert.FfnIdeal.Gen.facts, Cert.RefFfnIdeal.Gen.facts,
  Cert.Attn.Gen.facts, Cert.AttnIdeal.Gen.facts, Cert.RefAttnIdeal.Gen.facts,
  Cert.Projs.Gen.facts, Cert.ProjsIdeal.Gen.facts, Cert.RefProjsIdeal.Gen.facts, Cert.Pre_finite_queries_and_keys.Gen.facts, Cert.Pre_finite_scores.Gen.facts,
    Mem.frame_kernel, Mem.frame_ideal, Mem.frame_ideal_pre, Mem.frame_reference, Mem.frame_reference_pre,
    Kv.frame_kernel, Kv.frame_ideal, Kv.frame_reference,
    Mix.frame_kernel, Mix.frame_ideal, Mix.frame_reference, Proj.frame_kernel, Proj.frame_ideal, Proj.frame_reference,
    Ffn.frame_kernel, Ffn.frame_ideal, Ffn.frame_reference,
    Attn.frame_kernel, Attn.frame_ideal, Attn.frame_ideal_pre, Attn.frame_reference, Attn.frame_reference_pre,
    Projs.frame_kernel, Projs.frame_ideal, Projs.frame_reference,
    trivial, Mem.algebraic, trivial, Kv.algebraic, trivial, Mix.algebraic, trivial, Proj.algebraic, trivial, Ffn.algebraic,
    trivial, Attn.algebraic, trivial, Projs.algebraic⟩

end Cert.Proof

end
